-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_AttDw (m : (ℓ : Loc Cert.AttDw.nD Cert.AttDw.τ Cert.AttDw.sig) → Buf (Elt Bits) ℓ) : Prop :=
  True

def Pre_AttDwIdeal (m : (ℓ : Loc Cert.AttDwIdeal.nD Cert.AttDwIdeal.τ Cert.AttDwIdeal.sig) → Buf (Elt Ideal) ℓ) : Prop :=
  True

def Pre_AttDwRefIdeal (m : (ℓ : Loc Cert.AttDwRefIdeal.nD Cert.AttDwRefIdeal.τ Cert.AttDwRefIdeal.sig) → Buf (Elt Ideal) ℓ) : Prop :=
  True

def Pre_MemDw (m : (ℓ : Loc Cert.MemDw.nD Cert.MemDw.τ Cert.MemDw.sig) → Buf (Elt Bits) ℓ) : Prop :=
  True

def Pre_MemDwIdeal (m : (ℓ : Loc Cert.MemDwIdeal.nD Cert.MemDwIdeal.τ Cert.MemDwIdeal.sig) → Buf (Elt Ideal) ℓ) : Prop :=
  True

def Pre_MemDwRefIdeal (m : (ℓ : Loc Cert.MemDwRefIdeal.nD Cert.MemDwRefIdeal.τ Cert.MemDwRefIdeal.sig) → Buf (Elt Ideal) ℓ) : Prop :=
  True

def Pre_MixInDw (m : (ℓ : Loc Cert.MixInDw.nD Cert.MixInDw.τ Cert.MixInDw.sig) → Buf (Elt Bits) ℓ) : Prop :=
  True

def Pre_MixInDwIdeal (m : (ℓ : Loc Cert.MixInDwIdeal.nD Cert.MixInDwIdeal.τ Cert.MixInDwIdeal.sig) → Buf (Elt Ideal) ℓ) : Prop :=
  True

def Pre_MixInDwRefIdeal (m : (ℓ : Loc Cert.MixInDwRefIdeal.nD Cert.MixInDwRefIdeal.τ Cert.MixInDwRefIdeal.sig) → Buf (Elt Ideal) ℓ) : Prop :=
  True

def Pre_AttOBwd (m : (ℓ : Loc Cert.AttOBwd.nD Cert.AttOBwd.τ Cert.AttOBwd.sig) → Buf (Elt Bits) ℓ) : Prop :=
  True

def Pre_AttOBwdIdeal (m : (ℓ : Loc Cert.AttOBwdIdeal.nD Cert.AttOBwdIdeal.τ Cert.AttOBwdIdeal.sig) → Buf (Elt Ideal) ℓ) : Prop :=
  True

def Pre_AttOBwdRefIdeal (m : (ℓ : Loc Cert.AttOBwdRefIdeal.nD Cert.AttOBwdRefIdeal.τ Cert.AttOBwdRefIdeal.sig) → Buf (Elt Ideal) ℓ) : Prop :=
  True

def Pre_MixOutBwd (m : (ℓ : Loc Cert.MixOutBwd.nD Cert.MixOutBwd.τ Cert.MixOutBwd.sig) → Buf (Elt Bits) ℓ) : Prop :=
  True

def Pre_MixOutBwdIdeal (m : (ℓ : Loc Cert.MixOutBwdIdeal.nD Cert.MixOutBwdIdeal.τ Cert.MixOutBwdIdeal.sig) → Buf (Elt Ideal) ℓ) : Prop :=
  True

def Pre_MixOutBwdRefIdeal (m : (ℓ : Loc Cert.MixOutBwdRefIdeal.nD Cert.MixOutBwdRefIdeal.τ Cert.MixOutBwdRefIdeal.sig) → Buf (Elt Ideal) ℓ) : Prop :=
  True

def Pre_AttQBwd (m : (ℓ : Loc Cert.AttQBwd.nD Cert.AttQBwd.τ Cert.AttQBwd.sig) → Buf (Elt Bits) ℓ) : Prop :=
  True

def Pre_AttQBwdIdeal (m : (ℓ : Loc Cert.AttQBwdIdeal.nD Cert.AttQBwdIdeal.τ Cert.AttQBwdIdeal.sig) → Buf (Elt Ideal) ℓ) : Prop :=
  True

def Pre_AttQBwdRefIdeal (m : (ℓ : Loc Cert.AttQBwdRefIdeal.nD Cert.AttQBwdRefIdeal.τ Cert.AttQBwdRefIdeal.sig) → Buf (Elt Ideal) ℓ) : Prop :=
  True

def Pre_MixInBwd (m : (ℓ : Loc Cert.MixInBwd.nD Cert.MixInBwd.τ Cert.MixInBwd.sig) → Buf (Elt Bits) ℓ) : Prop :=
  True

def Pre_MixInBwdIdeal (m : (ℓ : Loc Cert.MixInBwdIdeal.nD Cert.MixInBwdIdeal.τ Cert.MixInBwdIdeal.sig) → Buf (Elt Ideal) ℓ) : Prop :=
  True

def Pre_MixInBwdRefIdeal (m : (ℓ : Loc Cert.MixInBwdRefIdeal.nD Cert.MixInBwdRefIdeal.τ Cert.MixInBwdRefIdeal.sig) → Buf (Elt Ideal) ℓ) : Prop :=
  True

def Pre_AttKvBwd (m : (ℓ : Loc Cert.AttKvBwd.nD Cert.AttKvBwd.τ Cert.AttKvBwd.sig) → Buf (Elt Bits) ℓ) : Prop :=
  True

def Pre_AttKvBwdIdeal (m : (ℓ : Loc Cert.AttKvBwdIdeal.nD Cert.AttKvBwdIdeal.τ Cert.AttKvBwdIdeal.sig) → Buf (Elt Ideal) ℓ) : Prop :=
  True

def Pre_AttKvBwdRefIdeal (m : (ℓ : Loc Cert.AttKvBwdRefIdeal.nD Cert.AttKvBwdRefIdeal.τ Cert.AttKvBwdRefIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownBwdRefIdeal (m : (ℓ : Loc Cert.DownBwdRefIdeal.nD Cert.DownBwdRefIdeal.τ Cert.DownBwdRefIdeal.sig) → Buf (Elt Ideal) ℓ) : Prop :=
  True

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdRefIdeal (m : (ℓ : Loc Cert.UpBwdRefIdeal.nD Cert.UpBwdRefIdeal.τ Cert.UpBwdRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_AttQ (m : (ℓ : Loc Cert.AttQ.nD Cert.AttQ.τ Cert.AttQ.sig) → Buf (Elt Bits) ℓ) : Prop :=
  True

def Pre_AttQIdeal (m : (ℓ : Loc Cert.AttQIdeal.nD Cert.AttQIdeal.τ Cert.AttQIdeal.sig) → Buf (Elt Ideal) ℓ) : Prop :=
  True

def Pre_AttQRefIdeal (m : (ℓ : Loc Cert.AttQRefIdeal.nD Cert.AttQRefIdeal.τ Cert.AttQRefIdeal.sig) → Buf (Elt Ideal) ℓ) : Prop :=
  True

def Pre_AttK (m : (ℓ : Loc Cert.AttK.nD Cert.AttK.τ Cert.AttK.sig) → Buf (Elt Bits) ℓ) : Prop :=
  True

def Pre_AttKIdeal (m : (ℓ : Loc Cert.AttKIdeal.nD Cert.AttKIdeal.τ Cert.AttKIdeal.sig) → Buf (Elt Ideal) ℓ) : Prop :=
  True

def Pre_AttKRefIdeal (m : (ℓ : Loc Cert.AttKRefIdeal.nD Cert.AttKRefIdeal.τ Cert.AttKRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_GmlpBwd (m : (ℓ : Loc Cert.GmlpBwd.nD Cert.GmlpBwd.τ Cert.GmlpBwd.sig) → Buf (Elt Bits) ℓ) : Prop :=
  True

def Pre_GmlpBwdIdeal (m : (ℓ : Loc Cert.GmlpBwdIdeal.nD Cert.GmlpBwdIdeal.τ Cert.GmlpBwdIdeal.sig) → Buf (Elt Ideal) ℓ) : Prop :=
  True

def Pre_GmlpBwdRefIdeal (m : (ℓ : Loc Cert.GmlpBwdRefIdeal.nD Cert.GmlpBwdRefIdeal.τ Cert.GmlpBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_AttDw [hAttDw : Cert.AttDw.Facts] : Prop :=
  ∀ (m : (ℓ : Loc Cert.AttDw.nD Cert.AttDw.τ Cert.AttDw.sig) → Buf (Elt Bits) ℓ) (g : Dev Cert.AttDw.nD → PrngReg), Pre_AttDw m →
    θ_run (Cert.AttDw.defs (F := Bits)) (onTc (τ := Cert.AttDw.τ) (Cert.AttDw.main (F := Bits))) ⟨m, fun _ => 0, g⟩ (fun r => (∀ c : Dev Cert.AttDw.nD,
      r.2.mem ((c.tc : Thread Cert.AttDw.nD Cert.AttDw.τ).loc Cert.AttDw.main_arg0) = m ((c.tc : Thread Cert.AttDw.nD Cert.AttDw.τ).loc Cert.AttDw.main_arg0)
      ∧ r.2.mem ((c.tc : Thread Cert.AttDw.nD Cert.AttDw.τ).loc Cert.AttDw.main_arg1) = m ((c.tc : Thread Cert.AttDw.nD Cert.AttDw.τ).loc Cert.AttDw.main_arg1))
      ∧ r.2.sem = fun _ => 0)

def quiescent_AttDwIdeal [hAttDwIdeal : Cert.AttDwIdeal.Facts] : Prop :=
  ∀ (m : (ℓ : Loc Cert.AttDwIdeal.nD Cert.AttDwIdeal.τ Cert.AttDwIdeal.sig) → Buf (Elt Ideal) ℓ) (g : Dev Cert.AttDwIdeal.nD → PrngReg), Pre_AttDwIdeal m →
    θ_run (Cert.AttDwIdeal.defs (F := Ideal)) (onTc (τ := Cert.AttDwIdeal.τ) (Cert.AttDwIdeal.main (F := Ideal))) ⟨m, fun _ => 0, g⟩ (fun r => (∀ c : Dev Cert.AttDwIdeal.nD,
      r.2.mem ((c.tc : Thread Cert.AttDwIdeal.nD Cert.AttDwIdeal.τ).loc Cert.AttDwIdeal.main_arg0) = m ((c.tc : Thread Cert.AttDwIdeal.nD Cert.AttDwIdeal.τ).loc Cert.AttDwIdeal.main_arg0)
      ∧ r.2.mem ((c.tc : Thread Cert.AttDwIdeal.nD Cert.AttDwIdeal.τ).loc Cert.AttDwIdeal.main_arg1) = m ((c.tc : Thread Cert.AttDwIdeal.nD Cert.AttDwIdeal.τ).loc Cert.AttDwIdeal.main_arg1))
      ∧ r.2.sem = fun _ => 0)

def quiescent_AttDwRefIdeal [hAttDwRefIdeal : Cert.AttDwRefIdeal.Facts] : Prop :=
  ∀ (m : (ℓ : Loc Cert.AttDwRefIdeal.nD Cert.AttDwRefIdeal.τ Cert.AttDwRefIdeal.sig) → Buf (Elt Ideal) ℓ) (g : Dev Cert.AttDwRefIdeal.nD → PrngReg), Pre_AttDwRefIdeal m →
    θ_run (Cert.AttDwRefIdeal.defs (F := Ideal)) (onTc (τ := Cert.AttDwRefIdeal.τ) (Cert.AttDwRefIdeal.main (F := Ideal))) ⟨m, fun _ => 0, g⟩ (fun r => (∀ c : Dev Cert.AttDwRefIdeal.nD,
      r.2.mem ((c.tc : Thread Cert.AttDwRefIdeal.nD Cert.AttDwRefIdeal.τ).loc Cert.AttDwRefIdeal.main_arg0) = m ((c.tc : Thread Cert.AttDwRefIdeal.nD Cert.AttDwRefIdeal.τ).loc Cert.AttDwRefIdeal.main_arg0)
      ∧ r.2.mem ((c.tc : Thread Cert.AttDwRefIdeal.nD Cert.AttDwRefIdeal.τ).loc Cert.AttDwRefIdeal.main_arg1) = m ((c.tc : Thread Cert.AttDwRefIdeal.nD Cert.AttDwRefIdeal.τ).loc Cert.AttDwRefIdeal.main_arg1))
      ∧ r.2.sem = fun _ => 0)

def quiescent_MemDw [hMemDw : Cert.MemDw.Facts] : Prop :=
  ∀ (m : (ℓ : Loc Cert.MemDw.nD Cert.MemDw.τ Cert.MemDw.sig) → Buf (Elt Bits) ℓ) (g : Dev Cert.MemDw.nD → PrngReg), Pre_MemDw m →
    θ_run (Cert.MemDw.defs (F := Bits)) (onTc (τ := Cert.MemDw.τ) (Cert.MemDw.main (F := Bits))) ⟨m, fun _ => 0, g⟩ (fun r => (∀ c : Dev Cert.MemDw.nD,
      r.2.mem ((c.tc : Thread Cert.MemDw.nD Cert.MemDw.τ).loc Cert.MemDw.main_arg0) = m ((c.tc : Thread Cert.MemDw.nD Cert.MemDw.τ).loc Cert.MemDw.main_arg0)
      ∧ r.2.mem ((c.tc : Thread Cert.MemDw.nD Cert.MemDw.τ).loc Cert.MemDw.main_arg1) = m ((c.tc : Thread Cert.MemDw.nD Cert.MemDw.τ).loc Cert.MemDw.main_arg1))
      ∧ r.2.sem = fun _ => 0)

def quiescent_MemDwIdeal [hMemDwIdeal : Cert.MemDwIdeal.Facts] : Prop :=
  ∀ (m : (ℓ : Loc Cert.MemDwIdeal.nD Cert.MemDwIdeal.τ Cert.MemDwIdeal.sig) → Buf (Elt Ideal) ℓ) (g : Dev Cert.MemDwIdeal.nD → PrngReg), Pre_MemDwIdeal m →
    θ_run (Cert.MemDwIdeal.defs (F := Ideal)) (onTc (τ := Cert.MemDwIdeal.τ) (Cert.MemDwIdeal.main (F := Ideal))) ⟨m, fun _ => 0, g⟩ (fun r => (∀ c : Dev Cert.MemDwIdeal.nD,
      r.2.mem ((c.tc : Thread Cert.MemDwIdeal.nD Cert.MemDwIdeal.τ).loc Cert.MemDwIdeal.main_arg0) = m ((c.tc : Thread Cert.MemDwIdeal.nD Cert.MemDwIdeal.τ).loc Cert.MemDwIdeal.main_arg0)
      ∧ r.2.mem ((c.tc : Thread Cert.MemDwIdeal.nD Cert.MemDwIdeal.τ).loc Cert.MemDwIdeal.main_arg1) = m ((c.tc : Thread Cert.MemDwIdeal.nD Cert.MemDwIdeal.τ).loc Cert.MemDwIdeal.main_arg1))
      ∧ r.2.sem = fun _ => 0)

def quiescent_MemDwRefIdeal [hMemDwRefIdeal : Cert.MemDwRefIdeal.Facts] : Prop :=
  ∀ (m : (ℓ : Loc Cert.MemDwRefIdeal.nD Cert.MemDwRefIdeal.τ Cert.MemDwRefIdeal.sig) → Buf (Elt Ideal) ℓ) (g : Dev Cert.MemDwRefIdeal.nD → PrngReg), Pre_MemDwRefIdeal m →
    θ_run (Cert.MemDwRefIdeal.defs (F := Ideal)) (onTc (τ := Cert.MemDwRefIdeal.τ) (Cert.MemDwRefIdeal.main (F := Ideal))) ⟨m, fun _ => 0, g⟩ (fun r => (∀ c : Dev Cert.MemDwRefIdeal.nD,
      r.2.mem ((c.tc : Thread Cert.MemDwRefIdeal.nD Cert.MemDwRefIdeal.τ).loc Cert.MemDwRefIdeal.main_arg0) = m ((c.tc : Thread Cert.MemDwRefIdeal.nD Cert.MemDwRefIdeal.τ).loc Cert.MemDwRefIdeal.main_arg0)
      ∧ r.2.mem ((c.tc : Thread Cert.MemDwRefIdeal.nD Cert.MemDwRefIdeal.τ).loc Cert.MemDwRefIdeal.main_arg1) = m ((c.tc : Thread Cert.MemDwRefIdeal.nD Cert.MemDwRefIdeal.τ).loc Cert.MemDwRefIdeal.main_arg1))
      ∧ r.2.sem = fun _ => 0)

def quiescent_MixInDw [hMixInDw : Cert.MixInDw.Facts] : Prop :=
  ∀ (m : (ℓ : Loc Cert.MixInDw.nD Cert.MixInDw.τ Cert.MixInDw.sig) → Buf (Elt Bits) ℓ) (g : Dev Cert.MixInDw.nD → PrngReg), Pre_MixInDw m →
    θ_run (Cert.MixInDw.defs (F := Bits)) (onTc (τ := Cert.MixInDw.τ) (Cert.MixInDw.main (F := Bits))) ⟨m, fun _ => 0, g⟩ (fun r => (∀ c : Dev Cert.MixInDw.nD,
      r.2.mem ((c.tc : Thread Cert.MixInDw.nD Cert.MixInDw.τ).loc Cert.MixInDw.main_arg0) = m ((c.tc : Thread Cert.MixInDw.nD Cert.MixInDw.τ).loc Cert.MixInDw.main_arg0)
      ∧ r.2.mem ((c.tc : Thread Cert.MixInDw.nD Cert.MixInDw.τ).loc Cert.MixInDw.main_arg1) = m ((c.tc : Thread Cert.MixInDw.nD Cert.MixInDw.τ).loc Cert.MixInDw.main_arg1))
      ∧ r.2.sem = fun _ => 0)

def quiescent_MixInDwIdeal [hMixInDwIdeal : Cert.MixInDwIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg), Pre_MixInDwIdeal m →
    θ_run (Cert.MixInDwIdeal.defs (F := Ideal)) (onTc (τ := Cert.MixInDwIdeal.τ) (Cert.MixInDwIdeal.main (F := Ideal))) ⟨m, fun _ => 0, g⟩ (fun r => (∀ c : Dev Cert.MixInDwIdeal.nD,
      r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
      ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1))
      ∧ r.2.sem = fun _ => 0)

def quiescent_MixInDwRefIdeal [hMixInDwRefIdeal : Cert.MixInDwRefIdeal.Facts] : Prop :=
  ∀ (m : (ℓ : Loc Cert.MixInDwRefIdeal.nD Cert.MixInDwRefIdeal.τ Cert.MixInDwRefIdeal.sig) → Buf (Elt Ideal) ℓ) (g : Dev Cert.MixInDwRefIdeal.nD → PrngReg), Pre_MixInDwRefIdeal m →
    θ_run (Cert.MixInDwRefIdeal.defs (F := Ideal)) (onTc (τ := Cert.MixInDwRefIdeal.τ) (Cert.MixInDwRefIdeal.main (F := Ideal))) ⟨m, fun _ => 0, g⟩ (fun r => (∀ c : Dev Cert.MixInDwRefIdeal.nD,
      r.2.mem ((c.tc : Thread Cert.MixInDwRefIdeal.nD Cert.MixInDwRefIdeal.τ).loc Cert.MixInDwRefIdeal.main_arg0) = m ((c.tc : Thread Cert.MixInDwRefIdeal.nD Cert.MixInDwRefIdeal.τ).loc Cert.MixInDwRefIdeal.main_arg0)
      ∧ r.2.mem ((c.tc : Thread Cert.MixInDwRefIdeal.nD Cert.MixInDwRefIdeal.τ).loc Cert.MixInDwRefIdeal.main_arg1) = m ((c.tc : Thread Cert.MixInDwRefIdeal.nD Cert.MixInDwRefIdeal.τ).loc Cert.MixInDwRefIdeal.main_arg1))
      ∧ r.2.sem = fun _ => 0)

def quiescent_AttOBwd [hAttOBwd : Cert.AttOBwd.Facts] : Prop :=
  ∀ (m : (ℓ : Loc Cert.AttOBwd.nD Cert.AttOBwd.τ Cert.AttOBwd.sig) → Buf (Elt Bits) ℓ) (g : Dev Cert.AttOBwd.nD → PrngReg), Pre_AttOBwd m →
    θ_run (Cert.AttOBwd.defs (F := Bits)) (onTc (τ := Cert.AttOBwd.τ) (Cert.AttOBwd.main (F := Bits))) ⟨m, fun _ => 0, g⟩ (fun r => (∀ c : Dev Cert.AttOBwd.nD,
      r.2.mem ((c.tc : Thread Cert.AttOBwd.nD Cert.AttOBwd.τ).loc Cert.AttOBwd.main_arg0) = m ((c.tc : Thread Cert.AttOBwd.nD Cert.AttOBwd.τ).loc Cert.AttOBwd.main_arg0)
      ∧ r.2.mem ((c.tc : Thread Cert.AttOBwd.nD Cert.AttOBwd.τ).loc Cert.AttOBwd.main_arg1) = m ((c.tc : Thread Cert.AttOBwd.nD Cert.AttOBwd.τ).loc Cert.AttOBwd.main_arg1)
      ∧ r.2.mem ((c.tc : Thread Cert.AttOBwd.nD Cert.AttOBwd.τ).loc Cert.AttOBwd.main_arg2) = m ((c.tc : Thread Cert.AttOBwd.nD Cert.AttOBwd.τ).loc Cert.AttOBwd.main_arg2)
      ∧ r.2.mem ((c.tc : Thread Cert.AttOBwd.nD Cert.AttOBwd.τ).loc Cert.AttOBwd.main_arg3) = m ((c.tc : Thread Cert.AttOBwd.nD Cert.AttOBwd.τ).loc Cert.AttOBwd.main_arg3))
      ∧ r.2.sem = fun _ => 0)

def quiescent_AttOBwdIdeal [hAttOBwdIdeal : Cert.AttOBwdIdeal.Facts] : Prop :=
  ∀ (m : (ℓ : Loc Cert.AttOBwdIdeal.nD Cert.AttOBwdIdeal.τ Cert.AttOBwdIdeal.sig) → Buf (Elt Ideal) ℓ) (g : Dev Cert.AttOBwdIdeal.nD → PrngReg), Pre_AttOBwdIdeal m →
    θ_run (Cert.AttOBwdIdeal.defs (F := Ideal)) (onTc (τ := Cert.AttOBwdIdeal.τ) (Cert.AttOBwdIdeal.main (F := Ideal))) ⟨m, fun _ => 0, g⟩ (fun r => (∀ c : Dev Cert.AttOBwdIdeal.nD,
      r.2.mem ((c.tc : Thread Cert.AttOBwdIdeal.nD Cert.AttOBwdIdeal.τ).loc Cert.AttOBwdIdeal.main_arg0) = m ((c.tc : Thread Cert.AttOBwdIdeal.nD Cert.AttOBwdIdeal.τ).loc Cert.AttOBwdIdeal.main_arg0)
      ∧ r.2.mem ((c.tc : Thread Cert.AttOBwdIdeal.nD Cert.AttOBwdIdeal.τ).loc Cert.AttOBwdIdeal.main_arg1) = m ((c.tc : Thread Cert.AttOBwdIdeal.nD Cert.AttOBwdIdeal.τ).loc Cert.AttOBwdIdeal.main_arg1)
      ∧ r.2.mem ((c.tc : Thread Cert.AttOBwdIdeal.nD Cert.AttOBwdIdeal.τ).loc Cert.AttOBwdIdeal.main_arg2) = m ((c.tc : Thread Cert.AttOBwdIdeal.nD Cert.AttOBwdIdeal.τ).loc Cert.AttOBwdIdeal.main_arg2)
      ∧ r.2.mem ((c.tc : Thread Cert.AttOBwdIdeal.nD Cert.AttOBwdIdeal.τ).loc Cert.AttOBwdIdeal.main_arg3) = m ((c.tc : Thread Cert.AttOBwdIdeal.nD Cert.AttOBwdIdeal.τ).loc Cert.AttOBwdIdeal.main_arg3))
      ∧ r.2.sem = fun _ => 0)

def quiescent_AttOBwdRefIdeal [hAttOBwdRefIdeal : Cert.AttOBwdRefIdeal.Facts] : Prop :=
  ∀ (m : (ℓ : Loc Cert.AttOBwdRefIdeal.nD Cert.AttOBwdRefIdeal.τ Cert.AttOBwdRefIdeal.sig) → Buf (Elt Ideal) ℓ) (g : Dev Cert.AttOBwdRefIdeal.nD → PrngReg), Pre_AttOBwdRefIdeal m →
    θ_run (Cert.AttOBwdRefIdeal.defs (F := Ideal)) (onTc (τ := Cert.AttOBwdRefIdeal.τ) (Cert.AttOBwdRefIdeal.main (F := Ideal))) ⟨m, fun _ => 0, g⟩ (fun r => (∀ c : Dev Cert.AttOBwdRefIdeal.nD,
      r.2.mem ((c.tc : Thread Cert.AttOBwdRefIdeal.nD Cert.AttOBwdRefIdeal.τ).loc Cert.AttOBwdRefIdeal.main_arg0) = m ((c.tc : Thread Cert.AttOBwdRefIdeal.nD Cert.AttOBwdRefIdeal.τ).loc Cert.AttOBwdRefIdeal.main_arg0)
      ∧ r.2.mem ((c.tc : Thread Cert.AttOBwdRefIdeal.nD Cert.AttOBwdRefIdeal.τ).loc Cert.AttOBwdRefIdeal.main_arg1) = m ((c.tc : Thread Cert.AttOBwdRefIdeal.nD Cert.AttOBwdRefIdeal.τ).loc Cert.AttOBwdRefIdeal.main_arg1)
      ∧ r.2.mem ((c.tc : Thread Cert.AttOBwdRefIdeal.nD Cert.AttOBwdRefIdeal.τ).loc Cert.AttOBwdRefIdeal.main_arg2) = m ((c.tc : Thread Cert.AttOBwdRefIdeal.nD Cert.AttOBwdRefIdeal.τ).loc Cert.AttOBwdRefIdeal.main_arg2)
      ∧ r.2.mem ((c.tc : Thread Cert.AttOBwdRefIdeal.nD Cert.AttOBwdRefIdeal.τ).loc Cert.AttOBwdRefIdeal.main_arg3) = m ((c.tc : Thread Cert.AttOBwdRefIdeal.nD Cert.AttOBwdRefIdeal.τ).loc Cert.AttOBwdRefIdeal.main_arg3))
      ∧ r.2.sem = fun _ => 0)

def quiescent_MixOutBwd [hMixOutBwd : Cert.MixOutBwd.Facts] : Prop :=
  ∀ (m : (ℓ : Loc Cert.MixOutBwd.nD Cert.MixOutBwd.τ Cert.MixOutBwd.sig) → Buf (Elt Bits) ℓ) (g : Dev Cert.MixOutBwd.nD → PrngReg), Pre_MixOutBwd m →
    θ_run (Cert.MixOutBwd.defs (F := Bits)) (onTc (τ := Cert.MixOutBwd.τ) (Cert.MixOutBwd.main (F := Bits))) ⟨m, fun _ => 0, g⟩ (fun r => (∀ c : Dev Cert.MixOutBwd.nD,
      r.2.mem ((c.tc : Thread Cert.MixOutBwd.nD Cert.MixOutBwd.τ).loc Cert.MixOutBwd.main_arg0) = m ((c.tc : Thread Cert.MixOutBwd.nD Cert.MixOutBwd.τ).loc Cert.MixOutBwd.main_arg0)
      ∧ r.2.mem ((c.tc : Thread Cert.MixOutBwd.nD Cert.MixOutBwd.τ).loc Cert.MixOutBwd.main_arg1) = m ((c.tc : Thread Cert.MixOutBwd.nD Cert.MixOutBwd.τ).loc Cert.MixOutBwd.main_arg1)
      ∧ r.2.mem ((c.tc : Thread Cert.MixOutBwd.nD Cert.MixOutBwd.τ).loc Cert.MixOutBwd.main_arg2) = m ((c.tc : Thread Cert.MixOutBwd.nD Cert.MixOutBwd.τ).loc Cert.MixOutBwd.main_arg2)
      ∧ r.2.mem ((c.tc : Thread Cert.MixOutBwd.nD Cert.MixOutBwd.τ).loc Cert.MixOutBwd.main_arg3) = m ((c.tc : Thread Cert.MixOutBwd.nD Cert.MixOutBwd.τ).loc Cert.MixOutBwd.main_arg3))
      ∧ r.2.sem = fun _ => 0)

def quiescent_MixOutBwdIdeal [hMixOutBwdIdeal : Cert.MixOutBwdIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg), Pre_MixOutBwdIdeal m →
    θ_run (Cert.MixOutBwdIdeal.defs (F := Ideal)) (onTc (τ := Cert.MixOutBwdIdeal.τ) (Cert.MixOutBwdIdeal.main (F := Ideal))) ⟨m, fun _ => 0, g⟩ (fun r => (∀ c : Dev Cert.MixOutBwdIdeal.nD,
      r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
      ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
      ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
      ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3))
      ∧ r.2.sem = fun _ => 0)

def quiescent_MixOutBwdRefIdeal [hMixOutBwdRefIdeal : Cert.MixOutBwdRefIdeal.Facts] : Prop :=
  ∀ (m : (ℓ : Loc Cert.MixOutBwdRefIdeal.nD Cert.MixOutBwdRefIdeal.τ Cert.MixOutBwdRefIdeal.sig) → Buf (Elt Ideal) ℓ) (g : Dev Cert.MixOutBwdRefIdeal.nD → PrngReg), Pre_MixOutBwdRefIdeal m →
    θ_run (Cert.MixOutBwdRefIdeal.defs (F := Ideal)) (onTc (τ := Cert.MixOutBwdRefIdeal.τ) (Cert.MixOutBwdRefIdeal.main (F := Ideal))) ⟨m, fun _ => 0, g⟩ (fun r => (∀ c : Dev Cert.MixOutBwdRefIdeal.nD,
      r.2.mem ((c.tc : Thread Cert.MixOutBwdRefIdeal.nD Cert.MixOutBwdRefIdeal.τ).loc Cert.MixOutBwdRefIdeal.main_arg0) = m ((c.tc : Thread Cert.MixOutBwdRefIdeal.nD Cert.MixOutBwdRefIdeal.τ).loc Cert.MixOutBwdRefIdeal.main_arg0)
      ∧ r.2.mem ((c.tc : Thread Cert.MixOutBwdRefIdeal.nD Cert.MixOutBwdRefIdeal.τ).loc Cert.MixOutBwdRefIdeal.main_arg1) = m ((c.tc : Thread Cert.MixOutBwdRefIdeal.nD Cert.MixOutBwdRefIdeal.τ).loc Cert.MixOutBwdRefIdeal.main_arg1)
      ∧ r.2.mem ((c.tc : Thread Cert.MixOutBwdRefIdeal.nD Cert.MixOutBwdRefIdeal.τ).loc Cert.MixOutBwdRefIdeal.main_arg2) = m ((c.tc : Thread Cert.MixOutBwdRefIdeal.nD Cert.MixOutBwdRefIdeal.τ).loc Cert.MixOutBwdRefIdeal.main_arg2)
      ∧ r.2.mem ((c.tc : Thread Cert.MixOutBwdRefIdeal.nD Cert.MixOutBwdRefIdeal.τ).loc Cert.MixOutBwdRefIdeal.main_arg3) = m ((c.tc : Thread Cert.MixOutBwdRefIdeal.nD Cert.MixOutBwdRefIdeal.τ).loc Cert.MixOutBwdRefIdeal.main_arg3))
      ∧ r.2.sem = fun _ => 0)

def quiescent_AttQBwd [hAttQBwd : Cert.AttQBwd.Facts] : Prop :=
  ∀ (m : (ℓ : Loc Cert.AttQBwd.nD Cert.AttQBwd.τ Cert.AttQBwd.sig) → Buf (Elt Bits) ℓ) (g : Dev Cert.AttQBwd.nD → PrngReg), Pre_AttQBwd m →
    θ_run (Cert.AttQBwd.defs (F := Bits)) (onTc (τ := Cert.AttQBwd.τ) (Cert.AttQBwd.main (F := Bits))) ⟨m, fun _ => 0, g⟩ (fun r => (∀ c : Dev Cert.AttQBwd.nD,
      r.2.mem ((c.tc : Thread Cert.AttQBwd.nD Cert.AttQBwd.τ).loc Cert.AttQBwd.main_arg0) = m ((c.tc : Thread Cert.AttQBwd.nD Cert.AttQBwd.τ).loc Cert.AttQBwd.main_arg0)
      ∧ r.2.mem ((c.tc : Thread Cert.AttQBwd.nD Cert.AttQBwd.τ).loc Cert.AttQBwd.main_arg1) = m ((c.tc : Thread Cert.AttQBwd.nD Cert.AttQBwd.τ).loc Cert.AttQBwd.main_arg1)
      ∧ r.2.mem ((c.tc : Thread Cert.AttQBwd.nD Cert.AttQBwd.τ).loc Cert.AttQBwd.main_arg2) = m ((c.tc : Thread Cert.AttQBwd.nD Cert.AttQBwd.τ).loc Cert.AttQBwd.main_arg2)
      ∧ r.2.mem ((c.tc : Thread Cert.AttQBwd.nD Cert.AttQBwd.τ).loc Cert.AttQBwd.main_arg3) = m ((c.tc : Thread Cert.AttQBwd.nD Cert.AttQBwd.τ).loc Cert.AttQBwd.main_arg3)
      ∧ r.2.mem ((c.tc : Thread Cert.AttQBwd.nD Cert.AttQBwd.τ).loc Cert.AttQBwd.main_arg4) = m ((c.tc : Thread Cert.AttQBwd.nD Cert.AttQBwd.τ).loc Cert.AttQBwd.main_arg4))
      ∧ r.2.sem = fun _ => 0)

def quiescent_AttQBwdIdeal [hAttQBwdIdeal : Cert.AttQBwdIdeal.Facts] : Prop :=
  ∀ (m : (ℓ : Loc Cert.AttQBwdIdeal.nD Cert.AttQBwdIdeal.τ Cert.AttQBwdIdeal.sig) → Buf (Elt Ideal) ℓ) (g : Dev Cert.AttQBwdIdeal.nD → PrngReg), Pre_AttQBwdIdeal m →
    θ_run (Cert.AttQBwdIdeal.defs (F := Ideal)) (onTc (τ := Cert.AttQBwdIdeal.τ) (Cert.AttQBwdIdeal.main (F := Ideal))) ⟨m, fun _ => 0, g⟩ (fun r => (∀ c : Dev Cert.AttQBwdIdeal.nD,
      r.2.mem ((c.tc : Thread Cert.AttQBwdIdeal.nD Cert.AttQBwdIdeal.τ).loc Cert.AttQBwdIdeal.main_arg0) = m ((c.tc : Thread Cert.AttQBwdIdeal.nD Cert.AttQBwdIdeal.τ).loc Cert.AttQBwdIdeal.main_arg0)
      ∧ r.2.mem ((c.tc : Thread Cert.AttQBwdIdeal.nD Cert.AttQBwdIdeal.τ).loc Cert.AttQBwdIdeal.main_arg1) = m ((c.tc : Thread Cert.AttQBwdIdeal.nD Cert.AttQBwdIdeal.τ).loc Cert.AttQBwdIdeal.main_arg1)
      ∧ r.2.mem ((c.tc : Thread Cert.AttQBwdIdeal.nD Cert.AttQBwdIdeal.τ).loc Cert.AttQBwdIdeal.main_arg2) = m ((c.tc : Thread Cert.AttQBwdIdeal.nD Cert.AttQBwdIdeal.τ).loc Cert.AttQBwdIdeal.main_arg2)
      ∧ r.2.mem ((c.tc : Thread Cert.AttQBwdIdeal.nD Cert.AttQBwdIdeal.τ).loc Cert.AttQBwdIdeal.main_arg3) = m ((c.tc : Thread Cert.AttQBwdIdeal.nD Cert.AttQBwdIdeal.τ).loc Cert.AttQBwdIdeal.main_arg3)
      ∧ r.2.mem ((c.tc : Thread Cert.AttQBwdIdeal.nD Cert.AttQBwdIdeal.τ).loc Cert.AttQBwdIdeal.main_arg4) = m ((c.tc : Thread Cert.AttQBwdIdeal.nD Cert.AttQBwdIdeal.τ).loc Cert.AttQBwdIdeal.main_arg4))
      ∧ r.2.sem = fun _ => 0)

def quiescent_AttQBwdRefIdeal [hAttQBwdRefIdeal : Cert.AttQBwdRefIdeal.Facts] : Prop :=
  ∀ (m : (ℓ : Loc Cert.AttQBwdRefIdeal.nD Cert.AttQBwdRefIdeal.τ Cert.AttQBwdRefIdeal.sig) → Buf (Elt Ideal) ℓ) (g : Dev Cert.AttQBwdRefIdeal.nD → PrngReg), Pre_AttQBwdRefIdeal m →
    θ_run (Cert.AttQBwdRefIdeal.defs (F := Ideal)) (onTc (τ := Cert.AttQBwdRefIdeal.τ) (Cert.AttQBwdRefIdeal.main (F := Ideal))) ⟨m, fun _ => 0, g⟩ (fun r => (∀ c : Dev Cert.AttQBwdRefIdeal.nD,
      r.2.mem ((c.tc : Thread Cert.AttQBwdRefIdeal.nD Cert.AttQBwdRefIdeal.τ).loc Cert.AttQBwdRefIdeal.main_arg0) = m ((c.tc : Thread Cert.AttQBwdRefIdeal.nD Cert.AttQBwdRefIdeal.τ).loc Cert.AttQBwdRefIdeal.main_arg0)
      ∧ r.2.mem ((c.tc : Thread Cert.AttQBwdRefIdeal.nD Cert.AttQBwdRefIdeal.τ).loc Cert.AttQBwdRefIdeal.main_arg1) = m ((c.tc : Thread Cert.AttQBwdRefIdeal.nD Cert.AttQBwdRefIdeal.τ).loc Cert.AttQBwdRefIdeal.main_arg1)
      ∧ r.2.mem ((c.tc : Thread Cert.AttQBwdRefIdeal.nD Cert.AttQBwdRefIdeal.τ).loc Cert.AttQBwdRefIdeal.main_arg2) = m ((c.tc : Thread Cert.AttQBwdRefIdeal.nD Cert.AttQBwdRefIdeal.τ).loc Cert.AttQBwdRefIdeal.main_arg2)
      ∧ r.2.mem ((c.tc : Thread Cert.AttQBwdRefIdeal.nD Cert.AttQBwdRefIdeal.τ).loc Cert.AttQBwdRefIdeal.main_arg3) = m ((c.tc : Thread Cert.AttQBwdRefIdeal.nD Cert.AttQBwdRefIdeal.τ).loc Cert.AttQBwdRefIdeal.main_arg3)
      ∧ r.2.mem ((c.tc : Thread Cert.AttQBwdRefIdeal.nD Cert.AttQBwdRefIdeal.τ).loc Cert.AttQBwdRefIdeal.main_arg4) = m ((c.tc : Thread Cert.AttQBwdRefIdeal.nD Cert.AttQBwdRefIdeal.τ).loc Cert.AttQBwdRefIdeal.main_arg4))
      ∧ r.2.sem = fun _ => 0)

def quiescent_MixInBwd [hMixInBwd : Cert.MixInBwd.Facts] : Prop :=
  ∀ (m : (ℓ : Loc Cert.MixInBwd.nD Cert.MixInBwd.τ Cert.MixInBwd.sig) → Buf (Elt Bits) ℓ) (g : Dev Cert.MixInBwd.nD → PrngReg), Pre_MixInBwd m →
    θ_run (Cert.MixInBwd.defs (F := Bits)) (onTc (τ := Cert.MixInBwd.τ) (Cert.MixInBwd.main (F := Bits))) ⟨m, fun _ => 0, g⟩ (fun r => (∀ c : Dev Cert.MixInBwd.nD,
      r.2.mem ((c.tc : Thread Cert.MixInBwd.nD Cert.MixInBwd.τ).loc Cert.MixInBwd.main_arg0) = m ((c.tc : Thread Cert.MixInBwd.nD Cert.MixInBwd.τ).loc Cert.MixInBwd.main_arg0)
      ∧ r.2.mem ((c.tc : Thread Cert.MixInBwd.nD Cert.MixInBwd.τ).loc Cert.MixInBwd.main_arg1) = m ((c.tc : Thread Cert.MixInBwd.nD Cert.MixInBwd.τ).loc Cert.MixInBwd.main_arg1)
      ∧ r.2.mem ((c.tc : Thread Cert.MixInBwd.nD Cert.MixInBwd.τ).loc Cert.MixInBwd.main_arg2) = m ((c.tc : Thread Cert.MixInBwd.nD Cert.MixInBwd.τ).loc Cert.MixInBwd.main_arg2)
      ∧ r.2.mem ((c.tc : Thread Cert.MixInBwd.nD Cert.MixInBwd.τ).loc Cert.MixInBwd.main_arg3) = m ((c.tc : Thread Cert.MixInBwd.nD Cert.MixInBwd.τ).loc Cert.MixInBwd.main_arg3)
      ∧ r.2.mem ((c.tc : Thread Cert.MixInBwd.nD Cert.MixInBwd.τ).loc Cert.MixInBwd.main_arg4) = m ((c.tc : Thread Cert.MixInBwd.nD Cert.MixInBwd.τ).loc Cert.MixInBwd.main_arg4))
      ∧ r.2.sem = fun _ => 0)

def quiescent_MixInBwdIdeal [hMixInBwdIdeal : Cert.MixInBwdIdeal.Facts] : Prop :=
  ∀ (m : (ℓ : Loc Cert.MixInBwdIdeal.nD Cert.MixInBwdIdeal.τ Cert.MixInBwdIdeal.sig) → Buf (Elt Ideal) ℓ) (g : Dev Cert.MixInBwdIdeal.nD → PrngReg), Pre_MixInBwdIdeal m →
    θ_run (Cert.MixInBwdIdeal.defs (F := Ideal)) (onTc (τ := Cert.MixInBwdIdeal.τ) (Cert.MixInBwdIdeal.main (F := Ideal))) ⟨m, fun _ => 0, g⟩ (fun r => (∀ c : Dev Cert.MixInBwdIdeal.nD,
      r.2.mem ((c.tc : Thread Cert.MixInBwdIdeal.nD Cert.MixInBwdIdeal.τ).loc Cert.MixInBwdIdeal.main_arg0) = m ((c.tc : Thread Cert.MixInBwdIdeal.nD Cert.MixInBwdIdeal.τ).loc Cert.MixInBwdIdeal.main_arg0)
      ∧ r.2.mem ((c.tc : Thread Cert.MixInBwdIdeal.nD Cert.MixInBwdIdeal.τ).loc Cert.MixInBwdIdeal.main_arg1) = m ((c.tc : Thread Cert.MixInBwdIdeal.nD Cert.MixInBwdIdeal.τ).loc Cert.MixInBwdIdeal.main_arg1)
      ∧ r.2.mem ((c.tc : Thread Cert.MixInBwdIdeal.nD Cert.MixInBwdIdeal.τ).loc Cert.MixInBwdIdeal.main_arg2) = m ((c.tc : Thread Cert.MixInBwdIdeal.nD Cert.MixInBwdIdeal.τ).loc Cert.MixInBwdIdeal.main_arg2)
      ∧ r.2.mem ((c.tc : Thread Cert.MixInBwdIdeal.nD Cert.MixInBwdIdeal.τ).loc Cert.MixInBwdIdeal.main_arg3) = m ((c.tc : Thread Cert.MixInBwdIdeal.nD Cert.MixInBwdIdeal.τ).loc Cert.MixInBwdIdeal.main_arg3)
      ∧ r.2.mem ((c.tc : Thread Cert.MixInBwdIdeal.nD Cert.MixInBwdIdeal.τ).loc Cert.MixInBwdIdeal.main_arg4) = m ((c.tc : Thread Cert.MixInBwdIdeal.nD Cert.MixInBwdIdeal.τ).loc Cert.MixInBwdIdeal.main_arg4))
      ∧ r.2.sem = fun _ => 0)

def quiescent_MixInBwdRefIdeal [hMixInBwdRefIdeal : Cert.MixInBwdRefIdeal.Facts] : Prop :=
  ∀ (m : (ℓ : Loc Cert.MixInBwdRefIdeal.nD Cert.MixInBwdRefIdeal.τ Cert.MixInBwdRefIdeal.sig) → Buf (Elt Ideal) ℓ) (g : Dev Cert.MixInBwdRefIdeal.nD → PrngReg), Pre_MixInBwdRefIdeal m →
    θ_run (Cert.MixInBwdRefIdeal.defs (F := Ideal)) (onTc (τ := Cert.MixInBwdRefIdeal.τ) (Cert.MixInBwdRefIdeal.main (F := Ideal))) ⟨m, fun _ => 0, g⟩ (fun r => (∀ c : Dev Cert.MixInBwdRefIdeal.nD,
      r.2.mem ((c.tc : Thread Cert.MixInBwdRefIdeal.nD Cert.MixInBwdRefIdeal.τ).loc Cert.MixInBwdRefIdeal.main_arg0) = m ((c.tc : Thread Cert.MixInBwdRefIdeal.nD Cert.MixInBwdRefIdeal.τ).loc Cert.MixInBwdRefIdeal.main_arg0)
      ∧ r.2.mem ((c.tc : Thread Cert.MixInBwdRefIdeal.nD Cert.MixInBwdRefIdeal.τ).loc Cert.MixInBwdRefIdeal.main_arg1) = m ((c.tc : Thread Cert.MixInBwdRefIdeal.nD Cert.MixInBwdRefIdeal.τ).loc Cert.MixInBwdRefIdeal.main_arg1)
      ∧ r.2.mem ((c.tc : Thread Cert.MixInBwdRefIdeal.nD Cert.MixInBwdRefIdeal.τ).loc Cert.MixInBwdRefIdeal.main_arg2) = m ((c.tc : Thread Cert.MixInBwdRefIdeal.nD Cert.MixInBwdRefIdeal.τ).loc Cert.MixInBwdRefIdeal.main_arg2)
      ∧ r.2.mem ((c.tc : Thread Cert.MixInBwdRefIdeal.nD Cert.MixInBwdRefIdeal.τ).loc Cert.MixInBwdRefIdeal.main_arg3) = m ((c.tc : Thread Cert.MixInBwdRefIdeal.nD Cert.MixInBwdRefIdeal.τ).loc Cert.MixInBwdRefIdeal.main_arg3)
      ∧ r.2.mem ((c.tc : Thread Cert.MixInBwdRefIdeal.nD Cert.MixInBwdRefIdeal.τ).loc Cert.MixInBwdRefIdeal.main_arg4) = m ((c.tc : Thread Cert.MixInBwdRefIdeal.nD Cert.MixInBwdRefIdeal.τ).loc Cert.MixInBwdRefIdeal.main_arg4))
      ∧ r.2.sem = fun _ => 0)

def quiescent_AttKvBwd [hAttKvBwd : Cert.AttKvBwd.Facts] : Prop :=
  ∀ (m : (ℓ : Loc Cert.AttKvBwd.nD Cert.AttKvBwd.τ Cert.AttKvBwd.sig) → Buf (Elt Bits) ℓ) (g : Dev Cert.AttKvBwd.nD → PrngReg), Pre_AttKvBwd m →
    θ_run (Cert.AttKvBwd.defs (F := Bits)) (onTc (τ := Cert.AttKvBwd.τ) (Cert.AttKvBwd.main (F := Bits))) ⟨m, fun _ => 0, g⟩ (fun r => (∀ c : Dev Cert.AttKvBwd.nD,
      r.2.mem ((c.tc : Thread Cert.AttKvBwd.nD Cert.AttKvBwd.τ).loc Cert.AttKvBwd.main_arg0) = m ((c.tc : Thread Cert.AttKvBwd.nD Cert.AttKvBwd.τ).loc Cert.AttKvBwd.main_arg0)
      ∧ r.2.mem ((c.tc : Thread Cert.AttKvBwd.nD Cert.AttKvBwd.τ).loc Cert.AttKvBwd.main_arg1) = m ((c.tc : Thread Cert.AttKvBwd.nD Cert.AttKvBwd.τ).loc Cert.AttKvBwd.main_arg1)
      ∧ r.2.mem ((c.tc : Thread Cert.AttKvBwd.nD Cert.AttKvBwd.τ).loc Cert.AttKvBwd.main_arg2) = m ((c.tc : Thread Cert.AttKvBwd.nD Cert.AttKvBwd.τ).loc Cert.AttKvBwd.main_arg2)
      ∧ r.2.mem ((c.tc : Thread Cert.AttKvBwd.nD Cert.AttKvBwd.τ).loc Cert.AttKvBwd.main_arg3) = m ((c.tc : Thread Cert.AttKvBwd.nD Cert.AttKvBwd.τ).loc Cert.AttKvBwd.main_arg3)
      ∧ r.2.mem ((c.tc : Thread Cert.AttKvBwd.nD Cert.AttKvBwd.τ).loc Cert.AttKvBwd.main_arg4) = m ((c.tc : Thread Cert.AttKvBwd.nD Cert.AttKvBwd.τ).loc Cert.AttKvBwd.main_arg4)
      ∧ r.2.mem ((c.tc : Thread Cert.AttKvBwd.nD Cert.AttKvBwd.τ).loc Cert.AttKvBwd.main_arg5) = m ((c.tc : Thread Cert.AttKvBwd.nD Cert.AttKvBwd.τ).loc Cert.AttKvBwd.main_arg5))
      ∧ r.2.sem = fun _ => 0)

def quiescent_AttKvBwdIdeal [hAttKvBwdIdeal : Cert.AttKvBwdIdeal.Facts] : Prop :=
  ∀ (m : (ℓ : Loc Cert.AttKvBwdIdeal.nD Cert.AttKvBwdIdeal.τ Cert.AttKvBwdIdeal.sig) → Buf (Elt Ideal) ℓ) (g : Dev Cert.AttKvBwdIdeal.nD → PrngReg), Pre_AttKvBwdIdeal m →
    θ_run (Cert.AttKvBwdIdeal.defs (F := Ideal)) (onTc (τ := Cert.AttKvBwdIdeal.τ) (Cert.AttKvBwdIdeal.main (F := Ideal))) ⟨m, fun _ => 0, g⟩ (fun r => (∀ c : Dev Cert.AttKvBwdIdeal.nD,
      r.2.mem ((c.tc : Thread Cert.AttKvBwdIdeal.nD Cert.AttKvBwdIdeal.τ).loc Cert.AttKvBwdIdeal.main_arg0) = m ((c.tc : Thread Cert.AttKvBwdIdeal.nD Cert.AttKvBwdIdeal.τ).loc Cert.AttKvBwdIdeal.main_arg0)
      ∧ r.2.mem ((c.tc : Thread Cert.AttKvBwdIdeal.nD Cert.AttKvBwdIdeal.τ).loc Cert.AttKvBwdIdeal.main_arg1) = m ((c.tc : Thread Cert.AttKvBwdIdeal.nD Cert.AttKvBwdIdeal.τ).loc Cert.AttKvBwdIdeal.main_arg1)
      ∧ r.2.mem ((c.tc : Thread Cert.AttKvBwdIdeal.nD Cert.AttKvBwdIdeal.τ).loc Cert.AttKvBwdIdeal.main_arg2) = m ((c.tc : Thread Cert.AttKvBwdIdeal.nD Cert.AttKvBwdIdeal.τ).loc Cert.AttKvBwdIdeal.main_arg2)
      ∧ r.2.mem ((c.tc : Thread Cert.AttKvBwdIdeal.nD Cert.AttKvBwdIdeal.τ).loc Cert.AttKvBwdIdeal.main_arg3) = m ((c.tc : Thread Cert.AttKvBwdIdeal.nD Cert.AttKvBwdIdeal.τ).loc Cert.AttKvBwdIdeal.main_arg3)
      ∧ r.2.mem ((c.tc : Thread Cert.AttKvBwdIdeal.nD Cert.AttKvBwdIdeal.τ).loc Cert.AttKvBwdIdeal.main_arg4) = m ((c.tc : Thread Cert.AttKvBwdIdeal.nD Cert.AttKvBwdIdeal.τ).loc Cert.AttKvBwdIdeal.main_arg4)
      ∧ r.2.mem ((c.tc : Thread Cert.AttKvBwdIdeal.nD Cert.AttKvBwdIdeal.τ).loc Cert.AttKvBwdIdeal.main_arg5) = m ((c.tc : Thread Cert.AttKvBwdIdeal.nD Cert.AttKvBwdIdeal.τ).loc Cert.AttKvBwdIdeal.main_arg5))
      ∧ r.2.sem = fun _ => 0)

def quiescent_AttKvBwdRefIdeal [hAttKvBwdRefIdeal : Cert.AttKvBwdRefIdeal.Facts] : Prop :=
  ∀ (m : (ℓ : Loc Cert.AttKvBwdRefIdeal.nD Cert.AttKvBwdRefIdeal.τ Cert.AttKvBwdRefIdeal.sig) → Buf (Elt Ideal) ℓ) (g : Dev Cert.AttKvBwdRefIdeal.nD → PrngReg), Pre_AttKvBwdRefIdeal m →
    θ_run (Cert.AttKvBwdRefIdeal.defs (F := Ideal)) (onTc (τ := Cert.AttKvBwdRefIdeal.τ) (Cert.AttKvBwdRefIdeal.main (F := Ideal))) ⟨m, fun _ => 0, g⟩ (fun r => (∀ c : Dev Cert.AttKvBwdRefIdeal.nD,
      r.2.mem ((c.tc : Thread Cert.AttKvBwdRefIdeal.nD Cert.AttKvBwdRefIdeal.τ).loc Cert.AttKvBwdRefIdeal.main_arg0) = m ((c.tc : Thread Cert.AttKvBwdRefIdeal.nD Cert.AttKvBwdRefIdeal.τ).loc Cert.AttKvBwdRefIdeal.main_arg0)
      ∧ r.2.mem ((c.tc : Thread Cert.AttKvBwdRefIdeal.nD Cert.AttKvBwdRefIdeal.τ).loc Cert.AttKvBwdRefIdeal.main_arg1) = m ((c.tc : Thread Cert.AttKvBwdRefIdeal.nD Cert.AttKvBwdRefIdeal.τ).loc Cert.AttKvBwdRefIdeal.main_arg1)
      ∧ r.2.mem ((c.tc : Thread Cert.AttKvBwdRefIdeal.nD Cert.AttKvBwdRefIdeal.τ).loc Cert.AttKvBwdRefIdeal.main_arg2) = m ((c.tc : Thread Cert.AttKvBwdRefIdeal.nD Cert.AttKvBwdRefIdeal.τ).loc Cert.AttKvBwdRefIdeal.main_arg2)
      ∧ r.2.mem ((c.tc : Thread Cert.AttKvBwdRefIdeal.nD Cert.AttKvBwdRefIdeal.τ).loc Cert.AttKvBwdRefIdeal.main_arg3) = m ((c.tc : Thread Cert.AttKvBwdRefIdeal.nD Cert.AttKvBwdRefIdeal.τ).loc Cert.AttKvBwdRefIdeal.main_arg3)
      ∧ r.2.mem ((c.tc : Thread Cert.AttKvBwdRefIdeal.nD Cert.AttKvBwdRefIdeal.τ).loc Cert.AttKvBwdRefIdeal.main_arg4) = m ((c.tc : Thread Cert.AttKvBwdRefIdeal.nD Cert.AttKvBwdRefIdeal.τ).loc Cert.AttKvBwdRefIdeal.main_arg4)
      ∧ r.2.mem ((c.tc : Thread Cert.AttKvBwdRefIdeal.nD Cert.AttKvBwdRefIdeal.τ).loc Cert.AttKvBwdRefIdeal.main_arg5) = m ((c.tc : Thread Cert.AttKvBwdRefIdeal.nD Cert.AttKvBwdRefIdeal.τ).loc Cert.AttKvBwdRefIdeal.main_arg5))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1)
      ∧ r.2.mem ((c.tc : Thread Cert.DownBwd.nD Cert.DownBwd.τ).loc Cert.DownBwd.main_arg2) = m ((c.tc : Thread Cert.DownBwd.nD Cert.DownBwd.τ).loc Cert.DownBwd.main_arg2)
      ∧ r.2.mem ((c.tc : Thread Cert.DownBwd.nD Cert.DownBwd.τ).loc Cert.DownBwd.main_arg3) = m ((c.tc : Thread Cert.DownBwd.nD Cert.DownBwd.τ).loc Cert.DownBwd.main_arg3))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
      ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
      ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ r.2.sem = fun _ => 0)

def quiescent_DownBwdRefIdeal [hDownBwdRefIdeal : Cert.DownBwdRefIdeal.Facts] : Prop :=
  ∀ (m : (ℓ : Loc Cert.DownBwdRefIdeal.nD Cert.DownBwdRefIdeal.τ Cert.DownBwdRefIdeal.sig) → Buf (Elt Ideal) ℓ) (g : Dev Cert.DownBwdRefIdeal.nD → PrngReg), Pre_DownBwdRefIdeal m →
    θ_run (Cert.DownBwdRefIdeal.defs (F := Ideal)) (onTc (τ := Cert.DownBwdRefIdeal.τ) (Cert.DownBwdRefIdeal.main (F := Ideal))) ⟨m, fun _ => 0, g⟩ (fun r => (∀ c : Dev Cert.DownBwdRefIdeal.nD,
      r.2.mem ((c.tc : Thread Cert.DownBwdRefIdeal.nD Cert.DownBwdRefIdeal.τ).loc Cert.DownBwdRefIdeal.main_arg0) = m ((c.tc : Thread Cert.DownBwdRefIdeal.nD Cert.DownBwdRefIdeal.τ).loc Cert.DownBwdRefIdeal.main_arg0)
      ∧ r.2.mem ((c.tc : Thread Cert.DownBwdRefIdeal.nD Cert.DownBwdRefIdeal.τ).loc Cert.DownBwdRefIdeal.main_arg1) = m ((c.tc : Thread Cert.DownBwdRefIdeal.nD Cert.DownBwdRefIdeal.τ).loc Cert.DownBwdRefIdeal.main_arg1)
      ∧ r.2.mem ((c.tc : Thread Cert.DownBwdRefIdeal.nD Cert.DownBwdRefIdeal.τ).loc Cert.DownBwdRefIdeal.main_arg2) = m ((c.tc : Thread Cert.DownBwdRefIdeal.nD Cert.DownBwdRefIdeal.τ).loc Cert.DownBwdRefIdeal.main_arg2)
      ∧ r.2.mem ((c.tc : Thread Cert.DownBwdRefIdeal.nD Cert.DownBwdRefIdeal.τ).loc Cert.DownBwdRefIdeal.main_arg3) = m ((c.tc : Thread Cert.DownBwdRefIdeal.nD Cert.DownBwdRefIdeal.τ).loc Cert.DownBwdRefIdeal.main_arg3))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3)
      ∧ r.2.mem ((c.tc : Thread Cert.UpBwd.nD Cert.UpBwd.τ).loc Cert.UpBwd.main_arg4) = m ((c.tc : Thread Cert.UpBwd.nD Cert.UpBwd.τ).loc Cert.UpBwd.main_arg4))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
      ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3)
      ∧ r.2.mem ((c.tc : Thread Cert.UpBwdRefIdeal.nD Cert.UpBwdRefIdeal.τ).loc Cert.UpBwdRefIdeal.main_arg4) = m ((c.tc : Thread Cert.UpBwdRefIdeal.nD Cert.UpBwdRefIdeal.τ).loc Cert.UpBwdRefIdeal.main_arg4))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_AttQ [hAttQ : Cert.AttQ.Facts] : Prop :=
  ∀ (m : (ℓ : Loc Cert.AttQ.nD Cert.AttQ.τ Cert.AttQ.sig) → Buf (Elt Bits) ℓ) (g : Dev Cert.AttQ.nD → PrngReg), Pre_AttQ m →
    θ_run (Cert.AttQ.defs (F := Bits)) (onTc (τ := Cert.AttQ.τ) (Cert.AttQ.main (F := Bits))) ⟨m, fun _ => 0, g⟩ (fun r => (∀ c : Dev Cert.AttQ.nD,
      r.2.mem ((c.tc : Thread Cert.AttQ.nD Cert.AttQ.τ).loc Cert.AttQ.main_arg0) = m ((c.tc : Thread Cert.AttQ.nD Cert.AttQ.τ).loc Cert.AttQ.main_arg0)
      ∧ r.2.mem ((c.tc : Thread Cert.AttQ.nD Cert.AttQ.τ).loc Cert.AttQ.main_arg1) = m ((c.tc : Thread Cert.AttQ.nD Cert.AttQ.τ).loc Cert.AttQ.main_arg1)
      ∧ r.2.mem ((c.tc : Thread Cert.AttQ.nD Cert.AttQ.τ).loc Cert.AttQ.main_arg2) = m ((c.tc : Thread Cert.AttQ.nD Cert.AttQ.τ).loc Cert.AttQ.main_arg2))
      ∧ r.2.sem = fun _ => 0)

def quiescent_AttQIdeal [hAttQIdeal : Cert.AttQIdeal.Facts] : Prop :=
  ∀ (m : (ℓ : Loc Cert.AttQIdeal.nD Cert.AttQIdeal.τ Cert.AttQIdeal.sig) → Buf (Elt Ideal) ℓ) (g : Dev Cert.AttQIdeal.nD → PrngReg), Pre_AttQIdeal m →
    θ_run (Cert.AttQIdeal.defs (F := Ideal)) (onTc (τ := Cert.AttQIdeal.τ) (Cert.AttQIdeal.main (F := Ideal))) ⟨m, fun _ => 0, g⟩ (fun r => (∀ c : Dev Cert.AttQIdeal.nD,
      r.2.mem ((c.tc : Thread Cert.AttQIdeal.nD Cert.AttQIdeal.τ).loc Cert.AttQIdeal.main_arg0) = m ((c.tc : Thread Cert.AttQIdeal.nD Cert.AttQIdeal.τ).loc Cert.AttQIdeal.main_arg0)
      ∧ r.2.mem ((c.tc : Thread Cert.AttQIdeal.nD Cert.AttQIdeal.τ).loc Cert.AttQIdeal.main_arg1) = m ((c.tc : Thread Cert.AttQIdeal.nD Cert.AttQIdeal.τ).loc Cert.AttQIdeal.main_arg1)
      ∧ r.2.mem ((c.tc : Thread Cert.AttQIdeal.nD Cert.AttQIdeal.τ).loc Cert.AttQIdeal.main_arg2) = m ((c.tc : Thread Cert.AttQIdeal.nD Cert.AttQIdeal.τ).loc Cert.AttQIdeal.main_arg2))
      ∧ r.2.sem = fun _ => 0)

def quiescent_AttQRefIdeal [hAttQRefIdeal : Cert.AttQRefIdeal.Facts] : Prop :=
  ∀ (m : (ℓ : Loc Cert.AttQRefIdeal.nD Cert.AttQRefIdeal.τ Cert.AttQRefIdeal.sig) → Buf (Elt Ideal) ℓ) (g : Dev Cert.AttQRefIdeal.nD → PrngReg), Pre_AttQRefIdeal m →
    θ_run (Cert.AttQRefIdeal.defs (F := Ideal)) (onTc (τ := Cert.AttQRefIdeal.τ) (Cert.AttQRefIdeal.main (F := Ideal))) ⟨m, fun _ => 0, g⟩ (fun r => (∀ c : Dev Cert.AttQRefIdeal.nD,
      r.2.mem ((c.tc : Thread Cert.AttQRefIdeal.nD Cert.AttQRefIdeal.τ).loc Cert.AttQRefIdeal.main_arg0) = m ((c.tc : Thread Cert.AttQRefIdeal.nD Cert.AttQRefIdeal.τ).loc Cert.AttQRefIdeal.main_arg0)
      ∧ r.2.mem ((c.tc : Thread Cert.AttQRefIdeal.nD Cert.AttQRefIdeal.τ).loc Cert.AttQRefIdeal.main_arg1) = m ((c.tc : Thread Cert.AttQRefIdeal.nD Cert.AttQRefIdeal.τ).loc Cert.AttQRefIdeal.main_arg1)
      ∧ r.2.mem ((c.tc : Thread Cert.AttQRefIdeal.nD Cert.AttQRefIdeal.τ).loc Cert.AttQRefIdeal.main_arg2) = m ((c.tc : Thread Cert.AttQRefIdeal.nD Cert.AttQRefIdeal.τ).loc Cert.AttQRefIdeal.main_arg2))
      ∧ r.2.sem = fun _ => 0)

def quiescent_AttK [hAttK : Cert.AttK.Facts] : Prop :=
  ∀ (m : (ℓ : Loc Cert.AttK.nD Cert.AttK.τ Cert.AttK.sig) → Buf (Elt Bits) ℓ) (g : Dev Cert.AttK.nD → PrngReg), Pre_AttK m →
    θ_run (Cert.AttK.defs (F := Bits)) (onTc (τ := Cert.AttK.τ) (Cert.AttK.main (F := Bits))) ⟨m, fun _ => 0, g⟩ (fun r => (∀ c : Dev Cert.AttK.nD,
      r.2.mem ((c.tc : Thread Cert.AttK.nD Cert.AttK.τ).loc Cert.AttK.main_arg0) = m ((c.tc : Thread Cert.AttK.nD Cert.AttK.τ).loc Cert.AttK.main_arg0)
      ∧ r.2.mem ((c.tc : Thread Cert.AttK.nD Cert.AttK.τ).loc Cert.AttK.main_arg1) = m ((c.tc : Thread Cert.AttK.nD Cert.AttK.τ).loc Cert.AttK.main_arg1)
      ∧ r.2.mem ((c.tc : Thread Cert.AttK.nD Cert.AttK.τ).loc Cert.AttK.main_arg2) = m ((c.tc : Thread Cert.AttK.nD Cert.AttK.τ).loc Cert.AttK.main_arg2))
      ∧ r.2.sem = fun _ => 0)

def quiescent_AttKIdeal [hAttKIdeal : Cert.AttKIdeal.Facts] : Prop :=
  ∀ (m : (ℓ : Loc Cert.AttKIdeal.nD Cert.AttKIdeal.τ Cert.AttKIdeal.sig) → Buf (Elt Ideal) ℓ) (g : Dev Cert.AttKIdeal.nD → PrngReg), Pre_AttKIdeal m →
    θ_run (Cert.AttKIdeal.defs (F := Ideal)) (onTc (τ := Cert.AttKIdeal.τ) (Cert.AttKIdeal.main (F := Ideal))) ⟨m, fun _ => 0, g⟩ (fun r => (∀ c : Dev Cert.AttKIdeal.nD,
      r.2.mem ((c.tc : Thread Cert.AttKIdeal.nD Cert.AttKIdeal.τ).loc Cert.AttKIdeal.main_arg0) = m ((c.tc : Thread Cert.AttKIdeal.nD Cert.AttKIdeal.τ).loc Cert.AttKIdeal.main_arg0)
      ∧ r.2.mem ((c.tc : Thread Cert.AttKIdeal.nD Cert.AttKIdeal.τ).loc Cert.AttKIdeal.main_arg1) = m ((c.tc : Thread Cert.AttKIdeal.nD Cert.AttKIdeal.τ).loc Cert.AttKIdeal.main_arg1)
      ∧ r.2.mem ((c.tc : Thread Cert.AttKIdeal.nD Cert.AttKIdeal.τ).loc Cert.AttKIdeal.main_arg2) = m ((c.tc : Thread Cert.AttKIdeal.nD Cert.AttKIdeal.τ).loc Cert.AttKIdeal.main_arg2))
      ∧ r.2.sem = fun _ => 0)

def quiescent_AttKRefIdeal [hAttKRefIdeal : Cert.AttKRefIdeal.Facts] : Prop :=
  ∀ (m : (ℓ : Loc Cert.AttKRefIdeal.nD Cert.AttKRefIdeal.τ Cert.AttKRefIdeal.sig) → Buf (Elt Ideal) ℓ) (g : Dev Cert.AttKRefIdeal.nD → PrngReg), Pre_AttKRefIdeal m →
    θ_run (Cert.AttKRefIdeal.defs (F := Ideal)) (onTc (τ := Cert.AttKRefIdeal.τ) (Cert.AttKRefIdeal.main (F := Ideal))) ⟨m, fun _ => 0, g⟩ (fun r => (∀ c : Dev Cert.AttKRefIdeal.nD,
      r.2.mem ((c.tc : Thread Cert.AttKRefIdeal.nD Cert.AttKRefIdeal.τ).loc Cert.AttKRefIdeal.main_arg0) = m ((c.tc : Thread Cert.AttKRefIdeal.nD Cert.AttKRefIdeal.τ).loc Cert.AttKRefIdeal.main_arg0)
      ∧ r.2.mem ((c.tc : Thread Cert.AttKRefIdeal.nD Cert.AttKRefIdeal.τ).loc Cert.AttKRefIdeal.main_arg1) = m ((c.tc : Thread Cert.AttKRefIdeal.nD Cert.AttKRefIdeal.τ).loc Cert.AttKRefIdeal.main_arg1)
      ∧ r.2.mem ((c.tc : Thread Cert.AttKRefIdeal.nD Cert.AttKRefIdeal.τ).loc Cert.AttKRefIdeal.main_arg2) = m ((c.tc : Thread Cert.AttKRefIdeal.nD Cert.AttKRefIdeal.τ).loc Cert.AttKRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1)
      ∧ r.2.mem ((c.tc : Thread Cert.UpFwdRefIdeal.nD Cert.UpFwdRefIdeal.τ).loc Cert.UpFwdRefIdeal.main_arg2) = m ((c.tc : Thread Cert.UpFwdRefIdeal.nD Cert.UpFwdRefIdeal.τ).loc Cert.UpFwdRefIdeal.main_arg2))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2)
      ∧ r.2.mem ((c.tc : Thread Cert.DownFwdRefIdeal.nD Cert.DownFwdRefIdeal.τ).loc Cert.DownFwdRefIdeal.main_arg3) = m ((c.tc : Thread Cert.DownFwdRefIdeal.nD Cert.DownFwdRefIdeal.τ).loc Cert.DownFwdRefIdeal.main_arg3))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3))
      ∧ r.2.sem = fun _ => 0)

def quiescent_GmlpBwd [hGmlpBwd : Cert.GmlpBwd.Facts] : Prop :=
  ∀ (m : (ℓ : Loc Cert.GmlpBwd.nD Cert.GmlpBwd.τ Cert.GmlpBwd.sig) → Buf (Elt Bits) ℓ) (g : Dev Cert.GmlpBwd.nD → PrngReg), Pre_GmlpBwd m →
    θ_run (Cert.GmlpBwd.defs (F := Bits)) (onTc (τ := Cert.GmlpBwd.τ) (Cert.GmlpBwd.main (F := Bits))) ⟨m, fun _ => 0, g⟩ (fun r => (∀ c : Dev Cert.GmlpBwd.nD,
      r.2.mem ((c.tc : Thread Cert.GmlpBwd.nD Cert.GmlpBwd.τ).loc Cert.GmlpBwd.main_arg0) = m ((c.tc : Thread Cert.GmlpBwd.nD Cert.GmlpBwd.τ).loc Cert.GmlpBwd.main_arg0)
      ∧ r.2.mem ((c.tc : Thread Cert.GmlpBwd.nD Cert.GmlpBwd.τ).loc Cert.GmlpBwd.main_arg1) = m ((c.tc : Thread Cert.GmlpBwd.nD Cert.GmlpBwd.τ).loc Cert.GmlpBwd.main_arg1)
      ∧ r.2.mem ((c.tc : Thread Cert.GmlpBwd.nD Cert.GmlpBwd.τ).loc Cert.GmlpBwd.main_arg2) = m ((c.tc : Thread Cert.GmlpBwd.nD Cert.GmlpBwd.τ).loc Cert.GmlpBwd.main_arg2)
      ∧ r.2.mem ((c.tc : Thread Cert.GmlpBwd.nD Cert.GmlpBwd.τ).loc Cert.GmlpBwd.main_arg3) = m ((c.tc : Thread Cert.GmlpBwd.nD Cert.GmlpBwd.τ).loc Cert.GmlpBwd.main_arg3)
      ∧ r.2.mem ((c.tc : Thread Cert.GmlpBwd.nD Cert.GmlpBwd.τ).loc Cert.GmlpBwd.main_arg4) = m ((c.tc : Thread Cert.GmlpBwd.nD Cert.GmlpBwd.τ).loc Cert.GmlpBwd.main_arg4))
      ∧ r.2.sem = fun _ => 0)

def quiescent_GmlpBwdIdeal [hGmlpBwdIdeal : Cert.GmlpBwdIdeal.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg), Pre_GmlpBwdIdeal m →
    θ_run (Cert.GmlpBwdIdeal.defs (F := Ideal)) (onTc (τ := Cert.GmlpBwdIdeal.τ) (Cert.GmlpBwdIdeal.main (F := Ideal))) ⟨m, fun _ => 0, g⟩ (fun r => (∀ c : Dev Cert.GmlpBwdIdeal.nD,
      r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
      ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
      ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
      ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
      ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4))
      ∧ r.2.sem = fun _ => 0)

def quiescent_GmlpBwdRefIdeal [hGmlpBwdRefIdeal : Cert.GmlpBwdRefIdeal.Facts] : Prop :=
  ∀ (m : (ℓ : Loc Cert.GmlpBwdRefIdeal.nD Cert.GmlpBwdRefIdeal.τ Cert.GmlpBwdRefIdeal.sig) → Buf (Elt Ideal) ℓ) (g : Dev Cert.GmlpBwdRefIdeal.nD → PrngReg), Pre_GmlpBwdRefIdeal m →
    θ_run (Cert.GmlpBwdRefIdeal.defs (F := Ideal)) (onTc (τ := Cert.GmlpBwdRefIdeal.τ) (Cert.GmlpBwdRefIdeal.main (F := Ideal))) ⟨m, fun _ => 0, g⟩ (fun r => (∀ c : Dev Cert.GmlpBwdRefIdeal.nD,
      r.2.mem ((c.tc : Thread Cert.GmlpBwdRefIdeal.nD Cert.GmlpBwdRefIdeal.τ).loc Cert.GmlpBwdRefIdeal.main_arg0) = m ((c.tc : Thread Cert.GmlpBwdRefIdeal.nD Cert.GmlpBwdRefIdeal.τ).loc Cert.GmlpBwdRefIdeal.main_arg0)
      ∧ r.2.mem ((c.tc : Thread Cert.GmlpBwdRefIdeal.nD Cert.GmlpBwdRefIdeal.τ).loc Cert.GmlpBwdRefIdeal.main_arg1) = m ((c.tc : Thread Cert.GmlpBwdRefIdeal.nD Cert.GmlpBwdRefIdeal.τ).loc Cert.GmlpBwdRefIdeal.main_arg1)
      ∧ r.2.mem ((c.tc : Thread Cert.GmlpBwdRefIdeal.nD Cert.GmlpBwdRefIdeal.τ).loc Cert.GmlpBwdRefIdeal.main_arg2) = m ((c.tc : Thread Cert.GmlpBwdRefIdeal.nD Cert.GmlpBwdRefIdeal.τ).loc Cert.GmlpBwdRefIdeal.main_arg2)
      ∧ r.2.mem ((c.tc : Thread Cert.GmlpBwdRefIdeal.nD Cert.GmlpBwdRefIdeal.τ).loc Cert.GmlpBwdRefIdeal.main_arg3) = m ((c.tc : Thread Cert.GmlpBwdRefIdeal.nD Cert.GmlpBwdRefIdeal.τ).loc Cert.GmlpBwdRefIdeal.main_arg3)
      ∧ r.2.mem ((c.tc : Thread Cert.GmlpBwdRefIdeal.nD Cert.GmlpBwdRefIdeal.τ).loc Cert.GmlpBwdRefIdeal.main_arg4) = m ((c.tc : Thread Cert.GmlpBwdRefIdeal.nD Cert.GmlpBwdRefIdeal.τ).loc Cert.GmlpBwdRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5)
      ∧ r.2.mem ((c.tc : Thread Cert.AdamRefIdeal.nD Cert.AdamRefIdeal.τ).loc Cert.AdamRefIdeal.main_arg6) = m ((c.tc : Thread Cert.AdamRefIdeal.nD Cert.AdamRefIdeal.τ).loc Cert.AdamRefIdeal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v7) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v8) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_AttDw_AttDwIdeal : Prop :=
  True

def algebraic_AttDwIdeal_AttDwRefIdeal [hAttDwIdeal : Cert.AttDwIdeal.Facts] [hAttDwRefIdeal : Cert.AttDwRefIdeal.Facts] : Prop :=
  ∀ (m : (ℓ : Loc Cert.AttDwIdeal.nD Cert.AttDwIdeal.τ Cert.AttDwIdeal.sig) → Buf (Elt Ideal) ℓ) (g : Dev Cert.AttDwIdeal.nD → PrngReg)
    (m' : (ℓ : Loc Cert.AttDwRefIdeal.nD Cert.AttDwRefIdeal.τ Cert.AttDwRefIdeal.sig) → Buf (Elt Ideal) ℓ) (g' : Dev Cert.AttDwRefIdeal.nD → PrngReg), Pre_AttDwIdeal m →
    (∀ c : Dev Cert.AttDwIdeal.nD,
      m' ((c.tc : Thread Cert.AttDwRefIdeal.nD Cert.AttDwRefIdeal.τ).loc Cert.AttDwRefIdeal.main_arg0) = m ((c.tc : Thread Cert.AttDwIdeal.nD Cert.AttDwIdeal.τ).loc Cert.AttDwIdeal.main_arg0)
      ∧ m' ((c.tc : Thread Cert.AttDwRefIdeal.nD Cert.AttDwRefIdeal.τ).loc Cert.AttDwRefIdeal.main_arg1) = m ((c.tc : Thread Cert.AttDwIdeal.nD Cert.AttDwIdeal.τ).loc Cert.AttDwIdeal.main_arg1)) →
    ∃ (v0 : (c : Dev Cert.AttDwIdeal.nD) → Buf (Elt Ideal) ((c.tc : Thread Cert.AttDwIdeal.nD Cert.AttDwIdeal.τ).loc Cert.AttDwIdeal.main_v0)),
      θ_run (Cert.AttDwIdeal.defs (F := Ideal)) (onTc (τ := Cert.AttDwIdeal.τ) (Cert.AttDwIdeal.main (F := Ideal))) ⟨m, fun _ => 0, g⟩ (fun r => ∀ c : Dev Cert.AttDwIdeal.nD,
          r.2.mem ((c.tc : Thread Cert.AttDwIdeal.nD Cert.AttDwIdeal.τ).loc Cert.AttDwIdeal.main_v0) = v0 c
          ∧ r.2.mem ((c.tc : Thread Cert.AttDwIdeal.nD Cert.AttDwIdeal.τ).loc Cert.AttDwIdeal.main_arg0) = m ((c.tc : Thread Cert.AttDwIdeal.nD Cert.AttDwIdeal.τ).loc Cert.AttDwIdeal.main_arg0)
          ∧ r.2.mem ((c.tc : Thread Cert.AttDwIdeal.nD Cert.AttDwIdeal.τ).loc Cert.AttDwIdeal.main_arg1) = m ((c.tc : Thread Cert.AttDwIdeal.nD Cert.AttDwIdeal.τ).loc Cert.AttDwIdeal.main_arg1))
      ∧ θ_run (Cert.AttDwRefIdeal.defs (F := Ideal)) (onTc (τ := Cert.AttDwRefIdeal.τ) (Cert.AttDwRefIdeal.main (F := Ideal))) ⟨m', fun _ => 0, g'⟩ (fun r => ∀ c : Dev Cert.AttDwRefIdeal.nD,
          r.2.mem ((c.tc : Thread Cert.AttDwRefIdeal.nD Cert.AttDwRefIdeal.τ).loc Cert.AttDwRefIdeal.main_v6) = v0 c
          ∧ r.2.mem ((c.tc : Thread Cert.AttDwRefIdeal.nD Cert.AttDwRefIdeal.τ).loc Cert.AttDwRefIdeal.main_arg0) = m' ((c.tc : Thread Cert.AttDwRefIdeal.nD Cert.AttDwRefIdeal.τ).loc Cert.AttDwRefIdeal.main_arg0)
          ∧ r.2.mem ((c.tc : Thread Cert.AttDwRefIdeal.nD Cert.AttDwRefIdeal.τ).loc Cert.AttDwRefIdeal.main_arg1) = m' ((c.tc : Thread Cert.AttDwRefIdeal.nD Cert.AttDwRefIdeal.τ).loc Cert.AttDwRefIdeal.main_arg1))

def preserves_MemDw_MemDwIdeal : Prop :=
  True

def algebraic_MemDwIdeal_MemDwRefIdeal [hMemDwIdeal : Cert.MemDwIdeal.Facts] [hMemDwRefIdeal : Cert.MemDwRefIdeal.Facts] : Prop :=
  ∀ (m : (ℓ : Loc Cert.MemDwIdeal.nD Cert.MemDwIdeal.τ Cert.MemDwIdeal.sig) → Buf (Elt Ideal) ℓ) (g : Dev Cert.MemDwIdeal.nD → PrngReg)
    (m' : (ℓ : Loc Cert.MemDwRefIdeal.nD Cert.MemDwRefIdeal.τ Cert.MemDwRefIdeal.sig) → Buf (Elt Ideal) ℓ) (g' : Dev Cert.MemDwRefIdeal.nD → PrngReg), Pre_MemDwIdeal m →
    (∀ c : Dev Cert.MemDwIdeal.nD,
      m' ((c.tc : Thread Cert.MemDwRefIdeal.nD Cert.MemDwRefIdeal.τ).loc Cert.MemDwRefIdeal.main_arg0) = m ((c.tc : Thread Cert.MemDwIdeal.nD Cert.MemDwIdeal.τ).loc Cert.MemDwIdeal.main_arg0)
      ∧ m' ((c.tc : Thread Cert.MemDwRefIdeal.nD Cert.MemDwRefIdeal.τ).loc Cert.MemDwRefIdeal.main_arg1) = m ((c.tc : Thread Cert.MemDwIdeal.nD Cert.MemDwIdeal.τ).loc Cert.MemDwIdeal.main_arg1)) →
    ∃ (v0 : (c : Dev Cert.MemDwIdeal.nD) → Buf (Elt Ideal) ((c.tc : Thread Cert.MemDwIdeal.nD Cert.MemDwIdeal.τ).loc Cert.MemDwIdeal.main_v0)),
      θ_run (Cert.MemDwIdeal.defs (F := Ideal)) (onTc (τ := Cert.MemDwIdeal.τ) (Cert.MemDwIdeal.main (F := Ideal))) ⟨m, fun _ => 0, g⟩ (fun r => ∀ c : Dev Cert.MemDwIdeal.nD,
          r.2.mem ((c.tc : Thread Cert.MemDwIdeal.nD Cert.MemDwIdeal.τ).loc Cert.MemDwIdeal.main_v0) = v0 c
          ∧ r.2.mem ((c.tc : Thread Cert.MemDwIdeal.nD Cert.MemDwIdeal.τ).loc Cert.MemDwIdeal.main_arg0) = m ((c.tc : Thread Cert.MemDwIdeal.nD Cert.MemDwIdeal.τ).loc Cert.MemDwIdeal.main_arg0)
          ∧ r.2.mem ((c.tc : Thread Cert.MemDwIdeal.nD Cert.MemDwIdeal.τ).loc Cert.MemDwIdeal.main_arg1) = m ((c.tc : Thread Cert.MemDwIdeal.nD Cert.MemDwIdeal.τ).loc Cert.MemDwIdeal.main_arg1))
      ∧ θ_run (Cert.MemDwRefIdeal.defs (F := Ideal)) (onTc (τ := Cert.MemDwRefIdeal.τ) (Cert.MemDwRefIdeal.main (F := Ideal))) ⟨m', fun _ => 0, g'⟩ (fun r => ∀ c : Dev Cert.MemDwRefIdeal.nD,
          r.2.mem ((c.tc : Thread Cert.MemDwRefIdeal.nD Cert.MemDwRefIdeal.τ).loc Cert.MemDwRefIdeal.main_v6) = v0 c
          ∧ r.2.mem ((c.tc : Thread Cert.MemDwRefIdeal.nD Cert.MemDwRefIdeal.τ).loc Cert.MemDwRefIdeal.main_arg0) = m' ((c.tc : Thread Cert.MemDwRefIdeal.nD Cert.MemDwRefIdeal.τ).loc Cert.MemDwRefIdeal.main_arg0)
          ∧ r.2.mem ((c.tc : Thread Cert.MemDwRefIdeal.nD Cert.MemDwRefIdeal.τ).loc Cert.MemDwRefIdeal.main_arg1) = m' ((c.tc : Thread Cert.MemDwRefIdeal.nD Cert.MemDwRefIdeal.τ).loc Cert.MemDwRefIdeal.main_arg1))

def preserves_MixInDw_MixInDwIdeal : Prop :=
  True

def algebraic_MixInDwIdeal_MixInDwRefIdeal [hMixInDwIdeal : Cert.MixInDwIdeal.Facts] [hMixInDwRefIdeal : Cert.MixInDwRefIdeal.Facts] : Prop :=
  ∀ (m : (ℓ : Loc Cert.MixInDwIdeal.nD Cert.MixInDwIdeal.τ Cert.MixInDwIdeal.sig) → Buf (Elt Ideal) ℓ) (g : Dev Cert.MixInDwIdeal.nD → PrngReg)
    (m' : (ℓ : Loc Cert.MixInDwRefIdeal.nD Cert.MixInDwRefIdeal.τ Cert.MixInDwRefIdeal.sig) → Buf (Elt Ideal) ℓ) (g' : Dev Cert.MixInDwRefIdeal.nD → PrngReg), Pre_MixInDwIdeal m →
    (∀ c : Dev Cert.MixInDwIdeal.nD,
      m' ((c.tc : Thread Cert.MixInDwRefIdeal.nD Cert.MixInDwRefIdeal.τ).loc Cert.MixInDwRefIdeal.main_arg0) = m ((c.tc : Thread Cert.MixInDwIdeal.nD Cert.MixInDwIdeal.τ).loc Cert.MixInDwIdeal.main_arg0)
      ∧ m' ((c.tc : Thread Cert.MixInDwRefIdeal.nD Cert.MixInDwRefIdeal.τ).loc Cert.MixInDwRefIdeal.main_arg1) = m ((c.tc : Thread Cert.MixInDwIdeal.nD Cert.MixInDwIdeal.τ).loc Cert.MixInDwIdeal.main_arg1)) →
    ∃ (v0 : (c : Dev Cert.MixInDwIdeal.nD) → Buf (Elt Ideal) ((c.tc : Thread Cert.MixInDwIdeal.nD Cert.MixInDwIdeal.τ).loc Cert.MixInDwIdeal.main_v0)),
      θ_run (Cert.MixInDwIdeal.defs (F := Ideal)) (onTc (τ := Cert.MixInDwIdeal.τ) (Cert.MixInDwIdeal.main (F := Ideal))) ⟨m, fun _ => 0, g⟩ (fun r => ∀ c : Dev Cert.MixInDwIdeal.nD,
          r.2.mem ((c.tc : Thread Cert.MixInDwIdeal.nD Cert.MixInDwIdeal.τ).loc Cert.MixInDwIdeal.main_v0) = v0 c
          ∧ r.2.mem ((c.tc : Thread Cert.MixInDwIdeal.nD Cert.MixInDwIdeal.τ).loc Cert.MixInDwIdeal.main_arg0) = m ((c.tc : Thread Cert.MixInDwIdeal.nD Cert.MixInDwIdeal.τ).loc Cert.MixInDwIdeal.main_arg0)
          ∧ r.2.mem ((c.tc : Thread Cert.MixInDwIdeal.nD Cert.MixInDwIdeal.τ).loc Cert.MixInDwIdeal.main_arg1) = m ((c.tc : Thread Cert.MixInDwIdeal.nD Cert.MixInDwIdeal.τ).loc Cert.MixInDwIdeal.main_arg1))
      ∧ θ_run (Cert.MixInDwRefIdeal.defs (F := Ideal)) (onTc (τ := Cert.MixInDwRefIdeal.τ) (Cert.MixInDwRefIdeal.main (F := Ideal))) ⟨m', fun _ => 0, g'⟩ (fun r => ∀ c : Dev Cert.MixInDwRefIdeal.nD,
          r.2.mem ((c.tc : Thread Cert.MixInDwRefIdeal.nD Cert.MixInDwRefIdeal.τ).loc Cert.MixInDwRefIdeal.main_v8) = v0 c
          ∧ r.2.mem ((c.tc : Thread Cert.MixInDwRefIdeal.nD Cert.MixInDwRefIdeal.τ).loc Cert.MixInDwRefIdeal.main_arg0) = m' ((c.tc : Thread Cert.MixInDwRefIdeal.nD Cert.MixInDwRefIdeal.τ).loc Cert.MixInDwRefIdeal.main_arg0)
          ∧ r.2.mem ((c.tc : Thread Cert.MixInDwRefIdeal.nD Cert.MixInDwRefIdeal.τ).loc Cert.MixInDwRefIdeal.main_arg1) = m' ((c.tc : Thread Cert.MixInDwRefIdeal.nD Cert.MixInDwRefIdeal.τ).loc Cert.MixInDwRefIdeal.main_arg1))

def preserves_AttOBwd_AttOBwdIdeal : Prop :=
  True

def algebraic_AttOBwdIdeal_AttOBwdRefIdeal [hAttOBwdIdeal : Cert.AttOBwdIdeal.Facts] [hAttOBwdRefIdeal : Cert.AttOBwdRefIdeal.Facts] : Prop :=
  ∀ (m : (ℓ : Loc Cert.AttOBwdIdeal.nD Cert.AttOBwdIdeal.τ Cert.AttOBwdIdeal.sig) → Buf (Elt Ideal) ℓ) (g : Dev Cert.AttOBwdIdeal.nD → PrngReg)
    (m' : (ℓ : Loc Cert.AttOBwdRefIdeal.nD Cert.AttOBwdRefIdeal.τ Cert.AttOBwdRefIdeal.sig) → Buf (Elt Ideal) ℓ) (g' : Dev Cert.AttOBwdRefIdeal.nD → PrngReg), Pre_AttOBwdIdeal m →
    (∀ c : Dev Cert.AttOBwdIdeal.nD,
      m' ((c.tc : Thread Cert.AttOBwdRefIdeal.nD Cert.AttOBwdRefIdeal.τ).loc Cert.AttOBwdRefIdeal.main_arg0) = m ((c.tc : Thread Cert.AttOBwdIdeal.nD Cert.AttOBwdIdeal.τ).loc Cert.AttOBwdIdeal.main_arg0)
      ∧ m' ((c.tc : Thread Cert.AttOBwdRefIdeal.nD Cert.AttOBwdRefIdeal.τ).loc Cert.AttOBwdRefIdeal.main_arg1) = m ((c.tc : Thread Cert.AttOBwdIdeal.nD Cert.AttOBwdIdeal.τ).loc Cert.AttOBwdIdeal.main_arg1)
      ∧ m' ((c.tc : Thread Cert.AttOBwdRefIdeal.nD Cert.AttOBwdRefIdeal.τ).loc Cert.AttOBwdRefIdeal.main_arg2) = m ((c.tc : Thread Cert.AttOBwdIdeal.nD Cert.AttOBwdIdeal.τ).loc Cert.AttOBwdIdeal.main_arg2)
      ∧ m' ((c.tc : Thread Cert.AttOBwdRefIdeal.nD Cert.AttOBwdRefIdeal.τ).loc Cert.AttOBwdRefIdeal.main_arg3) = m ((c.tc : Thread Cert.AttOBwdIdeal.nD Cert.AttOBwdIdeal.τ).loc Cert.AttOBwdIdeal.main_arg3)) →
    ∃ (v0 : (c : Dev Cert.AttOBwdIdeal.nD) → Buf (Elt Ideal) ((c.tc : Thread Cert.AttOBwdIdeal.nD Cert.AttOBwdIdeal.τ).loc Cert.AttOBwdIdeal.main_v3_0)) (v1 : (c : Dev Cert.AttOBwdIdeal.nD) → Buf (Elt Ideal) ((c.tc : Thread Cert.AttOBwdIdeal.nD Cert.AttOBwdIdeal.τ).loc Cert.AttOBwdIdeal.main_v3_1)) (v2 : (c : Dev Cert.AttOBwdIdeal.nD) → Buf (Elt Ideal) ((c.tc : Thread Cert.AttOBwdIdeal.nD Cert.AttOBwdIdeal.τ).loc Cert.AttOBwdIdeal.main_v4)),
      θ_run (Cert.AttOBwdIdeal.defs (F := Ideal)) (onTc (τ := Cert.AttOBwdIdeal.τ) (Cert.AttOBwdIdeal.main (F := Ideal))) ⟨m, fun _ => 0, g⟩ (fun r => ∀ c : Dev Cert.AttOBwdIdeal.nD,
          r.2.mem ((c.tc : Thread Cert.AttOBwdIdeal.nD Cert.AttOBwdIdeal.τ).loc Cert.AttOBwdIdeal.main_v3_0) = v0 c
          ∧ r.2.mem ((c.tc : Thread Cert.AttOBwdIdeal.nD Cert.AttOBwdIdeal.τ).loc Cert.AttOBwdIdeal.main_v3_1) = v1 c
          ∧ r.2.mem ((c.tc : Thread Cert.AttOBwdIdeal.nD Cert.AttOBwdIdeal.τ).loc Cert.AttOBwdIdeal.main_v4) = v2 c
          ∧ r.2.mem ((c.tc : Thread Cert.AttOBwdIdeal.nD Cert.AttOBwdIdeal.τ).loc Cert.AttOBwdIdeal.main_arg0) = m ((c.tc : Thread Cert.AttOBwdIdeal.nD Cert.AttOBwdIdeal.τ).loc Cert.AttOBwdIdeal.main_arg0)
          ∧ r.2.mem ((c.tc : Thread Cert.AttOBwdIdeal.nD Cert.AttOBwdIdeal.τ).loc Cert.AttOBwdIdeal.main_arg1) = m ((c.tc : Thread Cert.AttOBwdIdeal.nD Cert.AttOBwdIdeal.τ).loc Cert.AttOBwdIdeal.main_arg1)
          ∧ r.2.mem ((c.tc : Thread Cert.AttOBwdIdeal.nD Cert.AttOBwdIdeal.τ).loc Cert.AttOBwdIdeal.main_arg2) = m ((c.tc : Thread Cert.AttOBwdIdeal.nD Cert.AttOBwdIdeal.τ).loc Cert.AttOBwdIdeal.main_arg2)
          ∧ r.2.mem ((c.tc : Thread Cert.AttOBwdIdeal.nD Cert.AttOBwdIdeal.τ).loc Cert.AttOBwdIdeal.main_arg3) = m ((c.tc : Thread Cert.AttOBwdIdeal.nD Cert.AttOBwdIdeal.τ).loc Cert.AttOBwdIdeal.main_arg3))
      ∧ θ_run (Cert.AttOBwdRefIdeal.defs (F := Ideal)) (onTc (τ := Cert.AttOBwdRefIdeal.τ) (Cert.AttOBwdRefIdeal.main (F := Ideal))) ⟨m', fun _ => 0, g'⟩ (fun r => ∀ c : Dev Cert.AttOBwdRefIdeal.nD,
          r.2.mem ((c.tc : Thread Cert.AttOBwdRefIdeal.nD Cert.AttOBwdRefIdeal.τ).loc Cert.AttOBwdRefIdeal.main_v38) = v0 c
          ∧ r.2.mem ((c.tc : Thread Cert.AttOBwdRefIdeal.nD Cert.AttOBwdRefIdeal.τ).loc Cert.AttOBwdRefIdeal.main_v39) = v1 c
          ∧ r.2.mem ((c.tc : Thread Cert.AttOBwdRefIdeal.nD Cert.AttOBwdRefIdeal.τ).loc Cert.AttOBwdRefIdeal.main_v20) = v2 c
          ∧ r.2.mem ((c.tc : Thread Cert.AttOBwdRefIdeal.nD Cert.AttOBwdRefIdeal.τ).loc Cert.AttOBwdRefIdeal.main_arg0) = m' ((c.tc : Thread Cert.AttOBwdRefIdeal.nD Cert.AttOBwdRefIdeal.τ).loc Cert.AttOBwdRefIdeal.main_arg0)
          ∧ r.2.mem ((c.tc : Thread Cert.AttOBwdRefIdeal.nD Cert.AttOBwdRefIdeal.τ).loc Cert.AttOBwdRefIdeal.main_arg1) = m' ((c.tc : Thread Cert.AttOBwdRefIdeal.nD Cert.AttOBwdRefIdeal.τ).loc Cert.AttOBwdRefIdeal.main_arg1)
          ∧ r.2.mem ((c.tc : Thread Cert.AttOBwdRefIdeal.nD Cert.AttOBwdRefIdeal.τ).loc Cert.AttOBwdRefIdeal.main_arg2) = m' ((c.tc : Thread Cert.AttOBwdRefIdeal.nD Cert.AttOBwdRefIdeal.τ).loc Cert.AttOBwdRefIdeal.main_arg2)
          ∧ r.2.mem ((c.tc : Thread Cert.AttOBwdRefIdeal.nD Cert.AttOBwdRefIdeal.τ).loc Cert.AttOBwdRefIdeal.main_arg3) = m' ((c.tc : Thread Cert.AttOBwdRefIdeal.nD Cert.AttOBwdRefIdeal.τ).loc Cert.AttOBwdRefIdeal.main_arg3))

def preserves_MixOutBwd_MixOutBwdIdeal : Prop :=
  True

def algebraic_MixOutBwdIdeal_MixOutBwdRefIdeal [hMixOutBwdIdeal : Cert.MixOutBwdIdeal.Facts] [hMixOutBwdRefIdeal : Cert.MixOutBwdRefIdeal.Facts] : Prop :=
  ∀ (m : (ℓ : Loc Cert.MixOutBwdIdeal.nD Cert.MixOutBwdIdeal.τ Cert.MixOutBwdIdeal.sig) → Buf (Elt Ideal) ℓ) (g : Dev Cert.MixOutBwdIdeal.nD → PrngReg)
    (m' : (ℓ : Loc Cert.MixOutBwdRefIdeal.nD Cert.MixOutBwdRefIdeal.τ Cert.MixOutBwdRefIdeal.sig) → Buf (Elt Ideal) ℓ) (g' : Dev Cert.MixOutBwdRefIdeal.nD → PrngReg), Pre_MixOutBwdIdeal m →
    (∀ c : Dev Cert.MixOutBwdIdeal.nD,
      m' ((c.tc : Thread Cert.MixOutBwdRefIdeal.nD Cert.MixOutBwdRefIdeal.τ).loc Cert.MixOutBwdRefIdeal.main_arg0) = m ((c.tc : Thread Cert.MixOutBwdIdeal.nD Cert.MixOutBwdIdeal.τ).loc Cert.MixOutBwdIdeal.main_arg0)
      ∧ m' ((c.tc : Thread Cert.MixOutBwdRefIdeal.nD Cert.MixOutBwdRefIdeal.τ).loc Cert.MixOutBwdRefIdeal.main_arg1) = m ((c.tc : Thread Cert.MixOutBwdIdeal.nD Cert.MixOutBwdIdeal.τ).loc Cert.MixOutBwdIdeal.main_arg1)
      ∧ m' ((c.tc : Thread Cert.MixOutBwdRefIdeal.nD Cert.MixOutBwdRefIdeal.τ).loc Cert.MixOutBwdRefIdeal.main_arg2) = m ((c.tc : Thread Cert.MixOutBwdIdeal.nD Cert.MixOutBwdIdeal.τ).loc Cert.MixOutBwdIdeal.main_arg2)
      ∧ m' ((c.tc : Thread Cert.MixOutBwdRefIdeal.nD Cert.MixOutBwdRefIdeal.τ).loc Cert.MixOutBwdRefIdeal.main_arg3) = m ((c.tc : Thread Cert.MixOutBwdIdeal.nD Cert.MixOutBwdIdeal.τ).loc Cert.MixOutBwdIdeal.main_arg3)) →
    ∃ (v0 : (c : Dev Cert.MixOutBwdIdeal.nD) → Buf (Elt Ideal) ((c.tc : Thread Cert.MixOutBwdIdeal.nD Cert.MixOutBwdIdeal.τ).loc Cert.MixOutBwdIdeal.main_v3_0)) (v1 : (c : Dev Cert.MixOutBwdIdeal.nD) → Buf (Elt Ideal) ((c.tc : Thread Cert.MixOutBwdIdeal.nD Cert.MixOutBwdIdeal.τ).loc Cert.MixOutBwdIdeal.main_v3_1)) (v2 : (c : Dev Cert.MixOutBwdIdeal.nD) → Buf (Elt Ideal) ((c.tc : Thread Cert.MixOutBwdIdeal.nD Cert.MixOutBwdIdeal.τ).loc Cert.MixOutBwdIdeal.main_v4)),
      θ_run (Cert.MixOutBwdIdeal.defs (F := Ideal)) (onTc (τ := Cert.MixOutBwdIdeal.τ) (Cert.MixOutBwdIdeal.main (F := Ideal))) ⟨m, fun _ => 0, g⟩ (fun r => ∀ c : Dev Cert.MixOutBwdIdeal.nD,
          r.2.mem ((c.tc : Thread Cert.MixOutBwdIdeal.nD Cert.MixOutBwdIdeal.τ).loc Cert.MixOutBwdIdeal.main_v3_0) = v0 c
          ∧ r.2.mem ((c.tc : Thread Cert.MixOutBwdIdeal.nD Cert.MixOutBwdIdeal.τ).loc Cert.MixOutBwdIdeal.main_v3_1) = v1 c
          ∧ r.2.mem ((c.tc : Thread Cert.MixOutBwdIdeal.nD Cert.MixOutBwdIdeal.τ).loc Cert.MixOutBwdIdeal.main_v4) = v2 c
          ∧ r.2.mem ((c.tc : Thread Cert.MixOutBwdIdeal.nD Cert.MixOutBwdIdeal.τ).loc Cert.MixOutBwdIdeal.main_arg0) = m ((c.tc : Thread Cert.MixOutBwdIdeal.nD Cert.MixOutBwdIdeal.τ).loc Cert.MixOutBwdIdeal.main_arg0)
          ∧ r.2.mem ((c.tc : Thread Cert.MixOutBwdIdeal.nD Cert.MixOutBwdIdeal.τ).loc Cert.MixOutBwdIdeal.main_arg1) = m ((c.tc : Thread Cert.MixOutBwdIdeal.nD Cert.MixOutBwdIdeal.τ).loc Cert.MixOutBwdIdeal.main_arg1)
          ∧ r.2.mem ((c.tc : Thread Cert.MixOutBwdIdeal.nD Cert.MixOutBwdIdeal.τ).loc Cert.MixOutBwdIdeal.main_arg2) = m ((c.tc : Thread Cert.MixOutBwdIdeal.nD Cert.MixOutBwdIdeal.τ).loc Cert.MixOutBwdIdeal.main_arg2)
          ∧ r.2.mem ((c.tc : Thread Cert.MixOutBwdIdeal.nD Cert.MixOutBwdIdeal.τ).loc Cert.MixOutBwdIdeal.main_arg3) = m ((c.tc : Thread Cert.MixOutBwdIdeal.nD Cert.MixOutBwdIdeal.τ).loc Cert.MixOutBwdIdeal.main_arg3))
      ∧ θ_run (Cert.MixOutBwdRefIdeal.defs (F := Ideal)) (onTc (τ := Cert.MixOutBwdRefIdeal.τ) (Cert.MixOutBwdRefIdeal.main (F := Ideal))) ⟨m', fun _ => 0, g'⟩ (fun r => ∀ c : Dev Cert.MixOutBwdRefIdeal.nD,
          r.2.mem ((c.tc : Thread Cert.MixOutBwdRefIdeal.nD Cert.MixOutBwdRefIdeal.τ).loc Cert.MixOutBwdRefIdeal.main_v37) = v0 c
          ∧ r.2.mem ((c.tc : Thread Cert.MixOutBwdRefIdeal.nD Cert.MixOutBwdRefIdeal.τ).loc Cert.MixOutBwdRefIdeal.main_v38) = v1 c
          ∧ r.2.mem ((c.tc : Thread Cert.MixOutBwdRefIdeal.nD Cert.MixOutBwdRefIdeal.τ).loc Cert.MixOutBwdRefIdeal.main_v20) = v2 c
          ∧ r.2.mem ((c.tc : Thread Cert.MixOutBwdRefIdeal.nD Cert.MixOutBwdRefIdeal.τ).loc Cert.MixOutBwdRefIdeal.main_arg0) = m' ((c.tc : Thread Cert.MixOutBwdRefIdeal.nD Cert.MixOutBwdRefIdeal.τ).loc Cert.MixOutBwdRefIdeal.main_arg0)
          ∧ r.2.mem ((c.tc : Thread Cert.MixOutBwdRefIdeal.nD Cert.MixOutBwdRefIdeal.τ).loc Cert.MixOutBwdRefIdeal.main_arg1) = m' ((c.tc : Thread Cert.MixOutBwdRefIdeal.nD Cert.MixOutBwdRefIdeal.τ).loc Cert.MixOutBwdRefIdeal.main_arg1)
          ∧ r.2.mem ((c.tc : Thread Cert.MixOutBwdRefIdeal.nD Cert.MixOutBwdRefIdeal.τ).loc Cert.MixOutBwdRefIdeal.main_arg2) = m' ((c.tc : Thread Cert.MixOutBwdRefIdeal.nD Cert.MixOutBwdRefIdeal.τ).loc Cert.MixOutBwdRefIdeal.main_arg2)
          ∧ r.2.mem ((c.tc : Thread Cert.MixOutBwdRefIdeal.nD Cert.MixOutBwdRefIdeal.τ).loc Cert.MixOutBwdRefIdeal.main_arg3) = m' ((c.tc : Thread Cert.MixOutBwdRefIdeal.nD Cert.MixOutBwdRefIdeal.τ).loc Cert.MixOutBwdRefIdeal.main_arg3))

def preserves_AttQBwd_AttQBwdIdeal : Prop :=
  True

def algebraic_AttQBwdIdeal_AttQBwdRefIdeal [hAttQBwdIdeal : Cert.AttQBwdIdeal.Facts] [hAttQBwdRefIdeal : Cert.AttQBwdRefIdeal.Facts] : Prop :=
  ∀ (m : (ℓ : Loc Cert.AttQBwdIdeal.nD Cert.AttQBwdIdeal.τ Cert.AttQBwdIdeal.sig) → Buf (Elt Ideal) ℓ) (g : Dev Cert.AttQBwdIdeal.nD → PrngReg)
    (m' : (ℓ : Loc Cert.AttQBwdRefIdeal.nD Cert.AttQBwdRefIdeal.τ Cert.AttQBwdRefIdeal.sig) → Buf (Elt Ideal) ℓ) (g' : Dev Cert.AttQBwdRefIdeal.nD → PrngReg), Pre_AttQBwdIdeal m →
    (∀ c : Dev Cert.AttQBwdIdeal.nD,
      m' ((c.tc : Thread Cert.AttQBwdRefIdeal.nD Cert.AttQBwdRefIdeal.τ).loc Cert.AttQBwdRefIdeal.main_arg0) = m ((c.tc : Thread Cert.AttQBwdIdeal.nD Cert.AttQBwdIdeal.τ).loc Cert.AttQBwdIdeal.main_arg0)
      ∧ m' ((c.tc : Thread Cert.AttQBwdRefIdeal.nD Cert.AttQBwdRefIdeal.τ).loc Cert.AttQBwdRefIdeal.main_arg1) = m ((c.tc : Thread Cert.AttQBwdIdeal.nD Cert.AttQBwdIdeal.τ).loc Cert.AttQBwdIdeal.main_arg1)
      ∧ m' ((c.tc : Thread Cert.AttQBwdRefIdeal.nD Cert.AttQBwdRefIdeal.τ).loc Cert.AttQBwdRefIdeal.main_arg2) = m ((c.tc : Thread Cert.AttQBwdIdeal.nD Cert.AttQBwdIdeal.τ).loc Cert.AttQBwdIdeal.main_arg2)
      ∧ m' ((c.tc : Thread Cert.AttQBwdRefIdeal.nD Cert.AttQBwdRefIdeal.τ).loc Cert.AttQBwdRefIdeal.main_arg3) = m ((c.tc : Thread Cert.AttQBwdIdeal.nD Cert.AttQBwdIdeal.τ).loc Cert.AttQBwdIdeal.main_arg3)
      ∧ m' ((c.tc : Thread Cert.AttQBwdRefIdeal.nD Cert.AttQBwdRefIdeal.τ).loc Cert.AttQBwdRefIdeal.main_arg4) = m ((c.tc : Thread Cert.AttQBwdIdeal.nD Cert.AttQBwdIdeal.τ).loc Cert.AttQBwdIdeal.main_arg4)) →
    ∃ (v0 : (c : Dev Cert.AttQBwdIdeal.nD) → Buf (Elt Ideal) ((c.tc : Thread Cert.AttQBwdIdeal.nD Cert.AttQBwdIdeal.τ).loc Cert.AttQBwdIdeal.main_v0_0)) (v1 : (c : Dev Cert.AttQBwdIdeal.nD) → Buf (Elt Ideal) ((c.tc : Thread Cert.AttQBwdIdeal.nD Cert.AttQBwdIdeal.τ).loc Cert.AttQBwdIdeal.main_v1)),
      θ_run (Cert.AttQBwdIdeal.defs (F := Ideal)) (onTc (τ := Cert.AttQBwdIdeal.τ) (Cert.AttQBwdIdeal.main (F := Ideal))) ⟨m, fun _ => 0, g⟩ (fun r => ∀ c : Dev Cert.AttQBwdIdeal.nD,
          r.2.mem ((c.tc : Thread Cert.AttQBwdIdeal.nD Cert.AttQBwdIdeal.τ).loc Cert.AttQBwdIdeal.main_v0_0) = v0 c
          ∧ r.2.mem ((c.tc : Thread Cert.AttQBwdIdeal.nD Cert.AttQBwdIdeal.τ).loc Cert.AttQBwdIdeal.main_v1) = v1 c
          ∧ r.2.mem ((c.tc : Thread Cert.AttQBwdIdeal.nD Cert.AttQBwdIdeal.τ).loc Cert.AttQBwdIdeal.main_arg0) = m ((c.tc : Thread Cert.AttQBwdIdeal.nD Cert.AttQBwdIdeal.τ).loc Cert.AttQBwdIdeal.main_arg0)
          ∧ r.2.mem ((c.tc : Thread Cert.AttQBwdIdeal.nD Cert.AttQBwdIdeal.τ).loc Cert.AttQBwdIdeal.main_arg1) = m ((c.tc : Thread Cert.AttQBwdIdeal.nD Cert.AttQBwdIdeal.τ).loc Cert.AttQBwdIdeal.main_arg1)
          ∧ r.2.mem ((c.tc : Thread Cert.AttQBwdIdeal.nD Cert.AttQBwdIdeal.τ).loc Cert.AttQBwdIdeal.main_arg2) = m ((c.tc : Thread Cert.AttQBwdIdeal.nD Cert.AttQBwdIdeal.τ).loc Cert.AttQBwdIdeal.main_arg2)
          ∧ r.2.mem ((c.tc : Thread Cert.AttQBwdIdeal.nD Cert.AttQBwdIdeal.τ).loc Cert.AttQBwdIdeal.main_arg3) = m ((c.tc : Thread Cert.AttQBwdIdeal.nD Cert.AttQBwdIdeal.τ).loc Cert.AttQBwdIdeal.main_arg3)
          ∧ r.2.mem ((c.tc : Thread Cert.AttQBwdIdeal.nD Cert.AttQBwdIdeal.τ).loc Cert.AttQBwdIdeal.main_arg4) = m ((c.tc : Thread Cert.AttQBwdIdeal.nD Cert.AttQBwdIdeal.τ).loc Cert.AttQBwdIdeal.main_arg4))
      ∧ θ_run (Cert.AttQBwdRefIdeal.defs (F := Ideal)) (onTc (τ := Cert.AttQBwdRefIdeal.τ) (Cert.AttQBwdRefIdeal.main (F := Ideal))) ⟨m', fun _ => 0, g'⟩ (fun r => ∀ c : Dev Cert.AttQBwdRefIdeal.nD,
          r.2.mem ((c.tc : Thread Cert.AttQBwdRefIdeal.nD Cert.AttQBwdRefIdeal.τ).loc Cert.AttQBwdRefIdeal.main_v38) = v0 c
          ∧ r.2.mem ((c.tc : Thread Cert.AttQBwdRefIdeal.nD Cert.AttQBwdRefIdeal.τ).loc Cert.AttQBwdRefIdeal.main_v21) = v1 c
          ∧ r.2.mem ((c.tc : Thread Cert.AttQBwdRefIdeal.nD Cert.AttQBwdRefIdeal.τ).loc Cert.AttQBwdRefIdeal.main_arg0) = m' ((c.tc : Thread Cert.AttQBwdRefIdeal.nD Cert.AttQBwdRefIdeal.τ).loc Cert.AttQBwdRefIdeal.main_arg0)
          ∧ r.2.mem ((c.tc : Thread Cert.AttQBwdRefIdeal.nD Cert.AttQBwdRefIdeal.τ).loc Cert.AttQBwdRefIdeal.main_arg1) = m' ((c.tc : Thread Cert.AttQBwdRefIdeal.nD Cert.AttQBwdRefIdeal.τ).loc Cert.AttQBwdRefIdeal.main_arg1)
          ∧ r.2.mem ((c.tc : Thread Cert.AttQBwdRefIdeal.nD Cert.AttQBwdRefIdeal.τ).loc Cert.AttQBwdRefIdeal.main_arg2) = m' ((c.tc : Thread Cert.AttQBwdRefIdeal.nD Cert.AttQBwdRefIdeal.τ).loc Cert.AttQBwdRefIdeal.main_arg2)
          ∧ r.2.mem ((c.tc : Thread Cert.AttQBwdRefIdeal.nD Cert.AttQBwdRefIdeal.τ).loc Cert.AttQBwdRefIdeal.main_arg3) = m' ((c.tc : Thread Cert.AttQBwdRefIdeal.nD Cert.AttQBwdRefIdeal.τ).loc Cert.AttQBwdRefIdeal.main_arg3)
          ∧ r.2.mem ((c.tc : Thread Cert.AttQBwdRefIdeal.nD Cert.AttQBwdRefIdeal.τ).loc Cert.AttQBwdRefIdeal.main_arg4) = m' ((c.tc : Thread Cert.AttQBwdRefIdeal.nD Cert.AttQBwdRefIdeal.τ).loc Cert.AttQBwdRefIdeal.main_arg4))

def preserves_MixInBwd_MixInBwdIdeal : Prop :=
  True

def algebraic_MixInBwdIdeal_MixInBwdRefIdeal [hMixInBwdIdeal : Cert.MixInBwdIdeal.Facts] [hMixInBwdRefIdeal : Cert.MixInBwdRefIdeal.Facts] : Prop :=
  ∀ (m : (ℓ : Loc Cert.MixInBwdIdeal.nD Cert.MixInBwdIdeal.τ Cert.MixInBwdIdeal.sig) → Buf (Elt Ideal) ℓ) (g : Dev Cert.MixInBwdIdeal.nD → PrngReg)
    (m' : (ℓ : Loc Cert.MixInBwdRefIdeal.nD Cert.MixInBwdRefIdeal.τ Cert.MixInBwdRefIdeal.sig) → Buf (Elt Ideal) ℓ) (g' : Dev Cert.MixInBwdRefIdeal.nD → PrngReg), Pre_MixInBwdIdeal m →
    (∀ c : Dev Cert.MixInBwdIdeal.nD,
      m' ((c.tc : Thread Cert.MixInBwdRefIdeal.nD Cert.MixInBwdRefIdeal.τ).loc Cert.MixInBwdRefIdeal.main_arg0) = m ((c.tc : Thread Cert.MixInBwdIdeal.nD Cert.MixInBwdIdeal.τ).loc Cert.MixInBwdIdeal.main_arg0)
      ∧ m' ((c.tc : Thread Cert.MixInBwdRefIdeal.nD Cert.MixInBwdRefIdeal.τ).loc Cert.MixInBwdRefIdeal.main_arg1) = m ((c.tc : Thread Cert.MixInBwdIdeal.nD Cert.MixInBwdIdeal.τ).loc Cert.MixInBwdIdeal.main_arg1)
      ∧ m' ((c.tc : Thread Cert.MixInBwdRefIdeal.nD Cert.MixInBwdRefIdeal.τ).loc Cert.MixInBwdRefIdeal.main_arg2) = m ((c.tc : Thread Cert.MixInBwdIdeal.nD Cert.MixInBwdIdeal.τ).loc Cert.MixInBwdIdeal.main_arg2)
      ∧ m' ((c.tc : Thread Cert.MixInBwdRefIdeal.nD Cert.MixInBwdRefIdeal.τ).loc Cert.MixInBwdRefIdeal.main_arg3) = m ((c.tc : Thread Cert.MixInBwdIdeal.nD Cert.MixInBwdIdeal.τ).loc Cert.MixInBwdIdeal.main_arg3)
      ∧ m' ((c.tc : Thread Cert.MixInBwdRefIdeal.nD Cert.MixInBwdRefIdeal.τ).loc Cert.MixInBwdRefIdeal.main_arg4) = m ((c.tc : Thread Cert.MixInBwdIdeal.nD Cert.MixInBwdIdeal.τ).loc Cert.MixInBwdIdeal.main_arg4)) →
    ∃ (v0 : (c : Dev Cert.MixInBwdIdeal.nD) → Buf (Elt Ideal) ((c.tc : Thread Cert.MixInBwdIdeal.nD Cert.MixInBwdIdeal.τ).loc Cert.MixInBwdIdeal.main_v0_0)) (v1 : (c : Dev Cert.MixInBwdIdeal.nD) → Buf (Elt Ideal) ((c.tc : Thread Cert.MixInBwdIdeal.nD Cert.MixInBwdIdeal.τ).loc Cert.MixInBwdIdeal.main_v1)),
      θ_run (Cert.MixInBwdIdeal.defs (F := Ideal)) (onTc (τ := Cert.MixInBwdIdeal.τ) (Cert.MixInBwdIdeal.main (F := Ideal))) ⟨m, fun _ => 0, g⟩ (fun r => ∀ c : Dev Cert.MixInBwdIdeal.nD,
          r.2.mem ((c.tc : Thread Cert.MixInBwdIdeal.nD Cert.MixInBwdIdeal.τ).loc Cert.MixInBwdIdeal.main_v0_0) = v0 c
          ∧ r.2.mem ((c.tc : Thread Cert.MixInBwdIdeal.nD Cert.MixInBwdIdeal.τ).loc Cert.MixInBwdIdeal.main_v1) = v1 c
          ∧ r.2.mem ((c.tc : Thread Cert.MixInBwdIdeal.nD Cert.MixInBwdIdeal.τ).loc Cert.MixInBwdIdeal.main_arg0) = m ((c.tc : Thread Cert.MixInBwdIdeal.nD Cert.MixInBwdIdeal.τ).loc Cert.MixInBwdIdeal.main_arg0)
          ∧ r.2.mem ((c.tc : Thread Cert.MixInBwdIdeal.nD Cert.MixInBwdIdeal.τ).loc Cert.MixInBwdIdeal.main_arg1) = m ((c.tc : Thread Cert.MixInBwdIdeal.nD Cert.MixInBwdIdeal.τ).loc Cert.MixInBwdIdeal.main_arg1)
          ∧ r.2.mem ((c.tc : Thread Cert.MixInBwdIdeal.nD Cert.MixInBwdIdeal.τ).loc Cert.MixInBwdIdeal.main_arg2) = m ((c.tc : Thread Cert.MixInBwdIdeal.nD Cert.MixInBwdIdeal.τ).loc Cert.MixInBwdIdeal.main_arg2)
          ∧ r.2.mem ((c.tc : Thread Cert.MixInBwdIdeal.nD Cert.MixInBwdIdeal.τ).loc Cert.MixInBwdIdeal.main_arg3) = m ((c.tc : Thread Cert.MixInBwdIdeal.nD Cert.MixInBwdIdeal.τ).loc Cert.MixInBwdIdeal.main_arg3)
          ∧ r.2.mem ((c.tc : Thread Cert.MixInBwdIdeal.nD Cert.MixInBwdIdeal.τ).loc Cert.MixInBwdIdeal.main_arg4) = m ((c.tc : Thread Cert.MixInBwdIdeal.nD Cert.MixInBwdIdeal.τ).loc Cert.MixInBwdIdeal.main_arg4))
      ∧ θ_run (Cert.MixInBwdRefIdeal.defs (F := Ideal)) (onTc (τ := Cert.MixInBwdRefIdeal.τ) (Cert.MixInBwdRefIdeal.main (F := Ideal))) ⟨m', fun _ => 0, g'⟩ (fun r => ∀ c : Dev Cert.MixInBwdRefIdeal.nD,
          r.2.mem ((c.tc : Thread Cert.MixInBwdRefIdeal.nD Cert.MixInBwdRefIdeal.τ).loc Cert.MixInBwdRefIdeal.main_v39) = v0 c
          ∧ r.2.mem ((c.tc : Thread Cert.MixInBwdRefIdeal.nD Cert.MixInBwdRefIdeal.τ).loc Cert.MixInBwdRefIdeal.main_v22) = v1 c
          ∧ r.2.mem ((c.tc : Thread Cert.MixInBwdRefIdeal.nD Cert.MixInBwdRefIdeal.τ).loc Cert.MixInBwdRefIdeal.main_arg0) = m' ((c.tc : Thread Cert.MixInBwdRefIdeal.nD Cert.MixInBwdRefIdeal.τ).loc Cert.MixInBwdRefIdeal.main_arg0)
          ∧ r.2.mem ((c.tc : Thread Cert.MixInBwdRefIdeal.nD Cert.MixInBwdRefIdeal.τ).loc Cert.MixInBwdRefIdeal.main_arg1) = m' ((c.tc : Thread Cert.MixInBwdRefIdeal.nD Cert.MixInBwdRefIdeal.τ).loc Cert.MixInBwdRefIdeal.main_arg1)
          ∧ r.2.mem ((c.tc : Thread Cert.MixInBwdRefIdeal.nD Cert.MixInBwdRefIdeal.τ).loc Cert.MixInBwdRefIdeal.main_arg2) = m' ((c.tc : Thread Cert.MixInBwdRefIdeal.nD Cert.MixInBwdRefIdeal.τ).loc Cert.MixInBwdRefIdeal.main_arg2)
          ∧ r.2.mem ((c.tc : Thread Cert.MixInBwdRefIdeal.nD Cert.MixInBwdRefIdeal.τ).loc Cert.MixInBwdRefIdeal.main_arg3) = m' ((c.tc : Thread Cert.MixInBwdRefIdeal.nD Cert.MixInBwdRefIdeal.τ).loc Cert.MixInBwdRefIdeal.main_arg3)
          ∧ r.2.mem ((c.tc : Thread Cert.MixInBwdRefIdeal.nD Cert.MixInBwdRefIdeal.τ).loc Cert.MixInBwdRefIdeal.main_arg4) = m' ((c.tc : Thread Cert.MixInBwdRefIdeal.nD Cert.MixInBwdRefIdeal.τ).loc Cert.MixInBwdRefIdeal.main_arg4))

def preserves_AttKvBwd_AttKvBwdIdeal : Prop :=
  True

def algebraic_AttKvBwdIdeal_AttKvBwdRefIdeal [hAttKvBwdIdeal : Cert.AttKvBwdIdeal.Facts] [hAttKvBwdRefIdeal : Cert.AttKvBwdRefIdeal.Facts] : Prop :=
  ∀ (m : (ℓ : Loc Cert.AttKvBwdIdeal.nD Cert.AttKvBwdIdeal.τ Cert.AttKvBwdIdeal.sig) → Buf (Elt Ideal) ℓ) (g : Dev Cert.AttKvBwdIdeal.nD → PrngReg)
    (m' : (ℓ : Loc Cert.AttKvBwdRefIdeal.nD Cert.AttKvBwdRefIdeal.τ Cert.AttKvBwdRefIdeal.sig) → Buf (Elt Ideal) ℓ) (g' : Dev Cert.AttKvBwdRefIdeal.nD → PrngReg), Pre_AttKvBwdIdeal m →
    (∀ c : Dev Cert.AttKvBwdIdeal.nD,
      m' ((c.tc : Thread Cert.AttKvBwdRefIdeal.nD Cert.AttKvBwdRefIdeal.τ).loc Cert.AttKvBwdRefIdeal.main_arg0) = m ((c.tc : Thread Cert.AttKvBwdIdeal.nD Cert.AttKvBwdIdeal.τ).loc Cert.AttKvBwdIdeal.main_arg0)
      ∧ m' ((c.tc : Thread Cert.AttKvBwdRefIdeal.nD Cert.AttKvBwdRefIdeal.τ).loc Cert.AttKvBwdRefIdeal.main_arg1) = m ((c.tc : Thread Cert.AttKvBwdIdeal.nD Cert.AttKvBwdIdeal.τ).loc Cert.AttKvBwdIdeal.main_arg1)
      ∧ m' ((c.tc : Thread Cert.AttKvBwdRefIdeal.nD Cert.AttKvBwdRefIdeal.τ).loc Cert.AttKvBwdRefIdeal.main_arg2) = m ((c.tc : Thread Cert.AttKvBwdIdeal.nD Cert.AttKvBwdIdeal.τ).loc Cert.AttKvBwdIdeal.main_arg2)
      ∧ m' ((c.tc : Thread Cert.AttKvBwdRefIdeal.nD Cert.AttKvBwdRefIdeal.τ).loc Cert.AttKvBwdRefIdeal.main_arg3) = m ((c.tc : Thread Cert.AttKvBwdIdeal.nD Cert.AttKvBwdIdeal.τ).loc Cert.AttKvBwdIdeal.main_arg3)
      ∧ m' ((c.tc : Thread Cert.AttKvBwdRefIdeal.nD Cert.AttKvBwdRefIdeal.τ).loc Cert.AttKvBwdRefIdeal.main_arg4) = m ((c.tc : Thread Cert.AttKvBwdIdeal.nD Cert.AttKvBwdIdeal.τ).loc Cert.AttKvBwdIdeal.main_arg4)
      ∧ m' ((c.tc : Thread Cert.AttKvBwdRefIdeal.nD Cert.AttKvBwdRefIdeal.τ).loc Cert.AttKvBwdRefIdeal.main_arg5) = m ((c.tc : Thread Cert.AttKvBwdIdeal.nD Cert.AttKvBwdIdeal.τ).loc Cert.AttKvBwdIdeal.main_arg5)) →
    ∃ (v0 : (c : Dev Cert.AttKvBwdIdeal.nD) → Buf (Elt Ideal) ((c.tc : Thread Cert.AttKvBwdIdeal.nD Cert.AttKvBwdIdeal.τ).loc Cert.AttKvBwdIdeal.main_v1)),
      θ_run (Cert.AttKvBwdIdeal.defs (F := Ideal)) (onTc (τ := Cert.AttKvBwdIdeal.τ) (Cert.AttKvBwdIdeal.main (F := Ideal))) ⟨m, fun _ => 0, g⟩ (fun r => ∀ c : Dev Cert.AttKvBwdIdeal.nD,
          r.2.mem ((c.tc : Thread Cert.AttKvBwdIdeal.nD Cert.AttKvBwdIdeal.τ).loc Cert.AttKvBwdIdeal.main_v1) = v0 c
          ∧ r.2.mem ((c.tc : Thread Cert.AttKvBwdIdeal.nD Cert.AttKvBwdIdeal.τ).loc Cert.AttKvBwdIdeal.main_arg0) = m ((c.tc : Thread Cert.AttKvBwdIdeal.nD Cert.AttKvBwdIdeal.τ).loc Cert.AttKvBwdIdeal.main_arg0)
          ∧ r.2.mem ((c.tc : Thread Cert.AttKvBwdIdeal.nD Cert.AttKvBwdIdeal.τ).loc Cert.AttKvBwdIdeal.main_arg1) = m ((c.tc : Thread Cert.AttKvBwdIdeal.nD Cert.AttKvBwdIdeal.τ).loc Cert.AttKvBwdIdeal.main_arg1)
          ∧ r.2.mem ((c.tc : Thread Cert.AttKvBwdIdeal.nD Cert.AttKvBwdIdeal.τ).loc Cert.AttKvBwdIdeal.main_arg2) = m ((c.tc : Thread Cert.AttKvBwdIdeal.nD Cert.AttKvBwdIdeal.τ).loc Cert.AttKvBwdIdeal.main_arg2)
          ∧ r.2.mem ((c.tc : Thread Cert.AttKvBwdIdeal.nD Cert.AttKvBwdIdeal.τ).loc Cert.AttKvBwdIdeal.main_arg3) = m ((c.tc : Thread Cert.AttKvBwdIdeal.nD Cert.AttKvBwdIdeal.τ).loc Cert.AttKvBwdIdeal.main_arg3)
          ∧ r.2.mem ((c.tc : Thread Cert.AttKvBwdIdeal.nD Cert.AttKvBwdIdeal.τ).loc Cert.AttKvBwdIdeal.main_arg4) = m ((c.tc : Thread Cert.AttKvBwdIdeal.nD Cert.AttKvBwdIdeal.τ).loc Cert.AttKvBwdIdeal.main_arg4)
          ∧ r.2.mem ((c.tc : Thread Cert.AttKvBwdIdeal.nD Cert.AttKvBwdIdeal.τ).loc Cert.AttKvBwdIdeal.main_arg5) = m ((c.tc : Thread Cert.AttKvBwdIdeal.nD Cert.AttKvBwdIdeal.τ).loc Cert.AttKvBwdIdeal.main_arg5))
      ∧ θ_run (Cert.AttKvBwdRefIdeal.defs (F := Ideal)) (onTc (τ := Cert.AttKvBwdRefIdeal.τ) (Cert.AttKvBwdRefIdeal.main (F := Ideal))) ⟨m', fun _ => 0, g'⟩ (fun r => ∀ c : Dev Cert.AttKvBwdRefIdeal.nD,
          r.2.mem ((c.tc : Thread Cert.AttKvBwdRefIdeal.nD Cert.AttKvBwdRefIdeal.τ).loc Cert.AttKvBwdRefIdeal.main_v23) = v0 c
          ∧ r.2.mem ((c.tc : Thread Cert.AttKvBwdRefIdeal.nD Cert.AttKvBwdRefIdeal.τ).loc Cert.AttKvBwdRefIdeal.main_arg0) = m' ((c.tc : Thread Cert.AttKvBwdRefIdeal.nD Cert.AttKvBwdRefIdeal.τ).loc Cert.AttKvBwdRefIdeal.main_arg0)
          ∧ r.2.mem ((c.tc : Thread Cert.AttKvBwdRefIdeal.nD Cert.AttKvBwdRefIdeal.τ).loc Cert.AttKvBwdRefIdeal.main_arg1) = m' ((c.tc : Thread Cert.AttKvBwdRefIdeal.nD Cert.AttKvBwdRefIdeal.τ).loc Cert.AttKvBwdRefIdeal.main_arg1)
          ∧ r.2.mem ((c.tc : Thread Cert.AttKvBwdRefIdeal.nD Cert.AttKvBwdRefIdeal.τ).loc Cert.AttKvBwdRefIdeal.main_arg2) = m' ((c.tc : Thread Cert.AttKvBwdRefIdeal.nD Cert.AttKvBwdRefIdeal.τ).loc Cert.AttKvBwdRefIdeal.main_arg2)
          ∧ r.2.mem ((c.tc : Thread Cert.AttKvBwdRefIdeal.nD Cert.AttKvBwdRefIdeal.τ).loc Cert.AttKvBwdRefIdeal.main_arg3) = m' ((c.tc : Thread Cert.AttKvBwdRefIdeal.nD Cert.AttKvBwdRefIdeal.τ).loc Cert.AttKvBwdRefIdeal.main_arg3)
          ∧ r.2.mem ((c.tc : Thread Cert.AttKvBwdRefIdeal.nD Cert.AttKvBwdRefIdeal.τ).loc Cert.AttKvBwdRefIdeal.main_arg4) = m' ((c.tc : Thread Cert.AttKvBwdRefIdeal.nD Cert.AttKvBwdRefIdeal.τ).loc Cert.AttKvBwdRefIdeal.main_arg4)
          ∧ r.2.mem ((c.tc : Thread Cert.AttKvBwdRefIdeal.nD Cert.AttKvBwdRefIdeal.τ).loc Cert.AttKvBwdRefIdeal.main_arg5) = m' ((c.tc : Thread Cert.AttKvBwdRefIdeal.nD Cert.AttKvBwdRefIdeal.τ).loc Cert.AttKvBwdRefIdeal.main_arg5))

def preserves_DownBwd_DownBwdIdeal : Prop :=
  True

def algebraic_DownBwdIdeal_DownBwdRefIdeal [hDownBwdIdeal : Cert.DownBwdIdeal.Facts] [hDownBwdRefIdeal : Cert.DownBwdRefIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownBwdRefIdeal.nD Cert.DownBwdRefIdeal.τ Cert.DownBwdRefIdeal.sig) → Buf (Elt Ideal) ℓ) (g' : Dev Cert.DownBwdRefIdeal.nD → PrngReg), Pre_DownBwdIdeal m →
    (∀ c : Dev Cert.DownBwdIdeal.nD,
      m' ((c.tc : Thread Cert.DownBwdRefIdeal.nD Cert.DownBwdRefIdeal.τ).loc Cert.DownBwdRefIdeal.main_arg0) = m ((c.tc : Thread Cert.DownBwdIdeal.nD Cert.DownBwdIdeal.τ).loc Cert.DownBwdIdeal.main_arg0)
      ∧ m' ((c.tc : Thread Cert.DownBwdRefIdeal.nD Cert.DownBwdRefIdeal.τ).loc Cert.DownBwdRefIdeal.main_arg1) = m ((c.tc : Thread Cert.DownBwdIdeal.nD Cert.DownBwdIdeal.τ).loc Cert.DownBwdIdeal.main_arg1)
      ∧ m' ((c.tc : Thread Cert.DownBwdRefIdeal.nD Cert.DownBwdRefIdeal.τ).loc Cert.DownBwdRefIdeal.main_arg2) = m ((c.tc : Thread Cert.DownBwdIdeal.nD Cert.DownBwdIdeal.τ).loc Cert.DownBwdIdeal.main_arg2)
      ∧ m' ((c.tc : Thread Cert.DownBwdRefIdeal.nD Cert.DownBwdRefIdeal.τ).loc Cert.DownBwdRefIdeal.main_arg3) = m ((c.tc : Thread Cert.DownBwdIdeal.nD Cert.DownBwdIdeal.τ).loc Cert.DownBwdIdeal.main_arg3)) →
    ∃ (v0 : (c : Dev Cert.DownBwdIdeal.nD) → Buf (Elt Ideal) ((c.tc : Thread Cert.DownBwdIdeal.nD Cert.DownBwdIdeal.τ).loc Cert.DownBwdIdeal.main_v4_0)) (v1 : (c : Dev Cert.DownBwdIdeal.nD) → Buf (Elt Ideal) ((c.tc : Thread Cert.DownBwdIdeal.nD Cert.DownBwdIdeal.τ).loc Cert.DownBwdIdeal.main_v4_1)) (v2 : (c : Dev Cert.DownBwdIdeal.nD) → Buf (Elt Ideal) ((c.tc : Thread Cert.DownBwdIdeal.nD Cert.DownBwdIdeal.τ).loc Cert.DownBwdIdeal.main_v5)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v4_0) = v0 c
          ∧ r.2.mem ((c.tc : Thread Cert.DownBwdIdeal.nD Cert.DownBwdIdeal.τ).loc Cert.DownBwdIdeal.main_v4_1) = v1 c
          ∧ r.2.mem ((c.tc : Thread Cert.DownBwdIdeal.nD Cert.DownBwdIdeal.τ).loc Cert.DownBwdIdeal.main_v5) = v2 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1)
          ∧ r.2.mem ((c.tc : Thread Cert.DownBwdIdeal.nD Cert.DownBwdIdeal.τ).loc Cert.DownBwdIdeal.main_arg2) = m ((c.tc : Thread Cert.DownBwdIdeal.nD Cert.DownBwdIdeal.τ).loc Cert.DownBwdIdeal.main_arg2)
          ∧ r.2.mem ((c.tc : Thread Cert.DownBwdIdeal.nD Cert.DownBwdIdeal.τ).loc Cert.DownBwdIdeal.main_arg3) = m ((c.tc : Thread Cert.DownBwdIdeal.nD Cert.DownBwdIdeal.τ).loc Cert.DownBwdIdeal.main_arg3))
      ∧ θ_run (Cert.DownBwdRefIdeal.defs (F := Ideal)) (onTc (τ := Cert.DownBwdRefIdeal.τ) (Cert.DownBwdRefIdeal.main (F := Ideal))) ⟨m', fun _ => 0, g'⟩ (fun r => ∀ c : Dev Cert.DownBwdRefIdeal.nD,
          r.2.mem ((c.tc : Thread Cert.DownBwdRefIdeal.nD Cert.DownBwdRefIdeal.τ).loc Cert.DownBwdRefIdeal.main_v47) = v0 c
          ∧ r.2.mem ((c.tc : Thread Cert.DownBwdRefIdeal.nD Cert.DownBwdRefIdeal.τ).loc Cert.DownBwdRefIdeal.main_v48) = v1 c
          ∧ r.2.mem ((c.tc : Thread Cert.DownBwdRefIdeal.nD Cert.DownBwdRefIdeal.τ).loc Cert.DownBwdRefIdeal.main_v26) = v2 c
          ∧ r.2.mem ((c.tc : Thread Cert.DownBwdRefIdeal.nD Cert.DownBwdRefIdeal.τ).loc Cert.DownBwdRefIdeal.main_arg0) = m' ((c.tc : Thread Cert.DownBwdRefIdeal.nD Cert.DownBwdRefIdeal.τ).loc Cert.DownBwdRefIdeal.main_arg0)
          ∧ r.2.mem ((c.tc : Thread Cert.DownBwdRefIdeal.nD Cert.DownBwdRefIdeal.τ).loc Cert.DownBwdRefIdeal.main_arg1) = m' ((c.tc : Thread Cert.DownBwdRefIdeal.nD Cert.DownBwdRefIdeal.τ).loc Cert.DownBwdRefIdeal.main_arg1)
          ∧ r.2.mem ((c.tc : Thread Cert.DownBwdRefIdeal.nD Cert.DownBwdRefIdeal.τ).loc Cert.DownBwdRefIdeal.main_arg2) = m' ((c.tc : Thread Cert.DownBwdRefIdeal.nD Cert.DownBwdRefIdeal.τ).loc Cert.DownBwdRefIdeal.main_arg2)
          ∧ r.2.mem ((c.tc : Thread Cert.DownBwdRefIdeal.nD Cert.DownBwdRefIdeal.τ).loc Cert.DownBwdRefIdeal.main_arg3) = m' ((c.tc : Thread Cert.DownBwdRefIdeal.nD Cert.DownBwdRefIdeal.τ).loc Cert.DownBwdRefIdeal.main_arg3))

def preserves_UpBwd_UpBwdIdeal : Prop :=
  True

def algebraic_UpBwdIdeal_UpBwdRefIdeal [hUpBwdIdeal : Cert.UpBwdIdeal.Facts] [hUpBwdRefIdeal : Cert.UpBwdRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)
      ∧ m' ((c.tc : Thread Cert.UpBwdRefIdeal.nD Cert.UpBwdRefIdeal.τ).loc Cert.UpBwdRefIdeal.main_arg4) = m ((c.tc : Thread Cert.UpBwdIdeal.nD Cert.UpBwdIdeal.τ).loc Cert.UpBwdIdeal.main_arg4)) →
    ∃ (v0 : (c : Dev Cert.UpBwdIdeal.nD) → Buf (Elt Ideal) ((c.tc : Thread Cert.UpBwdIdeal.nD Cert.UpBwdIdeal.τ).loc Cert.UpBwdIdeal.main_v0_0)) (v1 : (c : Dev Cert.UpBwdIdeal.nD) → Buf (Elt Ideal) ((c.tc : Thread Cert.UpBwdIdeal.nD Cert.UpBwdIdeal.τ).loc Cert.UpBwdIdeal.main_v1)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v0_0) = v0 c
          ∧ r.2.mem ((c.tc : Thread Cert.UpBwdIdeal.nD Cert.UpBwdIdeal.τ).loc Cert.UpBwdIdeal.main_v1) = v1 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3)
          ∧ r.2.mem ((c.tc : Thread Cert.UpBwdIdeal.nD Cert.UpBwdIdeal.τ).loc Cert.UpBwdIdeal.main_arg4) = m ((c.tc : Thread Cert.UpBwdIdeal.nD Cert.UpBwdIdeal.τ).loc Cert.UpBwdIdeal.main_arg4))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v39) = v0 c
          ∧ r.2.mem ((c.tc : Thread Cert.UpBwdRefIdeal.nD Cert.UpBwdRefIdeal.τ).loc Cert.UpBwdRefIdeal.main_v22) = v1 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3)
          ∧ r.2.mem ((c.tc : Thread Cert.UpBwdRefIdeal.nD Cert.UpBwdRefIdeal.τ).loc Cert.UpBwdRefIdeal.main_arg4) = m' ((c.tc : Thread Cert.UpBwdRefIdeal.nD Cert.UpBwdRefIdeal.τ).loc Cert.UpBwdRefIdeal.main_arg4))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v0_0)) (v1 : (c : Dev Cert.MixInIdeal.nD) → Buf (Elt Ideal) ((c.tc : Thread Cert.MixInIdeal.nD Cert.MixInIdeal.τ).loc Cert.MixInIdeal.main_v0_1)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0_0) = v0 c
          ∧ r.2.mem ((c.tc : Thread Cert.MixInIdeal.nD Cert.MixInIdeal.τ).loc Cert.MixInIdeal.main_v0_1) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v14) = v0 c
          ∧ r.2.mem ((c.tc : Thread Cert.MixInRefIdeal.nD Cert.MixInRefIdeal.τ).loc Cert.MixInRefIdeal.main_v15) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_AttQ_AttQIdeal : Prop :=
  True

def algebraic_AttQIdeal_AttQRefIdeal [hAttQIdeal : Cert.AttQIdeal.Facts] [hAttQRefIdeal : Cert.AttQRefIdeal.Facts] : Prop :=
  ∀ (m : (ℓ : Loc Cert.AttQIdeal.nD Cert.AttQIdeal.τ Cert.AttQIdeal.sig) → Buf (Elt Ideal) ℓ) (g : Dev Cert.AttQIdeal.nD → PrngReg)
    (m' : (ℓ : Loc Cert.AttQRefIdeal.nD Cert.AttQRefIdeal.τ Cert.AttQRefIdeal.sig) → Buf (Elt Ideal) ℓ) (g' : Dev Cert.AttQRefIdeal.nD → PrngReg), Pre_AttQIdeal m →
    (∀ c : Dev Cert.AttQIdeal.nD,
      m' ((c.tc : Thread Cert.AttQRefIdeal.nD Cert.AttQRefIdeal.τ).loc Cert.AttQRefIdeal.main_arg0) = m ((c.tc : Thread Cert.AttQIdeal.nD Cert.AttQIdeal.τ).loc Cert.AttQIdeal.main_arg0)
      ∧ m' ((c.tc : Thread Cert.AttQRefIdeal.nD Cert.AttQRefIdeal.τ).loc Cert.AttQRefIdeal.main_arg1) = m ((c.tc : Thread Cert.AttQIdeal.nD Cert.AttQIdeal.τ).loc Cert.AttQIdeal.main_arg1)
      ∧ m' ((c.tc : Thread Cert.AttQRefIdeal.nD Cert.AttQRefIdeal.τ).loc Cert.AttQRefIdeal.main_arg2) = m ((c.tc : Thread Cert.AttQIdeal.nD Cert.AttQIdeal.τ).loc Cert.AttQIdeal.main_arg2)) →
    ∃ (v0 : (c : Dev Cert.AttQIdeal.nD) → Buf (Elt Ideal) ((c.tc : Thread Cert.AttQIdeal.nD Cert.AttQIdeal.τ).loc Cert.AttQIdeal.main_v0_0)) (v1 : (c : Dev Cert.AttQIdeal.nD) → Buf (Elt Ideal) ((c.tc : Thread Cert.AttQIdeal.nD Cert.AttQIdeal.τ).loc Cert.AttQIdeal.main_v0_1)),
      θ_run (Cert.AttQIdeal.defs (F := Ideal)) (onTc (τ := Cert.AttQIdeal.τ) (Cert.AttQIdeal.main (F := Ideal))) ⟨m, fun _ => 0, g⟩ (fun r => ∀ c : Dev Cert.AttQIdeal.nD,
          r.2.mem ((c.tc : Thread Cert.AttQIdeal.nD Cert.AttQIdeal.τ).loc Cert.AttQIdeal.main_v0_0) = v0 c
          ∧ r.2.mem ((c.tc : Thread Cert.AttQIdeal.nD Cert.AttQIdeal.τ).loc Cert.AttQIdeal.main_v0_1) = v1 c
          ∧ r.2.mem ((c.tc : Thread Cert.AttQIdeal.nD Cert.AttQIdeal.τ).loc Cert.AttQIdeal.main_arg0) = m ((c.tc : Thread Cert.AttQIdeal.nD Cert.AttQIdeal.τ).loc Cert.AttQIdeal.main_arg0)
          ∧ r.2.mem ((c.tc : Thread Cert.AttQIdeal.nD Cert.AttQIdeal.τ).loc Cert.AttQIdeal.main_arg1) = m ((c.tc : Thread Cert.AttQIdeal.nD Cert.AttQIdeal.τ).loc Cert.AttQIdeal.main_arg1)
          ∧ r.2.mem ((c.tc : Thread Cert.AttQIdeal.nD Cert.AttQIdeal.τ).loc Cert.AttQIdeal.main_arg2) = m ((c.tc : Thread Cert.AttQIdeal.nD Cert.AttQIdeal.τ).loc Cert.AttQIdeal.main_arg2))
      ∧ θ_run (Cert.AttQRefIdeal.defs (F := Ideal)) (onTc (τ := Cert.AttQRefIdeal.τ) (Cert.AttQRefIdeal.main (F := Ideal))) ⟨m', fun _ => 0, g'⟩ (fun r => ∀ c : Dev Cert.AttQRefIdeal.nD,
          r.2.mem ((c.tc : Thread Cert.AttQRefIdeal.nD Cert.AttQRefIdeal.τ).loc Cert.AttQRefIdeal.main_v14) = v0 c
          ∧ r.2.mem ((c.tc : Thread Cert.AttQRefIdeal.nD Cert.AttQRefIdeal.τ).loc Cert.AttQRefIdeal.main_v15) = v1 c
          ∧ r.2.mem ((c.tc : Thread Cert.AttQRefIdeal.nD Cert.AttQRefIdeal.τ).loc Cert.AttQRefIdeal.main_arg0) = m' ((c.tc : Thread Cert.AttQRefIdeal.nD Cert.AttQRefIdeal.τ).loc Cert.AttQRefIdeal.main_arg0)
          ∧ r.2.mem ((c.tc : Thread Cert.AttQRefIdeal.nD Cert.AttQRefIdeal.τ).loc Cert.AttQRefIdeal.main_arg1) = m' ((c.tc : Thread Cert.AttQRefIdeal.nD Cert.AttQRefIdeal.τ).loc Cert.AttQRefIdeal.main_arg1)
          ∧ r.2.mem ((c.tc : Thread Cert.AttQRefIdeal.nD Cert.AttQRefIdeal.τ).loc Cert.AttQRefIdeal.main_arg2) = m' ((c.tc : Thread Cert.AttQRefIdeal.nD Cert.AttQRefIdeal.τ).loc Cert.AttQRefIdeal.main_arg2))

def preserves_AttK_AttKIdeal : Prop :=
  True

def algebraic_AttKIdeal_AttKRefIdeal [hAttKIdeal : Cert.AttKIdeal.Facts] [hAttKRefIdeal : Cert.AttKRefIdeal.Facts] : Prop :=
  ∀ (m : (ℓ : Loc Cert.AttKIdeal.nD Cert.AttKIdeal.τ Cert.AttKIdeal.sig) → Buf (Elt Ideal) ℓ) (g : Dev Cert.AttKIdeal.nD → PrngReg)
    (m' : (ℓ : Loc Cert.AttKRefIdeal.nD Cert.AttKRefIdeal.τ Cert.AttKRefIdeal.sig) → Buf (Elt Ideal) ℓ) (g' : Dev Cert.AttKRefIdeal.nD → PrngReg), Pre_AttKIdeal m →
    (∀ c : Dev Cert.AttKIdeal.nD,
      m' ((c.tc : Thread Cert.AttKRefIdeal.nD Cert.AttKRefIdeal.τ).loc Cert.AttKRefIdeal.main_arg0) = m ((c.tc : Thread Cert.AttKIdeal.nD Cert.AttKIdeal.τ).loc Cert.AttKIdeal.main_arg0)
      ∧ m' ((c.tc : Thread Cert.AttKRefIdeal.nD Cert.AttKRefIdeal.τ).loc Cert.AttKRefIdeal.main_arg1) = m ((c.tc : Thread Cert.AttKIdeal.nD Cert.AttKIdeal.τ).loc Cert.AttKIdeal.main_arg1)
      ∧ m' ((c.tc : Thread Cert.AttKRefIdeal.nD Cert.AttKRefIdeal.τ).loc Cert.AttKRefIdeal.main_arg2) = m ((c.tc : Thread Cert.AttKIdeal.nD Cert.AttKIdeal.τ).loc Cert.AttKIdeal.main_arg2)) →
    ∃ (v0 : (c : Dev Cert.AttKIdeal.nD) → Buf (Elt Ideal) ((c.tc : Thread Cert.AttKIdeal.nD Cert.AttKIdeal.τ).loc Cert.AttKIdeal.main_v0_0)) (v1 : (c : Dev Cert.AttKIdeal.nD) → Buf (Elt Ideal) ((c.tc : Thread Cert.AttKIdeal.nD Cert.AttKIdeal.τ).loc Cert.AttKIdeal.main_v0_1)),
      θ_run (Cert.AttKIdeal.defs (F := Ideal)) (onTc (τ := Cert.AttKIdeal.τ) (Cert.AttKIdeal.main (F := Ideal))) ⟨m, fun _ => 0, g⟩ (fun r => ∀ c : Dev Cert.AttKIdeal.nD,
          r.2.mem ((c.tc : Thread Cert.AttKIdeal.nD Cert.AttKIdeal.τ).loc Cert.AttKIdeal.main_v0_0) = v0 c
          ∧ r.2.mem ((c.tc : Thread Cert.AttKIdeal.nD Cert.AttKIdeal.τ).loc Cert.AttKIdeal.main_v0_1) = v1 c
          ∧ r.2.mem ((c.tc : Thread Cert.AttKIdeal.nD Cert.AttKIdeal.τ).loc Cert.AttKIdeal.main_arg0) = m ((c.tc : Thread Cert.AttKIdeal.nD Cert.AttKIdeal.τ).loc Cert.AttKIdeal.main_arg0)
          ∧ r.2.mem ((c.tc : Thread Cert.AttKIdeal.nD Cert.AttKIdeal.τ).loc Cert.AttKIdeal.main_arg1) = m ((c.tc : Thread Cert.AttKIdeal.nD Cert.AttKIdeal.τ).loc Cert.AttKIdeal.main_arg1)
          ∧ r.2.mem ((c.tc : Thread Cert.AttKIdeal.nD Cert.AttKIdeal.τ).loc Cert.AttKIdeal.main_arg2) = m ((c.tc : Thread Cert.AttKIdeal.nD Cert.AttKIdeal.τ).loc Cert.AttKIdeal.main_arg2))
      ∧ θ_run (Cert.AttKRefIdeal.defs (F := Ideal)) (onTc (τ := Cert.AttKRefIdeal.τ) (Cert.AttKRefIdeal.main (F := Ideal))) ⟨m', fun _ => 0, g'⟩ (fun r => ∀ c : Dev Cert.AttKRefIdeal.nD,
          r.2.mem ((c.tc : Thread Cert.AttKRefIdeal.nD Cert.AttKRefIdeal.τ).loc Cert.AttKRefIdeal.main_v14) = v0 c
          ∧ r.2.mem ((c.tc : Thread Cert.AttKRefIdeal.nD Cert.AttKRefIdeal.τ).loc Cert.AttKRefIdeal.main_v15) = v1 c
          ∧ r.2.mem ((c.tc : Thread Cert.AttKRefIdeal.nD Cert.AttKRefIdeal.τ).loc Cert.AttKRefIdeal.main_arg0) = m' ((c.tc : Thread Cert.AttKRefIdeal.nD Cert.AttKRefIdeal.τ).loc Cert.AttKRefIdeal.main_arg0)
          ∧ r.2.mem ((c.tc : Thread Cert.AttKRefIdeal.nD Cert.AttKRefIdeal.τ).loc Cert.AttKRefIdeal.main_arg1) = m' ((c.tc : Thread Cert.AttKRefIdeal.nD Cert.AttKRefIdeal.τ).loc Cert.AttKRefIdeal.main_arg1)
          ∧ r.2.mem ((c.tc : Thread Cert.AttKRefIdeal.nD Cert.AttKRefIdeal.τ).loc Cert.AttKRefIdeal.main_arg2) = m' ((c.tc : Thread Cert.AttKRefIdeal.nD Cert.AttKRefIdeal.τ).loc Cert.AttKRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v15) = v0 c
          ∧ r.2.mem ((c.tc : Thread Cert.MixOutRefIdeal.nD Cert.MixOutRefIdeal.τ).loc Cert.MixOutRefIdeal.main_v2) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v23) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)
      ∧ m' ((c.tc : Thread Cert.UpFwdRefIdeal.nD Cert.UpFwdRefIdeal.τ).loc Cert.UpFwdRefIdeal.main_arg2) = m ((c.tc : Thread Cert.UpFwdIdeal.nD Cert.UpFwdIdeal.τ).loc Cert.UpFwdIdeal.main_arg2)) →
    ∃ (v0 : (c : Dev Cert.UpFwdIdeal.nD) → Buf (Elt Ideal) ((c.tc : Thread Cert.UpFwdIdeal.nD Cert.UpFwdIdeal.τ).loc Cert.UpFwdIdeal.main_v0_0)) (v1 : (c : Dev Cert.UpFwdIdeal.nD) → Buf (Elt Ideal) ((c.tc : Thread Cert.UpFwdIdeal.nD Cert.UpFwdIdeal.τ).loc Cert.UpFwdIdeal.main_v0_1)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0_0) = v0 c
          ∧ r.2.mem ((c.tc : Thread Cert.UpFwdIdeal.nD Cert.UpFwdIdeal.τ).loc Cert.UpFwdIdeal.main_v0_1) = v1 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v14) = v0 c
          ∧ r.2.mem ((c.tc : Thread Cert.UpFwdRefIdeal.nD Cert.UpFwdRefIdeal.τ).loc Cert.UpFwdRefIdeal.main_v15) = v1 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1)
          ∧ r.2.mem ((c.tc : Thread Cert.UpFwdRefIdeal.nD Cert.UpFwdRefIdeal.τ).loc Cert.UpFwdRefIdeal.main_arg2) = m' ((c.tc : Thread Cert.UpFwdRefIdeal.nD Cert.UpFwdRefIdeal.τ).loc Cert.UpFwdRefIdeal.main_arg2))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)
      ∧ m' ((c.tc : Thread Cert.DownFwdRefIdeal.nD Cert.DownFwdRefIdeal.τ).loc Cert.DownFwdRefIdeal.main_arg3) = m ((c.tc : Thread Cert.DownFwdIdeal.nD Cert.DownFwdIdeal.τ).loc Cert.DownFwdIdeal.main_arg3)) →
    ∃ (v0 : (c : Dev Cert.DownFwdIdeal.nD) → Buf (Elt Ideal) ((c.tc : Thread Cert.DownFwdIdeal.nD Cert.DownFwdIdeal.τ).loc Cert.DownFwdIdeal.main_v0_0)) (v1 : (c : Dev Cert.DownFwdIdeal.nD) → Buf (Elt Ideal) ((c.tc : Thread Cert.DownFwdIdeal.nD Cert.DownFwdIdeal.τ).loc Cert.DownFwdIdeal.main_v0_1)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0_0) = v0 c
          ∧ r.2.mem ((c.tc : Thread Cert.DownFwdIdeal.nD Cert.DownFwdIdeal.τ).loc Cert.DownFwdIdeal.main_v0_1) = v1 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v16) = v0 c
          ∧ r.2.mem ((c.tc : Thread Cert.DownFwdRefIdeal.nD Cert.DownFwdRefIdeal.τ).loc Cert.DownFwdRefIdeal.main_v3) = v1 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2)
          ∧ r.2.mem ((c.tc : Thread Cert.DownFwdRefIdeal.nD Cert.DownFwdRefIdeal.τ).loc Cert.DownFwdRefIdeal.main_arg3) = m' ((c.tc : Thread Cert.DownFwdRefIdeal.nD Cert.DownFwdRefIdeal.τ).loc Cert.DownFwdRefIdeal.main_arg3))

def preserves_GmlpFwd_GmlpFwdIdeal : Prop :=
  True

def algebraic_GmlpFwdIdeal_GmlpFwdRefIdeal [hGmlpFwdIdeal : Cert.GmlpFwdIdeal.Facts] [hGmlpFwdRefIdeal : Cert.GmlpFwdRefIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)) →
    ∃ (v0 : (c : Dev Cert.GmlpFwdIdeal.nD) → Buf (Elt Ideal) ((c.tc : Thread Cert.GmlpFwdIdeal.nD Cert.GmlpFwdIdeal.τ).loc Cert.GmlpFwdIdeal.main_v2)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v2) = v0 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v54) = v0 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3))

def preserves_GmlpBwd_GmlpBwdIdeal : Prop :=
  True

def algebraic_GmlpBwdIdeal_GmlpBwdRefIdeal [hGmlpBwdIdeal : Cert.GmlpBwdIdeal.Facts] [hGmlpBwdRefIdeal : Cert.GmlpBwdRefIdeal.Facts] : Prop :=
  ∀ (m : (ℓ : Loc Cert.GmlpBwdIdeal.nD Cert.GmlpBwdIdeal.τ Cert.GmlpBwdIdeal.sig) → Buf (Elt Ideal) ℓ) (g : Dev Cert.GmlpBwdIdeal.nD → PrngReg)
    (m' : (ℓ : Loc Cert.GmlpBwdRefIdeal.nD Cert.GmlpBwdRefIdeal.τ Cert.GmlpBwdRefIdeal.sig) → Buf (Elt Ideal) ℓ) (g' : Dev Cert.GmlpBwdRefIdeal.nD → PrngReg), Pre_GmlpBwdIdeal m →
    (∀ c : Dev Cert.GmlpBwdIdeal.nD,
      m' ((c.tc : Thread Cert.GmlpBwdRefIdeal.nD Cert.GmlpBwdRefIdeal.τ).loc Cert.GmlpBwdRefIdeal.main_arg0) = m ((c.tc : Thread Cert.GmlpBwdIdeal.nD Cert.GmlpBwdIdeal.τ).loc Cert.GmlpBwdIdeal.main_arg0)
      ∧ m' ((c.tc : Thread Cert.GmlpBwdRefIdeal.nD Cert.GmlpBwdRefIdeal.τ).loc Cert.GmlpBwdRefIdeal.main_arg1) = m ((c.tc : Thread Cert.GmlpBwdIdeal.nD Cert.GmlpBwdIdeal.τ).loc Cert.GmlpBwdIdeal.main_arg1)
      ∧ m' ((c.tc : Thread Cert.GmlpBwdRefIdeal.nD Cert.GmlpBwdRefIdeal.τ).loc Cert.GmlpBwdRefIdeal.main_arg2) = m ((c.tc : Thread Cert.GmlpBwdIdeal.nD Cert.GmlpBwdIdeal.τ).loc Cert.GmlpBwdIdeal.main_arg2)
      ∧ m' ((c.tc : Thread Cert.GmlpBwdRefIdeal.nD Cert.GmlpBwdRefIdeal.τ).loc Cert.GmlpBwdRefIdeal.main_arg3) = m ((c.tc : Thread Cert.GmlpBwdIdeal.nD Cert.GmlpBwdIdeal.τ).loc Cert.GmlpBwdIdeal.main_arg3)
      ∧ m' ((c.tc : Thread Cert.GmlpBwdRefIdeal.nD Cert.GmlpBwdRefIdeal.τ).loc Cert.GmlpBwdRefIdeal.main_arg4) = m ((c.tc : Thread Cert.GmlpBwdIdeal.nD Cert.GmlpBwdIdeal.τ).loc Cert.GmlpBwdIdeal.main_arg4)) →
    ∃ (v0 : (c : Dev Cert.GmlpBwdIdeal.nD) → Buf (Elt Ideal) ((c.tc : Thread Cert.GmlpBwdIdeal.nD Cert.GmlpBwdIdeal.τ).loc Cert.GmlpBwdIdeal.main_v2)) (v1 : (c : Dev Cert.GmlpBwdIdeal.nD) → Buf (Elt Ideal) ((c.tc : Thread Cert.GmlpBwdIdeal.nD Cert.GmlpBwdIdeal.τ).loc Cert.GmlpBwdIdeal.main_v3)) (v2 : (c : Dev Cert.GmlpBwdIdeal.nD) → Buf (Elt Ideal) ((c.tc : Thread Cert.GmlpBwdIdeal.nD Cert.GmlpBwdIdeal.τ).loc Cert.GmlpBwdIdeal.main_v6)),
      θ_run (Cert.GmlpBwdIdeal.defs (F := Ideal)) (onTc (τ := Cert.GmlpBwdIdeal.τ) (Cert.GmlpBwdIdeal.main (F := Ideal))) ⟨m, fun _ => 0, g⟩ (fun r => ∀ c : Dev Cert.GmlpBwdIdeal.nD,
          r.2.mem ((c.tc : Thread Cert.GmlpBwdIdeal.nD Cert.GmlpBwdIdeal.τ).loc Cert.GmlpBwdIdeal.main_v2) = v0 c
          ∧ r.2.mem ((c.tc : Thread Cert.GmlpBwdIdeal.nD Cert.GmlpBwdIdeal.τ).loc Cert.GmlpBwdIdeal.main_v3) = v1 c
          ∧ r.2.mem ((c.tc : Thread Cert.GmlpBwdIdeal.nD Cert.GmlpBwdIdeal.τ).loc Cert.GmlpBwdIdeal.main_v6) = v2 c
          ∧ r.2.mem ((c.tc : Thread Cert.GmlpBwdIdeal.nD Cert.GmlpBwdIdeal.τ).loc Cert.GmlpBwdIdeal.main_arg0) = m ((c.tc : Thread Cert.GmlpBwdIdeal.nD Cert.GmlpBwdIdeal.τ).loc Cert.GmlpBwdIdeal.main_arg0)
          ∧ r.2.mem ((c.tc : Thread Cert.GmlpBwdIdeal.nD Cert.GmlpBwdIdeal.τ).loc Cert.GmlpBwdIdeal.main_arg1) = m ((c.tc : Thread Cert.GmlpBwdIdeal.nD Cert.GmlpBwdIdeal.τ).loc Cert.GmlpBwdIdeal.main_arg1)
          ∧ r.2.mem ((c.tc : Thread Cert.GmlpBwdIdeal.nD Cert.GmlpBwdIdeal.τ).loc Cert.GmlpBwdIdeal.main_arg2) = m ((c.tc : Thread Cert.GmlpBwdIdeal.nD Cert.GmlpBwdIdeal.τ).loc Cert.GmlpBwdIdeal.main_arg2)
          ∧ r.2.mem ((c.tc : Thread Cert.GmlpBwdIdeal.nD Cert.GmlpBwdIdeal.τ).loc Cert.GmlpBwdIdeal.main_arg3) = m ((c.tc : Thread Cert.GmlpBwdIdeal.nD Cert.GmlpBwdIdeal.τ).loc Cert.GmlpBwdIdeal.main_arg3)
          ∧ r.2.mem ((c.tc : Thread Cert.GmlpBwdIdeal.nD Cert.GmlpBwdIdeal.τ).loc Cert.GmlpBwdIdeal.main_arg4) = m ((c.tc : Thread Cert.GmlpBwdIdeal.nD Cert.GmlpBwdIdeal.τ).loc Cert.GmlpBwdIdeal.main_arg4))
      ∧ θ_run (Cert.GmlpBwdRefIdeal.defs (F := Ideal)) (onTc (τ := Cert.GmlpBwdRefIdeal.τ) (Cert.GmlpBwdRefIdeal.main (F := Ideal))) ⟨m', fun _ => 0, g'⟩ (fun r => ∀ c : Dev Cert.GmlpBwdRefIdeal.nD,
          r.2.mem ((c.tc : Thread Cert.GmlpBwdRefIdeal.nD Cert.GmlpBwdRefIdeal.τ).loc Cert.GmlpBwdRefIdeal.main_v72) = v0 c
          ∧ r.2.mem ((c.tc : Thread Cert.GmlpBwdRefIdeal.nD Cert.GmlpBwdRefIdeal.τ).loc Cert.GmlpBwdRefIdeal.main_v67) = v1 c
          ∧ r.2.mem ((c.tc : Thread Cert.GmlpBwdRefIdeal.nD Cert.GmlpBwdRefIdeal.τ).loc Cert.GmlpBwdRefIdeal.main_v61) = v2 c
          ∧ r.2.mem ((c.tc : Thread Cert.GmlpBwdRefIdeal.nD Cert.GmlpBwdRefIdeal.τ).loc Cert.GmlpBwdRefIdeal.main_arg0) = m' ((c.tc : Thread Cert.GmlpBwdRefIdeal.nD Cert.GmlpBwdRefIdeal.τ).loc Cert.GmlpBwdRefIdeal.main_arg0)
          ∧ r.2.mem ((c.tc : Thread Cert.GmlpBwdRefIdeal.nD Cert.GmlpBwdRefIdeal.τ).loc Cert.GmlpBwdRefIdeal.main_arg1) = m' ((c.tc : Thread Cert.GmlpBwdRefIdeal.nD Cert.GmlpBwdRefIdeal.τ).loc Cert.GmlpBwdRefIdeal.main_arg1)
          ∧ r.2.mem ((c.tc : Thread Cert.GmlpBwdRefIdeal.nD Cert.GmlpBwdRefIdeal.τ).loc Cert.GmlpBwdRefIdeal.main_arg2) = m' ((c.tc : Thread Cert.GmlpBwdRefIdeal.nD Cert.GmlpBwdRefIdeal.τ).loc Cert.GmlpBwdRefIdeal.main_arg2)
          ∧ r.2.mem ((c.tc : Thread Cert.GmlpBwdRefIdeal.nD Cert.GmlpBwdRefIdeal.τ).loc Cert.GmlpBwdRefIdeal.main_arg3) = m' ((c.tc : Thread Cert.GmlpBwdRefIdeal.nD Cert.GmlpBwdRefIdeal.τ).loc Cert.GmlpBwdRefIdeal.main_arg3)
          ∧ r.2.mem ((c.tc : Thread Cert.GmlpBwdRefIdeal.nD Cert.GmlpBwdRefIdeal.τ).loc Cert.GmlpBwdRefIdeal.main_arg4) = m' ((c.tc : Thread Cert.GmlpBwdRefIdeal.nD Cert.GmlpBwdRefIdeal.τ).loc Cert.GmlpBwdRefIdeal.main_arg4))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v3) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v14) = v0 c
          ∧ r.2.mem ((c.tc : Thread Cert.LossHeadRefIdeal.nD Cert.LossHeadRefIdeal.τ).loc Cert.LossHeadRefIdeal.main_v8) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)
      ∧ m' ((c.tc : Thread Cert.AdamRefIdeal.nD Cert.AdamRefIdeal.τ).loc Cert.AdamRefIdeal.main_arg6) = m ((c.tc : Thread Cert.AdamIdeal.nD Cert.AdamIdeal.τ).loc Cert.AdamIdeal.main_arg6)) →
    ∃ (v0 : (c : Dev Cert.AdamIdeal.nD) → Buf (Elt Ideal) ((c.tc : Thread Cert.AdamIdeal.nD Cert.AdamIdeal.τ).loc Cert.AdamIdeal.main_v1_0)) (v1 : (c : Dev Cert.AdamIdeal.nD) → Buf (Elt Ideal) ((c.tc : Thread Cert.AdamIdeal.nD Cert.AdamIdeal.τ).loc Cert.AdamIdeal.main_v1_1)) (v2 : (c : Dev Cert.AdamIdeal.nD) → Buf (Elt Ideal) ((c.tc : Thread Cert.AdamIdeal.nD Cert.AdamIdeal.τ).loc Cert.AdamIdeal.main_v1_2)) (v3 : (c : Dev Cert.AdamIdeal.nD) → Buf (Elt Ideal) ((c.tc : Thread Cert.AdamIdeal.nD Cert.AdamIdeal.τ).loc Cert.AdamIdeal.main_v1_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v1_0) = v0 c
          ∧ r.2.mem ((c.tc : Thread Cert.AdamIdeal.nD Cert.AdamIdeal.τ).loc Cert.AdamIdeal.main_v1_1) = v1 c
          ∧ r.2.mem ((c.tc : Thread Cert.AdamIdeal.nD Cert.AdamIdeal.τ).loc Cert.AdamIdeal.main_v1_2) = v2 c
          ∧ r.2.mem ((c.tc : Thread Cert.AdamIdeal.nD Cert.AdamIdeal.τ).loc Cert.AdamIdeal.main_v1_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v14) = v0 c
          ∧ r.2.mem ((c.tc : Thread Cert.AdamRefIdeal.nD Cert.AdamRefIdeal.τ).loc Cert.AdamRefIdeal.main_v38) = v1 c
          ∧ r.2.mem ((c.tc : Thread Cert.AdamRefIdeal.nD Cert.AdamRefIdeal.τ).loc Cert.AdamRefIdeal.main_v19) = v2 c
          ∧ r.2.mem ((c.tc : Thread Cert.AdamRefIdeal.nD Cert.AdamRefIdeal.τ).loc Cert.AdamRefIdeal.main_v25) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5)
          ∧ r.2.mem ((c.tc : Thread Cert.AdamRefIdeal.nD Cert.AdamRefIdeal.τ).loc Cert.AdamRefIdeal.main_arg6) = m' ((c.tc : Thread Cert.AdamRefIdeal.nD Cert.AdamRefIdeal.τ).loc Cert.AdamRefIdeal.main_arg6))

def Claim : Prop :=
  ∃ (hKernel : Cert.Kernel.Facts) (hKernelIdeal : Cert.KernelIdeal.Facts) (hReferenceIdeal : Cert.ReferenceIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hAttDw : Cert.AttDw.Facts) (hAttDwIdeal : Cert.AttDwIdeal.Facts) (hAttDwRefIdeal : Cert.AttDwRefIdeal.Facts) (hMemDw : Cert.MemDw.Facts) (hMemDwIdeal : Cert.MemDwIdeal.Facts) (hMemDwRefIdeal : Cert.MemDwRefIdeal.Facts) (hMixInDw : Cert.MixInDw.Facts) (hMixInDwIdeal : Cert.MixInDwIdeal.Facts) (hMixInDwRefIdeal : Cert.MixInDwRefIdeal.Facts) (hAttOBwd : Cert.AttOBwd.Facts) (hAttOBwdIdeal : Cert.AttOBwdIdeal.Facts) (hAttOBwdRefIdeal : Cert.AttOBwdRefIdeal.Facts) (hMixOutBwd : Cert.MixOutBwd.Facts) (hMixOutBwdIdeal : Cert.MixOutBwdIdeal.Facts) (hMixOutBwdRefIdeal : Cert.MixOutBwdRefIdeal.Facts) (hAttQBwd : Cert.AttQBwd.Facts) (hAttQBwdIdeal : Cert.AttQBwdIdeal.Facts) (hAttQBwdRefIdeal : Cert.AttQBwdRefIdeal.Facts) (hMixInBwd : Cert.MixInBwd.Facts) (hMixInBwdIdeal : Cert.MixInBwdIdeal.Facts) (hMixInBwdRefIdeal : Cert.MixInBwdRefIdeal.Facts) (hAttKvBwd : Cert.AttKvBwd.Facts) (hAttKvBwdIdeal : Cert.AttKvBwdIdeal.Facts) (hAttKvBwdRefIdeal : Cert.AttKvBwdRefIdeal.Facts) (hDownBwd : Cert.DownBwd.Facts) (hDownBwdIdeal : Cert.DownBwdIdeal.Facts) (hDownBwdRefIdeal : Cert.DownBwdRefIdeal.Facts) (hUpBwd : Cert.UpBwd.Facts) (hUpBwdIdeal : Cert.UpBwdIdeal.Facts) (hUpBwdRefIdeal : Cert.UpBwdRefIdeal.Facts) (hMixIn : Cert.MixIn.Facts) (hMixInIdeal : Cert.MixInIdeal.Facts) (hMixInRefIdeal : Cert.MixInRefIdeal.Facts) (hAttQ : Cert.AttQ.Facts) (hAttQIdeal : Cert.AttQIdeal.Facts) (hAttQRefIdeal : Cert.AttQRefIdeal.Facts) (hAttK : Cert.AttK.Facts) (hAttKIdeal : Cert.AttKIdeal.Facts) (hAttKRefIdeal : Cert.AttKRefIdeal.Facts) (hMixOut : Cert.MixOut.Facts) (hMixOutIdeal : Cert.MixOutIdeal.Facts) (hMixOutRefIdeal : Cert.MixOutRefIdeal.Facts) (hAttnFwd : Cert.AttnFwd.Facts) (hAttnFwdIdeal : Cert.AttnFwdIdeal.Facts) (hAttnFwdRefIdeal : Cert.AttnFwdRefIdeal.Facts) (hUpFwd : Cert.UpFwd.Facts) (hUpFwdIdeal : Cert.UpFwdIdeal.Facts) (hUpFwdRefIdeal : Cert.UpFwdRefIdeal.Facts) (hDownFwd : Cert.DownFwd.Facts) (hDownFwdIdeal : Cert.DownFwdIdeal.Facts) (hDownFwdRefIdeal : Cert.DownFwdRefIdeal.Facts) (hGmlpFwd : Cert.GmlpFwd.Facts) (hGmlpFwdIdeal : Cert.GmlpFwdIdeal.Facts) (hGmlpFwdRefIdeal : Cert.GmlpFwdRefIdeal.Facts) (hGmlpBwd : Cert.GmlpBwd.Facts) (hGmlpBwdIdeal : Cert.GmlpBwdIdeal.Facts) (hGmlpBwdRefIdeal : Cert.GmlpBwdRefIdeal.Facts) (hLossHead : Cert.LossHead.Facts) (hLossHeadIdeal : Cert.LossHeadIdeal.Facts) (hLossHeadRefIdeal : Cert.LossHeadRefIdeal.Facts) (hAdam : Cert.Adam.Facts) (hAdamIdeal : Cert.AdamIdeal.Facts) (hAdamRefIdeal : Cert.AdamRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_AttDw (hAttDw := hAttDw)
    ∧ quiescent_AttDwIdeal (hAttDwIdeal := hAttDwIdeal)
    ∧ quiescent_AttDwRefIdeal (hAttDwRefIdeal := hAttDwRefIdeal)
    ∧ quiescent_MemDw (hMemDw := hMemDw)
    ∧ quiescent_MemDwIdeal (hMemDwIdeal := hMemDwIdeal)
    ∧ quiescent_MemDwRefIdeal (hMemDwRefIdeal := hMemDwRefIdeal)
    ∧ quiescent_MixInDw (hMixInDw := hMixInDw)
    ∧ quiescent_MixInDwIdeal (hMixInDwIdeal := hMixInDwIdeal)
    ∧ quiescent_MixInDwRefIdeal (hMixInDwRefIdeal := hMixInDwRefIdeal)
    ∧ quiescent_AttOBwd (hAttOBwd := hAttOBwd)
    ∧ quiescent_AttOBwdIdeal (hAttOBwdIdeal := hAttOBwdIdeal)
    ∧ quiescent_AttOBwdRefIdeal (hAttOBwdRefIdeal := hAttOBwdRefIdeal)
    ∧ quiescent_MixOutBwd (hMixOutBwd := hMixOutBwd)
    ∧ quiescent_MixOutBwdIdeal (hMixOutBwdIdeal := hMixOutBwdIdeal)
    ∧ quiescent_MixOutBwdRefIdeal (hMixOutBwdRefIdeal := hMixOutBwdRefIdeal)
    ∧ quiescent_AttQBwd (hAttQBwd := hAttQBwd)
    ∧ quiescent_AttQBwdIdeal (hAttQBwdIdeal := hAttQBwdIdeal)
    ∧ quiescent_AttQBwdRefIdeal (hAttQBwdRefIdeal := hAttQBwdRefIdeal)
    ∧ quiescent_MixInBwd (hMixInBwd := hMixInBwd)
    ∧ quiescent_MixInBwdIdeal (hMixInBwdIdeal := hMixInBwdIdeal)
    ∧ quiescent_MixInBwdRefIdeal (hMixInBwdRefIdeal := hMixInBwdRefIdeal)
    ∧ quiescent_AttKvBwd (hAttKvBwd := hAttKvBwd)
    ∧ quiescent_AttKvBwdIdeal (hAttKvBwdIdeal := hAttKvBwdIdeal)
    ∧ quiescent_AttKvBwdRefIdeal (hAttKvBwdRefIdeal := hAttKvBwdRefIdeal)
    ∧ quiescent_DownBwd (hDownBwd := hDownBwd)
    ∧ quiescent_DownBwdIdeal (hDownBwdIdeal := hDownBwdIdeal)
    ∧ quiescent_DownBwdRefIdeal (hDownBwdRefIdeal := hDownBwdRefIdeal)
    ∧ quiescent_UpBwd (hUpBwd := hUpBwd)
    ∧ quiescent_UpBwdIdeal (hUpBwdIdeal := hUpBwdIdeal)
    ∧ quiescent_UpBwdRefIdeal (hUpBwdRefIdeal := hUpBwdRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_AttQ (hAttQ := hAttQ)
    ∧ quiescent_AttQIdeal (hAttQIdeal := hAttQIdeal)
    ∧ quiescent_AttQRefIdeal (hAttQRefIdeal := hAttQRefIdeal)
    ∧ quiescent_AttK (hAttK := hAttK)
    ∧ quiescent_AttKIdeal (hAttKIdeal := hAttKIdeal)
    ∧ quiescent_AttKRefIdeal (hAttKRefIdeal := hAttKRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_GmlpFwd (hGmlpFwd := hGmlpFwd)
    ∧ quiescent_GmlpFwdIdeal (hGmlpFwdIdeal := hGmlpFwdIdeal)
    ∧ quiescent_GmlpFwdRefIdeal (hGmlpFwdRefIdeal := hGmlpFwdRefIdeal)
    ∧ quiescent_GmlpBwd (hGmlpBwd := hGmlpBwd)
    ∧ quiescent_GmlpBwdIdeal (hGmlpBwdIdeal := hGmlpBwdIdeal)
    ∧ quiescent_GmlpBwdRefIdeal (hGmlpBwdRefIdeal := hGmlpBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_Adam (hAdam := hAdam)
    ∧ quiescent_AdamIdeal (hAdamIdeal := hAdamIdeal)
    ∧ quiescent_AdamRefIdeal (hAdamRefIdeal := hAdamRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_AttDw_AttDwIdeal
    ∧ algebraic_AttDwIdeal_AttDwRefIdeal (hAttDwIdeal := hAttDwIdeal) (hAttDwRefIdeal := hAttDwRefIdeal)
    ∧ preserves_MemDw_MemDwIdeal
    ∧ algebraic_MemDwIdeal_MemDwRefIdeal (hMemDwIdeal := hMemDwIdeal) (hMemDwRefIdeal := hMemDwRefIdeal)
    ∧ preserves_MixInDw_MixInDwIdeal
    ∧ algebraic_MixInDwIdeal_MixInDwRefIdeal (hMixInDwIdeal := hMixInDwIdeal) (hMixInDwRefIdeal := hMixInDwRefIdeal)
    ∧ preserves_AttOBwd_AttOBwdIdeal
    ∧ algebraic_AttOBwdIdeal_AttOBwdRefIdeal (hAttOBwdIdeal := hAttOBwdIdeal) (hAttOBwdRefIdeal := hAttOBwdRefIdeal)
    ∧ preserves_MixOutBwd_MixOutBwdIdeal
    ∧ algebraic_MixOutBwdIdeal_MixOutBwdRefIdeal (hMixOutBwdIdeal := hMixOutBwdIdeal) (hMixOutBwdRefIdeal := hMixOutBwdRefIdeal)
    ∧ preserves_AttQBwd_AttQBwdIdeal
    ∧ algebraic_AttQBwdIdeal_AttQBwdRefIdeal (hAttQBwdIdeal := hAttQBwdIdeal) (hAttQBwdRefIdeal := hAttQBwdRefIdeal)
    ∧ preserves_MixInBwd_MixInBwdIdeal
    ∧ algebraic_MixInBwdIdeal_MixInBwdRefIdeal (hMixInBwdIdeal := hMixInBwdIdeal) (hMixInBwdRefIdeal := hMixInBwdRefIdeal)
    ∧ preserves_AttKvBwd_AttKvBwdIdeal
    ∧ algebraic_AttKvBwdIdeal_AttKvBwdRefIdeal (hAttKvBwdIdeal := hAttKvBwdIdeal) (hAttKvBwdRefIdeal := hAttKvBwdRefIdeal)
    ∧ preserves_DownBwd_DownBwdIdeal
    ∧ algebraic_DownBwdIdeal_DownBwdRefIdeal (hDownBwdIdeal := hDownBwdIdeal) (hDownBwdRefIdeal := hDownBwdRefIdeal)
    ∧ preserves_UpBwd_UpBwdIdeal
    ∧ algebraic_UpBwdIdeal_UpBwdRefIdeal (hUpBwdIdeal := hUpBwdIdeal) (hUpBwdRefIdeal := hUpBwdRefIdeal)
    ∧ preserves_MixIn_MixInIdeal
    ∧ algebraic_MixInIdeal_MixInRefIdeal (hMixInIdeal := hMixInIdeal) (hMixInRefIdeal := hMixInRefIdeal)
    ∧ preserves_AttQ_AttQIdeal
    ∧ algebraic_AttQIdeal_AttQRefIdeal (hAttQIdeal := hAttQIdeal) (hAttQRefIdeal := hAttQRefIdeal)
    ∧ preserves_AttK_AttKIdeal
    ∧ algebraic_AttKIdeal_AttKRefIdeal (hAttKIdeal := hAttKIdeal) (hAttKRefIdeal := hAttKRefIdeal)
    ∧ preserves_MixOut_MixOutIdeal
    ∧ algebraic_MixOutIdeal_MixOutRefIdeal (hMixOutIdeal := hMixOutIdeal) (hMixOutRefIdeal := hMixOutRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_GmlpFwd_GmlpFwdIdeal
    ∧ algebraic_GmlpFwdIdeal_GmlpFwdRefIdeal (hGmlpFwdIdeal := hGmlpFwdIdeal) (hGmlpFwdRefIdeal := hGmlpFwdRefIdeal)
    ∧ preserves_GmlpBwd_GmlpBwdIdeal
    ∧ algebraic_GmlpBwdIdeal_GmlpBwdRefIdeal (hGmlpBwdIdeal := hGmlpBwdIdeal) (hGmlpBwdRefIdeal := hGmlpBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_Adam_AdamIdeal
    ∧ algebraic_AdamIdeal_AdamRefIdeal (hAdamIdeal := hAdamIdeal) (hAdamRefIdeal := hAdamRefIdeal)
-- ==== Pre_finite_scores.lean ====
abbrev S2048x2048 : Shape := ⟨2, ![2048, 2048]⟩
abbrev S256x2048 : Shape := ⟨2, ![256, 2048]⟩
abbrev S_ : Shape := ⟨0, ![]⟩

class Facts : Prop where
  bcast_S_S2048x2048 : S_.BroadcastsInDim S2048x2048 (![] : Fin 0 → Fin S2048x2048.rank)
  bcast_S_S256x2048 : S_.BroadcastsInDim S256x2048 (![] : Fin 0 → Fin S256x2048.rank)

variable [Facts]

def fn {F : FTy → Type} [FloatOps F] (main_arg0 : FVec F S2048x2048 .bf16) (main_arg1 : FVec F S256x2048 .bf16) (main_arg2 : FVec F S256x2048 .bf16) (main_arg3 : FVec F S2048x2048 .bf16) : IVec S2048x2048 1 × IVec S256x2048 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_v3 : FVec F S256x2048 .bf16 := Host.absf main_arg1
  let main_cst_0 : FVec F S_ .bf16 := constant S_ .bf16 0x7F80#16
  let main_v4 : FVec F S256x2048 .bf16 := broadcastInDim S256x2048 ![] bcast_S_S256x2048 main_cst_0
  let main_v5 : IVec S256x2048 1 := cmpf .olt main_v3 main_v4
  (main_v2, main_v5)
-- ==== Kernel.lean ====
abbrev S2048x2048 : Shape := ⟨2, ![2048, 2048]⟩
abbrev S256x2048 : Shape := ⟨2, ![256, 2048]⟩
abbrev S1024x2048 : Shape := ⟨2, ![1024, 2048]⟩
abbrev S1024x512 : Shape := ⟨2, ![1024, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S256x2048, .bf16⟩
  | .hbm, ⟨3, _⟩ => ⟨S2048x2048, .bf16⟩
  | .hbm, ⟨4, _⟩ => ⟨S2048x2048, .bf16⟩
  | .hbm, ⟨5, _⟩ => ⟨S256x2048, .f32⟩
  | .hbm, ⟨6, _⟩ => ⟨S256x2048, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S256x2048, .f32⟩
  | .local _ .vmem, ⟨9, _⟩ => ⟨S256x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2048x2048 : Shape := ⟨2, ![2048, 2048]⟩
abbrev S256x2048 : Shape := ⟨2, ![256, 2048]⟩
abbrev S1x2048x4x512 : Shape := ⟨4, ![1, 2048, 4, 512]⟩
abbrev S1x256x4x512 : Shape := ⟨4, ![1, 256, 4, 512]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x512x2048 : Shape := ⟨4, ![1, 4, 512, 2048]⟩
abbrev S1x4x512x256 : Shape := ⟨4, ![1, 4, 512, 256]⟩
abbrev S4x2048 : Shape := ⟨2, ![4, 2048]⟩
abbrev S1x4x256x512 : Shape := ⟨4, ![1, 4, 256, 512]⟩
abbrev S1x4x2048x512 : Shape := ⟨4, ![1, 4, 2048, 512]⟩

abbrev nBuf : Space → Nat
  | .hbm => 87
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S256x2048, .bf16⟩
  | .hbm, ⟨3, _⟩ => ⟨S2048x2048, .bf16⟩
  | .hbm, ⟨4, _⟩ => ⟨S2048x2048, .f32⟩
  | .hbm, ⟨5, _⟩ => ⟨S256x2048, .f32⟩
  | .hbm, ⟨6, _⟩ => ⟨S256x2048, .f32⟩
  | .hbm, ⟨7, _⟩ => ⟨S1x2048x4x512, .f32⟩
  | .hbm, ⟨8, _⟩ => ⟨S1x256x4x512, .f32⟩
  | .hbm, ⟨9, _⟩ => ⟨S1x256x4x512, .f32⟩
  | .hbm, ⟨10, _⟩ => ⟨S1x4x2048x256, .f32⟩
  | .hbm, ⟨11, _⟩ => ⟨S_, .f32⟩
  | .hbm, ⟨12, _⟩ => ⟨S1x4x2048x256, .f32⟩
  | .hbm, ⟨13, _⟩ => ⟨S1x4x2048x256, .f32⟩
  | .hbm, ⟨14, _⟩ => ⟨S_, .f32⟩
  | .hbm, ⟨15, _⟩ => ⟨S1x4x2048, .f32⟩
  | .hbm, ⟨16, _⟩ => ⟨S1x4x2048x1, .f32⟩
  | .hbm, ⟨17, _⟩ => ⟨S1x4x2048x256, .f32⟩
  | .hbm, ⟨18, _⟩ => ⟨S1x4x2048x256, .i1⟩
  | .hbm, ⟨19, _⟩ => ⟨S1x4x2048x256, .f32⟩
  | .hbm, ⟨20, _⟩ => ⟨S_, .f32⟩
  | .hbm, ⟨21, _⟩ => ⟨S1x4x2048, .f32⟩
  | .hbm, ⟨22, _⟩ => ⟨S_, .f32⟩
  | .hbm, ⟨23, _⟩ => ⟨S1x4x2048, .f32⟩
  | .hbm, ⟨24, _⟩ => ⟨S1x4x2048, .f32⟩
  | .hbm, ⟨25, _⟩ => ⟨S_, .f32⟩
  | .hbm, ⟨26, _⟩ => ⟨S1x4x2048, .f32⟩
  | .hbm, ⟨27, _⟩ => ⟨S1x4x2048, .i1⟩
  | .hbm, ⟨28, _⟩ => ⟨S_, .f32⟩
  | .hbm, ⟨29, _⟩ => ⟨S1x4x2048, .f32⟩
  | .hbm, ⟨30, _⟩ => ⟨S1x4x2048, .i1⟩
  | .hbm, ⟨31, _⟩ => ⟨S_, .f32⟩
  | .hbm, ⟨32, _⟩ => ⟨S1x4x2048, .f32⟩
  | .hbm, ⟨33, _⟩ => ⟨S_, .f32⟩
  | .hbm, ⟨34, _⟩ => ⟨S1x4x2048, .f32⟩
  | .hbm, ⟨35, _⟩ => ⟨S_, .f32⟩
  | .hbm, ⟨36, _⟩ => ⟨S1x4x2048, .f32⟩
  | .hbm, ⟨37, _⟩ => ⟨S1x4x2048, .f32⟩
  | .hbm, ⟨38, _⟩ => ⟨S1x4x2048, .f32⟩
  | .hbm, ⟨39, _⟩ => ⟨S1x4x2048x1, .f32⟩
  | .hbm, ⟨40, _⟩ => ⟨S1x4x2048x256, .f32⟩
  | .hbm, ⟨41, _⟩ => ⟨S1x4x2048x256, .f32⟩
  | .hbm, ⟨42, _⟩ => ⟨S1x4x2048x256, .f32⟩
  | .hbm, ⟨43, _⟩ => ⟨S_, .f32⟩
  | .hbm, ⟨44, _⟩ => ⟨S1x4x2048, .f32⟩
  | .hbm, ⟨45, _⟩ => ⟨S1x4x2048x1, .f32⟩
  | .hbm, ⟨46, _⟩ => ⟨S1x4x2048x256, .f32⟩
  | .hbm, ⟨47, _⟩ => ⟨S1x4x2048x256, .f32⟩
  | .hbm, ⟨48, _⟩ => ⟨S1x4x2048x1, .f32⟩
  | .hbm, ⟨49, _⟩ => ⟨S_, .f32⟩
  | .hbm, ⟨50, _⟩ => ⟨S1x4x2048x1, .f32⟩
  | .hbm, ⟨51, _⟩ => ⟨S1x4x2048x1, .f32⟩
  | .hbm, ⟨52, _⟩ => ⟨S1x4x512x2048, .f32⟩
  | .hbm, ⟨53, _⟩ => ⟨S1x2048x4x512, .f32⟩
  | .hbm, ⟨54, _⟩ => ⟨S2048x2048, .f32⟩
  | .hbm, ⟨55, _⟩ => ⟨S2048x2048, .f32⟩
  | .hbm, ⟨56, _⟩ => ⟨S1x2048x4x512, .f32⟩
  | .hbm, ⟨57, _⟩ => ⟨S1x4x512x2048, .f32⟩
  | .hbm, ⟨58, _⟩ => ⟨S1x4x2048x256, .f32⟩
  | .hbm, ⟨59, _⟩ => ⟨S1x4x512x256, .f32⟩
  | .hbm, ⟨60, _⟩ => ⟨S1x256x4x512, .f32⟩
  | .hbm, ⟨61, _⟩ => ⟨S1x4x2048x256, .f32⟩
  | .hbm, ⟨62, _⟩ => ⟨S1x4x2048x256, .f32⟩
  | .hbm, ⟨63, _⟩ => ⟨S1x4x2048x256, .f32⟩
  | .hbm, ⟨64, _⟩ => ⟨S_, .f32⟩
  | .hbm, ⟨65, _⟩ => ⟨S1x4x2048, .f32⟩
  | .hbm, ⟨66, _⟩ => ⟨S1x4x2048x1, .f32⟩
  | .hbm, ⟨67, _⟩ => ⟨S1x4x2048x1, .f32⟩
  | .hbm, ⟨68, _⟩ => ⟨S1x4x2048x256, .f32⟩
  | .hbm, ⟨69, _⟩ => ⟨S1x4x2048x256, .f32⟩
  | .hbm, ⟨70, _⟩ => ⟨S_, .f32⟩
  | .hbm, ⟨71, _⟩ => ⟨S4x2048, .f32⟩
  | .hbm, ⟨72, _⟩ => ⟨S1x4x2048, .f32⟩
  | .hbm, ⟨73, _⟩ => ⟨S1x4x2048x256, .f32⟩
  | .hbm, ⟨74, _⟩ => ⟨S1x4x2048x256, .f32⟩
  | .hbm, ⟨75, _⟩ => ⟨S1x4x2048x256, .f32⟩
  | .hbm, ⟨76, _⟩ => ⟨S_, .f32⟩
  | .hbm, ⟨77, _⟩ => ⟨S1x4x2048x256, .f32⟩
  | .hbm, ⟨78, _⟩ => ⟨S1x4x2048x256, .f32⟩
  | .hbm, ⟨79, _⟩ => ⟨S1x4x256x512, .f32⟩
  | .hbm, ⟨80, _⟩ => ⟨S1x256x4x512, .f32⟩
  | .hbm, ⟨81, _⟩ => ⟨S1x4x2048x512, .f32⟩
  | .hbm, ⟨82, _⟩ => ⟨S1x2048x4x512, .f32⟩
  | .hbm, ⟨83, _⟩ => ⟨S256x2048, .f32⟩
  | .hbm, ⟨84, _⟩ => ⟨S256x2048, .f32⟩
  | .hbm, ⟨85, _⟩ => ⟨S2048x2048, .f32⟩
  | .hbm, ⟨86, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== DownDw.lean ====
abbrev S2048x8192 : Shape := ⟨2, ![2048, 8192]⟩
abbrev S2048x2048 : Shape := ⟨2, ![2048, 2048]⟩
abbrev S8192x2048 : Shape := ⟨2, ![8192, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x8192, .f32⟩
  | .hbm, ⟨1, _⟩ => ⟨S2048x2048, .bf16⟩
  | .hbm, ⟨2, _⟩ => ⟨S8192x2048, .bf16⟩
  | .local _ .vmem, ⟨0, _⟩ => ⟨S2048x512, .f32⟩
  | .local _ .vmem, ⟨1, _⟩ => ⟨S2048x512, .f32⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownDwRefIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S2048x2048, .f32⟩
  | .hbm, ⟨9, _⟩ => ⟨S2048x2048, .f32⟩
  | .hbm, ⟨10, _⟩ => ⟨S2048x8192, .f32⟩
  | .hbm, ⟨11, _⟩ => ⟨S8192x2048, .f32⟩
  | .hbm, ⟨12, _⟩ => ⟨S8192x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== UpDw.lean ====
abbrev S2048x8192 : Shape := ⟨2, ![2048, 8192]⟩
abbrev S2048x2048 : Shape := ⟨2, ![2048, 2048]⟩
abbrev S8192x2048 : Shape := ⟨2, ![8192, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== UpDwRefIdeal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S8192x2048, .f32⟩
  | .hbm, ⟨9, _⟩ => ⟨S2048x8192, .f32⟩
  | .hbm, ⟨10, _⟩ => ⟨S8192x2048, .f32⟩
  | .hbm, ⟨11, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AttDw.lean ====
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttDwRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MemDw.lean ====
abbrev S256x2048 : Shape := ⟨2, ![256, 2048]⟩
abbrev S2048x2048 : Shape := ⟨2, ![2048, 2048]⟩
abbrev S256x512 : Shape := ⟨2, ![256, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S2048x2048, .bf16⟩
  | .local _ .vmem, ⟨0, _⟩ => ⟨S256x512, .bf16⟩
  | .local _ .vmem, ⟨1, _⟩ => ⟨S256x512, .bf16⟩
  | .local _ .vmem, ⟨2, _⟩ => ⟨S256x2048, .bf16⟩
  | .local _ .vmem, ⟨3, _⟩ => ⟨S512x2048, .bf16⟩
  | .local _ .vmem, ⟨4, _⟩ => ⟨S512x2048, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemDwRefIdeal.lean ====
abbrev S256x2048 : Shape := ⟨2, ![256, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S_, .f32⟩
  | .hbm, ⟨3, _⟩ => ⟨S2048x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixInDw.lean ====
abbrev S2048x3584 : Shape := ⟨2, ![2048, 3584]⟩
abbrev S2048x2048 : Shape := ⟨2, ![2048, 2048]⟩
abbrev S3584x2048 : Shape := ⟨2, ![3584, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x3584, .bf16⟩
  | .hbm, ⟨1, _⟩ => ⟨S2048x2048, .bf16⟩
  | .hbm, ⟨2, _⟩ => ⟨S3584x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixInDwRefIdeal.lean ====
abbrev S2048x3584 : Shape := ⟨2, ![2048, 3584]⟩
abbrev S2048x2048 : Shape := ⟨2, ![2048, 2048]⟩
abbrev S_ : Shape := ⟨0, ![]⟩
abbrev S3584x2048 : Shape := ⟨2, ![3584, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x3584, .bf16⟩
  | .hbm, ⟨1, _⟩ => ⟨S2048x2048, .bf16⟩
  | .hbm, ⟨2, _⟩ => ⟨S_, .f32⟩
  | .hbm, ⟨3, _⟩ => ⟨S3584x2048, .f32⟩
  | .hbm, ⟨4, _⟩ => ⟨S2048x2048, .f32⟩
  | .hbm, ⟨5, _⟩ => ⟨S2048x3584, .f32⟩
  | .hbm, ⟨6, _⟩ => ⟨S2048x3584, .f32⟩
  | .hbm, ⟨7, _⟩ => ⟨S2048x3584, .f32⟩
  | .hbm, ⟨8, _⟩ => ⟨S3584x2048, .f32⟩
  | .hbm, ⟨9, _⟩ => ⟨S2048x3584, .f32⟩
  | .hbm, ⟨10, _⟩ => ⟨S3584x2048, .f32⟩
  | .hbm, ⟨11, _⟩ => ⟨S3584x2048, .bf16⟩
  | _, _ => ⟨S2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AttOBwd.lean ====
abbrev S2048x2048 : Shape := ⟨2, ![2048, 2048]⟩
abbrev S1x2048 : Shape := ⟨2, ![1, 2048]⟩
abbrev S4x1x2048 : Shape := ⟨3, ![4, 1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S2048 : Shape := ⟨1, ![2048]⟩
abbrev S_ : Shape := ⟨0, ![]⟩

abbrev nBuf : Space → Nat
  | .hbm => 12
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S2048x2048, .bf16⟩
  | .hbm, ⟨9, _⟩ => ⟨S4x1x2048, .f32⟩
  | .hbm, ⟨10, _⟩ => ⟨S_, .f32⟩
  | .hbm, ⟨11, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S1x1x2048, .f32⟩
  | .local _ .vmem, ⟨11, _⟩ => ⟨S1x1x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_cst : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttOBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== MixOutBwd.lean ====
abbrev S2048x2048 : Shape := ⟨2, ![2048, 2048]⟩
abbrev S1x2048 : Shape := ⟨2, ![1, 2048]⟩
abbrev S4x1x2048 : Shape := ⟨3, ![4, 1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S2048 : Shape := ⟨1, ![2048]⟩
abbrev S_ : Shape := ⟨0, ![]⟩

abbrev nBuf : Space → Nat
  | .hbm => 12
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S4x1x2048, .f32⟩
  | .hbm, ⟨10, _⟩ => ⟨S_, .f32⟩
  | .hbm, ⟨11, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S1x1x2048, .f32⟩
  | .local _ .vmem, ⟨11, _⟩ => ⟨S1x1x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_cst : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixOutBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== AttQBwd.lean ====
abbrev S2048x2048 : Shape := ⟨2, ![2048, 2048]⟩
abbrev S1x2048 : Shape := ⟨2, ![1, 2048]⟩
abbrev S4x1x2048 : Shape := ⟨3, ![4, 1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩
abbrev S2048 : Shape := ⟨1, ![2048]⟩
abbrev S_ : Shape := ⟨0, ![]⟩

abbrev nBuf : Space → Nat
  | .hbm => 9
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S4x1x2048, .f32⟩
  | .hbm, ⟨7, _⟩ => ⟨S_, .f32⟩
  | .hbm, ⟨8, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S1x1x2048, .f32⟩
  | .local _ .vmem, ⟨11, _⟩ => ⟨S1x1x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== AttQBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x1, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== MixInBwd.lean ====
abbrev S2048x3584 : Shape := ⟨2, ![2048, 3584]⟩
abbrev S3584x2048 : Shape := ⟨2, ![3584, 2048]⟩
abbrev S2048x2048 : Shape := ⟨2, ![2048, 2048]⟩
abbrev S1x2048 : Shape := ⟨2, ![1, 2048]⟩
abbrev S8x1x2048 : Shape := ⟨3, ![8, 1, 2048]⟩
abbrev S256x3584 : Shape := ⟨2, ![256, 3584]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S2048 : Shape := ⟨1, ![2048]⟩
abbrev S_ : Shape := ⟨0, ![]⟩

abbrev nBuf : Space → Nat
  | .hbm => 9
  | .vmem => 12
  | .smem => 0
  | _ => 0

abbrev bufTy : (tb : Table) → Fin (tcTables nBuf tb) → BufTy
  | .hbm, ⟨0, _⟩ => ⟨S2048x3584, .bf16⟩
  | .hbm, ⟨1, _⟩ => ⟨S3584x2048, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S8x1x2048, .f32⟩
  | .hbm, ⟨7, _⟩ => ⟨S_, .f32⟩
  | .hbm, ⟨8, _⟩ => ⟨S1x2048, .f32⟩
  | .local _ .vmem, ⟨0, _⟩ => ⟨S256x3584, .bf16⟩
  | .local _ .vmem, ⟨1, _⟩ => ⟨S256x3584, .bf16⟩
  | .local _ .vmem, ⟨2, _⟩ => ⟨S3584x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x1x2048, .f32⟩
  | .local _ .vmem, ⟨11, _⟩ => ⟨S1x1x2048, .f32⟩
  | _, _ => ⟨S2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3584x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MixInBwdRefIdeal.lean ====
abbrev S2048x3584 : Shape := ⟨2, ![2048, 3584]⟩
abbrev S3584x2048 : Shape := ⟨2, ![3584, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x3584, .bf16⟩
  | .hbm, ⟨1, _⟩ => ⟨S3584x2048, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S3584x2048, .f32⟩
  | .hbm, ⟨25, _⟩ => ⟨S2048x3584, .f32⟩
  | .hbm, ⟨26, _⟩ => ⟨S2048x3584, .f32⟩
  | .hbm, ⟨27, _⟩ => ⟨S2048x3584, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | _, _ => ⟨S2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== AttKvBwd.lean ====
abbrev S256x2048 : Shape := ⟨2, ![256, 2048]⟩
abbrev S2048x2048 : Shape := ⟨2, ![2048, 2048]⟩
abbrev S1x2048 : Shape := ⟨2, ![1, 2048]⟩
abbrev S1x1x2048 : Shape := ⟨3, ![1, 1, 2048]⟩
abbrev S256 : Shape := ⟨1, ![256]⟩
abbrev S256x1 : Shape := ⟨2, ![256, 1]⟩
abbrev S2048 : Shape := ⟨1, ![2048]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .bf16⟩
  | .hbm, ⟨3, _⟩ => ⟨S2048x2048, .bf16⟩
  | .hbm, ⟨4, _⟩ => ⟨S256x2048, .f32⟩
  | .hbm, ⟨5, _⟩ => ⟨S1x2048, .f32⟩
  | .hbm, ⟨6, _⟩ => ⟨S1x1x2048, .f32⟩
  | .hbm, ⟨7, _⟩ => ⟨S_, .f32⟩
  | .hbm, ⟨8, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S2048x2048, .bf16⟩
  | .local _ .vmem, ⟨4, _⟩ => ⟨S256x2048, .f32⟩
  | .local _ .vmem, ⟨5, _⟩ => ⟨S1x2048, .f32⟩
  | .local _ .vmem, ⟨6, _⟩ => ⟨S1x1x2048, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== AttKvBwdRefIdeal.lean ====
abbrev S256x2048 : Shape := ⟨2, ![256, 2048]⟩
abbrev S2048x2048 : Shape := ⟨2, ![2048, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 34
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .bf16⟩
  | .hbm, ⟨3, _⟩ => ⟨S2048x2048, .bf16⟩
  | .hbm, ⟨4, _⟩ => ⟨S256x2048, .f32⟩
  | .hbm, ⟨5, _⟩ => ⟨S1x2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S2048x2048, .f32⟩
  | .hbm, ⟨22, _⟩ => ⟨S256x2048, .f32⟩
  | .hbm, ⟨23, _⟩ => ⟨S2048x2048, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S_, .f32⟩
  | .hbm, ⟨32, _⟩ => ⟨S2048, .f32⟩
  | .hbm, ⟨33, _⟩ => ⟨S1x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== DownBwd.lean ====
abbrev S2048x8192 : Shape := ⟨2, ![2048, 8192]⟩
abbrev S8192x2048 : Shape := ⟨2, ![8192, 2048]⟩
abbrev S1x2048 : Shape := ⟨2, ![1, 2048]⟩
abbrev S2048x2048 : Shape := ⟨2, ![2048, 2048]⟩
abbrev S_ : Shape := ⟨0, ![]⟩
abbrev S8x1x2048 : Shape := ⟨3, ![8, 1, 2048]⟩
abbrev S256x2048 : Shape := ⟨2, ![256, 2048]⟩
abbrev S512x2048 : Shape := ⟨2, ![512, 2048]⟩
abbrev S2048x512 : Shape := ⟨2, ![2048, 512]⟩
abbrev S1x1x2048 : Shape := ⟨3, ![1, 1, 2048]⟩
abbrev S256 : Shape := ⟨1, ![256]⟩
abbrev S256x1 : Shape := ⟨2, ![256, 1]⟩
abbrev S2048 : Shape := ⟨1, ![2048]⟩

abbrev nBuf : Space → Nat
  | .hbm => 15
  | .vmem => 16
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S1x2048, .f32⟩
  | .hbm, ⟨3, _⟩ => ⟨S2048x2048, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S8192x2048, .f32⟩
  | .hbm, ⟨9, _⟩ => ⟨S2048x2048, .f32⟩
  | .hbm, ⟨10, _⟩ => ⟨S2048x8192, .bf16⟩
  | .hbm, ⟨11, _⟩ => ⟨S2048x2048, .bf16⟩
  | .hbm, ⟨12, _⟩ => ⟨S8x1x2048, .f32⟩
  | .hbm, ⟨13, _⟩ => ⟨S_, .f32⟩
  | .hbm, ⟨14, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S2048x512, .f32⟩
  | .local _ .vmem, ⟨8, _⟩ => ⟨S2048x512, .f32⟩
  | .local _ .vmem, ⟨9, _⟩ => ⟨S2048x512, .bf16⟩
  | .local _ .vmem, ⟨10, _⟩ => ⟨S2048x512, .bf16⟩
  | .local _ .vmem, ⟨11, _⟩ => ⟨S256x2048, .bf16⟩
  | .local _ .vmem, ⟨12, _⟩ => ⟨S256x2048, .bf16⟩
  | .local _ .vmem, ⟨13, _⟩ => ⟨S1x1x2048, .f32⟩
  | .local _ .vmem, ⟨14, _⟩ => ⟨S1x1x2048, .f32⟩
  | .local _ .vmem, ⟨15, _⟩ => ⟨S2048x2048, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_cst : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c256_i32 : BitVec 32 := 256#32
  let v41 : BitVec 32 := Scalar.muli arg0 c256_i32
  v41
def k0_off1 (i : grid0.Coords) : Fin 2 → Nat :=
  let arg0 : BitVec 32 := BitVec.ofNat 32 (i 0).val
  let c256_i32 : BitVec 32 := 256#32
  let v41 : BitVec 32 := Scalar.muli arg0 c256_i32
  let v42 : BitVec 32 := v41
  let v43 : Index := Scalar.indexCast v42
  let c0_17 : Index := 0#32
  ![v43.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownBwdRefIdeal.lean ====
abbrev S2048x8192 : Shape := ⟨2, ![2048, 8192]⟩
abbrev S8192x2048 : Shape := ⟨2, ![8192, 2048]⟩
abbrev S1x2048 : Shape := ⟨2, ![1, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩

abbrev nBuf : Space → Nat
  | .hbm => 67
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S1x2048, .f32⟩
  | .hbm, ⟨3, _⟩ => ⟨S2048x2048, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .i1⟩
  | .hbm, ⟨10, _⟩ => ⟨S_, .f32⟩
  | .hbm, ⟨11, _⟩ => ⟨S2048x8192, .f32⟩
  | .hbm, ⟨12, _⟩ => ⟨S2048x8192, .f32⟩
  | .hbm, ⟨13, _⟩ => ⟨S_, .f32⟩
  | .hbm, ⟨14, _⟩ => ⟨S2048x8192, .f32⟩
  | .hbm, ⟨15, _⟩ => ⟨S2048x8192, .f32⟩
  | .hbm, ⟨16, _⟩ => ⟨S8192x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S2048x2048, .f32⟩
  | .hbm, ⟨48, _⟩ => ⟨S2048x2048, .f32⟩
  | .hbm, ⟨49, _⟩ => ⟨S2048x1, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S_, .f32⟩
  | .hbm, ⟨54, _⟩ => ⟨S2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S2048x2048, .f32⟩
  | .hbm, ⟨60, _⟩ => ⟨S2048x8192, .f32⟩
  | .hbm, ⟨61, _⟩ => ⟨S2048x8192, .f32⟩
  | .hbm, ⟨62, _⟩ => ⟨S_, .f32⟩
  | .hbm, ⟨63, _⟩ => ⟨S2048x8192, .f32⟩
  | .hbm, ⟨64, _⟩ => ⟨S2048x8192, .f32⟩
  | .hbm, ⟨65, _⟩ => ⟨S2048x8192, .bf16⟩
  | .hbm, ⟨66, _⟩ => ⟨S2048x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== UpBwd.lean ====
abbrev S2048x8192 : Shape := ⟨2, ![2048, 8192]⟩
abbrev S8192x2048 : Shape := ⟨2, ![8192, 2048]⟩
abbrev S2048x2048 : Shape := ⟨2, ![2048, 2048]⟩
abbrev S1x2048 : Shape := ⟨2, ![1, 2048]⟩
abbrev S4x1x2048 : Shape := ⟨3, ![4, 1, 2048]⟩
abbrev S512x2048 : Shape := ⟨2, ![512, 2048]⟩
abbrev S1x1x2048 : Shape := ⟨3, ![1, 1, 2048]⟩
abbrev S2 : Shape := ⟨1, ![2]⟩
abbrev S1 : Shape := ⟨1, ![1]⟩
abbrev S_ : Shape := ⟨0, ![]⟩
abbrev S512 : Shape := ⟨1, ![512]⟩
abbrev S512x1 : Shape := ⟨2, ![512, 1]⟩
abbrev S2048 : Shape := ⟨1, ![2048]⟩

abbrev nBuf : Space → Nat
  | .hbm => 9
  | .vmem => 12
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S4x1x2048, .f32⟩
  | .hbm, ⟨7, _⟩ => ⟨S_, .f32⟩
  | .hbm, ⟨8, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S1x1x2048, .f32⟩
  | .local _ .vmem, ⟨8, _⟩ => ⟨S1x1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_mult2 (i : grid0.Coords) : BitVec 32 :=
  let arg0 : BitVec 32 := BitVec.ofNat 32 (i 0).val
  let c512_i32_0 : BitVec 32 := 512#32
  let v2 : BitVec 32 := Scalar.muli arg0 c512_i32_0
  v2
def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_2 : BitVec 32 := 0#32
  let v6 : BitVec 1 := Scalar.cmpi .ne v5 c0_i32_2
  v6

def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let c0_i32_16 : BitVec 32 := 0#32
  ![v1.toNat, 0]
def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_12 : BitVec 32 := 0#32
  let v17 : BitVec 1 := Scalar.cmpi .ne v16 c0_i32_12
  v17

def k0_off2 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let c0_i32_13 : BitVec 32 := 0#32
  ![v1.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== UpBwdRefIdeal.lean ====
abbrev S2048x8192 : Shape := ⟨2, ![2048, 8192]⟩
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S8192x2048, .f32⟩
  | .hbm, ⟨25, _⟩ => ⟨S2048x8192, .f32⟩
  | .hbm, ⟨26, _⟩ => ⟨S2048x8192, .f32⟩
  | .hbm, ⟨27, _⟩ => ⟨S2048x8192, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== MixIn.lean ====
abbrev S2048x2048 : Shape := ⟨2, ![2048, 2048]⟩
abbrev S1x2048 : Shape := ⟨2, ![1, 2048]⟩
abbrev S3584x2048 : Shape := ⟨2, ![3584, 2048]⟩
abbrev S2048x3584 : Shape := ⟨2, ![2048, 3584]⟩
abbrev S256x2048 : Shape := ⟨2, ![256, 2048]⟩
abbrev S256x3584 : Shape := ⟨2, ![256, 3584]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S3584x2048, .bf16⟩
  | .hbm, ⟨3, _⟩ => ⟨S2048x3584, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S3584x2048, .bf16⟩
  | .local _ .vmem, ⟨4, _⟩ => ⟨S256x3584, .f32⟩
  | .local _ .vmem, ⟨5, _⟩ => ⟨S256x3584, .f32⟩
  | .local _ .vmem, ⟨6, _⟩ => ⟨S256x2048, .bf16⟩
  | .local _ .vmem, ⟨7, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixInRefIdeal.lean ====
abbrev S2048x2048 : Shape := ⟨2, ![2048, 2048]⟩
abbrev S1x2048 : Shape := ⟨2, ![1, 2048]⟩
abbrev S3584x2048 : Shape := ⟨2, ![3584, 2048]⟩
abbrev S_ : Shape := ⟨0, ![]⟩
abbrev S2048 : Shape := ⟨1, ![2048]⟩
abbrev S2048x1 : Shape := ⟨2, ![2048, 1]⟩
abbrev S2048x3584 : Shape := ⟨2, ![2048, 3584]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S3584x2048, .bf16⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S3584x2048, .f32⟩
  | .hbm, ⟨19, _⟩ => ⟨S2048x3584, .f32⟩
  | .hbm, ⟨20, _⟩ => ⟨S2048x3584, .f32⟩
  | .hbm, ⟨21, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== AttQ.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttQRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .bf16⟩
  | .hbm, ⟨21, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== AttK.lean ====
abbrev S256x2048 : Shape := ⟨2, ![256, 2048]⟩
abbrev S1x2048 : Shape := ⟨2, ![1, 2048]⟩
abbrev S2048x2048 : Shape := ⟨2, ![2048, 2048]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x2048, .bf16⟩
  | .hbm, ⟨3, _⟩ => ⟨S256x2048, .bf16⟩
  | .hbm, ⟨4, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S2048x2048, .bf16⟩
  | .local _ .vmem, ⟨3, _⟩ => ⟨S256x2048, .bf16⟩
  | .local _ .vmem, ⟨4, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== AttKRefIdeal.lean ====
abbrev S256x2048 : Shape := ⟨2, ![256, 2048]⟩
abbrev S1x2048 : Shape := ⟨2, ![1, 2048]⟩
abbrev S2048x2048 : Shape := ⟨2, ![2048, 2048]⟩
abbrev S_ : Shape := ⟨0, ![]⟩
abbrev S256 : Shape := ⟨1, ![256]⟩
abbrev S256x1 : Shape := ⟨2, ![256, 1]⟩

abbrev nBuf : Space → Nat
  | .hbm => 22
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048x2048, .bf16⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S2048x2048, .f32⟩
  | .hbm, ⟨19, _⟩ => ⟨S256x2048, .f32⟩
  | .hbm, ⟨20, _⟩ => ⟨S256x2048, .bf16⟩
  | .hbm, ⟨21, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MixOut.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MixOutRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== AttnFwd.lean ====
abbrev S2048x2048 : Shape := ⟨2, ![2048, 2048]⟩
abbrev S256x2048 : Shape := ⟨2, ![256, 2048]⟩
abbrev S1024x2048 : Shape := ⟨2, ![1024, 2048]⟩
abbrev S1024x512 : Shape := ⟨2, ![1024, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S256x2048, .bf16⟩
  | .hbm, ⟨3, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1024x2048, .bf16⟩
  | .local _ .vmem, ⟨5, _⟩ => ⟨S1024x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdRefIdeal.lean ====
abbrev S2048x2048 : Shape := ⟨2, ![2048, 2048]⟩
abbrev S256x2048 : Shape := ⟨2, ![256, 2048]⟩
abbrev S1x2048x4x512 : Shape := ⟨4, ![1, 2048, 4, 512]⟩
abbrev S1x256x4x512 : Shape := ⟨4, ![1, 256, 4, 512]⟩
abbrev S1x4x2048x256 : Shape := ⟨4, ![1, 4, 2048, 256]⟩
abbrev S_ : Shape := ⟨0, ![]⟩
abbrev S1x4x2048 : Shape := ⟨3, ![1, 4, 2048]⟩
abbrev S1x4x2048x1 : Shape := ⟨4, ![1, 4, 2048, 1]⟩
abbrev S1x4x512x2048 : Shape := ⟨4, ![1, 4, 512, 2048]⟩

abbrev nBuf : Space → Nat
  | .hbm => 31
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S256x2048, .bf16⟩
  | .hbm, ⟨2, _⟩ => ⟨S256x2048, .bf16⟩
  | .hbm, ⟨3, _⟩ => ⟨S2048x2048, .f32⟩
  | .hbm, ⟨4, _⟩ => ⟨S1x2048x4x512, .f32⟩
  | .hbm, ⟨5, _⟩ => ⟨S256x2048, .f32⟩
  | .hbm, ⟨6, _⟩ => ⟨S1x256x4x512, .f32⟩
  | .hbm, ⟨7, _⟩ => ⟨S256x2048, .f32⟩
  | .hbm, ⟨8, _⟩ => ⟨S1x256x4x512, .f32⟩
  | .hbm, ⟨9, _⟩ => ⟨S1x4x2048x256, .f32⟩
  | .hbm, ⟨10, _⟩ => ⟨S_, .f32⟩
  | .hbm, ⟨11, _⟩ => ⟨S1x4x2048x256, .f32⟩
  | .hbm, ⟨12, _⟩ => ⟨S1x4x2048x256, .f32⟩
  | .hbm, ⟨13, _⟩ => ⟨S_, .f32⟩
  | .hbm, ⟨14, _⟩ => ⟨S1x4x2048, .f32⟩
  | .hbm, ⟨15, _⟩ => ⟨S_, .f32⟩
  | .hbm, ⟨16, _⟩ => ⟨S1x4x2048, .f32⟩
  | .hbm, ⟨17, _⟩ => ⟨S1x4x2048, .f32⟩
  | .hbm, ⟨18, _⟩ => ⟨S1x4x2048x1, .f32⟩
  | .hbm, ⟨19, _⟩ => ⟨S1x4x2048x256, .f32⟩
  | .hbm, ⟨20, _⟩ => ⟨S1x4x2048x256, .f32⟩
  | .hbm, ⟨21, _⟩ => ⟨S1x4x2048x256, .f32⟩
  | .hbm, ⟨22, _⟩ => ⟨S_, .f32⟩
  | .hbm, ⟨23, _⟩ => ⟨S1x4x2048, .f32⟩
  | .hbm, ⟨24, _⟩ => ⟨S1x4x2048x1, .f32⟩
  | .hbm, ⟨25, _⟩ => ⟨S1x4x2048x256, .f32⟩
  | .hbm, ⟨26, _⟩ => ⟨S1x4x2048x256, .f32⟩
  | .hbm, ⟨27, _⟩ => ⟨S1x4x512x2048, .f32⟩
  | .hbm, ⟨28, _⟩ => ⟨S1x2048x4x512, .f32⟩
  | .hbm, ⟨29, _⟩ => ⟨S2048x2048, .f32⟩
  | .hbm, ⟨30, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== UpFwd.lean ====
abbrev S2048x2048 : Shape := ⟨2, ![2048, 2048]⟩
abbrev S1x2048 : Shape := ⟨2, ![1, 2048]⟩
abbrev S8192x2048 : Shape := ⟨2, ![8192, 2048]⟩
abbrev S2048x8192 : Shape := ⟨2, ![2048, 8192]⟩
abbrev S256x2048 : Shape := ⟨2, ![256, 2048]⟩
abbrev S512x2048 : Shape := ⟨2, ![512, 2048]⟩
abbrev S2048x512 : Shape := ⟨2, ![2048, 512]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S8192x2048, .bf16⟩
  | .hbm, ⟨3, _⟩ => ⟨S2048x8192, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S2048x512, .f32⟩
  | .local _ .vmem, ⟨6, _⟩ => ⟨S2048x512, .f32⟩
  | .local _ .vmem, ⟨7, _⟩ => ⟨S256x2048, .bf16⟩
  | .local _ .vmem, ⟨8, _⟩ => ⟨S256x2048, .bf16⟩
  | .local _ .vmem, ⟨9, _⟩ => ⟨S2048x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_mult1 (i : grid0.Coords) : BitVec 32 :=
  let arg0 : BitVec 32 := BitVec.ofNat 32 (i 0).val
  let c256_i32 : BitVec 32 := 256#32
  let v23 : BitVec 32 := Scalar.muli arg0 c256_i32
  v23
def k0_off1 (i : grid0.Coords) : Fin 2 → Nat :=
  let arg0 : BitVec 32 := BitVec.ofNat 32 (i 0).val
  let c256_i32 : BitVec 32 := 256#32
  let v23 : BitVec 32 := Scalar.muli arg0 c256_i32
  let v24 : BitVec 32 := v23
  let v25 : Index := Scalar.indexCast v24
  let c0_9 : Index := 0#32
  ![v25.toNat, 0]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpFwdRefIdeal.lean ====
abbrev S2048x2048 : Shape := ⟨2, ![2048, 2048]⟩
abbrev S1x2048 : Shape := ⟨2, ![1, 2048]⟩
abbrev S8192x2048 : Shape := ⟨2, ![8192, 2048]⟩
abbrev S_ : Shape := ⟨0, ![]⟩
abbrev S2048 : Shape := ⟨1, ![2048]⟩
abbrev S2048x1 : Shape := ⟨2, ![2048, 1]⟩
abbrev S2048x8192 : Shape := ⟨2, ![2048, 8192]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S8192x2048, .bf16⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S8192x2048, .f32⟩
  | .hbm, ⟨19, _⟩ => ⟨S2048x8192, .f32⟩
  | .hbm, ⟨20, _⟩ => ⟨S2048x8192, .f32⟩
  | .hbm, ⟨21, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== DownFwd.lean ====
abbrev S2048x8192 : Shape := ⟨2, ![2048, 8192]⟩
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S1 : Shape := ⟨1, ![1]⟩
abbrev S_ : Shape := ⟨0, ![]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg0 : BitVec 32 := BitVec.ofNat 32 (i 0).val
  let c512_i32 : BitVec 32 := 512#32
  let v0 : BitVec 32 := Scalar.muli arg0 c512_i32
  v0
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_1 : BitVec 32 := 0#32
  let v4 : BitVec 1 := Scalar.cmpi .ne v3 c0_i32_1
  v4

def k0_off1 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let c0_i32_15 : BitVec 32 := 0#32
  ![v1.toNat, 0]
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_11 : BitVec 32 := 0#32
  let v18 : BitVec 1 := Scalar.cmpi .ne v17 c0_i32_11
  v18

def k0_off2 (i : grid0.Coords) : Fin 2 → Nat :=
  let arg0 : BitVec 32 := BitVec.ofNat 32 (i 0).val
  let c512_i32 : BitVec 32 := 512#32
  let v0 : BitVec 32 := Scalar.muli arg0 c512_i32
  let v1 : BitVec 32 := v0
  let c0_i32_12 : BitVec 32 := 0#32
  ![v1.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DownFwdRefIdeal.lean ====
abbrev S2048x8192 : Shape := ⟨2, ![2048, 8192]⟩
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .f32⟩
  | .hbm, ⟨3, _⟩ => ⟨S1x2048, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S2048x8192, .f32⟩
  | .hbm, ⟨8, _⟩ => ⟨S8192x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== GmlpFwd.lean ====
abbrev S2048x3584 : Shape := ⟨2, ![2048, 3584]⟩
abbrev S8x128 : Shape := ⟨2, ![8, 128]⟩
abbrev S8x128x128 : Shape := ⟨3, ![8, 128, 128]⟩
abbrev S128x8 : Shape := ⟨2, ![128, 8]⟩
abbrev S2048x2048 : Shape := ⟨2, ![2048, 2048]⟩
abbrev S1024x1024 : Shape := ⟨2, ![1024, 1024]⟩
abbrev S128x128 : Shape := ⟨2, ![128, 128]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩
abbrev S1x128x128 : Shape := ⟨3, ![1, 128, 128]⟩
abbrev S128x1 : Shape := ⟨2, ![128, 1]⟩
abbrev S2048x1024 : Shape := ⟨2, ![2048, 1024]⟩

abbrev nBuf : Space → Nat
  | .hbm => 7
  | .vmem => 9
  | .smem => 0
  | _ => 0

abbrev bufTy : (tb : Table) → Fin (tcTables nBuf tb) → BufTy
  | .hbm, ⟨0, _⟩ => ⟨S2048x3584, .f32⟩
  | .hbm, ⟨1, _⟩ => ⟨S8x128, .f32⟩
  | .hbm, ⟨2, _⟩ => ⟨S8x128x128, .f32⟩
  | .hbm, ⟨3, _⟩ => ⟨S8x128, .f32⟩
  | .hbm, ⟨4, _⟩ => ⟨S128x8, .f32⟩
  | .hbm, ⟨5, _⟩ => ⟨S2048x2048, .bf16⟩
  | .hbm, ⟨6, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S8x128, .f32⟩
  | .local _ .vmem, ⟨5, _⟩ => ⟨S8x128x128, .f32⟩
  | .local _ .vmem, ⟨6, _⟩ => ⟨S128x8, .f32⟩
  | .local _ .vmem, ⟨7, _⟩ => ⟨S1024x1024, .bf16⟩
  | .local _ .vmem, ⟨8, _⟩ => ⟨S1024x1024, .bf16⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpFwdRefIdeal.lean ====
abbrev S2048x3584 : Shape := ⟨2, ![2048, 3584]⟩
abbrev S8x128 : Shape := ⟨2, ![8, 128]⟩
abbrev S8x128x128 : Shape := ⟨3, ![8, 128, 128]⟩
abbrev S2048x2048 : Shape := ⟨2, ![2048, 2048]⟩
abbrev S_ : Shape := ⟨0, ![]⟩
abbrev S2048x1024 : Shape := ⟨2, ![2048, 1024]⟩
abbrev S2048x8x128 : Shape := ⟨3, ![2048, 8, 128]⟩
abbrev S2048x8 : Shape := ⟨2, ![2048, 8]⟩
abbrev S2048x8x1 : Shape := ⟨3, ![2048, 8, 1]⟩
abbrev S1x8x128 : Shape := ⟨3, ![1, 8, 128]⟩
abbrev S128x128 : Shape := ⟨2, ![128, 128]⟩
abbrev S16x128x8x128 : Shape := ⟨4, ![16, 128, 8, 128]⟩
abbrev S1x128x128 : Shape := ⟨3, ![1, 128, 128]⟩
abbrev S8x16x128x128 : Shape := ⟨4, ![8, 16, 128, 128]⟩
abbrev S128x8 : Shape := ⟨2, ![128, 8]⟩
abbrev S1x128x8x1 : Shape := ⟨4, ![1, 128, 8, 1]⟩

abbrev nBuf : Space → Nat
  | .hbm => 77
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S8x128, .f32⟩
  | .hbm, ⟨2, _⟩ => ⟨S8x128x128, .f32⟩
  | .hbm, ⟨3, _⟩ => ⟨S8x128, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x1024, .f32⟩
  | .hbm, ⟨23, _⟩ => ⟨S2048x1024, .f32⟩
  | .hbm, ⟨24, _⟩ => ⟨S2048x8x128, .f32⟩
  | .hbm, ⟨25, _⟩ => ⟨S2048x8x128, .f32⟩
  | .hbm, ⟨26, _⟩ => ⟨S_, .f32⟩
  | .hbm, ⟨27, _⟩ => ⟨S2048x8, .f32⟩
  | .hbm, ⟨28, _⟩ => ⟨S2048x8x1, .f32⟩
  | .hbm, ⟨29, _⟩ => ⟨S_, .f32⟩
  | .hbm, ⟨30, _⟩ => ⟨S2048x8x1, .f32⟩
  | .hbm, ⟨31, _⟩ => ⟨S2048x8x1, .f32⟩
  | .hbm, ⟨32, _⟩ => ⟨S2048x8x128, .f32⟩
  | .hbm, ⟨33, _⟩ => ⟨S2048x8x128, .f32⟩
  | .hbm, ⟨34, _⟩ => ⟨S2048x8x128, .f32⟩
  | .hbm, ⟨35, _⟩ => ⟨S_, .f32⟩
  | .hbm, ⟨36, _⟩ => ⟨S2048x8, .f32⟩
  | .hbm, ⟨37, _⟩ => ⟨S2048x8x1, .f32⟩
  | .hbm, ⟨38, _⟩ => ⟨S_, .f32⟩
  | .hbm, ⟨39, _⟩ => ⟨S2048x8x1, .f32⟩
  | .hbm, ⟨40, _⟩ => ⟨S2048x8x1, .f32⟩
  | .hbm, ⟨41, _⟩ => ⟨S2048x8x128, .f32⟩
  | .hbm, ⟨42, _⟩ => ⟨S2048x8x128, .f32⟩
  | .hbm, ⟨43, _⟩ => ⟨S_, .f32⟩
  | .hbm, ⟨44, _⟩ => ⟨S2048x8x1, .f32⟩
  | .hbm, ⟨45, _⟩ => ⟨S2048x8x1, .f32⟩
  | .hbm, ⟨46, _⟩ => ⟨S2048x8x1, .f32⟩
  | .hbm, ⟨47, _⟩ => ⟨S2048x8x128, .f32⟩
  | .hbm, ⟨48, _⟩ => ⟨S2048x8x128, .f32⟩
  | .hbm, ⟨49, _⟩ => ⟨S1x8x128, .f32⟩
  | .hbm, ⟨50, _⟩ => ⟨S2048x8x128, .f32⟩
  | .hbm, ⟨51, _⟩ => ⟨S2048x8x128, .f32⟩
  | .hbm, ⟨52, _⟩ => ⟨S_, .f32⟩
  | .hbm, ⟨53, _⟩ => ⟨S128x128, .f32⟩
  | .hbm, ⟨54, _⟩ => ⟨S128x128, .i32⟩
  | .hbm, ⟨55, _⟩ => ⟨S_, .i32⟩
  | .hbm, ⟨56, _⟩ => ⟨S128x128, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S_, .f32⟩
  | .hbm, ⟨61, _⟩ => ⟨S128x128, .f32⟩
  | .hbm, ⟨62, _⟩ => ⟨S128x128, .f32⟩
  | .hbm, ⟨63, _⟩ => ⟨S16x128x8x128, .f32⟩
  | .hbm, ⟨64, _⟩ => ⟨S1x128x128, .f32⟩
  | .hbm, ⟨65, _⟩ => ⟨S8x128x128, .f32⟩
  | .hbm, ⟨66, _⟩ => ⟨S8x128x128, .f32⟩
  | .hbm, ⟨67, _⟩ => ⟨S8x16x128x128, .f32⟩
  | .hbm, ⟨68, _⟩ => ⟨S16x128x8x128, .f32⟩
  | .hbm, ⟨69, _⟩ => ⟨S128x8, .f32⟩
  | .hbm, ⟨70, _⟩ => ⟨S1x128x8x1, .f32⟩
  | .hbm, ⟨71, _⟩ => ⟨S16x128x8x128, .f32⟩
  | .hbm, ⟨72, _⟩ => ⟨S16x128x8x128, .f32⟩
  | .hbm, ⟨73, _⟩ => ⟨S2048x8x128, .f32⟩
  | .hbm, ⟨74, _⟩ => ⟨S2048x8x128, .f32⟩
  | .hbm, ⟨75, _⟩ => ⟨S2048x1024, .f32⟩
  | .hbm, ⟨76, _⟩ => ⟨S2048x1024, .bf16⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_call0_v0 : Ref sig .tc := ⟨.hbm, 54, rfl⟩
abbrev main_call0_c : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_cst : Ref sig .tc := ⟨.hbm, 60, rfl⟩
abbrev main_call0_v5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== GmlpBwd.lean ====
abbrev S2048x3584 : Shape := ⟨2, ![2048, 3584]⟩
abbrev S2048x2048 : Shape := ⟨2, ![2048, 2048]⟩
abbrev S8x128 : Shape := ⟨2, ![8, 128]⟩
abbrev S8x128x128 : Shape := ⟨3, ![8, 128, 128]⟩
abbrev S128x8 : Shape := ⟨2, ![128, 8]⟩
abbrev S4x8x128 : Shape := ⟨3, ![4, 8, 128]⟩
abbrev S4x8x128x128 : Shape := ⟨4, ![4, 8, 128, 128]⟩
abbrev S512x1024 : Shape := ⟨2, ![512, 1024]⟩
abbrev S512x2048 : Shape := ⟨2, ![512, 2048]⟩
abbrev S1x8x128 : Shape := ⟨3, ![1, 8, 128]⟩
abbrev S1x8x128x128 : Shape := ⟨4, ![1, 8, 128, 128]⟩
abbrev S128x128 : Shape := ⟨2, ![128, 128]⟩
abbrev S512x128 : Shape := ⟨2, ![512, 128]⟩
abbrev S1x128 : Shape := ⟨2, ![1, 128]⟩
abbrev S512 : Shape := ⟨1, ![512]⟩
abbrev S512x1 : Shape := ⟨2, ![512, 1]⟩
abbrev S1x128x128 : Shape := ⟨3, ![1, 128, 128]⟩
abbrev S128x1 : Shape := ⟨2, ![128, 1]⟩
abbrev S128 : Shape := ⟨1, ![128]⟩
abbrev S1x1x128 : Shape := ⟨3, ![1, 1, 128]⟩
abbrev S1x1x128x128 : Shape := ⟨4, ![1, 1, 128, 128]⟩
abbrev S_ : Shape := ⟨0, ![]⟩
abbrev S4x8x128x1 : Shape := ⟨4, ![4, 8, 128, 1]⟩

abbrev nBuf : Space → Nat
  | .hbm => 18
  | .vmem => 17
  | .smem => 0
  | _ => 0

abbrev bufTy : (tb : Table) → Fin (tcTables nBuf tb) → BufTy
  | .hbm, ⟨0, _⟩ => ⟨S2048x3584, .f32⟩
  | .hbm, ⟨1, _⟩ => ⟨S2048x2048, .f32⟩
  | .hbm, ⟨2, _⟩ => ⟨S8x128, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S2048x3584, .bf16⟩
  | .hbm, ⟨7, _⟩ => ⟨S4x8x128, .f32⟩
  | .hbm, ⟨8, _⟩ => ⟨S4x8x128x128, .f32⟩
  | .hbm, ⟨9, _⟩ => ⟨S4x8x128x128, .f32⟩
  | .hbm, ⟨10, _⟩ => ⟨S_, .f32⟩
  | .hbm, ⟨11, _⟩ => ⟨S8x128, .f32⟩
  | .hbm, ⟨12, _⟩ => ⟨S_, .f32⟩
  | .hbm, ⟨13, _⟩ => ⟨S8x128x128, .f32⟩
  | .hbm, ⟨14, _⟩ => ⟨S4x8x128x1, .f32⟩
  | .hbm, ⟨15, _⟩ => ⟨S4x8x128, .f32⟩
  | .hbm, ⟨16, _⟩ => ⟨S_, .f32⟩
  | .hbm, ⟨17, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | .local _ .vmem, ⟨7, _⟩ => ⟨S8x128x128, .f32⟩
  | .local _ .vmem, ⟨8, _⟩ => ⟨S128x8, .f32⟩
  | .local _ .vmem, ⟨9, _⟩ => ⟨S512x2048, .bf16⟩
  | .local _ .vmem, ⟨10, _⟩ => ⟨S512x2048, .bf16⟩
  | .local _ .vmem, ⟨11, _⟩ => ⟨S1x8x128, .f32⟩
  | .local _ .vmem, ⟨12, _⟩ => ⟨S1x8x128, .f32⟩
  | .local _ .vmem, ⟨13, _⟩ => ⟨S1x8x128x128, .f32⟩
  | .local _ .vmem, ⟨14, _⟩ => ⟨S1x8x128x128, .f32⟩
  | .local _ .vmem, ⟨15, _⟩ => ⟨S1x8x128x128, .f32⟩
  | .local _ .vmem, ⟨16, _⟩ => ⟨S1x8x128x128, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GmlpBwdRefIdeal.lean ====
abbrev S2048x3584 : Shape := ⟨2, ![2048, 3584]⟩
abbrev S2048x2048 : Shape := ⟨2, ![2048, 2048]⟩
abbrev S8x128 : Shape := ⟨2, ![8, 128]⟩
abbrev S8x128x128 : Shape := ⟨3, ![8, 128, 128]⟩
abbrev S_ : Shape := ⟨0, ![]⟩
abbrev S2048x1024 : Shape := ⟨2, ![2048, 1024]⟩
abbrev S2048x8x128 : Shape := ⟨3, ![2048, 8, 128]⟩
abbrev S2048x8 : Shape := ⟨2, ![2048, 8]⟩
abbrev S2048x8x1 : Shape := ⟨3, ![2048, 8, 1]⟩
abbrev S1x8x128 : Shape := ⟨3, ![1, 8, 128]⟩
abbrev S128x128 : Shape := ⟨2, ![128, 128]⟩
abbrev S16x128x8x128 : Shape := ⟨4, ![16, 128, 8, 128]⟩
abbrev S1x128x128 : Shape := ⟨3, ![1, 128, 128]⟩
abbrev S8x16x128x128 : Shape := ⟨4, ![8, 16, 128, 128]⟩
abbrev S128x8 : Shape := ⟨2, ![128, 8]⟩
abbrev S1x128x8x1 : Shape := ⟨4, ![1, 128, 8, 1]⟩

abbrev nBuf : Space → Nat
  | .hbm => 100
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S2048x2048, .f32⟩
  | .hbm, ⟨2, _⟩ => ⟨S8x128, .f32⟩
  | .hbm, ⟨3, _⟩ => ⟨S8x128x128, .f32⟩
  | .hbm, ⟨4, _⟩ => ⟨S8x128, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x1024, .f32⟩
  | .hbm, ⟨24, _⟩ => ⟨S2048x1024, .f32⟩
  | .hbm, ⟨25, _⟩ => ⟨S2048x8x128, .f32⟩
  | .hbm, ⟨26, _⟩ => ⟨S2048x8x128, .f32⟩
  | .hbm, ⟨27, _⟩ => ⟨S_, .f32⟩
  | .hbm, ⟨28, _⟩ => ⟨S2048x8, .f32⟩
  | .hbm, ⟨29, _⟩ => ⟨S2048x8x1, .f32⟩
  | .hbm, ⟨30, _⟩ => ⟨S_, .f32⟩
  | .hbm, ⟨31, _⟩ => ⟨S2048x8x1, .f32⟩
  | .hbm, ⟨32, _⟩ => ⟨S2048x8x1, .f32⟩
  | .hbm, ⟨33, _⟩ => ⟨S2048x8x128, .f32⟩
  | .hbm, ⟨34, _⟩ => ⟨S2048x8x128, .f32⟩
  | .hbm, ⟨35, _⟩ => ⟨S2048x8x128, .f32⟩
  | .hbm, ⟨36, _⟩ => ⟨S_, .f32⟩
  | .hbm, ⟨37, _⟩ => ⟨S2048x8, .f32⟩
  | .hbm, ⟨38, _⟩ => ⟨S2048x8x1, .f32⟩
  | .hbm, ⟨39, _⟩ => ⟨S_, .f32⟩
  | .hbm, ⟨40, _⟩ => ⟨S2048x8x1, .f32⟩
  | .hbm, ⟨41, _⟩ => ⟨S2048x8x1, .f32⟩
  | .hbm, ⟨42, _⟩ => ⟨S2048x8x128, .f32⟩
  | .hbm, ⟨43, _⟩ => ⟨S2048x8x128, .f32⟩
  | .hbm, ⟨44, _⟩ => ⟨S_, .f32⟩
  | .hbm, ⟨45, _⟩ => ⟨S2048x8x1, .f32⟩
  | .hbm, ⟨46, _⟩ => ⟨S2048x8x1, .f32⟩
  | .hbm, ⟨47, _⟩ => ⟨S2048x8x1, .f32⟩
  | .hbm, ⟨48, _⟩ => ⟨S2048x8x128, .f32⟩
  | .hbm, ⟨49, _⟩ => ⟨S2048x8x128, .f32⟩
  | .hbm, ⟨50, _⟩ => ⟨S1x8x128, .f32⟩
  | .hbm, ⟨51, _⟩ => ⟨S2048x8x128, .f32⟩
  | .hbm, ⟨52, _⟩ => ⟨S2048x8x128, .f32⟩
  | .hbm, ⟨53, _⟩ => ⟨S_, .f32⟩
  | .hbm, ⟨54, _⟩ => ⟨S128x128, .f32⟩
  | .hbm, ⟨55, _⟩ => ⟨S128x128, .i32⟩
  | .hbm, ⟨56, _⟩ => ⟨S_, .i32⟩
  | .hbm, ⟨57, _⟩ => ⟨S128x128, .i32⟩
  | .hbm, ⟨58, _⟩ => ⟨S128x128, .i32⟩
  | .hbm, ⟨59, _⟩ => ⟨S128x128, .i32⟩
  | .hbm, ⟨60, _⟩ => ⟨S128x128, .i1⟩
  | .hbm, ⟨61, _⟩ => ⟨S_, .f32⟩
  | .hbm, ⟨62, _⟩ => ⟨S128x128, .f32⟩
  | .hbm, ⟨63, _⟩ => ⟨S128x128, .f32⟩
  | .hbm, ⟨64, _⟩ => ⟨S16x128x8x128, .f32⟩
  | .hbm, ⟨65, _⟩ => ⟨S1x128x128, .f32⟩
  | .hbm, ⟨66, _⟩ => ⟨S8x128x128, .f32⟩
  | .hbm, ⟨67, _⟩ => ⟨S8x128x128, .f32⟩
  | .hbm, ⟨68, _⟩ => ⟨S8x16x128x128, .f32⟩
  | .hbm, ⟨69, _⟩ => ⟨S16x128x8x128, .f32⟩
  | .hbm, ⟨70, _⟩ => ⟨S128x8, .f32⟩
  | .hbm, ⟨71, _⟩ => ⟨S1x128x8x1, .f32⟩
  | .hbm, ⟨72, _⟩ => ⟨S16x128x8x128, .f32⟩
  | .hbm, ⟨73, _⟩ => ⟨S16x128x8x128, .f32⟩
  | .hbm, ⟨74, _⟩ => ⟨S2048x8x128, .f32⟩
  | .hbm, ⟨75, _⟩ => ⟨S2048x8x128, .f32⟩
  | .hbm, ⟨76, _⟩ => ⟨S2048x1024, .f32⟩
  | .hbm, ⟨77, _⟩ => ⟨S2048x1024, .f32⟩
  | .hbm, ⟨78, _⟩ => ⟨S2048x8x128, .f32⟩
  | .hbm, ⟨79, _⟩ => ⟨S2048x8x128, .f32⟩
  | .hbm, ⟨80, _⟩ => ⟨S16x128x8x128, .f32⟩
  | .hbm, ⟨81, _⟩ => ⟨S_, .f32⟩
  | .hbm, ⟨82, _⟩ => ⟨S128x8, .f32⟩
  | .hbm, ⟨83, _⟩ => ⟨S1x128x8x1, .f32⟩
  | .hbm, ⟨84, _⟩ => ⟨S_, .f32⟩
  | .hbm, ⟨85, _⟩ => ⟨S128x8, .f32⟩
  | .hbm, ⟨86, _⟩ => ⟨S8x128, .f32⟩
  | .hbm, ⟨87, _⟩ => ⟨S8x16x128x128, .f32⟩
  | .hbm, ⟨88, _⟩ => ⟨S8x128x128, .f32⟩
  | .hbm, ⟨89, _⟩ => ⟨S8x16x128x128, .f32⟩
  | .hbm, ⟨90, _⟩ => ⟨S16x128x8x128, .f32⟩
  | .hbm, ⟨91, _⟩ => ⟨S8x128x128, .f32⟩
  | .hbm, ⟨92, _⟩ => ⟨S8x128x128, .f32⟩
  | .hbm, ⟨93, _⟩ => ⟨S2048x8x128, .f32⟩
  | .hbm, ⟨94, _⟩ => ⟨S2048x8x128, .f32⟩
  | .hbm, ⟨95, _⟩ => ⟨S_, .f32⟩
  | .hbm, ⟨96, _⟩ => ⟨S8x128, .f32⟩
  | .hbm, ⟨97, _⟩ => ⟨S1x8x128, .f32⟩
  | .hbm, ⟨98, _⟩ => ⟨S_, .f32⟩
  | .hbm, ⟨99, _⟩ => ⟨S8x128, .f32⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_cst : Ref sig .tc := ⟨.hbm, 61, rfl⟩
abbrev main_call0_v5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_11 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩

abbrev nD : Nat := 1
abbrev τ : Topo := Topo.v7x

variable {F : FTy → Type} [FloatOps F]
-- ==== LossHead.lean ====
abbrev S2048x2048 : Shape := ⟨2, ![2048, 2048]⟩
abbrev S2x8x128 : Shape := ⟨3, ![2, 8, 128]⟩
abbrev S1024x2048 : Shape := ⟨2, ![1024, 2048]⟩
abbrev S1x8x128 : Shape := ⟨3, ![1, 8, 128]⟩
abbrev S1x1024x2048 : Shape := ⟨3, ![1, 1024, 2048]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2x8x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1024x2048, .f32⟩
  | .local _ .vmem, ⟨5, _⟩ => ⟨S1024x2048, .f32⟩
  | .local _ .vmem, ⟨6, _⟩ => ⟨S1x8x128, .f32⟩
  | .local _ .vmem, ⟨7, _⟩ => ⟨S1x8x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossHeadRefIdeal.lean ====
abbrev S2048x2048 : Shape := ⟨2, ![2048, 2048]⟩
abbrev S_ : Shape := ⟨0, ![]⟩
abbrev S2048 : Shape := ⟨1, ![2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x2048, .f32⟩
  | .hbm, ⟨24, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Adam.lean ====
abbrev S2x1024x2048 : Shape := ⟨3, ![2, 1024, 2048]⟩
abbrev S4x1024x2048 : Shape := ⟨3, ![4, 1024, 2048]⟩
abbrev S3x1024x2048 : Shape := ⟨3, ![3, 1024, 2048]⟩
abbrev S_ : Shape := ⟨0, ![]⟩
abbrev S1 : Shape := ⟨1, ![1]⟩
abbrev S1x256x2048 : Shape := ⟨3, ![1, 256, 2048]⟩
abbrev S3x256x2048 : Shape := ⟨3, ![3, 256, 2048]⟩
abbrev S256x2048 : Shape := ⟨2, ![256, 2048]⟩

abbrev nBuf : Space → Nat
  | .hbm => 12
  | .vmem => 22
  | .smem => 1
  | _ => 0

abbrev bufTy : (tb : Table) → Fin (tcTables nBuf tb) → BufTy
  | .hbm, ⟨0, _⟩ => ⟨S2x1024x2048, .f32⟩
  | .hbm, ⟨1, _⟩ => ⟨S4x1024x2048, .bf16⟩
  | .hbm, ⟨2, _⟩ => ⟨S3x1024x2048, .bf16⟩
  | .hbm, ⟨3, _⟩ => ⟨S4x1024x2048, .bf16⟩
  | .hbm, ⟨4, _⟩ => ⟨S3x1024x2048, .bf16⟩
  | .hbm, ⟨5, _⟩ => ⟨S2x1024x2048, .f32⟩
  | .hbm, ⟨6, _⟩ => ⟨S2x1024x2048, .f32⟩
  | .hbm, ⟨7, _⟩ => ⟨S_, .i32⟩
  | .hbm, ⟨8, _⟩ => ⟨S2x1024x2048, .f32⟩
  | .hbm, ⟨9, _⟩ => ⟨S2x1024x2048, .f32⟩
  | .hbm, ⟨10, _⟩ => ⟨S2x1024x2048, .f32⟩
  | .hbm, ⟨11, _⟩ => ⟨S2x1024x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .bf16⟩
  | .local _ .vmem, ⟨3, _⟩ => ⟨S1x256x2048, .bf16⟩
  | .local _ .vmem, ⟨4, _⟩ => ⟨S3x256x2048, .bf16⟩
  | .local _ .vmem, ⟨5, _⟩ => ⟨S3x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S3x256x2048, .bf16⟩
  | .local _ .vmem, ⟨9, _⟩ => ⟨S3x256x2048, .bf16⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S1x256x2048, .f32⟩
  | .local _ .vmem, ⟨19, _⟩ => ⟨S1x256x2048, .f32⟩
  | .local _ .vmem, ⟨20, _⟩ => ⟨S1x256x2048, .f32⟩
  | .local _ .vmem, ⟨21, _⟩ => ⟨S1x256x2048, .f32⟩
  | .local _ .smem, ⟨0, _⟩ => ⟨S1, .i32⟩
  | _, _ => ⟨S2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 arg0
  let v2 : BitVec 32 := Scalar.muli arg1 v1
  let c3_i32 : BitVec 32 := 3#32
  let v3 : BitVec 32 := Scalar.muli c3_i32 arg0
  let v4 : BitVec 32 := Scalar.addi v2 v3
  let c0_i32 : BitVec 32 := 0#32
  let c0_i32_0 : BitVec 32 := 0#32
  ![v0.toNat, v4.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c3_i32 : BitVec 32 := 3#32
  let v2 : BitVec 32 := Scalar.muli c3_i32 arg0
  let v3 : BitVec 32 := Scalar.addi v1 v2
  let c0_i32 : BitVec 32 := 0#32
  let c0_i32_0 : BitVec 32 := 0#32
  let c0_i32_1 : BitVec 32 := 0#32
  ![c0_i32.toNat, v3.toNat, c0_i32_0.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let v1 : BitVec 32 := Scalar.muli arg1 arg0
  let c0_i32 : BitVec 32 := 0#32
  let c0_i32_0 : BitVec 32 := 0#32
  ![v0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamRefIdeal.lean ====
abbrev S2x1024x2048 : Shape := ⟨3, ![2, 1024, 2048]⟩
abbrev S4x1024x2048 : Shape := ⟨3, ![4, 1024, 2048]⟩
abbrev S3x1024x2048 : Shape := ⟨3, ![3, 1024, 2048]⟩
abbrev S1x1024x2048 : Shape := ⟨3, ![1, 1024, 2048]⟩
abbrev S1024x2048 : Shape := ⟨2, ![1024, 2048]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S2x1024x2048, .f32⟩
  | .hbm, ⟨1, _⟩ => ⟨S4x1024x2048, .bf16⟩
  | .hbm, ⟨2, _⟩ => ⟨S3x1024x2048, .bf16⟩
  | .hbm, ⟨3, _⟩ => ⟨S4x1024x2048, .bf16⟩
  | .hbm, ⟨4, _⟩ => ⟨S3x1024x2048, .bf16⟩
  | .hbm, ⟨5, _⟩ => ⟨S2x1024x2048, .f32⟩
  | .hbm, ⟨6, _⟩ => ⟨S2x1024x2048, .f32⟩
  | .hbm, ⟨7, _⟩ => ⟨S1x1024x2048, .bf16⟩
  | .hbm, ⟨8, _⟩ => ⟨S1024x2048, .bf16⟩
  | .hbm, ⟨9, _⟩ => ⟨S1024x2048, .f32⟩
  | .hbm, ⟨10, _⟩ => ⟨S3x1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1x1024x2048, .bf16⟩
  | .hbm, ⟨15, _⟩ => ⟨S1024x2048, .bf16⟩
  | .hbm, ⟨16, _⟩ => ⟨S1024x2048, .f32⟩
  | .hbm, ⟨17, _⟩ => ⟨S3x1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1x1024x2048, .f32⟩
  | .hbm, ⟨22, _⟩ => ⟨S1x1024x2048, .f32⟩
  | .hbm, ⟨23, _⟩ => ⟨S2x1024x2048, .f32⟩
  | .hbm, ⟨24, _⟩ => ⟨S_, .f32⟩
  | .hbm, ⟨25, _⟩ => ⟨S2x1024x2048, .f32⟩
  | .hbm, ⟨26, _⟩ => ⟨S2x1024x2048, .f32⟩
  | .hbm, ⟨27, _⟩ => ⟨S_, .f32⟩
  | .hbm, ⟨28, _⟩ => ⟨S2x1024x2048, .f32⟩
  | .hbm, ⟨29, _⟩ => ⟨S2x1024x2048, .f32⟩
  | .hbm, ⟨30, _⟩ => ⟨S2x1024x2048, .f32⟩
  | .hbm, ⟨31, _⟩ => ⟨S_, .f32⟩
  | .hbm, ⟨32, _⟩ => ⟨S2x1024x2048, .f32⟩
  | .hbm, ⟨33, _⟩ => ⟨S2x1024x2048, .f32⟩
  | .hbm, ⟨34, _⟩ => ⟨S2x1024x2048, .f32⟩
  | .hbm, ⟨35, _⟩ => ⟨S_, .f32⟩
  | .hbm, ⟨36, _⟩ => ⟨S2x1024x2048, .f32⟩
  | .hbm, ⟨37, _⟩ => ⟨S2x1024x2048, .f32⟩
  | .hbm, ⟨38, _⟩ => ⟨S2x1024x2048, .f32⟩
  | .hbm, ⟨39, _⟩ => ⟨S_, .f32⟩
  | .hbm, ⟨40, _⟩ => ⟨S2x1024x2048, .f32⟩
  | .hbm, ⟨41, _⟩ => ⟨S2x1024x2048, .f32⟩
  | .hbm, ⟨42, _⟩ => ⟨S_, .f32⟩
  | .hbm, ⟨43, _⟩ => ⟨S2x1024x2048, .f32⟩
  | .hbm, ⟨44, _⟩ => ⟨S2x1024x2048, .f32⟩
  | .hbm, ⟨45, _⟩ => ⟨S2x1024x2048, .f32⟩
  | .hbm, ⟨46, _⟩ => ⟨S_, .f32⟩
  | .hbm, ⟨47, _⟩ => ⟨S2x1024x2048, .f32⟩
  | .hbm, ⟨48, _⟩ => ⟨S2x1024x2048, .f32⟩
  | .hbm, ⟨49, _⟩ => ⟨S2x1024x2048, .f32⟩
  | .hbm, ⟨50, _⟩ => ⟨S_, .f32⟩
  | .hbm, ⟨51, _⟩ => ⟨S2x1024x2048, .f32⟩
  | .hbm, ⟨52, _⟩ => ⟨S2x1024x2048, .f32⟩
  | .hbm, ⟨53, _⟩ => ⟨S2x1024x2048, .f32⟩
  | .hbm, ⟨54, _⟩ => ⟨S_, .f32⟩
  | .hbm, ⟨55, _⟩ => ⟨S2x1024x2048, .f32⟩
  | .hbm, ⟨56, _⟩ => ⟨S2x1024x2048, .f32⟩
  | _, _ => ⟨S2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== Proof.AttnRow.lean ====
/- One row of the gradient of softmax attention on extended reals: the row's scores against the keys, their softmax, and the
   gradient of the scores, once in the grouping that divides first and once in the grouping of the chain rule through the quotient.
   The two agree when the query row and the keys are real numbers; values and the incoming gradient may be anything. -/
module

public import Idealize.ShloMosaic.PureOps.Ideal.Laws
public import Idealize.ShloMosaic.Lib.ValueIdx

@[expose] public section

noncomputable section

namespace Cert.AttnRow

open Idealize.ShloMosaic

/-- A real factor that is not negative goes into a finite sum of extended reals. -/
theorem coe_mul_sum {ι : Type} (s : Finset ι) (f : ι → EReal) (a : ℝ) (ha : 0 ≤ a) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

/-- The embedding of the reals carries a finite sum to the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of real numbers, taken among the extended reals, is real. -/
theorem sum_isReal {ι : Type} (s : Finset ι) (f : ι → EReal) (h : ∀ i ∈ s, ∃ x : ℝ, f i = x) : ∃ x : ℝ, ∑ i ∈ s, f i = x := by
  classical
  induction s using Finset.induction_on with
  | empty => exact ⟨0, by simp⟩
  | insert i s hi ih =>
    obtain ⟨x, hx⟩ := h i (Finset.mem_insert_self i s)
    obtain ⟨y, hy⟩ := ih fun j hj => h j (Finset.mem_insert_of_mem hj)
    exact ⟨x + y, by rw [Finset.sum_insert hi, hx, hy, EReal.coe_add]⟩

section Row

variable {ι κ : Type} [Fintype ι] [Fintype κ]

/-- The score of the query row `q` against key `j`: the inner product times the scale `c`. -/
def score (c : EReal) (q : ι → EReal) (k : κ → ι → EReal) (j : κ) : EReal := (∑ d, q d * k j d) * c

/-- The greatest score of the row. -/
def top (c : EReal) (q : ι → EReal) (k : κ → ι → EReal) : EReal := Finset.univ.fold max ⊥ (score c q k)

/-- The exponential of a score less the greatest one. -/
def ex (c : EReal) (q : ι → EReal) (k : κ → ι → EReal) (j : κ) : EReal := Ideal.exp (score c q k j - top c q k)

/-- The sum of the row's exponentials. -/
def total (c : EReal) (q : ι → EReal) (k : κ → ι → EReal) : EReal := ∑ j, ex c q k j

/-- The row's softmax at key `j`. -/
def prob (c : EReal) (q : ι → EReal) (k : κ → ι → EReal) (j : κ) : EReal := Ideal.div (ex c q k j) (total c q k)

/-- The gradient that reaches the softmax at key `j`: the row's incoming gradient `g` against value `j`. -/
def dprob (v : κ → ι → EReal) (g : ι → EReal) (j : κ) : EReal := ∑ d, g d * v j d

/-- The gradient of the inner product at key `j`: the softmax times the deviation of `dprob` from its mean under the softmax,
    times the scale. -/
def dscore (c : EReal) (q : ι → EReal) (k v : κ → ι → EReal) (g : ι → EReal) (j : κ) : EReal :=
  prob c q k j * (dprob v g j - ∑ i, prob c q k i * dprob v g i) * c

/-- The same gradient by the chain rule through numerator and denominator of the quotient. -/
def dscoreChain (c : EReal) (q : ι → EReal) (k v : κ → ι → EReal) (g : ι → EReal) (j : κ) : EReal :=
  (Ideal.div (dprob v g j) (total c q k)
    + -(∑ i, dprob v g i * Ideal.div 1 (total c q k * total c q k) * ex c q k i)) * ex c q k j * c

/-- With a real query row, real keys and a real scale, every score is real. -/
theorem score_isReal (c : ℝ) (q : ι → EReal) (k : κ → ι → EReal) (hq : ∀ d, ∃ x : ℝ, q d = x) (hk : ∀ j d, ∃ x : ℝ, k j d = x)
    (j : κ) : ∃ x : ℝ, score c q k j = x := by
  obtain ⟨x, hx⟩ := sum_isReal Finset.univ (fun d => q d * k j d) fun d _ => by
    obtain ⟨a, ha⟩ := hq d
    obtain ⟨b, hb⟩ := hk j d
    exact ⟨a * b, by simp only [ha, hb, EReal.coe_mul]⟩
  exact ⟨x * c, by unfold score; rw [hx, EReal.coe_mul]⟩

/-- … so is the greatest one, when there is a key at all. -/
theorem top_isReal [Nonempty κ] (c : ℝ) (q : ι → EReal) (k : κ → ι → EReal) (hq : ∀ d, ∃ x : ℝ, q d = x)
    (hk : ∀ j d, ∃ x : ℝ, k j d = x) : ∃ x : ℝ, top c q k = x := by
  have ht : top c q k ≠ ⊤ := by
    refine ne_of_lt ?_
    unfold top
    rw [Finset.fold_max_lt]
    refine ⟨bot_lt_top, fun j _ => ?_⟩
    obtain ⟨x, hx⟩ := score_isReal c q k hq hk j
    rw [hx]; exact EReal.coe_lt_top x
  have hb : top c q k ≠ ⊥ := by
    refine ne_of_gt ?_
    unfold top
    rw [Finset.lt_fold_max]
    obtain ⟨j⟩ := (inferInstance : Nonempty κ)
    obtain ⟨x, hx⟩ := score_isReal c q k hq hk j
    exact Or.inr ⟨j, Finset.mem_univ j, by rw [hx]; exact EReal.bot_lt_coe x⟩
  exact ⟨(top c q k).toReal, (EReal.coe_toReal ht hb).symm⟩

/-- … and every exponential is a positive real. -/
theorem ex_isPos [Nonempty κ] (c : ℝ) (q : ι → EReal) (k : κ → ι → EReal) (hq : ∀ d, ∃ x : ℝ, q d = x)
    (hk : ∀ j d, ∃ x : ℝ, k j d = x) (j : κ) : ∃ x : ℝ, 0 < x ∧ ex c q k j = x := by
  obtain ⟨x, hx⟩ := score_isReal c q k hq hk j
  obtain ⟨y, hy⟩ := top_isReal c q k hq hk
  exact ⟨Real.exp (x - y), Real.exp_pos _, by unfold ex; rw [hx, hy, ← EReal.coe_sub]; rfl⟩

/-- … and so is their sum. -/
theorem total_isPos [Nonempty κ] (c : ℝ) (q : ι → EReal) (k : κ → ι → EReal) (hq : ∀ d, ∃ x : ℝ, q d = x)
    (hk : ∀ j d, ∃ x : ℝ, k j d = x) : ∃ x : ℝ, 0 < x ∧ total c q k = x := by
  choose e he0 he using ex_isPos c q k hq hk
  refine ⟨∑ j, e j, Finset.sum_pos (fun j _ => he0 j) Finset.univ_nonempty, ?_⟩
  unfold total
  simp only [he]
  exact (coe_sum Finset.univ e).symm

/-- The two groupings of the gradient of the scores agree on a real query row and real keys. -/
theorem dscoreChain_eq [Nonempty κ] (c : ℝ) (q : ι → EReal) (k v : κ → ι → EReal) (g : ι → EReal)
    (hq : ∀ d, ∃ x : ℝ, q d = x) (hk : ∀ j d, ∃ x : ℝ, k j d = x) (j : κ) :
    dscoreChain c q k v g j = dscore c q k v g j := by
  choose e he0 he using ex_isPos c q k hq hk
  obtain ⟨T, hT0, hT⟩ := total_isPos c q k hq hk
  have hne : T ≠ 0 := ne_of_gt hT0
  have hdiv : ∀ x : EReal, Ideal.div x (T : EReal) = x * ((T⁻¹ : ℝ) : EReal) := fun x => by
    unfold Ideal.div
    rw [if_neg (by exact_mod_cast hne), EReal.coe_inv]
  have hone : Ideal.div 1 ((T : EReal) * T) = ((T⁻¹ * T⁻¹ : ℝ) : EReal) := by
    rw [← EReal.coe_mul]
    unfold Ideal.div
    rw [if_neg (by exact_mod_cast mul_ne_zero hne hne), one_mul, ← EReal.coe_inv, mul_inv]
  have hi0 : 0 ≤ T⁻¹ := le_of_lt (inv_pos.mpr hT0)
  unfold dscoreChain dscore prob
  rw [hT, hone]
  simp only [hdiv, he]
  have hsum : ∑ i, dprob v g i * ((T⁻¹ * T⁻¹ : ℝ) : EReal) * (e i : EReal)
      = ((T⁻¹ : ℝ) : EReal) * ∑ i, (e i : EReal) * ((T⁻¹ : ℝ) : EReal) * dprob v g i := by
    rw [coe_mul_sum _ _ _ hi0]
    refine Finset.sum_congr rfl fun i _ => ?_
    rw [EReal.coe_mul]
    ac_rfl
  rw [hsum, ← mul_neg, mul_comm (dprob v g j) _,
    ← EReal.left_distrib_of_nonneg_of_ne_top (EReal.coe_nonneg.mpr hi0) (EReal.coe_ne_top _), ← sub_eq_add_neg]
  ac_rfl

end Row

/-! ## An array of four heads side by side -/

open Idealize.ShloMosaic.ValueIdx

/-- Column `d` of head `h` among the 2048 columns. -/
abbrev col (h : Fin 4) (d : Fin 512) : Fin 2048 := ⟨512 * h.val + d.val, by have := h.isLt; have := d.isLt; omega⟩

/-- Row `r` of head `h` of an array with four heads of 512 columns. -/
def heads {n : ℕ} (x : (⟨2, ![n, 2048]⟩ : Shape).Idx → EReal) (h : Fin 4) (r : Fin n) (d : Fin 512) : EReal := x (ix2 r (col h d))

/-- The scale of the scores, `1 / √512` as it is written in the programs. -/
def scale : EReal := Ideal.ofBits .f32 0x3D3504F3#32

/-- The scale is real. -/
theorem scale_isReal : ∃ x : ℝ, scale = x := ⟨11863283 * (2 ^ 28)⁻¹, by
  unfold scale; simp [Ideal.ofBits, Ideal.ieee, -EReal.coe_mul]⟩

/-- The gradient of `q` in the array form: row `r`, head `h`, column `d`. -/
def gradQ {n : ℕ} (q : (⟨2, ![n, 2048]⟩ : Shape).Idx → EReal) (k v : (⟨2, ![256, 2048]⟩ : Shape).Idx → EReal)
    (g : (⟨2, ![n, 2048]⟩ : Shape).Idx → EReal) (h : Fin 4) (r : Fin n) (d : Fin 512) : EReal :=
  ∑ j, dscore scale (heads q h r) (heads k h) (heads v h) (heads g h r) j * heads k h j d

/-- The gradient of `k` that the rows of `q` give: key `j`, head `h`, column `d`. -/
def gradK {n : ℕ} (q : (⟨2, ![n, 2048]⟩ : Shape).Idx → EReal) (k v : (⟨2, ![256, 2048]⟩ : Shape).Idx → EReal)
    (g : (⟨2, ![n, 2048]⟩ : Shape).Idx → EReal) (h : Fin 4) (j : Fin 256) (d : Fin 512) : EReal :=
  ∑ r, dscore scale (heads q h r) (heads k h) (heads v h) (heads g h r) j * heads q h r d

/-- The gradient of `v` that the rows of `q` give: key `j`, head `h`, column `d`. -/
def gradV {n : ℕ} (q : (⟨2, ![n, 2048]⟩ : Shape).Idx → EReal) (k : (⟨2, ![256, 2048]⟩ : Shape).Idx → EReal)
    (g : (⟨2, ![n, 2048]⟩ : Shape).Idx → EReal) (h : Fin 4) (j : Fin 256) (d : Fin 512) : EReal :=
  ∑ r, prob scale (heads q h r) (heads k h) j * heads g h r d

/-- The head of a column. -/
abbrev headOf (c : Fin 2048) : Fin 4 := ⟨c.val / 512, by have := c.isLt; omega⟩
/-- The column within its head. -/
abbrev colOf (c : Fin 2048) : Fin 512 := ⟨c.val % 512, Nat.mod_lt _ (by decide)⟩
/-- A column is the column of its head at its place there. -/
theorem col_headOf (c : Fin 2048) : col (headOf c) (colOf c) = c := Fin.ext (Nat.div_add_mod _ _)

end Cert.AttnRow

end
-- ==== Proof.Products.lean ====
/- Matrix products read at an index as sums over the contracted coordinate, for any extents: both operands by rows, the
   right one transposed, the left one transposed. -/
module

public import Idealize.ShloMosaic.Lib.MatmulPlain
public import Idealize.ShloMosaic.Lib.ValueIdx
public import Idealize.ShloMosaic.Lib.Pipeline.Value

@[expose] public section

noncomputable section

namespace Cert.Products

open Idealize.ShloMosaic Idealize.ShloMosaic.ValueIdx

/-- A rank-two index is determined by the values of its coordinates. -/
theorem ix2_ext {a b : ℕ} {i : (⟨2, ![a, b]⟩ : Shape).Idx} (x : Fin a) (y : Fin b) (h0 : (i 0).val = x.val) (h1 : (i 1).val = y.val) :
    i = ix2 x y := funext fun d => Fin.ext (by match d with | ⟨0, _⟩ => exact h0 | ⟨1, _⟩ => exact h1)

/-- A rank-three index likewise. -/
theorem ix3_ext {a b c : ℕ} {i : (⟨3, ![a, b, c]⟩ : Shape).Idx} (x : Fin a) (y : Fin b) (z : Fin c) (h0 : (i 0).val = x.val)
    (h1 : (i 1).val = y.val) (h2 : (i 2).val = z.val) : i = ix3 x y z :=
  funext fun d => Fin.ext (by match d with | ⟨0, _⟩ => exact h0 | ⟨1, _⟩ => exact h1 | ⟨2, _⟩ => exact h2)

/-- A rank-four index likewise. -/
theorem ix4_ext {a b c d : ℕ} {i : (⟨4, ![a, b, c, d]⟩ : Shape).Idx} (x : Fin a) (y : Fin b) (z : Fin c) (w : Fin d)
    (h0 : (i 0).val = x.val) (h1 : (i 1).val = y.val) (h2 : (i 2).val = z.val) (h3 : (i 3).val = w.val) : i = ix4 x y z w :=
  funext fun e => Fin.ext (by match e with | ⟨0, _⟩ => exact h0 | ⟨1, _⟩ => exact h1 | ⟨2, _⟩ => exact h2 | ⟨3, _⟩ => exact h3)

/-- The dimension numbers of a product that contracts the rows of both operands. -/
def leftT (M K N : ℕ) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

/-- A product that contracts the rows of both operands, at `(r, c)`: the accumulator plus `∑ k, lhs (k, r) * rhs (k, c)`. -/
theorem matmul_leftT {M K N : ℕ} {φ₁ φ₂ : FTy} (wf : DotDims.WF ⟨2, ![K, M]⟩ ⟨2, ![K, N]⟩ ⟨2, ![M, N]⟩ [0] [0] [1] [1] [] [])
    (prec : Option ContractPrecision) (lhs : FVec Ideal ⟨2, ![K, M]⟩ φ₁) (rhs : FVec Ideal ⟨2, ![K, N]⟩ φ₂)
    (acc : FVec Ideal ⟨2, ![M, N]⟩ .f32) (r : Fin M) (c : Fin N) :
    FloatOps.matmul (leftT M K N wf) prec lhs rhs acc (ix2 r c) = acc (ix2 r c) + ∑ k : Fin K, lhs (ix2 k r) * rhs (ix2 k c) := by
  have hr : (leftT M K N wf).contr.rank = 1 := rfl
  have hs : (leftT M K N wf).contr.size ⟨0, by rw [hr]; exact Nat.one_pos⟩ = K := rfl
  rw [Ideal.matmul_apply, ← Equiv.sum_comp (contrEquiv1 (leftT M K N wf) K hr hs).symm]
  refine congrArg (acc (ix2 r c) + ·) (Finset.sum_congr rfl fun k _ => ?_)
  have hk := contrEquiv1_symm_val (leftT M K N wf) K hr hs k
  refine congrArg₂ (fun a b => lhs a * rhs b) (funext fun a => Fin.ext ?_) (funext fun a => Fin.ext ?_)
  · match a with
    | ⟨0, _⟩ => exact hk
    | ⟨1, _⟩ => rfl
  · match a with
    | ⟨0, _⟩ => exact hk
    | ⟨1, _⟩ => rfl

/-- The product that contracts the rows of both operands, as a function of an index. -/
def tn {K M N : ℕ} {φ₁ φ₂ : FTy} (a : FVec Ideal ⟨2, ![K, M]⟩ φ₁) (g : FVec Ideal ⟨2, ![K, N]⟩ φ₂) (φ : FTy) : FVec Ideal ⟨2, ![M, N]⟩ φ :=
  fun y => ∑ k : Fin K, a (ix2 k (y 0)) * g (ix2 k (y 1))

/-- Computed from zero and then narrowed it is the same. -/
theorem pay_tn {M K N : ℕ} {φ₁ φ₂ : FTy} (wf : DotDims.WF ⟨2, ![K, M]⟩ ⟨2, ![K, N]⟩ ⟨2, ![M, N]⟩ [0] [0] [1] [1] [] [])
    (prec : Option ContractPrecision) (a : FVec Ideal ⟨2, ![K, M]⟩ φ₁) (g : FVec Ideal ⟨2, ![K, N]⟩ φ₂) (h : FTy.bits .bf16 < FTy.bits .f32) :
    truncf .bf16 (FloatOps.matmul (leftT M K N wf) prec a g (constant ⟨2, ![M, N]⟩ .f32 0x00000000#32)) h = tn a g .bf16 := by
  funext y
  obtain ⟨i, j, rfl⟩ : ∃ (i : Fin M) (j : Fin N), y = ix2 i j := ⟨y 0, y 1, eq_ix2 (n0 := M) (n1 := N) y⟩
  refine (matmul_leftT wf prec a g _ i j).trans ?_
  show Ideal.ofBits .f32 0x00000000#32 + _ = _
  rw [Ideal.ofBits_zero_f32, zero_add]
  rfl

/-- A sum over a reduced second axis, at a row: the sum over the columns. -/
theorem rowSum {M N : ℕ} {φ : FTy} (x : FVec Ideal ⟨2, ![M, N]⟩ φ) (acc : BitVec φ.bits) (h : Shape.Reduces ⟨2, ![M, N]⟩ [1] ⟨1, ![M]⟩)
    (hφ : FKind.Formats φ) (hacc : acc = FKind.add.neutral φ hφ) (r : Fin M) :
    multiReduction .add [1] ⟨1, ![M]⟩ x acc h hφ hacc (ix1 r) = ∑ c : Fin N, x (ix2 r c) := by
  rw [Ideal.multiReduction_add_single]
  refine Finset.sum_congr rfl fun c _ => congrArg x (funext fun a => Fin.ext ?_)
  match a with
  | ⟨0, _⟩ => rfl
  | ⟨1, _⟩ => rfl

/-- A maximum over a reduced second axis, at a row: the fold of `max` over the columns. -/
theorem rowMax {M N : ℕ} (x : FVec Ideal ⟨2, ![M, N]⟩ .f32) (h : Shape.Reduces ⟨2, ![M, N]⟩ [1] ⟨1, ![M]⟩)
    (hφ : FKind.Formats .f32) (hacc : 0xFF800000#32 = FKind.maximumf.neutral .f32 hφ) (r : Fin M) :
    multiReduction .maximumf [1] ⟨1, ![M]⟩ x 0xFF800000#32 h hφ hacc (ix1 r) = Finset.univ.fold max ⊥ fun c : Fin N => x (ix2 r c) := by
  rw [Ideal.multiReduction_maximumf_single]
  rw [show FloatOps.ofBits (F := Ideal) .f32 0xFF800000#32 = ⊥ by
    show Ideal.ofBits .f32 0xFF800000#32 = ⊥
    simp [Ideal.ofBits, Ideal.ieee]]
  refine congrArg (fun f => Finset.univ.fold max ⊥ f) (funext fun c => congrArg x (funext fun a => Fin.ext ?_))
  match a with
  | ⟨0, _⟩ => rfl
  | ⟨1, _⟩ => rfl

/-- A column of row values spread over a rectangle reads the row's value. -/
theorem spread {M N : ℕ} {φ : FTy} (x : FVec Ideal ⟨1, ![M]⟩ φ) (h : Shape.ShapeCasts ⟨1, ![M]⟩ ⟨2, ![M, 1]⟩)
    (h' : Shape.Broadcasts ⟨2, ![M, 1]⟩ ⟨2, ![M, N]⟩) (r : Fin M) (c : Fin N) :
    broadcastTo ⟨2, ![M, N]⟩ (shapeCast ⟨2, ![M, 1]⟩ x h) h' (ix2 r c) = x (ix1 r) := by
  rw [broadcastTo_apply _ h' (ix2 r c) (ix2 r 0) fun a => by
    match a with
    | ⟨0, _⟩ =>
      show r.val = if M = 1 then 0 else r.val
      have := r.isLt
      split <;> omega
    | ⟨1, _⟩ => rfl]
  refine shapeCast_apply x h (ix2 r 0) (ix1 r) ?_
  rw [Shape.rowMajor_val_one, Shape.rowMajor_val_two]
  show r.val = r.val * 1 + 0
  omega

end Cert.Products

end
-- ==== Proof.AttnPay.lean ====
/- What one head of the attention's gradient computes on a block of rows: the values the kernel stores, at an index, as the
   row forms of `AttnRow`. -/
module

public import proofs.«01_k».proof.Proof.Gen.KernelIdeal.Skeleton
public import proofs.«01_k».proof.Proof.AttnRow
public import proofs.«01_k».proof.Proof.Products

@[expose] public section

set_option maxRecDepth 16384

noncomputable section

namespace Cert.KernelIdeal.Pay

open Cert.KernelIdeal Cert.KernelIdeal.Gen Cert.AttnRow Cert.Products
open Idealize.ShloMosaic Idealize.ShloMosaic.ValueIdx

variable (q : FVec Ideal S1024x512 .bf16) (k v : FVec Ideal S256x512 .bf16) (g : FVec Ideal S1024x512 .bf16)

/-- Row `r` of an array. -/
abbrev row {n w : ℕ} (x : (⟨2, ![n, w]⟩ : Shape).Idx → EReal) (r : Fin n) (d : Fin w) : EReal := x (ix2 r d)

/-- The scaled scores of a block. -/
def scores : FVec Ideal S1024x256 .f32 :=
  mulf (matmul dot_S1024x512_S256x512_S1024x256_1_1_0_0_n_n none q k (constant S1024x256 .f32 0x00000000#32))
    (broadcast S1024x256 (Scalar.ofBits .f32 0x3D3504F3#32))

/-- … at an index. -/
theorem scores_at (r : Fin 1024) (j : Fin 256) : scores q k (ix2 r j) = score scale (row q r) (row k) j := by
  show FloatOps.matmul (φ₁ := .bf16) (φ₂ := .bf16) (DotDims.transposedRhs 1024 512 256) none q k _ (ix2 r j) * scale = _
  rw [Ideal.matmul_transposedRhs_apply]
  show (Ideal.ofBits .f32 0x00000000#32 + _) * scale = _
  rw [Ideal.ofBits_zero_f32, zero_add]
  rfl

/-- Each row's greatest score. -/
def tops : FVec Ideal S1024 .f32 := multiReduction .maximumf [1] S1024 (scores q k) 0xFF800000#32 reduces_S1024x256_S1024 (.inl rfl) rfl

/-- … at a row. -/
theorem tops_at (r : Fin 1024) : tops q k (ix1 r) = top scale (row q r) (row k) := by
  refine (rowMax (scores q k) _ _ _ r).trans ?_
  exact congrArg (fun f => Finset.univ.fold max ⊥ f) (funext fun j => scores_at q k r j)

/-- The exponentials. -/
def exs : FVec Ideal S1024x256 .f32 :=
  exp (subf (scores q k) (broadcastTo S1024x256 (shapeCast S1024x1 (tops q k) shapeCasts_S1024_S1024x1) broadcasts_S1024x1_S1024x256))

/-- … at an index. -/
theorem exs_at (r : Fin 1024) (j : Fin 256) : exs q k (ix2 r j) = ex scale (row q r) (row k) j := by
  show Ideal.exp (scores q k (ix2 r j) - broadcastTo S1024x256 (shapeCast S1024x1 (tops q k) _) _ (ix2 r j)) = _
  rw [spread, scores_at, tops_at]
  rfl

/-- Their row sums. -/
def totals : FVec Ideal S1024 .f32 := multiReduction .add [1] S1024 (exs q k) 0x00000000#32 reduces_S1024x256_S1024 (.inl rfl) rfl

/-- … at a row. -/
theorem totals_at (r : Fin 1024) : totals q k (ix1 r) = total scale (row q r) (row k) := by
  refine (rowSum (exs q k) _ _ _ _ r).trans ?_
  exact Finset.sum_congr rfl fun j _ => exs_at q k r j

/-- The probabilities. -/
theorem probs_at (r : Fin 1024) (j : Fin 256) : k0_pay8 (F := Ideal) q k (ix2 r j) = prob scale (row q r) (row k) j := by
  show Ideal.div (exs q k (ix2 r j)) (broadcastTo S1024x256 (shapeCast S1024x1 (totals q k) _) _ (ix2 r j)) = _
  rw [spread, exs_at, totals_at]
  rfl

/-- The products of the incoming gradient with the values. -/
def dps : FVec Ideal S1024x256 .f32 :=
  matmul dot_S1024x512_S256x512_S1024x256_1_1_0_0_n_n none g v (constant S1024x256 .f32 0x00000000#32)

/-- … at an index. -/
theorem dps_at (r : Fin 1024) (j : Fin 256) : dps v g (ix2 r j) = dprob (row v) (row g r) j := by
  show FloatOps.matmul (φ₁ := .bf16) (φ₂ := .bf16) (DotDims.transposedRhs 1024 512 256) none g v _ (ix2 r j) = _
  rw [Ideal.matmul_transposedRhs_apply]
  show Ideal.ofBits .f32 0x00000000#32 + _ = _
  rw [Ideal.ofBits_zero_f32, zero_add]
  rfl

/-- The row sums of the probabilities by those products. -/
def inner : FVec Ideal S1024 .f32 :=
  multiReduction .add [1] S1024 (mulf (k0_pay8 (F := Ideal) q k) (dps v g)) 0x00000000#32 reduces_S1024x256_S1024 (.inl rfl) rfl

/-- … at a row. -/
theorem inner_at (r : Fin 1024) :
    inner q k v g (ix1 r) = ∑ j, prob scale (row q r) (row k) j * dprob (row v) (row g r) j := by
  refine (rowSum (mulf (k0_pay8 (F := Ideal) q k) (dps v g)) _ _ _ _ r).trans (Finset.sum_congr rfl fun i _ => ?_)
  show k0_pay8 (F := Ideal) q k (ix2 r i) * dps v g (ix2 r i) = _
  rw [probs_at, dps_at]

/-- The gradient of the inner products of queries and keys. -/
theorem ds_at (r : Fin 1024) (j : Fin 256) :
    k0_pay10 (F := Ideal) q k v g (ix2 r j) = dscore scale (row q r) (row k) (row v) (row g r) j := by
  show k0_pay8 (F := Ideal) q k (ix2 r j)
    * (dps v g (ix2 r j) - broadcastTo S1024x256 (shapeCast S1024x1 (inner q k v g) _) _ (ix2 r j)) * scale = _
  rw [spread, probs_at, dps_at, inner_at]
  rfl

/-- The gradient of the queries. -/
theorem dq_at (r : Fin 1024) (d : Fin 512) : k0_pay11 (F := Ideal) k (k0_pay10 (F := Ideal) q k v g) (ix2 r d)
    = ∑ j, dscore scale (row q r) (row k) (row v) (row g r) j * k (ix2 j d) := by
  show FloatOps.matmul (φ₁ := .bf16) (φ₂ := .bf16) (DotDims.plain 1024 256 512) none (k0_pay10 (F := Ideal) q k v g) k _ (ix2 r d) = _
  rw [Ideal.matmul_plain_apply]
  show Ideal.ofBits .f32 0x00000000#32 + _ = _
  rw [Ideal.ofBits_zero_f32, zero_add]
  exact Finset.sum_congr rfl fun j _ => by rw [ds_at]

/-- The gradient of the keys, over what it held. -/
theorem dk_at (acc : Vec Ideal S256x512 .f32) (j : Fin 256) (d : Fin 512) :
    k0_pay12 (F := Ideal) q (k0_pay10 (F := Ideal) q k v g) acc (ix2 j d)
      = acc (ix2 j d) + ∑ r, dscore scale (row q r) (row k) (row v) (row g r) j * q (ix2 r d) := by
  show shapeCast S256x512 acc _ (ix2 j d)
    + FloatOps.matmul (φ₁ := .bf16) (φ₂ := .bf16) (leftT 256 1024 512 dot_S1024x256_S1024x512_S256x512_0_0_1_1_n_n_wf) none
        (k0_pay10 (F := Ideal) q k v g) q _ (ix2 j d) = _
  rw [matmul_leftT, shapeCast_self]
  show _ + (Ideal.ofBits .f32 0x00000000#32 + _) = _
  rw [Ideal.ofBits_zero_f32, zero_add]
  exact congrArg (acc (ix2 j d) + ·) (Finset.sum_congr rfl fun r _ => by rw [ds_at])

/-- The gradient of the values, over what it held. -/
theorem dv_at (acc : Vec Ideal S256x512 .f32) (j : Fin 256) (d : Fin 512) :
    k0_pay9 (F := Ideal) q k g acc (ix2 j d) = acc (ix2 j d) + ∑ r, prob scale (row q r) (row k) j * g (ix2 r d) := by
  show shapeCast S256x512 acc _ (ix2 j d)
    + FloatOps.matmul (φ₁ := .bf16) (φ₂ := .bf16) (leftT 256 1024 512 dot_S1024x256_S1024x512_S256x512_0_0_1_1_n_n_wf) none
        (k0_pay8 (F := Ideal) q k) g _ (ix2 j d) = _
  rw [matmul_leftT, shapeCast_self]
  show _ + (Ideal.ofBits .f32 0x00000000#32 + _) = _
  rw [Ideal.ofBits_zero_f32, zero_add]
  exact congrArg (acc (ix2 j d) + ·) (Finset.sum_congr rfl fun r _ => by
    show k0_pay8 (F := Ideal) q k (ix2 r j) * _ = _
    rw [probs_at])

end Cert.KernelIdeal.Pay

end
-- ==== Proof.AttnBody.lean ====
/- What the kernel's body leaves in each output block: four heads written side by side, the gradients of keys and values added
   to what the block held (zero at the first grid point). -/
module

public import proofs.«01_k».proof.Proof.Gen.KernelIdeal.Value
public import proofs.«01_k».proof.Proof.AttnPay
public import Idealize.ShloMosaic.Lib.Tactic

@[expose] public section

set_option maxRecDepth 16384

noncomputable section

namespace Cert.KernelIdeal.Body

open Cert.KernelIdeal Cert.KernelIdeal.Gen Cert.KernelIdeal.Pay Cert.AttnRow
open Idealize.ShloMosaic Idealize.ShloMosaic.TcCoe Idealize.ShloMosaic.ValueIdx Idealize.SL.Sem

/-! ## Blocks of 512 columns -/

/-- The load of the 512 columns from column `o`. -/
abbrev part {n : ℕ} {e : EltTy} (X : (⟨2, ![n, 2048]⟩ : Shape).Idx → Elt Ideal e) (o : ℕ)
    (inb : ∀ a, (![0, o] : Fin 2 → ℕ) a + (![n, 512] : Fin 2 → ℕ) a ≤ (⟨2, ![n, 2048]⟩ : Shape).size a) :
    (⟨2, ![n, 512]⟩ : Shape).Idx → Elt Ideal e := View.ld X (Rect.unit (s := ⟨2, ![n, 2048]⟩) ![0, o] ![n, 512] inb)

/-- A load of one head's columns reads that head. -/
theorem ld_head {n : ℕ} {e : EltTy} (X : (⟨2, ![n, 2048]⟩ : Shape).Idx → Elt Ideal e) (h : Fin 4) (o : ℕ) (ho : o = 512 * h.val)
    (inb : ∀ a, (![0, o] : Fin 2 → ℕ) a + (![n, 512] : Fin 2 → ℕ) a ≤ (⟨2, ![n, 2048]⟩ : Shape).size a) (r : Fin n) (d : Fin 512) :
    part X o inb (ix2 r d) = X (ix2 r (col h d)) := by
  subst ho
  refine congrArg X (funext fun a => Fin.ext ?_)
  match a with
  | ⟨0, _⟩ => show 0 + 1 * r.val = r.val; omega
  | ⟨1, _⟩ => show 512 * h.val + 1 * d.val = 512 * h.val + d.val; omega

/-- After a store of one head's columns, that head reads the store and the others what was there. -/
theorem canon_head {n : ℕ} {e : EltTy} (h : Fin 4) (o : ℕ) (ho : o = 512 * h.val)
    (inb : ∀ a, (![0, o] : Fin 2 → ℕ) a + (![n, 512] : Fin 2 → ℕ) a ≤ (⟨2, ![n, 2048]⟩ : Shape).size a)
    (w : (⟨2, ![n, 512]⟩ : Shape).Idx → Elt Ideal e) (L : List (View.Piece (Elt Ideal) ⟨2, ![n, 2048]⟩ e)) (h' : Fin 4) (r : Fin n) (d : Fin 512) :
    View.canon ((⟨Rect.unit (s := ⟨2, ![n, 2048]⟩) ![0, o] ![n, 512] inb, w⟩ : View.Piece (Elt Ideal) ⟨2, ![n, 2048]⟩ e) :: L)
        (ix2 r (col h' d))
      = if h' = h then w (ix2 r d) else View.canon L (ix2 r (col h' d)) := by
  subst ho
  split
  · next hh =>
    subst hh
    have e1 := View.canon_cons_emb (Rect.unit (s := ⟨2, ![n, 2048]⟩) ![0, 512 * h'.val] ![n, 512] inb) w L (ix2 r d)
    refine Eq.trans (congrArg (View.canon _) (funext fun a => Fin.ext ?_)) e1
    match a with
    | ⟨0, _⟩ => show r.val = 0 + 1 * r.val; omega
    | ⟨1, _⟩ => show 512 * h'.val + d.val = 512 * h'.val + 1 * d.val; omega
  · next hh =>
    refine View.canon_cons_of_not_mem _ L fun hm => hh (Fin.ext ?_)
    have hm' := ((Rect.mem_set_unit (inb := inb)).mp hm) (1 : Fin 2)
    have h1 : 512 * h.val ≤ 512 * h'.val + d.val := hm'.1
    have h2 : 512 * h'.val + d.val < 512 * h.val + 512 := hm'.2
    have := d.isLt
    omega

/-- Four stores that cover the four heads leave the function they agree with. -/
theorem canon_heads {n : ℕ} {e : EltTy} (b3 b2 b1 b0) (w3 w2 w1 w0 : (⟨2, ![n, 512]⟩ : Shape).Idx → Elt Ideal e)
    (L : List (View.Piece (Elt Ideal) ⟨2, ![n, 2048]⟩ e)) (G : Fin 4 → Fin n → Fin 512 → Elt Ideal e)
    (h3 : ∀ r d, w3 (ix2 r d) = G 3 r d) (h2 : ∀ r d, w2 (ix2 r d) = G 2 r d) (h1 : ∀ r d, w1 (ix2 r d) = G 1 r d)
    (h0 : ∀ r d, w0 (ix2 r d) = G 0 r d) :
    View.canon ((⟨Rect.unit (s := ⟨2, ![n, 2048]⟩) ![0, 1536] ![n, 512] b3, w3⟩ : View.Piece (Elt Ideal) ⟨2, ![n, 2048]⟩ e)
        :: ⟨Rect.unit (s := ⟨2, ![n, 2048]⟩) ![0, 1024] ![n, 512] b2, w2⟩
        :: ⟨Rect.unit (s := ⟨2, ![n, 2048]⟩) ![0, 512] ![n, 512] b1, w1⟩
        :: ⟨Rect.unit (s := ⟨2, ![n, 2048]⟩) ![0, 0] ![n, 512] b0, w0⟩ :: L)
      = fun y => G (headOf (y 1)) (y 0) (colOf (y 1)) := by
  funext y
  obtain ⟨r, c, rfl⟩ : ∃ r c, y = ix2 r c := ⟨y 0, y 1, eq_ix2 y⟩
  obtain ⟨h, d, rfl⟩ : ∃ h d, c = col h d := ⟨headOf c, colOf c, (col_headOf c).symm⟩
  rw [canon_head 3 1536 rfl, canon_head 2 1024 rfl, canon_head 1 512 rfl, canon_head 0 0 rfl]
  have e1 : headOf (col h d) = h := Fin.ext (by show (512 * h.val + d.val) / 512 = h.val; have := d.isLt; omega)
  have e2 : colOf (col h d) = d := Fin.ext (by show (512 * h.val + d.val) % 512 = d.val; have := d.isLt; omega)
  show _ = G (headOf (col h d)) r (colOf (col h d))
  rw [e1, e2, h3, h2, h1, h0]
  have := h.isLt
  rcases (by omega : h.val = 0 ∨ h.val = 1 ∨ h.val = 2 ∨ h.val = 3) with hv | hv | hv | hv
  · obtain rfl : h = 0 := Fin.ext hv; rfl
  · obtain rfl : h = 1 := Fin.ext hv; rfl
  · obtain rfl : h = 2 := Fin.ext hv; rfl
  · obtain rfl : h = 3 := Fin.ext hv; rfl

/-! ## One head -/

section Head

variable (x0 : FVec Ideal S1024x2048 .bf16) (x1 x2 : FVec Ideal S256x2048 .bf16) (x3 : FVec Ideal S1024x2048 .bf16)
  (h : Fin 4) (o : ℕ) (ho : o = 512 * h.val)
  (inb : ∀ a, (![0, o] : Fin 2 → ℕ) a + (![1024, 512] : Fin 2 → ℕ) a ≤ S1024x2048.size a)
  (inb' : ∀ a, (![0, o] : Fin 2 → ℕ) a + (![256, 512] : Fin 2 → ℕ) a ≤ S256x2048.size a)

include ho

/-- The columns of a head of the rows block, as a row function. -/
theorem row_ld (x : FVec Ideal S1024x2048 .bf16) (r : Fin 1024) :
    row (part (e := .bf16) x o inb) r = heads x h r := funext fun d => ld_head (e := .bf16) x h o ho inb r d

/-- The columns of a head of the keys or values, as a function of key and column. -/
theorem row_ld' (x : FVec Ideal S256x2048 .bf16) : row (part (e := .bf16) x o inb') = heads x h :=
  funext fun r => funext fun d => ld_head (e := .bf16) x h o ho inb' r d

/-- The gradient of the queries that a head stores. -/
theorem head_dq (r : Fin 1024) (d : Fin 512) :
    k0_pay11 (F := Ideal) (part (e := .bf16) x1 o inb')
        (k0_pay10 (F := Ideal) (part (e := .bf16) x0 o inb) (part (e := .bf16) x1 o inb')
          (part (e := .bf16) x2 o inb') (part (e := .bf16) x3 o inb)) (ix2 r d)
      = gradQ x0 x1 x2 x3 h r d := by
  refine (dq_at _ _ _ _ r d).trans ?_
  rw [row_ld h o ho inb, row_ld h o ho inb, row_ld' h o ho inb', row_ld' h o ho inb']
  exact Finset.sum_congr rfl fun j _ => congrArg (_ * ·) (ld_head (e := .bf16) x1 h o ho inb' j d)

/-- The gradient of the keys that a head stores, over `acc`. -/
theorem head_dk (acc : FVec Ideal S256x512 .f32) (a : EReal) (j : Fin 256) (d : Fin 512) (ha : acc (ix2 j d) = a) :
    k0_pay12 (F := Ideal) (part (e := .bf16) x0 o inb)
        (k0_pay10 (F := Ideal) (part (e := .bf16) x0 o inb) (part (e := .bf16) x1 o inb')
          (part (e := .bf16) x2 o inb') (part (e := .bf16) x3 o inb)) acc (ix2 j d)
      = a + gradK x0 x1 x2 x3 h j d := by
  refine (dk_at _ _ _ _ acc j d).trans ?_
  rw [ha, row_ld' h o ho inb', row_ld' h o ho inb']
  refine congrArg (a + ·) (Finset.sum_congr rfl fun r _ => ?_)
  rw [row_ld h o ho inb, row_ld h o ho inb]
  exact congrArg (_ * ·) (ld_head (e := .bf16) x0 h o ho inb r d)

/-- The gradient of the values that a head stores, over `acc`. -/
theorem head_dv (acc : FVec Ideal S256x512 .f32) (a : EReal) (j : Fin 256) (d : Fin 512) (ha : acc (ix2 j d) = a) :
    k0_pay9 (F := Ideal) (part (e := .bf16) x0 o inb) (part (e := .bf16) x1 o inb')
          (part (e := .bf16) x3 o inb) acc (ix2 j d)
      = a + gradV x0 x1 x3 h j d := by
  refine (dv_at _ _ _ acc j d).trans ?_
  rw [ha, row_ld' h o ho inb']
  refine congrArg (a + ·) (Finset.sum_congr rfl fun r _ => ?_)
  rw [row_ld h o ho inb]
  exact congrArg (_ * ·) (ld_head (e := .bf16) x3 h o ho inb r d)

end Head

/-- Columns read after the whole block was set to zero read zero. -/
theorem zero_read' {n m w : ℕ} {sig : RefSig} {κ : Kind} {sp : Space} (v : View sig κ sp ⟨2, ![n, m]⟩ .f32) (o : ℕ)
    (inbw : ∀ a, (![0, 0] : Fin 2 → ℕ) a + (![n, m] : Fin 2 → ℕ) a ≤ (⟨2, ![n, m]⟩ : Shape).size a)
    (inb : ∀ a, (![0, o] : Fin 2 → ℕ) a + (![n, w] : Fin 2 → ℕ) a ≤ (⟨2, ![n, m]⟩ : Shape).size a)
    (z : (⟨2, ![n, m]⟩ : Shape).Idx → EReal) (hz : ∀ y, z y = 0) (j : (⟨2, ![n, w]⟩ : Shape).Idx) :
    v.readCov [(⟨Rect.unit (s := ⟨2, ![n, m]⟩) ![0, 0] ![n, m] inbw, z⟩ : View.Piece (Elt Ideal) ⟨2, ![n, m]⟩ .f32)]
      (Rect.unit (s := ⟨2, ![n, m]⟩) ![0, o] ![n, w] inb).toLoadRect j = (0 : EReal) := by
  have hw : (![0, 0] : Fin 2 → ℕ) = fun _ => 0 := funext fun a => by fin_cases a <;> rfl
  have hc := View.canon_unit_zero (S := ⟨2, ![n, m]⟩) (e := .f32) (Val := Elt Ideal) hw inbw z
  rw [View.readCov_eq_canon_ld v _ (Rect.unit (s := ⟨2, ![n, m]⟩) ![0, o] ![n, w] inb) fun y => ⟨_, List.mem_singleton_self _, by
    rw [Rect.mem_set_unit]
    intro a
    match a with
    | ⟨0, _⟩ => exact ⟨Nat.zero_le _, by have h : (y 0).val < n := (y 0).isLt; show (y 0).val < 0 + n; omega⟩
    | ⟨1, _⟩ => exact ⟨Nat.zero_le _, by have h : (y 1).val < m := (y 1).isLt; show (y 1).val < 0 + m; omega⟩⟩]
  exact (congrFun hc _).trans (hz _)

/-- A head read after the whole block was set to zero reads zero. -/
theorem zero_read {sig : RefSig} {κ : Kind} {sp : Space} (v : View sig κ sp S256x2048 .f32) (o : ℕ)
    (inbw : ∀ a, (![0, 0] : Fin 2 → ℕ) a + (![256, 2048] : Fin 2 → ℕ) a ≤ S256x2048.size a)
    (inb : ∀ a, (![0, o] : Fin 2 → ℕ) a + (![256, 512] : Fin 2 → ℕ) a ≤ S256x2048.size a) (z : FVec Ideal S256x2048 .f32)
    (hz : ∀ y, z y = 0) (j : S256x512.Idx) :
    v.readCov [(⟨Rect.unit (s := S256x2048) ![0, 0] ![256, 2048] inbw, z⟩ : View.Piece (Elt Ideal) S256x2048 .f32)]
      (Rect.unit (s := S256x2048) ![0, o] ![256, 512] inb).toLoadRect j = (0 : EReal) :=
  zero_read' v o inbw inb z hz j

/-- A store to other columns is not seen. -/
theorem skip_read {sig : RefSig} {κ : Kind} {sp : Space} (v : View sig κ sp S256x2048 .f32) (o o' : ℕ) (hd : o + 512 ≤ o')
    (inb : ∀ a, (![0, o] : Fin 2 → ℕ) a + (![256, 512] : Fin 2 → ℕ) a ≤ S256x2048.size a)
    (inb' : ∀ a, (![0, o'] : Fin 2 → ℕ) a + (![256, 512] : Fin 2 → ℕ) a ≤ S256x2048.size a) (w : FVec Ideal S256x512 .f32)
    (L : List (View.Piece (Elt Ideal) S256x2048 .f32)) (j : S256x512.Idx) :
    v.readCov ((⟨Rect.unit (s := S256x2048) ![0, o] ![256, 512] inb, w⟩ : View.Piece (Elt Ideal) S256x2048 .f32) :: L)
      (Rect.unit (s := S256x2048) ![0, o'] ![256, 512] inb').toLoadRect j
      = v.readCov L (Rect.unit (s := S256x2048) ![0, o'] ![256, 512] inb').toLoadRect j :=
  congrFun (View.readCov_cons_of_disjoint v
    (⟨Rect.unit (s := S256x2048) ![0, o] ![256, 512] inb, w⟩ : View.Piece (Elt Ideal) S256x2048 .f32) L
    (Rect.unit (s := S256x2048) ![0, o'] ![256, 512] inb').toLoadRect
    (Rect.unit_disjoint (s := S256x2048) (off := ![0, o]) (size := ![256, 512]) (off' := ![0, o']) (size' := ![256, 512])
      (inb := inb) (inb' := inb') (1 : Fin 2) (Or.inl hd))) j

/-! ## The body -/

section Run

variable (c : Dev nD) (i : grid0.Coords) (a1 : Memref sig .tc .vmem S1024x2048 .bf16) (k1 : a1.IsWhole)
  (a2 : Memref sig .tc .vmem S256x2048 .bf16) (k2 : a2.IsWhole) (a3 : Memref sig .tc .vmem S256x2048 .bf16) (k3 : a3.IsWhole)
  (a4 : Memref sig .tc .vmem S1024x2048 .bf16) (k4 : a4.IsWhole) (a5 : Memref sig .tc .vmem S1024x2048 .bf16) (k5 : a5.IsWhole)
  (a6 : Memref sig .tc .vmem S256x2048 .f32) (k6 : a6.IsWhole) (a7 : Memref sig .tc .vmem S256x2048 .f32) (k7 : a7.IsWhole)
  (x0 : FVec Ideal S1024x2048 .bf16) (x1 x2 : FVec Ideal S256x2048 .bf16) (x3 : FVec Ideal S1024x2048 .bf16)
  (y5 y6 : FVec Ideal S256x2048 .f32)

/-- The block of the queries' gradient after a point. -/
def blockQ : FVec Ideal S1024x2048 .bf16 := fun y => gradQ x0 x1 x2 x3 (headOf (y 1)) (y 0) (colOf (y 1))
/-- The keys' gradient after a point, over what the block held. -/
def blockK : FVec Ideal S256x2048 .f32 := fun y => y5 y + gradK x0 x1 x2 x3 (headOf (y 1)) (y 0) (colOf (y 1))
/-- The values' gradient after a point, over what the block held. -/
def blockV : FVec Ideal S256x2048 .f32 := fun y => y6 y + gradV x0 x1 x3 (headOf (y 1)) (y 0) (colOf (y 1))

/-- A function of head, row and column, at the column's own head, is the function of the index. -/
theorem over_col {n : ℕ} (f : (⟨2, ![n, 2048]⟩ : Shape).Idx → EReal) (y : (⟨2, ![n, 2048]⟩ : Shape).Idx) :
    f (ix2 (y 0) (col (headOf (y 1)) (colOf (y 1)))) = f y := by
  obtain ⟨r, c, rfl⟩ : ∃ r c, y = ix2 r c := ⟨y 0, y 1, eq_ix2 y⟩
  show f (ix2 r (col (headOf c) (colOf c))) = _
  rw [col_headOf]

/-- Later points: the queries' gradient. -/
theorem laterQ (hc : ¬cond0_0 i) :
    out0_B_4 (F := Ideal) c i a1 k1 a2 k2 a3 k3 a4 k4 a5 k5 a6 k6 a7 k7 hc x0 x1 x2 x3 y5 y6 = blockQ x0 x1 x2 x3 := by
  unfold out0_B_4
  rw [View.read_writes_eq_canon _ _ _ (fun y => cover0_B_4 (y := y) ..)]
  unfold kernelRun0_B
  dsimp only
  sl_unfold_words
  simp only [View.readAt_eq_ld, k1.read_unread, k2.read_unread, k3.read_unread, k4.read_unread]
  exact canon_heads (e := .bf16) _ _ _ _ _ _ _ _ [] (gradQ x0 x1 x2 x3) (fun r d => head_dq x0 x1 x2 x3 3 1536 rfl _ _ r d)
    (fun r d => head_dq x0 x1 x2 x3 2 1024 rfl _ _ r d) (fun r d => head_dq x0 x1 x2 x3 1 512 rfl _ _ r d)
    (fun r d => head_dq x0 x1 x2 x3 0 0 rfl _ _ r d)

/-- The first point: the queries' gradient. -/
theorem firstQ (hc : cond0_0 i) :
    out0_A_4 (F := Ideal) c i a1 k1 a2 k2 a3 k3 a4 k4 a5 k5 a6 k6 a7 k7 hc x0 x1 x2 x3 = blockQ x0 x1 x2 x3 := by
  unfold out0_A_4
  rw [View.read_writes_eq_canon _ _ _ (fun y => cover0_A_4 (y := y) ..)]
  unfold kernelRun0_A
  dsimp only
  sl_unfold_words
  simp only [View.readAt_eq_ld, k1.read_unread, k2.read_unread, k3.read_unread, k4.read_unread]
  exact canon_heads (e := .bf16) _ _ _ _ _ _ _ _ [] (gradQ x0 x1 x2 x3) (fun r d => head_dq x0 x1 x2 x3 3 1536 rfl _ _ r d)
    (fun r d => head_dq x0 x1 x2 x3 2 1024 rfl _ _ r d) (fun r d => head_dq x0 x1 x2 x3 1 512 rfl _ _ r d)
    (fun r d => head_dq x0 x1 x2 x3 0 0 rfl _ _ r d)

/-- Later points: the keys' gradient. -/
theorem laterK (hc : ¬cond0_0 i) :
    out0_B_5 (F := Ideal) c i a1 k1 a2 k2 a3 k3 a4 k4 a5 k5 a6 k6 a7 k7 hc x0 x1 x2 x3 y5 y6 = blockK x0 x1 x2 x3 y5 := by
  unfold out0_B_5
  rw [View.read_writes_eq_canon _ _ _ (fun y => cover0_B_5 (y := y) ..)]
  unfold kernelRun0_B
  dsimp only
  sl_unfold_words
  simp only [View.readAt_eq_ld, k1.read_unread, k2.read_unread, k3.read_unread, k4.read_unread, k6.read_unread]
  refine (canon_heads (e := .f32) _ _ _ _ _ _ _ _ [] (fun h j d => y5 (ix2 j (col h d)) + gradK x0 x1 x2 x3 h j d)
    (fun j d => head_dk x0 x1 x2 x3 3 1536 rfl _ _ _ _ j d (ld_head (e := .f32) y5 3 1536 rfl _ j d))
    (fun j d => head_dk x0 x1 x2 x3 2 1024 rfl _ _ _ _ j d (ld_head (e := .f32) y5 2 1024 rfl _ j d))
    (fun j d => head_dk x0 x1 x2 x3 1 512 rfl _ _ _ _ j d (ld_head (e := .f32) y5 1 512 rfl _ j d))
    (fun j d => head_dk x0 x1 x2 x3 0 0 rfl _ _ _ _ j d (ld_head (e := .f32) y5 0 0 rfl _ j d))).trans ?_
  exact funext fun y => congrArg (· + _) (over_col y5 y)

/-- Later points: the values' gradient. -/
theorem laterV (hc : ¬cond0_0 i) :
    out0_B_6 (F := Ideal) c i a1 k1 a2 k2 a3 k3 a4 k4 a5 k5 a6 k6 a7 k7 hc x0 x1 x2 x3 y5 y6 = blockV x0 x1 x3 y6 := by
  unfold out0_B_6
  rw [View.read_writes_eq_canon _ _ _ (fun y => cover0_B_6 (y := y) ..)]
  unfold kernelRun0_B
  dsimp only
  sl_unfold_words
  simp only [View.readAt_eq_ld, k1.read_unread, k2.read_unread, k3.read_unread, k4.read_unread, k7.read_unread]
  refine (canon_heads (e := .f32) _ _ _ _ _ _ _ _ [] (fun h j d => y6 (ix2 j (col h d)) + gradV x0 x1 x3 h j d)
    (fun j d => head_dv x0 x1 x3 3 1536 rfl _ _ _ _ j d (ld_head (e := .f32) y6 3 1536 rfl _ j d))
    (fun j d => head_dv x0 x1 x3 2 1024 rfl _ _ _ _ j d (ld_head (e := .f32) y6 2 1024 rfl _ j d))
    (fun j d => head_dv x0 x1 x3 1 512 rfl _ _ _ _ j d (ld_head (e := .f32) y6 1 512 rfl _ j d))
    (fun j d => head_dv x0 x1 x3 0 0 rfl _ _ _ _ j d (ld_head (e := .f32) y6 0 0 rfl _ j d))).trans ?_
  exact funext fun y => congrArg (· + _) (over_col y6 y)

/-- The zero block the first point stores for the keys. -/
theorem pay6_zero (y : S256x2048.Idx) : (k0_pay6 (F := Ideal) : FVec Ideal S256x2048 .f32) y = 0 := by
  show Ideal.ofBits .f32 0x00000000#32 = 0
  rw [Ideal.ofBits_zero_f32]

/-- The zero block the first point stores for the values. -/
theorem pay7_zero (y : S256x2048.Idx) : (k0_pay7 (F := Ideal) : FVec Ideal S256x2048 .f32) y = 0 := by
  show Ideal.ofBits .f32 0x00000000#32 = 0
  rw [Ideal.ofBits_zero_f32]

/-- The first point: the keys' gradient, from zero. -/
theorem firstK (hc : cond0_0 i) :
    out0_A_5 (F := Ideal) c i a1 k1 a2 k2 a3 k3 a4 k4 a5 k5 a6 k6 a7 k7 hc x0 x1 x2 x3 = blockK x0 x1 x2 x3 (fun _ => (0 : EReal)) := by
  unfold out0_A_5
  rw [View.read_writes_eq_canon _ _ _ (fun y => cover0_A_5 (y := y) ..)]
  unfold kernelRun0_A
  dsimp only
  sl_unfold_words
  simp only [View.readAt_eq_ld, k1.read_unread, k2.read_unread, k3.read_unread, k4.read_unread]
  exact canon_heads (e := .f32) _ _ _ _ _ _ _ _ _ (fun h j d => 0 + gradK x0 x1 x2 x3 h j d)
    (fun j d => head_dk x0 x1 x2 x3 3 1536 rfl _ _ _ _ j d ((skip_read _ 1024 1536 (by decide) _ _ _ _ _).trans
      ((skip_read _ 512 1536 (by decide) _ _ _ _ _).trans ((skip_read _ 0 1536 (by decide) _ _ _ _ _).trans
        (zero_read _ _ _ _ _ pay6_zero _)))))
    (fun j d => head_dk x0 x1 x2 x3 2 1024 rfl _ _ _ _ j d ((skip_read _ 512 1024 (by decide) _ _ _ _ _).trans
      ((skip_read _ 0 1024 (by decide) _ _ _ _ _).trans (zero_read _ _ _ _ _ pay6_zero _))))
    (fun j d => head_dk x0 x1 x2 x3 1 512 rfl _ _ _ _ j d ((skip_read _ 0 512 (by decide) _ _ _ _ _).trans
      (zero_read _ _ _ _ _ pay6_zero _)))
    (fun j d => head_dk x0 x1 x2 x3 0 0 rfl _ _ _ _ j d (zero_read _ _ _ _ _ pay6_zero _))

/-- The first point: the values' gradient, from zero. -/
theorem firstV (hc : cond0_0 i) :
    out0_A_6 (F := Ideal) c i a1 k1 a2 k2 a3 k3 a4 k4 a5 k5 a6 k6 a7 k7 hc x0 x1 x2 x3 = blockV x0 x1 x3 (fun _ => (0 : EReal)) := by
  unfold out0_A_6
  rw [View.read_writes_eq_canon _ _ _ (fun y => cover0_A_6 (y := y) ..)]
  unfold kernelRun0_A
  dsimp only
  sl_unfold_words
  simp only [View.readAt_eq_ld, k1.read_unread, k2.read_unread, k3.read_unread, k4.read_unread]
  exact canon_heads (e := .f32) _ _ _ _ _ _ _ _ _ (fun h j d => 0 + gradV x0 x1 x3 h j d)
    (fun j d => head_dv x0 x1 x3 3 1536 rfl _ _ _ _ j d ((skip_read _ 1024 1536 (by decide) _ _ _ _ _).trans
      ((skip_read _ 512 1536 (by decide) _ _ _ _ _).trans ((skip_read _ 0 1536 (by decide) _ _ _ _ _).trans
        (zero_read _ _ _ _ _ pay7_zero _)))))
    (fun j d => head_dv x0 x1 x3 2 1024 rfl _ _ _ _ j d ((skip_read _ 512 1024 (by decide) _ _ _ _ _).trans
      ((skip_read _ 0 1024 (by decide) _ _ _ _ _).trans (zero_read _ _ _ _ _ pay7_zero _))))
    (fun j d => head_dv x0 x1 x3 1 512 rfl _ _ _ _ j d ((skip_read _ 0 512 (by decide) _ _ _ _ _).trans
      (zero_read _ _ _ _ _ pay7_zero _)))
    (fun j d => head_dv x0 x1 x3 0 0 rfl _ _ _ _ j d (zero_read _ _ _ _ _ pay7_zero _))

end Run

end Cert.KernelIdeal.Body

end
-- ==== Proof.AttnKer.lean ====
/-
  What the attention's backward kernel leaves in its three result arrays: the gradients of q, k and v of `AttnRow`,
  over the whole arrays. A point reads 1024 of the 2048 rows of q and of the gradient that comes in; the queries'
  gradient is written block by block, the keys' and values' gradients are sums over both points.
-/
module

public import proofs.«01_k».proof.Proof.AttnBody
public import proofs.«01_k».proof.Proof.Gen.KernelIdeal.Value

@[expose] public section

set_option maxRecDepth 16384

noncomputable section

namespace Cert.KernelIdeal.Ker

open Cert.KernelIdeal Cert.KernelIdeal.Gen Cert.KernelIdeal.Body Cert.AttnRow
open Idealize.ShloMosaic Idealize.ShloMosaic.TcCoe Idealize.SL.Sem Idealize.ShloMosaic.ValueIdx
open Idealize.ShloMosaic.Pipeline (Dat)

/-! ## Sums over rows, in two blocks -/

/-- Row `r` of block `t`, as a row of the whole. -/
def rowAt (t : Fin 2) (r : Fin 1024) : Fin 2048 := ⟨1024 * t.val + r.val, by omega⟩

/-- The sum over all rows is the sum over the first block's rows, from zero, and then the second block's. -/
theorem sum_rows (f : Fin 2048 → EReal) : 0 + ∑ r, f (rowAt 0 r) + ∑ r, f (rowAt 1 r) = ∑ r, f r := by
  rw [zero_add, show (∑ r : Fin 2048, f r) = ∑ r : Fin (1024 + 1024), f r from rfl, Fin.sum_univ_add]
  refine congrArg₂ (· + ·) (Finset.sum_congr rfl fun r _ => congrArg f (Fin.ext ?_))
    (Finset.sum_congr rfl fun r _ => congrArg f (Fin.ext ?_))
  · show 1024 * 0 + r.val = r.val; omega
  · show 1024 * 1 + r.val = 1024 + r.val; omega

variable (m : (ℓ : Loc nD τ sig) → Buf (Elt Ideal) ℓ) (c : Dev nD)

/-- The queries as the kernel finds them. -/
abbrev argQ : FVec Ideal S2048x2048 .bf16 := m ((c : Thread nD τ).loc main_arg0)
/-- The keys. -/
abbrev argK : FVec Ideal S256x2048 .bf16 := m ((c : Thread nD τ).loc main_arg1)
/-- The values. -/
abbrev argV : FVec Ideal S256x2048 .bf16 := m ((c : Thread nD τ).loc main_arg2)
/-- The gradient that comes in. -/
abbrev argG : FVec Ideal S2048x2048 .bf16 := m ((c : Thread nD τ).loc main_arg3)

/-- The point as a number below two. -/
def pt (t : Fin cfg0.N) : Fin 2 := ⟨t.val, lt_of_lt_of_eq t.isLt N_0⟩

/-! ## The blocks a point reads -/

/-- Point `t` reads rows `1024 t …` of the queries. -/
theorem block_q (t : Fin cfg0.N) (r : Fin 1024) (k : Fin 2048) :
    (iblk m c 0 t : FVec Ideal S1024x2048 .bf16) (ix2 r k) = argQ m c (ix2 (rowAt (pt t) r) k) := by
  have hi : win0_0.index t 0 = t.val ∧ win0_0.index t 1 = 0 := by rcases fin_N0 t with rfl | rfl <;> decide
  unfold iblk
  rw [View.read_apply]
  show V m c main_arg0 _ = m ((c : Thread nD τ).loc main_arg0) _
  unfold V
  congr 1
  funext a
  apply Fin.ext
  match a with
  | ⟨0, _⟩ => show win0_0.index t 0 * 1024 + 1 * r.val = 1024 * t.val + r.val; rw [hi.1]; omega
  | ⟨1, _⟩ => show win0_0.index t 1 * 2048 + 1 * k.val = k.val; rw [hi.2]; omega

/-- Point `t` reads rows `1024 t …` of the gradient that comes in. -/
theorem block_g (t : Fin cfg0.N) (r : Fin 1024) (k : Fin 2048) :
    (iblk m c 3 t : FVec Ideal S1024x2048 .bf16) (ix2 r k) = argG m c (ix2 (rowAt (pt t) r) k) := by
  have hi : win0_3.index t 0 = t.val ∧ win0_3.index t 1 = 0 := by rcases fin_N0 t with rfl | rfl <;> decide
  unfold iblk
  rw [View.read_apply]
  show V m c main_arg3 _ = m ((c : Thread nD τ).loc main_arg3) _
  unfold V
  congr 1
  funext a
  apply Fin.ext
  match a with
  | ⟨0, _⟩ => show win0_3.index t 0 * 1024 + 1 * r.val = 1024 * t.val + r.val; rw [hi.1]; omega
  | ⟨1, _⟩ => show win0_3.index t 1 * 2048 + 1 * k.val = k.val; rw [hi.2]; omega

/-- Every point reads all keys. -/
theorem block_k (t : Fin cfg0.N) : (iblk m c 1 t : FVec Ideal S256x2048 .bf16) = argK m c := by
  have hi : win0_1.index t 0 = 0 ∧ win0_1.index t 1 = 0 := by rcases fin_N0 t with rfl | rfl <;> decide
  funext j
  unfold iblk
  rw [View.read_apply]
  show V m c main_arg1 _ = m ((c : Thread nD τ).loc main_arg1) _
  unfold V
  congr 1
  funext a
  apply Fin.ext
  match a with
  | ⟨0, _⟩ => show win0_1.index t 0 * 256 + 1 * (j 0).val = (j 0).val; rw [hi.1]; omega
  | ⟨1, _⟩ => show win0_1.index t 1 * 2048 + 1 * (j 1).val = (j 1).val; rw [hi.2]; omega

/-- Every point reads all values. -/
theorem block_v (t : Fin cfg0.N) : (iblk m c 2 t : FVec Ideal S256x2048 .bf16) = argV m c := by
  have hi : win0_2.index t 0 = 0 ∧ win0_2.index t 1 = 0 := by rcases fin_N0 t with rfl | rfl <;> decide
  funext j
  unfold iblk
  rw [View.read_apply]
  show V m c main_arg2 _ = m ((c : Thread nD τ).loc main_arg2) _
  unfold V
  congr 1
  funext a
  apply Fin.ext
  match a with
  | ⟨0, _⟩ => show win0_2.index t 0 * 256 + 1 * (j 0).val = (j 0).val; rw [hi.1]; omega
  | ⟨1, _⟩ => show win0_2.index t 1 * 2048 + 1 * (j 1).val = (j 1).val; rw [hi.2]; omega

/-- A head of a block of queries is that head of the whole, at the block's rows. -/
theorem heads_q (t : Fin cfg0.N) (h : Fin 4) (r : Fin 1024) :
    heads (iblk m c 0 t : FVec Ideal S1024x2048 .bf16) h r = heads (argQ m c) h (rowAt (pt t) r) :=
  funext fun d => block_q m c t r (col h d)

/-- A head of a block of the incoming gradient is that head of the whole, at the block's rows. -/
theorem heads_g (t : Fin cfg0.N) (h : Fin 4) (r : Fin 1024) :
    heads (iblk m c 3 t : FVec Ideal S1024x2048 .bf16) h r = heads (argG m c) h (rowAt (pt t) r) :=
  funext fun d => block_g m c t r (col h d)

/-! ## The result arrays -/

/-- The queries' gradient. -/
def resQ : FVec Ideal S2048x2048 .bf16 :=
  fun y => gradQ (argQ m c) (argK m c) (argV m c) (argG m c) (headOf (y 1)) (y 0) (colOf (y 1))
/-- The keys' gradient. -/
def resK : FVec Ideal S256x2048 .f32 :=
  fun y => gradK (argQ m c) (argK m c) (argV m c) (argG m c) (headOf (y 1)) (y 0) (colOf (y 1))
/-- The values' gradient. -/
def resV : FVec Ideal S256x2048 .f32 :=
  fun y => gradV (argQ m c) (argK m c) (argG m c) (headOf (y 1)) (y 0) (colOf (y 1))

/-- The block of the queries' gradient that point `t` leaves is the whole gradient at the block's rows. -/
theorem block_resQ (t : Fin cfg0.N) (r : Fin 1024) (k : Fin 2048) :
    blockQ (iblk m c 0 t) (iblk m c 1 t) (iblk m c 2 t) (iblk m c 3 t) (ix2 r k) = resQ m c (ix2 (rowAt (pt t) r) k) := by
  show gradQ _ _ _ _ (headOf k) r (colOf k) = gradQ _ _ _ _ (headOf k) (rowAt (pt t) r) (colOf k)
  unfold gradQ
  rw [heads_q, heads_g, block_k, block_v]

/-- What a point leaves for the queries' gradient. -/
theorem leaves4 (t : Fin cfg0.N) : (outsAt0 m c t.val t.isLt).1
    = blockQ (iblk m c 0 t) (iblk m c 1 t) (iblk m c 2 t) (iblk m c 3 t) := by
  by_cases h0 : t.val % 2 = 0
  · have h := firstQ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) ((hcond0_0 t).mpr h0)
    rw [outsAt0_A m c t h0]
    dsimp only
    exact h
  · have h := laterQ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h))
    rw [outsAt0_B m c t h0]
    dsimp only
    exact h

/-- The queries' gradient after the run. -/
theorem final4 : (dats m 0 c).arrAt 4 cfg0.N = resQ m c := by
  refine (dats m 0 c).arrAt_eq_of_cover 4 (resQ m c) (fun t _ => ?_) fun i => ?_
  · have hi : win0_4.index t 0 = t.val ∧ win0_4.index t 1 = 0 := by rcases fin_N0 t with rfl | rfl <;> decide
    show (cfg0.win 4).cut (grid0.coords t) ((dats m 0 c).after 4 t) = _
    rw [after0_4, leaves4]
    funext j
    rw [View.read_apply]
    obtain ⟨r, k, rfl⟩ : ∃ (r : Fin 1024) (k : Fin 2048), j = ix2 r k := ⟨j 0, j 1, eq_ix2 (n0 := 1024) (n1 := 2048) j⟩
    refine (block_resQ m c t r k).trans (congrArg (resQ m c) (funext fun a => Fin.ext ?_))
    match a with
    | ⟨0, _⟩ => show 1024 * t.val + r.val = win0_4.index t 0 * 1024 + 1 * r.val; rw [hi.1]; omega
    | ⟨1, _⟩ => show k.val = win0_4.index t 1 * 2048 + 1 * k.val; rw [hi.2]; omega
  · have hN : cfg0.N = 2 := N_0
    have hb : (i 0).val < 2048 := (i 0).isLt
    have hb1 : (i 1).val < 2048 := (i 1).isLt
    obtain ⟨t, ht⟩ : ∃ t : Fin cfg0.N, t.val = (i 0).val / 1024 := ⟨⟨(i 0).val / 1024, by omega⟩, rfl⟩
    have hi : win0_4.index t 0 = t.val ∧ win0_4.index t 1 = 0 := by rcases fin_N0 t with rfl | rfl <;> decide
    refine ⟨t, flush0_4 t, ?_⟩
    show i ∈ ((View.whole main_v0_0).slice (win0_4.rect t)).set
    rw [View.set_slice_whole, Rect.mem_set_unit]
    intro a
    match a with
    | ⟨0, _⟩ => show win0_4.index t 0 * 1024 ≤ (i 0).val ∧ (i 0).val < win0_4.index t 0 * 1024 + 1024; rw [hi.1]; omega
    | ⟨1, _⟩ => show win0_4.index t 1 * 2048 ≤ (i 1).val ∧ (i 1).val < win0_4.index t 1 * 2048 + 2048; rw [hi.2]; omega

/-- What the last point leaves for the keys' gradient: the sum over both points' rows. -/
theorem leaves5 : (outsAt0 m c t0_1.val t0_1.isLt).2.1 = resK m c := by
  have hA : (outsAt0 m c t0_0.val t0_0.isLt).2.1 = blockK (iblk m c 0 t0_0) (iblk m c 1 t0_0) (iblk m c 2 t0_0) (iblk m c 3 t0_0) (fun _ => (0 : EReal)) := by
    have h := firstK c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (iblk m c 0 t0_0) (iblk m c 1 t0_0) (iblk m c 2 t0_0) (iblk m c 3 t0_0) ((hcond0_0 t0_0).mpr rfl)
    rw [outsAt0_A m c t0_0 rfl]
    dsimp only
    exact h
  have hB : (outsAt0 m c t0_1.val t0_1.isLt).2.1 = blockK (iblk m c 0 t0_1) (iblk m c 1 t0_1) (iblk m c 2 t0_1) (iblk m c 3 t0_1) (outsAt0 m c t0_0.val t0_0.isLt).2.1 := by
    have h := laterK c (grid0.coords t0_1) (ms0_0 t0_1) (hs0_0 t0_1) (ms0_1 t0_1) (hs0_1 t0_1) (ms0_2 t0_1) (hs0_2 t0_1) (ms0_3 t0_1) (hs0_3 t0_1) (ms0_4 t0_1) (hs0_4 t0_1) (ms0_5 t0_1) (hs0_5 t0_1) (ms0_6 t0_1) (hs0_6 t0_1) (iblk m c 0 t0_1) (iblk m c 1 t0_1) (iblk m c 2 t0_1) (iblk m c 3 t0_1) (outsAt0 m c (t0_1.val - 1) (Nat.lt_of_le_of_lt (Nat.sub_le _ _) t0_1.isLt)).2.1 (outsAt0 m c (t0_1.val - 1) (Nat.lt_of_le_of_lt (Nat.sub_le _ _) t0_1.isLt)).2.2 (fun h => (by decide : ¬ t0_1.val % 2 = 0) ((hcond0_0 t0_1).mp h))
    rw [outsAt0_B m c t0_1 (by decide)]
    dsimp only
    exact h
  rw [hB, hA]
  funext y
  show 0 + gradK _ _ _ _ (headOf (y 1)) (y 0) (colOf (y 1)) + gradK _ _ _ _ (headOf (y 1)) (y 0) (colOf (y 1)) = gradK _ _ _ _ _ _ _
  unfold gradK
  simp only [heads_q, heads_g, block_k, block_v]
  exact sum_rows fun r => dscore scale (heads (argQ m c) (headOf (y 1)) r) (heads (argK m c) (headOf (y 1)))
    (heads (argV m c) (headOf (y 1))) (heads (argG m c) (headOf (y 1)) r) (y 0) * heads (argQ m c) (headOf (y 1)) r (colOf (y 1))

/-- What the last point leaves for the values' gradient: the sum over both points' rows. -/
theorem leaves6 : (outsAt0 m c t0_1.val t0_1.isLt).2.2 = resV m c := by
  have hA : (outsAt0 m c t0_0.val t0_0.isLt).2.2 = blockV (iblk m c 0 t0_0) (iblk m c 1 t0_0) (iblk m c 3 t0_0) (fun _ => (0 : EReal)) := by
    have h := firstV c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (iblk m c 0 t0_0) (iblk m c 1 t0_0) (iblk m c 2 t0_0) (iblk m c 3 t0_0) ((hcond0_0 t0_0).mpr rfl)
    rw [outsAt0_A m c t0_0 rfl]
    dsimp only
    exact h
  have hB : (outsAt0 m c t0_1.val t0_1.isLt).2.2 = blockV (iblk m c 0 t0_1) (iblk m c 1 t0_1) (iblk m c 3 t0_1) (outsAt0 m c t0_0.val t0_0.isLt).2.2 := by
    have h := laterV c (grid0.coords t0_1) (ms0_0 t0_1) (hs0_0 t0_1) (ms0_1 t0_1) (hs0_1 t0_1) (ms0_2 t0_1) (hs0_2 t0_1) (ms0_3 t0_1) (hs0_3 t0_1) (ms0_4 t0_1) (hs0_4 t0_1) (ms0_5 t0_1) (hs0_5 t0_1) (ms0_6 t0_1) (hs0_6 t0_1) (iblk m c 0 t0_1) (iblk m c 1 t0_1) (iblk m c 2 t0_1) (iblk m c 3 t0_1) (outsAt0 m c (t0_1.val - 1) (Nat.lt_of_le_of_lt (Nat.sub_le _ _) t0_1.isLt)).2.1 (outsAt0 m c (t0_1.val - 1) (Nat.lt_of_le_of_lt (Nat.sub_le _ _) t0_1.isLt)).2.2 (fun h => (by decide : ¬ t0_1.val % 2 = 0) ((hcond0_0 t0_1).mp h))
    rw [outsAt0_B m c t0_1 (by decide)]
    dsimp only
    exact h
  rw [hB, hA]
  funext y
  show 0 + gradV _ _ _ (headOf (y 1)) (y 0) (colOf (y 1)) + gradV _ _ _ (headOf (y 1)) (y 0) (colOf (y 1)) = gradV _ _ _ _ _ _
  unfold gradV
  simp only [heads_q, heads_g, block_k]
  exact sum_rows fun r => prob scale (heads (argQ m c) (headOf (y 1)) r) (heads (argK m c) (headOf (y 1))) (y 0)
    * heads (argG m c) (headOf (y 1)) r (colOf (y 1))

/-- The keys' gradient after the run. -/
theorem final5 : (dats m 0 c).arrAt 5 cfg0.N = resK m c := by
  refine (dats m 0 c).arrAt_eq_of_cover 5 (resK m c) (fun t hf => ?_) fun i => ?_
  · have hN : cfg0.N = 2 := N_0
    have h1 : t.val = 1 := by have := (flush0_5 t).mp hf; have := t.isLt; omega
    obtain rfl : t = t0_1 := Fin.ext h1
    show (cfg0.win 5).cut (grid0.coords t0_1) ((dats m 0 c).after 5 t0_1) = _
    rw [after0_5, leaves5]
    have hz' : (fun a => win0_5.index t0_1 a * main_v0_1.ty.shape.size a) = fun _ => 0 := funext fun a => by fin_cases a <;> decide
    exact (Memref.read_access_unit_zero (Elt Ideal) main_v0_1 hz' (fun a => by rw [congrFun hz' a]; simp) (resK m c)).symm
  · refine ⟨t0_1, (flush0_5 t0_1).mpr rfl, ?_⟩
    show i ∈ ((View.whole main_v0_1).slice (win0_5.rect t0_1)).set
    rw [View.set_slice_whole, Rect.mem_set_unit]
    have hi : win0_5.index t0_1 0 = 0 ∧ win0_5.index t0_1 1 = 0 := by decide
    have hb : (i 0).val < 256 := (i 0).isLt
    have hb1 : (i 1).val < 2048 := (i 1).isLt
    intro a
    match a with
    | ⟨0, _⟩ => show win0_5.index t0_1 0 * 256 ≤ (i 0).val ∧ (i 0).val < win0_5.index t0_1 0 * 256 + 256; rw [hi.1]; omega
    | ⟨1, _⟩ => show win0_5.index t0_1 1 * 2048 ≤ (i 1).val ∧ (i 1).val < win0_5.index t0_1 1 * 2048 + 2048; rw [hi.2]; omega

/-- The values' gradient after the run. -/
theorem final6 : (dats m 0 c).arrAt 6 cfg0.N = resV m c := by
  refine (dats m 0 c).arrAt_eq_of_cover 6 (resV m c) (fun t hf => ?_) fun i => ?_
  · have hN : cfg0.N = 2 := N_0
    have h1 : t.val = 1 := by have := (flush0_6 t).mp hf; have := t.isLt; omega
    obtain rfl : t = t0_1 := Fin.ext h1
    show (cfg0.win 6).cut (grid0.coords t0_1) ((dats m 0 c).after 6 t0_1) = _
    rw [after0_6, leaves6]
    have hz' : (fun a => win0_6.index t0_1 a * main_v0_2.ty.shape.size a) = fun _ => 0 := funext fun a => by fin_cases a <;> decide
    exact (Memref.read_access_unit_zero (Elt Ideal) main_v0_2 hz' (fun a => by rw [congrFun hz' a]; simp) (resV m c)).symm
  · refine ⟨t0_1, (flush0_6 t0_1).mpr rfl, ?_⟩
    show i ∈ ((View.whole main_v0_2).slice (win0_6.rect t0_1)).set
    rw [View.set_slice_whole, Rect.mem_set_unit]
    have hi : win0_6.index t0_1 0 = 0 ∧ win0_6.index t0_1 1 = 0 := by decide
    have hb : (i 0).val < 256 := (i 0).isLt
    have hb1 : (i 1).val < 2048 := (i 1).isLt
    intro a
    match a with
    | ⟨0, _⟩ => show win0_6.index t0_1 0 * 256 ≤ (i 0).val ∧ (i 0).val < win0_6.index t0_1 0 * 256 + 256; rw [hi.1]; omega
    | ⟨1, _⟩ => show win0_6.index t0_1 1 * 2048 ≤ (i 1).val ∧ (i 1).val < win0_6.index t0_1 1 * 2048 + 2048; rw [hi.2]; omega

end Cert.KernelIdeal.Ker

end
-- ==== Proof.AttnRef.lean ====
/- The reference of the attention's gradient, read at an index: each result as the sums over rows and keys of `AttnRow`. -/
module

public import proofs.«01_k».proof.Proof.Gen.ReferenceIdeal.Read
public import proofs.«01_k».proof.Proof.AttnRow
public import proofs.«01_k».proof.Proof.Products

@[expose] public section

set_option maxRecDepth 16384

noncomputable section

namespace Cert.ReferenceIdeal.RefValue

open Cert.ReferenceIdeal Cert.ReferenceIdeal.Gen Cert.ReferenceIdeal.Read Cert.AttnRow
open Idealize.ShloMosaic Idealize.ShloMosaic.ValueIdx Cert.Products

/-- The f32 pattern of minus infinity is the bottom element. -/
theorem ofBits_neg_inf : Ideal.ofBits .f32 0xFF800000#32 = ⊥ := by simp [Ideal.ofBits, Ideal.ieee]

/-- The f32 pattern of one is one. -/
theorem ofBits_one : Ideal.ofBits .f32 0x3F800000#32 = 1 := by simp [Ideal.ofBits, Ideal.ieee, -EReal.coe_mul]; norm_num

variable (x0 : (⟨S2048x2048, .bf16⟩ : BufTy).Contents (Elt Ideal)) (x1 x2 : (⟨S256x2048, .bf16⟩ : BufTy).Contents (Elt Ideal))
  (x3 : (⟨S2048x2048, .bf16⟩ : BufTy).Contents (Elt Ideal))

/-- The queries split into heads. -/
theorem v3_at (h : Fin 4) (r : Fin 2048) (d : Fin 512) : val_main_v3 (F := Ideal) x0 (ix4 0 r h d) = heads x0 h r d := by
  rw [val_main_v3_apply, val_main_v0_apply]
  show x0 _ = x0 _
  refine congrArg x0 (ix2_ext r (col h d) ?_ ?_)
  · show (((0 * 2048 + r.val) * 4 + h.val) * 512 + d.val) / 2048 = r.val
    have := h.isLt; have := d.isLt; omega
  · show (((0 * 2048 + r.val) * 4 + h.val) * 512 + d.val) % 2048 = 512 * h.val + d.val
    have := h.isLt; have := d.isLt; omega

/-- The incoming gradient split into heads. -/
theorem v41_at (h : Fin 4) (r : Fin 2048) (d : Fin 512) : val_main_v41 (F := Ideal) x3 (ix4 0 r h d) = heads x3 h r d := by
  rw [val_main_v41_apply, val_main_v40_apply]
  show x3 _ = x3 _
  refine congrArg x3 (ix2_ext r (col h d) ?_ ?_)
  · show (((0 * 2048 + r.val) * 4 + h.val) * 512 + d.val) / 2048 = r.val
    have := h.isLt; have := d.isLt; omega
  · show (((0 * 2048 + r.val) * 4 + h.val) * 512 + d.val) % 2048 = 512 * h.val + d.val
    have := h.isLt; have := d.isLt; omega

/-- The keys split into heads. -/
theorem v4_at (h : Fin 4) (j : Fin 256) (d : Fin 512) : val_main_v4 (F := Ideal) x1 (ix4 0 j h d) = heads x1 h j d := by
  rw [val_main_v4_apply, val_main_v1_apply]
  show x1 _ = x1 _
  refine congrArg x1 (ix2_ext j (col h d) ?_ ?_)
  · show (((0 * 256 + j.val) * 4 + h.val) * 512 + d.val) / 2048 = j.val
    have := h.isLt; have := d.isLt; omega
  · show (((0 * 256 + j.val) * 4 + h.val) * 512 + d.val) % 2048 = 512 * h.val + d.val
    have := h.isLt; have := d.isLt; omega

/-- The values split into heads. -/
theorem v5_at (h : Fin 4) (j : Fin 256) (d : Fin 512) : val_main_v5 (F := Ideal) x2 (ix4 0 j h d) = heads x2 h j d := by
  rw [val_main_v5_apply, val_main_v2_apply]
  show x2 _ = x2 _
  refine congrArg x2 (ix2_ext j (col h d) ?_ ?_)
  · show (((0 * 256 + j.val) * 4 + h.val) * 512 + d.val) / 2048 = j.val
    have := h.isLt; have := d.isLt; omega
  · show (((0 * 256 + j.val) * 4 + h.val) * 512 + d.val) % 2048 = 512 * h.val + d.val
    have := h.isLt; have := d.isLt; omega

/-- The scaled scores. -/
theorem v8_at (h : Fin 4) (r : Fin 2048) (j : Fin 256) :
    val_main_v8 (F := Ideal) x0 x1 (ix4 0 h r j) = score scale (heads x0 h r) (heads x1 h) j := by
  show val_main_v6 (F := Ideal) x0 x1 (ix4 0 h r j) * val_main_v7 (F := Ideal) (ix4 0 h r j) = _
  rw [val_main_v6_apply, val_main_v7_apply, val_main_cst_apply]
  unfold score
  refine congrArg₂ (· * ·) (Finset.sum_congr rfl fun d _ => ?_) rfl
  rw [← v3_at, ← v4_at]
  exact congrArg₂ (fun a b => val_main_v3 (F := Ideal) x0 a * val_main_v4 (F := Ideal) x1 b) (ix4_ext 0 r h d rfl rfl rfl rfl)
    (ix4_ext 0 j h d rfl rfl rfl rfl)

/-- The greatest score of each row. -/
theorem v9_at (h : Fin 4) (r : Fin 2048) : val_main_v9 (F := Ideal) x0 x1 (ix3 0 h r) = top scale (heads x0 h r) (heads x1 h) := by
  unfold val_main_v9
  rw [Host.reduce_eq_fold_single _ _ _ reducesTo_S1x4x2048x256_S1x4x2048_d3 (by decide) h_S_]
  show Finset.univ.fold max (Ideal.ofBits .f32 0xFF800000#32) _ = _
  rw [ofBits_neg_inf]
  unfold top
  refine congrArg (fun f => Finset.univ.fold max ⊥ f) (funext fun j => ?_)
  refine Eq.trans ?_ (v8_at x0 x1 h r j)
  exact congrArg (val_main_v8 (F := Ideal) x0 x1) (ix4_ext 0 h r j rfl rfl rfl rfl)

/-- The greatest score, over the reduction's own bound. -/
theorem v27_at (h : Fin 4) (r : Fin 2048) (j : Fin 256) :
    val_main_v27 (F := Ideal) x0 x1 (ix4 0 h r j) = top scale (heads x0 h r) (heads x1 h) := by
  rw [val_main_v27_apply, val_main_v26_apply, val_main_v16_apply, val_main_v15_apply, val_main_cst_2_apply,
    show idx_main_v26 (idx_main_v27 (ix4 0 h r j)) = ix3 0 h r from ix3_ext 0 h r rfl rfl rfl, v9_at]
  generalize top scale (heads x0 h r) (heads x1 h) = y
  show max (Ideal.ofBits .f32 0xFF800000#32) y = y
  rw [ofBits_neg_inf]
  exact max_eq_right bot_le

/-- The exponentials. -/
theorem v29_at (h : Fin 4) (r : Fin 2048) (j : Fin 256) :
    val_main_v29 (F := Ideal) x0 x1 (ix4 0 h r j) = ex scale (heads x0 h r) (heads x1 h) j := by
  rw [val_main_v29_apply, val_main_v28_apply, v27_at, v8_at]
  rfl

/-- The sum of the exponentials. -/
theorem v30_at (h : Fin 4) (r : Fin 2048) : val_main_v30 (F := Ideal) x0 x1 (ix3 0 h r) = total scale (heads x0 h r) (heads x1 h) := by
  rw [val_main_v30_apply, val_main_cst_8_apply]
  show Ideal.ofBits .f32 0x00000000#32 + _ = _
  rw [Ideal.ofBits_zero_f32, zero_add]
  unfold total
  refine Finset.sum_congr rfl fun j _ => ?_
  rw [← v29_at]
  exact congrArg (val_main_v29 (F := Ideal) x0 x1) (ix4_ext 0 h r j rfl rfl rfl rfl)

/-- … kept as a column. -/
theorem v31_at (h : Fin 4) (r : Fin 2048) (i : S1x4x2048x1.Idx) (h1 : (i 1).val = h.val) (h2 : (i 2).val = r.val) :
    val_main_v31 (F := Ideal) x0 x1 i = total scale (heads x0 h r) (heads x1 h) := by
  rw [val_main_v31_apply, ← v30_at]
  exact congrArg (val_main_v30 (F := Ideal) x0 x1) (ix3_ext 0 h r rfl h1 h2)

/-- The softmax. -/
theorem v33_at (h : Fin 4) (r : Fin 2048) (j : Fin 256) :
    val_main_v33 (F := Ideal) x0 x1 (ix4 0 h r j) = prob scale (heads x0 h r) (heads x1 h) j := by
  show Ideal.div (val_main_v29 (F := Ideal) x0 x1 (ix4 0 h r j)) (val_main_v32 (F := Ideal) x0 x1 (ix4 0 h r j)) = _
  rw [v29_at, val_main_v32_apply, v31_at x0 x1 h r _ rfl rfl]
  rfl

/-- The incoming gradient, head and column before the row. -/
theorem v42_at (h : Fin 4) (r : Fin 2048) (d : Fin 512) : val_main_v42 (F := Ideal) x3 (ix4 0 h d r) = heads x3 h r d := by
  rw [val_main_v42_apply, ← v41_at]
  exact congrArg (val_main_v41 (F := Ideal) x3) (ix4_ext 0 r h d rfl rfl rfl rfl)

/-- The gradient of the softmax. -/
theorem v43_at (h : Fin 4) (r : Fin 2048) (j : Fin 256) :
    val_main_v43 (F := Ideal) x2 x3 (ix4 0 h r j) = dprob (heads x2 h) (heads x3 h r) j := by
  rw [val_main_v43_apply]
  unfold dprob
  refine Finset.sum_congr rfl fun d _ => ?_
  rw [← v42_at, ← v5_at]
  exact congrArg₂ (fun a b => val_main_v42 (F := Ideal) x3 a * val_main_v5 (F := Ideal) x2 b) (ix4_ext 0 h d r rfl rfl rfl rfl)
    (ix4_ext 0 j h d rfl rfl rfl rfl)

/-- The term of the chain rule through the denominator, summed over the keys. -/
theorem v49_at (h : Fin 4) (r : Fin 2048) : val_main_v49 (F := Ideal) x0 x1 x2 x3 (ix3 0 h r)
    = ∑ j, dprob (heads x2 h) (heads x3 h r) j
        * Ideal.div 1 (total scale (heads x0 h r) (heads x1 h) * total scale (heads x0 h r) (heads x1 h))
        * ex scale (heads x0 h r) (heads x1 h) j := by
  rw [val_main_v49_apply, val_main_cst_10_apply]
  show Ideal.ofBits .f32 0x00000000#32 + _ = _
  rw [Ideal.ofBits_zero_f32, zero_add]
  refine Finset.sum_congr rfl fun j _ => ?_
  rw [show idx_main_v49 (ix3 0 h r) j = ix4 0 h r j from ix4_ext 0 h r j rfl rfl rfl rfl]
  show val_main_v43 (F := Ideal) x2 x3 (ix4 0 h r j) * val_main_v46 (F := Ideal) x0 x1 (ix4 0 h r j)
    * val_main_v29 (F := Ideal) x0 x1 (ix4 0 h r j) = _
  rw [v43_at, v29_at, val_main_v46_apply]
  show _ * Ideal.div (val_main_v35 (F := Ideal) _) (val_main_v31 (F := Ideal) x0 x1 _ * val_main_v31 (F := Ideal) x0 x1 _) * _ = _
  rw [val_main_v35_apply, val_main_cst_9_apply, v31_at x0 x1 h r _ rfl rfl]
  show _ * Ideal.div (Ideal.ofBits .f32 0x3F800000#32) _ * _ = _
  rw [ofBits_one]

/-- … negated, as a column. -/
theorem v51_at (h : Fin 4) (r : Fin 2048) (i : S1x4x2048x1.Idx) (h1 : (i 1).val = h.val) (h2 : (i 2).val = r.val) :
    val_main_v51 (F := Ideal) x0 x1 x2 x3 i = -val_main_v49 (F := Ideal) x0 x1 x2 x3 (ix3 0 h r) := by
  show -val_main_v50 (F := Ideal) x0 x1 x2 x3 i = _
  rw [val_main_v50_apply]
  refine congrArg (fun a => -val_main_v49 (F := Ideal) x0 x1 x2 x3 a) (ix3_ext 0 h r rfl ?_ ?_)
  · show ((((i 0).val * 4 + (i 1).val) * 2048 + (i 2).val) * 1 + (i 3).val) / 2048 % 4 = h.val
    have h0 : (i 0).val < 1 := (i 0).isLt
    have h3 : (i 3).val < 1 := (i 3).isLt
    have := h.isLt; have := r.isLt; omega
  · show ((((i 0).val * 4 + (i 1).val) * 2048 + (i 2).val) * 1 + (i 3).val) % 2048 = r.val
    have h0 : (i 0).val < 1 := (i 0).isLt
    have h3 : (i 3).val < 1 := (i 3).isLt
    have := h.isLt; have := r.isLt; omega

/-- The sum over two axes of length one keeps the element. -/
theorem v54_at (h : Fin 4) (r : Fin 2048) :
    val_main_v54 (F := Ideal) x0 x1 x2 x3 (ix2 h r) = -val_main_v49 (F := Ideal) x0 x1 x2 x3 (ix3 0 h r) := by
  show Ideal.hostReduceAdd reducesTo_S1x4x2048x1_S4x2048_d0_3 (val_main_v51 (F := Ideal) x0 x1 x2 x3)
    (Ideal.ofBits .f32 0x00000000#32) (ix2 h r) = _
  unfold Ideal.hostReduceAdd
  rw [Ideal.ofBits_zero_f32, zero_add, ← v51_at x0 x1 x2 x3 h r (ix4 0 h r 0) rfl rfl]
  refine (Finset.sum_eq_single_of_mem (ix4 0 h r 0) ?_ fun i hi hne => absurd ?_ hne)
  · refine Finset.mem_filter.mpr ⟨Finset.mem_univ _, ix2_ext h r ?_ ?_⟩
    · rfl
    · rfl
  · have hd := (Finset.mem_filter.mp hi).2
    have e1 : (i 1).val = h.val := congrArg Fin.val (congrFun hd 0)
    have e2 : (i 2).val = r.val := congrArg Fin.val (congrFun hd 1)
    have h0 : (i 0).val < 1 := (i 0).isLt
    have h3 : (i 3).val < 1 := (i 3).isLt
    exact ix4_ext 0 h r 0 (by show (i 0).val = 0; omega) e1 e2 (by show (i 3).val = 0; omega)

/-- The gradient of the inner products, in the grouping of the chain rule. -/
theorem v60_at (h : Fin 4) (r : Fin 2048) (j : Fin 256) : val_main_v60 (F := Ideal) x0 x1 x2 x3 (ix4 0 h r j)
    = dscoreChain scale (heads x0 h r) (heads x1 h) (heads x2 h) (heads x3 h r) j := by
  show (Ideal.div (val_main_v43 (F := Ideal) x2 x3 (ix4 0 h r j)) (val_main_v52 (F := Ideal) x0 x1 (ix4 0 h r j))
      + val_main_v56 (F := Ideal) x0 x1 x2 x3 (ix4 0 h r j)) * val_main_v29 (F := Ideal) x0 x1 (ix4 0 h r j)
      * val_main_v59 (F := Ideal) (ix4 0 h r j) = _
  rw [v43_at, v29_at, val_main_v52_apply, v31_at x0 x1 h r _ rfl rfl, val_main_v56_apply, val_main_v55_apply,
    val_main_v59_apply, val_main_cst_12_apply,
    show idx_main_v55 (idx_main_v56 (ix4 0 h r j)) = ix2 h r from ix2_ext h r rfl rfl, v54_at, v49_at]
  rfl

/-- The gradient of the inner products, when queries and keys are real. -/
theorem v60_eq (hq : ∀ i, ∃ x : ℝ, x0 i = x) (hk : ∀ i, ∃ x : ℝ, x1 i = x) (h : Fin 4) (r : Fin 2048) (j : Fin 256) :
    val_main_v60 (F := Ideal) x0 x1 x2 x3 (ix4 0 h r j)
      = dscore scale (heads x0 h r) (heads x1 h) (heads x2 h) (heads x3 h r) j := by
  rw [v60_at]
  obtain ⟨c, hc⟩ := scale_isReal
  rw [hc]
  exact dscoreChain_eq c _ _ _ _ (fun d => hq _) (fun j d => hk _) j

/-- The gradient of the queries. -/
theorem res_q (hq : ∀ i, ∃ x : ℝ, x0 i = x) (hk : ∀ i, ∃ x : ℝ, x1 i = x) (r c : Fin 2048) :
    val_main_v68 (F := Ideal) x0 x1 x2 x3 (ix2 r c) = gradQ x0 x1 x2 x3 (headOf c) r (colOf c) := by
  show val_main_v67 (F := Ideal) x0 x1 x2 x3 (ix2 r c) = _
  rw [val_main_v67_apply, val_main_v64_apply, val_main_v63_apply]
  unfold gradQ
  refine Finset.sum_congr rfl fun j _ => ?_
  rw [← v60_eq x0 x1 x2 x3 hq hk, ← v4_at]
  have hr := r.isLt
  have hc := c.isLt
  refine congrArg₂ (fun a b => val_main_v60 (F := Ideal) x0 x1 x2 x3 a * val_main_v4 (F := Ideal) x1 b)
    (ix4_ext 0 (headOf c) r j rfl ?_ ?_ rfl) (ix4_ext 0 j (headOf c) (colOf c) rfl rfl ?_ ?_)
  · show (r.val * 2048 + c.val) / 512 % 4 = c.val / 512; omega
  · show (r.val * 2048 + c.val) / 2048 % 2048 = r.val; omega
  · show (r.val * 2048 + c.val) / 512 % 4 = c.val / 512; omega
  · show (r.val * 2048 + c.val) % 512 = c.val % 512; omega

/-- The gradient of the keys. -/
theorem res_k (hq : ∀ i, ∃ x : ℝ, x0 i = x) (hk : ∀ i, ∃ x : ℝ, x1 i = x) (j : Fin 256) (c : Fin 2048) :
    val_main_v66 (F := Ideal) x0 x1 x2 x3 (ix2 j c) = gradK x0 x1 x2 x3 (headOf c) j (colOf c) := by
  rw [val_main_v66_apply, val_main_v62_apply, val_main_v61_apply]
  unfold gradK
  refine Finset.sum_congr rfl fun r _ => ?_
  rw [← v60_eq x0 x1 x2 x3 hq hk, ← v3_at]
  have hr := j.isLt
  have hc := c.isLt
  refine congrArg₂ (fun a b => val_main_v60 (F := Ideal) x0 x1 x2 x3 a * val_main_v3 (F := Ideal) x0 b)
    (ix4_ext 0 (headOf c) r j rfl ?_ rfl ?_) (ix4_ext 0 r (headOf c) (colOf c) rfl rfl ?_ ?_)
  · show (j.val * 2048 + c.val) / 512 % 4 = c.val / 512; omega
  · show (j.val * 2048 + c.val) / 2048 % 256 = j.val; omega
  · show (j.val * 2048 + c.val) / 512 % 4 = c.val / 512; omega
  · show (j.val * 2048 + c.val) % 512 = c.val % 512; omega

/-- The gradient of the values. -/
theorem res_v (j : Fin 256) (c : Fin 2048) :
    val_main_v65 (F := Ideal) x0 x1 x3 (ix2 j c) = gradV x0 x1 x3 (headOf c) j (colOf c) := by
  rw [val_main_v65_apply, val_main_v45_apply, val_main_v44_apply]
  unfold gradV
  refine Finset.sum_congr rfl fun r _ => ?_
  rw [← v33_at, ← v42_at, mul_comm]
  have hr := j.isLt
  have hc := c.isLt
  refine congrArg₂ (fun a b => val_main_v33 (F := Ideal) x0 x1 a * val_main_v42 (F := Ideal) x3 b)
    (ix4_ext 0 (headOf c) r j rfl ?_ rfl ?_) (ix4_ext 0 (headOf c) (colOf c) r rfl ?_ ?_ rfl)
  · show (j.val * 2048 + c.val) / 512 % 4 = c.val / 512; omega
  · show (j.val * 2048 + c.val) / 2048 % 256 = j.val; omega
  · show (j.val * 2048 + c.val) / 512 % 4 = c.val / 512; omega
  · show (j.val * 2048 + c.val) % 512 = c.val % 512; omega

end Cert.ReferenceIdeal.RefValue

end
-- ==== Proof.AttnClaim.lean ====
/-
  The claims about the attention's backward kernel: its frames, and that its idealization and the plain reference end
  with equal gradients of q, k and v when q and k are finite.
-/
module

public import proofs.«01_k».proof.Proof.AttnKer
public import proofs.«01_k».proof.Proof.AttnRef
public import proofs.«01_k».proof.Defs
public import proofs.«01_k».proof.Proof.Gen.Kernel.Frame
public import proofs.«01_k».proof.Proof.Gen.ReferenceIdeal.Run
public import proofs.«01_k».proof.Proof.Gen.ReferenceIdeal.Read

@[expose] public section

noncomputable section

namespace Cert.AttnClaim

open Idealize.ShloMosaic Idealize.ShloMosaic.TcCoe Idealize.SL.Sem Idealize.ShloMosaic.ValueIdx Cert.AttnRow

/-- The precondition's shape facts. -/
instance preFacts : Cert.Pre_finite_scores.Facts where
  bcast_S_S2048x2048 := by decide
  bcast_S_S256x2048 := by decide

/-- The precondition compares with infinity. -/
theorem ofBits_inf : Ideal.ofBits .bf16 0x7F80#16 = ⊤ := by simp [Ideal.ofBits, Ideal.ieee]

/-- Below infinity in absolute value is real. -/
theorem real_of_abs (x : EReal) (h : Ideal.cmp .olt (max x (-x)) ⊤ = 1#1) : ∃ r : ℝ, x = r := by
  induction x with
  | bot => exact absurd h (by simp [Ideal.cmp])
  | top => exact absurd h (by simp [Ideal.cmp])
  | coe r => exact ⟨r, rfl⟩

/-- Under the precondition every q and every k is real. -/
theorem finite (q : FVec Ideal Cert.Pre_finite_scores.S2048x2048 .bf16) (k v : FVec Ideal Cert.Pre_finite_scores.S256x2048 .bf16)
    (g : FVec Ideal Cert.Pre_finite_scores.S2048x2048 .bf16)
    (h : (Cert.Pre_finite_scores.fn (F := Ideal) q k v g).1 = (fun _ => 1#1)
      ∧ (Cert.Pre_finite_scores.fn (F := Ideal) q k v g).2 = (fun _ => 1#1)) :
    (∀ i, ∃ x : ℝ, q i = x) ∧ (∀ i, ∃ x : ℝ, k i = x) := by
  refine ⟨fun i => real_of_abs _ ?_, fun i => real_of_abs _ ?_⟩
  · rw [← ofBits_inf]; exact congrFun h.1 i
  · rw [← ofBits_inf]; exact congrFun h.2 i

/-- The kernel's frame at the machine's words. -/
theorem frame_p : Cert.quiescent_Kernel := fun m ρ _ => Cert.Kernel.Gen.frame m ρ
/-- The idealization's frame. -/
theorem frame_pi : Cert.quiescent_KernelIdeal := fun m ρ _ => Cert.KernelIdeal.Gen.frame m ρ
/-- The idealization's frame under the precondition. -/
theorem frame_pi_pre : Cert.quiescent_KernelIdeal_pre_finite_scores := fun m ρ _ => Cert.KernelIdeal.Gen.frame m ρ
/-- The reference's frame. -/
theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)
/-- The reference's frame under the precondition. -/
theorem frame_ri_pre : Cert.quiescent_ReferenceIdeal_pre_finite_scores := fun m ρ _ => frame_ri m ρ trivial

/-- The gradients of the idealization are the reference's. -/
theorem algebraic : Cert.algebraic_KernelIdeal_ReferenceIdeal_pre_finite_scores := by
  intro m ρ m' ρ' hpre hagree
  refine ⟨fun c => Cert.KernelIdeal.Ker.resQ m c, fun c => Cert.KernelIdeal.Ker.resK m c,
    fun c => Cert.KernelIdeal.Ker.resV m c, ?_, ?_⟩
  · refine (θ_run Cert.KernelIdeal.defs _ _).mono (fun r h c => ?_) (Cert.KernelIdeal.Value.run_blocks (F := Ideal) m ρ)
    obtain ⟨h4, h5, h6, hk⟩ := h c
    exact ⟨h4.trans (Cert.KernelIdeal.Ker.final4 m c), h5.trans (Cert.KernelIdeal.Ker.final5 m c),
      h6.trans (Cert.KernelIdeal.Ker.final6 m c), hk⟩
  · refine (θ_run Cert.ReferenceIdeal.defs _ _).mono (fun r h c => ?_) (Cert.ReferenceIdeal.Value.run (F := Ideal) m' ρ')
    obtain ⟨hq, hk⟩ := finite _ _ _ _ (hpre c)
    obtain ⟨e0, e1, e2, e3⟩ := hagree c
    obtain ⟨h0, h1, h2, hkept⟩ := h c
    refine ⟨h0.trans ((Cert.ReferenceIdeal.Read.val_main_v68_eq ..).trans ?_),
      h1.trans ((Cert.ReferenceIdeal.Read.val_main_v66_eq ..).trans ?_),
      h2.trans ((Cert.ReferenceIdeal.Read.val_main_v65_eq ..).trans ?_), hkept⟩
    · rw [e0, e1, e2, e3]
      funext y
      rw [eq_ix2 (n0 := 2048) (n1 := 2048) y]
      exact Cert.ReferenceIdeal.RefValue.res_q _ _ _ _ hq hk _ _
    · rw [e0, e1, e2, e3]
      funext y
      rw [eq_ix2 (n0 := 256) (n1 := 2048) y]
      exact Cert.ReferenceIdeal.RefValue.res_k _ _ _ _ hq hk _ _
    · rw [e0, e1, e3]
      funext y
      rw [eq_ix2 (n0 := 256) (n1 := 2048) y]
      exact Cert.ReferenceIdeal.RefValue.res_v _ _ _ _ _

end Cert.AttnClaim

end
-- ==== Proof.DownDw.lean ====
/-
  The gradient of the second feed-forward weight: from the saved input `u` of the squared relu and the gradient `dh2`
  that comes in, the sum over the rows of `max(u, 0)²` at one column times `dh2` at another. A point of the kernel's grid
  writes 512 of the 8192 rows of the gradient.
-/
module

public import proofs.«01_k».proof.Defs
public import proofs.«01_k».proof.Proof.Products
public import proofs.«01_k».proof.Proof.Gen.DownDw.Frame
public import proofs.«01_k».proof.Proof.Gen.DownDwIdeal.Value
public import proofs.«01_k».proof.Proof.Gen.DownDwRefIdeal.Run
public import proofs.«01_k».proof.Proof.Gen.DownDwRefIdeal.Read

@[expose] public section

set_option maxRecDepth 16384

noncomputable section

namespace Cert.DownDwIdeal.Ker

open Cert.DownDwIdeal Cert.DownDwIdeal.Gen Cert.Products
open Idealize.ShloMosaic Idealize.ShloMosaic.TcCoe Idealize.SL.Sem Idealize.ShloMosaic.ValueIdx
open Idealize.ShloMosaic.Pipeline (Dat)

/-- The squared relu. -/
def act (x : EReal) : EReal := max x 0 * max x 0

/-- The weight's gradient at an index, from the activations' argument and the gradient that comes in. -/
def grad (u : FVec Ideal S2048x8192 .f32) (g : FVec Ideal S2048x2048 .bf16) : FVec Ideal S8192x2048 .bf16 :=
  fun y => ∑ k : Fin 2048, act (u (ix2 k (y 0))) * g (ix2 k (y 1))

/-- What one point computes from its blocks. -/
theorem pay (x : FVec Ideal S2048x512 .f32) (g : FVec Ideal S2048x2048 .bf16) (i : Fin 512) (j : Fin 2048) :
    (k0_pay1 (F := Ideal) x g : FVec Ideal S512x2048 .bf16) (ix2 i j) = ∑ k : Fin 2048, act (x (ix2 k i)) * g (ix2 k j) := by
  unfold k0_pay1
  refine (matmul_leftT _ none _ _ _ i j).trans ?_
  show Ideal.ofBits .f32 0x00000000#32 + _ = _
  rw [Ideal.ofBits_zero_f32, zero_add]
  refine Finset.sum_congr rfl fun k _ => ?_
  show max (x (ix2 k i)) (Ideal.ofBits .f32 0x00000000#32) * max (x (ix2 k i)) (Ideal.ofBits .f32 0x00000000#32) * _ = _
  rw [Ideal.ofBits_zero_f32]
  rfl

/-- What a point leaves in its block. -/
theorem out (x : FVec Ideal S2048x512 .f32) (g : FVec Ideal S2048x2048 .bf16) :
    out0_2 (F := Ideal) x g = k0_pay1 (F := Ideal) x g := by
  have hz : (![0, 0] : Fin 2 → ℕ) = fun _ => 0 := by decide
  unfold out0_2
  rw [View.canon_unit_zero hz, View.ld_unit_zero hz, View.ld_unit_zero hz]

variable (m : (ℓ : Loc nD τ sig) → Buf (Elt Ideal) ℓ) (c : Dev nD)

/-- The squared relu's argument as the kernel finds it. -/
abbrev argU : FVec Ideal S2048x8192 .f32 := m ((c : Thread nD τ).loc main_arg0)
/-- The gradient that comes in. -/
abbrev argG : FVec Ideal S2048x2048 .bf16 := m ((c : Thread nD τ).loc main_arg1)

/-- Where the windows lie at each point. -/
theorem places : ∀ t : Fin grid0.N, (win0_0.index t 0 = 0 ∧ win0_0.index t 1 = t.val) ∧ (win0_1.index t 0 = 0 ∧ win0_1.index t 1 = 0)
    ∧ win0_2.index t 0 = t.val ∧ win0_2.index t 1 = 0 := by decide +kernel

/-- Row `i` of the block of 512 that point `t` writes, as a row of the whole. -/
def at512 (t : Fin cfg0.N) (i : Fin 512) : Fin 8192 :=
  ⟨512 * t.val + i.val, by have := lt_of_lt_of_eq t.isLt N_0; omega⟩

/-- Point `t` reads columns `512 t …` of the squared relu's argument. -/
theorem block_u (t : Fin cfg0.N) (k : Fin 2048) (i : Fin 512) :
    (iblk m c 0 t : FVec Ideal S2048x512 .f32) (ix2 k i) = argU m c (ix2 k (at512 t i)) := by
  have hi := (places t).1
  unfold iblk
  rw [View.read_apply]
  show V m c main_arg0 _ = m ((c : Thread nD τ).loc main_arg0) _
  unfold V
  congr 1
  funext a
  apply Fin.ext
  match a with
  | ⟨0, _⟩ => show win0_0.index t 0 * 2048 + 1 * k.val = k.val; rw [hi.1]; omega
  | ⟨1, _⟩ => show win0_0.index t 1 * 512 + 1 * i.val = 512 * t.val + i.val; rw [hi.2]; omega

/-- Every point reads the whole gradient that comes in. -/
theorem block_g (t : Fin cfg0.N) (k j : Fin 2048) :
    (iblk m c 1 t : FVec Ideal S2048x2048 .bf16) (ix2 k j) = argG m c (ix2 k j) := by
  have hi := (places t).2.1
  unfold iblk
  rw [View.read_apply]
  show V m c main_arg1 _ = m ((c : Thread nD τ).loc main_arg1) _
  unfold V
  congr 1
  funext a
  apply Fin.ext
  match a with
  | ⟨0, _⟩ => show win0_1.index t 0 * 2048 + 1 * k.val = k.val; rw [hi.1]; omega
  | ⟨1, _⟩ => show win0_1.index t 1 * 2048 + 1 * j.val = j.val; rw [hi.2]; omega

/-- The weight's gradient after the run. -/
theorem final : (dats m 0 c).arrAt 2 cfg0.N = grad (argU m c) (argG m c) := by
  refine (dats m 0 c).arrAt_eq_of_cover 2 (grad (argU m c) (argG m c)) (fun t _ => ?_) fun i => ?_
  · have hi := (places t).2.2
    show (cfg0.win 2).cut (grid0.coords t) ((dats m 0 c).after 2 t) = _
    rw [after0_2, out]
    funext j
    rw [View.read_apply]
    obtain ⟨i, k, rfl⟩ : ∃ (i : Fin 512) (k : Fin 2048), j = ix2 i k := ⟨j 0, j 1, eq_ix2 (n0 := 512) (n1 := 2048) j⟩
    have h : (k0_pay1 (F := Ideal) (iblk m c 0 t) (iblk m c 1 t) : FVec Ideal S512x2048 .bf16) (ix2 i k)
        = grad (argU m c) (argG m c) (ix2 (at512 t i) k) := by
      rw [pay]
      exact Finset.sum_congr rfl fun q _ => by rw [block_u, block_g]
    refine Eq.trans h (congrArg (grad (argU m c) (argG m c)) (funext fun a => Fin.ext ?_))
    match a with
    | ⟨0, _⟩ => show 512 * t.val + i.val = win0_2.index t 0 * 512 + 1 * i.val; rw [hi.1]; omega
    | ⟨1, _⟩ => show k.val = win0_2.index t 1 * 2048 + 1 * k.val; rw [hi.2]; omega
  · have hN : cfg0.N = 16 := N_0
    have hb : (i 0).val < 8192 := (i 0).isLt
    have hb1 : (i 1).val < 2048 := (i 1).isLt
    obtain ⟨t, ht⟩ : ∃ t : Fin cfg0.N, t.val = (i 0).val / 512 := ⟨⟨(i 0).val / 512, by omega⟩, rfl⟩
    have hi := (places t).2.2
    refine ⟨t, flush0_2 t, ?_⟩
    show i ∈ ((View.whole main_v0).slice (win0_2.rect t)).set
    rw [View.set_slice_whole, Rect.mem_set_unit]
    intro a
    match a with
    | ⟨0, _⟩ => show win0_2.index t 0 * 512 ≤ (i 0).val ∧ (i 0).val < win0_2.index t 0 * 512 + 512; rw [hi.1]; omega
    | ⟨1, _⟩ => show win0_2.index t 1 * 2048 ≤ (i 1).val ∧ (i 1).val < win0_2.index t 1 * 2048 + 2048; rw [hi.2]; omega

end Cert.DownDwIdeal.Ker

namespace Cert.DownDwClaim

open Idealize.ShloMosaic Idealize.ShloMosaic.TcCoe Idealize.SL.Sem Idealize.ShloMosaic.ValueIdx Cert.Products
open Cert.DownDwRefIdeal Cert.DownDwRefIdeal.Read

/-- The reference's gradient is the same sum. -/
theorem reference (u : FVec Ideal S2048x8192 .f32) (g : FVec Ideal S2048x2048 .bf16) :
    val_main_v7 (F := Ideal) u g = Cert.DownDwIdeal.Ker.grad u g := by
  funext y
  show val_main_v6 (F := Ideal) u g y = _
  rw [val_main_v6_apply, val_main_v5_apply]
  refine Finset.sum_congr rfl fun k _ => (mul_comm _ _).trans (congrArg₂ (· * ·) ?_ ?_)
  · rw [val_main_v2_apply, val_main_v1_apply, val_main_call0_v0_apply, val_main_call0_cst_apply]
    show max (u _) (Ideal.ofBits .f32 0x00000000#32) * max (u _) (Ideal.ofBits .f32 0x00000000#32) = _
    rw [Ideal.ofBits_zero_f32]
    exact congrArg (fun i => Cert.DownDwIdeal.Ker.act (u i)) (ix2_ext k (y 0) rfl rfl)
  · exact congrArg g (ix2_ext k (y 1) rfl rfl)

/-- The kernel's frame. -/
theorem frame_p : Cert.quiescent_DownDw := fun m ρ _ => Cert.DownDw.Gen.frame m ρ
/-- The idealization's frame. -/
theorem frame_pi : Cert.quiescent_DownDwIdeal := fun m ρ _ => Cert.DownDwIdeal.Gen.frame m ρ
/-- The reference's frame. -/
theorem frame_ri : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

/-- The idealization's gradient is the reference's. -/
theorem algebraic : Cert.algebraic_DownDwIdeal_DownDwRefIdeal := by
  intro m ρ m' ρ' _ hagree
  refine ⟨fun c => Cert.DownDwIdeal.Ker.grad (Cert.DownDwIdeal.Ker.argU m c) (Cert.DownDwIdeal.Ker.argG m c), ?_, ?_⟩
  · refine (θ_run Cert.DownDwIdeal.defs _ _).mono (fun r h c => ?_) (Cert.DownDwIdeal.Value.run_blocks (F := Ideal) m ρ)
    exact ⟨(h c).1.trans (Cert.DownDwIdeal.Ker.final m c), (h c).2⟩
  · refine (θ_run Cert.DownDwRefIdeal.defs _ _).mono (fun r h c => ?_) (Cert.DownDwRefIdeal.Value.run (F := Ideal) m' ρ')
    obtain ⟨e0, e1⟩ := hagree c
    refine ⟨(h c).1.trans ((val_main_v7_eq ..).trans ?_), (h c).2⟩
    rw [e0, e1]
    exact reference _ _

end Cert.DownDwClaim

end
-- ==== Proof.UpDw.lean ====
/-
  The gradient of the first feed-forward weight: from the gradient `du` of the product and the normalised rows that
  entered it, the sum over the rows of one column of the one times a column of the other. A point of the kernel's grid
  writes 512 of the 8192 rows of the gradient.
-/
module

public import proofs.«01_k».proof.Defs
public import proofs.«01_k».proof.Proof.Products
public import proofs.«01_k».proof.Proof.Gen.UpDw.Frame
public import proofs.«01_k».proof.Proof.Gen.UpDwIdeal.Value
public import proofs.«01_k».proof.Proof.Gen.UpDwRefIdeal.Run
public import proofs.«01_k».proof.Proof.Gen.UpDwRefIdeal.Read

@[expose] public section

set_option maxRecDepth 16384

noncomputable section

namespace Cert.UpDwIdeal.Ker

open Cert.UpDwIdeal Cert.UpDwIdeal.Gen Cert.Products
open Idealize.ShloMosaic Idealize.ShloMosaic.TcCoe Idealize.SL.Sem Idealize.ShloMosaic.ValueIdx
open Idealize.ShloMosaic.Pipeline (Dat)

/-- What a point leaves in its block. -/
theorem out (x : FVec Ideal S2048x512 .bf16) (g : FVec Ideal S2048x2048 .bf16) : out0_2 (F := Ideal) x g = tn x g .bf16 := by
  have hz : (![0, 0] : Fin 2 → ℕ) = fun _ => 0 := by decide
  unfold out0_2
  rw [View.canon_unit_zero hz, View.ld_unit_zero hz, View.ld_unit_zero hz]
  unfold k0_pay1
  exact pay_tn dot_S2048x512_S2048x2048_S512x2048_0_0_1_1_n_n_wf none x g bitsLt_bf16_f32

variable (m : (ℓ : Loc nD τ sig) → Buf (Elt Ideal) ℓ) (c : Dev nD)

/-- The gradient of the product, as the kernel finds them. -/
abbrev argX : FVec Ideal S2048x8192 .bf16 := m ((c : Thread nD τ).loc main_arg0)
/-- The gradient that comes in. -/
abbrev argG : FVec Ideal S2048x2048 .bf16 := m ((c : Thread nD τ).loc main_arg1)

/-- Where the windows lie at each point. -/
theorem places : ∀ t : Fin grid0.N, (win0_0.index t 0 = 0 ∧ win0_0.index t 1 = t.val) ∧ (win0_1.index t 0 = 0 ∧ win0_1.index t 1 = 0)
    ∧ win0_2.index t 0 = t.val ∧ win0_2.index t 1 = 0 := by decide +kernel

/-- Row `i` of the block of 512 that point `t` writes, as a row of the whole. -/
def rowAt (t : Fin cfg0.N) (i : Fin 512) : Fin 8192 :=
  ⟨512 * t.val + i.val, by have := lt_of_lt_of_eq t.isLt N_0; omega⟩

/-- Point `t` reads columns `512 t …` of the product's gradient. -/
theorem block_x (t : Fin cfg0.N) (k : Fin 2048) (i : Fin 512) :
    (iblk m c 0 t : FVec Ideal S2048x512 .bf16) (ix2 k i) = argX m c (ix2 k (rowAt t i)) := by
  have hi := (places t).1
  unfold iblk
  rw [View.read_apply]
  show V m c main_arg0 _ = m ((c : Thread nD τ).loc main_arg0) _
  unfold V
  congr 1
  funext a
  apply Fin.ext
  match a with
  | ⟨0, _⟩ => show win0_0.index t 0 * 2048 + 1 * k.val = k.val; rw [hi.1]; omega
  | ⟨1, _⟩ => show win0_0.index t 1 * 512 + 1 * i.val = 512 * t.val + i.val; rw [hi.2]; omega

/-- Every point reads the whole gradient that comes in. -/
theorem block_g (t : Fin cfg0.N) (k : Fin 2048) (j : Fin 2048) :
    (iblk m c 1 t : FVec Ideal S2048x2048 .bf16) (ix2 k j) = argG m c (ix2 k j) := by
  have hi := (places t).2.1
  unfold iblk
  rw [View.read_apply]
  show V m c main_arg1 _ = m ((c : Thread nD τ).loc main_arg1) _
  unfold V
  congr 1
  funext a
  apply Fin.ext
  match a with
  | ⟨0, _⟩ => show win0_1.index t 0 * 2048 + 1 * k.val = k.val; rw [hi.1]; omega
  | ⟨1, _⟩ => show win0_1.index t 1 * 2048 + 1 * j.val = j.val; rw [hi.2]; omega

/-- The weight's gradient after the run. -/
theorem final : (dats m 0 c).arrAt 2 cfg0.N = tn (argX m c) (argG m c) .bf16 := by
  refine (dats m 0 c).arrAt_eq_of_cover 2 (tn (argX m c) (argG m c) .bf16) (fun t _ => ?_) fun i => ?_
  · have hi := (places t).2.2
    show (cfg0.win 2).cut (grid0.coords t) ((dats m 0 c).after 2 t) = _
    rw [after0_2, out]
    funext j
    rw [View.read_apply]
    obtain ⟨i, k, rfl⟩ : ∃ (i : Fin 512) (k : Fin 2048), j = ix2 i k := ⟨j 0, j 1, eq_ix2 (n0 := 512) (n1 := 2048) j⟩
    have h : (tn (K := 2048) (M := 512) (N := 2048) (φ₁ := .bf16) (φ₂ := .bf16) (iblk m c 0 t) (iblk m c 1 t) .bf16) (ix2 i k)
        = tn (argX m c) (argG m c) .bf16 (ix2 (rowAt t i) k) :=
      Finset.sum_congr rfl fun q _ => by rw [block_x, block_g]
    refine Eq.trans h (congrArg (tn (argX m c) (argG m c) .bf16) (funext fun a => Fin.ext ?_))
    match a with
    | ⟨0, _⟩ => show 512 * t.val + i.val = win0_2.index t 0 * 512 + 1 * i.val; rw [hi.1]; omega
    | ⟨1, _⟩ => show k.val = win0_2.index t 1 * 2048 + 1 * k.val; rw [hi.2]; omega
  · have hN : cfg0.N = 16 := N_0
    have hb : (i 0).val < 8192 := (i 0).isLt
    have hb1 : (i 1).val < 2048 := (i 1).isLt
    obtain ⟨t, ht⟩ : ∃ t : Fin cfg0.N, t.val = (i 0).val / 512 := ⟨⟨(i 0).val / 512, by omega⟩, rfl⟩
    have hi := (places t).2.2
    refine ⟨t, flush0_2 t, ?_⟩
    show i ∈ ((View.whole main_v0).slice (win0_2.rect t)).set
    rw [View.set_slice_whole, Rect.mem_set_unit]
    intro a
    match a with
    | ⟨0, _⟩ => show win0_2.index t 0 * 512 ≤ (i 0).val ∧ (i 0).val < win0_2.index t 0 * 512 + 512; rw [hi.1]; omega
    | ⟨1, _⟩ => show win0_2.index t 1 * 2048 ≤ (i 1).val ∧ (i 1).val < win0_2.index t 1 * 2048 + 2048; rw [hi.2]; omega

end Cert.UpDwIdeal.Ker

namespace Cert.UpDwClaim

open Idealize.ShloMosaic Idealize.ShloMosaic.TcCoe Idealize.SL.Sem Idealize.ShloMosaic.ValueIdx Cert.Products
open Cert.UpDwRefIdeal Cert.UpDwRefIdeal.Read

/-- The reference's gradient is the same sum. -/
theorem reference (x : FVec Ideal S2048x8192 .bf16) (g : FVec Ideal S2048x2048 .bf16) : val_main_v8 (F := Ideal) x g = tn x g .bf16 := by
  funext y
  show val_main_v7 (F := Ideal) x g y = _
  rw [val_main_v7_apply, val_main_v6_apply, val_main_v5_apply]
  exact Finset.sum_congr rfl fun k _ => congrArg₂ (· * ·) (congrArg x (ix2_ext k (y 0) rfl rfl)) (congrArg g (ix2_ext k (y 1) rfl rfl))

/-- The kernel's frame. -/
theorem frame_p : Cert.quiescent_UpDw := fun m ρ _ => Cert.UpDw.Gen.frame m ρ
/-- The idealization's frame. -/
theorem frame_pi : Cert.quiescent_UpDwIdeal := fun m ρ _ => Cert.UpDwIdeal.Gen.frame m ρ
/-- The reference's frame. -/
theorem frame_ri : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

/-- The idealization's gradient is the reference's. -/
theorem algebraic : Cert.algebraic_UpDwIdeal_UpDwRefIdeal := by
  intro m ρ m' ρ' _ hagree
  refine ⟨fun c => tn (Cert.UpDwIdeal.Ker.argX m c) (Cert.UpDwIdeal.Ker.argG m c) .bf16, ?_, ?_⟩
  · refine (θ_run Cert.UpDwIdeal.defs _ _).mono (fun r h c => ?_) (Cert.UpDwIdeal.Value.run_blocks (F := Ideal) m ρ)
    exact ⟨(h c).1.trans (Cert.UpDwIdeal.Ker.final m c), (h c).2⟩
  · refine (θ_run Cert.UpDwRefIdeal.defs _ _).mono (fun r h c => ?_) (Cert.UpDwRefIdeal.Value.run (F := Ideal) m' ρ')
    obtain ⟨e0, e1⟩ := hagree c
    refine ⟨(h c).1.trans ((val_main_v8_eq ..).trans ?_), (h c).2⟩
    rw [e0, e1]
    exact reference _ _

end Cert.UpDwClaim

end
-- ==== Proof.AttDw.lean ====
/-
  The gradient of a square weight of the attention or of the mixer's output: from the rows that entered the product and
  the gradient that comes in, the sum over the rows of one column of the one times a column of the other. A point of the
  kernel's grid writes 512 of the 2048 rows of the gradient.
-/
module

public import proofs.«01_k».proof.Defs
public import proofs.«01_k».proof.Proof.Products
public import proofs.«01_k».proof.Proof.Gen.AttDw.Frame
public import proofs.«01_k».proof.Proof.Gen.AttDwIdeal.Value
public import proofs.«01_k».proof.Proof.Gen.AttDwRefIdeal.Run
public import proofs.«01_k».proof.Proof.Gen.AttDwRefIdeal.Read

@[expose] public section

set_option maxRecDepth 16384

noncomputable section

namespace Cert.AttDwIdeal.Ker

open Cert.AttDwIdeal Cert.AttDwIdeal.Gen Cert.Products
open Idealize.ShloMosaic Idealize.ShloMosaic.TcCoe Idealize.SL.Sem Idealize.ShloMosaic.ValueIdx
open Idealize.ShloMosaic.Pipeline (Dat)

/-- What a point leaves in its block. -/
theorem out (x : FVec Ideal S2048x512 .bf16) (g : FVec Ideal S2048x2048 .bf16) : out0_2 (F := Ideal) x g = tn x g .bf16 := by
  have hz : (![0, 0] : Fin 2 → ℕ) = fun _ => 0 := by decide
  unfold out0_2
  rw [View.canon_unit_zero hz, View.ld_unit_zero hz, View.ld_unit_zero hz]
  unfold k0_pay1
  exact pay_tn dot_S2048x512_S2048x2048_S512x2048_0_0_1_1_n_n_wf none x g bitsLt_bf16_f32

variable (m : (ℓ : Loc nD τ sig) → Buf (Elt Ideal) ℓ) (c : Dev nD)

/-- The rows that entered the product, as the kernel finds them. -/
abbrev argX : FVec Ideal S2048x2048 .bf16 := m ((c : Thread nD τ).loc main_arg0)
/-- The gradient that comes in. -/
abbrev argG : FVec Ideal S2048x2048 .bf16 := m ((c : Thread nD τ).loc main_arg1)

/-- Where the windows lie at each point. -/
theorem places : ∀ t : Fin grid0.N, (win0_0.index t 0 = 0 ∧ win0_0.index t 1 = t.val) ∧ (win0_1.index t 0 = 0 ∧ win0_1.index t 1 = 0)
    ∧ win0_2.index t 0 = t.val ∧ win0_2.index t 1 = 0 := by decide +kernel

/-- Row `i` of the block of 512 that point `t` writes, as a row of the whole. -/
def rowAt (t : Fin cfg0.N) (i : Fin 512) : Fin 2048 :=
  ⟨512 * t.val + i.val, by have := lt_of_lt_of_eq t.isLt N_0; omega⟩

/-- Point `t` reads columns `512 t …` of the rows that entered. -/
theorem block_x (t : Fin cfg0.N) (k : Fin 2048) (i : Fin 512) :
    (iblk m c 0 t : FVec Ideal S2048x512 .bf16) (ix2 k i) = argX m c (ix2 k (rowAt t i)) := by
  have hi := (places t).1
  unfold iblk
  rw [View.read_apply]
  show V m c main_arg0 _ = m ((c : Thread nD τ).loc main_arg0) _
  unfold V
  congr 1
  funext a
  apply Fin.ext
  match a with
  | ⟨0, _⟩ => show win0_0.index t 0 * 2048 + 1 * k.val = k.val; rw [hi.1]; omega
  | ⟨1, _⟩ => show win0_0.index t 1 * 512 + 1 * i.val = 512 * t.val + i.val; rw [hi.2]; omega

/-- Every point reads the whole gradient that comes in. -/
theorem block_g (t : Fin cfg0.N) (k : Fin 2048) (j : Fin 2048) :
    (iblk m c 1 t : FVec Ideal S2048x2048 .bf16) (ix2 k j) = argG m c (ix2 k j) := by
  have hi := (places t).2.1
  unfold iblk
  rw [View.read_apply]
  show V m c main_arg1 _ = m ((c : Thread nD τ).loc main_arg1) _
  unfold V
  congr 1
  funext a
  apply Fin.ext
  match a with
  | ⟨0, _⟩ => show win0_1.index t 0 * 2048 + 1 * k.val = k.val; rw [hi.1]; omega
  | ⟨1, _⟩ => show win0_1.index t 1 * 2048 + 1 * j.val = j.val; rw [hi.2]; omega

/-- The weight's gradient after the run. -/
theorem final : (dats m 0 c).arrAt 2 cfg0.N = tn (argX m c) (argG m c) .bf16 := by
  refine (dats m 0 c).arrAt_eq_of_cover 2 (tn (argX m c) (argG m c) .bf16) (fun t _ => ?_) fun i => ?_
  · have hi := (places t).2.2
    show (cfg0.win 2).cut (grid0.coords t) ((dats m 0 c).after 2 t) = _
    rw [after0_2, out]
    funext j
    rw [View.read_apply]
    obtain ⟨i, k, rfl⟩ : ∃ (i : Fin 512) (k : Fin 2048), j = ix2 i k := ⟨j 0, j 1, eq_ix2 (n0 := 512) (n1 := 2048) j⟩
    have h : (tn (K := 2048) (M := 512) (N := 2048) (φ₁ := .bf16) (φ₂ := .bf16) (iblk m c 0 t) (iblk m c 1 t) .bf16) (ix2 i k)
        = tn (argX m c) (argG m c) .bf16 (ix2 (rowAt t i) k) :=
      Finset.sum_congr rfl fun q _ => by rw [block_x, block_g]
    refine Eq.trans h (congrArg (tn (argX m c) (argG m c) .bf16) (funext fun a => Fin.ext ?_))
    match a with
    | ⟨0, _⟩ => show 512 * t.val + i.val = win0_2.index t 0 * 512 + 1 * i.val; rw [hi.1]; omega
    | ⟨1, _⟩ => show k.val = win0_2.index t 1 * 2048 + 1 * k.val; rw [hi.2]; omega
  · have hN : cfg0.N = 4 := N_0
    have hb : (i 0).val < 2048 := (i 0).isLt
    have hb1 : (i 1).val < 2048 := (i 1).isLt
    obtain ⟨t, ht⟩ : ∃ t : Fin cfg0.N, t.val = (i 0).val / 512 := ⟨⟨(i 0).val / 512, by omega⟩, rfl⟩
    have hi := (places t).2.2
    refine ⟨t, flush0_2 t, ?_⟩
    show i ∈ ((View.whole main_v0).slice (win0_2.rect t)).set
    rw [View.set_slice_whole, Rect.mem_set_unit]
    intro a
    match a with
    | ⟨0, _⟩ => show win0_2.index t 0 * 512 ≤ (i 0).val ∧ (i 0).val < win0_2.index t 0 * 512 + 512; rw [hi.1]; omega
    | ⟨1, _⟩ => show win0_2.index t 1 * 2048 ≤ (i 1).val ∧ (i 1).val < win0_2.index t 1 * 2048 + 2048; rw [hi.2]; omega

end Cert.AttDwIdeal.Ker

namespace Cert.AttDwClaim

open Idealize.ShloMosaic Idealize.ShloMosaic.TcCoe Idealize.SL.Sem Idealize.ShloMosaic.ValueIdx Cert.Products
open Cert.AttDwRefIdeal Cert.AttDwRefIdeal.Read

/-- The reference's gradient is the same sum. -/
theorem reference (x : FVec Ideal S2048x2048 .bf16) (g : FVec Ideal S2048x2048 .bf16) : val_main_v6 (F := Ideal) x g = tn x g .bf16 := by
  funext y
  show val_main_v5 (F := Ideal) x g y = _
  rw [val_main_v5_apply, val_main_v4_apply]
  exact Finset.sum_congr rfl fun k _ => (mul_comm _ _).trans
    (congrArg₂ (· * ·) (congrArg x (ix2_ext k (y 0) rfl rfl)) (congrArg g (ix2_ext k (y 1) rfl rfl)))

/-- The kernel's frame. -/
theorem frame_p : Cert.quiescent_AttDw := fun m ρ _ => Cert.AttDw.Gen.frame m ρ
/-- The idealization's frame. -/
theorem frame_pi : Cert.quiescent_AttDwIdeal := fun m ρ _ => Cert.AttDwIdeal.Gen.frame m ρ
/-- The reference's frame. -/
theorem frame_ri : Cert.quiescent_AttDwRefIdeal := fun m ρ _ =>
  (θ_run Cert.AttDwRefIdeal.defs _ _).mono (fun r h => ⟨fun c => (h c).2, sem_eq_zero_of_no_sems (by decide) r.2⟩)
    (Cert.AttDwRefIdeal.Value.run (F := Ideal) m ρ)

/-- The idealization's gradient is the reference's. -/
theorem algebraic : Cert.algebraic_AttDwIdeal_AttDwRefIdeal := by
  intro m ρ m' ρ' _ hagree
  refine ⟨fun c => tn (Cert.AttDwIdeal.Ker.argX m c) (Cert.AttDwIdeal.Ker.argG m c) .bf16, ?_, ?_⟩
  · refine (θ_run Cert.AttDwIdeal.defs _ _).mono (fun r h c => ?_) (Cert.AttDwIdeal.Value.run_blocks (F := Ideal) m ρ)
    exact ⟨(h c).1.trans (Cert.AttDwIdeal.Ker.final m c), (h c).2⟩
  · refine (θ_run Cert.AttDwRefIdeal.defs _ _).mono (fun r h c => ?_) (Cert.AttDwRefIdeal.Value.run (F := Ideal) m' ρ')
    obtain ⟨e0, e1⟩ := hagree c
    refine ⟨(h c).1.trans ((val_main_v6_eq ..).trans ?_), (h c).2⟩
    rw [e0, e1]
    exact reference _ _

end Cert.AttDwClaim

end
-- ==== Proof.MemDw.lean ====
/-
  The gradient of the keys' or values' weight: from the 256 memory rows that entered the product and the gradient that
  comes in, the sum over the rows of one column of the one times a column of the other. A point of the kernel's grid
  writes 512 of the 2048 rows of the gradient.
-/
module

public import proofs.«01_k».proof.Defs
public import proofs.«01_k».proof.Proof.Products
public import proofs.«01_k».proof.Proof.Gen.MemDw.Frame
public import proofs.«01_k».proof.Proof.Gen.MemDwIdeal.Value
public import proofs.«01_k».proof.Proof.Gen.MemDwRefIdeal.Run
public import proofs.«01_k».proof.Proof.Gen.MemDwRefIdeal.Read

@[expose] public section

set_option maxRecDepth 16384

noncomputable section

namespace Cert.MemDwIdeal.Ker

open Cert.MemDwIdeal Cert.MemDwIdeal.Gen Cert.Products
open Idealize.ShloMosaic Idealize.ShloMosaic.TcCoe Idealize.SL.Sem Idealize.ShloMosaic.ValueIdx
open Idealize.ShloMosaic.Pipeline (Dat)

/-- What a point leaves in its block. -/
theorem out (x : FVec Ideal S256x512 .bf16) (g : FVec Ideal S256x2048 .bf16) : out0_2 (F := Ideal) x g = tn x g .bf16 := by
  have hz : (![0, 0] : Fin 2 → ℕ) = fun _ => 0 := by decide
  unfold out0_2
  rw [View.canon_unit_zero hz, View.ld_unit_zero hz, View.ld_unit_zero hz]
  unfold k0_pay1
  exact pay_tn dot_S256x512_S256x2048_S512x2048_0_0_1_1_n_n_wf none x g bitsLt_bf16_f32

variable (m : (ℓ : Loc nD τ sig) → Buf (Elt Ideal) ℓ) (c : Dev nD)

/-- The memory rows that entered the product, as the kernel finds them. -/
abbrev argX : FVec Ideal S256x2048 .bf16 := m ((c : Thread nD τ).loc main_arg0)
/-- The gradient that comes in. -/
abbrev argG : FVec Ideal S256x2048 .bf16 := m ((c : Thread nD τ).loc main_arg1)

/-- Where the windows lie at each point. -/
theorem places : ∀ t : Fin grid0.N, (win0_0.index t 0 = 0 ∧ win0_0.index t 1 = t.val) ∧ (win0_1.index t 0 = 0 ∧ win0_1.index t 1 = 0)
    ∧ win0_2.index t 0 = t.val ∧ win0_2.index t 1 = 0 := by decide +kernel

/-- Row `i` of the block of 512 that point `t` writes, as a row of the whole. -/
def rowAt (t : Fin cfg0.N) (i : Fin 512) : Fin 2048 :=
  ⟨512 * t.val + i.val, by have := lt_of_lt_of_eq t.isLt N_0; omega⟩

/-- Point `t` reads columns `512 t …` of the rows that entered. -/
theorem block_x (t : Fin cfg0.N) (k : Fin 256) (i : Fin 512) :
    (iblk m c 0 t : FVec Ideal S256x512 .bf16) (ix2 k i) = argX m c (ix2 k (rowAt t i)) := by
  have hi := (places t).1
  unfold iblk
  rw [View.read_apply]
  show V m c main_arg0 _ = m ((c : Thread nD τ).loc main_arg0) _
  unfold V
  congr 1
  funext a
  apply Fin.ext
  match a with
  | ⟨0, _⟩ => show win0_0.index t 0 * 256 + 1 * k.val = k.val; rw [hi.1]; omega
  | ⟨1, _⟩ => show win0_0.index t 1 * 512 + 1 * i.val = 512 * t.val + i.val; rw [hi.2]; omega

/-- Every point reads the whole gradient that comes in. -/
theorem block_g (t : Fin cfg0.N) (k : Fin 256) (j : Fin 2048) :
    (iblk m c 1 t : FVec Ideal S256x2048 .bf16) (ix2 k j) = argG m c (ix2 k j) := by
  have hi := (places t).2.1
  unfold iblk
  rw [View.read_apply]
  show V m c main_arg1 _ = m ((c : Thread nD τ).loc main_arg1) _
  unfold V
  congr 1
  funext a
  apply Fin.ext
  match a with
  | ⟨0, _⟩ => show win0_1.index t 0 * 256 + 1 * k.val = k.val; rw [hi.1]; omega
  | ⟨1, _⟩ => show win0_1.index t 1 * 2048 + 1 * j.val = j.val; rw [hi.2]; omega

/-- The weight's gradient after the run. -/
theorem final : (dats m 0 c).arrAt 2 cfg0.N = tn (argX m c) (argG m c) .bf16 := by
  refine (dats m 0 c).arrAt_eq_of_cover 2 (tn (argX m c) (argG m c) .bf16) (fun t _ => ?_) fun i => ?_
  · have hi := (places t).2.2
    show (cfg0.win 2).cut (grid0.coords t) ((dats m 0 c).after 2 t) = _
    rw [after0_2, out]
    funext j
    rw [View.read_apply]
    obtain ⟨i, k, rfl⟩ : ∃ (i : Fin 512) (k : Fin 2048), j = ix2 i k := ⟨j 0, j 1, eq_ix2 (n0 := 512) (n1 := 2048) j⟩
    have h : (tn (K := 256) (M := 512) (N := 2048) (φ₁ := .bf16) (φ₂ := .bf16) (iblk m c 0 t) (iblk m c 1 t) .bf16) (ix2 i k)
        = tn (argX m c) (argG m c) .bf16 (ix2 (rowAt t i) k) :=
      Finset.sum_congr rfl fun q _ => by rw [block_x, block_g]
    refine Eq.trans h (congrArg (tn (argX m c) (argG m c) .bf16) (funext fun a => Fin.ext ?_))
    match a with
    | ⟨0, _⟩ => show 512 * t.val + i.val = win0_2.index t 0 * 512 + 1 * i.val; rw [hi.1]; omega
    | ⟨1, _⟩ => show k.val = win0_2.index t 1 * 2048 + 1 * k.val; rw [hi.2]; omega
  · have hN : cfg0.N = 4 := N_0
    have hb : (i 0).val < 2048 := (i 0).isLt
    have hb1 : (i 1).val < 2048 := (i 1).isLt
    obtain ⟨t, ht⟩ : ∃ t : Fin cfg0.N, t.val = (i 0).val / 512 := ⟨⟨(i 0).val / 512, by omega⟩, rfl⟩
    have hi := (places t).2.2
    refine ⟨t, flush0_2 t, ?_⟩
    show i ∈ ((View.whole main_v0).slice (win0_2.rect t)).set
    rw [View.set_slice_whole, Rect.mem_set_unit]
    intro a
    match a with
    | ⟨0, _⟩ => show win0_2.index t 0 * 512 ≤ (i 0).val ∧ (i 0).val < win0_2.index t 0 * 512 + 512; rw [hi.1]; omega
    | ⟨1, _⟩ => show win0_2.index t 1 * 2048 ≤ (i 1).val ∧ (i 1).val < win0_2.index t 1 * 2048 + 2048; rw [hi.2]; omega

end Cert.MemDwIdeal.Ker

namespace Cert.MemDwClaim

open Idealize.ShloMosaic Idealize.ShloMosaic.TcCoe Idealize.SL.Sem Idealize.ShloMosaic.ValueIdx Cert.Products
open Cert.MemDwRefIdeal Cert.MemDwRefIdeal.Read

/-- The reference's gradient is the same sum. -/
theorem reference (x : FVec Ideal S256x2048 .bf16) (g : FVec Ideal S256x2048 .bf16) : val_main_v6 (F := Ideal) x g = tn x g .bf16 := by
  funext y
  show val_main_v5 (F := Ideal) x g y = _
  rw [val_main_v5_apply, val_main_v4_apply]
  exact Finset.sum_congr rfl fun k _ => (mul_comm _ _).trans
    (congrArg₂ (· * ·) (congrArg x (ix2_ext k (y 0) rfl rfl)) (congrArg g (ix2_ext k (y 1) rfl rfl)))

/-- The kernel's frame. -/
theorem frame_p : Cert.quiescent_MemDw := fun m ρ _ => Cert.MemDw.Gen.frame m ρ
/-- The idealization's frame. -/
theorem frame_pi : Cert.quiescent_MemDwIdeal := fun m ρ _ => Cert.MemDwIdeal.Gen.frame m ρ
/-- The reference's frame. -/
theorem frame_ri : Cert.quiescent_MemDwRefIdeal := fun m ρ _ =>
  (θ_run Cert.MemDwRefIdeal.defs _ _).mono (fun r h => ⟨fun c => (h c).2, sem_eq_zero_of_no_sems (by decide) r.2⟩)
    (Cert.MemDwRefIdeal.Value.run (F := Ideal) m ρ)

/-- The idealization's gradient is the reference's. -/
theorem algebraic : Cert.algebraic_MemDwIdeal_MemDwRefIdeal := by
  intro m ρ m' ρ' _ hagree
  refine ⟨fun c => tn (Cert.MemDwIdeal.Ker.argX m c) (Cert.MemDwIdeal.Ker.argG m c) .bf16, ?_, ?_⟩
  · refine (θ_run Cert.MemDwIdeal.defs _ _).mono (fun r h c => ?_) (Cert.MemDwIdeal.Value.run_blocks (F := Ideal) m ρ)
    exact ⟨(h c).1.trans (Cert.MemDwIdeal.Ker.final m c), (h c).2⟩
  · refine (θ_run Cert.MemDwRefIdeal.defs _ _).mono (fun r h c => ?_) (Cert.MemDwRefIdeal.Value.run (F := Ideal) m' ρ')
    obtain ⟨e0, e1⟩ := hagree c
    refine ⟨(h c).1.trans ((val_main_v6_eq ..).trans ?_), (h c).2⟩
    rw [e0, e1]
    exact reference _ _

end Cert.MemDwClaim

end
-- ==== Proof.MixInDw.lean ====
/-
  The gradient of the mixer's first weight: from the gradient `dz` of the product and the normalised rows that entered
  it, the sum over the rows of one column of the one times a column of the other. A point of the kernel's grid writes 512
  of the 3584 rows of the gradient.
-/
module

public import proofs.«01_k».proof.Defs
public import proofs.«01_k».proof.Proof.Products
public import proofs.«01_k».proof.Proof.Gen.MixInDw.Frame
public import proofs.«01_k».proof.Proof.Gen.MixInDwIdeal.Value
public import proofs.«01_k».proof.Proof.Gen.MixInDwRefIdeal.Run
public import proofs.«01_k».proof.Proof.Gen.MixInDwRefIdeal.Read

@[expose] public section

set_option maxRecDepth 16384

noncomputable section

namespace Cert.MixInDwIdeal.Ker

open Cert.MixInDwIdeal Cert.MixInDwIdeal.Gen Cert.Products
open Idealize.ShloMosaic Idealize.ShloMosaic.TcCoe Idealize.SL.Sem Idealize.ShloMosaic.ValueIdx
open Idealize.ShloMosaic.Pipeline (Dat)

/-- What a point leaves in its block. -/
theorem out (x : FVec Ideal S2048x512 .bf16) (g : FVec Ideal S2048x2048 .bf16) : out0_2 (F := Ideal) x g = tn x g .bf16 := by
  have hz : (![0, 0] : Fin 2 → ℕ) = fun _ => 0 := by decide
  unfold out0_2
  rw [View.canon_unit_zero hz, View.ld_unit_zero hz, View.ld_unit_zero hz]
  unfold k0_pay1
  exact pay_tn dot_S2048x512_S2048x2048_S512x2048_0_0_1_1_n_n_wf none x g bitsLt_bf16_f32

variable (m : (ℓ : Loc nD τ sig) → Buf (Elt Ideal) ℓ) (c : Dev nD)

/-- The gradient of the product, as the kernel finds them. -/
abbrev argX : FVec Ideal S2048x3584 .bf16 := m ((c : Thread nD τ).loc main_arg0)
/-- The gradient that comes in. -/
abbrev argG : FVec Ideal S2048x2048 .bf16 := m ((c : Thread nD τ).loc main_arg1)

/-- Where the windows lie at each point. -/
theorem places : ∀ t : Fin grid0.N, (win0_0.index t 0 = 0 ∧ win0_0.index t 1 = t.val) ∧ (win0_1.index t 0 = 0 ∧ win0_1.index t 1 = 0)
    ∧ win0_2.index t 0 = t.val ∧ win0_2.index t 1 = 0 := by decide +kernel

/-- Row `i` of the block of 512 that point `t` writes, as a row of the whole. -/
def rowAt (t : Fin cfg0.N) (i : Fin 512) : Fin 3584 :=
  ⟨512 * t.val + i.val, by have := lt_of_lt_of_eq t.isLt N_0; omega⟩

/-- Point `t` reads columns `512 t …` of the product's gradient. -/
theorem block_x (t : Fin cfg0.N) (k : Fin 2048) (i : Fin 512) :
    (iblk m c 0 t : FVec Ideal S2048x512 .bf16) (ix2 k i) = argX m c (ix2 k (rowAt t i)) := by
  have hi := (places t).1
  unfold iblk
  rw [View.read_apply]
  show V m c main_arg0 _ = m ((c : Thread nD τ).loc main_arg0) _
  unfold V
  congr 1
  funext a
  apply Fin.ext
  match a with
  | ⟨0, _⟩ => show win0_0.index t 0 * 2048 + 1 * k.val = k.val; rw [hi.1]; omega
  | ⟨1, _⟩ => show win0_0.index t 1 * 512 + 1 * i.val = 512 * t.val + i.val; rw [hi.2]; omega

/-- Every point reads the whole gradient that comes in. -/
theorem block_g (t : Fin cfg0.N) (k : Fin 2048) (j : Fin 2048) :
    (iblk m c 1 t : FVec Ideal S2048x2048 .bf16) (ix2 k j) = argG m c (ix2 k j) := by
  have hi := (places t).2.1
  unfold iblk
  rw [View.read_apply]
  show V m c main_arg1 _ = m ((c : Thread nD τ).loc main_arg1) _
  unfold V
  congr 1
  funext a
  apply Fin.ext
  match a with
  | ⟨0, _⟩ => show win0_1.index t 0 * 2048 + 1 * k.val = k.val; rw [hi.1]; omega
  | ⟨1, _⟩ => show win0_1.index t 1 * 2048 + 1 * j.val = j.val; rw [hi.2]; omega

/-- The weight's gradient after the run. -/
theorem final : (dats m 0 c).arrAt 2 cfg0.N = tn (argX m c) (argG m c) .bf16 := by
  refine (dats m 0 c).arrAt_eq_of_cover 2 (tn (argX m c) (argG m c) .bf16) (fun t _ => ?_) fun i => ?_
  · have hi := (places t).2.2
    show (cfg0.win 2).cut (grid0.coords t) ((dats m 0 c).after 2 t) = _
    rw [after0_2, out]
    funext j
    rw [View.read_apply]
    obtain ⟨i, k, rfl⟩ : ∃ (i : Fin 512) (k : Fin 2048), j = ix2 i k := ⟨j 0, j 1, eq_ix2 (n0 := 512) (n1 := 2048) j⟩
    have h : (tn (K := 2048) (M := 512) (N := 2048) (φ₁ := .bf16) (φ₂ := .bf16) (iblk m c 0 t) (iblk m c 1 t) .bf16) (ix2 i k)
        = tn (argX m c) (argG m c) .bf16 (ix2 (rowAt t i) k) :=
      Finset.sum_congr rfl fun q _ => by rw [block_x, block_g]
    refine Eq.trans h (congrArg (tn (argX m c) (argG m c) .bf16) (funext fun a => Fin.ext ?_))
    match a with
    | ⟨0, _⟩ => show 512 * t.val + i.val = win0_2.index t 0 * 512 + 1 * i.val; rw [hi.1]; omega
    | ⟨1, _⟩ => show k.val = win0_2.index t 1 * 2048 + 1 * k.val; rw [hi.2]; omega
  · have hN : cfg0.N = 7 := N_0
    have hb : (i 0).val < 3584 := (i 0).isLt
    have hb1 : (i 1).val < 2048 := (i 1).isLt
    obtain ⟨t, ht⟩ : ∃ t : Fin cfg0.N, t.val = (i 0).val / 512 := ⟨⟨(i 0).val / 512, by omega⟩, rfl⟩
    have hi := (places t).2.2
    refine ⟨t, flush0_2 t, ?_⟩
    show i ∈ ((View.whole main_v0).slice (win0_2.rect t)).set
    rw [View.set_slice_whole, Rect.mem_set_unit]
    intro a
    match a with
    | ⟨0, _⟩ => show win0_2.index t 0 * 512 ≤ (i 0).val ∧ (i 0).val < win0_2.index t 0 * 512 + 512; rw [hi.1]; omega
    | ⟨1, _⟩ => show win0_2.index t 1 * 2048 ≤ (i 1).val ∧ (i 1).val < win0_2.index t 1 * 2048 + 2048; rw [hi.2]; omega

end Cert.MixInDwIdeal.Ker

namespace Cert.MixInDwClaim

open Idealize.ShloMosaic Idealize.ShloMosaic.TcCoe Idealize.SL.Sem Idealize.ShloMosaic.ValueIdx Cert.Products
open Cert.MixInDwRefIdeal Cert.MixInDwRefIdeal.Read

/-- The reference's gradient is the same sum. -/
theorem reference (x : FVec Ideal S2048x3584 .bf16) (g : FVec Ideal S2048x2048 .bf16) : val_main_v8 (F := Ideal) x g = tn x g .bf16 := by
  funext y
  show val_main_v7 (F := Ideal) x g y = _
  rw [val_main_v7_apply, val_main_v6_apply, val_main_v5_apply]
  exact Finset.sum_congr rfl fun k _ => congrArg₂ (· * ·) (congrArg x (ix2_ext k (y 0) rfl rfl)) (congrArg g (ix2_ext k (y 1) rfl rfl))

/-- The kernel's frame. -/
theorem frame_p : Cert.quiescent_MixInDw := fun m ρ _ => Cert.MixInDw.Gen.frame m ρ
/-- The idealization's frame. -/
theorem frame_pi : Cert.quiescent_MixInDwIdeal := fun m ρ _ => Cert.MixInDwIdeal.Gen.frame m ρ
/-- The reference's frame. -/
theorem frame_ri : Cert.quiescent_MixInDwRefIdeal := fun m ρ _ =>
  (θ_run Cert.MixInDwRefIdeal.defs _ _).mono (fun r h => ⟨fun c => (h c).2, sem_eq_zero_of_no_sems (by decide) r.2⟩)
    (Cert.MixInDwRefIdeal.Value.run (F := Ideal) m ρ)

/-- The idealization's gradient is the reference's. -/
theorem algebraic : Cert.algebraic_MixInDwIdeal_MixInDwRefIdeal := by
  intro m ρ m' ρ' _ hagree
  refine ⟨fun c => tn (Cert.MixInDwIdeal.Ker.argX m c) (Cert.MixInDwIdeal.Ker.argG m c) .bf16, ?_, ?_⟩
  · refine (θ_run Cert.MixInDwIdeal.defs _ _).mono (fun r h c => ?_) (Cert.MixInDwIdeal.Value.run_blocks (F := Ideal) m ρ)
    exact ⟨(h c).1.trans (Cert.MixInDwIdeal.Ker.final m c), (h c).2⟩
  · refine (θ_run Cert.MixInDwRefIdeal.defs _ _).mono (fun r h c => ?_) (Cert.MixInDwRefIdeal.Value.run (F := Ideal) m' ρ')
    obtain ⟨e0, e1⟩ := hagree c
    refine ⟨(h c).1.trans ((val_main_v8_eq ..).trans ?_), (h c).2⟩
    rw [e0, e1]
    exact reference _ _

end Cert.MixInDwClaim

end
-- ==== Proof.RmsBwd.lean ====
/-
  Root-mean-square normalisation backwards, on the ideal numbers. A row `x` of 2048 numbers is divided by the root of the mean
  of its squares and multiplied by a gain. With `r` the reciprocal root, `t` the gradient that comes in times the gain
  and `s` the mean of `t x r`, the row's gradient is `r (t - x r s)`: this module shows that the derivative taken step by step
  gives the same, and reads both forms off the vectors the programs compute.
-/
module

public import proofs.«01_k».proof.Proof.Products

@[expose] public section

set_option maxRecDepth 16384

noncomputable section

namespace Cert.Rms

open Cert.Products Idealize.ShloMosaic Idealize.ShloMosaic.ValueIdx

/-- The number of columns, as the programs write it. -/
def width : EReal := Ideal.ofBits .f32 0x45000000#32
/-- What is added to the mean of the squares. -/
def eps : EReal := Ideal.ofBits .f32 0x358637BD#32
/-- The mean of a row's squares, plus `eps`. -/
def meanSq (x : Fin 2048 → EReal) : EReal := Ideal.div (∑ k, x k * x k) width + eps
/-- The reciprocal of its root. -/
def rinv (x : Fin 2048 → EReal) : EReal := Ideal.rsqrt (meanSq x)
/-- The row's gradient, for the gradient `t` of the normalised row. -/
def back (x t : Fin 2048 → EReal) (j : Fin 2048) : EReal :=
  rinv x * (t j - x j * rinv x * Ideal.div (∑ k, t k * (x k * rinv x)) width)
/-- The derivative of the mean of the squares, as taken step by step. -/
def slope (x t : Fin 2048 → EReal) : EReal :=
  Ideal.div ((∑ k, x k * t k) * (Ideal.ofBits .f32 0xBF000000#32 * Ideal.div (rinv x) (meanSq x))) width

theorem width_eq : width = ((2048 : ℝ) : EReal) := by
  unfold width; simp [Ideal.ofBits, Ideal.ieee, -EReal.coe_mul]; norm_num

theorem eps_eq : ∃ e : ℝ, 0 < e ∧ eps = (e : EReal) := by
  refine ⟨8796093 * (2 : ℝ) ^ (-43 : ℤ), by positivity, ?_⟩
  unfold eps; simp [Ideal.ofBits, Ideal.ieee, -EReal.coe_mul]

theorem half_eq : Ideal.ofBits .f32 0xBF000000#32 = ((-(1 / 2) : ℝ) : EReal) := by
  simp [Ideal.ofBits, Ideal.ieee, -EReal.coe_mul]; norm_num

/-- Twice a number. -/
theorem twice (a : EReal) : a + a = a * ((2 : ℝ) : EReal) := by
  induction a with
  | bot => rw [EReal.bot_mul_coe_of_pos (by norm_num)]; rfl
  | top => rw [EReal.top_mul_coe_of_pos (by norm_num)]; rfl
  | coe a => rw [← EReal.coe_add, ← EReal.coe_mul]; congr 1; ring

/-- A nonnegative real factor may be taken out of a sum. -/
theorem factor {n : ℕ} (f : Fin n → EReal) (r : ℝ) (hr : 0 ≤ r) : ∑ k, f k * (r : EReal) = (∑ k, f k) * (r : EReal) := by
  classical
  induction (Finset.univ : Finset (Fin n)) using Finset.induction_on with
  | empty => simp
  | insert a s ha ih =>
    rw [Finset.sum_insert ha, Finset.sum_insert ha, ih, mul_comm, mul_comm (∑ k ∈ s, f k), mul_comm (f a + _),
      EReal.left_distrib_of_nonneg_of_ne_top (by exact_mod_cast hr) (EReal.coe_ne_top r)]

/-- The mean of the squares is infinite or a positive real. -/
theorem meanSq_cases (x : Fin 2048 → EReal) : meanSq x = ⊤ ∨ ∃ v : ℝ, 0 < v ∧ meanSq x = (v : EReal) := by
  obtain ⟨e, he, h⟩ := eps_eq
  unfold meanSq
  rw [width_eq, Ideal.div_coe (by norm_num), h]
  have h0 : 0 ≤ ∑ k, x k * x k := Finset.sum_nonneg fun k _ => by
    rcases le_total 0 (x k) with h | h
    · exact mul_nonneg h h
    · rw [← neg_mul_neg]
      exact mul_nonneg (by simpa using EReal.neg_le_neg_iff.2 h) (by simpa using EReal.neg_le_neg_iff.2 h)
  generalize ∑ k, x k * x k = s at h0
  induction s with
  | bot => exact absurd h0 (by simp)
  | top => left; rw [EReal.top_mul_coe_of_pos (by norm_num)]; exact EReal.top_add_coe e
  | coe s =>
    right
    have hs : 0 ≤ s := by exact_mod_cast h0
    exact ⟨s * (1 / 2048) + e, by positivity, by rw [EReal.coe_add, EReal.coe_mul]⟩

/-- The derivative taken step by step is the row's gradient. -/
theorem back_eq (x t : Fin 2048 → EReal) (j : Fin 2048) :
    t j * rinv x + x j * slope x t + slope x t * x j = back x t j := by
  unfold slope back
  rcases meanSq_cases x with h | ⟨v, hv, h⟩
  · have hr : rinv x = 0 := by unfold rinv; rw [h]; rfl
    have hd : Ideal.div 0 ⊤ = 0 := by unfold Ideal.div; rw [if_neg (by simp), zero_mul]
    rw [h, hr, hd, mul_zero, mul_zero, width_eq, Ideal.div_coe (by norm_num), zero_mul, mul_zero, zero_mul, zero_mul, mul_zero, add_zero, add_zero]
  · have hq : 0 < Real.sqrt v := Real.sqrt_pos.2 hv
    have hr : rinv x = (((Real.sqrt v)⁻¹ : ℝ) : EReal) := by
      unfold rinv; rw [h, Ideal.rsqrt_coe, if_neg (by linarith), if_neg (by linarith)]
    have hp : 0 ≤ (Real.sqrt v)⁻¹ := by positivity
    have hk : (Real.sqrt v)⁻¹ * (1 / v) = (Real.sqrt v)⁻¹ * (Real.sqrt v)⁻¹ * (Real.sqrt v)⁻¹ := by
      nth_rewrite 2 [← Real.mul_self_sqrt hv.le]
      field_simp
    rw [h, hr, half_eq, width_eq, Ideal.div_coe hv.ne', Ideal.div_coe (by norm_num), Ideal.div_coe (by norm_num),
      ← EReal.coe_mul, hk]
    generalize (Real.sqrt v)⁻¹ = r at hp
    rw [show (∑ k, t k * (x k * (r : EReal))) = (∑ k, x k * t k) * (r : EReal) by
      rw [← factor _ _ hp]; exact Finset.sum_congr rfl fun k _ => by rw [← mul_assoc, mul_comm (t k)]]
    generalize ∑ k, x k * t k = s
    rw [sub_eq_add_neg, EReal.left_distrib_of_nonneg_of_ne_top (by exact_mod_cast hp) (EReal.coe_ne_top r), mul_comm (t j),
      add_assoc, mul_comm (s * _ * _) (x j), twice, mul_neg]
    congr 1
    calc x j * (s * (((-(1 / 2) * (r * r * r) : ℝ) : EReal)) * ((1 / 2048 : ℝ) : EReal)) * ((2 : ℝ) : EReal)
        = x j * s * ((-(1 / 2) * (r * r * r) * (1 / 2048) * 2 : ℝ) : EReal) := by simp only [EReal.coe_mul, mul_assoc]
      _ = x j * s * ((-(r * r * r * (1 / 2048)) : ℝ) : EReal) := by congr 2; ring
      _ = -(x j * s * ((r * r * r * (1 / 2048) : ℝ) : EReal)) := by rw [EReal.coe_neg, mul_neg]
      _ = -((r : EReal) * (x j * (r : EReal) * (s * (r : EReal) * ((1 / 2048 : ℝ) : EReal)))) := by
        simp only [EReal.coe_mul]; congr 1; ac_rfl

/-! ## What the kernels compute on a block of rows -/

section Kernel
variable {M : ℕ}

/-- A row of a rectangle. -/
def row (x : FVec Ideal ⟨2, ![M, 2048]⟩ .f32) (i : Fin M) : Fin 2048 → EReal := fun k => x (ix2 i k)

/-- A column spread over a rectangle. -/
theorem column {φ : FTy} {N : ℕ} (x : FVec Ideal ⟨2, ![M, 1]⟩ φ) (h : Shape.Broadcasts ⟨2, ![M, 1]⟩ ⟨2, ![M, N]⟩) (i : Fin M) (j : Fin N) :
    broadcastTo ⟨2, ![M, N]⟩ x h (ix2 i j) = x (ix2 i 0) :=
  broadcastTo_apply _ h (ix2 i j) (ix2 i 0) fun a => by
    match a with
    | ⟨0, _⟩ =>
      show i.val = if M = 1 then 0 else i.val
      have := i.isLt
      split <;> omega
    | ⟨1, _⟩ => rfl

/-- A gain spread over the rows. -/
theorem gainRow {φ : FTy} (g : FVec Ideal ⟨2, ![1, 2048]⟩ φ) (h : Shape.Broadcasts ⟨2, ![1, 2048]⟩ ⟨2, ![M, 2048]⟩) (i : Fin M)
    (j : Fin 2048) : broadcastTo ⟨2, ![M, 2048]⟩ g h (ix2 i j) = g (ix2 0 j) :=
  broadcastTo_apply _ h (ix2 i j) (ix2 0 j) fun a => by
    match a with
    | ⟨0, _⟩ => rfl
    | ⟨1, _⟩ => rfl

/-- Row values stood up as a column. -/
theorem stand {φ : FTy} (x : FVec Ideal ⟨1, ![M]⟩ φ) (h : Shape.ShapeCasts ⟨1, ![M]⟩ ⟨2, ![M, 1]⟩) (i : Fin M) (k : Fin 1) :
    shapeCast ⟨2, ![M, 1]⟩ x h (ix2 i k) = x (ix1 i) :=
  shapeCast_apply x h (ix2 i k) (ix1 i) (by
    rw [Shape.rowMajor_val_one, Shape.rowMajor_val_two]
    show i.val = i.val * 1 + k.val
    omega)

/-- A sum over the rows, at a column. -/
theorem colSum {N : ℕ} {φ : FTy} (x : FVec Ideal ⟨2, ![M, N]⟩ φ) (acc : BitVec φ.bits) (h : Shape.Reduces ⟨2, ![M, N]⟩ [0] ⟨1, ![N]⟩)
    (hφ : FKind.Formats φ) (hacc : acc = FKind.add.neutral φ hφ) (j : Fin N) :
    multiReduction .add [0] ⟨1, ![N]⟩ x acc h hφ hacc (ix1 j) = ∑ i : Fin M, x (ix2 i j) := by
  rw [Ideal.multiReduction_add_single]
  refine Finset.sum_congr rfl fun c _ => congrArg x (funext fun a => Fin.ext ?_)
  match a with
  | ⟨0, _⟩ => rfl
  | ⟨1, _⟩ => rfl

/-- The reciprocal root of each row, as the kernels compute it. -/
theorem rinv_kernel (x : FVec Ideal ⟨2, ![M, 2048]⟩ .f32) (h : Shape.Reduces ⟨2, ![M, 2048]⟩ [1] ⟨1, ![M]⟩) (hφ : FKind.Formats .f32)
    (hacc : 0x00000000#32 = FKind.add.neutral .f32 hφ) (hc : Shape.ShapeCasts ⟨1, ![M]⟩ ⟨2, ![M, 1]⟩) (i : Fin M) :
    rsqrt (addf (divf (shapeCast ⟨2, ![M, 1]⟩ (multiReduction .add [1] ⟨1, ![M]⟩ (mulf x x) 0x00000000#32 h hφ hacc) hc)
      (broadcast ⟨2, ![M, 1]⟩ (Scalar.ofBits (F := Ideal) .f32 0x45000000#32))) (broadcast ⟨2, ![M, 1]⟩ (Scalar.ofBits (F := Ideal) .f32 0x358637BD#32)))
      (ix2 i 0) = rinv (row x i) := by
  show Ideal.rsqrt (Ideal.div (shapeCast ⟨2, ![M, 1]⟩ _ hc (ix2 i 0)) width + eps) = _
  rw [stand, rowSum]
  rfl

/-- Each row's gradient, as the kernels compute it from the reciprocal roots. -/
theorem back_kernel (x t : FVec Ideal ⟨2, ![M, 2048]⟩ .f32) (r : FVec Ideal ⟨2, ![M, 1]⟩ .f32) (hr : ∀ i, r (ix2 i 0) = rinv (row x i))
    (hb : Shape.Broadcasts ⟨2, ![M, 1]⟩ ⟨2, ![M, 2048]⟩) (h : Shape.Reduces ⟨2, ![M, 2048]⟩ [1] ⟨1, ![M]⟩) (hφ : FKind.Formats .f32)
    (hacc : 0x00000000#32 = FKind.add.neutral .f32 hφ) (hc : Shape.ShapeCasts ⟨1, ![M]⟩ ⟨2, ![M, 1]⟩) (i : Fin M) (j : Fin 2048) :
    mulf (broadcastTo ⟨2, ![M, 2048]⟩ r hb) (subf t (mulf (mulf x (broadcastTo ⟨2, ![M, 2048]⟩ r hb)) (broadcastTo ⟨2, ![M, 2048]⟩
      (divf (shapeCast ⟨2, ![M, 1]⟩ (multiReduction .add [1] ⟨1, ![M]⟩ (mulf t (mulf x (broadcastTo ⟨2, ![M, 2048]⟩ r hb))) 0x00000000#32 h hφ hacc) hc)
        (broadcast ⟨2, ![M, 1]⟩ (Scalar.ofBits (F := Ideal) .f32 0x45000000#32))) hb))) (ix2 i j) = back (row x i) (row t i) j := by
  show broadcastTo ⟨2, ![M, 2048]⟩ r hb (ix2 i j) * (t (ix2 i j) - x (ix2 i j) * broadcastTo ⟨2, ![M, 2048]⟩ r hb (ix2 i j)
    * broadcastTo ⟨2, ![M, 2048]⟩ _ hb (ix2 i j)) = _
  rw [column r, hr, column]
  show _ * (_ - _ * Ideal.div (shapeCast ⟨2, ![M, 1]⟩ _ hc (ix2 i 0)) width) = _
  rw [stand, rowSum]
  refine congrArg (fun z => rinv (row x i) * (t (ix2 i j) - x (ix2 i j) * rinv (row x i) * Ideal.div z width)) (Finset.sum_congr rfl fun k _ => ?_)
  show t (ix2 i k) * (x (ix2 i k) * broadcastTo ⟨2, ![M, 2048]⟩ r hb (ix2 i k)) = _
  rw [column, hr]
  rfl

/-- The gradient that comes in, times the gain. -/
def scaled (dy : FVec Ideal ⟨2, ![M, 2048]⟩ .f32) (g : FVec Ideal ⟨2, ![1, 2048]⟩ .f32) : FVec Ideal ⟨2, ![M, 2048]⟩ .f32 :=
  fun y => dy y * g (ix2 0 (y 1))

/-- One row's part of the gain's gradient at a column. -/
def gainTerm (x dy : FVec Ideal ⟨2, ![M, 2048]⟩ .f32) (j : Fin 2048) (i : Fin M) : EReal :=
  dy (ix2 i j) * (x (ix2 i j) * rinv (row x i))

/-- The gradient of the gain: over all rows, the gradient that comes in times the normalised row. -/
def gain (x dy : FVec Ideal ⟨2, ![M, 2048]⟩ .f32) : FVec Ideal ⟨2, ![1, 2048]⟩ .f32 := fun y => ∑ i : Fin M, gainTerm x dy (y 1) i

/-- The kernels' product with the gain spread over the rows. -/
theorem scaled_kernel (dy : FVec Ideal ⟨2, ![M, 2048]⟩ .f32) (g : FVec Ideal ⟨2, ![1, 2048]⟩ .f32) (h : Shape.Broadcasts ⟨2, ![1, 2048]⟩ ⟨2, ![M, 2048]⟩) :
    mulf dy (broadcastTo ⟨2, ![M, 2048]⟩ g h) = scaled dy g := by
  funext y
  obtain ⟨i, k, rfl⟩ : ∃ (i : Fin M) (k : Fin 2048), y = ix2 i k := ⟨y 0, y 1, eq_ix2 (n0 := M) (n1 := 2048) y⟩
  exact congrArg (dy (ix2 i k) * ·) (gainRow g h i k)

/-- The gain's gradient over a block of rows, as the kernels compute it from the reciprocal roots. -/
theorem gain_kernel (x dy : FVec Ideal ⟨2, ![M, 2048]⟩ .f32) (r : FVec Ideal ⟨2, ![M, 1]⟩ .f32) (hr : ∀ i, r (ix2 i 0) = rinv (row x i))
    (hb : Shape.Broadcasts ⟨2, ![M, 1]⟩ ⟨2, ![M, 2048]⟩) (h : Shape.Reduces ⟨2, ![M, 2048]⟩ [0] ⟨1, ![2048]⟩) (hφ : FKind.Formats .f32)
    (hacc : 0x00000000#32 = FKind.add.neutral .f32 hφ) (hc : Shape.ShapeCasts ⟨1, ![2048]⟩ ⟨2, ![1, 2048]⟩)
    (hc3 : Shape.ShapeCasts ⟨2, ![1, 2048]⟩ ⟨3, ![1, 1, 2048]⟩) (j : Fin 2048) :
    shapeCast ⟨3, ![1, 1, 2048]⟩ (shapeCast ⟨2, ![1, 2048]⟩ (multiReduction .add [0] ⟨1, ![2048]⟩
      (mulf dy (mulf x (broadcastTo ⟨2, ![M, 2048]⟩ r hb))) 0x00000000#32 h hφ hacc) hc) hc3 (ix3 0 0 j) = ∑ i : Fin M, gainTerm x dy j i := by
  refine (shapeCast_apply _ hc3 (ix3 0 0 j) (ix2 0 j) ?_).trans ?_
  · rw [Shape.rowMajor_val_two, Shape.rowMajor_val_three]; rfl
  refine (shapeCast_apply _ hc (ix2 0 j) (ix1 j) ?_).trans ?_
  · rw [Shape.rowMajor_val_one, Shape.rowMajor_val_two]; show j.val = 0 * 2048 + j.val; omega
  refine (colSum _ _ _ _ _ j).trans (Finset.sum_congr rfl fun i _ => ?_)
  exact congrArg (dy (ix2 i j) * ·) (congrArg (x (ix2 i j) * ·) ((column r hb i j).trans (hr i)))

end Kernel

/-! ## What the references compute -/

section Host
variable {M : ℕ}

/-- A column spread over a rectangle on the host. -/
theorem hostColumn {φ : FTy} (x : FVec Ideal ⟨2, ![M, 1]⟩ φ) (h : Shape.BroadcastsInDim ⟨2, ![M, 1]⟩ ⟨2, ![M, 2048]⟩ ![0, 1]) (i : Fin M) (j : Fin 2048) :
    broadcastInDim ⟨2, ![M, 2048]⟩ ![0, 1] h x (ix2 i j) = x (ix2 i 0) :=
  broadcastInDim_apply _ h x (ix2 i j) (ix2 i 0) fun a => by
    match a with
    | ⟨0, _⟩ =>
      show i.val = if M = 1 then 0 else i.val
      have := i.isLt
      split <;> omega
    | ⟨1, _⟩ => rfl

/-- A gain spread over the rows on the host. -/
theorem hostGain {φ : FTy} (g : FVec Ideal ⟨2, ![1, 2048]⟩ φ) (h : Shape.BroadcastsInDim ⟨2, ![1, 2048]⟩ ⟨2, ![M, 2048]⟩ ![0, 1]) (i : Fin M)
    (j : Fin 2048) : broadcastInDim ⟨2, ![M, 2048]⟩ ![0, 1] h g (ix2 i j) = g (ix2 0 j) :=
  broadcastInDim_apply _ h g (ix2 i j) (ix2 0 j) fun a => by
    match a with
    | ⟨0, _⟩ => rfl
    | ⟨1, _⟩ => rfl

/-- Row values spread over `N` columns on the host. -/
theorem hostRows {φ : FTy} {N : ℕ} (x : FVec Ideal ⟨1, ![M]⟩ φ) (h : Shape.BroadcastsInDim ⟨1, ![M]⟩ ⟨2, ![M, N]⟩ ![0]) (i : Fin M) (j : Fin N) :
    broadcastInDim ⟨2, ![M, N]⟩ ![0] h x (ix2 i j) = x (ix1 i) :=
  broadcastInDim_apply _ h x (ix2 i j) (ix1 i) fun a => by
    match a with
    | ⟨0, _⟩ =>
      show i.val = if M = 1 then 0 else i.val
      have := i.isLt
      split <;> omega

/-- A sum over the columns on the host, from zero. -/
theorem hostRowSum {N : ℕ} (x : FVec Ideal ⟨2, ![M, N]⟩ .f32) (h : Shape.ReducesTo ⟨2, ![M, N]⟩ [1] ⟨1, ![M]⟩) (h' : Shape.Reduces ⟨2, ![M, N]⟩ [1] ⟨1, ![M]⟩)
    (hu : 0 < (⟨0, ![]⟩ : Shape).numel) (i : Fin M) :
    Host.reduceAdd x (constant (F := Ideal) ⟨0, ![]⟩ .f32 0x00000000#32) h hu (ix1 i) = ∑ k : Fin N, x (ix2 i k) := by
  show Ideal.hostReduceAdd h x (Ideal.ofBits .f32 0x00000000#32) (ix1 i) = _
  rw [Ideal.hostReduceAdd_single h h', Ideal.ofBits_zero_f32, zero_add]
  refine Finset.sum_congr rfl fun c _ => congrArg x (funext fun a => Fin.ext ?_)
  match a with
  | ⟨0, _⟩ => rfl
  | ⟨1, _⟩ => rfl

/-- A sum over the rows on the host, from zero. -/
theorem hostColSum {N : ℕ} (x : FVec Ideal ⟨2, ![M, N]⟩ .f32) (h : Shape.ReducesTo ⟨2, ![M, N]⟩ [0] ⟨1, ![N]⟩) (h' : Shape.Reduces ⟨2, ![M, N]⟩ [0] ⟨1, ![N]⟩)
    (hu : 0 < (⟨0, ![]⟩ : Shape).numel) (j : Fin N) :
    Host.reduceAdd x (constant (F := Ideal) ⟨0, ![]⟩ .f32 0x00000000#32) h hu (ix1 j) = ∑ i : Fin M, x (ix2 i j) := by
  show Ideal.hostReduceAdd h x (Ideal.ofBits .f32 0x00000000#32) (ix1 j) = _
  rw [Ideal.hostReduceAdd_single h h', Ideal.ofBits_zero_f32, zero_add]
  refine Finset.sum_congr rfl fun c _ => congrArg x (funext fun a => Fin.ext ?_)
  match a with
  | ⟨0, _⟩ => rfl
  | ⟨1, _⟩ => rfl

/-- The mean of each row's squares on the host. -/
theorem meanSq_host (x : FVec Ideal ⟨2, ![M, 2048]⟩ .f32) (h : Shape.ReducesTo ⟨2, ![M, 2048]⟩ [1] ⟨1, ![M]⟩) (h' : Shape.Reduces ⟨2, ![M, 2048]⟩ [1] ⟨1, ![M]⟩)
    (hu : 0 < (⟨0, ![]⟩ : Shape).numel) (hb : Shape.BroadcastsInDim ⟨1, ![M]⟩ ⟨2, ![M, 1]⟩ ![0]) (hc : Shape.BroadcastsInDim ⟨0, ![]⟩ ⟨2, ![M, 1]⟩ ![]) (i : Fin M) :
    addf (Host.divf (broadcastInDim ⟨2, ![M, 1]⟩ ![0] hb (Host.reduceAdd (mulf x x) (constant (F := Ideal) ⟨0, ![]⟩ .f32 0x00000000#32) h hu))
      (broadcastInDim ⟨2, ![M, 1]⟩ ![] hc (constant (F := Ideal) ⟨0, ![]⟩ .f32 0x45000000#32)))
      (broadcastInDim ⟨2, ![M, 1]⟩ ![] hc (constant (F := Ideal) ⟨0, ![]⟩ .f32 0x358637BD#32)) (ix2 i 0) = meanSq (row x i) := by
  exact congrArg (fun z => Ideal.div z width + eps) ((hostRows _ hb i 0).trans (hostRowSum _ h h' hu i))

/-- The reciprocal roots spread over the columns on the host. -/
theorem rinv_host (x : FVec Ideal ⟨2, ![M, 2048]⟩ .f32) (v : FVec Ideal ⟨2, ![M, 1]⟩ .f32) (hv : ∀ i, v (ix2 i 0) = meanSq (row x i))
    (hb : Shape.BroadcastsInDim ⟨2, ![M, 1]⟩ ⟨2, ![M, 2048]⟩ ![0, 1]) (i : Fin M) (j : Fin 2048) :
    broadcastInDim ⟨2, ![M, 2048]⟩ ![0, 1] hb (Host.rsqrt v) (ix2 i j) = rinv (row x i) :=
  (hostColumn _ hb i j).trans (congrArg Ideal.rsqrt (hv i))

/-- The derivative of the mean of the squares spread over the columns on the host. -/
theorem slope_host (x t : FVec Ideal ⟨2, ![M, 2048]⟩ .f32) (v : FVec Ideal ⟨2, ![M, 1]⟩ .f32) (hv : ∀ i, v (ix2 i 0) = meanSq (row x i))
    (hb1 : Shape.BroadcastsInDim ⟨1, ![M]⟩ ⟨2, ![M, 2048]⟩ ![0])
    (h : Shape.ReducesTo ⟨2, ![M, 2048]⟩ [1] ⟨1, ![M]⟩) (h' : Shape.Reduces ⟨2, ![M, 2048]⟩ [1] ⟨1, ![M]⟩)
    (h1 : Shape.ReducesTo ⟨2, ![M, 1]⟩ [1] ⟨1, ![M]⟩) (h1' : Shape.Reduces ⟨2, ![M, 1]⟩ [1] ⟨1, ![M]⟩) (hu : 0 < (⟨0, ![]⟩ : Shape).numel)
    (hs : Shape.ShapeCasts ⟨1, ![M]⟩ ⟨2, ![M, 1]⟩) (hc : Shape.BroadcastsInDim ⟨0, ![]⟩ ⟨2, ![M, 1]⟩ ![]) (i : Fin M) (j : Fin 2048) :
    broadcastInDim ⟨2, ![M, 2048]⟩ ![0] hb1 (Host.reduceAdd (Host.divf (mulf
      (shapeCast ⟨2, ![M, 1]⟩ (Host.reduceAdd (mulf x t) (constant (F := Ideal) ⟨0, ![]⟩ .f32 0x00000000#32) h hu) hs)
      (mulf (broadcastInDim ⟨2, ![M, 1]⟩ ![] hc (constant (F := Ideal) ⟨0, ![]⟩ .f32 0xBF000000#32)) (Host.divf (Host.rsqrt v) v)))
      (broadcastInDim ⟨2, ![M, 1]⟩ ![] hc (constant (F := Ideal) ⟨0, ![]⟩ .f32 0x45000000#32)))
      (constant (F := Ideal) ⟨0, ![]⟩ .f32 0x00000000#32) h1 hu) (ix2 i j) = slope (row x i) (row t i) := by
  rw [hostRows, hostRowSum _ h1 h1', Fin.sum_univ_one]
  show Ideal.div (shapeCast ⟨2, ![M, 1]⟩ _ hs (ix2 i 0) * (Ideal.ofBits .f32 0xBF000000#32 * Ideal.div (Ideal.rsqrt (v (ix2 i 0))) (v (ix2 i 0)))) width = _
  rw [hv, stand, hostRowSum _ h h']
  rfl

/-- Each row's gradient on the host. -/
theorem back_host (x t r c : FVec Ideal ⟨2, ![M, 2048]⟩ .f32) (hr : ∀ i j, r (ix2 i j) = rinv (row x i))
    (hc : ∀ i j, c (ix2 i j) = slope (row x i) (row t i)) (i : Fin M) (j : Fin 2048) :
    addf (addf (mulf t r) (mulf x c)) (mulf c x) (ix2 i j) = back (row x i) (row t i) j := by
  refine Eq.trans ?_ (back_eq (row x i) (row t i) j)
  rw [← hr i j, ← hc i j]
  rfl

/-- Each row's gradient on the host, added to another gradient of the row. -/
theorem back_host_res (d x t r c : FVec Ideal ⟨2, ![M, 2048]⟩ .f32) (hr : ∀ i j, r (ix2 i j) = rinv (row x i))
    (hc : ∀ i j, c (ix2 i j) = slope (row x i) (row t i)) (i : Fin M) (j : Fin 2048) :
    addf (addf (addf d (mulf t r)) (mulf x c)) (mulf c x) (ix2 i j) = d (ix2 i j) + back (row x i) (row t i) j := by
  rw [← back_host x t r c hr hc i j]
  show d (ix2 i j) + _ + _ + _ = d (ix2 i j) + (_ + _ + _)
  rw [← add_assoc, ← add_assoc]

/-- The references' product with the gain spread over the rows. -/
theorem scaled_host (dy : FVec Ideal ⟨2, ![M, 2048]⟩ .f32) (g : FVec Ideal ⟨2, ![1, 2048]⟩ .f32)
    (h : Shape.BroadcastsInDim ⟨2, ![1, 2048]⟩ ⟨2, ![M, 2048]⟩ ![0, 1]) : mulf dy (broadcastInDim ⟨2, ![M, 2048]⟩ ![0, 1] h g) = scaled dy g := by
  funext y
  obtain ⟨i, k, rfl⟩ : ∃ (i : Fin M) (k : Fin 2048), y = ix2 i k := ⟨y 0, y 1, eq_ix2 (n0 := M) (n1 := 2048) y⟩
  exact congrArg (dy (ix2 i k) * ·) (hostGain g h i k)

/-- The gain's gradient on the host. -/
theorem gain_host (x dy r : FVec Ideal ⟨2, ![M, 2048]⟩ .f32) (hr : ∀ i j, r (ix2 i j) = rinv (row x i))
    (h : Shape.ReducesTo ⟨2, ![M, 2048]⟩ [0] ⟨1, ![2048]⟩) (h' : Shape.Reduces ⟨2, ![M, 2048]⟩ [0] ⟨1, ![2048]⟩)
    (hu : 0 < (⟨0, ![]⟩ : Shape).numel) (hs : Shape.ShapeCasts ⟨1, ![2048]⟩ ⟨2, ![1, 2048]⟩) :
    shapeCast ⟨2, ![1, 2048]⟩ (Host.reduceAdd (mulf (mulf x r) dy) (constant (F := Ideal) ⟨0, ![]⟩ .f32 0x00000000#32) h hu) hs = gain x dy := by
  funext y
  obtain ⟨a, j, rfl⟩ : ∃ (a : Fin 1) (j : Fin 2048), y = ix2 a j := ⟨y 0, y 1, eq_ix2 (n0 := 1) (n1 := 2048) y⟩
  refine (shapeCast_apply _ hs (ix2 a j) (ix1 j) ?_).trans ?_
  · rw [Shape.rowMajor_val_one, Shape.rowMajor_val_two]; show j.val = a.val * 2048 + j.val; omega
  refine (hostColSum _ h h' hu j).trans (Finset.sum_congr rfl fun i _ => ?_)
  exact (mul_comm _ _).trans (congrArg (dy (ix2 i j) * ·) (congrArg (x (ix2 i j) * ·) (hr i j)))

end Host

/-! ## The whole arrays -/

section Whole
variable {M : ℕ}

/-- The gradient of the rows. -/
def dx (x t : FVec Ideal ⟨2, ![M, 2048]⟩ .f32) (φ : FTy) : FVec Ideal ⟨2, ![M, 2048]⟩ φ :=
  fun y => back (row x (y 0)) (row t (y 0)) (y 1)

/-- The gradient of the rows with another gradient `d` of the rows added. -/
def dxRes (d x t : FVec Ideal ⟨2, ![M, 2048]⟩ .f32) : FVec Ideal ⟨2, ![M, 2048]⟩ .f32 :=
  fun y => d y + back (row x (y 0)) (row t (y 0)) (y 1)

/-- Row `i` of the `t`-th block of `b` rows. -/
def tileRow {n b M : ℕ} (h : n * b = M) (t : Fin n) (i : Fin b) : Fin M :=
  ⟨b * t.val + i.val, by
    subst h
    have := t.isLt
    have := i.isLt
    calc b * t.val + i.val < b * t.val + b := by omega
      _ = b * (t.val + 1) := by ring
      _ ≤ b * n := Nat.mul_le_mul_left b (by omega)
      _ = n * b := mul_comm b n⟩

/-- A sum over the blocks of the sums over their rows is the sum over all rows. -/
theorem sum_tiles {n b M : ℕ} (h : n * b = M) (f : Fin M → EReal) : ∑ t : Fin n, ∑ i : Fin b, f (tileRow h t i) = ∑ k : Fin M, f k := by
  subst h
  rw [← Fintype.sum_prod_type' (f := fun t i => f (tileRow rfl t i))]
  refine Fintype.sum_equiv finProdFinEquiv _ _ fun p => congrArg f (Fin.ext ?_)
  show b * p.1.val + p.2.val = p.2.val + b * p.1.val
  omega

/-- The gain's gradient by blocks of rows, as the kernels leave it. -/
def gainTiles {n b M : ℕ} (h : n * b = M) (x dy : FVec Ideal ⟨2, ![M, 2048]⟩ .f32) : FVec Ideal ⟨3, ![n, 1, 2048]⟩ .f32 :=
  fun y => ∑ i : Fin b, gainTerm x dy (y 2) (tileRow h (y 0) i)

/-- Added up on the host the blocks give the gain's gradient. -/
theorem gain_tiles {n b M : ℕ} (h : n * b = M) (x dy : FVec Ideal ⟨2, ![M, 2048]⟩ .f32) (hr : Shape.ReducesTo ⟨3, ![n, 1, 2048]⟩ [0] ⟨2, ![1, 2048]⟩)
    (hr' : Shape.Reduces ⟨3, ![n, 1, 2048]⟩ [0] ⟨2, ![1, 2048]⟩) (hu : 0 < (⟨0, ![]⟩ : Shape).numel) :
    Host.reduceAdd (gainTiles h x dy) (constant (F := Ideal) ⟨0, ![]⟩ .f32 0x00000000#32) hr hu = gain x dy := by
  funext y
  obtain ⟨a, j, rfl⟩ : ∃ (a : Fin 1) (j : Fin 2048), y = ix2 a j := ⟨y 0, y 1, eq_ix2 (n0 := 1) (n1 := 2048) y⟩
  show Ideal.hostReduceAdd hr _ (Ideal.ofBits .f32 0x00000000#32) (ix2 a j) = _
  rw [Ideal.hostReduceAdd_single hr hr', Ideal.ofBits_zero_f32, zero_add]
  exact sum_tiles h (gainTerm x dy j)

end Whole

end Cert.Rms

end
-- ==== Proof.AttOBwd.lean ====
/-
  The attention's output product backwards, with the normalisation of its result. From the attention's result `o` and the
  weight `w` the host forms `h1 = o w` again; with the gradient `dx2` of the residual stream the kernel forms the gradient
  of `h1` through the normalisation, its product with `w` transposed, which is the gradient of `o`, and for each block of 512
  rows the block's part of the gain's gradient, which the host adds up.
-/
module

public import proofs.«01_k».proof.Defs
public import proofs.«01_k».proof.Proof.RmsBwd
public import proofs.«01_k».proof.Proof.Gen.AttOBwd.Frame
public import proofs.«01_k».proof.Proof.Gen.AttOBwdIdeal.Frame
public import proofs.«01_k».proof.Proof.Gen.AttOBwdRefIdeal.Run
public import proofs.«01_k».proof.Proof.Gen.AttOBwdRefIdeal.Read

@[expose] public section

set_option maxRecDepth 16384

noncomputable section

namespace Cert.AttOBwdIdeal.Ker

open Cert.AttOBwdIdeal Cert.AttOBwdIdeal.Gen Cert.Products
open Idealize.ShloMosaic Idealize.ShloMosaic.TcCoe Idealize.SL.Sem Idealize.ShloMosaic.ValueIdx
open Idealize.ShloMosaic.Pipeline (Dat)

/-! ## What one point computes -/

theorem pay1 (x : FVec Ideal S512x2048 .f32) : k0_pay1 (F := Ideal) x = x := by
  funext i
  exact shapeCast_apply x _ i i rfl

theorem pay2 (x : FVec Ideal S512x2048 .f32) (i : Fin 512) : (k0_pay2 (F := Ideal) x : FVec Ideal S512x1 .f32) (ix2 i 0) = Rms.rinv (Rms.row x i) := by
  unfold k0_pay2
  rw [pay1]
  exact Rms.rinv_kernel x _ _ _ _ i

/-- A block's part of the gain's gradient. -/
theorem pay4 (x dy : FVec Ideal S512x2048 .f32) (j : Fin 2048) :
    (k0_pay4 (F := Ideal) x dy : FVec Ideal S1x1x2048 .f32) (ix3 0 0 j) = ∑ i : Fin 512, Rms.gainTerm x dy j i := by
  unfold k0_pay4 k0_pay3
  rw [pay1]
  exact Rms.gain_kernel x dy _ (pay2 x) _ _ _ _ _ _ j

/-- A block's gradient through the normalisation. -/
theorem pay5 (x : FVec Ideal S512x2048 .f32) (g : FVec Ideal S1x2048 .f32) (dy : FVec Ideal S512x2048 .f32) (i : Fin 512) (j : Fin 2048) :
    (k0_pay5 (F := Ideal) x g dy : FVec Ideal S512x2048 .bf16) (ix2 i j) = Rms.back (Rms.row x i) (Rms.row (Rms.scaled dy g) i) j := by
  unfold k0_pay5 k0_pay3
  rw [pay1]
  dsimp only
  rw [Rms.scaled_kernel]
  exact Rms.back_kernel x (Rms.scaled dy g) _ (pay2 x) _ _ _ _ _ i j

/-- Its product with the weight transposed. -/
theorem pay6 (x : FVec Ideal S512x2048 .f32) (g : FVec Ideal S1x2048 .f32) (dy : FVec Ideal S512x2048 .f32) (w : FVec Ideal S2048x2048 .bf16)
    (i : Fin 512) (j : Fin 2048) : (k0_pay6 (F := Ideal) x g dy w : FVec Ideal S512x2048 .bf16) (ix2 i j)
      = ∑ k : Fin 2048, Rms.back (Rms.row x i) (Rms.row (Rms.scaled dy g) i) k * w (ix2 j k) := by
  unfold k0_pay6
  refine (Ideal.matmul_transposedRhs_apply (prec := none) ..).trans ?_
  show Ideal.ofBits .f32 0x00000000#32 + _ = _
  rw [Ideal.ofBits_zero_f32, zero_add]
  exact Finset.sum_congr rfl fun k _ => by rw [pay5]

/-- What a point leaves in its three blocks. -/
theorem outs (x dy : FVec Ideal S512x2048 .f32) (g : FVec Ideal S1x2048 .f32) (w : FVec Ideal S2048x2048 .bf16) :
    out0_4 (F := Ideal) x dy g w = k0_pay6 (F := Ideal) x g dy w ∧ out0_5 (F := Ideal) x dy g w = k0_pay5 (F := Ideal) x g dy
      ∧ out0_6 (F := Ideal) x dy g w = k0_pay4 (F := Ideal) x dy := by
  have hz : (![0, 0] : Fin 2 → ℕ) = fun _ => 0 := by decide
  have hz3 : (![0, 0, 0] : Fin 3 → ℕ) = fun _ => 0 := by decide
  unfold out0_4 out0_5 out0_6
  rw [View.canon_unit_zero hz, View.canon_unit_zero hz, View.canon_unit_zero hz3, View.ld_unit_zero hz, View.ld_unit_zero hz,
    View.ld_unit_zero hz, View.ld_unit_zero hz]
  exact ⟨rfl, rfl, rfl⟩

/-! ## The arrays -/

variable (m : (ℓ : Loc nD τ sig) → Buf (Elt Ideal) ℓ) (c : Dev nD)

/-- The attention's result, the weight, the gain and the gradient that comes in. -/
abbrev argO : FVec Ideal S2048x2048 .bf16 := m ((c : Thread nD τ).loc main_arg0)
abbrev argW : FVec Ideal S2048x2048 .bf16 := m ((c : Thread nD τ).loc main_arg1)
abbrev argG : FVec Ideal S1x2048 .f32 := m ((c : Thread nD τ).loc main_arg2)
abbrev argD : FVec Ideal S2048x2048 .f32 := m ((c : Thread nD τ).loc main_arg3)

/-- The product the host forms. -/
def h1 (o w : FVec Ideal S2048x2048 .bf16) : FVec Ideal S2048x2048 .f32 :=
  Host.dotGeneral (F := Ideal) dot_S2048x2048_S2048x2048_S2048x2048_1_0_0_1_n_n none (extf .f32 o bitsLt_bf16_f32) (extf .f32 w bitsLt_bf16_f32)

/-- The three results: the gradients of the attention's result, of the product and of the gain. -/
def dh (o w : FVec Ideal S2048x2048 .bf16) (g : FVec Ideal S1x2048 .f32) (d : FVec Ideal S2048x2048 .f32) : FVec Ideal S2048x2048 .bf16 :=
  Rms.dx (h1 o w) (Rms.scaled d g) .bf16
def dO (o w : FVec Ideal S2048x2048 .bf16) (g : FVec Ideal S1x2048 .f32) (d : FVec Ideal S2048x2048 .f32) : FVec Ideal S2048x2048 .bf16 :=
  fun y => ∑ k : Fin 2048, Rms.back (Rms.row (h1 o w) (y 0)) (Rms.row (Rms.scaled d g) (y 0)) k * w (ix2 (y 1) k)
def dg (o w : FVec Ideal S2048x2048 .bf16) (d : FVec Ideal S2048x2048 .f32) : FVec Ideal S1x2048 .f32 := Rms.gain (h1 o w) d
/-- The gain's gradient by blocks of rows, as the kernel leaves it. -/
def dgTiles (o w : FVec Ideal S2048x2048 .bf16) (d : FVec Ideal S2048x2048 .f32) : FVec Ideal S4x1x2048 .f32 :=
  Rms.gainTiles (n := 4) (b := 512) rfl (h1 o w) d

/-- The kernel finds the product where the host left it. -/
theorem entry : (V m c main_v2 : FVec Ideal S2048x2048 .f32) = h1 (argO m c) (argW m c) := by
  show StableHlo.after hostOps0 _ _ = _
  after_results_simp
  rfl

/-- Where the windows lie at each point. -/
theorem places : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ win0_6.index t 0 = t.val ∧ win0_6.index t 1 = 0 ∧ win0_6.index t 2 = 0 := by decide +kernel

/-- Row `i` of point `t`'s block, as a row of the whole. -/
abbrev rowOf (t : Fin cfg0.N) (i : Fin 512) : Fin 2048 := Rms.tileRow (n := 4) rfl (t.cast N_0) i

theorem block_h (t : Fin cfg0.N) (i : Fin 512) (k : Fin 2048) :
    (iblk m c 0 t : FVec Ideal S512x2048 .f32) (ix2 i k) = h1 (argO m c) (argW m c) (ix2 (rowOf t i) k) := by
  have hi := (places t).1
  rw [← entry]
  unfold iblk
  rw [View.read_apply]
  show V m c main_v2 _ = V m c main_v2 _
  congr 1
  funext a
  apply Fin.ext
  match a with
  | ⟨0, _⟩ => show win0_0.index t 0 * 512 + 1 * i.val = 512 * t.val + i.val; rw [hi.1]; omega
  | ⟨1, _⟩ => show win0_0.index t 1 * 2048 + 1 * k.val = k.val; rw [hi.2]; omega

theorem block_d (t : Fin cfg0.N) (i : Fin 512) (k : Fin 2048) :
    (iblk m c 1 t : FVec Ideal S512x2048 .f32) (ix2 i k) = argD m c (ix2 (rowOf t i) k) := by
  have hi := (places t).2.1
  unfold iblk
  rw [View.read_apply]
  refine (congrArg (V m c main_arg3) (?_ : _ = ix2 (rowOf t i) k)).trans (congrFun (V_main_arg3 m c) _)
  funext a
  apply Fin.ext
  match a with
  | ⟨0, _⟩ => show win0_1.index t 0 * 512 + 1 * i.val = 512 * t.val + i.val; rw [hi.1]; omega
  | ⟨1, _⟩ => show win0_1.index t 1 * 2048 + 1 * k.val = k.val; rw [hi.2]; omega

theorem block_g (t : Fin cfg0.N) : (iblk m c 2 t : FVec Ideal S1x2048 .f32) = argG m c := by
  have hi := (places t).2.2.1
  funext y
  unfold iblk
  rw [View.read_apply]
  refine (congrArg (V m c main_arg2) (?_ : _ = y)).trans (congrFun (V_main_arg2 m c) _)
  funext a
  apply Fin.ext
  match a with
  | ⟨0, _⟩ => show win0_2.index t 0 * 1 + 1 * (y 0).val = (y 0).val; rw [hi.1]; omega
  | ⟨1, _⟩ => show win0_2.index t 1 * 2048 + 1 * (y 1).val = (y 1).val; rw [hi.2]; omega

theorem block_w (t : Fin cfg0.N) : (iblk m c 3 t : FVec Ideal S2048x2048 .bf16) = argW m c := by
  have hi := (places t).2.2.2.1
  funext y
  unfold iblk
  rw [View.read_apply]
  refine (congrArg (V m c main_arg1) (?_ : _ = y)).trans (congrFun (V_main_arg1 m c) _)
  funext a
  apply Fin.ext
  match a with
  | ⟨0, _⟩ => show win0_3.index t 0 * 2048 + 1 * (y 0).val = (y 0).val; rw [hi.1]; omega
  | ⟨1, _⟩ => show win0_3.index t 1 * 2048 + 1 * (y 1).val = (y 1).val; rw [hi.2]; omega

/-- The rows a point works on are rows of the whole. -/
theorem rows (t : Fin cfg0.N) (i : Fin 512) : Rms.row (iblk m c 0 t : FVec Ideal S512x2048 .f32) i = Rms.row (h1 (argO m c) (argW m c)) (rowOf t i)
    ∧ Rms.row (Rms.scaled (iblk m c 1 t : FVec Ideal S512x2048 .f32) (argG m c)) i = Rms.row (Rms.scaled (argD m c) (argG m c)) (rowOf t i) :=
  ⟨funext fun k => block_h m c t i k, funext fun k => congrArg (· * argG m c (ix2 0 k)) (block_d m c t i k)⟩

/-- The gradient of the attention's result after the run. -/
theorem final4 : (dats m 0 c).arrAt 4 cfg0.N = dO (argO m c) (argW m c) (argG m c) (argD m c) := by
  refine (dats m 0 c).arrAt_eq_of_cover 4 (dO (argO m c) (argW m c) (argG m c) (argD m c)) (fun t _ => ?_) fun i => ?_
  · have hi := (places t).2.2.2.2.1
    show (cfg0.win 4).cut (grid0.coords t) ((dats m 0 c).after 4 t) = _
    rw [after0_4, (outs _ _ _ _).1]
    funext j
    rw [View.read_apply]
    obtain ⟨i, k, rfl⟩ : ∃ (i : Fin 512) (k : Fin 2048), j = ix2 i k := ⟨j 0, j 1, eq_ix2 (n0 := 512) (n1 := 2048) j⟩
    have h : (k0_pay6 (F := Ideal) (iblk m c 0 t) (iblk m c 2 t) (iblk m c 1 t) (iblk m c 3 t) : FVec Ideal S512x2048 .bf16) (ix2 i k)
        = dO (argO m c) (argW m c) (argG m c) (argD m c) (ix2 (rowOf t i) k) := by
      rw [pay6, block_g, block_w, (rows m c t i).1, (rows m c t i).2]
      rfl
    refine Eq.trans h (congrArg (dO (argO m c) (argW m c) (argG m c) (argD m c)) (funext fun a => Fin.ext ?_))
    match a with
    | ⟨0, _⟩ => show 512 * t.val + i.val = win0_4.index t 0 * 512 + 1 * i.val; rw [hi.1]; omega
    | ⟨1, _⟩ => show k.val = win0_4.index t 1 * 2048 + 1 * k.val; rw [hi.2]; omega
  · have hN : cfg0.N = 4 := N_0
    have hb : (i 0).val < 2048 := (i 0).isLt
    have hb1 : (i 1).val < 2048 := (i 1).isLt
    obtain ⟨t, ht⟩ : ∃ t : Fin cfg0.N, t.val = (i 0).val / 512 := ⟨⟨(i 0).val / 512, by omega⟩, rfl⟩
    have hi := (places t).2.2.2.2.1
    refine ⟨t, flush0_4 t, ?_⟩
    show i ∈ ((View.whole main_v3_0).slice (win0_4.rect t)).set
    rw [View.set_slice_whole, Rect.mem_set_unit]
    intro a
    match a with
    | ⟨0, _⟩ => show win0_4.index t 0 * 512 ≤ (i 0).val ∧ (i 0).val < win0_4.index t 0 * 512 + 512; rw [hi.1]; omega
    | ⟨1, _⟩ => show win0_4.index t 1 * 2048 ≤ (i 1).val ∧ (i 1).val < win0_4.index t 1 * 2048 + 2048; rw [hi.2]; omega

/-- The gradient of the product after the run. -/
theorem final5 : (dats m 0 c).arrAt 5 cfg0.N = dh (argO m c) (argW m c) (argG m c) (argD m c) := by
  refine (dats m 0 c).arrAt_eq_of_cover 5 (dh (argO m c) (argW m c) (argG m c) (argD m c)) (fun t _ => ?_) fun i => ?_
  · have hi := (places t).2.2.2.2.2.1
    show (cfg0.win 5).cut (grid0.coords t) ((dats m 0 c).after 5 t) = _
    rw [after0_5, (outs _ _ _ _).2.1]
    funext j
    rw [View.read_apply]
    obtain ⟨i, k, rfl⟩ : ∃ (i : Fin 512) (k : Fin 2048), j = ix2 i k := ⟨j 0, j 1, eq_ix2 (n0 := 512) (n1 := 2048) j⟩
    have h : (k0_pay5 (F := Ideal) (iblk m c 0 t) (iblk m c 2 t) (iblk m c 1 t) : FVec Ideal S512x2048 .bf16) (ix2 i k)
        = dh (argO m c) (argW m c) (argG m c) (argD m c) (ix2 (rowOf t i) k) := by
      rw [pay5, block_g, (rows m c t i).1, (rows m c t i).2]
      rfl
    refine Eq.trans h (congrArg (dh (argO m c) (argW m c) (argG m c) (argD m c)) (funext fun a => Fin.ext ?_))
    match a with
    | ⟨0, _⟩ => show 512 * t.val + i.val = win0_5.index t 0 * 512 + 1 * i.val; rw [hi.1]; omega
    | ⟨1, _⟩ => show k.val = win0_5.index t 1 * 2048 + 1 * k.val; rw [hi.2]; omega
  · have hN : cfg0.N = 4 := N_0
    have hb : (i 0).val < 2048 := (i 0).isLt
    have hb1 : (i 1).val < 2048 := (i 1).isLt
    obtain ⟨t, ht⟩ : ∃ t : Fin cfg0.N, t.val = (i 0).val / 512 := ⟨⟨(i 0).val / 512, by omega⟩, rfl⟩
    have hi := (places t).2.2.2.2.2.1
    refine ⟨t, flush0_5 t, ?_⟩
    show i ∈ ((View.whole main_v3_1).slice (win0_5.rect t)).set
    rw [View.set_slice_whole, Rect.mem_set_unit]
    intro a
    match a with
    | ⟨0, _⟩ => show win0_5.index t 0 * 512 ≤ (i 0).val ∧ (i 0).val < win0_5.index t 0 * 512 + 512; rw [hi.1]; omega
    | ⟨1, _⟩ => show win0_5.index t 1 * 2048 ≤ (i 1).val ∧ (i 1).val < win0_5.index t 1 * 2048 + 2048; rw [hi.2]; omega

/-- The blocks of the gain's gradient after the kernel. -/
theorem final6 : (dats m 0 c).arrAt 6 cfg0.N = dgTiles (argO m c) (argW m c) (argD m c) := by
  refine (dats m 0 c).arrAt_eq_of_cover 6 (dgTiles (argO m c) (argW m c) (argD m c)) (fun t _ => ?_) fun i => ?_
  · have hi := (places t).2.2.2.2.2.2
    show (cfg0.win 6).cut (grid0.coords t) ((dats m 0 c).after 6 t) = _
    rw [after0_6, (outs _ _ _ _).2.2]
    funext j
    rw [View.read_apply]
    obtain ⟨a, b, k, rfl⟩ : ∃ (a b : Fin 1) (k : Fin 2048), j = ix3 a b k := ⟨j 0, j 1, j 2, eq_ix3 (n0 := 1) (n1 := 1) (n2 := 2048) j⟩
    obtain rfl : a = 0 := Subsingleton.elim _ _
    obtain rfl : b = 0 := Subsingleton.elim _ _
    have h : (k0_pay4 (F := Ideal) (iblk m c 0 t) (iblk m c 1 t) : FVec Ideal S1x1x2048 .f32) (ix3 0 0 k)
        = dgTiles (argO m c) (argW m c) (argD m c) (ix3 (t.cast N_0) 0 k) := by
      rw [pay4]
      show _ = ∑ i : Fin 512, Rms.gainTerm (h1 (argO m c) (argW m c)) (argD m c) k (rowOf t i)
      refine Finset.sum_congr rfl fun i _ => ?_
      unfold Rms.gainTerm
      rw [block_h, block_d, (rows m c t i).1]
    refine Eq.trans h (congrArg (dgTiles (argO m c) (argW m c) (argD m c)) (funext fun a => Fin.ext ?_))
    match a with
    | ⟨0, _⟩ => show t.val = win0_6.index t 0 * 1 + 1 * 0; rw [hi.1]; omega
    | ⟨1, _⟩ => show 0 = win0_6.index t 1 * 1 + 1 * 0; rw [hi.2.1]
    | ⟨2, _⟩ => show k.val = win0_6.index t 2 * 2048 + 1 * k.val; rw [hi.2.2]; omega
  · have hN : cfg0.N = 4 := N_0
    have hb : (i 0).val < 4 := (i 0).isLt
    have hb1 : (i 1).val < 1 := (i 1).isLt
    have hb2 : (i 2).val < 2048 := (i 2).isLt
    obtain ⟨t, ht⟩ : ∃ t : Fin cfg0.N, t.val = (i 0).val := ⟨⟨(i 0).val, by omega⟩, rfl⟩
    have hi := (places t).2.2.2.2.2.2
    refine ⟨t, flush0_6 t, ?_⟩
    show i ∈ ((View.whole main_v3_2).slice (win0_6.rect t)).set
    rw [View.set_slice_whole, Rect.mem_set_unit]
    intro a
    match a with
    | ⟨0, _⟩ => show win0_6.index t 0 * 1 ≤ (i 0).val ∧ (i 0).val < win0_6.index t 0 * 1 + 1; rw [hi.1]; omega
    | ⟨1, _⟩ => show win0_6.index t 1 * 1 ≤ (i 1).val ∧ (i 1).val < win0_6.index t 1 * 1 + 1; rw [hi.2.1]; omega
    | ⟨2, _⟩ => show win0_6.index t 2 * 2048 ≤ (i 2).val ∧ (i 2).val < win0_6.index t 2 * 2048 + 2048; rw [hi.2.2]; omega

/-- The host adds the blocks up to the gain's gradient. -/
theorem tail : (Pipeline.afterTail₀ cfgs (dats m) 0 (V0 m) [hostOps1] c main_v4 : FVec Ideal S1x2048 .f32) = dg (argO m c) (argW m c) (argD m c) := by
  have h : (Pipeline.afterTail₀ cfgs (dats m) 0 (V0 m) [hostOps1] c main_v4 : FVec Ideal S1x2048 .f32)
      = Host.reduceAdd (dgTiles (argO m c) (argW m c) (argD m c)) (constant S_ .f32 0x00000000#32) reducesTo_S4x1x2048_S1x2048_d0 h_S_ := by
    have hw := Pipeline.withArrays_arr spec0 (by decide) c (V0 m c) (fun w => (dats m 0 c).arrAt w (cfgs 0).N) 6
    show StableHlo.after hostOps1 _ _ = _
    after_results_simp
    exact congrArg (fun x => Host.reduceAdd (F := Ideal) x (constant S_ .f32 0x00000000#32) reducesTo_S4x1x2048_S1x2048_d0 h_S_)
      (hw.trans (final6 m c))
  exact h.trans (Rms.gain_tiles (n := 4) (b := 512) rfl _ _ _ (by decide) _)

/-- What the run leaves in the results, and that the arguments stay. -/
theorem values (ρ : Dev nD → PrngReg) : θ_run (defs (F := Ideal)) (onTc (τ := τ) (main (F := Ideal))) ⟨m, fun _ => 0, ρ⟩ (fun r => ∀ c : Dev nD,
    r.2.mem ((c.tc : Thread nD τ).loc main_v3_0) = dO (argO m c) (argW m c) (argG m c) (argD m c)
    ∧ r.2.mem ((c.tc : Thread nD τ).loc main_v3_1) = dh (argO m c) (argW m c) (argG m c) (argD m c)
    ∧ r.2.mem ((c.tc : Thread nD τ).loc main_v4) = dg (argO m c) (argW m c) (argD m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨((h c).1 4).trans (final4 m c), ((h c).1 5).trans (final5 m c),
      ((h c).2 main_v4 (Pipeline.mem_restRefs_of main_v4 (by decide) (by decide))).trans (tail m c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).1 2).trans (((dats m 0 c).arrAt_in 2 rfl _).trans ((A_eq m c 2).trans (V_main_arg2 m c))),
      ((h c).1 1).trans (((dats m 0 c).arrAt_in 1 rfl _).trans ((A_eq m c 1).trans (V_main_arg3 m c)))⟩) (run_main m ρ)

end Cert.AttOBwdIdeal.Ker

namespace Cert.AttOBwdClaim

open Idealize.ShloMosaic Idealize.ShloMosaic.TcCoe Idealize.SL.Sem Idealize.ShloMosaic.ValueIdx Cert.Products
open Cert.AttOBwdRefIdeal Cert.AttOBwdRefIdeal.Gen Cert.AttOBwdRefIdeal.Read
open Cert.AttOBwdIdeal.Ker (argO argW argG argD h1 dh dO dg)

section Reference
variable (o w : FVec Ideal S2048x2048 .bf16) (g : FVec Ideal S1x2048 .f32) (d : FVec Ideal S2048x2048 .f32)

theorem reference_meanSq (i : Fin 2048) : (val_main_v9 (F := Ideal) o w : FVec Ideal S2048x1 .f32) (ix2 i 0) = Rms.meanSq (Rms.row (h1 o w) i) :=
  Rms.meanSq_host (h1 o w) reducesTo_S2048x2048_S2048_d1 (by decide) h_S_ bcast_S2048_S2048x1_0 bcast_S_S2048x1 i

/-- The reference's gradient through the normalisation is the kernel's. -/
theorem reference_row (i j : Fin 2048) : (val_main_v36 (F := Ideal) o w g d : FVec Ideal S2048x2048 .f32) (ix2 i j)
    = Rms.back (Rms.row (h1 o w) i) (Rms.row (Rms.scaled d g) i) j := by
  rw [← Rms.scaled_host d g bcast_S1x2048_S2048x2048_0_1]
  exact Rms.back_host (h1 o w) _ _ _ (Rms.rinv_host (h1 o w) _ (reference_meanSq o w) bcast_S2048x1_S2048x2048_0_1)
    (Rms.slope_host (h1 o w) _ _ (reference_meanSq o w) bcast_S2048_S2048x2048_0 reducesTo_S2048x2048_S2048_d1 (by decide)
      reducesTo_S2048x1_S2048_d1 (by decide) h_S_ shapeCasts_S2048_S2048x1 bcast_S_S2048x1) i j

theorem reference_dh : val_main_v39 (F := Ideal) o w g d = dh o w g d := by
  funext y
  obtain ⟨i, k, rfl⟩ : ∃ (i : Fin 2048) (k : Fin 2048), y = ix2 i k := ⟨y 0, y 1, eq_ix2 (n0 := 2048) (n1 := 2048) y⟩
  exact reference_row o w g d i k

theorem reference_do : val_main_v38 (F := Ideal) o w g d = dO o w g d := by
  funext y
  obtain ⟨i, j, rfl⟩ : ∃ (i : Fin 2048) (j : Fin 2048), y = ix2 i j := ⟨y 0, y 1, eq_ix2 (n0 := 2048) (n1 := 2048) y⟩
  show val_main_v37 (F := Ideal) o w g d (ix2 i j) = _
  rw [val_main_v37_apply]
  refine Finset.sum_congr rfl fun k _ => congrArg₂ (· * ·) ?_ ?_
  · rw [show lidx_main_v37 (ix2 i j) k = ix2 i k from ix2_ext i k rfl rfl]
    exact reference_row o w g d i k
  · exact congrArg w (ix2_ext j k rfl rfl)

theorem reference_dg : val_main_v20 (F := Ideal) o w d = dg o w d :=
  Rms.gain_host (h1 o w) d _ (Rms.rinv_host (h1 o w) _ (reference_meanSq o w) bcast_S2048x1_S2048x2048_0_1) reducesTo_S2048x2048_S2048_d0 (by decide)
    h_S_ shapeCasts_S2048_S1x2048

end Reference

/-- The kernel's frame. -/
theorem frame_p : Cert.quiescent_AttOBwd := fun m ρ _ => Cert.AttOBwd.Gen.frame m ρ
/-- The idealization's frame. -/
theorem frame_pi : Cert.quiescent_AttOBwdIdeal := fun m ρ _ => Cert.AttOBwdIdeal.Gen.frame m ρ
/-- The reference's frame. -/
theorem frame_ri : Cert.quiescent_AttOBwdRefIdeal := fun m ρ _ =>
  (θ_run Cert.AttOBwdRefIdeal.defs _ _).mono (fun r h => ⟨fun c => (h c).2.2.2, sem_eq_zero_of_no_sems (by decide) r.2⟩)
    (Cert.AttOBwdRefIdeal.Value.run (F := Ideal) m ρ)

/-- The idealization's three gradients are the reference's. -/
theorem algebraic : Cert.algebraic_AttOBwdIdeal_AttOBwdRefIdeal := by
  intro m ρ m' ρ' _ hagree
  refine ⟨fun c => dO (argO m c) (argW m c) (argG m c) (argD m c), fun c => dh (argO m c) (argW m c) (argG m c) (argD m c),
    fun c => dg (argO m c) (argW m c) (argD m c), Cert.AttOBwdIdeal.Ker.values m ρ, ?_⟩
  refine (θ_run Cert.AttOBwdRefIdeal.defs _ _).mono (fun r h c => ?_) (Cert.AttOBwdRefIdeal.Value.run (F := Ideal) m' ρ')
  obtain ⟨e0, e1, e2, e3⟩ := hagree c
  refine ⟨(h c).1.trans ((val_main_v38_eq ..).trans ?_), (h c).2.1.trans ((val_main_v39_eq ..).trans ?_),
    (h c).2.2.1.trans ((val_main_v20_eq ..).trans ?_), (h c).2.2.2⟩
  · rw [e0, e1, e2, e3]; exact reference_do _ _ _ _
  · rw [e0, e1, e2, e3]; exact reference_dh _ _ _ _
  · rw [e0, e1, e3]; exact reference_dg _ _ _

end Cert.AttOBwdClaim

end
-- ==== Proof.MixOutBwd.lean ====
/-
  The mixing block's output product backwards, with the normalisation of its result: the same computation as the attention's
  (`AttOBwd`), whose lemmas it uses, on the mixing block's result `y`, except that the gradient of `y` stays at single precision.
-/
module

public import proofs.«01_k».proof.Defs
public import proofs.«01_k».proof.Proof.AttOBwd
public import proofs.«01_k».proof.Proof.Gen.MixOutBwd.Frame
public import proofs.«01_k».proof.Proof.Gen.MixOutBwdIdeal.Frame
public import proofs.«01_k».proof.Proof.Gen.MixOutBwdRefIdeal.Run
public import proofs.«01_k».proof.Proof.Gen.MixOutBwdRefIdeal.Read

@[expose] public section

set_option maxRecDepth 16384

noncomputable section

namespace Cert.MixOutBwdIdeal.Ker

open Cert.MixOutBwdIdeal Cert.MixOutBwdIdeal.Gen Cert.Products
open Idealize.ShloMosaic Idealize.ShloMosaic.TcCoe Idealize.SL.Sem Idealize.ShloMosaic.ValueIdx
open Idealize.ShloMosaic.Pipeline (Dat)
open Cert.AttOBwdIdeal.Ker (h1 dh dg dgTiles)

/-! ## What one point computes -/

theorem pay4 (x dy : FVec Ideal S512x2048 .f32) (j : Fin 2048) :
    (k0_pay4 (F := Ideal) x dy : FVec Ideal S1x1x2048 .f32) (ix3 0 0 j) = ∑ i : Fin 512, Rms.gainTerm x dy j i :=
  Cert.AttOBwdIdeal.Ker.pay4 x dy j

theorem pay5 (x : FVec Ideal S512x2048 .f32) (g : FVec Ideal S1x2048 .f32) (dy : FVec Ideal S512x2048 .f32) (i : Fin 512) (j : Fin 2048) :
    (k0_pay5 (F := Ideal) x g dy : FVec Ideal S512x2048 .bf16) (ix2 i j) = Rms.back (Rms.row x i) (Rms.row (Rms.scaled dy g) i) j :=
  Cert.AttOBwdIdeal.Ker.pay5 x g dy i j

theorem pay6 (x : FVec Ideal S512x2048 .f32) (g : FVec Ideal S1x2048 .f32) (dy : FVec Ideal S512x2048 .f32) (w : FVec Ideal S2048x2048 .bf16)
    (i : Fin 512) (j : Fin 2048) : (k0_pay6 (F := Ideal) x g dy w : FVec Ideal S512x2048 .f32) (ix2 i j)
      = ∑ k : Fin 2048, Rms.back (Rms.row x i) (Rms.row (Rms.scaled dy g) i) k * w (ix2 j k) :=
  Cert.AttOBwdIdeal.Ker.pay6 x g dy w i j

/-- What a point leaves in its three blocks. -/
theorem outs (x dy : FVec Ideal S512x2048 .f32) (g : FVec Ideal S1x2048 .f32) (w : FVec Ideal S2048x2048 .bf16) :
    out0_4 (F := Ideal) x dy g w = k0_pay6 (F := Ideal) x g dy w ∧ out0_5 (F := Ideal) x dy g w = k0_pay5 (F := Ideal) x g dy
      ∧ out0_6 (F := Ideal) x dy g w = k0_pay4 (F := Ideal) x dy := by
  have hz : (![0, 0] : Fin 2 → ℕ) = fun _ => 0 := by decide
  have hz3 : (![0, 0, 0] : Fin 3 → ℕ) = fun _ => 0 := by decide
  unfold out0_4 out0_5 out0_6
  rw [View.canon_unit_zero hz, View.canon_unit_zero hz, View.canon_unit_zero hz3, View.ld_unit_zero hz, View.ld_unit_zero hz,
    View.ld_unit_zero hz, View.ld_unit_zero hz]
  exact ⟨rfl, rfl, rfl⟩

/-! ## The arrays -/

variable (m : (ℓ : Loc nD τ sig) → Buf (Elt Ideal) ℓ) (c : Dev nD)

/-- The mixing block's result, the weight, the gain and the gradient that comes in. -/
abbrev argY : FVec Ideal S2048x2048 .bf16 := m ((c : Thread nD τ).loc main_arg0)
abbrev argW : FVec Ideal S2048x2048 .bf16 := m ((c : Thread nD τ).loc main_arg1)
abbrev argG : FVec Ideal S1x2048 .f32 := m ((c : Thread nD τ).loc main_arg2)
abbrev argD : FVec Ideal S2048x2048 .f32 := m ((c : Thread nD τ).loc main_arg3)

/-- The gradient of the mixing block's result. -/
def dY (y w : FVec Ideal S2048x2048 .bf16) (g : FVec Ideal S1x2048 .f32) (d : FVec Ideal S2048x2048 .f32) : FVec Ideal S2048x2048 .f32 :=
  Cert.AttOBwdIdeal.Ker.dO y w g d

/-- The kernel finds the product where the host left it. -/
theorem entry : (V m c main_v2 : FVec Ideal S2048x2048 .f32) = h1 (argY m c) (argW m c) := by
  show StableHlo.after hostOps0 _ _ = _
  after_results_simp
  rfl

/-- Where the windows lie at each point. -/
theorem places : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ win0_6.index t 0 = t.val ∧ win0_6.index t 1 = 0 ∧ win0_6.index t 2 = 0 := by decide +kernel

/-- Row `i` of point `t`'s block, as a row of the whole. -/
abbrev rowOf (t : Fin cfg0.N) (i : Fin 512) : Fin 2048 := Rms.tileRow (n := 4) rfl (t.cast N_0) i

theorem block_h (t : Fin cfg0.N) (i : Fin 512) (k : Fin 2048) :
    (iblk m c 0 t : FVec Ideal S512x2048 .f32) (ix2 i k) = h1 (argY m c) (argW m c) (ix2 (rowOf t i) k) := by
  have hi := (places t).1
  rw [← entry]
  unfold iblk
  rw [View.read_apply]
  show V m c main_v2 _ = V m c main_v2 _
  congr 1
  funext a
  apply Fin.ext
  match a with
  | ⟨0, _⟩ => show win0_0.index t 0 * 512 + 1 * i.val = 512 * t.val + i.val; rw [hi.1]; omega
  | ⟨1, _⟩ => show win0_0.index t 1 * 2048 + 1 * k.val = k.val; rw [hi.2]; omega

theorem block_d (t : Fin cfg0.N) (i : Fin 512) (k : Fin 2048) :
    (iblk m c 1 t : FVec Ideal S512x2048 .f32) (ix2 i k) = argD m c (ix2 (rowOf t i) k) := by
  have hi := (places t).2.1
  unfold iblk
  rw [View.read_apply]
  refine (congrArg (V m c main_arg3) (?_ : _ = ix2 (rowOf t i) k)).trans (congrFun (V_main_arg3 m c) _)
  funext a
  apply Fin.ext
  match a with
  | ⟨0, _⟩ => show win0_1.index t 0 * 512 + 1 * i.val = 512 * t.val + i.val; rw [hi.1]; omega
  | ⟨1, _⟩ => show win0_1.index t 1 * 2048 + 1 * k.val = k.val; rw [hi.2]; omega

theorem block_g (t : Fin cfg0.N) : (iblk m c 2 t : FVec Ideal S1x2048 .f32) = argG m c := by
  have hi := (places t).2.2.1
  funext y
  unfold iblk
  rw [View.read_apply]
  refine (congrArg (V m c main_arg2) (?_ : _ = y)).trans (congrFun (V_main_arg2 m c) _)
  funext a
  apply Fin.ext
  match a with
  | ⟨0, _⟩ => show win0_2.index t 0 * 1 + 1 * (y 0).val = (y 0).val; rw [hi.1]; omega
  | ⟨1, _⟩ => show win0_2.index t 1 * 2048 + 1 * (y 1).val = (y 1).val; rw [hi.2]; omega

theorem block_w (t : Fin cfg0.N) : (iblk m c 3 t : FVec Ideal S2048x2048 .bf16) = argW m c := by
  have hi := (places t).2.2.2.1
  funext y
  unfold iblk
  rw [View.read_apply]
  refine (congrArg (V m c main_arg1) (?_ : _ = y)).trans (congrFun (V_main_arg1 m c) _)
  funext a
  apply Fin.ext
  match a with
  | ⟨0, _⟩ => show win0_3.index t 0 * 2048 + 1 * (y 0).val = (y 0).val; rw [hi.1]; omega
  | ⟨1, _⟩ => show win0_3.index t 1 * 2048 + 1 * (y 1).val = (y 1).val; rw [hi.2]; omega

/-- The rows a point works on are rows of the whole. -/
theorem rows (t : Fin cfg0.N) (i : Fin 512) : Rms.row (iblk m c 0 t : FVec Ideal S512x2048 .f32) i = Rms.row (h1 (argY m c) (argW m c)) (rowOf t i)
    ∧ Rms.row (Rms.scaled (iblk m c 1 t : FVec Ideal S512x2048 .f32) (argG m c)) i = Rms.row (Rms.scaled (argD m c) (argG m c)) (rowOf t i) :=
  ⟨funext fun k => block_h m c t i k, funext fun k => congrArg (· * argG m c (ix2 0 k)) (block_d m c t i k)⟩

/-- The gradient of the mixing block's result after the run. -/
theorem final4 : (dats m 0 c).arrAt 4 cfg0.N = dY (argY m c) (argW m c) (argG m c) (argD m c) := by
  refine (dats m 0 c).arrAt_eq_of_cover 4 (dY (argY m c) (argW m c) (argG m c) (argD m c)) (fun t _ => ?_) fun i => ?_
  · have hi := (places t).2.2.2.2.1
    show (cfg0.win 4).cut (grid0.coords t) ((dats m 0 c).after 4 t) = _
    rw [after0_4, (outs _ _ _ _).1]
    funext j
    rw [View.read_apply]
    obtain ⟨i, k, rfl⟩ : ∃ (i : Fin 512) (k : Fin 2048), j = ix2 i k := ⟨j 0, j 1, eq_ix2 (n0 := 512) (n1 := 2048) j⟩
    have h : (k0_pay6 (F := Ideal) (iblk m c 0 t) (iblk m c 2 t) (iblk m c 1 t) (iblk m c 3 t) : FVec Ideal S512x2048 .f32) (ix2 i k)
        = dY (argY m c) (argW m c) (argG m c) (argD m c) (ix2 (rowOf t i) k) := by
      rw [pay6, block_g, block_w, (rows m c t i).1, (rows m c t i).2]
      rfl
    refine Eq.trans h (congrArg (dY (argY m c) (argW m c) (argG m c) (argD m c)) (funext fun a => Fin.ext ?_))
    match a with
    | ⟨0, _⟩ => show 512 * t.val + i.val = win0_4.index t 0 * 512 + 1 * i.val; rw [hi.1]; omega
    | ⟨1, _⟩ => show k.val = win0_4.index t 1 * 2048 + 1 * k.val; rw [hi.2]; omega
  · have hN : cfg0.N = 4 := N_0
    have hb : (i 0).val < 2048 := (i 0).isLt
    have hb1 : (i 1).val < 2048 := (i 1).isLt
    obtain ⟨t, ht⟩ : ∃ t : Fin cfg0.N, t.val = (i 0).val / 512 := ⟨⟨(i 0).val / 512, by omega⟩, rfl⟩
    have hi := (places t).2.2.2.2.1
    refine ⟨t, flush0_4 t, ?_⟩
    show i ∈ ((View.whole main_v3_0).slice (win0_4.rect t)).set
    rw [View.set_slice_whole, Rect.mem_set_unit]
    intro a
    match a with
    | ⟨0, _⟩ => show win0_4.index t 0 * 512 ≤ (i 0).val ∧ (i 0).val < win0_4.index t 0 * 512 + 512; rw [hi.1]; omega
    | ⟨1, _⟩ => show win0_4.index t 1 * 2048 ≤ (i 1).val ∧ (i 1).val < win0_4.index t 1 * 2048 + 2048; rw [hi.2]; omega

/-- The gradient of the product after the run. -/
theorem final5 : (dats m 0 c).arrAt 5 cfg0.N = dh (argY m c) (argW m c) (argG m c) (argD m c) := by
  refine (dats m 0 c).arrAt_eq_of_cover 5 (dh (argY m c) (argW m c) (argG m c) (argD m c)) (fun t _ => ?_) fun i => ?_
  · have hi := (places t).2.2.2.2.2.1
    show (cfg0.win 5).cut (grid0.coords t) ((dats m 0 c).after 5 t) = _
    rw [after0_5, (outs _ _ _ _).2.1]
    funext j
    rw [View.read_apply]
    obtain ⟨i, k, rfl⟩ : ∃ (i : Fin 512) (k : Fin 2048), j = ix2 i k := ⟨j 0, j 1, eq_ix2 (n0 := 512) (n1 := 2048) j⟩
    have h : (k0_pay5 (F := Ideal) (iblk m c 0 t) (iblk m c 2 t) (iblk m c 1 t) : FVec Ideal S512x2048 .bf16) (ix2 i k)
        = dh (argY m c) (argW m c) (argG m c) (argD m c) (ix2 (rowOf t i) k) := by
      rw [pay5, block_g, (rows m c t i).1, (rows m c t i).2]
      rfl
    refine Eq.trans h (congrArg (dh (argY m c) (argW m c) (argG m c) (argD m c)) (funext fun a => Fin.ext ?_))
    match a with
    | ⟨0, _⟩ => show 512 * t.val + i.val = win0_5.index t 0 * 512 + 1 * i.val; rw [hi.1]; omega
    | ⟨1, _⟩ => show k.val = win0_5.index t 1 * 2048 + 1 * k.val; rw [hi.2]; omega
  · have hN : cfg0.N = 4 := N_0
    have hb : (i 0).val < 2048 := (i 0).isLt
    have hb1 : (i 1).val < 2048 := (i 1).isLt
    obtain ⟨t, ht⟩ : ∃ t : Fin cfg0.N, t.val = (i 0).val / 512 := ⟨⟨(i 0).val / 512, by omega⟩, rfl⟩
    have hi := (places t).2.2.2.2.2.1
    refine ⟨t, flush0_5 t, ?_⟩
    show i ∈ ((View.whole main_v3_1).slice (win0_5.rect t)).set
    rw [View.set_slice_whole, Rect.mem_set_unit]
    intro a
    match a with
    | ⟨0, _⟩ => show win0_5.index t 0 * 512 ≤ (i 0).val ∧ (i 0).val < win0_5.index t 0 * 512 + 512; rw [hi.1]; omega
    | ⟨1, _⟩ => show win0_5.index t 1 * 2048 ≤ (i 1).val ∧ (i 1).val < win0_5.index t 1 * 2048 + 2048; rw [hi.2]; omega

/-- The blocks of the gain's gradient after the kernel. -/
theorem final6 : (dats m 0 c).arrAt 6 cfg0.N = dgTiles (argY m c) (argW m c) (argD m c) := by
  refine (dats m 0 c).arrAt_eq_of_cover 6 (dgTiles (argY m c) (argW m c) (argD m c)) (fun t _ => ?_) fun i => ?_
  · have hi := (places t).2.2.2.2.2.2
    show (cfg0.win 6).cut (grid0.coords t) ((dats m 0 c).after 6 t) = _
    rw [after0_6, (outs _ _ _ _).2.2]
    funext j
    rw [View.read_apply]
    obtain ⟨a, b, k, rfl⟩ : ∃ (a b : Fin 1) (k : Fin 2048), j = ix3 a b k := ⟨j 0, j 1, j 2, eq_ix3 (n0 := 1) (n1 := 1) (n2 := 2048) j⟩
    obtain rfl : a = 0 := Subsingleton.elim _ _
    obtain rfl : b = 0 := Subsingleton.elim _ _
    have h : (k0_pay4 (F := Ideal) (iblk m c 0 t) (iblk m c 1 t) : FVec Ideal S1x1x2048 .f32) (ix3 0 0 k)
        = dgTiles (argY m c) (argW m c) (argD m c) (ix3 (t.cast N_0) 0 k) := by
      rw [pay4]
      show _ = ∑ i : Fin 512, Rms.gainTerm (h1 (argY m c) (argW m c)) (argD m c) k (rowOf t i)
      refine Finset.sum_congr rfl fun i _ => ?_
      unfold Rms.gainTerm
      rw [block_h, block_d, (rows m c t i).1]
    refine Eq.trans h (congrArg (dgTiles (argY m c) (argW m c) (argD m c)) (funext fun a => Fin.ext ?_))
    match a with
    | ⟨0, _⟩ => show t.val = win0_6.index t 0 * 1 + 1 * 0; rw [hi.1]; omega
    | ⟨1, _⟩ => show 0 = win0_6.index t 1 * 1 + 1 * 0; rw [hi.2.1]
    | ⟨2, _⟩ => show k.val = win0_6.index t 2 * 2048 + 1 * k.val; rw [hi.2.2]; omega
  · have hN : cfg0.N = 4 := N_0
    have hb : (i 0).val < 4 := (i 0).isLt
    have hb1 : (i 1).val < 1 := (i 1).isLt
    have hb2 : (i 2).val < 2048 := (i 2).isLt
    obtain ⟨t, ht⟩ : ∃ t : Fin cfg0.N, t.val = (i 0).val := ⟨⟨(i 0).val, by omega⟩, rfl⟩
    have hi := (places t).2.2.2.2.2.2
    refine ⟨t, flush0_6 t, ?_⟩
    show i ∈ ((View.whole main_v3_2).slice (win0_6.rect t)).set
    rw [View.set_slice_whole, Rect.mem_set_unit]
    intro a
    match a with
    | ⟨0, _⟩ => show win0_6.index t 0 * 1 ≤ (i 0).val ∧ (i 0).val < win0_6.index t 0 * 1 + 1; rw [hi.1]; omega
    | ⟨1, _⟩ => show win0_6.index t 1 * 1 ≤ (i 1).val ∧ (i 1).val < win0_6.index t 1 * 1 + 1; rw [hi.2.1]; omega
    | ⟨2, _⟩ => show win0_6.index t 2 * 2048 ≤ (i 2).val ∧ (i 2).val < win0_6.index t 2 * 2048 + 2048; rw [hi.2.2]; omega

/-- The host adds the blocks up to the gain's gradient. -/
theorem tail : (Pipeline.afterTail₀ cfgs (dats m) 0 (V0 m) [hostOps1] c main_v4 : FVec Ideal S1x2048 .f32) = dg (argY m c) (argW m c) (argD m c) := by
  have h : (Pipeline.afterTail₀ cfgs (dats m) 0 (V0 m) [hostOps1] c main_v4 : FVec Ideal S1x2048 .f32)
      = Host.reduceAdd (dgTiles (argY m c) (argW m c) (argD m c)) (constant S_ .f32 0x00000000#32) reducesTo_S4x1x2048_S1x2048_d0 h_S_ := by
    have hw := Pipeline.withArrays_arr spec0 (by decide) c (V0 m c) (fun w => (dats m 0 c).arrAt w (cfgs 0).N) 6
    show StableHlo.after hostOps1 _ _ = _
    after_results_simp
    exact congrArg (fun x => Host.reduceAdd (F := Ideal) x (constant S_ .f32 0x00000000#32) reducesTo_S4x1x2048_S1x2048_d0 h_S_)
      (hw.trans (final6 m c))
  exact h.trans (Rms.gain_tiles (n := 4) (b := 512) rfl _ _ _ (by decide) _)

/-- What the run leaves in the results, and that the arguments stay. -/
theorem values (ρ : Dev nD → PrngReg) : θ_run (defs (F := Ideal)) (onTc (τ := τ) (main (F := Ideal))) ⟨m, fun _ => 0, ρ⟩ (fun r => ∀ c : Dev nD,
    r.2.mem ((c.tc : Thread nD τ).loc main_v3_0) = dY (argY m c) (argW m c) (argG m c) (argD m c)
    ∧ r.2.mem ((c.tc : Thread nD τ).loc main_v3_1) = dh (argY m c) (argW m c) (argG m c) (argD m c)
    ∧ r.2.mem ((c.tc : Thread nD τ).loc main_v4) = dg (argY m c) (argW m c) (argD m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨((h c).1 4).trans (final4 m c), ((h c).1 5).trans (final5 m c),
      ((h c).2 main_v4 (Pipeline.mem_restRefs_of main_v4 (by decide) (by decide))).trans (tail m c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).1 2).trans (((dats m 0 c).arrAt_in 2 rfl _).trans ((A_eq m c 2).trans (V_main_arg2 m c))),
      ((h c).1 1).trans (((dats m 0 c).arrAt_in 1 rfl _).trans ((A_eq m c 1).trans (V_main_arg3 m c)))⟩) (run_main m ρ)

end Cert.MixOutBwdIdeal.Ker

namespace Cert.MixOutBwdClaim

open Idealize.ShloMosaic Idealize.ShloMosaic.TcCoe Idealize.SL.Sem Idealize.ShloMosaic.ValueIdx Cert.Products
open Cert.MixOutBwdRefIdeal Cert.MixOutBwdRefIdeal.Gen Cert.MixOutBwdRefIdeal.Read
open Cert.MixOutBwdIdeal.Ker (argY argW argG argD dY)
open Cert.AttOBwdIdeal.Ker (h1 dh dg)

section Reference
variable (y w : FVec Ideal S2048x2048 .bf16) (g : FVec Ideal S1x2048 .f32) (d : FVec Ideal S2048x2048 .f32)

theorem reference_dh : val_main_v38 (F := Ideal) y w g d = dh y w g d := Cert.AttOBwdClaim.reference_dh y w g d

theorem reference_dy : val_main_v37 (F := Ideal) y w g d = dY y w g d := Cert.AttOBwdClaim.reference_do y w g d

theorem reference_dg : val_main_v20 (F := Ideal) y w d = dg y w d := Cert.AttOBwdClaim.reference_dg y w d

end Reference

/-- The kernel's frame. -/
theorem frame_p : Cert.quiescent_MixOutBwd := fun m ρ _ => Cert.MixOutBwd.Gen.frame m ρ
/-- The idealization's frame. -/
theorem frame_pi : Cert.quiescent_MixOutBwdIdeal := fun m ρ _ => Cert.MixOutBwdIdeal.Gen.frame m ρ
/-- The reference's frame. -/
theorem frame_ri : Cert.quiescent_MixOutBwdRefIdeal := fun m ρ _ =>
  (θ_run Cert.MixOutBwdRefIdeal.defs _ _).mono (fun r h => ⟨fun c => (h c).2.2.2, sem_eq_zero_of_no_sems (by decide) r.2⟩)
    (Cert.MixOutBwdRefIdeal.Value.run (F := Ideal) m ρ)

/-- The idealization's three gradients are the reference's. -/
theorem algebraic : Cert.algebraic_MixOutBwdIdeal_MixOutBwdRefIdeal := by
  intro m ρ m' ρ' _ hagree
  refine ⟨fun c => dY (argY m c) (argW m c) (argG m c) (argD m c), fun c => dh (argY m c) (argW m c) (argG m c) (argD m c),
    fun c => dg (argY m c) (argW m c) (argD m c), Cert.MixOutBwdIdeal.Ker.values m ρ, ?_⟩
  refine (θ_run Cert.MixOutBwdRefIdeal.defs _ _).mono (fun r h c => ?_) (Cert.MixOutBwdRefIdeal.Value.run (F := Ideal) m' ρ')
  obtain ⟨e0, e1, e2, e3⟩ := hagree c
  refine ⟨(h c).1.trans ((val_main_v37_eq ..).trans ?_), (h c).2.1.trans ((val_main_v38_eq ..).trans ?_),
    (h c).2.2.1.trans ((val_main_v20_eq ..).trans ?_), (h c).2.2.2⟩
  · rw [e0, e1, e2, e3]; exact reference_dy _ _ _ _
  · rw [e0, e1, e2, e3]; exact reference_dh _ _ _ _
  · rw [e0, e1, e3]; exact reference_dg _ _ _

end Cert.MixOutBwdClaim

end
-- ==== Proof.AttQBwd.lean ====
/-
  The attention's query product backwards, with the normalisation before it. From the gradient `dq` of the queries and the
  weight `w` the kernel forms the gradient `dq wᵀ` of the normalised rows, takes it through the normalisation of `x1`, adds the
  gradient `dx2` that reaches `x1` past the attention, and for each block of 512 rows forms the block's part of the gain's
  gradient, which the host adds up.
-/
module

public import proofs.«01_k».proof.Defs
public import proofs.«01_k».proof.Proof.RmsBwd
public import proofs.«01_k».proof.Proof.Gen.AttQBwd.Frame
public import proofs.«01_k».proof.Proof.Gen.AttQBwdIdeal.Frame
public import proofs.«01_k».proof.Proof.Gen.AttQBwdRefIdeal.Run
public import proofs.«01_k».proof.Proof.Gen.AttQBwdRefIdeal.Read

@[expose] public section

set_option maxRecDepth 16384

noncomputable section

namespace Cert.AttQBwdIdeal.Ker

open Cert.AttQBwdIdeal Cert.AttQBwdIdeal.Gen Cert.Products
open Idealize.ShloMosaic Idealize.ShloMosaic.TcCoe Idealize.SL.Sem Idealize.ShloMosaic.ValueIdx
open Idealize.ShloMosaic.Pipeline (Dat)

/-! ## What one point computes -/

/-- The product of a block of rows with the weight. -/
theorem pay2 (a : FVec Ideal S512x2048 .bf16) (w : FVec Ideal S2048x2048 .bf16) (i : Fin 512) (j : Fin 2048) :
    (k0_pay2 (F := Ideal) a w : FVec Ideal S512x2048 .f32) (ix2 i j) = ∑ k : Fin 2048, a (ix2 i k) * w (ix2 j k) := by
  unfold k0_pay2
  refine (Ideal.matmul_transposedRhs_apply (prec := none) ..).trans ?_
  show Ideal.ofBits .f32 0x00000000#32 + _ = _
  rw [Ideal.ofBits_zero_f32, zero_add]

theorem pay3 (x : FVec Ideal S512x2048 .f32) (i : Fin 512) : (k0_pay3 (F := Ideal) x : FVec Ideal S512x1 .f32) (ix2 i 0) = Rms.rinv (Rms.row x i) :=
  Rms.rinv_kernel x _ _ _ _ i

/-- A block's part of the gain's gradient. -/
theorem pay5 (a : FVec Ideal S512x2048 .bf16) (w : FVec Ideal S2048x2048 .bf16) (x : FVec Ideal S512x2048 .f32) (j : Fin 2048) :
    (k0_pay1 (F := Ideal) (k0_pay5 (F := Ideal) a w x) : FVec Ideal S1x1x2048 .f32) (ix3 0 0 j)
      = ∑ i : Fin 512, Rms.gainTerm x (k0_pay2 (F := Ideal) a w) j i := by
  unfold k0_pay1 k0_pay5 k0_pay4
  exact Rms.gain_kernel x (k0_pay2 (F := Ideal) a w) _ (pay3 x) _ _ _ _ _ _ j

/-- A block's gradient through the normalisation, with the other gradient added. -/
theorem pay6 (a : FVec Ideal S512x2048 .bf16) (w : FVec Ideal S2048x2048 .bf16) (x : FVec Ideal S512x2048 .f32) (g : FVec Ideal S1x2048 .f32)
    (d : FVec Ideal S512x2048 .f32) (i : Fin 512) (j : Fin 2048) : (k0_pay6 (F := Ideal) a w x g d : FVec Ideal S512x2048 .f32) (ix2 i j)
      = d (ix2 i j) + Rms.back (Rms.row x i) (Rms.row (Rms.scaled (k0_pay2 (F := Ideal) a w) g) i) j := by
  unfold k0_pay6 k0_pay4
  dsimp only
  rw [Rms.scaled_kernel]
  exact congrArg (d (ix2 i j) + ·) (Rms.back_kernel x (Rms.scaled (k0_pay2 (F := Ideal) a w) g) _ (pay3 x) _ _ _ _ _ i j)

/-- What a point leaves in its two blocks. -/
theorem outs (a : FVec Ideal S512x2048 .bf16) (w : FVec Ideal S2048x2048 .bf16) (x d : FVec Ideal S512x2048 .f32) (g : FVec Ideal S1x2048 .f32) :
    out0_5 (F := Ideal) a w x d g = k0_pay6 (F := Ideal) a w x g d ∧ out0_6 (F := Ideal) a w x d g = k0_pay1 (F := Ideal) (k0_pay5 (F := Ideal) a w x) := by
  have hz : (![0, 0] : Fin 2 → ℕ) = fun _ => 0 := by decide
  have hz3 : (![0, 0, 0] : Fin 3 → ℕ) = fun _ => 0 := by decide
  unfold out0_5 out0_6
  rw [View.canon_unit_zero hz, View.canon_unit_zero hz3, View.ld_unit_zero hz, View.ld_unit_zero hz, View.ld_unit_zero hz,
    View.ld_unit_zero hz, View.ld_unit_zero hz]
  exact ⟨rfl, rfl⟩

/-! ## The arrays -/

variable (m : (ℓ : Loc nD τ sig) → Buf (Elt Ideal) ℓ) (c : Dev nD)

/-- The gradient of the product, the weight, the rows that were normalised, their other gradient and the gain. -/
abbrev argA : FVec Ideal S2048x2048 .bf16 := m ((c : Thread nD τ).loc main_arg0)
abbrev argW : FVec Ideal S2048x2048 .bf16 := m ((c : Thread nD τ).loc main_arg1)
abbrev argX : FVec Ideal S2048x2048 .f32 := m ((c : Thread nD τ).loc main_arg2)
abbrev argD : FVec Ideal S2048x2048 .f32 := m ((c : Thread nD τ).loc main_arg3)
abbrev argG : FVec Ideal S1x2048 .f32 := m ((c : Thread nD τ).loc main_arg4)

/-- The gradient of the normalised rows. -/
def dn (a : FVec Ideal S2048x2048 .bf16) (w : FVec Ideal S2048x2048 .bf16) : FVec Ideal S2048x2048 .f32 :=
  fun y => ∑ k : Fin 2048, a (ix2 (y 0) k) * w (ix2 (y 1) k)

/-- The two results: the gradients of the rows and of the gain. -/
def dX (a : FVec Ideal S2048x2048 .bf16) (w : FVec Ideal S2048x2048 .bf16) (x d : FVec Ideal S2048x2048 .f32) (g : FVec Ideal S1x2048 .f32) :
    FVec Ideal S2048x2048 .f32 := Rms.dxRes d x (Rms.scaled (dn a w) g)
def dg (a : FVec Ideal S2048x2048 .bf16) (w : FVec Ideal S2048x2048 .bf16) (x : FVec Ideal S2048x2048 .f32) : FVec Ideal S1x2048 .f32 := Rms.gain x (dn a w)
/-- The gain's gradient by blocks of rows, as the kernel leaves it. -/
def dgTiles (a : FVec Ideal S2048x2048 .bf16) (w : FVec Ideal S2048x2048 .bf16) (x : FVec Ideal S2048x2048 .f32) : FVec Ideal S4x1x2048 .f32 :=
  Rms.gainTiles (n := 4) (b := 512) rfl x (dn a w)

/-- Where the windows lie at each point. -/
theorem places : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ win0_6.index t 0 = t.val ∧ win0_6.index t 1 = 0 ∧ win0_6.index t 2 = 0 := by decide +kernel

/-- Row `i` of point `t`'s block, as a row of the whole. -/
abbrev rowOf (t : Fin cfg0.N) (i : Fin 512) : Fin 2048 := Rms.tileRow (n := 4) rfl (t.cast N_0) i

theorem block_a (t : Fin cfg0.N) (i : Fin 512) (k : Fin 2048) : (iblk m c 0 t : FVec Ideal S512x2048 .bf16) (ix2 i k) = argA m c (ix2 (rowOf t i) k) := by
  have hi := (places t).1
  unfold iblk
  rw [View.read_apply]
  refine (congrArg (V m c main_arg0) (?_ : _ = ix2 (rowOf t i) k)).trans (congrFun (V_main_arg0 m c) _)
  funext a
  apply Fin.ext
  match a with
  | ⟨0, _⟩ => show win0_0.index t 0 * 512 + 1 * i.val = 512 * t.val + i.val; rw [hi.1]; omega
  | ⟨1, _⟩ => show win0_0.index t 1 * 2048 + 1 * k.val = k.val; rw [hi.2]; omega

theorem block_w (t : Fin cfg0.N) : (iblk m c 1 t : FVec Ideal S2048x2048 .bf16) = argW m c := by
  have hi := (places t).2.1
  funext y
  unfold iblk
  rw [View.read_apply]
  refine (congrArg (V m c main_arg1) (?_ : _ = y)).trans (congrFun (V_main_arg1 m c) _)
  funext a
  apply Fin.ext
  match a with
  | ⟨0, _⟩ => show win0_1.index t 0 * 2048 + 1 * (y 0).val = (y 0).val; rw [hi.1]; omega
  | ⟨1, _⟩ => show win0_1.index t 1 * 2048 + 1 * (y 1).val = (y 1).val; rw [hi.2]; omega

theorem block_x (t : Fin cfg0.N) (i : Fin 512) (k : Fin 2048) : (iblk m c 2 t : FVec Ideal S512x2048 .f32) (ix2 i k) = argX m c (ix2 (rowOf t i) k) := by
  have hi := (places t).2.2.1
  unfold iblk
  rw [View.read_apply]
  refine (congrArg (V m c main_arg2) (?_ : _ = ix2 (rowOf t i) k)).trans (congrFun (V_main_arg2 m c) _)
  funext a
  apply Fin.ext
  match a with
  | ⟨0, _⟩ => show win0_2.index t 0 * 512 + 1 * i.val = 512 * t.val + i.val; rw [hi.1]; omega
  | ⟨1, _⟩ => show win0_2.index t 1 * 2048 + 1 * k.val = k.val; rw [hi.2]; omega

theorem block_d (t : Fin cfg0.N) (i : Fin 512) (k : Fin 2048) : (iblk m c 3 t : FVec Ideal S512x2048 .f32) (ix2 i k) = argD m c (ix2 (rowOf t i) k) := by
  have hi := (places t).2.2.2.1
  unfold iblk
  rw [View.read_apply]
  refine (congrArg (V m c main_arg3) (?_ : _ = ix2 (rowOf t i) k)).trans (congrFun (V_main_arg3 m c) _)
  funext a
  apply Fin.ext
  match a with
  | ⟨0, _⟩ => show win0_3.index t 0 * 512 + 1 * i.val = 512 * t.val + i.val; rw [hi.1]; omega
  | ⟨1, _⟩ => show win0_3.index t 1 * 2048 + 1 * k.val = k.val; rw [hi.2]; omega

theorem block_g (t : Fin cfg0.N) : (iblk m c 4 t : FVec Ideal S1x2048 .f32) = argG m c := by
  have hi := (places t).2.2.2.2.1
  funext y
  unfold iblk
  rw [View.read_apply]
  refine (congrArg (V m c main_arg4) (?_ : _ = y)).trans (congrFun (V_main_arg4 m c) _)
  funext a
  apply Fin.ext
  match a with
  | ⟨0, _⟩ => show win0_4.index t 0 * 1 + 1 * (y 0).val = (y 0).val; rw [hi.1]; omega
  | ⟨1, _⟩ => show win0_4.index t 1 * 2048 + 1 * (y 1).val = (y 1).val; rw [hi.2]; omega

/-- The product a point forms is a block of the whole product. -/
theorem block_dn (t : Fin cfg0.N) (i : Fin 512) (j : Fin 2048) :
    (k0_pay2 (F := Ideal) (iblk m c 0 t) (iblk m c 1 t) : FVec Ideal S512x2048 .f32) (ix2 i j) = dn (argA m c) (argW m c) (ix2 (rowOf t i) j) := by
  rw [pay2, block_w]
  exact Finset.sum_congr rfl fun k _ => congrArg (· * argW m c (ix2 j k)) (block_a m c t i k)

/-- The rows a point works on are rows of the whole. -/
theorem rows (t : Fin cfg0.N) (i : Fin 512) : Rms.row (iblk m c 2 t : FVec Ideal S512x2048 .f32) i = Rms.row (argX m c) (rowOf t i)
    ∧ Rms.row (Rms.scaled (k0_pay2 (F := Ideal) (iblk m c 0 t) (iblk m c 1 t) : FVec Ideal S512x2048 .f32) (argG m c)) i
      = Rms.row (Rms.scaled (dn (argA m c) (argW m c)) (argG m c)) (rowOf t i) :=
  ⟨funext fun k => block_x m c t i k, funext fun k => congrArg (· * argG m c (ix2 0 k)) (block_dn m c t i k)⟩

/-- The gradient of the rows after the run. -/
theorem final5 : (dats m 0 c).arrAt 5 cfg0.N = dX (argA m c) (argW m c) (argX m c) (argD m c) (argG m c) := by
  refine (dats m 0 c).arrAt_eq_of_cover 5 (dX (argA m c) (argW m c) (argX m c) (argD m c) (argG m c)) (fun t _ => ?_) fun i => ?_
  · have hi := (places t).2.2.2.2.2.1
    show (cfg0.win 5).cut (grid0.coords t) ((dats m 0 c).after 5 t) = _
    rw [after0_5, (outs _ _ _ _ _).1]
    funext j
    rw [View.read_apply]
    obtain ⟨i, k, rfl⟩ : ∃ (i : Fin 512) (k : Fin 2048), j = ix2 i k := ⟨j 0, j 1, eq_ix2 (n0 := 512) (n1 := 2048) j⟩
    have h : (k0_pay6 (F := Ideal) (iblk m c 0 t) (iblk m c 1 t) (iblk m c 2 t) (iblk m c 4 t) (iblk m c 3 t) : FVec Ideal S512x2048 .f32) (ix2 i k)
        = dX (argA m c) (argW m c) (argX m c) (argD m c) (argG m c) (ix2 (rowOf t i) k) := by
      rw [pay6, block_g, block_d, (rows m c t i).1, (rows m c t i).2]
      rfl
    refine Eq.trans h (congrArg (dX (argA m c) (argW m c) (argX m c) (argD m c) (argG m c)) (funext fun a => Fin.ext ?_))
    match a with
    | ⟨0, _⟩ => show 512 * t.val + i.val = win0_5.index t 0 * 512 + 1 * i.val; rw [hi.1]; omega
    | ⟨1, _⟩ => show k.val = win0_5.index t 1 * 2048 + 1 * k.val; rw [hi.2]; omega
  · have hN : cfg0.N = 4 := N_0
    have hb : (i 0).val < 2048 := (i 0).isLt
    have hb1 : (i 1).val < 2048 := (i 1).isLt
    obtain ⟨t, ht⟩ : ∃ t : Fin cfg0.N, t.val = (i 0).val / 512 := ⟨⟨(i 0).val / 512, by omega⟩, rfl⟩
    have hi := (places t).2.2.2.2.2.1
    refine ⟨t, flush0_5 t, ?_⟩
    show i ∈ ((View.whole main_v0_0).slice (win0_5.rect t)).set
    rw [View.set_slice_whole, Rect.mem_set_unit]
    intro a
    match a with
    | ⟨0, _⟩ => show win0_5.index t 0 * 512 ≤ (i 0).val ∧ (i 0).val < win0_5.index t 0 * 512 + 512; rw [hi.1]; omega
    | ⟨1, _⟩ => show win0_5.index t 1 * 2048 ≤ (i 1).val ∧ (i 1).val < win0_5.index t 1 * 2048 + 2048; rw [hi.2]; omega

/-- The blocks of the gain's gradient after the kernel. -/
theorem final6 : (dats m 0 c).arrAt 6 cfg0.N = dgTiles (argA m c) (argW m c) (argX m c) := by
  refine (dats m 0 c).arrAt_eq_of_cover 6 (dgTiles (argA m c) (argW m c) (argX m c)) (fun t _ => ?_) fun i => ?_
  · have hi := (places t).2.2.2.2.2.2
    show (cfg0.win 6).cut (grid0.coords t) ((dats m 0 c).after 6 t) = _
    rw [after0_6, (outs _ _ _ _ _).2]
    funext j
    rw [View.read_apply]
    obtain ⟨a, b, k, rfl⟩ : ∃ (a b : Fin 1) (k : Fin 2048), j = ix3 a b k := ⟨j 0, j 1, j 2, eq_ix3 (n0 := 1) (n1 := 1) (n2 := 2048) j⟩
    obtain rfl : a = 0 := Subsingleton.elim _ _
    obtain rfl : b = 0 := Subsingleton.elim _ _
    have h : (k0_pay1 (F := Ideal) (k0_pay5 (F := Ideal) (iblk m c 0 t) (iblk m c 1 t) (iblk m c 2 t)) : FVec Ideal S1x1x2048 .f32) (ix3 0 0 k)
        = dgTiles (argA m c) (argW m c) (argX m c) (ix3 (t.cast N_0) 0 k) := by
      rw [pay5]
      show _ = ∑ i : Fin 512, Rms.gainTerm (argX m c) (dn (argA m c) (argW m c)) k (rowOf t i)
      refine Finset.sum_congr rfl fun i _ => ?_
      unfold Rms.gainTerm
      rw [block_x, block_dn, (rows m c t i).1]
    refine Eq.trans h (congrArg (dgTiles (argA m c) (argW m c) (argX m c)) (funext fun a => Fin.ext ?_))
    match a with
    | ⟨0, _⟩ => show t.val = win0_6.index t 0 * 1 + 1 * 0; rw [hi.1]; omega
    | ⟨1, _⟩ => show 0 = win0_6.index t 1 * 1 + 1 * 0; rw [hi.2.1]
    | ⟨2, _⟩ => show k.val = win0_6.index t 2 * 2048 + 1 * k.val; rw [hi.2.2]; omega
  · have hN : cfg0.N = 4 := N_0
    have hb : (i 0).val < 4 := (i 0).isLt
    have hb1 : (i 1).val < 1 := (i 1).isLt
    have hb2 : (i 2).val < 2048 := (i 2).isLt
    obtain ⟨t, ht⟩ : ∃ t : Fin cfg0.N, t.val = (i 0).val := ⟨⟨(i 0).val, by omega⟩, rfl⟩
    have hi := (places t).2.2.2.2.2.2
    refine ⟨t, flush0_6 t, ?_⟩
    show i ∈ ((View.whole main_v0_1).slice (win0_6.rect t)).set
    rw [View.set_slice_whole, Rect.mem_set_unit]
    intro a
    match a with
    | ⟨0, _⟩ => show win0_6.index t 0 * 1 ≤ (i 0).val ∧ (i 0).val < win0_6.index t 0 * 1 + 1; rw [hi.1]; omega
    | ⟨1, _⟩ => show win0_6.index t 1 * 1 ≤ (i 1).val ∧ (i 1).val < win0_6.index t 1 * 1 + 1; rw [hi.2.1]; omega
    | ⟨2, _⟩ => show win0_6.index t 2 * 2048 ≤ (i 2).val ∧ (i 2).val < win0_6.index t 2 * 2048 + 2048; rw [hi.2.2]; omega

/-- The host adds the blocks up to the gain's gradient. -/
theorem tail : (Pipeline.afterTail₀ cfgs (dats m) 0 (V0 m) [hostOps1] c main_v1 : FVec Ideal S1x2048 .f32) = dg (argA m c) (argW m c) (argX m c) := by
  have h : (Pipeline.afterTail₀ cfgs (dats m) 0 (V0 m) [hostOps1] c main_v1 : FVec Ideal S1x2048 .f32)
      = Host.reduceAdd (dgTiles (argA m c) (argW m c) (argX m c)) (constant S_ .f32 0x00000000#32) reducesTo_S4x1x2048_S1x2048_d0 h_S_ := by
    have hw := Pipeline.withArrays_arr spec0 (by decide) c (V0 m c) (fun w => (dats m 0 c).arrAt w (cfgs 0).N) 6
    show StableHlo.after hostOps1 _ _ = _
    after_results_simp
    exact congrArg (fun x => Host.reduceAdd (F := Ideal) x (constant S_ .f32 0x00000000#32) reducesTo_S4x1x2048_S1x2048_d0 h_S_)
      (hw.trans (final6 m c))
  exact h.trans (Rms.gain_tiles (n := 4) (b := 512) rfl _ _ _ (by decide) _)

/-- What the run leaves in the results, and that the arguments stay. -/
theorem values (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = dX (argA m c) (argW m c) (argX m c) (argD m c) (argG m c)
    ∧ r.2.mem ((c.tc : Thread nD τ).loc main_v1) = dg (argA m c) (argW m c) (argX m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => ⟨((h c).1 5).trans (final5 m c),
      ((h c).2 main_v1 (Pipeline.mem_restRefs_of main_v1 (by decide) (by decide))).trans (tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.AttQBwdIdeal.Ker

namespace Cert.AttQBwdClaim

open Idealize.ShloMosaic Idealize.ShloMosaic.TcCoe Idealize.SL.Sem Idealize.ShloMosaic.ValueIdx Cert.Products
open Cert.AttQBwdRefIdeal Cert.AttQBwdRefIdeal.Gen Cert.AttQBwdRefIdeal.Read
open Cert.AttQBwdIdeal.Ker (argA argW argX argD argG dn dX dg)

section Reference
variable (a : FVec Ideal S2048x2048 .bf16) (w : FVec Ideal S2048x2048 .bf16) (x d : FVec Ideal S2048x2048 .f32) (g : FVec Ideal S1x2048 .f32)

theorem reference_meanSq (i : Fin 2048) : (val_main_v6 (F := Ideal) x : FVec Ideal S2048x1 .f32) (ix2 i 0) = Rms.meanSq (Rms.row x i) :=
  Rms.meanSq_host x reducesTo_S2048x2048_S2048_d1 (by decide) h_S_ bcast_S2048_S2048x1_0 bcast_S_S2048x1 i

theorem reference_dn : val_main_v18 (F := Ideal) a w = dn a w := by
  funext y
  obtain ⟨i, j, rfl⟩ : ∃ (i : Fin 2048) (j : Fin 2048), y = ix2 i j := ⟨y 0, y 1, eq_ix2 (n0 := 2048) (n1 := 2048) y⟩
  rw [val_main_v18_apply]
  refine Finset.sum_congr rfl fun k _ => congrArg₂ (· * ·) (congrArg a (ix2_ext i k rfl rfl)) ?_
  exact congrArg w (ix2_ext j k rfl rfl)

theorem reference_dx : val_main_v38 (F := Ideal) a w x d g = dX a w x d g := by
  funext y
  obtain ⟨i, j, rfl⟩ : ∃ (i : Fin 2048) (j : Fin 2048), y = ix2 i j := ⟨y 0, y 1, eq_ix2 (n0 := 2048) (n1 := 2048) y⟩
  have ht : val_main_v23 (F := Ideal) a w g = Rms.scaled (dn a w) g := by
    rw [← reference_dn]
    exact Rms.scaled_host _ g bcast_S1x2048_S2048x2048_0_1
  show _ = d (ix2 i j) + Rms.back (Rms.row x i) (Rms.row (Rms.scaled (dn a w) g) i) j
  rw [← ht]
  exact Rms.back_host_res d x _ _ _ (Rms.rinv_host x _ (reference_meanSq x) bcast_S2048x1_S2048x2048_0_1)
    (Rms.slope_host x _ _ (reference_meanSq x) bcast_S2048_S2048x2048_0 reducesTo_S2048x2048_S2048_d1 (by decide)
      reducesTo_S2048x1_S2048_d1 (by decide) h_S_ shapeCasts_S2048_S2048x1 bcast_S_S2048x1) i j

theorem reference_dg : val_main_v21 (F := Ideal) a w x = dg a w x := by
  unfold dg
  rw [← reference_dn]
  exact Rms.gain_host x _ _ (Rms.rinv_host x _ (reference_meanSq x) bcast_S2048x1_S2048x2048_0_1) reducesTo_S2048x2048_S2048_d0 (by decide)
    h_S_ shapeCasts_S2048_S1x2048

end Reference

/-- The kernel's frame. -/
theorem frame_p : Cert.quiescent_AttQBwd := fun m ρ _ => Cert.AttQBwd.Gen.frame m ρ
/-- The idealization's frame. -/
theorem frame_pi : Cert.quiescent_AttQBwdIdeal := fun m ρ _ => Cert.AttQBwdIdeal.Gen.frame m ρ
/-- The reference's frame. -/
theorem frame_ri : Cert.quiescent_AttQBwdRefIdeal := fun m ρ _ =>
  (θ_run Cert.AttQBwdRefIdeal.defs _ _).mono (fun r h => ⟨fun c => (h c).2.2, sem_eq_zero_of_no_sems (by decide) r.2⟩)
    (Cert.AttQBwdRefIdeal.Value.run (F := Ideal) m ρ)

/-- The idealization's two gradients are the reference's. -/
theorem algebraic : Cert.algebraic_AttQBwdIdeal_AttQBwdRefIdeal := by
  intro m ρ m' ρ' _ hagree
  refine ⟨fun c => dX (argA m c) (argW m c) (argX m c) (argD m c) (argG m c), fun c => dg (argA m c) (argW m c) (argX m c),
    Cert.AttQBwdIdeal.Ker.values m ρ, ?_⟩
  refine (θ_run Cert.AttQBwdRefIdeal.defs _ _).mono (fun r h c => ?_) (Cert.AttQBwdRefIdeal.Value.run (F := Ideal) m' ρ')
  obtain ⟨e0, e1, e2, e3, e4⟩ := hagree c
  refine ⟨(h c).1.trans ((val_main_v38_eq ..).trans ?_), (h c).2.1.trans ((val_main_v21_eq ..).trans ?_), (h c).2.2⟩
  · rw [e0, e1, e2, e3, e4]; exact reference_dx _ _ _ _ _
  · rw [e0, e1, e2]; exact reference_dg _ _ _

end Cert.AttQBwdClaim

end
-- ==== Proof.MixInBwd.lean ====
/-
  The mixing block's input product backwards, with the normalisation before it. From the gradient `dz` of the product and the
  weight `w` the kernel forms the gradient `dz w` of the normalised rows, takes it through the normalisation of `x0`, adds the
  gradient `dx1` that reaches `x0` past the mixing block, and for each block of 256 rows forms the block's part of the gain's
  gradient, which the host adds up.
-/
module

public import proofs.«01_k».proof.Defs
public import proofs.«01_k».proof.Proof.RmsBwd
public import proofs.«01_k».proof.Proof.Gen.MixInBwd.Frame
public import proofs.«01_k».proof.Proof.Gen.MixInBwdIdeal.Frame
public import proofs.«01_k».proof.Proof.Gen.MixInBwdRefIdeal.Run
public import proofs.«01_k».proof.Proof.Gen.MixInBwdRefIdeal.Read

@[expose] public section

set_option maxRecDepth 16384

noncomputable section

namespace Cert.MixInBwdIdeal.Ker

open Cert.MixInBwdIdeal Cert.MixInBwdIdeal.Gen Cert.Products
open Idealize.ShloMosaic Idealize.ShloMosaic.TcCoe Idealize.SL.Sem Idealize.ShloMosaic.ValueIdx
open Idealize.ShloMosaic.Pipeline (Dat)

/-! ## What one point computes -/

/-- The product of a block of rows with the weight. -/
theorem pay2 (a : FVec Ideal S256x3584 .bf16) (w : FVec Ideal S3584x2048 .bf16) (i : Fin 256) (j : Fin 2048) :
    (k0_pay2 (F := Ideal) a w : FVec Ideal S256x2048 .f32) (ix2 i j) = ∑ k : Fin 3584, a (ix2 i k) * w (ix2 k j) := by
  unfold k0_pay2
  refine (Ideal.matmul_plain_apply (prec := none) ..).trans ?_
  show Ideal.ofBits .f32 0x00000000#32 + _ = _
  rw [Ideal.ofBits_zero_f32, zero_add]

theorem pay3 (x : FVec Ideal S256x2048 .f32) (i : Fin 256) : (k0_pay3 (F := Ideal) x : FVec Ideal S256x1 .f32) (ix2 i 0) = Rms.rinv (Rms.row x i) :=
  Rms.rinv_kernel x _ _ _ _ i

/-- A block's part of the gain's gradient. -/
theorem pay5 (a : FVec Ideal S256x3584 .bf16) (w : FVec Ideal S3584x2048 .bf16) (x : FVec Ideal S256x2048 .f32) (j : Fin 2048) :
    (k0_pay1 (F := Ideal) (k0_pay5 (F := Ideal) a w x) : FVec Ideal S1x1x2048 .f32) (ix3 0 0 j)
      = ∑ i : Fin 256, Rms.gainTerm x (k0_pay2 (F := Ideal) a w) j i := by
  unfold k0_pay1 k0_pay5 k0_pay4
  exact Rms.gain_kernel x (k0_pay2 (F := Ideal) a w) _ (pay3 x) _ _ _ _ _ _ j

/-- A block's gradient through the normalisation, with the other gradient added. -/
theorem pay6 (a : FVec Ideal S256x3584 .bf16) (w : FVec Ideal S3584x2048 .bf16) (x : FVec Ideal S256x2048 .f32) (g : FVec Ideal S1x2048 .f32)
    (d : FVec Ideal S256x2048 .f32) (i : Fin 256) (j : Fin 2048) : (k0_pay6 (F := Ideal) a w x g d : FVec Ideal S256x2048 .f32) (ix2 i j)
      = d (ix2 i j) + Rms.back (Rms.row x i) (Rms.row (Rms.scaled (k0_pay2 (F := Ideal) a w) g) i) j := by
  unfold k0_pay6 k0_pay4
  dsimp only
  rw [Rms.scaled_kernel]
  exact congrArg (d (ix2 i j) + ·) (Rms.back_kernel x (Rms.scaled (k0_pay2 (F := Ideal) a w) g) _ (pay3 x) _ _ _ _ _ i j)

/-- What a point leaves in its two blocks. -/
theorem outs (a : FVec Ideal S256x3584 .bf16) (w : FVec Ideal S3584x2048 .bf16) (x d : FVec Ideal S256x2048 .f32) (g : FVec Ideal S1x2048 .f32) :
    out0_5 (F := Ideal) a w x d g = k0_pay6 (F := Ideal) a w x g d ∧ out0_6 (F := Ideal) a w x d g = k0_pay1 (F := Ideal) (k0_pay5 (F := Ideal) a w x) := by
  have hz : (![0, 0] : Fin 2 → ℕ) = fun _ => 0 := by decide
  have hz3 : (![0, 0, 0] : Fin 3 → ℕ) = fun _ => 0 := by decide
  unfold out0_5 out0_6
  rw [View.canon_unit_zero hz, View.canon_unit_zero hz3, View.ld_unit_zero hz, View.ld_unit_zero hz, View.ld_unit_zero hz,
    View.ld_unit_zero hz, View.ld_unit_zero hz]
  exact ⟨rfl, rfl⟩

/-! ## The arrays -/

variable (m : (ℓ : Loc nD τ sig) → Buf (Elt Ideal) ℓ) (c : Dev nD)

/-- The gradient of the product, the weight, the rows that were normalised, their other gradient and the gain. -/
abbrev argA : FVec Ideal S2048x3584 .bf16 := m ((c : Thread nD τ).loc main_arg0)
abbrev argW : FVec Ideal S3584x2048 .bf16 := m ((c : Thread nD τ).loc main_arg1)
abbrev argX : FVec Ideal S2048x2048 .f32 := m ((c : Thread nD τ).loc main_arg2)
abbrev argD : FVec Ideal S2048x2048 .f32 := m ((c : Thread nD τ).loc main_arg3)
abbrev argG : FVec Ideal S1x2048 .f32 := m ((c : Thread nD τ).loc main_arg4)

/-- The gradient of the normalised rows. -/
def dn (a : FVec Ideal S2048x3584 .bf16) (w : FVec Ideal S3584x2048 .bf16) : FVec Ideal S2048x2048 .f32 :=
  fun y => ∑ k : Fin 3584, a (ix2 (y 0) k) * w (ix2 k (y 1))

/-- The two results: the gradients of the rows and of the gain. -/
def dX (a : FVec Ideal S2048x3584 .bf16) (w : FVec Ideal S3584x2048 .bf16) (x d : FVec Ideal S2048x2048 .f32) (g : FVec Ideal S1x2048 .f32) :
    FVec Ideal S2048x2048 .f32 := Rms.dxRes d x (Rms.scaled (dn a w) g)
def dg (a : FVec Ideal S2048x3584 .bf16) (w : FVec Ideal S3584x2048 .bf16) (x : FVec Ideal S2048x2048 .f32) : FVec Ideal S1x2048 .f32 := Rms.gain x (dn a w)
/-- The gain's gradient by blocks of rows, as the kernel leaves it. -/
def dgTiles (a : FVec Ideal S2048x3584 .bf16) (w : FVec Ideal S3584x2048 .bf16) (x : FVec Ideal S2048x2048 .f32) : FVec Ideal S8x1x2048 .f32 :=
  Rms.gainTiles (n := 8) (b := 256) rfl x (dn a w)

/-- Where the windows lie at each point. -/
theorem places : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ win0_6.index t 0 = t.val ∧ win0_6.index t 1 = 0 ∧ win0_6.index t 2 = 0 := by decide +kernel

/-- Row `i` of point `t`'s block, as a row of the whole. -/
abbrev rowOf (t : Fin cfg0.N) (i : Fin 256) : Fin 2048 := Rms.tileRow (n := 8) rfl (t.cast N_0) i

theorem block_a (t : Fin cfg0.N) (i : Fin 256) (k : Fin 3584) : (iblk m c 0 t : FVec Ideal S256x3584 .bf16) (ix2 i k) = argA m c (ix2 (rowOf t i) k) := by
  have hi := (places t).1
  unfold iblk
  rw [View.read_apply]
  refine (congrArg (V m c main_arg0) (?_ : _ = ix2 (rowOf t i) k)).trans (congrFun (V_main_arg0 m c) _)
  funext a
  apply Fin.ext
  match a with
  | ⟨0, _⟩ => show win0_0.index t 0 * 256 + 1 * i.val = 256 * t.val + i.val; rw [hi.1]; omega
  | ⟨1, _⟩ => show win0_0.index t 1 * 3584 + 1 * k.val = k.val; rw [hi.2]; omega

theorem block_w (t : Fin cfg0.N) : (iblk m c 1 t : FVec Ideal S3584x2048 .bf16) = argW m c := by
  have hi := (places t).2.1
  funext y
  unfold iblk
  rw [View.read_apply]
  refine (congrArg (V m c main_arg1) (?_ : _ = y)).trans (congrFun (V_main_arg1 m c) _)
  funext a
  apply Fin.ext
  match a with
  | ⟨0, _⟩ => show win0_1.index t 0 * 3584 + 1 * (y 0).val = (y 0).val; rw [hi.1]; omega
  | ⟨1, _⟩ => show win0_1.index t 1 * 2048 + 1 * (y 1).val = (y 1).val; rw [hi.2]; omega

theorem block_x (t : Fin cfg0.N) (i : Fin 256) (k : Fin 2048) : (iblk m c 2 t : FVec Ideal S256x2048 .f32) (ix2 i k) = argX m c (ix2 (rowOf t i) k) := by
  have hi := (places t).2.2.1
  unfold iblk
  rw [View.read_apply]
  refine (congrArg (V m c main_arg2) (?_ : _ = ix2 (rowOf t i) k)).trans (congrFun (V_main_arg2 m c) _)
  funext a
  apply Fin.ext
  match a with
  | ⟨0, _⟩ => show win0_2.index t 0 * 256 + 1 * i.val = 256 * t.val + i.val; rw [hi.1]; omega
  | ⟨1, _⟩ => show win0_2.index t 1 * 2048 + 1 * k.val = k.val; rw [hi.2]; omega

theorem block_d (t : Fin cfg0.N) (i : Fin 256) (k : Fin 2048) : (iblk m c 3 t : FVec Ideal S256x2048 .f32) (ix2 i k) = argD m c (ix2 (rowOf t i) k) := by
  have hi := (places t).2.2.2.1
  unfold iblk
  rw [View.read_apply]
  refine (congrArg (V m c main_arg3) (?_ : _ = ix2 (rowOf t i) k)).trans (congrFun (V_main_arg3 m c) _)
  funext a
  apply Fin.ext
  match a with
  | ⟨0, _⟩ => show win0_3.index t 0 * 256 + 1 * i.val = 256 * t.val + i.val; rw [hi.1]; omega
  | ⟨1, _⟩ => show win0_3.index t 1 * 2048 + 1 * k.val = k.val; rw [hi.2]; omega

theorem block_g (t : Fin cfg0.N) : (iblk m c 4 t : FVec Ideal S1x2048 .f32) = argG m c := by
  have hi := (places t).2.2.2.2.1
  funext y
  unfold iblk
  rw [View.read_apply]
  refine (congrArg (V m c main_arg4) (?_ : _ = y)).trans (congrFun (V_main_arg4 m c) _)
  funext a
  apply Fin.ext
  match a with
  | ⟨0, _⟩ => show win0_4.index t 0 * 1 + 1 * (y 0).val = (y 0).val; rw [hi.1]; omega
  | ⟨1, _⟩ => show win0_4.index t 1 * 2048 + 1 * (y 1).val = (y 1).val; rw [hi.2]; omega

/-- The product a point forms is a block of the whole product. -/
theorem block_dn (t : Fin cfg0.N) (i : Fin 256) (j : Fin 2048) :
    (k0_pay2 (F := Ideal) (iblk m c 0 t) (iblk m c 1 t) : FVec Ideal S256x2048 .f32) (ix2 i j) = dn (argA m c) (argW m c) (ix2 (rowOf t i) j) := by
  rw [pay2, block_w]
  exact Finset.sum_congr rfl fun k _ => congrArg (· * argW m c (ix2 k j)) (block_a m c t i k)

/-- The rows a point works on are rows of the whole. -/
theorem rows (t : Fin cfg0.N) (i : Fin 256) : Rms.row (iblk m c 2 t : FVec Ideal S256x2048 .f32) i = Rms.row (argX m c) (rowOf t i)
    ∧ Rms.row (Rms.scaled (k0_pay2 (F := Ideal) (iblk m c 0 t) (iblk m c 1 t) : FVec Ideal S256x2048 .f32) (argG m c)) i
      = Rms.row (Rms.scaled (dn (argA m c) (argW m c)) (argG m c)) (rowOf t i) :=
  ⟨funext fun k => block_x m c t i k, funext fun k => congrArg (· * argG m c (ix2 0 k)) (block_dn m c t i k)⟩

/-- The gradient of the rows after the run. -/
theorem final5 : (dats m 0 c).arrAt 5 cfg0.N = dX (argA m c) (argW m c) (argX m c) (argD m c) (argG m c) := by
  refine (dats m 0 c).arrAt_eq_of_cover 5 (dX (argA m c) (argW m c) (argX m c) (argD m c) (argG m c)) (fun t _ => ?_) fun i => ?_
  · have hi := (places t).2.2.2.2.2.1
    show (cfg0.win 5).cut (grid0.coords t) ((dats m 0 c).after 5 t) = _
    rw [after0_5, (outs _ _ _ _ _).1]
    funext j
    rw [View.read_apply]
    obtain ⟨i, k, rfl⟩ : ∃ (i : Fin 256) (k : Fin 2048), j = ix2 i k := ⟨j 0, j 1, eq_ix2 (n0 := 256) (n1 := 2048) j⟩
    have h : (k0_pay6 (F := Ideal) (iblk m c 0 t) (iblk m c 1 t) (iblk m c 2 t) (iblk m c 4 t) (iblk m c 3 t) : FVec Ideal S256x2048 .f32) (ix2 i k)
        = dX (argA m c) (argW m c) (argX m c) (argD m c) (argG m c) (ix2 (rowOf t i) k) := by
      rw [pay6, block_g, block_d, (rows m c t i).1, (rows m c t i).2]
      rfl
    refine Eq.trans h (congrArg (dX (argA m c) (argW m c) (argX m c) (argD m c) (argG m c)) (funext fun a => Fin.ext ?_))
    match a with
    | ⟨0, _⟩ => show 256 * t.val + i.val = win0_5.index t 0 * 256 + 1 * i.val; rw [hi.1]; omega
    | ⟨1, _⟩ => show k.val = win0_5.index t 1 * 2048 + 1 * k.val; rw [hi.2]; omega
  · have hN : cfg0.N = 8 := N_0
    have hb : (i 0).val < 2048 := (i 0).isLt
    have hb1 : (i 1).val < 2048 := (i 1).isLt
    obtain ⟨t, ht⟩ : ∃ t : Fin cfg0.N, t.val = (i 0).val / 256 := ⟨⟨(i 0).val / 256, by omega⟩, rfl⟩
    have hi := (places t).2.2.2.2.2.1
    refine ⟨t, flush0_5 t, ?_⟩
    show i ∈ ((View.whole main_v0_0).slice (win0_5.rect t)).set
    rw [View.set_slice_whole, Rect.mem_set_unit]
    intro a
    match a with
    | ⟨0, _⟩ => show win0_5.index t 0 * 256 ≤ (i 0).val ∧ (i 0).val < win0_5.index t 0 * 256 + 256; rw [hi.1]; omega
    | ⟨1, _⟩ => show win0_5.index t 1 * 2048 ≤ (i 1).val ∧ (i 1).val < win0_5.index t 1 * 2048 + 2048; rw [hi.2]; omega

/-- The blocks of the gain's gradient after the kernel. -/
theorem final6 : (dats m 0 c).arrAt 6 cfg0.N = dgTiles (argA m c) (argW m c) (argX m c) := by
  refine (dats m 0 c).arrAt_eq_of_cover 6 (dgTiles (argA m c) (argW m c) (argX m c)) (fun t _ => ?_) fun i => ?_
  · have hi := (places t).2.2.2.2.2.2
    show (cfg0.win 6).cut (grid0.coords t) ((dats m 0 c).after 6 t) = _
    rw [after0_6, (outs _ _ _ _ _).2]
    funext j
    rw [View.read_apply]
    obtain ⟨a, b, k, rfl⟩ : ∃ (a b : Fin 1) (k : Fin 2048), j = ix3 a b k := ⟨j 0, j 1, j 2, eq_ix3 (n0 := 1) (n1 := 1) (n2 := 2048) j⟩
    obtain rfl : a = 0 := Subsingleton.elim _ _
    obtain rfl : b = 0 := Subsingleton.elim _ _
    have h : (k0_pay1 (F := Ideal) (k0_pay5 (F := Ideal) (iblk m c 0 t) (iblk m c 1 t) (iblk m c 2 t)) : FVec Ideal S1x1x2048 .f32) (ix3 0 0 k)
        = dgTiles (argA m c) (argW m c) (argX m c) (ix3 (t.cast N_0) 0 k) := by
      rw [pay5]
      show _ = ∑ i : Fin 256, Rms.gainTerm (argX m c) (dn (argA m c) (argW m c)) k (rowOf t i)
      refine Finset.sum_congr rfl fun i _ => ?_
      unfold Rms.gainTerm
      rw [block_x, block_dn, (rows m c t i).1]
    refine Eq.trans h (congrArg (dgTiles (argA m c) (argW m c) (argX m c)) (funext fun a => Fin.ext ?_))
    match a with
    | ⟨0, _⟩ => show t.val = win0_6.index t 0 * 1 + 1 * 0; rw [hi.1]; omega
    | ⟨1, _⟩ => show 0 = win0_6.index t 1 * 1 + 1 * 0; rw [hi.2.1]
    | ⟨2, _⟩ => show k.val = win0_6.index t 2 * 2048 + 1 * k.val; rw [hi.2.2]; omega
  · have hN : cfg0.N = 8 := N_0
    have hb : (i 0).val < 8 := (i 0).isLt
    have hb1 : (i 1).val < 1 := (i 1).isLt
    have hb2 : (i 2).val < 2048 := (i 2).isLt
    obtain ⟨t, ht⟩ : ∃ t : Fin cfg0.N, t.val = (i 0).val := ⟨⟨(i 0).val, by omega⟩, rfl⟩
    have hi := (places t).2.2.2.2.2.2
    refine ⟨t, flush0_6 t, ?_⟩
    show i ∈ ((View.whole main_v0_1).slice (win0_6.rect t)).set
    rw [View.set_slice_whole, Rect.mem_set_unit]
    intro a
    match a with
    | ⟨0, _⟩ => show win0_6.index t 0 * 1 ≤ (i 0).val ∧ (i 0).val < win0_6.index t 0 * 1 + 1; rw [hi.1]; omega
    | ⟨1, _⟩ => show win0_6.index t 1 * 1 ≤ (i 1).val ∧ (i 1).val < win0_6.index t 1 * 1 + 1; rw [hi.2.1]; omega
    | ⟨2, _⟩ => show win0_6.index t 2 * 2048 ≤ (i 2).val ∧ (i 2).val < win0_6.index t 2 * 2048 + 2048; rw [hi.2.2]; omega

/-- The host adds the blocks up to the gain's gradient. -/
theorem tail : (Pipeline.afterTail₀ cfgs (dats m) 0 (V0 m) [hostOps1] c main_v1 : FVec Ideal S1x2048 .f32) = dg (argA m c) (argW m c) (argX m c) := by
  have h : (Pipeline.afterTail₀ cfgs (dats m) 0 (V0 m) [hostOps1] c main_v1 : FVec Ideal S1x2048 .f32)
      = Host.reduceAdd (dgTiles (argA m c) (argW m c) (argX m c)) (constant S_ .f32 0x00000000#32) reducesTo_S8x1x2048_S1x2048_d0 h_S_ := by
    have hw := Pipeline.withArrays_arr spec0 (by decide) c (V0 m c) (fun w => (dats m 0 c).arrAt w (cfgs 0).N) 6
    show StableHlo.after hostOps1 _ _ = _
    after_results_simp
    exact congrArg (fun x => Host.reduceAdd (F := Ideal) x (constant S_ .f32 0x00000000#32) reducesTo_S8x1x2048_S1x2048_d0 h_S_)
      (hw.trans (final6 m c))
  exact h.trans (Rms.gain_tiles (n := 8) (b := 256) rfl _ _ _ (by decide) _)

/-- What the run leaves in the results, and that the arguments stay. -/
theorem values (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = dX (argA m c) (argW m c) (argX m c) (argD m c) (argG m c)
    ∧ r.2.mem ((c.tc : Thread nD τ).loc main_v1) = dg (argA m c) (argW m c) (argX m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => ⟨((h c).1 5).trans (final5 m c),
      ((h c).2 main_v1 (Pipeline.mem_restRefs_of main_v1 (by decide) (by decide))).trans (tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.MixInBwdIdeal.Ker

namespace Cert.MixInBwdClaim

open Idealize.ShloMosaic Idealize.ShloMosaic.TcCoe Idealize.SL.Sem Idealize.ShloMosaic.ValueIdx Cert.Products
open Cert.MixInBwdRefIdeal Cert.MixInBwdRefIdeal.Gen Cert.MixInBwdRefIdeal.Read
open Cert.MixInBwdIdeal.Ker (argA argW argX argD argG dn dX dg)

section Reference
variable (a : FVec Ideal S2048x3584 .bf16) (w : FVec Ideal S3584x2048 .bf16) (x d : FVec Ideal S2048x2048 .f32) (g : FVec Ideal S1x2048 .f32)

theorem reference_meanSq (i : Fin 2048) : (val_main_v6 (F := Ideal) x : FVec Ideal S2048x1 .f32) (ix2 i 0) = Rms.meanSq (Rms.row x i) :=
  Rms.meanSq_host x reducesTo_S2048x2048_S2048_d1 (by decide) h_S_ bcast_S2048_S2048x1_0 bcast_S_S2048x1 i

theorem reference_dn : val_main_v19 (F := Ideal) a w = dn a w := by
  funext y
  obtain ⟨i, j, rfl⟩ : ∃ (i : Fin 2048) (j : Fin 2048), y = ix2 i j := ⟨y 0, y 1, eq_ix2 (n0 := 2048) (n1 := 2048) y⟩
  rw [val_main_v19_apply]
  refine Finset.sum_congr rfl fun k _ => congrArg₂ (· * ·) (congrArg a (ix2_ext i k rfl rfl)) ?_
  rw [val_main_v16_apply]
  exact congrArg w (ix2_ext k j rfl rfl)

theorem reference_dx : val_main_v39 (F := Ideal) a w x d g = dX a w x d g := by
  funext y
  obtain ⟨i, j, rfl⟩ : ∃ (i : Fin 2048) (j : Fin 2048), y = ix2 i j := ⟨y 0, y 1, eq_ix2 (n0 := 2048) (n1 := 2048) y⟩
  have ht : val_main_v24 (F := Ideal) a w g = Rms.scaled (dn a w) g := by
    rw [← reference_dn]
    exact Rms.scaled_host _ g bcast_S1x2048_S2048x2048_0_1
  show _ = d (ix2 i j) + Rms.back (Rms.row x i) (Rms.row (Rms.scaled (dn a w) g) i) j
  rw [← ht]
  exact Rms.back_host_res d x _ _ _ (Rms.rinv_host x _ (reference_meanSq x) bcast_S2048x1_S2048x2048_0_1)
    (Rms.slope_host x _ _ (reference_meanSq x) bcast_S2048_S2048x2048_0 reducesTo_S2048x2048_S2048_d1 (by decide)
      reducesTo_S2048x1_S2048_d1 (by decide) h_S_ shapeCasts_S2048_S2048x1 bcast_S_S2048x1) i j

theorem reference_dg : val_main_v22 (F := Ideal) a w x = dg a w x := by
  unfold dg
  rw [← reference_dn]
  exact Rms.gain_host x _ _ (Rms.rinv_host x _ (reference_meanSq x) bcast_S2048x1_S2048x2048_0_1) reducesTo_S2048x2048_S2048_d0 (by decide)
    h_S_ shapeCasts_S2048_S1x2048

end Reference

/-- The kernel's frame. -/
theorem frame_p : Cert.quiescent_MixInBwd := fun m ρ _ => Cert.MixInBwd.Gen.frame m ρ
/-- The idealization's frame. -/
theorem frame_pi : Cert.quiescent_MixInBwdIdeal := fun m ρ _ => Cert.MixInBwdIdeal.Gen.frame m ρ
/-- The reference's frame. -/
theorem frame_ri : Cert.quiescent_MixInBwdRefIdeal := fun m ρ _ =>
  (θ_run Cert.MixInBwdRefIdeal.defs _ _).mono (fun r h => ⟨fun c => (h c).2.2, sem_eq_zero_of_no_sems (by decide) r.2⟩)
    (Cert.MixInBwdRefIdeal.Value.run (F := Ideal) m ρ)

/-- The idealization's two gradients are the reference's. -/
theorem algebraic : Cert.algebraic_MixInBwdIdeal_MixInBwdRefIdeal := by
  intro m ρ m' ρ' _ hagree
  refine ⟨fun c => dX (argA m c) (argW m c) (argX m c) (argD m c) (argG m c), fun c => dg (argA m c) (argW m c) (argX m c),
    Cert.MixInBwdIdeal.Ker.values m ρ, ?_⟩
  refine (θ_run Cert.MixInBwdRefIdeal.defs _ _).mono (fun r h c => ?_) (Cert.MixInBwdRefIdeal.Value.run (F := Ideal) m' ρ')
  obtain ⟨e0, e1, e2, e3, e4⟩ := hagree c
  refine ⟨(h c).1.trans ((val_main_v39_eq ..).trans ?_), (h c).2.1.trans ((val_main_v22_eq ..).trans ?_), (h c).2.2⟩
  · rw [e0, e1, e2, e3, e4]; exact reference_dx _ _ _ _ _
  · rw [e0, e1, e2]; exact reference_dg _ _ _

end Cert.MixInBwdClaim

end
-- ==== Proof.AttKvBwd.lean ====
/-
  The attention's key and value products backwards, as far as the gain of the memory's normalisation. From the gradients
  `dk` and `dv` of the keys and the values the kernel forms the gradient `dk wkᵀ + dv wvᵀ` of the normalised memory and the
  gain's gradient, which the host sums over the one block there is.
-/
module

public import proofs.«01_k».proof.Defs
public import proofs.«01_k».proof.Proof.RmsBwd
public import proofs.«01_k».proof.Proof.Gen.AttKvBwd.Frame
public import proofs.«01_k».proof.Proof.Gen.AttKvBwdIdeal.Frame
public import proofs.«01_k».proof.Proof.Gen.AttKvBwdRefIdeal.Run
public import proofs.«01_k».proof.Proof.Gen.AttKvBwdRefIdeal.Read

@[expose] public section

set_option maxRecDepth 16384

noncomputable section

namespace Cert.AttKvBwdIdeal.Ker

open Cert.AttKvBwdIdeal Cert.AttKvBwdIdeal.Gen Cert.Products
open Idealize.ShloMosaic Idealize.ShloMosaic.TcCoe Idealize.SL.Sem Idealize.ShloMosaic.ValueIdx
open Idealize.ShloMosaic.Pipeline (Dat)

/-! ## What one point computes -/

/-- The gradient of the normalised memory. -/
def dn (dk : FVec Ideal S256x2048 .bf16) (wk : FVec Ideal S2048x2048 .bf16) (dv : FVec Ideal S256x2048 .bf16) (wv : FVec Ideal S2048x2048 .bf16) :
    FVec Ideal S256x2048 .f32 :=
  fun y => (∑ k : Fin 2048, dk (ix2 (y 0) k) * wk (ix2 (y 1) k)) + ∑ k : Fin 2048, dv (ix2 (y 0) k) * wv (ix2 (y 1) k)

/-- One of its two products. -/
theorem product (a : FVec Ideal S256x2048 .bf16) (w : FVec Ideal S2048x2048 .bf16) (i : Fin 256) (j : Fin 2048) :
    matmul dot_S256x2048_S2048x2048_S256x2048_1_1_0_0_n_n none a w (constant (F := Ideal) S256x2048 .f32 0x00000000#32) (ix2 i j)
      = ∑ k : Fin 2048, a (ix2 i k) * w (ix2 j k) := by
  refine (Ideal.matmul_transposedRhs_apply (prec := none) ..).trans ?_
  show Ideal.ofBits .f32 0x00000000#32 + _ = _
  rw [Ideal.ofBits_zero_f32, zero_add]

/-- The gain's gradient over the memory's rows. -/
theorem pay1 (dk : FVec Ideal S256x2048 .bf16) (wk : FVec Ideal S2048x2048 .bf16) (dv : FVec Ideal S256x2048 .bf16) (wv : FVec Ideal S2048x2048 .bf16)
    (x : FVec Ideal S256x2048 .f32) (j : Fin 2048) :
    (k0_pay1 (F := Ideal) dk wk dv wv x : FVec Ideal S1x1x2048 .f32) (ix3 0 0 j) = ∑ i : Fin 256, Rms.gainTerm x (dn dk wk dv wv) j i := by
  unfold k0_pay1
  dsimp only
  have h : addf (matmul dot_S256x2048_S2048x2048_S256x2048_1_1_0_0_n_n none dk wk (constant (F := Ideal) S256x2048 .f32 0x00000000#32))
      (matmul dot_S256x2048_S2048x2048_S256x2048_1_1_0_0_n_n none dv wv (constant (F := Ideal) S256x2048 .f32 0x00000000#32)) = dn dk wk dv wv := by
    funext y
    obtain ⟨i, k, rfl⟩ : ∃ (i : Fin 256) (k : Fin 2048), y = ix2 i k := ⟨y 0, y 1, eq_ix2 (n0 := 256) (n1 := 2048) y⟩
    exact congrArg₂ (· + ·) (product dk wk i k) (product dv wv i k)
  rw [h]
  exact Rms.gain_kernel x (dn dk wk dv wv) _ (fun i => Rms.rinv_kernel x _ _ _ _ i) _ _ _ _ _ _ j

/-- What the point leaves in its block. -/
theorem outs (dk dv : FVec Ideal S256x2048 .bf16) (wk wv : FVec Ideal S2048x2048 .bf16) (x : FVec Ideal S256x2048 .f32) (g : FVec Ideal S1x2048 .f32) :
    out0_6 (F := Ideal) dk dv wk wv x g = k0_pay1 (F := Ideal) dk wk dv wv x := by
  have hz : (![0, 0] : Fin 2 → ℕ) = fun _ => 0 := by decide
  have hz3 : (![0, 0, 0] : Fin 3 → ℕ) = fun _ => 0 := by decide
  unfold out0_6
  rw [View.canon_unit_zero hz3, View.ld_unit_zero hz, View.ld_unit_zero hz, View.ld_unit_zero hz, View.ld_unit_zero hz, View.ld_unit_zero hz]

/-! ## The arrays -/

variable (m : (ℓ : Loc nD τ sig) → Buf (Elt Ideal) ℓ) (c : Dev nD)

/-- The gradients of the keys and the values, each with its weight, and the memory. -/
abbrev argK : FVec Ideal S256x2048 .bf16 := m ((c : Thread nD τ).loc main_arg0)
abbrev argWk : FVec Ideal S2048x2048 .bf16 := m ((c : Thread nD τ).loc main_arg1)
abbrev argV : FVec Ideal S256x2048 .bf16 := m ((c : Thread nD τ).loc main_arg2)
abbrev argWv : FVec Ideal S2048x2048 .bf16 := m ((c : Thread nD τ).loc main_arg3)
abbrev argX : FVec Ideal S256x2048 .f32 := m ((c : Thread nD τ).loc main_arg4)

/-- The result: the gradient of the gain. -/
def dg (dk : FVec Ideal S256x2048 .bf16) (wk : FVec Ideal S2048x2048 .bf16) (dv : FVec Ideal S256x2048 .bf16) (wv : FVec Ideal S2048x2048 .bf16)
    (x : FVec Ideal S256x2048 .f32) : FVec Ideal S1x2048 .f32 := Rms.gain x (dn dk wk dv wv)
/-- The gain's gradient as the kernel leaves it, as one block. -/
def dgTiles (dk : FVec Ideal S256x2048 .bf16) (wk : FVec Ideal S2048x2048 .bf16) (dv : FVec Ideal S256x2048 .bf16) (wv : FVec Ideal S2048x2048 .bf16)
    (x : FVec Ideal S256x2048 .f32) : FVec Ideal S1x1x2048 .f32 := Rms.gainTiles (n := 1) (b := 256) rfl x (dn dk wk dv wv)

/-- Every window lies at the start of its array. -/
theorem places : ∀ t : Fin grid0.N, (win0_0.index t 0 = 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ win0_6.index t 0 = 0 ∧ win0_6.index t 1 = 0 ∧ win0_6.index t 2 = 0 := by decide +kernel

theorem block_k (t : Fin cfg0.N) : (iblk m c 0 t : FVec Ideal S256x2048 .bf16) = argK m c := by
  have hi := (places t).1
  funext y
  unfold iblk
  rw [View.read_apply]
  refine (congrArg (V m c main_arg0) (?_ : _ = y)).trans (congrFun (V_main_arg0 m c) _)
  funext a
  apply Fin.ext
  match a with
  | ⟨0, _⟩ => show win0_0.index t 0 * 256 + 1 * (y 0).val = (y 0).val; rw [hi.1]; omega
  | ⟨1, _⟩ => show win0_0.index t 1 * 2048 + 1 * (y 1).val = (y 1).val; rw [hi.2]; omega

theorem block_v (t : Fin cfg0.N) : (iblk m c 1 t : FVec Ideal S256x2048 .bf16) = argV m c := by
  have hi := (places t).2.1
  funext y
  unfold iblk
  rw [View.read_apply]
  refine (congrArg (V m c main_arg2) (?_ : _ = y)).trans (congrFun (V_main_arg2 m c) _)
  funext a
  apply Fin.ext
  match a with
  | ⟨0, _⟩ => show win0_1.index t 0 * 256 + 1 * (y 0).val = (y 0).val; rw [hi.1]; omega
  | ⟨1, _⟩ => show win0_1.index t 1 * 2048 + 1 * (y 1).val = (y 1).val; rw [hi.2]; omega

theorem block_wk (t : Fin cfg0.N) : (iblk m c 2 t : FVec Ideal S2048x2048 .bf16) = argWk m c := by
  have hi := (places t).2.2.1
  funext y
  unfold iblk
  rw [View.read_apply]
  refine (congrArg (V m c main_arg1) (?_ : _ = y)).trans (congrFun (V_main_arg1 m c) _)
  funext a
  apply Fin.ext
  match a with
  | ⟨0, _⟩ => show win0_2.index t 0 * 2048 + 1 * (y 0).val = (y 0).val; rw [hi.1]; omega
  | ⟨1, _⟩ => show win0_2.index t 1 * 2048 + 1 * (y 1).val = (y 1).val; rw [hi.2]; omega

theorem block_wv (t : Fin cfg0.N) : (iblk m c 3 t : FVec Ideal S2048x2048 .bf16) = argWv m c := by
  have hi := (places t).2.2.2.1
  funext y
  unfold iblk
  rw [View.read_apply]
  refine (congrArg (V m c main_arg3) (?_ : _ = y)).trans (congrFun (V_main_arg3 m c) _)
  funext a
  apply Fin.ext
  match a with
  | ⟨0, _⟩ => show win0_3.index t 0 * 2048 + 1 * (y 0).val = (y 0).val; rw [hi.1]; omega
  | ⟨1, _⟩ => show win0_3.index t 1 * 2048 + 1 * (y 1).val = (y 1).val; rw [hi.2]; omega

theorem block_x (t : Fin cfg0.N) : (iblk m c 4 t : FVec Ideal S256x2048 .f32) = argX m c := by
  have hi := (places t).2.2.2.2.1
  funext y
  unfold iblk
  rw [View.read_apply]
  refine (congrArg (V m c main_arg4) (?_ : _ = y)).trans (congrFun (V_main_arg4 m c) _)
  funext a
  apply Fin.ext
  match a with
  | ⟨0, _⟩ => show win0_4.index t 0 * 256 + 1 * (y 0).val = (y 0).val; rw [hi.1]; omega
  | ⟨1, _⟩ => show win0_4.index t 1 * 2048 + 1 * (y 1).val = (y 1).val; rw [hi.2]; omega

/-- The one block of rows is the whole. -/
theorem oneTile (i : Fin 256) : Rms.tileRow (n := 1) (M := 256) rfl 0 i = i := Fin.ext (Nat.zero_add i.val)

/-- The blocks of the gain's gradient after the kernel. -/
theorem final6 : (dats m 0 c).arrAt 6 cfg0.N = dgTiles (argK m c) (argWk m c) (argV m c) (argWv m c) (argX m c) := by
  refine (dats m 0 c).arrAt_eq_of_cover 6 (dgTiles (argK m c) (argWk m c) (argV m c) (argWv m c) (argX m c)) (fun t _ => ?_) fun i => ?_
  · have hi := (places t).2.2.2.2.2
    show (cfg0.win 6).cut (grid0.coords t) ((dats m 0 c).after 6 t) = _
    rw [after0_6, outs]
    funext j
    rw [View.read_apply]
    obtain ⟨a, b, k, rfl⟩ : ∃ (a b : Fin 1) (k : Fin 2048), j = ix3 a b k := ⟨j 0, j 1, j 2, eq_ix3 (n0 := 1) (n1 := 1) (n2 := 2048) j⟩
    obtain rfl : a = 0 := Subsingleton.elim _ _
    obtain rfl : b = 0 := Subsingleton.elim _ _
    have h : (k0_pay1 (F := Ideal) (iblk m c 0 t) (iblk m c 2 t) (iblk m c 1 t) (iblk m c 3 t) (iblk m c 4 t) : FVec Ideal S1x1x2048 .f32) (ix3 0 0 k)
        = dgTiles (argK m c) (argWk m c) (argV m c) (argWv m c) (argX m c) (ix3 0 0 k) := by
      rw [pay1, block_k, block_v, block_wk, block_wv, block_x]
      show _ = ∑ i : Fin 256, Rms.gainTerm (argX m c) (dn (argK m c) (argWk m c) (argV m c) (argWv m c)) k (Rms.tileRow (n := 1) (M := 256) rfl 0 i)
      exact Finset.sum_congr rfl fun i _ => by rw [oneTile]
    refine Eq.trans h (congrArg (dgTiles (argK m c) (argWk m c) (argV m c) (argWv m c) (argX m c)) (funext fun a => Fin.ext ?_))
    match a with
    | ⟨0, _⟩ => show 0 = win0_6.index t 0 * 1 + 1 * 0; rw [hi.1]
    | ⟨1, _⟩ => show 0 = win0_6.index t 1 * 1 + 1 * 0; rw [hi.2.1]
    | ⟨2, _⟩ => show k.val = win0_6.index t 2 * 2048 + 1 * k.val; rw [hi.2.2]; omega
  · have hN : cfg0.N = 1 := N_0
    have hb : (i 0).val < 1 := (i 0).isLt
    have hb1 : (i 1).val < 1 := (i 1).isLt
    have hb2 : (i 2).val < 2048 := (i 2).isLt
    obtain ⟨t, ht⟩ : ∃ t : Fin cfg0.N, t.val = 0 := ⟨⟨0, by omega⟩, rfl⟩
    have hi := (places t).2.2.2.2.2
    refine ⟨t, flush0_6 t, ?_⟩
    show i ∈ ((View.whole main_v0).slice (win0_6.rect t)).set
    rw [View.set_slice_whole, Rect.mem_set_unit]
    intro a
    match a with
    | ⟨0, _⟩ => show win0_6.index t 0 * 1 ≤ (i 0).val ∧ (i 0).val < win0_6.index t 0 * 1 + 1; rw [hi.1]; omega
    | ⟨1, _⟩ => show win0_6.index t 1 * 1 ≤ (i 1).val ∧ (i 1).val < win0_6.index t 1 * 1 + 1; rw [hi.2.1]; omega
    | ⟨2, _⟩ => show win0_6.index t 2 * 2048 ≤ (i 2).val ∧ (i 2).val < win0_6.index t 2 * 2048 + 2048; rw [hi.2.2]; omega

/-- The host adds the blocks up to the gain's gradient. -/
theorem tail : (Pipeline.afterTail₀ cfgs (dats m) 0 (V0 m) [hostOps1] c main_v1 : FVec Ideal S1x2048 .f32) = dg (argK m c) (argWk m c) (argV m c) (argWv m c) (argX m c) := by
  have h : (Pipeline.afterTail₀ cfgs (dats m) 0 (V0 m) [hostOps1] c main_v1 : FVec Ideal S1x2048 .f32)
      = Host.reduceAdd (dgTiles (argK m c) (argWk m c) (argV m c) (argWv m c) (argX m c)) (constant S_ .f32 0x00000000#32) reducesTo_S1x1x2048_S1x2048_d0 h_S_ := by
    have hw := Pipeline.withArrays_arr spec0 (by decide) c (V0 m c) (fun w => (dats m 0 c).arrAt w (cfgs 0).N) 6
    show StableHlo.after hostOps1 _ _ = _
    after_results_simp
    exact congrArg (fun x => Host.reduceAdd (F := Ideal) x (constant S_ .f32 0x00000000#32) reducesTo_S1x1x2048_S1x2048_d0 h_S_)
      (hw.trans (final6 m c))
  exact h.trans (Rms.gain_tiles (n := 1) (b := 256) rfl _ _ _ (by decide) _)

/-- What the run leaves in the results, and that the arguments stay. -/
theorem values (ρ : Dev nD → PrngReg) : θ_run (defs (F := Ideal)) (onTc (τ := τ) (main (F := Ideal))) ⟨m, fun _ => 0, ρ⟩ (fun r => ∀ c : Dev nD,
    r.2.mem ((c.tc : Thread nD τ).loc main_v1) = dg (argK m c) (argWk m c) (argV m c) (argWv m c) (argX m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun r h c => ⟨((h c).2 main_v1 (Pipeline.mem_restRefs_of main_v1 (by decide) (by decide))).trans (tail m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩) (run_main m ρ)

end Cert.AttKvBwdIdeal.Ker

namespace Cert.AttKvBwdClaim

open Idealize.ShloMosaic Idealize.ShloMosaic.TcCoe Idealize.SL.Sem Idealize.ShloMosaic.ValueIdx Cert.Products
open Cert.AttKvBwdRefIdeal Cert.AttKvBwdRefIdeal.Gen Cert.AttKvBwdRefIdeal.Read
open Cert.AttKvBwdIdeal.Ker (argK argWk argV argWv argX dn dg)

section Reference
variable (dk : FVec Ideal S256x2048 .bf16) (wk : FVec Ideal S2048x2048 .bf16) (dv : FVec Ideal S256x2048 .bf16) (wv : FVec Ideal S2048x2048 .bf16)
  (x : FVec Ideal S256x2048 .f32)

/-- The reference adds the two products in the other order. -/
theorem reference_dn : val_main_v20 (F := Ideal) dk wk dv wv = dn dk wk dv wv := by
  funext y
  obtain ⟨i, j, rfl⟩ : ∃ (i : Fin 256) (j : Fin 2048), y = ix2 i j := ⟨y 0, y 1, eq_ix2 (n0 := 256) (n1 := 2048) y⟩
  refine (congrArg₂ (fun a b : EReal => a + b) (val_main_v18_apply dv wv (ix2 i j)) (val_main_v19_apply dk wk (ix2 i j))).trans ((add_comm _ _).trans ?_)
  exact congrArg₂ (· + ·) (Finset.sum_congr rfl fun k _ => congrArg₂ (· * ·) (congrArg dk (ix2_ext i k rfl rfl)) (congrArg wk (ix2_ext j k rfl rfl)))
    (Finset.sum_congr rfl fun k _ => congrArg₂ (· * ·) (congrArg dv (ix2_ext i k rfl rfl)) (congrArg wv (ix2_ext j k rfl rfl)))

theorem reference_dg : val_main_v23 (F := Ideal) dk wk dv wv x = dg dk wk dv wv x := by
  unfold dg
  rw [← reference_dn]
  exact Rms.gain_host x _ _ (Rms.rinv_host x _ (Rms.meanSq_host x reducesTo_S256x2048_S256_d1 (by decide) h_S_ bcast_S256_S256x1_0 bcast_S_S256x1)
    bcast_S256x1_S256x2048_0_1) reducesTo_S256x2048_S2048_d0 (by decide) h_S_ shapeCasts_S2048_S1x2048

end Reference

/-- The kernel's frame. -/
theorem frame_p : Cert.quiescent_AttKvBwd := fun m ρ _ => Cert.AttKvBwd.Gen.frame m ρ
/-- The idealization's frame. -/
theorem frame_pi : Cert.quiescent_AttKvBwdIdeal := fun m ρ _ => Cert.AttKvBwdIdeal.Gen.frame m ρ
/-- The reference's frame. -/
theorem frame_ri : Cert.quiescent_AttKvBwdRefIdeal := fun m ρ _ =>
  (θ_run Cert.AttKvBwdRefIdeal.defs _ _).mono (fun r h => ⟨fun c => (h c).2, sem_eq_zero_of_no_sems (by decide) r.2⟩)
    (Cert.AttKvBwdRefIdeal.Value.run (F := Ideal) m ρ)

/-- The idealization's gradient is the reference's. -/
theorem algebraic : Cert.algebraic_AttKvBwdIdeal_AttKvBwdRefIdeal := by
  intro m ρ m' ρ' _ hagree
  refine ⟨fun c => dg (argK m c) (argWk m c) (argV m c) (argWv m c) (argX m c), Cert.AttKvBwdIdeal.Ker.values m ρ, ?_⟩
  refine (θ_run Cert.AttKvBwdRefIdeal.defs _ _).mono (fun r h c => ?_) (Cert.AttKvBwdRefIdeal.Value.run (F := Ideal) m' ρ')
  obtain ⟨e0, e1, e2, e3, e4, _⟩ := hagree c
  refine ⟨(h c).1.trans ((val_main_v23_eq ..).trans ?_), (h c).2⟩
  rw [e0, e1, e2, e3, e4]
  exact reference_dg _ _ _ _ _

end Cert.AttKvBwdClaim

end
-- ==== Proof.DownBwdRun.lean ====
/-
  The run of the feed-forward network's second product backwards. The grid has 24 points. The first eight each take a block of
  256 rows: the gradient through the normalisation goes to its output and to its 256 rows of a buffer kept between the points,
  and the block's part of the gain's gradient to its own output. The other sixteen each multiply the whole kept buffer with a
  block of 512 rows of the weight and scale the product by the slope of the squared relu. Between two points the kept buffer
  holds the rows of the blocks already taken.
-/
module

public import proofs.«01_k».proof.Defs
public import proofs.«01_k».proof.Proof.Gen.DownBwdIdeal.Frame
public import proofs.«01_k».proof.Proof.Gen.DownBwdIdeal.Skeleton
public import Idealize.ShloMosaic.Lib.Pipeline.FrameBody
public import Idealize.ShloMosaic.Lib.Pipeline.FrameSuffix
public import Idealize.ShloMosaic.Lib.Pipeline.TableIdle
public import Idealize.ShloMosaic.Lib.Pipeline.Value
public import Idealize.ShloMosaic.Lib.Claim
public import Idealize.ShloMosaic.Lib.Tactic
public import Idealize.ShloMosaic.Lib.WordCmp
public import Idealize.ShloMosaic.Lib.WritesUnit
public import Idealize.ShloMosaic.Lib.VecWindow
public import Idealize.ShloMosaic.Lib.ValueIdx

@[expose] public section

set_option maxRecDepth 16384

noncomputable section

namespace Cert.DownBwdIdeal.Staged

open Cert.DownBwdIdeal Cert.DownBwdIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points do what -/

theorem rowPoint (t : Fin cfg0.N) (h : t.val < 8) : k0_cond1 (grid0.coords t) = 1#1 ∧ ¬ k0_cond2 (grid0.coords t) = 1#1 :=
  (by decide +kernel : ∀ t : Fin grid0.N, t.val < 8 → k0_cond1 (grid0.coords t) = 1#1 ∧ ¬ k0_cond2 (grid0.coords t) = 1#1) t h

theorem columnPoint (t : Fin cfg0.N) (h : ¬ t.val < 8) : ¬ k0_cond1 (grid0.coords t) = 1#1 ∧ k0_cond2 (grid0.coords t) = 1#1 :=
  (by decide +kernel : ∀ t : Fin grid0.N, ¬ t.val < 8 → ¬ k0_cond1 (grid0.coords t) = 1#1 ∧ k0_cond2 (grid0.coords t) = 1#1) t h

/-- The point's number is its coordinate. -/
theorem coord (t : Fin cfg0.N) : (grid0.coords t 0).val = t.val :=
  (by decide +kernel : ∀ t : Fin grid0.N, (grid0.coords t 0).val = t.val) t

/-! ## The body at one point -/

/-- The whole of each block, as the body reads it. -/
abbrev rRows : Rect S256x2048 := Rect.unit (s := S256x2048) ![0, 0] S256x2048.size inb_S256x2048_S256x2048_0_0
abbrev rGain : Rect S1x2048 := Rect.unit (s := S1x2048) ![0, 0] S1x2048.size inb_S1x2048_S1x2048_0_0
abbrev rKept : Rect S2048x2048 := Rect.unit (s := S2048x2048) ![0, 0] S2048x2048.size inb_S2048x2048_S2048x2048_0_0
abbrev rWeight : Rect S512x2048 := Rect.unit (s := S512x2048) ![0, 0] S512x2048.size inb_S512x2048_S512x2048_0_0
abbrev rColumns : Rect S2048x512 := Rect.unit (s := S2048x512) ![0, 0] S2048x512.size inb_S2048x512_S2048x512_0_0

set_option maxHeartbeats 1000000 in
/-- A point taking a block of rows. -/
theorem rows_body (c : Dev nD) (E : Set ℕ) (i : grid0.Coords) (h1 : k0_cond1 i = 1#1) (h2 : ¬ k0_cond2 i = 1#1)
    (a1 : Memref sig .tc .vmem S256x2048 .f32) (w1 : a1.IsWhole) (a2 : Memref sig .tc .vmem S256x2048 .f32) (w2 : a2.IsWhole)
    (a3 : Memref sig .tc .vmem S1x2048 .f32) (w3 : a3.IsWhole) (a4 : Memref sig .tc .vmem S512x2048 .bf16) (w4 : a4.IsWhole)
    (a5 : Memref sig .tc .vmem S2048x512 .f32) (w5 : a5.IsWhole) (a6 : Memref sig .tc .vmem S2048x512 .bf16) (w6 : a6.IsWhole)
    (a7 : Memref sig .tc .vmem S256x2048 .bf16) (w7 : a7.IsWhole) (a8 : Memref sig .tc .vmem S1x1x2048 .f32) (w8 : a8.IsWhole)
    (a9 : Memref sig .tc .vmem S2048x2048 .bf16) (w9 : a9.IsWhole)
    (x dy : Vec F S256x2048 .f32) (g : Vec F S1x2048 .f32) (X : Vec F S2048x2048 .bf16) (K : PUnit → sProp 𝕄) :
    iprop(owns (c : Thread nD τ) a1 fullShare x ∗ owns (c : Thread nD τ) a2 fullShare dy ∗ owns (c : Thread nD τ) a3 fullShare g
        ∗ (∃ d, owns (c : Thread nD τ) a7 fullShare d) ∗ (∃ d, owns (c : Thread nD τ) a8 fullShare d) ∗ owns (c : Thread nD τ) a9 fullShare X
        ∗ (iprop(owns (c : Thread nD τ) a1 fullShare x ∗ owns (c : Thread nD τ) a2 fullShare dy ∗ owns (c : Thread nD τ) a3 fullShare g
            ∗ owns (c : Thread nD τ) a7 fullShare (k0_pay8 x g dy) ∗ owns (c : Thread nD τ) a8 fullShare (k0_pay7 x dy)
            ∗ (∃ Y : Vec F S2048x2048 .bf16, ⌜(∀ (y : S2048x2048.Idx) (z : S256x2048.Idx), (y 0).val = 256 * (i 0).val + (z 0).val → (y 1).val = (z 1).val →
                  Y y = k0_pay1 (k0_pay9 x g dy) z) ∧ ∀ y : S2048x2048.Idx, (y 0).val < 256 * (i 0).val → Y y = X y⌝
                ∗ owns (c : Thread nD τ) a9 fullShare Y)) -∗ K ⟨⟩))
      ⊢ wp frame (wpE (defs₀ (F := F)) Variants.none c none) E (cc0_ffn_down_bwd i a1 w1 a2 w2 a3 w3 a4 w4 a5 w5 a6 w6 a7 w7 a8 w8 a9 w9) K := by
  have hz : (![0, 0] : Fin 2 → ℕ) = fun _ => 0 := by decide
  simp only [cc0_ffn_down_bwd_eq_skeleton]; unfold cc0_ffn_down_bwd_skel
  simp only [k0_part1_eq_skeleton]
  unfold owns
  iintro ⟨⟨%f1, %hf1, H1⟩, ⟨%f2, %hf2, H2⟩, ⟨%f3, %hf3, H3⟩, ⟨%d7, %f7, -, H7⟩, ⟨%d8, %f8, -, H8⟩, ⟨%f9, %hf9, H9⟩, Hk⟩
  subst hf1 hf2 hf3 hf9
  sl_exec (disch := first | sl_exact h1 | sl_exact h2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H7]
  · iexists _; isplitr
    swap; · iexact H7
    ipureintro
    refine (View.read_writes_full _ _ _ _ _).trans ?_
    show k0_pay8 (View.ld (a1.view.read (Elt F) f1) rRows) (View.ld (a3.view.read (Elt F) f3) rGain) (View.ld (a2.view.read (Elt F) f2) rRows) = _
    rw [View.ld_unit_zero hz, View.ld_unit_zero hz, View.ld_unit_zero hz]
  isplitl [H8]
  · iexists _; isplitr
    swap; · iexact H8
    ipureintro
    refine (View.read_writes_full _ _ _ _ _).trans ?_
    show k0_pay7 (View.ld (a1.view.read (Elt F) f1) rRows) (View.ld (a2.view.read (Elt F) f2) rRows) = _
    rw [View.ld_unit_zero hz, View.ld_unit_zero hz]
  iexists _
  isplitr
  swap
  · iexists _; isplitr
    swap; · iexact H9
    ipureintro; rfl
  ipureintro
  constructor
  · intro y z h0 h1'
    refine (View.read_writes_cons_rows_of_mem _ _ _ _ _ y z (k0_off1_eq i) h0 h1').trans ?_
    show k0_pay1 (k0_pay9 (View.ld (a1.view.read (Elt F) f1) rRows) (View.ld (a3.view.read (Elt F) f3) rGain)
      (View.ld (a2.view.read (Elt F) f2) rRows)) z = _
    rw [View.ld_unit_zero hz, View.ld_unit_zero hz, View.ld_unit_zero hz]
  · intro y h0
    exact View.read_writes_cons_rows_of_not_mem _ _ _ _ _ y (k0_off1_eq i) rfl (.inl h0)

set_option maxHeartbeats 1000000 in
/-- A point taking a block of columns of the result. -/
theorem columns_body (c : Dev nD) (E : Set ℕ) (i : grid0.Coords) (h1 : ¬ k0_cond1 i = 1#1) (h2 : k0_cond2 i = 1#1)
    (a1 : Memref sig .tc .vmem S256x2048 .f32) (w1 : a1.IsWhole) (a2 : Memref sig .tc .vmem S256x2048 .f32) (w2 : a2.IsWhole)
    (a3 : Memref sig .tc .vmem S1x2048 .f32) (w3 : a3.IsWhole) (a4 : Memref sig .tc .vmem S512x2048 .bf16) (w4 : a4.IsWhole)
    (a5 : Memref sig .tc .vmem S2048x512 .f32) (w5 : a5.IsWhole) (a6 : Memref sig .tc .vmem S2048x512 .bf16) (w6 : a6.IsWhole)
    (a7 : Memref sig .tc .vmem S256x2048 .bf16) (w7 : a7.IsWhole) (a8 : Memref sig .tc .vmem S1x1x2048 .f32) (w8 : a8.IsWhole)
    (a9 : Memref sig .tc .vmem S2048x2048 .bf16) (w9 : a9.IsWhole)
    (w : Vec F S512x2048 .bf16) (u : Vec F S2048x512 .f32) (X : Vec F S2048x2048 .bf16) (K : PUnit → sProp 𝕄) :
    iprop(owns (c : Thread nD τ) a4 fullShare w ∗ owns (c : Thread nD τ) a5 fullShare u ∗ (∃ d, owns (c : Thread nD τ) a6 fullShare d)
        ∗ owns (c : Thread nD τ) a9 fullShare X
        ∗ (iprop(owns (c : Thread nD τ) a4 fullShare w ∗ owns (c : Thread nD τ) a5 fullShare u
            ∗ owns (c : Thread nD τ) a6 fullShare (k0_pay2 X w u) ∗ owns (c : Thread nD τ) a9 fullShare X) -∗ K ⟨⟩))
      ⊢ wp frame (wpE (defs₀ (F := F)) Variants.none c none) E (cc0_ffn_down_bwd i a1 w1 a2 w2 a3 w3 a4 w4 a5 w5 a6 w6 a7 w7 a8 w8 a9 w9) K := by
  have hz : (![0, 0] : Fin 2 → ℕ) = fun _ => 0 := by decide
  simp only [cc0_ffn_down_bwd_eq_skeleton]; unfold cc0_ffn_down_bwd_skel
  unfold owns
  iintro ⟨⟨%f4, %hf4, H4⟩, ⟨%f5, %hf5, H5⟩, ⟨%d6, %f6, -, H6⟩, ⟨%f9, %hf9, H9⟩, Hk⟩
  subst hf4 hf5 hf9
  sl_exec (disch := first | sl_exact h1 | sl_exact h2)
  sl_step
  iapply Hk
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_full _ _ _ _ _).trans ?_
    show k0_pay2 (View.ld (a9.view.read (Elt F) f9) rKept) (View.ld (a4.view.read (Elt F) f4) rWeight)
      (View.ld (a5.view.read (Elt F) f5) rColumns) = _
    rw [View.ld_unit_zero hz, View.ld_unit_zero hz, View.ld_unit_zero hz]
  iexists f9; isplitr; · ipureintro; rfl
  iexact H9

/-! ## What the kept buffer and the outputs hold -/

/-- The rows of the gradient of the product that point `t` puts into the kept buffer. -/
def tile (c : Dev nD) (t : Fin cfg0.N) : Vec F S256x2048 .bf16 := k0_pay1 (k0_pay9 (iblk m c 0 t) (iblk m c 2 t) (iblk m c 1 t))

/-- The point that takes row `r`. -/
def taker (r : Fin 2048) : Fin cfg0.N := ⟨r.val / 256, by have := r.isLt; rw [show cfg0.N = 24 from N_0]; omega⟩

/-- The kept buffer once every row is there. -/
def whole (c : Dev nD) : Vec F S2048x2048 .bf16 := fun j =>
  tile m c (taker (j 0)) (ix2 ⟨(j 0).val % 256, Nat.mod_lt _ (by decide)⟩ (j 1))

/-- The rows of the first `n` blocks are there. -/
def Holds (c : Dev nD) (n : ℕ) (X : Vec F S2048x2048 .bf16) : Prop := ∀ j : S2048x2048.Idx, (j 0).val < 256 * n → X j = whole m c j

/-- The last point that takes rows, up to `t`. -/
def rowsAt (t : Fin cfg0.N) : Fin cfg0.N := ⟨min t.val 7, Nat.lt_of_le_of_lt (Nat.min_le_left _ _) t.isLt⟩

theorem rowsAt_of_lt (t : Fin cfg0.N) (h : t.val < 8) : rowsAt t = t := Fin.ext (by show min t.val 7 = t.val; omega)

theorem holds_zero (c : Dev nD) (X : Vec F S2048x2048 .bf16) : Holds m c 0 X := fun j h => absurd h (by omega)

/-- One more block of rows. -/
theorem holds_succ (c : Dev nD) (t : Fin cfg0.N) (n : ℕ) (hn : n = t.val) (X Y : Vec F S2048x2048 .bf16) (hX : Holds m c t.val X)
    (hY : ∀ (y : S2048x2048.Idx) (z : S256x2048.Idx), (y 0).val = 256 * n + (z 0).val → (y 1).val = (z 1).val → Y y = tile m c t z)
    (hK : ∀ y : S2048x2048.Idx, (y 0).val < 256 * n → Y y = X y) : Holds m c (t.val + 1) Y := by
  subst hn
  intro j hj
  by_cases h : (j 0).val < 256 * t.val
  · exact (hK j h).trans (hX j h)
  · have ht : taker (j 0) = t := Fin.ext (by show (j 0).val / 256 = t.val; omega)
    unfold whole
    rw [ht]
    refine hY j _ ?_ rfl
    show (j 0).val = 256 * t.val + (j 0).val % 256
    have : (j 0).val / 256 = t.val := congrArg Fin.val ht
    omega

/-- From the eighth point on, all rows are there. -/
theorem holds_all (c : Dev nD) (n : ℕ) (hn : 8 ≤ n) (X : Vec F S2048x2048 .bf16) (hX : Holds m c n X) : X = whole m c :=
  funext fun j => hX j (by have := (j 0).isLt; have : (j 0).val < 2048 := this; omega)

theorem holds_whole (c : Dev nD) (n : ℕ) : Holds m c n (whole m c) := fun _ _ => rfl

/-- What is known between two points: the kept buffer has the rows taken, the generator's register is left alone. -/
def between (c : Dev nD) (n : ℕ) : sProp 𝕄 :=
  iprop((∃ X : Vec F S2048x2048 .bf16, ⌜Holds m c n X⌝ ∗ owns (c : Thread nD τ) (Memref.whole cc0_scratch0) fullShare X) ∗ ∃ r, prngReg c r)

/-- The arrays, the buffers after each point, and what is known between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (whole m c) (iblk m c 3 t) (iblk m c 4 t)
    | ⟨6, _⟩ => k0_pay8 (iblk m c 0 (rowsAt t)) (iblk m c 2 (rowsAt t)) (iblk m c 1 (rowsAt t))
    | ⟨7, _⟩ => k0_pay7 (iblk m c 0 (rowsAt t)) (iblk m c 1 (rowsAt t))
  Φ t := between m c t.val
  q _ := fullShare
  owed _ := 0

theorem A_eq (c : Dev nD) (w : Fin cfg0.W) : (dats m 0 c).A w = V m c (Pipeline.arrRef spec0 w) := by dsimp only [dats]

theorem after_h2 (c : Dev nD) (t : Fin cfg0.N) : (dats m 0 c).after 0 t = iblk m c 0 t := by dsimp only [dats]
theorem after_dx (c : Dev nD) (t : Fin cfg0.N) : (dats m 0 c).after 1 t = iblk m c 1 t := by dsimp only [dats]
theorem after_g (c : Dev nD) (t : Fin cfg0.N) : (dats m 0 c).after 2 t = iblk m c 2 t := by dsimp only [dats]
theorem after_w (c : Dev nD) (t : Fin cfg0.N) : (dats m 0 c).after 3 t = iblk m c 3 t := by dsimp only [dats]
theorem after_u (c : Dev nD) (t : Fin cfg0.N) : (dats m 0 c).after 4 t = iblk m c 4 t := by dsimp only [dats]
theorem after_du (c : Dev nD) (t : Fin cfg0.N) :
    (dats m 0 c).after 5 t = k0_pay2 (whole m c) (iblk m c 3 t) (iblk m c 4 t) := by dsimp only [dats]
theorem after_dh (c : Dev nD) (t : Fin cfg0.N) :
    (dats m 0 c).after 6 t = k0_pay8 (iblk m c 0 (rowsAt t)) (iblk m c 2 (rowsAt t)) (iblk m c 1 (rowsAt t)) := by dsimp only [dats]
theorem after_dg (c : Dev nD) (t : Fin cfg0.N) :
    (dats m 0 c).after 7 t = k0_pay7 (iblk m c 0 (rowsAt t)) (iblk m c 1 (rowsAt t)) := by dsimp only [dats]

theorem before_h2 (c : Dev nD) (t : Fin cfg0.N) (d) : (dats m 0 c).before 0 t d = iblk m c 0 t :=
  before0_0_of m (dats m 0 c) (A_eq m c 0) (after_h2 m c) t d
theorem before_dx (c : Dev nD) (t : Fin cfg0.N) (d) : (dats m 0 c).before 1 t d = iblk m c 1 t :=
  before0_1_of m (dats m 0 c) (A_eq m c 1) (after_dx m c) t d
theorem before_g (c : Dev nD) (t : Fin cfg0.N) (d) : (dats m 0 c).before 2 t d = iblk m c 2 t :=
  before0_2_of m (dats m 0 c) (A_eq m c 2) (after_g m c) t d
theorem before_w (c : Dev nD) (t : Fin cfg0.N) (d) : (dats m 0 c).before 3 t d = iblk m c 3 t :=
  before0_3_of m (dats m 0 c) (A_eq m c 3) (after_w m c) t d
theorem before_u (c : Dev nD) (t : Fin cfg0.N) (d) : (dats m 0 c).before 4 t d = iblk m c 4 t :=
  before0_4_of m (dats m 0 c) (A_eq m c 4) (after_u m c) t d

/-! ## The buffers of the row blocks' outputs after the eighth point -/

theorem idle_rows (t : Fin cfg0.N) (h : ¬ t.val < 8) : idle0 6 (grid0.coords t) = true ∧ idle0 7 (grid0.coords t) = true :=
  (by decide +kernel : ∀ t : Fin grid0.N, ¬ t.val < 8 → idle0 6 (grid0.coords t) = true ∧ idle0 7 (grid0.coords t) = true) t h
theorem live_rows (t : Fin cfg0.N) (h : t.val < 8) : idle0 6 (grid0.coords t) = false ∧ idle0 7 (grid0.coords t) = false :=
  (by decide +kernel : ∀ t : Fin grid0.N, t.val < 8 → idle0 6 (grid0.coords t) = false ∧ idle0 7 (grid0.coords t) = false) t h
theorem idle_columns (t : Fin cfg0.N) (h : t.val < 8) : idle0 5 (grid0.coords t) = true ∧ win0_5.flush t = false :=
  (by decide +kernel : ∀ t : Fin grid0.N, t.val < 8 → idle0 5 (grid0.coords t) = true ∧ win0_5.flush t = false) t h
theorem live_columns (t : Fin cfg0.N) (h : ¬ t.val < 8) : idle0 5 (grid0.coords t) = false :=
  (by decide +kernel : ∀ t : Fin grid0.N, ¬ t.val < 8 → idle0 5 (grid0.coords t) = false) t h
theorem kept_rows (t : Fin cfg0.N) (h : ¬ t.val < 8) : cfg0.fresh 6 t.val = false ∧ cfg0.fresh 7 t.val = false :=
  (by decide +kernel : ∀ t : Fin grid0.N, ¬ t.val < 8 → cfg0.fresh 6 t.val = false ∧ cfg0.fresh 7 t.val = false) t h

theorem rowsAt_pred (t : Fin cfg0.N) (h : ¬ t.val < 8) (p : t.val - 1 < cfg0.N) : rowsAt ⟨t.val - 1, p⟩ = rowsAt t :=
  Fin.ext (by show min (t.val - 1) 7 = min t.val 7; omega)

theorem not_lt_of_idle (t : Fin cfg0.N) (h : idle0 6 (grid0.coords t) = true ∨ idle0 7 (grid0.coords t) = true) : ¬ t.val < 8 := fun hlt =>
  h.elim (fun h => Bool.false_ne_true ((live_rows t hlt).1.symm.trans h)) fun h => Bool.false_ne_true ((live_rows t hlt).2.symm.trans h)

/-- A point that takes no rows finds the last block's gradient in its buffer, -/
theorem before_dh (c : Dev nD) (t : Fin cfg0.N) (h : ¬ t.val < 8) (d) : (dats m 0 c).before 6 t d = (dats m 0 c).after 6 t := by
  rw [Dat.before_out_traj _ 6 rfl (fun _ _ => rfl) (fun t _ hi _ => by
    rw [after_dh, after_dh, rowsAt_pred t (not_lt_of_idle t (.inl hi))]) t.val t rfl d, (kept_rows t h).1, if_neg Bool.false_ne_true,
    after_dh, after_dh, rowsAt_pred t h]
/-- and its part of the gain's gradient. -/
theorem before_dg (c : Dev nD) (t : Fin cfg0.N) (h : ¬ t.val < 8) (d) : (dats m 0 c).before 7 t d = (dats m 0 c).after 7 t := by
  rw [Dat.before_out_traj _ 7 rfl (fun _ _ => rfl) (fun t _ hi _ => by
    rw [after_dg, after_dg, rowsAt_pred t (not_lt_of_idle t (.inr hi))]) t.val t rfl d, (kept_rows t h).2, if_neg Bool.false_ne_true,
    after_dg, after_dg, rowsAt_pred t h]

/-- A buffer found as it is to be left is left so, whether it is written back or not. -/
theorem leaves_found (c : Dev nD) (w : Fin cfg0.W) (t : Fin cfg0.N) (hi : cfg0.idle w (cfg0.grid.coords t) = true)
    (d) (h : (dats m 0 c).before w t d = (dats m 0 c).after w t) :
    owns (c : Thread nD τ) ((cfg0.win w).stage (cfg0.slots t w)) fullShare ((dats m 0 c).before w t d) ⊢ (dats m 0 c).leavesExact w t := by
  unfold Dat.leavesExact
  rw [hi]
  cases (cfg0.win w).flush t
  · iintro H; iexists d; iexact H
  · rw [h]

/-- A buffer the body writes is left as said. -/
theorem leaves_live (c : Dev nD) (w : Fin cfg0.W) (t : Fin cfg0.N) (hi : cfg0.idle w (cfg0.grid.coords t) = false) :
    owns (c : Thread nD τ) ((cfg0.win w).stage (cfg0.slots t w)) fullShare ((dats m 0 c).after w t) ⊢ (dats m 0 c).leavesExact w t := by
  unfold Dat.leavesExact
  rw [hi]

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t ∗ (dats m 0 c).leavesExact 6 t ∗ (dats m 0 c).leavesExact 7 t)

theorem between_before (c : Dev nD) (t : Fin cfg0.N) : (dats m 0 c).Φ t.castSucc = between m c t.val := by
  dsimp only [dats]; exact Dat.Φ_castSucc (fun n _ => between m c n) t
theorem between_after (c : Dev nD) (t : Fin cfg0.N) : (dats m 0 c).Φ t.succ = between m c (t.val + 1) := rfl

theorem sound_rows (c : Dev nD) (t : Fin cfg0.N) (h : t.val < 8) :
    bodyPre m c t ⊢ wp frame (wpE (defs₀ (F := F)) Variants.none c none) Set.univ (bodyAt0 t) (fun _ => bodyPost m c t) := by
  obtain ⟨h1, h2⟩ := rowPoint t h
  unfold bodyPre bodyPost bodyAt0
  simp only [before_h2, before_dx, before_g, before_w, before_u]
  rw [between_before, between_after, show (dats m 0 c).owesAt () t.succ = (dats m 0 c).owesAt () t.castSucc from rfl,
    after_h2, after_dx, after_g, after_w, after_u]
  unfold between
  iintro ⟨⟨⟨%X, %hX, HX⟩, Hp⟩, Ho, ⟨%d0, H0⟩, ⟨%d1, H1⟩, ⟨%d2, H2⟩, ⟨%d3, H3⟩, ⟨%d4, H4⟩, H5, ⟨%d6, H6⟩, ⟨%d7, H7⟩⟩
  iapply (rows_body c Set.univ (grid0.coords t) h1 h2 _ _ _ _ _ _ _ _ _ _ _ _ _ _ _ _ _ _ (iblk m c 0 t) (iblk m c 1 t) (iblk m c 2 t) X _)
  isplitl [H0]; · iexact H0
  isplitl [H1]; · iexact H1
  isplitl [H2]; · iexact H2
  isplitl [H6]; · iexists _; iexact H6
  isplitl [H7]; · iexists _; iexact H7
  isplitl [HX]; · iexact HX
  iintro ⟨H0, H1, H2, H6, H7, ⟨%Y, %hY, HY⟩⟩
  isplitl [HY Hp]
  · isplitl [HY]
    · iexists Y; isplitr
      · ipureintro
        exact holds_succ m c t _ (coord t) X Y hX hY.1 hY.2
      iexact HY
    iexact Hp
  isplitl [Ho]; · iexact Ho
  isplitl [H0]; · iexact H0
  isplitl [H1]; · iexact H1
  isplitl [H2]; · iexact H2
  isplitl [H3]; · iexact H3
  isplitl [H4]; · iexact H4
  isplitl [H5]
  · rw [(dats m 0 c).leavesExact_idle 5 t (idle_columns t h).1 (idle_columns t h).2]; iexact H5
  isplitl [H6]
  · iapply (leaves_live m c 6 t (live_rows t h).1)
    rw [after_dh, rowsAt_of_lt t h]; iexact H6
  iapply (leaves_live m c 7 t (live_rows t h).2)
  rw [after_dg, rowsAt_of_lt t h]; iexact H7

theorem sound_columns (c : Dev nD) (t : Fin cfg0.N) (h : ¬ t.val < 8) :
    bodyPre m c t ⊢ wp frame (wpE (defs₀ (F := F)) Variants.none c none) Set.univ (bodyAt0 t) (fun _ => bodyPost m c t) := by
  obtain ⟨h1, h2⟩ := columnPoint t h
  unfold bodyPre bodyPost bodyAt0
  simp only [before_h2, before_dx, before_g, before_w, before_u]
  rw [between_before, between_after, show (dats m 0 c).owesAt () t.succ = (dats m 0 c).owesAt () t.castSucc from rfl,
    after_h2, after_dx, after_g, after_w, after_u]
  unfold between
  iintro ⟨⟨⟨%X, %hX, HX⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain rfl := holds_all m c t.val (by omega) X hX
  iapply (columns_body c Set.univ (grid0.coords t) h1 h2 _ _ _ _ _ _ _ _ _ _ _ _ _ _ _ _ _ _ (iblk m c 3 t) (iblk m c 4 t) (whole m c) _)
  isplitl [H3]; · iexact H3
  isplitl [H4]; · iexact H4
  isplitl [H5]; · iexists _; iexact H5
  isplitl [HX]; · iexact HX
  iintro ⟨H3, H4, H5, HX⟩
  isplitl [HX Hp]
  · isplitl [HX]
    · iexists whole m c; isplitr
      · ipureintro
        exact holds_whole m c _
      iexact HX
    iexact Hp
  isplitl [Ho]; · iexact Ho
  isplitl [H0]; · iexact H0
  isplitl [H1]; · iexact H1
  isplitl [H2]; · iexact H2
  isplitl [H3]; · iexact H3
  isplitl [H4]; · iexact H4
  isplitl [H5]
  · iapply (leaves_live m c 5 t (live_columns t h))
    rw [after_du]; iexact H5
  isplitl [H6]
  · iapply (leaves_found m c 6 t (idle_rows t h).1 d6 (before_dh m c t h d6)); iexact H6
  iapply (leaves_found m c 7 t (idle_rows t h).2 d7 (before_dg m c t h d7)); iexact H7

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  by_cases h : t.val < 8
  · exact triple_restated (sound_rows m c t h) rfl .rfl fun _ => .rfl
  · exact triple_restated (sound_columns m c t h) rfl .rfl fun _ => .rfl

/-! ## The run -/

/-- Before the first point nothing is known of the kept buffer, -/
theorem between_first (c : Dev nD) : Pipeline.ΦA spec0 c ⊢ (dats m 0 c).Φ 0 := by
  show _ ⊢ between m c 0
  unfold Pipeline.ΦA between
  rw [scopedRest0_eq c]
  iintro ⟨⟨%f, Hf⟩, Hp⟩
  isplitl [Hf]
  · iexists f; isplitr
    · ipureintro; exact holds_zero m c f
    rw [owns_whole]; iexact Hf
  iexact Hp
theorem kept_any (c : Dev nD) (X : Vec F S2048x2048 .bf16) : (owns (c : Thread nD τ) (Memref.whole cc0_scratch0) fullShare X : sProp 𝕄)
    ⊢ iprop(∃ f : Buf (Elt F) ((c : Thread nD τ).loc cc0_scratch0), ((c : Thread nD τ).loc cc0_scratch0) ↦{fullShare} f) := by
  rw [owns_whole]; iintro H; iexists X; iexact H
/-- and after the last nothing is asked of it. -/
theorem between_last (c : Dev nD) : (dats m 0 c).Φ (Fin.last cfg0.N) ⊢ Pipeline.ΦA spec0 c := by
  show between m c _ ⊢ _
  unfold Pipeline.ΦA between
  rw [scopedRest0_eq c]
  iintro ⟨⟨%X, -, HX⟩, Hp⟩
  isplitl [HX]
  · iapply (kept_any c X); iexact HX
  iexact Hp

set_option backward.isDefEq.respectTransparency.types false in
set_option maxHeartbeats 800000 in
theorem run_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := between_first m) (hout := between_last m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

end Cert.DownBwdIdeal.Staged

end
-- ==== Proof.DownBwd.lean ====
/-
  What the feed-forward network's second product backwards leaves. From the network's inner values `u` and the weight `w` the
  host forms `h2 = relu(u)² w` again. With the gradient `dx3` of the residual stream the kernel forms the gradient of `h2`
  through the normalisation, its product with `w` transposed times the slope of the squared relu, which is the gradient of
  `u`, and for each block of 256 rows the block's part of the gain's gradient, which the host adds up.
-/
module

public import proofs.«01_k».proof.Defs
public import proofs.«01_k».proof.Proof.RmsBwd
public import proofs.«01_k».proof.Proof.DownBwdRun
public import proofs.«01_k».proof.Proof.Gen.DownBwd.Frame
public import proofs.«01_k».proof.Proof.Gen.DownBwdRefIdeal.Run
public import proofs.«01_k».proof.Proof.Gen.DownBwdRefIdeal.Read

@[expose] public section

set_option maxRecDepth 16384

noncomputable section

namespace Cert.DownBwdIdeal.Ker

open Cert.DownBwdIdeal Cert.DownBwdIdeal.Gen Cert.DownBwdIdeal.Staged Cert.Products
open Idealize.ShloMosaic Idealize.ShloMosaic.TcCoe Idealize.SL.Sem Idealize.ShloMosaic.ValueIdx
open Idealize.ShloMosaic.Pipeline (Dat)

/-! ## What one point computes -/

theorem pay1 (x : FVec Ideal S256x2048 .bf16) : k0_pay1 (F := Ideal) x = x := funext fun i => shapeCast_apply x _ i i rfl
theorem pay3 (x : FVec Ideal S256x2048 .f32) : k0_pay3 (F := Ideal) x = x := funext fun i => shapeCast_apply x _ i i rfl

theorem pay4 (x : FVec Ideal S256x2048 .f32) (i : Fin 256) : (k0_pay4 (F := Ideal) x : FVec Ideal S256x1 .f32) (ix2 i 0) = Rms.rinv (Rms.row x i) := by
  unfold k0_pay4
  rw [pay3]
  exact Rms.rinv_kernel x _ _ _ _ i

/-- A block's gradient through the normalisation. -/
theorem pay6 (x : FVec Ideal S256x2048 .f32) (g : FVec Ideal S1x2048 .f32) (dy : FVec Ideal S256x2048 .f32) (i : Fin 256) (j : Fin 2048) :
    (k0_pay6 (F := Ideal) x g dy : FVec Ideal S256x2048 .f32) (ix2 i j) = Rms.back (Rms.row x i) (Rms.row (Rms.scaled dy g) i) j := by
  unfold k0_pay6 k0_pay5
  rw [pay3]
  dsimp only
  rw [Rms.scaled_kernel]
  exact Rms.back_kernel x (Rms.scaled dy g) _ (pay4 x) _ _ _ _ _ i j

/-- A block's part of the gain's gradient. -/
theorem pay7 (x dy : FVec Ideal S256x2048 .f32) (j : Fin 2048) :
    (k0_pay7 (F := Ideal) x dy : FVec Ideal S1x1x2048 .f32) (ix3 0 0 j) = ∑ i : Fin 256, Rms.gainTerm x dy j i := by
  unfold k0_pay7 k0_pay5
  rw [pay3]
  exact Rms.gain_kernel x dy _ (pay4 x) _ _ _ _ _ _ j

/-- The slope of the squared relu, times a gradient. -/
def slope2 (a u : EReal) : EReal := a * (Ideal.ofBits .f32 0x40000000#32 * max u (Ideal.ofBits .f32 0x00000000#32))

/-- The kept rows against a block of the weight's rows. -/
theorem pay2 (X : FVec Ideal S2048x2048 .bf16) (w : FVec Ideal S512x2048 .bf16) (u : FVec Ideal S2048x512 .f32) (i : Fin 2048) (j : Fin 512) :
    (k0_pay2 (F := Ideal) X w u : FVec Ideal S2048x512 .bf16) (ix2 i j) = slope2 (∑ k : Fin 2048, X (ix2 i k) * w (ix2 j k)) (u (ix2 i j)) := by
  unfold k0_pay2
  refine congrArg (fun z => slope2 z (u (ix2 i j))) ((Ideal.matmul_transposedRhs_apply (prec := none) ..).trans ?_)
  show Ideal.ofBits .f32 0x00000000#32 + _ = _
  rw [Ideal.ofBits_zero_f32, zero_add]

/-! ## The arrays -/

variable (m : (ℓ : Loc nD τ sig) → Buf (Elt Ideal) ℓ) (c : Dev nD)

/-- The network's inner values, the weight, the gain and the gradient that comes in. -/
abbrev argU : FVec Ideal S2048x8192 .f32 := m ((c : Thread nD τ).loc main_arg0)
abbrev argW : FVec Ideal S8192x2048 .bf16 := m ((c : Thread nD τ).loc main_arg1)
abbrev argG : FVec Ideal S1x2048 .f32 := m ((c : Thread nD τ).loc main_arg2)
abbrev argD : FVec Ideal S2048x2048 .f32 := m ((c : Thread nD τ).loc main_arg3)

/-- The squared relu and the product the host forms with it. -/
def relu (u : FVec Ideal S2048x8192 .f32) : FVec Ideal S2048x8192 .f32 :=
  maximumf u (broadcastInDim S2048x8192 ![] bcast_S_S2048x8192 (constant (F := Ideal) S_ .f32 0x00000000#32))
def h2 (u : FVec Ideal S2048x8192 .f32) (w : FVec Ideal S8192x2048 .bf16) : FVec Ideal S2048x2048 .f32 :=
  Host.dotGeneral (F := Ideal) dot_S2048x8192_S8192x2048_S2048x2048_1_0_0_1_n_n none (mulf (relu u) (relu u)) (extf .f32 w bitsLt_bf16_f32)

variable (u : FVec Ideal S2048x8192 .f32) (w : FVec Ideal S8192x2048 .bf16) (g : FVec Ideal S1x2048 .f32) (d : FVec Ideal S2048x2048 .f32)

/-- The three results: the gradients of the inner values, of the product and of the gain. -/
def dh : FVec Ideal S2048x2048 .bf16 := Rms.dx (h2 u w) (Rms.scaled d g) .bf16
def du : FVec Ideal S2048x8192 .bf16 := fun y =>
  slope2 (∑ k : Fin 2048, Rms.back (Rms.row (h2 u w) (y 0)) (Rms.row (Rms.scaled d g) (y 0)) k * w (ix2 (y 1) k)) (u y)
def dg : FVec Ideal S1x2048 .f32 := Rms.gain (h2 u w) d
/-- The gain's gradient by blocks of rows, as the kernel leaves it. -/
def dgTiles : FVec Ideal S8x1x2048 .f32 := Rms.gainTiles (n := 8) (b := 256) rfl (h2 u w) d

omit u w g d

/-- The kernel finds the product where the host left it. -/
theorem entry : (V m c main_v3 : FVec Ideal S2048x2048 .f32) = h2 (argU m c) (argW m c) := by
  show StableHlo.after (List.flatten [hostOps0, hostOps0_1]) _ _ = _
  simp only [hostOps0, hostOps0_1, List.flatten_cons, List.flatten_nil, List.append_nil, List.cons_append, List.nil_append]
  after_results_simp
  rfl

/-- Where the windows lie at each point. -/
theorem places : ∀ t : Fin grid0.N, (win0_0.index t 0 = min t.val 7 ∧ win0_0.index t 1 = 0) ∧ (win0_1.index t 0 = min t.val 7 ∧ win0_1.index t 1 = 0)
    ∧ (win0_2.index t 0 = 0 ∧ win0_2.index t 1 = 0) ∧ (win0_3.index t 0 = t.val - 8 ∧ win0_3.index t 1 = 0)
    ∧ (win0_4.index t 0 = 0 ∧ win0_4.index t 1 = t.val - 8) ∧ (win0_5.index t 0 = 0 ∧ win0_5.index t 1 = t.val - 8)
    ∧ (win0_6.index t 0 = min t.val 7 ∧ win0_6.index t 1 = 0) ∧ win0_7.index t 0 = min t.val 7 ∧ win0_7.index t 1 = 0 ∧ win0_7.index t 2 = 0 := by
  decide +kernel

/-- When the outputs are written back: a block of columns at each point from the ninth on, a block of rows when the next is taken or at the end. -/
theorem flushes : ∀ t : Fin grid0.N, (win0_5.flush t = true ↔ 8 ≤ t.val) ∧ (t.val < 7 ∨ t.val = 23 → win0_6.flush t = true ∧ win0_7.flush t = true) := by
  decide +kernel

/-- The block of rows point `t` works on, the row `i` of it and the column `j` of its block of columns, as those of the whole. -/
def block (t : Fin cfg0.N) : Fin 8 := ⟨min t.val 7, by omega⟩
abbrev rowOf (t : Fin cfg0.N) (i : Fin 256) : Fin 2048 := Rms.tileRow (n := 8) rfl (block t) i
def colOf (t : Fin cfg0.N) (j : Fin 512) : Fin 8192 :=
  ⟨512 * (t.val - 8) + j.val, by have := t.isLt; have h : cfg0.N = 24 := N_0; have := j.isLt; omega⟩

theorem block_rowsAt (t : Fin cfg0.N) : block (rowsAt t) = block t := Fin.ext (by show min (min t.val 7) 7 = min t.val 7; omega)

theorem block_h (t : Fin cfg0.N) (i : Fin 256) (k : Fin 2048) :
    (iblk m c 0 t : FVec Ideal S256x2048 .f32) (ix2 i k) = h2 (argU m c) (argW m c) (ix2 (rowOf t i) k) := by
  have hi := (places t).1
  rw [← entry]
  unfold iblk
  rw [View.read_apply]
  show V m c main_v3 _ = V m c main_v3 _
  congr 1
  funext a
  apply Fin.ext
  match a with
  | ⟨0, _⟩ => show win0_0.index t 0 * 256 + 1 * i.val = 256 * min t.val 7 + i.val; rw [hi.1]; omega
  | ⟨1, _⟩ => show win0_0.index t 1 * 2048 + 1 * k.val = k.val; rw [hi.2]; omega

theorem block_d (t : Fin cfg0.N) (i : Fin 256) (k : Fin 2048) :
    (iblk m c 1 t : FVec Ideal S256x2048 .f32) (ix2 i k) = argD m c (ix2 (rowOf t i) k) := by
  have hi := (places t).2.1
  unfold iblk
  rw [View.read_apply]
  refine (congrArg (V m c main_arg3) (?_ : _ = ix2 (rowOf t i) k)).trans (congrFun (V_main_arg3 m c) _)
  funext a
  apply Fin.ext
  match a with
  | ⟨0, _⟩ => show win0_1.index t 0 * 256 + 1 * i.val = 256 * min t.val 7 + i.val; rw [hi.1]; omega
  | ⟨1, _⟩ => show win0_1.index t 1 * 2048 + 1 * k.val = k.val; rw [hi.2]; omega

theorem block_g (t : Fin cfg0.N) : (iblk m c 2 t : FVec Ideal S1x2048 .f32) = argG m c := by
  have hi := (places t).2.2.1
  funext y
  unfold iblk
  rw [View.read_apply]
  refine (congrArg (V m c main_arg2) (?_ : _ = y)).trans (congrFun (V_main_arg2 m c) _)
  funext a
  apply Fin.ext
  match a with
  | ⟨0, _⟩ => show win0_2.index t 0 * 1 + 1 * (y 0).val = (y 0).val; rw [hi.1]; omega
  | ⟨1, _⟩ => show win0_2.index t 1 * 2048 + 1 * (y 1).val = (y 1).val; rw [hi.2]; omega

theorem block_w (t : Fin cfg0.N) (j : Fin 512) (k : Fin 2048) :
    (iblk m c 3 t : FVec Ideal S512x2048 .bf16) (ix2 j k) = argW m c (ix2 (colOf t j) k) := by
  have hi := (places t).2.2.2.1
  unfold iblk
  rw [View.read_apply]
  refine (congrArg (V m c main_arg1) (?_ : _ = ix2 (colOf t j) k)).trans (congrFun (V_main_arg1 m c) _)
  funext a
  apply Fin.ext
  match a with
  | ⟨0, _⟩ => show win0_3.index t 0 * 512 + 1 * j.val = 512 * (t.val - 8) + j.val; rw [hi.1]; omega
  | ⟨1, _⟩ => show win0_3.index t 1 * 2048 + 1 * k.val = k.val; rw [hi.2]; omega

theorem block_u (t : Fin cfg0.N) (i : Fin 2048) (j : Fin 512) :
    (iblk m c 4 t : FVec Ideal S2048x512 .f32) (ix2 i j) = argU m c (ix2 i (colOf t j)) := by
  have hi := (places t).2.2.2.2.1
  unfold iblk
  rw [View.read_apply]
  refine (congrArg (V m c main_arg0) (?_ : _ = ix2 i (colOf t j))).trans (congrFun (V_main_arg0 m c) _)
  funext a
  apply Fin.ext
  match a with
  | ⟨0, _⟩ => show win0_4.index t 0 * 2048 + 1 * i.val = i.val; rw [hi.1]; omega
  | ⟨1, _⟩ => show win0_4.index t 1 * 512 + 1 * j.val = 512 * (t.val - 8) + j.val; rw [hi.2]; omega

/-- The rows a point works on are rows of the whole, -/
theorem rows (t : Fin cfg0.N) (i : Fin 256) : Rms.row (iblk m c 0 t : FVec Ideal S256x2048 .f32) i = Rms.row (h2 (argU m c) (argW m c)) (rowOf t i)
    ∧ Rms.row (Rms.scaled (iblk m c 1 t : FVec Ideal S256x2048 .f32) (argG m c)) i = Rms.row (Rms.scaled (argD m c) (argG m c)) (rowOf t i) :=
  ⟨funext fun k => block_h m c t i k, funext fun k => congrArg (· * argG m c (ix2 0 k)) (block_d m c t i k)⟩

/-- and so is what it makes of them. -/
theorem rows_back (t : Fin cfg0.N) (i : Fin 256) (k : Fin 2048) :
    (k0_pay6 (F := Ideal) (iblk m c 0 t) (iblk m c 2 t) (iblk m c 1 t) : FVec Ideal S256x2048 .f32) (ix2 i k)
      = Rms.back (Rms.row (h2 (argU m c) (argW m c)) (rowOf t i)) (Rms.row (Rms.scaled (argD m c) (argG m c)) (rowOf t i)) k := by
  rw [pay6, block_g, (rows m c t i).1, (rows m c t i).2]

/-- The kept buffer holds the gradient of the product. -/
theorem whole_at (i k : Fin 2048) : (whole m c : FVec Ideal S2048x2048 .bf16) (ix2 i k)
    = Rms.back (Rms.row (h2 (argU m c) (argW m c)) i) (Rms.row (Rms.scaled (argD m c) (argG m c)) i) k := by
  have hr : rowOf (taker i) ⟨i.val % 256, Nat.mod_lt _ (by decide)⟩ = i := Fin.ext (by
    show 256 * min (i.val / 256) 7 + i.val % 256 = i.val
    have := i.isLt
    omega)
  show (tile m c (taker i) : FVec Ideal S256x2048 .bf16) (ix2 ⟨i.val % 256, _⟩ k) = _
  unfold tile
  rw [pay1]
  refine (rows_back m c (taker i) ⟨i.val % 256, Nat.mod_lt _ (by decide)⟩ k).trans ?_
  rw [hr]

/-- The gradient of the inner values after the run. -/
theorem final5 : (dats m 0 c).arrAt 5 cfg0.N = du (argU m c) (argW m c) (argG m c) (argD m c) := by
  refine (dats m 0 c).arrAt_eq_of_cover 5 (du (argU m c) (argW m c) (argG m c) (argD m c)) (fun t _ => ?_) fun i => ?_
  · have hi := (places t).2.2.2.2.2.1
    show (cfg0.win 5).cut (grid0.coords t) ((dats m 0 c).after 5 t) = _
    rw [after_du]
    funext j
    rw [View.read_apply]
    obtain ⟨i, k, rfl⟩ : ∃ (i : Fin 2048) (k : Fin 512), j = ix2 i k := ⟨j 0, j 1, eq_ix2 (n0 := 2048) (n1 := 512) j⟩
    have h : (k0_pay2 (F := Ideal) (whole m c) (iblk m c 3 t) (iblk m c 4 t) : FVec Ideal S2048x512 .bf16) (ix2 i k)
        = du (argU m c) (argW m c) (argG m c) (argD m c) (ix2 i (colOf t k)) := by
      rw [pay2, block_u]
      exact congrArg (fun z => slope2 z (argU m c (ix2 i (colOf t k)))) (Finset.sum_congr rfl fun a _ => by rw [whole_at, block_w])
    refine Eq.trans h (congrArg (du (argU m c) (argW m c) (argG m c) (argD m c)) (funext fun a => Fin.ext ?_))
    match a with
    | ⟨0, _⟩ => show i.val = win0_5.index t 0 * 2048 + 1 * i.val; rw [hi.1]; omega
    | ⟨1, _⟩ => show 512 * (t.val - 8) + k.val = win0_5.index t 1 * 512 + 1 * k.val; rw [hi.2]; omega
  · have hN : cfg0.N = 24 := N_0
    have hb : (i 0).val < 2048 := (i 0).isLt
    have hb1 : (i 1).val < 8192 := (i 1).isLt
    obtain ⟨t, ht⟩ : ∃ t : Fin cfg0.N, t.val = (i 1).val / 512 + 8 := ⟨⟨(i 1).val / 512 + 8, by omega⟩, rfl⟩
    have hi := (places t).2.2.2.2.2.1
    refine ⟨t, (flushes t).1.2 (by omega), ?_⟩
    show i ∈ ((View.whole main_v4_0).slice (win0_5.rect t)).set
    rw [View.set_slice_whole, Rect.mem_set_unit]
    intro a
    match a with
    | ⟨0, _⟩ => show win0_5.index t 0 * 2048 ≤ (i 0).val ∧ (i 0).val < win0_5.index t 0 * 2048 + 2048; rw [hi.1]; omega
    | ⟨1, _⟩ => show win0_5.index t 1 * 512 ≤ (i 1).val ∧ (i 1).val < win0_5.index t 1 * 512 + 512; rw [hi.2]; omega

/-- A point at which block `b` of rows is written back. -/
theorem written (b : ℕ) (hb : b < 8) : ∃ t : Fin cfg0.N, min t.val 7 = b ∧ win0_6.flush t = true ∧ win0_7.flush t = true := by
  have hN : cfg0.N = 24 := N_0
  by_cases h : b = 7
  · exact ⟨⟨23, by omega⟩, by show min 23 7 = b; omega, (flushes _).2 (.inr rfl)⟩
  · exact ⟨⟨b, by omega⟩, by show min b 7 = b; omega, (flushes _).2 (.inl (by show b < 7; omega))⟩

/-- The gradient of the product after the run. -/
theorem final6 : (dats m 0 c).arrAt 6 cfg0.N = dh (argU m c) (argW m c) (argG m c) (argD m c) := by
  refine (dats m 0 c).arrAt_eq_of_cover 6 (dh (argU m c) (argW m c) (argG m c) (argD m c)) (fun t _ => ?_) fun i => ?_
  · have hi := (places t).2.2.2.2.2.2.1
    show (cfg0.win 6).cut (grid0.coords t) ((dats m 0 c).after 6 t) = _
    rw [after_dh]
    funext j
    rw [View.read_apply]
    obtain ⟨i, k, rfl⟩ : ∃ (i : Fin 256) (k : Fin 2048), j = ix2 i k := ⟨j 0, j 1, eq_ix2 (n0 := 256) (n1 := 2048) j⟩
    have h : (k0_pay8 (F := Ideal) (iblk m c 0 (rowsAt t)) (iblk m c 2 (rowsAt t)) (iblk m c 1 (rowsAt t)) : FVec Ideal S256x2048 .bf16) (ix2 i k)
        = dh (argU m c) (argW m c) (argG m c) (argD m c) (ix2 (rowOf t i) k) := by
      rw [rowOf, ← block_rowsAt t]
      exact rows_back m c (rowsAt t) i k
    refine Eq.trans h (congrArg (dh (argU m c) (argW m c) (argG m c) (argD m c)) (funext fun a => Fin.ext ?_))
    match a with
    | ⟨0, _⟩ => show 256 * min t.val 7 + i.val = win0_6.index t 0 * 256 + 1 * i.val; rw [hi.1]; omega
    | ⟨1, _⟩ => show k.val = win0_6.index t 1 * 2048 + 1 * k.val; rw [hi.2]; omega
  · have hb : (i 0).val < 2048 := (i 0).isLt
    have hb1 : (i 1).val < 2048 := (i 1).isLt
    obtain ⟨t, ht, hf, -⟩ := written ((i 0).val / 256) (by omega)
    have hi := (places t).2.2.2.2.2.2.1
    refine ⟨t, hf, ?_⟩
    show i ∈ ((View.whole main_v4_1).slice (win0_6.rect t)).set
    rw [View.set_slice_whole, Rect.mem_set_unit]
    intro a
    match a with
    | ⟨0, _⟩ => show win0_6.index t 0 * 256 ≤ (i 0).val ∧ (i 0).val < win0_6.index t 0 * 256 + 256; rw [hi.1]; omega
    | ⟨1, _⟩ => show win0_6.index t 1 * 2048 ≤ (i 1).val ∧ (i 1).val < win0_6.index t 1 * 2048 + 2048; rw [hi.2]; omega

/-- The blocks of the gain's gradient after the kernel. -/
theorem final7 : (dats m 0 c).arrAt 7 cfg0.N = dgTiles (argU m c) (argW m c) (argD m c) := by
  refine (dats m 0 c).arrAt_eq_of_cover 7 (dgTiles (argU m c) (argW m c) (argD m c)) (fun t _ => ?_) fun i => ?_
  · have hi := (places t).2.2.2.2.2.2.2
    show (cfg0.win 7).cut (grid0.coords t) ((dats m 0 c).after 7 t) = _
    rw [after_dg]
    funext j
    rw [View.read_apply]
    obtain ⟨a, b, k, rfl⟩ : ∃ (a b : Fin 1) (k : Fin 2048), j = ix3 a b k := ⟨j 0, j 1, j 2, eq_ix3 (n0 := 1) (n1 := 1) (n2 := 2048) j⟩
    obtain rfl : a = 0 := Subsingleton.elim _ _
    obtain rfl : b = 0 := Subsingleton.elim _ _
    have h : (k0_pay7 (F := Ideal) (iblk m c 0 (rowsAt t)) (iblk m c 1 (rowsAt t)) : FVec Ideal S1x1x2048 .f32) (ix3 0 0 k)
        = dgTiles (argU m c) (argW m c) (argD m c) (ix3 (block t) 0 k) := by
      rw [pay7, ← block_rowsAt t]
      show _ = ∑ i : Fin 256, Rms.gainTerm (h2 (argU m c) (argW m c)) (argD m c) k (rowOf (rowsAt t) i)
      refine Finset.sum_congr rfl fun i _ => ?_
      unfold Rms.gainTerm
      rw [block_h, block_d, (rows m c (rowsAt t) i).1]
    refine Eq.trans h (congrArg (dgTiles (argU m c) (argW m c) (argD m c)) (funext fun a => Fin.ext ?_))
    match a with
    | ⟨0, _⟩ => show min t.val 7 = win0_7.index t 0 * 1 + 1 * 0; rw [hi.1]; omega
    | ⟨1, _⟩ => show 0 = win0_7.index t 1 * 1 + 1 * 0; rw [hi.2.1]
    | ⟨2, _⟩ => show k.val = win0_7.index t 2 * 2048 + 1 * k.val; rw [hi.2.2]; omega
  · have hb : (i 0).val < 8 := (i 0).isLt
    have hb1 : (i 1).val < 1 := (i 1).isLt
    have hb2 : (i 2).val < 2048 := (i 2).isLt
    obtain ⟨t, ht, -, hf⟩ := written (i 0).val hb
    have hi := (places t).2.2.2.2.2.2.2
    refine ⟨t, hf, ?_⟩
    show i ∈ ((View.whole main_v4_2).slice (win0_7.rect t)).set
    rw [View.set_slice_whole, Rect.mem_set_unit]
    intro a
    match a with
    | ⟨0, _⟩ => show win0_7.index t 0 * 1 ≤ (i 0).val ∧ (i 0).val < win0_7.index t 0 * 1 + 1; rw [hi.1]; omega
    | ⟨1, _⟩ => show win0_7.index t 1 * 1 ≤ (i 1).val ∧ (i 1).val < win0_7.index t 1 * 1 + 1; rw [hi.2.1]; omega
    | ⟨2, _⟩ => show win0_7.index t 2 * 2048 ≤ (i 2).val ∧ (i 2).val < win0_7.index t 2 * 2048 + 2048; rw [hi.2.2]; omega

/-- The host adds the blocks up to the gain's gradient. -/
theorem tail : (Pipeline.afterTail₀ cfgs (dats m) 0 (V0 m) [hostOps1] c main_v5 : FVec Ideal S1x2048 .f32) = dg (argU m c) (argW m c) (argD m c) := by
  have h : (Pipeline.afterTail₀ cfgs (dats m) 0 (V0 m) [hostOps1] c main_v5 : FVec Ideal S1x2048 .f32)
      = Host.reduceAdd (dgTiles (argU m c) (argW m c) (argD m c)) (constant S_ .f32 0x00000000#32) reducesTo_S8x1x2048_S1x2048_d0 h_S_ := by
    have hw := Pipeline.withArrays_arr spec0 (by decide) c (V0 m c) (fun w => (dats m 0 c).arrAt w (cfgs 0).N) 7
    show StableHlo.after hostOps1 _ _ = _
    after_results_simp
    exact congrArg (fun x => Host.reduceAdd (F := Ideal) x (constant S_ .f32 0x00000000#32) reducesTo_S8x1x2048_S1x2048_d0 h_S_)
      (hw.trans (final7 m c))
  exact h.trans (Rms.gain_tiles (n := 8) (b := 256) rfl _ _ _ (by decide) _)

/-- What the run leaves in the results, and that the arguments stay. -/
theorem values (ρ : Dev nD → PrngReg) : θ_run (defs (F := Ideal)) (onTc (τ := τ) (main (F := Ideal))) ⟨m, fun _ => 0, ρ⟩ (fun r => ∀ c : Dev nD,
    r.2.mem ((c.tc : Thread nD τ).loc main_v4_0) = du (argU m c) (argW m c) (argG m c) (argD m c)
    ∧ r.2.mem ((c.tc : Thread nD τ).loc main_v4_1) = dh (argU m c) (argW m c) (argG m c) (argD m c)
    ∧ r.2.mem ((c.tc : Thread nD τ).loc main_v5) = dg (argU m c) (argW m c) (argD m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨((h c).1 5).trans (final5 m c), ((h c).1 6).trans (final6 m c),
      ((h c).2 main_v5 (Pipeline.mem_restRefs_of main_v5 (by decide) (by decide))).trans (tail m c),
      ((h c).1 4).trans (((dats m 0 c).arrAt_in 4 rfl _).trans ((A_eq m c 4).trans (V_main_arg0 m c))),
      ((h c).1 3).trans (((dats m 0 c).arrAt_in 3 rfl _).trans ((A_eq m c 3).trans (V_main_arg1 m c))),
      ((h c).1 2).trans (((dats m 0 c).arrAt_in 2 rfl _).trans ((A_eq m c 2).trans (V_main_arg2 m c))),
      ((h c).1 1).trans (((dats m 0 c).arrAt_in 1 rfl _).trans ((A_eq m c 1).trans (V_main_arg3 m c)))⟩) (run_main m ρ)

end Cert.DownBwdIdeal.Ker

namespace Cert.DownBwdClaim

open Idealize.ShloMosaic Idealize.ShloMosaic.TcCoe Idealize.SL.Sem Idealize.ShloMosaic.ValueIdx Cert.Products
open Cert.DownBwdRefIdeal Cert.DownBwdRefIdeal.Gen Cert.DownBwdRefIdeal.Read
open Cert.DownBwdIdeal.Ker (argU argW argG argD h2 dh du dg slope2)

/-- Where the inner value is not above zero the slope leaves nothing of the gradient, as the reference's choice does. -/
theorem slope_choice (a u : EReal) :
    Scalar.select (Ideal.cmp .ogt u (Ideal.ofBits .f32 0x00000000#32)) (slope2 a u) (Ideal.ofBits .f32 0x00000000#32) = slope2 a u := by
  unfold slope2
  rw [Ideal.ofBits_zero_f32]
  by_cases h : 0 < u
  · rw [show Ideal.cmp .ogt u 0 = 1#1 from congrArg BitVec.ofBool (decide_eq_true h)]; rfl
  · rw [show Ideal.cmp .ogt u 0 = 0#1 from congrArg BitVec.ofBool (decide_eq_false h), max_eq_right (not_lt.1 h), mul_zero, mul_zero]; rfl

section Reference
variable (u : FVec Ideal S2048x8192 .f32) (w : FVec Ideal S8192x2048 .bf16) (g : FVec Ideal S1x2048 .f32) (d : FVec Ideal S2048x2048 .f32)

theorem reference_meanSq (i : Fin 2048) : (val_main_v15 (F := Ideal) u w : FVec Ideal S2048x1 .f32) (ix2 i 0) = Rms.meanSq (Rms.row (h2 u w) i) :=
  Rms.meanSq_host (h2 u w) reducesTo_S2048x2048_S2048_d1 (by decide) h_S_ bcast_S2048_S2048x1_0 bcast_S_S2048x1 i

/-- The reference's gradient through the normalisation is the kernel's. -/
theorem reference_row (i j : Fin 2048) : (val_main_v42 (F := Ideal) u w g d : FVec Ideal S2048x2048 .f32) (ix2 i j)
    = Rms.back (Rms.row (h2 u w) i) (Rms.row (Rms.scaled d g) i) j := by
  rw [← Rms.scaled_host d g bcast_S1x2048_S2048x2048_0_1]
  exact Rms.back_host (h2 u w) _ _ _ (Rms.rinv_host (h2 u w) _ (reference_meanSq u w) bcast_S2048x1_S2048x2048_0_1)
    (Rms.slope_host (h2 u w) _ _ (reference_meanSq u w) bcast_S2048_S2048x2048_0 reducesTo_S2048x2048_S2048_d1 (by decide)
      reducesTo_S2048x1_S2048_d1 (by decide) h_S_ shapeCasts_S2048_S2048x1 bcast_S_S2048x1) i j

theorem reference_dh : val_main_v48 (F := Ideal) u w g d = dh u w g d := by
  funext y
  obtain ⟨i, k, rfl⟩ : ∃ (i : Fin 2048) (k : Fin 2048), y = ix2 i k := ⟨y 0, y 1, eq_ix2 (n0 := 2048) (n1 := 2048) y⟩
  exact reference_row u w g d i k

theorem reference_du : val_main_v47 (F := Ideal) u w g d = du u w g d := by
  funext y
  obtain ⟨i, j, rfl⟩ : ∃ (i : Fin 2048) (j : Fin 8192), y = ix2 i j := ⟨y 0, y 1, eq_ix2 (n0 := 2048) (n1 := 8192) y⟩
  have h : val_main_v43 (F := Ideal) u w g d (ix2 i j)
      = ∑ k : Fin 2048, Rms.back (Rms.row (h2 u w) i) (Rms.row (Rms.scaled d g) i) k * w (ix2 j k) := by
    rw [val_main_v43_apply]
    refine Finset.sum_congr rfl fun k _ => congrArg₂ (· * ·) ?_ ?_
    · rw [show lidx_main_v43 (ix2 i j) k = ix2 i k from ix2_ext i k rfl rfl]
      exact reference_row u w g d i k
    · exact congrArg w (ix2_ext j k rfl rfl)
  show Scalar.select (Ideal.cmp .ogt (u (ix2 i j)) (Ideal.ofBits .f32 0x00000000#32)) (slope2 (val_main_v43 (F := Ideal) u w g d (ix2 i j)) (u (ix2 i j)))
    (Ideal.ofBits .f32 0x00000000#32) = _
  rw [slope_choice, h]
  rfl

theorem reference_dg : val_main_v26 (F := Ideal) u w d = dg u w d :=
  Rms.gain_host (h2 u w) d _ (Rms.rinv_host (h2 u w) _ (reference_meanSq u w) bcast_S2048x1_S2048x2048_0_1) reducesTo_S2048x2048_S2048_d0 (by decide)
    h_S_ shapeCasts_S2048_S1x2048

end Reference

/-- The run leaves the arguments as they were and every counter at zero, whatever the numbers are. -/
theorem unchanged {F : FTy → Type} [FloatOps F]
    (m : (ℓ : Loc Cert.DownBwdIdeal.nD Cert.DownBwdIdeal.τ Cert.DownBwdIdeal.sig) → Buf (Elt F) ℓ) (ρ : Dev Cert.DownBwdIdeal.nD → PrngReg) :
    θ_run (Cert.DownBwdIdeal.defs (F := F)) (onTc (τ := Cert.DownBwdIdeal.τ) (Cert.DownBwdIdeal.main (F := F))) ⟨m, fun _ => 0, ρ⟩ (fun r =>
      (∀ c : Dev Cert.DownBwdIdeal.nD,
        r.2.mem ((c.tc : Thread _ _).loc Cert.DownBwdIdeal.main_arg0) = m ((c.tc : Thread _ _).loc Cert.DownBwdIdeal.main_arg0)
        ∧ r.2.mem ((c.tc : Thread _ _).loc Cert.DownBwdIdeal.main_arg1) = m ((c.tc : Thread _ _).loc Cert.DownBwdIdeal.main_arg1)
        ∧ r.2.mem ((c.tc : Thread _ _).loc Cert.DownBwdIdeal.main_arg2) = m ((c.tc : Thread _ _).loc Cert.DownBwdIdeal.main_arg2)
        ∧ r.2.mem ((c.tc : Thread _ _).loc Cert.DownBwdIdeal.main_arg3) = m ((c.tc : Thread _ _).loc Cert.DownBwdIdeal.main_arg3))
      ∧ r.2.sem = fun _ => 0) :=
  θ_run_and (Cert.DownBwdIdeal.Gen.frame_of m ρ (Cert.DownBwdIdeal.Staged.dats m) (Cert.DownBwdIdeal.Staged.A_eq m) (Cert.DownBwdIdeal.Staged.run_main m ρ))
    ((θ_run Cert.DownBwdIdeal.defs _ _).mono (fun _ h => h.2) (Cert.DownBwdIdeal.Staged.run_quiescent m ρ))

/-- The kernel and its idealization have one table of bodies. -/
theorem same_defs : Cert.DownBwdIdeal.defs (F := Bits) = Cert.DownBwd.defs (F := Bits) := by
  refine congrArg (Pipeline.defs _) (congrArg Defs.onTc (funext fun l => funext fun a => ?_))
  match l, a with
  | 0, (t, s) => rfl

/-- The kernel's frame. -/
theorem frame_p : Cert.quiescent_DownBwd := fun m ρ _ => by
  have h := unchanged (F := Bits) m ρ
  rw [same_defs] at h
  exact h
/-- The idealization's frame. -/
theorem frame_pi : Cert.quiescent_DownBwdIdeal := fun m ρ _ => unchanged (F := Ideal) m ρ
/-- The reference's frame. -/
theorem frame_ri : Cert.quiescent_DownBwdRefIdeal := fun m ρ _ =>
  (θ_run Cert.DownBwdRefIdeal.defs _ _).mono (fun r h => ⟨fun c => (h c).2.2.2, sem_eq_zero_of_no_sems (by decide) r.2⟩)
    (Cert.DownBwdRefIdeal.Value.run (F := Ideal) m ρ)

/-- The idealization's three gradients are the reference's. -/
theorem algebraic : Cert.algebraic_DownBwdIdeal_DownBwdRefIdeal := by
  intro m ρ m' ρ' _ hagree
  refine ⟨fun c => du (argU m c) (argW m c) (argG m c) (argD m c), fun c => dh (argU m c) (argW m c) (argG m c) (argD m c),
    fun c => dg (argU m c) (argW m c) (argD m c), Cert.DownBwdIdeal.Ker.values m ρ, ?_⟩
  refine (θ_run Cert.DownBwdRefIdeal.defs _ _).mono (fun r h c => ?_) (Cert.DownBwdRefIdeal.Value.run (F := Ideal) m' ρ')
  obtain ⟨e0, e1, e2, e3⟩ := hagree c
  refine ⟨(h c).1.trans ((val_main_v47_eq ..).trans ?_), (h c).2.1.trans ((val_main_v48_eq ..).trans ?_),
    (h c).2.2.1.trans ((val_main_v26_eq ..).trans ?_), (h c).2.2.2⟩
  · rw [e0, e1, e2, e3]; exact reference_du _ _ _ _
  · rw [e0, e1, e2, e3]; exact reference_dh _ _ _ _
  · rw [e0, e1, e3]; exact reference_dg _ _ _

end Cert.DownBwdClaim

end
-- ==== Proof.UpBwdRun.lean ====
/-
  The run of the feed-forward network's first product backwards. The grid has four blocks of 512 rows by four blocks of the
  inner values. The first point of a row block sets the kept accumulator to zero and starts copies of the block's rows of two
  arrays; every point adds its product; the last point waits for the copies and takes the sum through the normalisation.
  Between two points of a row block the two copies are under way.
-/
module

public import proofs.«01_k».proof.Defs
public import proofs.«01_k».proof.Proof.Gen.UpBwdIdeal.Frame
public import proofs.«01_k».proof.Proof.Gen.UpBwdIdeal.Skeleton
public import Idealize.ShloMosaic.Lib.Pipeline.FrameBody
public import Idealize.ShloMosaic.Lib.Pipeline.FrameSuffix
public import Idealize.ShloMosaic.Lib.Pipeline.TableIdle
public import Idealize.ShloMosaic.Lib.Pipeline.Value
public import Idealize.ShloMosaic.Lib.Claim
public import Idealize.ShloMosaic.Lib.Tactic
public import Idealize.ShloMosaic.Lib.WordCmp
public import Idealize.ShloMosaic.Lib.WritesUnit
public import Idealize.ShloMosaic.Lib.VecWindow
public import Idealize.ShloMosaic.Lib.ValueIdx

@[expose] public section

set_option maxRecDepth 16384

noncomputable section

namespace Cert.UpBwdIdeal.Streamed

open Cert.UpBwdIdeal Cert.UpBwdIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Which points do what -/

theorem startPoint (t : Fin cfg0.N) (h : t.val % 4 = 0) : k0_cond1 (grid0.coords t) = 1#1 ∧ ¬ k0_cond2 (grid0.coords t) = 1#1 :=
  (by decide +kernel : ∀ t : Fin grid0.N, t.val % 4 = 0 → k0_cond1 (grid0.coords t) = 1#1 ∧ ¬ k0_cond2 (grid0.coords t) = 1#1) t h

theorem laterPoint (t : Fin cfg0.N) (h : ¬ t.val % 4 = 0) : ¬ k0_cond1 (grid0.coords t) = 1#1 :=
  (by decide +kernel : ∀ t : Fin grid0.N, ¬ t.val % 4 = 0 → ¬ k0_cond1 (grid0.coords t) = 1#1) t h

theorem earlyPoint (t : Fin cfg0.N) (h : ¬ t.val % 4 = 3) : ¬ k0_cond2 (grid0.coords t) = 1#1 :=
  (by decide +kernel : ∀ t : Fin grid0.N, ¬ t.val % 4 = 3 → ¬ k0_cond2 (grid0.coords t) = 1#1) t h

theorem endPoint (t : Fin cfg0.N) (h : t.val % 4 = 3) : k0_cond2 (grid0.coords t) = 1#1 :=
  (by decide +kernel : ∀ t : Fin grid0.N, t.val % 4 = 3 → k0_cond2 (grid0.coords t) = 1#1) t h

/-- The outputs' buffers are left alone before the last point of a row block, -/
theorem idle_early (t : Fin cfg0.N) (h : ¬ t.val % 4 = 3) : (idle0 3 (grid0.coords t) = true ∧ win0_3.flush t = false)
    ∧ idle0 4 (grid0.coords t) = true ∧ win0_4.flush t = false :=
  (by decide +kernel : ∀ t : Fin grid0.N, ¬ t.val % 4 = 3 → (idle0 3 (grid0.coords t) = true ∧ win0_3.flush t = false)
    ∧ idle0 4 (grid0.coords t) = true ∧ win0_4.flush t = false) t h
/-- and written at it. -/
theorem live_end (t : Fin cfg0.N) (h : t.val % 4 = 3) : idle0 3 (grid0.coords t) = false ∧ idle0 4 (grid0.coords t) = false :=
  (by decide +kernel : ∀ t : Fin grid0.N, t.val % 4 = 3 → idle0 3 (grid0.coords t) = false ∧ idle0 4 (grid0.coords t) = false) t h

/-- The row block of a point. -/
theorem coord (t : Fin cfg0.N) : (grid0.coords t 0).val = t.val / 4 % 4 :=
  (by decide +kernel : ∀ t : Fin grid0.N, (grid0.coords t 0).val = t.val / 4 % 4) t

/-! ## The body at one point -/

abbrev rTile : Rect S512x2048 := Rect.unit (s := S512x2048) ![0, 0] S512x2048.size inb_S512x2048_S512x2048_0_0
abbrev rGain : Rect S1x2048 := Rect.unit (s := S1x2048) ![0, 0] S1x2048.size inb_S1x2048_S1x2048_0_0
abbrev rWeight : Rect S2048x2048 := Rect.unit (s := S2048x2048) ![0, 0] S2048x2048.size inb_S2048x2048_S2048x2048_0_0

/-- The rows that the copies of row block `i` read. -/
abbrev rowsOf (M : Memref sig .tc .hbm S2048x2048 .f32) (i : grid0.Coords) (h : k0_cond1 i = 1#1) : Memref sig .tc .hbm S512x2048 .f32 :=
  M.slice (Rect.unit (s := S2048x2048) (k0_off1 i) S512x2048.size (k0_off1_inb i h)) (fun _ => rfl)

/-- A copy under way, through cell `s`, of the rows `M` of an array holding `fs` into the row buffer `N`, which held `fd`. -/
abbrev copying (c : Dev nD) (s : DmaSem sig) (M : Memref sig .tc .hbm S512x2048 .f32) (fs : Buf (Elt F) (M.view.loc (c : Thread nD τ)))
    (N : Memref sig .tc .vmem S512x2048 .f32) (fd : Buf (Elt F) (N.view.loc (c : Thread nD τ))) : sProp 𝕄 :=
  Transfers.Flight (countersEmb (U := Pipeline.UD sig nD τ)) (c : Thread nD τ) (.dma s) () 131072
    iprop((N.view.loc (c : Thread nD τ) ↦[N.view.set]{fullShare} N.view.writes (Elt F) fd [⟨Rect.whole S512x2048, ReadAs.same.apply (M.view.read (Elt F) fs)⟩])
      ∗ (M.view.loc (c : Thread nD τ) ↦[M.view.set]{fullShare} fs))

/-- What the body reads of a row buffer that a copy has filled. -/
theorem read_copied (v : View sig .tc .vmem S512x2048 .f32) (w : Vec F S512x2048 .f32) :
    v.readCov (Val := Elt F) [⟨Rect.whole S512x2048, w⟩] rTile.toLoadRect = w :=
  have key : ∀ (off : Fin 2 → ℕ) (_ : off = fun _ => 0) (inb : ∀ a, off a + S512x2048.size a ≤ S512x2048.size a),
      v.readCov (Val := Elt F) [⟨Rect.whole S512x2048, w⟩] (Rect.unit (s := S512x2048) off S512x2048.size inb).toLoadRect = w := by
    intro off h inb
    subst h
    exact View.readCov_unit_zero v rfl inb w
  key _ (by decide) _

set_option maxHeartbeats 1000000 in
/-- The first point of a row block. -/
theorem start_body (c : Dev nD) (i : grid0.Coords) (h1 : k0_cond1 i = 1#1) (h2 : ¬ k0_cond2 i = 1#1)
    (a2 : Memref sig .tc .vmem S512x2048 .bf16) (w2 : a2.IsWhole) (a3 : Memref sig .tc .vmem S2048x2048 .bf16) (w3 : a3.IsWhole)
    (a4 : Memref sig .tc .hbm S2048x2048 .f32) (w4 : a4.IsWhole) (a5 : Memref sig .tc .hbm S2048x2048 .f32) (w5 : a5.IsWhole)
    (a6 : Memref sig .tc .vmem S1x2048 .f32) (w6 : a6.IsWhole)
    (a7 : Memref sig .tc .vmem S512x2048 .f32) (w7 : a7.IsWhole) (a8 : Memref sig .tc .vmem S1x1x2048 .f32) (w8 : a8.IsWhole)
    (a9 : Memref sig .tc .vmem S512x2048 .f32) (w9 : a9.IsWhole) (a10 : Memref sig .tc .vmem S512x2048 .f32) (w10 : a10.IsWhole)
    (a11 : Memref sig .tc .vmem S512x2048 .f32) (w11 : a11.IsWhole)
    (A : Vec F S512x2048 .bf16) (B : Vec F S2048x2048 .bf16) (M N : Memref sig .tc .hbm S512x2048 .f32)
    (hM : M = rowsOf a4 i h1) (hN : N = rowsOf a5 i h1) (f4 : Buf (Elt F) (M.view.loc (c : Thread nD τ))) (f5 : Buf (Elt F) (N.view.loc (c : Thread nD τ))) (K : PUnit → sProp 𝕄) :
    iprop(owns (c : Thread nD τ) a2 fullShare A ∗ owns (c : Thread nD τ) a3 fullShare B
        ∗ (∃ d, owns (c : Thread nD τ) a9 fullShare d) ∗ (∃ d, owns (c : Thread nD τ) a10 fullShare d) ∗ (∃ d, owns (c : Thread nD τ) a11 fullShare d)
        ∗ (M.view.loc (c : Thread nD τ) ↦[M.view.set]{fullShare} f4)
        ∗ (N.view.loc (c : Thread nD τ) ↦[N.view.set]{fullShare} f5)
        ∗ semVal ((c : Thread nD τ), SemLoc.dma 9) 0 ∗ semVal ((c : Thread nD τ), SemLoc.dma 10) 0
        ∗ (iprop(owns (c : Thread nD τ) a2 fullShare A ∗ owns (c : Thread nD τ) a3 fullShare B
            ∗ owns (c : Thread nD τ) a9 fullShare (k0_pay2 k0_pay1 A B)
            ∗ (∃ fd, copying c 9 M f4 a10 fd) ∗ (∃ fd, copying c 10 N f5 a11 fd)) -∗ K ⟨⟩))
      ⊢ wp frame (wpE (defs₀ (F := F)) Variants.none c none) Set.univ (cc0_ffn_up_bwd i a2 w2 a3 w3 a4 w4 a5 w5 a6 w6 a7 w7 a8 w8 a9 w9 a10 w10 a11 w11 cc0_scratch3) K := by
  have hz : (![0, 0] : Fin 2 → ℕ) = fun _ => 0 := by decide
  subst hM hN
  rw [cc0_ffn_up_bwd_eq_skeleton]; delta cc0_ffn_up_bwd_skel owns
  iintro ⟨⟨%f2, %hf2, H2⟩, ⟨%f3, %hf3, H3⟩, ⟨%d9, %f9, -, H9⟩, ⟨%d10, %f10, -, H10⟩, ⟨%d11, %f11, -, H11⟩, H4, H5, Hs, Hs', Hk⟩
  subst hf2 hf3
  sl_exec (disch := first | sl_exact h1 | sl_exact h2)
  sl_step
  iapply Hk
  isplitl [H2]
  · iexists f2; isplitr; · ipureintro; rfl
    iexact H2
  isplitl [H3]
  · iexists f3; isplitr; · ipureintro; rfl
    iexact H3
  isplitl [H9]
  · iexists _; isplitr
    swap; · iexact H9
    ipureintro
    refine (View.read_writes_full _ _ _ _ _).trans ?_
    show k0_pay2 (a9.view.readCov [⟨rTile, k0_pay1 (F := F)⟩] rTile.toLoadRect) (View.ld (a2.view.read (Elt F) f2) rTile)
      (View.ld (a3.view.read (Elt F) f3) rWeight) = _
    rw [View.readCov_unit_zero _ hz, View.ld_unit_zero hz, View.ld_unit_zero hz]
  isplitl [Hs]
  · iexists f10; iexact Hs
  iexists f11; iexact Hs'

set_option maxHeartbeats 1000000 in
/-- A point of a row block that is neither its first nor its last. -/
theorem middle_body (c : Dev nD) (i : grid0.Coords) (h1 : ¬ k0_cond1 i = 1#1) (h2 : ¬ k0_cond2 i = 1#1)
    (a2 : Memref sig .tc .vmem S512x2048 .bf16) (w2 : a2.IsWhole) (a3 : Memref sig .tc .vmem S2048x2048 .bf16) (w3 : a3.IsWhole)
    (a4 : Memref sig .tc .hbm S2048x2048 .f32) (w4 : a4.IsWhole) (a5 : Memref sig .tc .hbm S2048x2048 .f32) (w5 : a5.IsWhole)
    (a6 : Memref sig .tc .vmem S1x2048 .f32) (w6 : a6.IsWhole)
    (a7 : Memref sig .tc .vmem S512x2048 .f32) (w7 : a7.IsWhole) (a8 : Memref sig .tc .vmem S1x1x2048 .f32) (w8 : a8.IsWhole)
    (a9 : Memref sig .tc .vmem S512x2048 .f32) (w9 : a9.IsWhole) (a10 : Memref sig .tc .vmem S512x2048 .f32) (w10 : a10.IsWhole)
    (a11 : Memref sig .tc .vmem S512x2048 .f32) (w11 : a11.IsWhole)
    (A : Vec F S512x2048 .bf16) (B : Vec F S2048x2048 .bf16) (X : Vec F S512x2048 .f32) (K : PUnit → sProp 𝕄) :
    iprop(owns (c : Thread nD τ) a2 fullShare A ∗ owns (c : Thread nD τ) a3 fullShare B ∗ owns (c : Thread nD τ) a9 fullShare X
        ∗ (iprop(owns (c : Thread nD τ) a2 fullShare A ∗ owns (c : Thread nD τ) a3 fullShare B ∗ owns (c : Thread nD τ) a9 fullShare (k0_pay2 X A B)) -∗ K ⟨⟩))
      ⊢ wp frame (wpE (defs₀ (F := F)) Variants.none c none) Set.univ (cc0_ffn_up_bwd i a2 w2 a3 w3 a4 w4 a5 w5 a6 w6 a7 w7 a8 w8 a9 w9 a10 w10 a11 w11 cc0_scratch3) K := by
  have hz : (![0, 0] : Fin 2 → ℕ) = fun _ => 0 := by decide
  rw [cc0_ffn_up_bwd_eq_skeleton]; delta cc0_ffn_up_bwd_skel owns
  iintro ⟨⟨%f2, %hf2, H2⟩, ⟨%f3, %hf3, H3⟩, ⟨%f9, %hf9, H9⟩, Hk⟩
  subst hf2 hf3 hf9
  sl_exec (disch := first | sl_exact h1 | sl_exact h2)
  sl_step
  iapply Hk
  isplitl [H2]
  · iexists f2; isplitr; · ipureintro; rfl
    iexact H2
  isplitl [H3]
  · iexists f3; isplitr; · ipureintro; rfl
    iexact H3
  iexists _; isplitr
  swap; · iexact H9
  ipureintro
  refine (View.read_writes_full _ _ _ _ _).trans ?_
  show k0_pay2 (View.ld (a9.view.read (Elt F) f9) rTile) (View.ld (a2.view.read (Elt F) f2) rTile) (View.ld (a3.view.read (Elt F) f3) rWeight) = _
  rw [View.ld_unit_zero hz, View.ld_unit_zero hz, View.ld_unit_zero hz]

set_option maxHeartbeats 1000000 in
/-- The last point of a row block. -/
theorem end_body (c : Dev nD) (i : grid0.Coords) (h1 : ¬ k0_cond1 i = 1#1) (h2 : k0_cond2 i = 1#1)
    (a2 : Memref sig .tc .vmem S512x2048 .bf16) (w2 : a2.IsWhole) (a3 : Memref sig .tc .vmem S2048x2048 .bf16) (w3 : a3.IsWhole)
    (a4 : Memref sig .tc .hbm S2048x2048 .f32) (w4 : a4.IsWhole) (a5 : Memref sig .tc .hbm S2048x2048 .f32) (w5 : a5.IsWhole)
    (a6 : Memref sig .tc .vmem S1x2048 .f32) (w6 : a6.IsWhole)
    (a7 : Memref sig .tc .vmem S512x2048 .f32) (w7 : a7.IsWhole) (a8 : Memref sig .tc .vmem S1x1x2048 .f32) (w8 : a8.IsWhole)
    (a9 : Memref sig .tc .vmem S512x2048 .f32) (w9 : a9.IsWhole) (a10 : Memref sig .tc .vmem S512x2048 .f32) (w10 : a10.IsWhole)
    (a11 : Memref sig .tc .vmem S512x2048 .f32) (w11 : a11.IsWhole)
    (A : Vec F S512x2048 .bf16) (B : Vec F S2048x2048 .bf16) (g : Vec F S1x2048 .f32) (X : Vec F S512x2048 .f32)
    (M N : Memref sig .tc .hbm S512x2048 .f32) (f4 : Buf (Elt F) (M.view.loc (c : Thread nD τ))) (f5 : Buf (Elt F) (N.view.loc (c : Thread nD τ)))
    (W : Waits sig Unit) (K : PUnit → sProp 𝕄) :
    iprop(owns (c : Thread nD τ) a2 fullShare A ∗ owns (c : Thread nD τ) a3 fullShare B ∗ owns (c : Thread nD τ) a6 fullShare g
        ∗ (∃ d, owns (c : Thread nD τ) a7 fullShare d) ∗ (∃ d, owns (c : Thread nD τ) a8 fullShare d) ∗ owns (c : Thread nD τ) a9 fullShare X
        ∗ (∃ fd, copying c 9 M f4 a10 fd) ∗ (∃ fd, copying c 10 N f5 a11 fd) ∗ owes (c : Thread nD τ) 0 W
        ∗ (iprop(owns (c : Thread nD τ) a2 fullShare A ∗ owns (c : Thread nD τ) a3 fullShare B ∗ owns (c : Thread nD τ) a6 fullShare g
            ∗ owns (c : Thread nD τ) a7 fullShare (k0_pay7 (k0_pay2 X A B) (M.view.read (Elt F) f4) g (N.view.read (Elt F) f5))
            ∗ owns (c : Thread nD τ) a8 fullShare (k0_pay3 (k0_pay6 (k0_pay2 X A B) (M.view.read (Elt F) f4)))
            ∗ (∃ d, owns (c : Thread nD τ) a9 fullShare d) ∗ (∃ d, owns (c : Thread nD τ) a10 fullShare d) ∗ (∃ d, owns (c : Thread nD τ) a11 fullShare d)
            ∗ (M.view.loc (c : Thread nD τ) ↦[M.view.set]{fullShare} f4) ∗ (N.view.loc (c : Thread nD τ) ↦[N.view.set]{fullShare} f5)
            ∗ semVal ((c : Thread nD τ), SemLoc.dma 9) 0 ∗ semVal ((c : Thread nD τ), SemLoc.dma 10) 0 ∗ (∃ W', owes (c : Thread nD τ) 0 W')) -∗ K ⟨⟩))
      ⊢ wp frame (wpE (defs₀ (F := F)) Variants.none c none) Set.univ (cc0_ffn_up_bwd i a2 w2 a3 w3 a4 w4 a5 w5 a6 w6 a7 w7 a8 w8 a9 w9 a10 w10 a11 w11 cc0_scratch3) K := by
  have hz : (![0, 0] : Fin 2 → ℕ) = fun _ => 0 := by decide
  rw [cc0_ffn_up_bwd_eq_skeleton]; delta cc0_ffn_up_bwd_skel owns
  iintro ⟨⟨%f2, %hf2, H2⟩, ⟨%f3, %hf3, H3⟩, ⟨%f6, %hf6, H6⟩, ⟨%d7, %f7, -, H7⟩, ⟨%d8, %f8, -, H8⟩, ⟨%f9, %hf9, H9⟩, ⟨%f10, Hs⟩, ⟨%f11, Hs'⟩, Ho, Hk⟩
  subst hf2 hf3 hf6 hf9
  sl_exec (disch := first | sl_exact h1 | sl_exact h2)
  sl_step
  iapply Hk
  isplitl [H2]
  · iexists f2; isplitr; · ipureintro; rfl
    iexact H2
  isplitl [H3]
  · iexists f3; isplitr; · ipureintro; rfl
    iexact H3
  isplitl [H6]
  · iexists f6; isplitr; · ipureintro; rfl
    iexact H6
  isplitl [H7]
  · iexists _; isplitr
    swap; · iexact H7
    ipureintro
    refine (View.read_writes_full _ _ _ _ _).trans ?_
    show k0_pay7 (a9.view.readCov [⟨rTile, k0_pay2 (View.ld (a9.view.read (Elt F) f9) rTile) (View.ld (a2.view.read (Elt F) f2) rTile)
        (View.ld (a3.view.read (Elt F) f3) rWeight)⟩] rTile.toLoadRect)
      (a10.view.readCov (Val := Elt F) [⟨Rect.whole S512x2048, M.view.read (Elt F) f4⟩] rTile.toLoadRect) (View.ld (a6.view.read (Elt F) f6) rGain)
      (a11.view.readCov (Val := Elt F) [⟨Rect.whole S512x2048, N.view.read (Elt F) f5⟩] rTile.toLoadRect) = _
    rw [View.readCov_unit_zero _ hz, read_copied, read_copied, View.ld_unit_zero hz, View.ld_unit_zero hz, View.ld_unit_zero hz, View.ld_unit_zero hz]
  isplitl [H8]
  · iexists _; isplitr
    swap; · iexact H8
    ipureintro
    refine (View.read_writes_full _ _ _ _ _).trans ?_
    show k0_pay3 (k0_pay6 (a9.view.readCov [⟨rTile, k0_pay2 (View.ld (a9.view.read (Elt F) f9) rTile) (View.ld (a2.view.read (Elt F) f2) rTile)
        (View.ld (a3.view.read (Elt F) f3) rWeight)⟩] rTile.toLoadRect)
      (a10.view.readCov (Val := Elt F) [⟨Rect.whole S512x2048, M.view.read (Elt F) f4⟩] rTile.toLoadRect)) = _
    rw [View.readCov_unit_zero _ hz, read_copied, View.ld_unit_zero hz, View.ld_unit_zero hz, View.ld_unit_zero hz]
  isplitl [H9]
  · iexists _; iexists _; isplitr
    swap; · iexact H9
    ipureintro; rfl
  isplitl [Hs_dst]
  · iexists _; iexists _; isplitr
    swap; · iexact Hs_dst
    ipureintro; rfl
  isplitl [Hs'_dst]
  · iexists _; iexists _; isplitr
    swap; · iexact Hs'_dst
    ipureintro; rfl
  isplitl [Hs_src]; · iexact Hs_src
  isplitl [Hs'_src]; · iexact Hs'_src
  isplitl [Hs]; · iexact Hs
  isplitl [Hs']; · iexact Hs'
  iexists _; iexact Ho

/-! ## What the accumulator and the outputs hold -/

/-- The row block at the `n`-th point. -/
def rowBlock (n : ℕ) : Fin 4 := ⟨n / 4 % 4, Nat.mod_lt _ (by decide)⟩

/-- The `k`-th point of row block `i`. -/
def pointOf (i : Fin 4) (k : ℕ) : Fin cfg0.N := ⟨4 * i.val + k % 4, by have := i.isLt; rw [show cfg0.N = 16 from N_0]; omega⟩

/-- The accumulator after `k` products of row block `i`. -/
def grown (c : Dev nD) (i : Fin 4) : ℕ → Vec F S512x2048 .f32
  | 0 => k0_pay1
  | k + 1 => k0_pay2 (grown c i k) (iblk m c 0 (pointOf i k)) (iblk m c 1 (pointOf i k))

theorem grown_at (c : Dev nD) (t : Fin cfg0.N) :
    grown m c (rowBlock t.val) (t.val % 4 + 1) = k0_pay2 (grown m c (rowBlock t.val) (t.val % 4)) (iblk m c 0 t) (iblk m c 1 t) := by
  have e : pointOf (rowBlock t.val) (t.val % 4) = t := Fin.ext (by
    have : t.val < 16 := Nat.lt_of_lt_of_eq t.isLt N_0
    show 4 * (t.val / 4 % 4) + t.val % 4 % 4 = t.val; omega)
  show k0_pay2 _ (iblk m c 0 (pointOf _ _)) (iblk m c 1 (pointOf _ _)) = _
  rw [e]

/-- The rows of block `i` of an array. -/
def block (M : Memref sig .tc .hbm S2048x2048 .f32) (i : Fin 4) : Memref sig .tc .hbm S512x2048 .f32 :=
  M.slice (Rect.unit (s := S2048x2048) ![512 * i.val, 0] S512x2048.size (by
    intro a; have := i.isLt
    match a with
    | 0 => show 512 * i.val + 512 ≤ 2048; omega
    | 1 => show 0 + 2048 ≤ 2048; omega)) (fun _ => rfl)

theorem block_eq (M : Memref sig .tc .hbm S2048x2048 .f32) (t : Fin cfg0.N) (h : k0_cond1 (grid0.coords t) = 1#1) :
    block M (rowBlock t.val) = rowsOf M (grid0.coords t) h := by
  have key : ∀ (o o' : Fin 2 → ℕ) (_ : o = o') (p p'), M.slice (Rect.unit (s := S2048x2048) o S512x2048.size p) (fun _ => rfl)
      = M.slice (Rect.unit (s := S2048x2048) o' S512x2048.size p') (fun _ => rfl) := by
    intro o o' e p p'; subst e; rfl
  refine key _ _ ?_ _ _
  rw [k0_off1_eq, coord]; rfl

/-- The two arrays whose rows are copied. -/
abbrev x2 : Memref sig .tc .hbm S2048x2048 .f32 := Memref.whole main_arg2
abbrev dx3 : Memref sig .tc .hbm S2048x2048 .f32 := Memref.whole main_arg3

/-- What is held between two row blocks: the scratch buffers, the two cells, the two arrays. -/
def atRest (c : Dev nD) : sProp 𝕄 :=
  iprop((∃ d, owns (c : Thread nD τ) (Memref.whole cc0_scratch0) fullShare d) ∗ (∃ d, owns (c : Thread nD τ) (Memref.whole cc0_scratch1) fullShare d)
    ∗ (∃ d, owns (c : Thread nD τ) (Memref.whole cc0_scratch2) fullShare d)
    ∗ semVal ((c : Thread nD τ), SemLoc.dma 9) 0 ∗ semVal ((c : Thread nD τ), SemLoc.dma 10) 0
    ∗ (x2.view.loc (c : Thread nD τ) ↦{fullShare} V m c main_arg2) ∗ (dx3.view.loc (c : Thread nD τ) ↦{fullShare} V m c main_arg3))

/-- What is held inside row block `i`, after `k` products: the accumulator, the two copies under way, the rest of the arrays. -/
def underWay (c : Dev nD) (i : Fin 4) (k : ℕ) : sProp 𝕄 :=
  iprop(owns (c : Thread nD τ) (Memref.whole cc0_scratch0) fullShare (grown m c i k)
    ∗ (∃ fd, copying c 9 (block x2 i) (V m c main_arg2) (Memref.whole cc0_scratch1) fd)
    ∗ (∃ fd, copying c 10 (block dx3 i) (V m c main_arg3) (Memref.whole cc0_scratch2) fd)
    ∗ (x2.view.loc (c : Thread nD τ) ↦[Finset.univ \ (block x2 i).view.set]{fullShare} V m c main_arg2)
    ∗ (dx3.view.loc (c : Thread nD τ) ↦[Finset.univ \ (block dx3 i).view.set]{fullShare} V m c main_arg3))

def between (c : Dev nD) (n : ℕ) : sProp 𝕄 :=
  iprop((∃ r, prngReg c r) ∗ if n % 4 = 0 then atRest m c else underWay m c (rowBlock n) (n % 4))

theorem between_rest (c : Dev nD) (n : ℕ) (h : n % 4 = 0) : between m c n = iprop((∃ r, prngReg c r) ∗ atRest m c) := by
  unfold between; rw [if_pos h]
theorem between_inside (c : Dev nD) (n : ℕ) (h : ¬ n % 4 = 0) :
    between m c n = iprop((∃ r, prngReg c r) ∗ underWay m c (rowBlock n) (n % 4)) := by
  unfold between; rw [if_neg h]

/-- A row block's rows of the two copied arrays. -/
def xRows (c : Dev nD) (i : Fin 4) : Vec F S512x2048 .f32 := (block x2 i).view.read (Elt F) (V m c main_arg2)
def dxRows (c : Dev nD) (i : Fin 4) : Vec F S512x2048 .f32 := (block dx3 i).view.read (Elt F) (V m c main_arg3)

/-- The arrays, the buffers after each point, and what is known between the points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay7 (grown m c (rowBlock t.val) 4) (xRows m c (rowBlock t.val)) (iblk m c 2 t) (dxRows m c (rowBlock t.val))
    | ⟨4, _⟩ => k0_pay3 (k0_pay6 (grown m c (rowBlock t.val) 4) (xRows m c (rowBlock t.val)))
  Φ t := between m c t.val
  q _ := fullShare
  owed _ := 0

theorem A_eq (c : Dev nD) (w : Fin cfg0.W) : (dats m 0 c).A w = V m c (Pipeline.arrRef spec0 w) := by dsimp only [dats]

theorem after_du (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_g (c : Dev nD) (t : Fin cfg0.N) : (dats m 0 c).after 2 t = iblk m c 2 t := by dsimp only [dats]
theorem after_dx (c : Dev nD) (t : Fin cfg0.N) : (dats m 0 c).after 3 t
    = k0_pay7 (grown m c (rowBlock t.val) 4) (xRows m c (rowBlock t.val)) (iblk m c 2 t) (dxRows m c (rowBlock t.val)) := by dsimp only [dats]
theorem after_dg (c : Dev nD) (t : Fin cfg0.N) : (dats m 0 c).after 4 t
    = k0_pay3 (k0_pay6 (grown m c (rowBlock t.val) 4) (xRows m c (rowBlock t.val))) := by dsimp only [dats]

/-- An input's buffer holds its block at every point. -/
theorem before_du (c : Dev nD) (t : Fin cfg0.N) (d) : (dats m 0 c).before 0 t d = iblk m c 0 t :=
  ((dats m 0 c).before_in_eq_fetched 0 rfl (fun _ => rfl) (fun _ _ _ => rfl) (fun t => (after_du m c t).trans (by
    unfold Dat.blockOf iblk; rw [A_eq])) t d).trans (by unfold Dat.fetched Dat.blockOf iblk; rw [A_eq]; rfl)
theorem before_w (c : Dev nD) (t : Fin cfg0.N) (d) : (dats m 0 c).before 1 t d = iblk m c 1 t :=
  ((dats m 0 c).before_in_eq_fetched 1 rfl (fun _ => rfl) (fun _ _ _ => rfl) (fun t => (after_w m c t).trans (by
    unfold Dat.blockOf iblk; rw [A_eq])) t d).trans (by unfold Dat.fetched Dat.blockOf iblk; rw [A_eq]; rfl)
theorem before_g (c : Dev nD) (t : Fin cfg0.N) (d) : (dats m 0 c).before 2 t d = iblk m c 2 t :=
  ((dats m 0 c).before_in_eq_fetched 2 rfl (fun _ => rfl) (fun _ _ _ => rfl) (fun t => (after_g m c t).trans (by
    unfold Dat.blockOf iblk; rw [A_eq])) t d).trans (by unfold Dat.fetched Dat.blockOf iblk; rw [A_eq]; rfl)

/-- A buffer the body writes is left as said. -/
theorem leaves_live (c : Dev nD) (w : Fin cfg0.W) (t : Fin cfg0.N) (hi : cfg0.idle w (cfg0.grid.coords t) = false) :
    owns (c : Thread nD τ) ((cfg0.win w).stage (cfg0.slots t w)) fullShare ((dats m 0 c).after w t) ⊢ (dats m 0 c).leavesExact w t := by
  unfold Dat.leavesExact
  rw [hi]

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t ∗ (dats m 0 c).leavesExact 4 t)

theorem between_before (c : Dev nD) (t : Fin cfg0.N) : (dats m 0 c).Φ t.castSucc = between m c t.val := by
  dsimp only [dats]; exact Dat.Φ_castSucc (fun n _ => between m c n) t
theorem between_after (c : Dev nD) (t : Fin cfg0.N) : (dats m 0 c).Φ t.succ = between m c (t.val + 1) := rfl

/-- A row block's rows, taken out of the whole array and put back. -/
theorem rows_apart (c : Dev nD) (i : Fin 4) :
    ((x2.view.loc (c : Thread nD τ) ↦{fullShare} V m c main_arg2 : sProp 𝕄)
      ⊣⊢ iprop(((block x2 i).view.loc (c : Thread nD τ) ↦[(block x2 i).view.set]{fullShare} V m c main_arg2)
        ∗ (x2.view.loc (c : Thread nD τ) ↦[Finset.univ \ (block x2 i).view.set]{fullShare} V m c main_arg2)))
    ∧ ((dx3.view.loc (c : Thread nD τ) ↦{fullShare} V m c main_arg3 : sProp 𝕄)
      ⊣⊢ iprop(((block dx3 i).view.loc (c : Thread nD τ) ↦[(block dx3 i).view.set]{fullShare} V m c main_arg3)
        ∗ (dx3.view.loc (c : Thread nD τ) ↦[Finset.univ \ (block dx3 i).view.set]{fullShare} V m c main_arg3))) :=
  ⟨pointsTo_split_subset (Finset.subset_univ _), pointsTo_split_subset (Finset.subset_univ _)⟩

theorem sound_start (c : Dev nD) (t : Fin cfg0.N) (h : t.val % 4 = 0) :
    bodyPre m c t ⊢ wp frame (wpE (defs₀ (F := F)) Variants.none c none) Set.univ (bodyAt0 t) (fun _ => bodyPost m c t) := by
  obtain ⟨h1, h2⟩ := startPoint t h
  have hi := idle_early t (by omega)
  have e := grown_at m c t
  rw [h] at e
  unfold bodyPre bodyPost bodyAt0
  simp only [before_du, before_w, before_g]
  rw [between_before, between_after, show (dats m 0 c).owesAt () t.succ = (dats m 0 c).owesAt () t.castSucc from rfl,
    after_du, after_w, after_g, between_rest m c _ h, between_inside m c _ (by omega),
    show (t.val + 1) % 4 = 0 + 1 by omega, show rowBlock (t.val + 1) = rowBlock t.val from Fin.ext (by show (t.val + 1) / 4 % 4 = t.val / 4 % 4; omega)]
  unfold atRest underWay
  rw [e]
  iintro ⟨⟨Hp, HA, HX, HY, Hs, Hs', Hx, Hd⟩, Ho, ⟨%d0, H0⟩, ⟨%d1, H1⟩, ⟨%d2, H2⟩, H3, H4⟩
  ihave Hx2 := (rows_apart m c (rowBlock t.val)).1.1 $$ Hx
  ihave Hd2 := (rows_apart m c (rowBlock t.val)).2.1 $$ Hd
  icases Hx2 with ⟨Hx, Hxr⟩
  icases Hd2 with ⟨Hd, Hdr⟩
  iapply (start_body c (grid0.coords t) h1 h2 _ _ _ _ _ _ _ _ _ _ _ _ _ _ _ _ _ _ _ _ (iblk m c 0 t) (iblk m c 1 t)
    (block x2 (rowBlock t.val)) (block dx3 (rowBlock t.val)) (block_eq x2 t h1) (block_eq dx3 t h1) (V m c main_arg2) (V m c main_arg3) _)
  isplitl [H0]; · iexact H0
  isplitl [H1]; · iexact H1
  isplitl [HA]; · iexact HA
  isplitl [HX]; · iexact HX
  isplitl [HY]; · iexact HY
  isplitl [Hx]; · iexact Hx
  isplitl [Hd]; · iexact Hd
  isplitl [Hs]; · iexact Hs
  isplitl [Hs']; · iexact Hs'
  iintro ⟨H0, H1, HA, Hs, Hs'⟩
  isplitl [Hp HA Hs Hs' Hxr Hdr]
  · isplitl [Hp]; · iexact Hp
    isplitl [HA]; · iexact HA
    isplitl [Hs]; · iexact Hs
    isplitl [Hs']; · iexact Hs'
    isplitl [Hxr]; · iexact Hxr
    iexact Hdr
  isplitl [Ho]; · iexact Ho
  isplitl [H0]; · iexact H0
  isplitl [H1]; · iexact H1
  isplitl [H2]; · iexact H2
  isplitl [H3]
  · rw [(dats m 0 c).leavesExact_idle 3 t hi.1.1 hi.1.2]; iexact H3
  rw [(dats m 0 c).leavesExact_idle 4 t hi.2.1 hi.2.2]; iexact H4

theorem sound_middle (c : Dev nD) (t : Fin cfg0.N) (h : ¬ t.val % 4 = 0) (h3 : ¬ t.val % 4 = 3) :
    bodyPre m c t ⊢ wp frame (wpE (defs₀ (F := F)) Variants.none c none) Set.univ (bodyAt0 t) (fun _ => bodyPost m c t) := by
  have hi := idle_early t h3
  unfold bodyPre bodyPost bodyAt0
  simp only [before_du, before_w, before_g]
  rw [between_before, between_after, show (dats m 0 c).owesAt () t.succ = (dats m 0 c).owesAt () t.castSucc from rfl,
    after_du, after_w, after_g, between_inside m c _ h, between_inside m c _ (by omega),
    show (t.val + 1) % 4 = t.val % 4 + 1 by omega, show rowBlock (t.val + 1) = rowBlock t.val from Fin.ext (by show (t.val + 1) / 4 % 4 = t.val / 4 % 4; omega)]
  unfold underWay
  rw [grown_at m c t]
  iintro ⟨⟨Hp, HA, Hs, Hs', Hxr, Hdr⟩, Ho, ⟨%d0, H0⟩, ⟨%d1, H1⟩, ⟨%d2, H2⟩, H3, H4⟩
  iapply (middle_body c (grid0.coords t) (laterPoint t h) (earlyPoint t h3) _ _ _ _ _ _ _ _ _ _ _ _ _ _ _ _ _ _ _ _ (iblk m c 0 t) (iblk m c 1 t)
    (grown m c (rowBlock t.val) (t.val % 4)) _)
  isplitl [H0]; · iexact H0
  isplitl [H1]; · iexact H1
  isplitl [HA]; · iexact HA
  iintro ⟨H0, H1, HA⟩
  isplitl [Hp HA Hs Hs' Hxr Hdr]
  · isplitl [Hp]; · iexact Hp
    isplitl [HA]; · iexact HA
    isplitl [Hs]; · iexact Hs
    isplitl [Hs']; · iexact Hs'
    isplitl [Hxr]; · iexact Hxr
    iexact Hdr
  isplitl [Ho]; · iexact Ho
  isplitl [H0]; · iexact H0
  isplitl [H1]; · iexact H1
  isplitl [H2]; · iexact H2
  isplitl [H3]
  · rw [(dats m 0 c).leavesExact_idle 3 t hi.1.1 hi.1.2]; iexact H3
  rw [(dats m 0 c).leavesExact_idle 4 t hi.2.1 hi.2.2]; iexact H4

theorem sound_end (c : Dev nD) (t : Fin cfg0.N) (h : ¬ t.val % 4 = 0) (h3 : t.val % 4 = 3) :
    bodyPre m c t ⊢ wp frame (wpE (defs₀ (F := F)) Variants.none c none) Set.univ (bodyAt0 t) (fun _ => bodyPost m c t) := by
  have hi := live_end t h3
  have e := grown_at m c t
  rw [h3] at e
  unfold bodyPre bodyPost bodyAt0
  simp only [before_du, before_w, before_g]
  rw [between_before, between_after, after_du, after_w, after_g, between_inside m c _ h, between_rest m c _ (by omega), h3]
  unfold Dat.owesAt Pipeline.owesWithin
  rw [show (dats m 0 c).owed t.castSucc = 0 from rfl, show (dats m 0 c).owed t.succ = 0 from rfl]
  unfold underWay atRest
  iintro ⟨⟨Hp, HA, Hs, Hs', Hxr, Hdr⟩, ⟨%W, -, Ho⟩, ⟨%d0, H0⟩, ⟨%d1, H1⟩, ⟨%d2, H2⟩, ⟨%d3, H3⟩, ⟨%d4, H4⟩⟩
  iapply (end_body c (grid0.coords t) (laterPoint t h) (endPoint t h3) _ _ _ _ _ _ _ _ _ _ _ _ _ _ _ _ _ _ _ _ (iblk m c 0 t) (iblk m c 1 t) (iblk m c 2 t)
    (grown m c (rowBlock t.val) 3) (block x2 (rowBlock t.val)) (block dx3 (rowBlock t.val)) (V m c main_arg2) (V m c main_arg3) W _)
  isplitl [H0]; · iexact H0
  isplitl [H1]; · iexact H1
  isplitl [H2]; · iexact H2
  isplitl [H3]; · iexists _; iexact H3
  isplitl [H4]; · iexists _; iexact H4
  isplitl [HA]; · iexact HA
  isplitl [Hs]; · iexact Hs
  isplitl [Hs']; · iexact Hs'
  isplitl [Ho]; · iexact Ho
  iintro ⟨H0, H1, H2, H3, H4, HA, HX, HY, Hx, Hd, Hs, Hs', ⟨%W', Ho⟩⟩
  isplitl [Hp HA HX HY Hs Hs' Hx Hd Hxr Hdr]
  · isplitl [Hp]; · iexact Hp
    isplitl [HA]; · iexact HA
    isplitl [HX]; · iexact HX
    isplitl [HY]; · iexact HY
    isplitl [Hs]; · iexact Hs
    isplitl [Hs']; · iexact Hs'
    isplitl [Hx Hxr]
    · iapply (rows_apart m c (rowBlock t.val)).1.2
      isplitl [Hx]; · iexact Hx
      iexact Hxr
    iapply (rows_apart m c (rowBlock t.val)).2.2
    isplitl [Hd]; · iexact Hd
    iexact Hdr
  isplitl [Ho]
  · iexists W'; isplitr; · ipureintro; exact fun _ _ => Or.inl trivial
    iexact Ho
  isplitl [H0]; · iexact H0
  isplitl [H1]; · iexact H1
  isplitl [H2]; · iexact H2
  isplitl [H3]
  · iapply (leaves_live m c 3 t hi.1)
    rw [after_dx, e]; iexact H3
  iapply (leaves_live m c 4 t hi.2)
  rw [after_dg, e]; iexact H4

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  by_cases h : t.val % 4 = 0
  · exact triple_restated (sound_start m c t h) rfl .rfl fun _ => .rfl
  by_cases h3 : t.val % 4 = 3
  · exact triple_restated (sound_end m c t h h3) rfl .rfl fun _ => .rfl
  · exact triple_restated (sound_middle m c t h h3) rfl .rfl fun _ => .rfl

/-! ## The run -/

/-- The two cells of the copies, -/
abbrev cells : Fin 2 → SemLoc sig := fun j => (![SemLoc.dma 9, SemLoc.dma 10] : Fin 2 → SemLoc sig) j
theorem cells_own : Pipeline.OwnSemFacts spec0 cells := by decide
/-- and the arrays they read. -/
def sources : Finset (Ref sig .tc) := {main_arg2, main_arg3}
theorem sources_rest : sources ⊆ Pipeline.restRefs sig spec0 := by decide

theorem cells_eq (c : Dev nD) : (Pipeline.ownSems0 (Ix := Unit) (Name := ℕ) (U := Pipeline.UD sig nD τ) (Lvl := ℕ) (Val := Elt F) (τ := τ) cells c : sProp 𝕄)
    = iprop(semVal ((c : Thread nD τ), SemLoc.dma 9) 0 ∗ semVal ((c : Thread nD τ), SemLoc.dma 10) 0) := by
  rw [Pipeline.ownSems0_eq_of_list c cells [0, 1] (by decide) (by decide)]; rfl
theorem sources_eq (c : Dev nD) : (bigSep sources (fun b => ((c : Thread nD τ).loc b) ↦{fullShare} V m c b) : sProp 𝕄)
    = iprop((x2.view.loc (c : Thread nD τ) ↦{fullShare} V m c main_arg2) ∗ (dx3.view.loc (c : Thread nD τ) ↦{fullShare} V m c main_arg3)) := by
  rw [BI.bigSep_eq_bigSepL_of_eq [main_arg2, main_arg3] (by decide) (by decide)]; rfl

/-- What the run starts and ends with is what is held between two row blocks. -/
theorem at_rest (c : Dev nD) : (Pipeline.ΦD cells spec0 sources (V m) c : sProp 𝕄) ⊣⊢ iprop((∃ r, prngReg c r) ∗ atRest m c) := by
  rw [Pipeline.ΦD_eq, scopedRest0_eq, cells_eq, sources_eq]
  unfold atRest
  simp only [owns_whole]
  constructor
  · iintro ⟨⟨H0, H1, H2⟩, Hp, ⟨Hs, Hs'⟩, Hx, Hd⟩
    isplitl [Hp]; · iexact Hp
    isplitl [H0]; · iexact H0
    isplitl [H1]; · iexact H1
    isplitl [H2]; · iexact H2
    isplitl [Hs]; · iexact Hs
    isplitl [Hs']; · iexact Hs'
    isplitl [Hx]; · iexact Hx
    iexact Hd
  · iintro ⟨Hp, H0, H1, H2, Hs, Hs', Hx, Hd⟩
    isplitl [H0 H1 H2]
    · isplitl [H0]; · iexact H0
      isplitl [H1]; · iexact H1
      iexact H2
    isplitl [Hp]; · iexact Hp
    isplitl [Hs Hs']
    · isplitl [Hs]; · iexact Hs
      iexact Hs'
    isplitl [Hx]; · iexact Hx
    iexact Hd

/-- The host's lines after the kernel touch neither of them. -/
theorem tail_apart : ∀ ops ∈ ([hostOps1] : List (List (HloOp τ sig (Elt F)))), ∀ op ∈ ops,
    op.bufs ⊆ Pipeline.tailRefsBut sig Pipeline.Prefetch.none spec0 sources := by
  intro ops hops op hop
  simp only [List.mem_cons, List.mem_nil_iff, or_false] at hops
  subst hops
  refine Pipeline.sub_tailRefsBut Pipeline.Prefetch.none spec0 sources op ((List.forall_iff_forall_mem.mp hostOps1_sub) op hop) (fun k => k.elim0) ?_
  intro b hb
  simp only [sources, Finset.mem_insert, Finset.mem_singleton] at hb
  simp only [hostOps1, List.mem_cons, List.mem_nil_iff, or_false] at hop
  rcases hb with rfl | rfl <;> rcases hop with rfl | rfl <;> (
    simp only [StableHlo.nullary_bufs, StableHlo.binary_bufs, Finset.mem_insert, Finset.mem_singleton, not_or]
    repeat' apply And.intro
    all_goals exact StableHlo.devRef_ne_of_ne (by decide))

set_option backward.isDefEq.respectTransparency.types false in
set_option maxHeartbeats 800000 in
theorem run_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 cells defs₀ Variants.none cells_own sources sources_rest m ρ main
    (hbody := fun c => (body_obligation m c).loose) (hshare := fun c => (dats m 0 c).share_full fun _ => rfl)
    (howed := fun _ _ => rfl) (V₀ := V0 m) (opss := [hostOps1]) (hsub := tail_apart) (hfresh := sfx_fresh) (hkeep := sfx_keeps)
    (hmain := Pipeline.hmain_around cfgs 0 defs₀ Variants.none m main [] [hostOps1] (by simp only [List.Forall]) (by simp only [List.Forall]) main_chain)
    (hA := A_eq m) (hin := fun c => (at_rest m c).1.trans (by show _ ⊢ between m c 0; rw [between_rest m c 0 rfl]))
    (hout := fun c => (show between m c cfg0.N ⊢ _ by rw [between_rest m c _ (by rw [show cfg0.N = 16 from N_0])]; exact (at_rest m c).2))

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

end Cert.UpBwdIdeal.Streamed

end
-- ==== Proof.UpBwd.lean ====
/-
  The feed-forward network's first product backwards, with the normalisation before it. From the gradient `du` of the product and
  the weight `w` the kernel forms the gradient `du w` of the normalised rows, in four parts that it adds up, takes it through the
  normalisation of `x2`, adds the gradient `dx3` that reaches `x2` past the network, and for each block of 512 rows forms the
  block's part of the gain's gradient, which the host adds up.
-/
module

public import proofs.«01_k».proof.Defs
public import proofs.«01_k».proof.Proof.RmsBwd
public import proofs.«01_k».proof.Proof.UpBwdRun
public import proofs.«01_k».proof.Proof.Gen.UpBwd.Frame
public import proofs.«01_k».proof.Proof.Gen.UpBwdRefIdeal.Run
public import proofs.«01_k».proof.Proof.Gen.UpBwdRefIdeal.Read

@[expose] public section

set_option maxRecDepth 16384

noncomputable section

namespace Cert.UpBwdIdeal.Streamed

open Cert.UpBwdIdeal Cert.UpBwdIdeal.Gen
open Idealize.ShloMosaic Idealize.ShloMosaic.TcCoe Idealize.SL.Sem

/-! ## What the run leaves unchanged, whatever the numbers are -/

variable {F : FTy → Type} [FloatOps F] (m : (ℓ : Loc nD τ sig) → Buf (Elt F) ℓ)

/-- The host operations after the kernel leave every array alone that is neither a window's nor one of their results. -/
theorem stays (c : Dev nD) (b : Ref sig .tc) (hw : ∀ w, Pipeline.arrRef spec0 w ≠ b) (h1 : b ≠ main_cst) (h2 : b ≠ main_v1) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.nullary_writes, StableHlo.binary_writes, Finset.mem_singleton]
      exact ⟨StableHlo.devRef_ne_of_ne h1, StableHlo.devRef_ne_of_ne h2⟩)),
    Pipeline.withArrays_of_ne _ c (V0 m c) _ b hw]

/-- The arguments stay and every counter ends at zero. -/
theorem unchanged (ρ : Dev nD → PrngReg) : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c =>
    ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans
        ((stays m c main_arg2 (by decide) (by decide) (by decide)).trans (V_main_arg2 m c)),
      ((h.1 c).2 main_arg3 (Pipeline.mem_restRefs_of main_arg3 (by decide) (by decide))).trans
        ((stays m c main_arg3 (by decide) (by decide) (by decide)).trans (V_main_arg3 m c)),
      ((h.1 c).1 2).trans (((dats m 0 c).arrAt_in 2 rfl _).trans ((A_eq m c 2).trans (V_main_arg4 m c)))⟩, h.2⟩) (run_quiescent m ρ)

end Cert.UpBwdIdeal.Streamed

namespace Cert.UpBwdIdeal.Ker

open Cert.UpBwdIdeal Cert.UpBwdIdeal.Gen Cert.UpBwdIdeal.Streamed Cert.Products
open Idealize.ShloMosaic Idealize.ShloMosaic.TcCoe Idealize.SL.Sem Idealize.ShloMosaic.ValueIdx
open Idealize.ShloMosaic.Pipeline (Dat)

/-! ## What one point computes -/

/-- The accumulator starts at zero, -/
theorem pay1 (i : Fin 512) (j : Fin 2048) : (k0_pay1 (F := Ideal) : FVec Ideal S512x2048 .f32) (ix2 i j) = 0 := by
  unfold k0_pay1
  exact (congrFun (shapeCast_self _ _) _).trans Ideal.ofBits_zero_f32

/-- and a point adds the product of its blocks. -/
theorem pay2 (h : FVec Ideal S512x2048 .f32) (a : FVec Ideal S512x2048 .bf16) (w : FVec Ideal S2048x2048 .bf16) (i : Fin 512) (j : Fin 2048) :
    (k0_pay2 (F := Ideal) h a w : FVec Ideal S512x2048 .f32) (ix2 i j) = h (ix2 i j) + ∑ k : Fin 2048, a (ix2 i k) * w (ix2 k j) := by
  unfold k0_pay2
  refine (congrFun (shapeCast_self _ _) _).trans (congrArg (h (ix2 i j) + ·) ((Ideal.matmul_plain_apply (prec := none) ..).trans ?_))
  show Ideal.ofBits .f32 0x00000000#32 + _ = _
  rw [Ideal.ofBits_zero_f32, zero_add]

theorem pay4 (x : FVec Ideal S512x2048 .f32) (i : Fin 512) : (k0_pay4 (F := Ideal) x : FVec Ideal S512x1 .f32) (ix2 i 0) = Rms.rinv (Rms.row x i) :=
  Rms.rinv_kernel x _ _ _ _ i

/-- A block's part of the gain's gradient. -/
theorem pay6 (h x : FVec Ideal S512x2048 .f32) (j : Fin 2048) :
    (k0_pay3 (F := Ideal) (k0_pay6 (F := Ideal) h x) : FVec Ideal S1x1x2048 .f32) (ix3 0 0 j) = ∑ i : Fin 512, Rms.gainTerm x h j i := by
  unfold k0_pay3 k0_pay6 k0_pay5
  exact Rms.gain_kernel x h _ (pay4 x) _ _ _ _ _ _ j

/-- A block's gradient through the normalisation, with the other gradient added. -/
theorem pay7 (h x : FVec Ideal S512x2048 .f32) (g : FVec Ideal S1x2048 .f32) (d : FVec Ideal S512x2048 .f32) (i : Fin 512) (j : Fin 2048) :
    (k0_pay7 (F := Ideal) h x g d : FVec Ideal S512x2048 .f32) (ix2 i j) = d (ix2 i j) + Rms.back (Rms.row x i) (Rms.row (Rms.scaled h g) i) j := by
  unfold k0_pay7 k0_pay5
  dsimp only
  rw [Rms.scaled_kernel]
  exact congrArg (d (ix2 i j) + ·) (Rms.back_kernel x (Rms.scaled h g) _ (pay4 x) _ _ _ _ _ i j)

/-! ## The arrays -/

variable (m : (ℓ : Loc nD τ sig) → Buf (Elt Ideal) ℓ) (c : Dev nD)

/-- The gradient of the product, the weight, the rows that were normalised, their other gradient and the gain. -/
abbrev argA : FVec Ideal S2048x8192 .bf16 := m ((c : Thread nD τ).loc main_arg0)
abbrev argW : FVec Ideal S8192x2048 .bf16 := m ((c : Thread nD τ).loc main_arg1)
abbrev argX : FVec Ideal S2048x2048 .f32 := m ((c : Thread nD τ).loc main_arg2)
abbrev argD : FVec Ideal S2048x2048 .f32 := m ((c : Thread nD τ).loc main_arg3)
abbrev argG : FVec Ideal S1x2048 .f32 := m ((c : Thread nD τ).loc main_arg4)

/-- The gradient of the normalised rows. -/
def dn (a : FVec Ideal S2048x8192 .bf16) (w : FVec Ideal S8192x2048 .bf16) : FVec Ideal S2048x2048 .f32 :=
  fun y => ∑ k : Fin 8192, a (ix2 (y 0) k) * w (ix2 k (y 1))

/-- The two results: the gradients of the rows and of the gain. -/
def dX (a : FVec Ideal S2048x8192 .bf16) (w : FVec Ideal S8192x2048 .bf16) (x d : FVec Ideal S2048x2048 .f32) (g : FVec Ideal S1x2048 .f32) :
    FVec Ideal S2048x2048 .f32 := Rms.dxRes d x (Rms.scaled (dn a w) g)
def dg (a : FVec Ideal S2048x8192 .bf16) (w : FVec Ideal S8192x2048 .bf16) (x : FVec Ideal S2048x2048 .f32) : FVec Ideal S1x2048 .f32 := Rms.gain x (dn a w)
/-- The gain's gradient by blocks of rows, as the kernel leaves it. -/
def dgTiles (a : FVec Ideal S2048x8192 .bf16) (w : FVec Ideal S8192x2048 .bf16) (x : FVec Ideal S2048x2048 .f32) : FVec Ideal S4x1x2048 .f32 :=
  Rms.gainTiles (n := 4) (b := 512) rfl x (dn a w)

/-- Where the windows lie at each point. -/
theorem places : ∀ t : Fin grid0.N, (win0_0.index t 0 = t.val / 4 ∧ win0_0.index t 1 = t.val % 4) ∧ (win0_1.index t 0 = t.val % 4 ∧ win0_1.index t 1 = 0)
    ∧ (win0_2.index t 0 = 0 ∧ win0_2.index t 1 = 0) ∧ (win0_3.index t 0 = t.val / 4 % 4 ∧ win0_3.index t 1 = 0)
    ∧ win0_4.index t 0 = t.val / 4 % 4 ∧ win0_4.index t 1 = 0 ∧ win0_4.index t 2 = 0 := by decide +kernel

/-- Row `r` of row block `i`, as a row of the whole, -/
abbrev rowOf (i : Fin 4) (r : Fin 512) : Fin 2048 := Rms.tileRow (n := 4) rfl i r
/-- and inner value `q` of the `k`-th block of them. -/
abbrev innerOf (k : Fin 4) (q : Fin 2048) : Fin 8192 := Rms.tileRow (n := 4) rfl k q

theorem block_a (i k : Fin 4) (r : Fin 512) (q : Fin 2048) :
    (iblk m c 0 (pointOf i k.val) : FVec Ideal S512x2048 .bf16) (ix2 r q) = argA m c (ix2 (rowOf i r) (innerOf k q)) := by
  have hi := (places (pointOf i k.val)).1
  have hk := k.isLt
  unfold iblk
  rw [View.read_apply]
  refine (congrArg (V m c main_arg0) (?_ : _ = ix2 (rowOf i r) (innerOf k q))).trans (congrFun (V_main_arg0 m c) _)
  funext a
  apply Fin.ext
  match a with
  | ⟨0, _⟩ =>
    show win0_0.index (pointOf i k.val) 0 * 512 + 1 * r.val = 512 * i.val + r.val
    rw [hi.1]; show (4 * i.val + k.val % 4) / 4 * 512 + _ = _; omega
  | ⟨1, _⟩ =>
    show win0_0.index (pointOf i k.val) 1 * 2048 + 1 * q.val = 2048 * k.val + q.val
    rw [hi.2]; show (4 * i.val + k.val % 4) % 4 * 2048 + _ = _; omega

theorem block_w (i k : Fin 4) (q j : Fin 2048) :
    (iblk m c 1 (pointOf i k.val) : FVec Ideal S2048x2048 .bf16) (ix2 q j) = argW m c (ix2 (innerOf k q) j) := by
  have hi := (places (pointOf i k.val)).2.1
  have hk := k.isLt
  unfold iblk
  rw [View.read_apply]
  refine (congrArg (V m c main_arg1) (?_ : _ = ix2 (innerOf k q) j)).trans (congrFun (V_main_arg1 m c) _)
  funext a
  apply Fin.ext
  match a with
  | ⟨0, _⟩ =>
    show win0_1.index (pointOf i k.val) 0 * 2048 + 1 * q.val = 2048 * k.val + q.val
    rw [hi.1]; show (4 * i.val + k.val % 4) % 4 * 2048 + _ = _; omega
  | ⟨1, _⟩ => show win0_1.index (pointOf i k.val) 1 * 2048 + 1 * j.val = j.val; rw [hi.2]; omega

theorem block_g (t : Fin cfg0.N) : (iblk m c 2 t : FVec Ideal S1x2048 .f32) = argG m c := by
  have hi := (places t).2.2.1
  funext y
  unfold iblk
  rw [View.read_apply]
  refine (congrArg (V m c main_arg4) (?_ : _ = y)).trans (congrFun (V_main_arg4 m c) _)
  funext a
  apply Fin.ext
  match a with
  | ⟨0, _⟩ => show win0_2.index t 0 * 1 + 1 * (y 0).val = (y 0).val; rw [hi.1]; omega
  | ⟨1, _⟩ => show win0_2.index t 1 * 2048 + 1 * (y 1).val = (y 1).val; rw [hi.2]; omega

/-- The copied rows are rows of their arrays. -/
theorem copied (i : Fin 4) (r : Fin 512) (k : Fin 2048) : (xRows m c i : FVec Ideal S512x2048 .f32) (ix2 r k) = argX m c (ix2 (rowOf i r) k)
    ∧ (dxRows m c i : FVec Ideal S512x2048 .f32) (ix2 r k) = argD m c (ix2 (rowOf i r) k) := by
  unfold xRows dxRows block
  constructor
  all_goals
    rw [View.read_apply]
    first | refine congrArg (argX m c) (?_ : _ = ix2 (rowOf i r) k) | refine congrArg (argD m c) (?_ : _ = ix2 (rowOf i r) k)
    funext a
    apply Fin.ext
    match a with
    | ⟨0, _⟩ => show 512 * i.val + 1 * r.val = 512 * i.val + r.val; omega
    | ⟨1, _⟩ => show 0 + 1 * k.val = k.val; omega

/-- The four products of a row block add up to its rows of the whole product. -/
theorem grown_dn (i : Fin 4) (r : Fin 512) (j : Fin 2048) :
    (grown m c i 4 : FVec Ideal S512x2048 .f32) (ix2 r j) = dn (argA m c) (argW m c) (ix2 (rowOf i r) j) := by
  have step : ∀ k : Fin 4, (grown m c i (k.val + 1) : FVec Ideal S512x2048 .f32) (ix2 r j) = (grown m c i k.val : FVec Ideal S512x2048 .f32) (ix2 r j)
      + ∑ q : Fin 2048, argA m c (ix2 (rowOf i r) (innerOf k q)) * argW m c (ix2 (innerOf k q) j) := fun k => by
    refine (pay2 (grown m c i k.val) (iblk m c 0 (pointOf i k.val)) (iblk m c 1 (pointOf i k.val)) r j).trans ?_
    exact congrArg (_ + ·) (Finset.sum_congr rfl fun q _ => congrArg₂ (· * ·) (block_a m c i k r q) (block_w m c i k q j))
  have start : (grown m c i 0 : FVec Ideal S512x2048 .f32) (ix2 r j) = 0 := pay1 r j
  have all := Rms.sum_tiles (n := 4) (b := 2048) rfl fun k : Fin 8192 => argA m c (ix2 (rowOf i r) k) * argW m c (ix2 k j)
  rw [Fin.sum_univ_four] at all
  refine (step 3).trans (Eq.trans ?_ all)
  refine congrArg (· + _) ((step 2).trans (congrArg (· + _) ((step 1).trans (congrArg (· + _) ((step 0).trans ?_)))))
  exact (congrArg (· + _) start).trans (zero_add _)

/-- The rows a row block works on are rows of the whole. -/
theorem rows (i : Fin 4) (r : Fin 512) : Rms.row (xRows m c i : FVec Ideal S512x2048 .f32) r = Rms.row (argX m c) (rowOf i r)
    ∧ Rms.row (Rms.scaled (grown m c i 4 : FVec Ideal S512x2048 .f32) (argG m c)) r
      = Rms.row (Rms.scaled (dn (argA m c) (argW m c)) (argG m c)) (rowOf i r) :=
  ⟨funext fun k => (copied m c i r k).1, funext fun k => congrArg (· * argG m c (ix2 0 k)) (grown_dn m c i r k)⟩

/-- The gradient of the rows after the run. -/
theorem final3 : (dats m 0 c).arrAt 3 cfg0.N = dX (argA m c) (argW m c) (argX m c) (argD m c) (argG m c) := by
  refine (dats m 0 c).arrAt_eq_of_cover 3 (dX (argA m c) (argW m c) (argX m c) (argD m c) (argG m c)) (fun t _ => ?_) fun i => ?_
  · have hi := (places t).2.2.2.1
    show (cfg0.win 3).cut (grid0.coords t) ((dats m 0 c).after 3 t) = _
    rw [after_dx]
    funext j
    rw [View.read_apply]
    obtain ⟨i, k, rfl⟩ : ∃ (i : Fin 512) (k : Fin 2048), j = ix2 i k := ⟨j 0, j 1, eq_ix2 (n0 := 512) (n1 := 2048) j⟩
    have h : (k0_pay7 (F := Ideal) (grown m c (rowBlock t.val) 4) (xRows m c (rowBlock t.val)) (iblk m c 2 t) (dxRows m c (rowBlock t.val)) : FVec Ideal S512x2048 .f32) (ix2 i k)
        = dX (argA m c) (argW m c) (argX m c) (argD m c) (argG m c) (ix2 (rowOf (rowBlock t.val) i) k) := by
      rw [pay7, block_g, (copied m c _ i k).2, (rows m c _ i).1, (rows m c _ i).2]
      rfl
    refine Eq.trans h (congrArg (dX (argA m c) (argW m c) (argX m c) (argD m c) (argG m c)) (funext fun a => Fin.ext ?_))
    match a with
    | ⟨0, _⟩ => show 512 * (t.val / 4 % 4) + i.val = win0_3.index t 0 * 512 + 1 * i.val; rw [hi.1]; omega
    | ⟨1, _⟩ => show k.val = win0_3.index t 1 * 2048 + 1 * k.val; rw [hi.2]; omega
  · have hN : cfg0.N = 16 := N_0
    have hb : (i 0).val < 2048 := (i 0).isLt
    have hb1 : (i 1).val < 2048 := (i 1).isLt
    obtain ⟨t, ht⟩ : ∃ t : Fin cfg0.N, t.val = (i 0).val / 512 * 4 + 3 := ⟨⟨(i 0).val / 512 * 4 + 3, by omega⟩, rfl⟩
    have hi := (places t).2.2.2.1
    refine ⟨t, (flush0_3 t).2 (by omega), ?_⟩
    show i ∈ ((View.whole main_v0_0).slice (win0_3.rect t)).set
    rw [View.set_slice_whole, Rect.mem_set_unit]
    intro a
    match a with
    | ⟨0, _⟩ => show win0_3.index t 0 * 512 ≤ (i 0).val ∧ (i 0).val < win0_3.index t 0 * 512 + 512; rw [hi.1]; omega
    | ⟨1, _⟩ => show win0_3.index t 1 * 2048 ≤ (i 1).val ∧ (i 1).val < win0_3.index t 1 * 2048 + 2048; rw [hi.2]; omega

/-- The blocks of the gain's gradient after the kernel. -/
theorem final4 : (dats m 0 c).arrAt 4 cfg0.N = dgTiles (argA m c) (argW m c) (argX m c) := by
  refine (dats m 0 c).arrAt_eq_of_cover 4 (dgTiles (argA m c) (argW m c) (argX m c)) (fun t _ => ?_) fun i => ?_
  · have hi := (places t).2.2.2.2
    show (cfg0.win 4).cut (grid0.coords t) ((dats m 0 c).after 4 t) = _
    rw [after_dg]
    funext j
    rw [View.read_apply]
    obtain ⟨a, b, k, rfl⟩ : ∃ (a b : Fin 1) (k : Fin 2048), j = ix3 a b k := ⟨j 0, j 1, j 2, eq_ix3 (n0 := 1) (n1 := 1) (n2 := 2048) j⟩
    obtain rfl : a = 0 := Subsingleton.elim _ _
    obtain rfl : b = 0 := Subsingleton.elim _ _
    have h : (k0_pay3 (F := Ideal) (k0_pay6 (F := Ideal) (grown m c (rowBlock t.val) 4) (xRows m c (rowBlock t.val))) : FVec Ideal S1x1x2048 .f32) (ix3 0 0 k)
        = dgTiles (argA m c) (argW m c) (argX m c) (ix3 (rowBlock t.val) 0 k) := by
      rw [pay6]
      show _ = ∑ i : Fin 512, Rms.gainTerm (argX m c) (dn (argA m c) (argW m c)) k (rowOf (rowBlock t.val) i)
      refine Finset.sum_congr rfl fun i _ => ?_
      unfold Rms.gainTerm
      rw [(copied m c _ i k).1, grown_dn, (rows m c _ i).1]
    refine Eq.trans h (congrArg (dgTiles (argA m c) (argW m c) (argX m c)) (funext fun a => Fin.ext ?_))
    match a with
    | ⟨0, _⟩ => show t.val / 4 % 4 = win0_4.index t 0 * 1 + 1 * 0; rw [hi.1]; omega
    | ⟨1, _⟩ => show 0 = win0_4.index t 1 * 1 + 1 * 0; rw [hi.2.1]
    | ⟨2, _⟩ => show k.val = win0_4.index t 2 * 2048 + 1 * k.val; rw [hi.2.2]; omega
  · have hN : cfg0.N = 16 := N_0
    have hb : (i 0).val < 4 := (i 0).isLt
    have hb1 : (i 1).val < 1 := (i 1).isLt
    have hb2 : (i 2).val < 2048 := (i 2).isLt
    obtain ⟨t, ht⟩ : ∃ t : Fin cfg0.N, t.val = (i 0).val * 4 + 3 := ⟨⟨(i 0).val * 4 + 3, by omega⟩, rfl⟩
    have hi := (places t).2.2.2.2
    refine ⟨t, (flush0_4 t).2 (by omega), ?_⟩
    show i ∈ ((View.whole main_v0_1).slice (win0_4.rect t)).set
    rw [View.set_slice_whole, Rect.mem_set_unit]
    intro a
    match a with
    | ⟨0, _⟩ => show win0_4.index t 0 * 1 ≤ (i 0).val ∧ (i 0).val < win0_4.index t 0 * 1 + 1; rw [hi.1]; omega
    | ⟨1, _⟩ => show win0_4.index t 1 * 1 ≤ (i 1).val ∧ (i 1).val < win0_4.index t 1 * 1 + 1; rw [hi.2.1]; omega
    | ⟨2, _⟩ => show win0_4.index t 2 * 2048 ≤ (i 2).val ∧ (i 2).val < win0_4.index t 2 * 2048 + 2048; rw [hi.2.2]; omega

/-- The host adds the blocks up to the gain's gradient. -/
theorem tail : (Pipeline.afterTail₀ cfgs (dats m) 0 (V0 m) [hostOps1] c main_v1 : FVec Ideal S1x2048 .f32) = dg (argA m c) (argW m c) (argX m c) := by
  have h : (Pipeline.afterTail₀ cfgs (dats m) 0 (V0 m) [hostOps1] c main_v1 : FVec Ideal S1x2048 .f32)
      = Host.reduceAdd (dgTiles (argA m c) (argW m c) (argX m c)) (constant S_ .f32 0x00000000#32) reducesTo_S4x1x2048_S1x2048_d0 h_S_ := by
    have hw := Pipeline.withArrays_arr spec0 (by decide) c (V0 m c) (fun w => (dats m 0 c).arrAt w (cfgs 0).N) 4
    show StableHlo.after hostOps1 _ _ = _
    after_results_simp
    exact congrArg (fun x => Host.reduceAdd (F := Ideal) x (constant S_ .f32 0x00000000#32) reducesTo_S4x1x2048_S1x2048_d0 h_S_)
      (hw.trans (final4 m c))
  exact h.trans (Rms.gain_tiles (n := 4) (b := 512) rfl _ _ _ (by decide) _)

/-- What the run leaves in the results, and that the arguments stay. -/
theorem values (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = dX (argA m c) (argW m c) (argX m c) (argD m c) (argG m c)
    ∧ r.2.mem ((c.tc : Thread nD τ).loc main_v1) = dg (argA m c) (argW m c) (argX m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => ⟨((h.1 c).1 3).trans (final3 m c),
      ((h.1 c).2 main_v1 (Pipeline.mem_restRefs_of main_v1 (by decide) (by decide))).trans (tail m c), h.2.1 c⟩)
    (θ_run_and (run_main m ρ) (unchanged m ρ))

end Cert.UpBwdIdeal.Ker

namespace Cert.UpBwdClaim

open Idealize.ShloMosaic Idealize.ShloMosaic.TcCoe Idealize.SL.Sem Idealize.ShloMosaic.ValueIdx Cert.Products
open Cert.UpBwdRefIdeal Cert.UpBwdRefIdeal.Gen Cert.UpBwdRefIdeal.Read
open Cert.UpBwdIdeal.Ker (argA argW argX argD argG dn dX dg)

section Reference
variable (a : FVec Ideal S2048x8192 .bf16) (w : FVec Ideal S8192x2048 .bf16) (x d : FVec Ideal S2048x2048 .f32) (g : FVec Ideal S1x2048 .f32)

theorem reference_meanSq (i : Fin 2048) : (val_main_v6 (F := Ideal) x : FVec Ideal S2048x1 .f32) (ix2 i 0) = Rms.meanSq (Rms.row x i) :=
  Rms.meanSq_host x reducesTo_S2048x2048_S2048_d1 (by decide) h_S_ bcast_S2048_S2048x1_0 bcast_S_S2048x1 i

theorem reference_dn : val_main_v19 (F := Ideal) a w = dn a w := by
  funext y
  obtain ⟨i, j, rfl⟩ : ∃ (i : Fin 2048) (j : Fin 2048), y = ix2 i j := ⟨y 0, y 1, eq_ix2 (n0 := 2048) (n1 := 2048) y⟩
  rw [val_main_v19_apply]
  refine Finset.sum_congr rfl fun k _ => congrArg₂ (· * ·) (congrArg a (ix2_ext i k rfl rfl)) ?_
  rw [val_main_v16_apply]
  exact congrArg w (ix2_ext k j rfl rfl)

theorem reference_dx : val_main_v39 (F := Ideal) a w x d g = dX a w x d g := by
  funext y
  obtain ⟨i, j, rfl⟩ : ∃ (i : Fin 2048) (j : Fin 2048), y = ix2 i j := ⟨y 0, y 1, eq_ix2 (n0 := 2048) (n1 := 2048) y⟩
  have ht : val_main_v24 (F := Ideal) a w g = Rms.scaled (dn a w) g := by
    rw [← reference_dn]
    exact Rms.scaled_host _ g bcast_S1x2048_S2048x2048_0_1
  show _ = d (ix2 i j) + Rms.back (Rms.row x i) (Rms.row (Rms.scaled (dn a w) g) i) j
  rw [← ht]
  exact Rms.back_host_res d x _ _ _ (Rms.rinv_host x _ (reference_meanSq x) bcast_S2048x1_S2048x2048_0_1)
    (Rms.slope_host x _ _ (reference_meanSq x) bcast_S2048_S2048x2048_0 reducesTo_S2048x2048_S2048_d1 (by decide)
      reducesTo_S2048x1_S2048_d1 (by decide) h_S_ shapeCasts_S2048_S2048x1 bcast_S_S2048x1) i j

theorem reference_dg : val_main_v22 (F := Ideal) a w x = dg a w x := by
  unfold dg
  rw [← reference_dn]
  exact Rms.gain_host x _ _ (Rms.rinv_host x _ (reference_meanSq x) bcast_S2048x1_S2048x2048_0_1) reducesTo_S2048x2048_S2048_d0 (by decide)
    h_S_ shapeCasts_S2048_S1x2048

end Reference

/-- The kernel and its idealization have one table of bodies. -/
theorem same_defs : Cert.UpBwdIdeal.defs (F := Bits) = Cert.UpBwd.defs (F := Bits) := by
  refine congrArg (Pipeline.defs _) (congrArg Defs.onTc (funext fun l => funext fun a => ?_))
  match l, a with
  | 0, (t, s) => rfl

/-- The kernel's frame. -/
theorem frame_p : Cert.quiescent_UpBwd := fun m ρ _ => by
  have h := Cert.UpBwdIdeal.Streamed.unchanged (F := Bits) m ρ
  rw [same_defs] at h
  exact h
/-- The idealization's frame. -/
theorem frame_pi : Cert.quiescent_UpBwdIdeal := fun m ρ _ => Cert.UpBwdIdeal.Streamed.unchanged (F := Ideal) m ρ
/-- The reference's frame. -/
theorem frame_ri : Cert.quiescent_UpBwdRefIdeal := fun m ρ _ =>
  (θ_run Cert.UpBwdRefIdeal.defs _ _).mono (fun r h => ⟨fun c => (h c).2.2, sem_eq_zero_of_no_sems (by decide) r.2⟩)
    (Cert.UpBwdRefIdeal.Value.run (F := Ideal) m ρ)

/-- The idealization's two gradients are the reference's. -/
theorem algebraic : Cert.algebraic_UpBwdIdeal_UpBwdRefIdeal := by
  intro m ρ m' ρ' _ hagree
  refine ⟨fun c => dX (argA m c) (argW m c) (argX m c) (argD m c) (argG m c), fun c => dg (argA m c) (argW m c) (argX m c),
    Cert.UpBwdIdeal.Ker.values m ρ, ?_⟩
  refine (θ_run Cert.UpBwdRefIdeal.defs _ _).mono (fun r h c => ?_) (Cert.UpBwdRefIdeal.Value.run (F := Ideal) m' ρ')
  obtain ⟨e0, e1, e2, e3, e4⟩ := hagree c
  refine ⟨(h c).1.trans ((val_main_v39_eq ..).trans ?_), (h c).2.1.trans ((val_main_v22_eq ..).trans ?_), (h c).2.2⟩
  · rw [e0, e1, e2, e3, e4]; exact reference_dx _ _ _ _ _
  · rw [e0, e1, e2]; exact reference_dg _ _ _

end Cert.UpBwdClaim

end
-- ==== Proof.RmsFwd.lean ====
/-
  Root-mean-square normalisation forwards, on the ideal numbers: each row times the reciprocal root of the mean of its squares,
  times the gain. Kernels and references multiply in the same order, so both are read off as one function of the rows.
-/
module

public import proofs.«01_k».proof.Proof.RmsBwd

@[expose] public section

set_option maxRecDepth 16384

noncomputable section

namespace Cert.Rms

open Cert.Products Idealize.ShloMosaic Idealize.ShloMosaic.ValueIdx

variable {M : ℕ}

/-- The normalised rows. -/
def normed (x : FVec Ideal ⟨2, ![M, 2048]⟩ .f32) (g : FVec Ideal ⟨2, ![1, 2048]⟩ .f32) (φ : FTy) : FVec Ideal ⟨2, ![M, 2048]⟩ φ :=
  fun y => row x (y 0) (y 1) * rinv (row x (y 0)) * g (ix2 0 (y 1))

/-- The product of rows with a weight, -/
def timesW {K N : ℕ} {φ₁ φ₂ : FTy} (a : FVec Ideal ⟨2, ![M, K]⟩ φ₁) (w : FVec Ideal ⟨2, ![K, N]⟩ φ₂) (φ : FTy) : FVec Ideal ⟨2, ![M, N]⟩ φ :=
  fun y => ∑ k : Fin K, a (ix2 (y 0) k) * w (ix2 k (y 1))
/-- and with the transpose of one. -/
def timesWT {K N : ℕ} {φ₁ φ₂ : FTy} (a : FVec Ideal ⟨2, ![M, K]⟩ φ₁) (w : FVec Ideal ⟨2, ![N, K]⟩ φ₂) (φ : FTy) : FVec Ideal ⟨2, ![M, N]⟩ φ :=
  fun y => ∑ k : Fin K, a (ix2 (y 0) k) * w (ix2 (y 1) k)

/-- The normalised rows as the kernels compute them, -/
theorem normed_kernel (x : FVec Ideal ⟨2, ![M, 2048]⟩ .f32) (g : FVec Ideal ⟨2, ![1, 2048]⟩ .f32) (h : Shape.Reduces ⟨2, ![M, 2048]⟩ [1] ⟨1, ![M]⟩)
    (hφ : FKind.Formats .f32) (hacc : 0x00000000#32 = FKind.add.neutral .f32 hφ) (hc : Shape.ShapeCasts ⟨1, ![M]⟩ ⟨2, ![M, 1]⟩)
    (hb : Shape.Broadcasts ⟨2, ![M, 1]⟩ ⟨2, ![M, 2048]⟩) (hg : Shape.Broadcasts ⟨2, ![1, 2048]⟩ ⟨2, ![M, 2048]⟩) :
    mulf (mulf x (broadcastTo ⟨2, ![M, 2048]⟩ (rsqrt (addf (divf (shapeCast ⟨2, ![M, 1]⟩ (multiReduction .add [1] ⟨1, ![M]⟩ (mulf x x) 0x00000000#32 h hφ hacc) hc)
      (broadcast ⟨2, ![M, 1]⟩ (Scalar.ofBits (F := Ideal) .f32 0x45000000#32))) (broadcast ⟨2, ![M, 1]⟩ (Scalar.ofBits (F := Ideal) .f32 0x358637BD#32)))) hb))
      (broadcastTo ⟨2, ![M, 2048]⟩ g hg) = normed x g .f32 := by
  funext y
  obtain ⟨i, j, rfl⟩ : ∃ (i : Fin M) (j : Fin 2048), y = ix2 i j := ⟨y 0, y 1, eq_ix2 (n0 := M) (n1 := 2048) y⟩
  exact congrArg₂ (· * ·) (congrArg (x (ix2 i j) * ·) ((column _ hb i j).trans (rinv_kernel x h hφ hacc hc i))) (gainRow g hg i j)

/-- and as the references do. -/
theorem normed_host (x : FVec Ideal ⟨2, ![M, 2048]⟩ .f32) (g : FVec Ideal ⟨2, ![1, 2048]⟩ .f32) (v : FVec Ideal ⟨2, ![M, 1]⟩ .f32)
    (hv : ∀ i, v (ix2 i 0) = meanSq (row x i)) (hb : Shape.BroadcastsInDim ⟨2, ![M, 1]⟩ ⟨2, ![M, 2048]⟩ ![0, 1])
    (hg : Shape.BroadcastsInDim ⟨2, ![1, 2048]⟩ ⟨2, ![M, 2048]⟩ ![0, 1]) :
    mulf (mulf x (broadcastInDim ⟨2, ![M, 2048]⟩ ![0, 1] hb (Host.rsqrt v))) (broadcastInDim ⟨2, ![M, 2048]⟩ ![0, 1] hg g) = normed x g .f32 := by
  funext y
  obtain ⟨i, j, rfl⟩ : ∃ (i : Fin M) (j : Fin 2048), y = ix2 i j := ⟨y 0, y 1, eq_ix2 (n0 := M) (n1 := 2048) y⟩
  exact congrArg₂ (· * ·) (congrArg (x (ix2 i j) * ·) (rinv_host x v hv hb i j)) (hostGain g hg i j)

/-- Equal rows are normalised to equal rows. -/
theorem normed_row {M' : ℕ} {x : FVec Ideal ⟨2, ![M, 2048]⟩ .f32} {x' : FVec Ideal ⟨2, ![M', 2048]⟩ .f32} (g : FVec Ideal ⟨2, ![1, 2048]⟩ .f32)
    (φ φ' : FTy) {i : Fin M} {i' : Fin M'} (h : row x i = row x' i') (k : Fin 2048) : normed x g φ (ix2 i k) = normed x' g φ' (ix2 i' k) := by
  show row x i k * rinv (row x i) * g (ix2 0 k) = row x' i' k * rinv (row x' i') * g (ix2 0 k)
  rw [h]

/-- … and multiplied to equal rows. -/
theorem timesW_row {M' K : ℕ} {φ₁ φ₂ : FTy} {a : FVec Ideal ⟨2, ![M, K]⟩ φ₁} {a' : FVec Ideal ⟨2, ![M', K]⟩ φ₁} (w : FVec Ideal ⟨2, ![K, 2048]⟩ φ₂)
    {i : Fin M} {i' : Fin M'} (h : ∀ k, a (ix2 i k) = a' (ix2 i' k)) : row (timesW a w .f32) i = row (timesW a' w .f32) i' := by
  funext j
  show ∑ k : Fin K, a (ix2 i k) * w (ix2 k j) = ∑ k : Fin K, a' (ix2 i' k) * w (ix2 k j)
  exact Finset.sum_congr rfl fun k _ => congrArg (· * w (ix2 k j)) (h k)

end Cert.Rms

end
-- ==== Proof.MixIn.lean ====
/-
  The mixing block's input product: the kernel normalises a block of 256 rows of `x0`, keeps the normalised rows as a result, and
  multiplies them with the transposed weight.
-/
module

public import proofs.«01_k».proof.Defs
public import proofs.«01_k».proof.Proof.RmsFwd
public import proofs.«01_k».proof.Proof.Gen.MixIn.Frame
public import proofs.«01_k».proof.Proof.Gen.MixInIdeal.Frame
public import proofs.«01_k».proof.Proof.Gen.MixInRefIdeal.Run
public import proofs.«01_k».proof.Proof.Gen.MixInRefIdeal.Read

@[expose] public section

set_option maxRecDepth 16384

noncomputable section

namespace Cert.MixInIdeal.Ker

open Cert.MixInIdeal Cert.MixInIdeal.Gen Cert.Products
open Idealize.ShloMosaic Idealize.ShloMosaic.TcCoe Idealize.SL.Sem Idealize.ShloMosaic.ValueIdx
open Idealize.ShloMosaic.Pipeline (Dat)

/-! ## What one point computes -/

theorem pay1 (x : FVec Ideal S256x2048 .f32) (g : FVec Ideal S1x2048 .f32) : (k0_pay1 (F := Ideal) x g : FVec Ideal S256x2048 .bf16) = Rms.normed x g .bf16 := by
  unfold k0_pay1
  exact Rms.normed_kernel x g _ _ _ _ _ _

/-- The product of the normalised rows with the transposed weight. -/
theorem pay2 (x : FVec Ideal S256x2048 .f32) (g : FVec Ideal S1x2048 .f32) (w : FVec Ideal S3584x2048 .bf16) (i : Fin 256) (j : Fin 3584) :
    (k0_pay2 (F := Ideal) x g w : FVec Ideal S256x3584 .f32) (ix2 i j) = ∑ k : Fin 2048, Rms.normed x g .bf16 (ix2 i k) * w (ix2 j k) := by
  unfold k0_pay2
  rw [pay1]
  refine (Ideal.matmul_transposedRhs_apply (prec := none) ..).trans ?_
  show Ideal.ofBits .f32 0x00000000#32 + _ = _
  rw [Ideal.ofBits_zero_f32, zero_add]

/-- What a point leaves in its two blocks. -/
theorem outs (x : FVec Ideal S256x2048 .f32) (g : FVec Ideal S1x2048 .f32) (w : FVec Ideal S3584x2048 .bf16) :
    out0_3 (F := Ideal) x g w = k0_pay2 (F := Ideal) x g w ∧ out0_4 (F := Ideal) x g w = Rms.normed x g .bf16 := by
  have hz : (![0, 0] : Fin 2 → ℕ) = fun _ => 0 := by decide
  unfold out0_3 out0_4
  rw [View.canon_unit_zero hz, View.canon_unit_zero hz, View.ld_unit_zero hz, View.ld_unit_zero hz, View.ld_unit_zero hz, pay1]
  exact ⟨rfl, rfl⟩

/-! ## The arrays -/

variable (m : (ℓ : Loc nD τ sig) → Buf (Elt Ideal) ℓ) (c : Dev nD)

/-- The rows, the gain and the weight. -/
abbrev argX : FVec Ideal S2048x2048 .f32 := m ((c : Thread nD τ).loc main_arg0)
abbrev argG : FVec Ideal S1x2048 .f32 := m ((c : Thread nD τ).loc main_arg1)
abbrev argW : FVec Ideal S3584x2048 .bf16 := m ((c : Thread nD τ).loc main_arg2)

/-- The two results: the product and the normalised rows. -/
def prod (x : FVec Ideal S2048x2048 .f32) (g : FVec Ideal S1x2048 .f32) (w : FVec Ideal S3584x2048 .bf16) : FVec Ideal S2048x3584 .f32 :=
  Rms.timesWT (Rms.normed x g .bf16) w .f32
def hn (x : FVec Ideal S2048x2048 .f32) (g : FVec Ideal S1x2048 .f32) : FVec Ideal S2048x2048 .bf16 := Rms.normed x g .bf16

/-- Where the windows lie at each point. -/
theorem places : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ win0_4.index t 0 = t.val ∧ win0_4.index t 1 = 0 := by decide +kernel

/-- Row `i` of point `t`'s block, as a row of the whole. -/
abbrev rowOf (t : Fin cfg0.N) (i : Fin 256) : Fin 2048 := Rms.tileRow (n := 8) rfl (t.cast N_0) i

theorem block_x (t : Fin cfg0.N) (i : Fin 256) : Rms.row (iblk m c 0 t : FVec Ideal S256x2048 .f32) i = Rms.row (argX m c) (rowOf t i) := by
  have hi := (places t).1
  funext k
  show (iblk m c 0 t : FVec Ideal S256x2048 .f32) (ix2 i k) = _
  unfold iblk
  rw [View.read_apply]
  refine (congrArg (V m c main_arg0) (?_ : _ = ix2 (rowOf t i) k)).trans (congrFun (V_main_arg0 m c) _)
  funext a
  apply Fin.ext
  match a with
  | ⟨0, _⟩ => show win0_0.index t 0 * 256 + 1 * i.val = 256 * t.val + i.val; rw [hi.1]; omega
  | ⟨1, _⟩ => show win0_0.index t 1 * 2048 + 1 * k.val = k.val; rw [hi.2]; omega

theorem block_g (t : Fin cfg0.N) : (iblk m c 1 t : FVec Ideal S1x2048 .f32) = argG m c := by
  have hi := (places t).2.1
  funext y
  unfold iblk
  rw [View.read_apply]
  refine (congrArg (V m c main_arg1) (?_ : _ = y)).trans (congrFun (V_main_arg1 m c) _)
  funext a
  apply Fin.ext
  match a with
  | ⟨0, _⟩ => show win0_1.index t 0 * 1 + 1 * (y 0).val = (y 0).val; rw [hi.1]; omega
  | ⟨1, _⟩ => show win0_1.index t 1 * 2048 + 1 * (y 1).val = (y 1).val; rw [hi.2]; omega

theorem block_w (t : Fin cfg0.N) : (iblk m c 2 t : FVec Ideal S3584x2048 .bf16) = argW m c := by
  have hi := (places t).2.2.1
  funext y
  unfold iblk
  rw [View.read_apply]
  refine (congrArg (V m c main_arg2) (?_ : _ = y)).trans (congrFun (V_main_arg2 m c) _)
  funext a
  apply Fin.ext
  match a with
  | ⟨0, _⟩ => show win0_2.index t 0 * 3584 + 1 * (y 0).val = (y 0).val; rw [hi.1]; omega
  | ⟨1, _⟩ => show win0_2.index t 1 * 2048 + 1 * (y 1).val = (y 1).val; rw [hi.2]; omega

/-- A point's normalised rows are rows of the whole. -/
theorem block_hn (t : Fin cfg0.N) (i : Fin 256) (k : Fin 2048) :
    Rms.normed (iblk m c 0 t : FVec Ideal S256x2048 .f32) (argG m c) .bf16 (ix2 i k) = hn (argX m c) (argG m c) (ix2 (rowOf t i) k) :=
  Rms.normed_row _ _ _ (block_x m c t i) k

/-- The product after the run. -/
theorem final3 : (dats m 0 c).arrAt 3 cfg0.N = prod (argX m c) (argG m c) (argW m c) := by
  refine (dats m 0 c).arrAt_eq_of_cover 3 (prod (argX m c) (argG m c) (argW m c)) (fun t _ => ?_) fun i => ?_
  · have hi := (places t).2.2.2.1
    show (cfg0.win 3).cut (grid0.coords t) ((dats m 0 c).after 3 t) = _
    rw [after0_3, (outs _ _ _).1]
    funext j
    rw [View.read_apply]
    obtain ⟨i, k, rfl⟩ : ∃ (i : Fin 256) (k : Fin 3584), j = ix2 i k := ⟨j 0, j 1, eq_ix2 (n0 := 256) (n1 := 3584) j⟩
    have h : (k0_pay2 (F := Ideal) (iblk m c 0 t) (iblk m c 1 t) (iblk m c 2 t) : FVec Ideal S256x3584 .f32) (ix2 i k)
        = prod (argX m c) (argG m c) (argW m c) (ix2 (rowOf t i) k) := by
      rw [pay2, block_g, block_w]
      exact Finset.sum_congr rfl fun a _ => congrArg (· * argW m c (ix2 k a)) (block_hn m c t i a)
    refine Eq.trans h (congrArg (prod (argX m c) (argG m c) (argW m c)) (funext fun a => Fin.ext ?_))
    match a with
    | ⟨0, _⟩ => show 256 * t.val + i.val = win0_3.index t 0 * 256 + 1 * i.val; rw [hi.1]; omega
    | ⟨1, _⟩ => show k.val = win0_3.index t 1 * 3584 + 1 * k.val; rw [hi.2]; omega
  · have hN : cfg0.N = 8 := N_0
    have hb : (i 0).val < 2048 := (i 0).isLt
    have hb1 : (i 1).val < 3584 := (i 1).isLt
    obtain ⟨t, ht⟩ : ∃ t : Fin cfg0.N, t.val = (i 0).val / 256 := ⟨⟨(i 0).val / 256, by omega⟩, rfl⟩
    have hi := (places t).2.2.2.1
    refine ⟨t, flush0_3 t, ?_⟩
    show i ∈ ((View.whole main_v0_0).slice (win0_3.rect t)).set
    rw [View.set_slice_whole, Rect.mem_set_unit]
    intro a
    match a with
    | ⟨0, _⟩ => show win0_3.index t 0 * 256 ≤ (i 0).val ∧ (i 0).val < win0_3.index t 0 * 256 + 256; rw [hi.1]; omega
    | ⟨1, _⟩ => show win0_3.index t 1 * 3584 ≤ (i 1).val ∧ (i 1).val < win0_3.index t 1 * 3584 + 3584; rw [hi.2]; omega

/-- The normalised rows after the run. -/
theorem final4 : (dats m 0 c).arrAt 4 cfg0.N = hn (argX m c) (argG m c) := by
  refine (dats m 0 c).arrAt_eq_of_cover 4 (hn (argX m c) (argG m c)) (fun t _ => ?_) fun i => ?_
  · have hi := (places t).2.2.2.2
    show (cfg0.win 4).cut (grid0.coords t) ((dats m 0 c).after 4 t) = _
    rw [after0_4, (outs _ _ _).2, block_g]
    funext j
    rw [View.read_apply]
    obtain ⟨i, k, rfl⟩ : ∃ (i : Fin 256) (k : Fin 2048), j = ix2 i k := ⟨j 0, j 1, eq_ix2 (n0 := 256) (n1 := 2048) j⟩
    refine Eq.trans (block_hn m c t i k) (congrArg (hn (argX m c) (argG m c)) (funext fun a => Fin.ext ?_))
    match a with
    | ⟨0, _⟩ => show 256 * t.val + i.val = win0_4.index t 0 * 256 + 1 * i.val; rw [hi.1]; omega
    | ⟨1, _⟩ => show k.val = win0_4.index t 1 * 2048 + 1 * k.val; rw [hi.2]; omega
  · have hN : cfg0.N = 8 := N_0
    have hb : (i 0).val < 2048 := (i 0).isLt
    have hb1 : (i 1).val < 2048 := (i 1).isLt
    obtain ⟨t, ht⟩ : ∃ t : Fin cfg0.N, t.val = (i 0).val / 256 := ⟨⟨(i 0).val / 256, by omega⟩, rfl⟩
    have hi := (places t).2.2.2.2
    refine ⟨t, flush0_4 t, ?_⟩
    show i ∈ ((View.whole main_v0_1).slice (win0_4.rect t)).set
    rw [View.set_slice_whole, Rect.mem_set_unit]
    intro a
    match a with
    | ⟨0, _⟩ => show win0_4.index t 0 * 256 ≤ (i 0).val ∧ (i 0).val < win0_4.index t 0 * 256 + 256; rw [hi.1]; omega
    | ⟨1, _⟩ => show win0_4.index t 1 * 2048 ≤ (i 1).val ∧ (i 1).val < win0_4.index t 1 * 2048 + 2048; rw [hi.2]; omega

/-- What the run leaves in the results, and that the arguments stay. -/
theorem values (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = prod (argX m c) (argG m c) (argW m c)
    ∧ r.2.mem ((c.tc : Thread nD τ).loc main_v0_1) = hn (argX m c) (argG m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨((h c).1 3).trans (final3 m c), ((h c).1 4).trans (final4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.MixInIdeal.Ker

namespace Cert.MixInClaim

open Idealize.ShloMosaic Idealize.ShloMosaic.TcCoe Idealize.SL.Sem Idealize.ShloMosaic.ValueIdx Cert.Products
open Cert.MixInRefIdeal Cert.MixInRefIdeal.Gen Cert.MixInRefIdeal.Read
open Cert.MixInIdeal.Ker (argX argG argW prod hn)

section Reference
variable (x : FVec Ideal S2048x2048 .f32) (g : FVec Ideal S1x2048 .f32) (w : FVec Ideal S3584x2048 .bf16)

theorem reference_normed : val_main_v11 (F := Ideal) x g = Rms.normed x g .f32 :=
  Rms.normed_host x g _ (Rms.meanSq_host x reducesTo_S2048x2048_S2048_d1 (by decide) h_S_ bcast_S2048_S2048x1_0 bcast_S_S2048x1)
    bcast_S2048x1_S2048x2048_0_1 bcast_S1x2048_S2048x2048_0_1

theorem reference_hn : val_main_v15 (F := Ideal) x g = hn x g := reference_normed x g

theorem reference_prod : val_main_v14 (F := Ideal) x g w = prod x g w := by
  funext y
  obtain ⟨i, j, rfl⟩ : ∃ (i : Fin 2048) (j : Fin 3584), y = ix2 i j := ⟨y 0, y 1, eq_ix2 (n0 := 2048) (n1 := 3584) y⟩
  rw [val_main_v14_apply, reference_normed]
  show _ = ∑ k : Fin 2048, Rms.normed x g .bf16 (ix2 i k) * w (ix2 j k)
  refine Finset.sum_congr rfl fun k _ => congrArg₂ (· * ·) (congrArg (Rms.normed x g .f32) (ix2_ext i k rfl rfl)) ?_
  rw [val_main_v13_apply]
  exact congrArg w (ix2_ext j k rfl rfl)

end Reference

/-- The kernel's frame. -/
theorem frame_p : Cert.quiescent_MixIn := fun m ρ _ => Cert.MixIn.Gen.frame m ρ
/-- The idealization's frame. -/
theorem frame_pi : Cert.quiescent_MixInIdeal := fun m ρ _ => Cert.MixInIdeal.Gen.frame m ρ
/-- The reference's frame. -/
theorem frame_ri : Cert.quiescent_MixInRefIdeal := fun m ρ _ =>
  (θ_run Cert.MixInRefIdeal.defs _ _).mono (fun r h => ⟨fun c => (h c).2.2, sem_eq_zero_of_no_sems (by decide) r.2⟩)
    (Cert.MixInRefIdeal.Value.run (F := Ideal) m ρ)

/-- The idealization's product and normalised rows are the reference's. -/
theorem algebraic : Cert.algebraic_MixInIdeal_MixInRefIdeal := by
  intro m ρ m' ρ' _ hagree
  refine ⟨fun c => prod (argX m c) (argG m c) (argW m c), fun c => hn (argX m c) (argG m c), Cert.MixInIdeal.Ker.values m ρ, ?_⟩
  refine (θ_run Cert.MixInRefIdeal.defs _ _).mono (fun r h c => ?_) (Cert.MixInRefIdeal.Value.run (F := Ideal) m' ρ')
  obtain ⟨e0, e1, e2⟩ := hagree c
  refine ⟨(h c).1.trans ((val_main_v14_eq ..).trans ?_), (h c).2.1.trans ((val_main_v15_eq ..).trans ?_), (h c).2.2⟩
  · rw [e0, e1, e2]; exact reference_prod _ _ _
  · rw [e0, e1]; exact reference_hn _ _

end Cert.MixInClaim

end
-- ==== Proof.AttQ.lean ====
/-
  The queries of the cross-attention: the kernel normalises a block of 512 rows of `x1`, keeps the normalised rows as a result, and
  multiplies them with the weight.
-/
module

public import proofs.«01_k».proof.Defs
public import proofs.«01_k».proof.Proof.RmsFwd
public import proofs.«01_k».proof.Proof.Gen.AttQ.Frame
public import proofs.«01_k».proof.Proof.Gen.AttQIdeal.Frame
public import proofs.«01_k».proof.Proof.Gen.AttQRefIdeal.Run
public import proofs.«01_k».proof.Proof.Gen.AttQRefIdeal.Read

@[expose] public section

set_option maxRecDepth 16384

noncomputable section

namespace Cert.AttQIdeal.Ker

open Cert.AttQIdeal Cert.AttQIdeal.Gen Cert.Products
open Idealize.ShloMosaic Idealize.ShloMosaic.TcCoe Idealize.SL.Sem Idealize.ShloMosaic.ValueIdx
open Idealize.ShloMosaic.Pipeline (Dat)

/-! ## What one point computes -/

theorem pay1 (x : FVec Ideal S512x2048 .f32) (g : FVec Ideal S1x2048 .f32) : (k0_pay1 (F := Ideal) x g : FVec Ideal S512x2048 .bf16) = Rms.normed x g .bf16 := by
  unfold k0_pay1
  exact Rms.normed_kernel x g _ _ _ _ _ _

/-- The product of the normalised rows with the weight. -/
theorem pay2 (x : FVec Ideal S512x2048 .f32) (g : FVec Ideal S1x2048 .f32) (w : FVec Ideal S2048x2048 .bf16) (i : Fin 512) (j : Fin 2048) :
    (k0_pay2 (F := Ideal) x g w : FVec Ideal S512x2048 .bf16) (ix2 i j) = ∑ k : Fin 2048, Rms.normed x g .bf16 (ix2 i k) * w (ix2 k j) := by
  unfold k0_pay2
  rw [pay1]
  refine (Ideal.matmul_plain_apply (prec := none) ..).trans ?_
  show Ideal.ofBits .f32 0x00000000#32 + _ = _
  rw [Ideal.ofBits_zero_f32, zero_add]

/-- What a point leaves in its two blocks. -/
theorem outs (x : FVec Ideal S512x2048 .f32) (g : FVec Ideal S1x2048 .f32) (w : FVec Ideal S2048x2048 .bf16) :
    out0_3 (F := Ideal) x g w = k0_pay2 (F := Ideal) x g w ∧ out0_4 (F := Ideal) x g w = Rms.normed x g .bf16 := by
  have hz : (![0, 0] : Fin 2 → ℕ) = fun _ => 0 := by decide
  unfold out0_3 out0_4
  rw [View.canon_unit_zero hz, View.canon_unit_zero hz, View.ld_unit_zero hz, View.ld_unit_zero hz, View.ld_unit_zero hz, pay1]
  exact ⟨rfl, rfl⟩

/-! ## The arrays -/

variable (m : (ℓ : Loc nD τ sig) → Buf (Elt Ideal) ℓ) (c : Dev nD)

/-- The rows, the gain and the weight. -/
abbrev argX : FVec Ideal S2048x2048 .f32 := m ((c : Thread nD τ).loc main_arg0)
abbrev argG : FVec Ideal S1x2048 .f32 := m ((c : Thread nD τ).loc main_arg1)
abbrev argW : FVec Ideal S2048x2048 .bf16 := m ((c : Thread nD τ).loc main_arg2)

/-- The two results: the product and the normalised rows. -/
def prod (x : FVec Ideal S2048x2048 .f32) (g : FVec Ideal S1x2048 .f32) (w : FVec Ideal S2048x2048 .bf16) : FVec Ideal S2048x2048 .bf16 :=
  Rms.timesW (Rms.normed x g .bf16) w .bf16
def hn (x : FVec Ideal S2048x2048 .f32) (g : FVec Ideal S1x2048 .f32) : FVec Ideal S2048x2048 .bf16 := Rms.normed x g .bf16

/-- Where the windows lie at each point. -/
theorem places : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ win0_4.index t 0 = t.val ∧ win0_4.index t 1 = 0 := by decide +kernel

/-- Row `i` of point `t`'s block, as a row of the whole. -/
abbrev rowOf (t : Fin cfg0.N) (i : Fin 512) : Fin 2048 := Rms.tileRow (n := 4) rfl (t.cast N_0) i

theorem block_x (t : Fin cfg0.N) (i : Fin 512) : Rms.row (iblk m c 0 t : FVec Ideal S512x2048 .f32) i = Rms.row (argX m c) (rowOf t i) := by
  have hi := (places t).1
  funext k
  show (iblk m c 0 t : FVec Ideal S512x2048 .f32) (ix2 i k) = _
  unfold iblk
  rw [View.read_apply]
  refine (congrArg (V m c main_arg0) (?_ : _ = ix2 (rowOf t i) k)).trans (congrFun (V_main_arg0 m c) _)
  funext a
  apply Fin.ext
  match a with
  | ⟨0, _⟩ => show win0_0.index t 0 * 512 + 1 * i.val = 512 * t.val + i.val; rw [hi.1]; omega
  | ⟨1, _⟩ => show win0_0.index t 1 * 2048 + 1 * k.val = k.val; rw [hi.2]; omega

theorem block_g (t : Fin cfg0.N) : (iblk m c 1 t : FVec Ideal S1x2048 .f32) = argG m c := by
  have hi := (places t).2.1
  funext y
  unfold iblk
  rw [View.read_apply]
  refine (congrArg (V m c main_arg1) (?_ : _ = y)).trans (congrFun (V_main_arg1 m c) _)
  funext a
  apply Fin.ext
  match a with
  | ⟨0, _⟩ => show win0_1.index t 0 * 1 + 1 * (y 0).val = (y 0).val; rw [hi.1]; omega
  | ⟨1, _⟩ => show win0_1.index t 1 * 2048 + 1 * (y 1).val = (y 1).val; rw [hi.2]; omega

theorem block_w (t : Fin cfg0.N) : (iblk m c 2 t : FVec Ideal S2048x2048 .bf16) = argW m c := by
  have hi := (places t).2.2.1
  funext y
  unfold iblk
  rw [View.read_apply]
  refine (congrArg (V m c main_arg2) (?_ : _ = y)).trans (congrFun (V_main_arg2 m c) _)
  funext a
  apply Fin.ext
  match a with
  | ⟨0, _⟩ => show win0_2.index t 0 * 2048 + 1 * (y 0).val = (y 0).val; rw [hi.1]; omega
  | ⟨1, _⟩ => show win0_2.index t 1 * 2048 + 1 * (y 1).val = (y 1).val; rw [hi.2]; omega

/-- A point's normalised rows are rows of the whole. -/
theorem block_hn (t : Fin cfg0.N) (i : Fin 512) (k : Fin 2048) :
    Rms.normed (iblk m c 0 t : FVec Ideal S512x2048 .f32) (argG m c) .bf16 (ix2 i k) = hn (argX m c) (argG m c) (ix2 (rowOf t i) k) :=
  Rms.normed_row _ _ _ (block_x m c t i) k

/-- The product after the run. -/
theorem final3 : (dats m 0 c).arrAt 3 cfg0.N = prod (argX m c) (argG m c) (argW m c) := by
  refine (dats m 0 c).arrAt_eq_of_cover 3 (prod (argX m c) (argG m c) (argW m c)) (fun t _ => ?_) fun i => ?_
  · have hi := (places t).2.2.2.1
    show (cfg0.win 3).cut (grid0.coords t) ((dats m 0 c).after 3 t) = _
    rw [after0_3, (outs _ _ _).1]
    funext j
    rw [View.read_apply]
    obtain ⟨i, k, rfl⟩ : ∃ (i : Fin 512) (k : Fin 2048), j = ix2 i k := ⟨j 0, j 1, eq_ix2 (n0 := 512) (n1 := 2048) j⟩
    have h : (k0_pay2 (F := Ideal) (iblk m c 0 t) (iblk m c 1 t) (iblk m c 2 t) : FVec Ideal S512x2048 .bf16) (ix2 i k)
        = prod (argX m c) (argG m c) (argW m c) (ix2 (rowOf t i) k) := by
      rw [pay2, block_g, block_w]
      exact Finset.sum_congr rfl fun a _ => congrArg (· * argW m c (ix2 a k)) (block_hn m c t i a)
    refine Eq.trans h (congrArg (prod (argX m c) (argG m c) (argW m c)) (funext fun a => Fin.ext ?_))
    match a with
    | ⟨0, _⟩ => show 512 * t.val + i.val = win0_3.index t 0 * 512 + 1 * i.val; rw [hi.1]; omega
    | ⟨1, _⟩ => show k.val = win0_3.index t 1 * 2048 + 1 * k.val; rw [hi.2]; omega
  · have hN : cfg0.N = 4 := N_0
    have hb : (i 0).val < 2048 := (i 0).isLt
    have hb1 : (i 1).val < 2048 := (i 1).isLt
    obtain ⟨t, ht⟩ : ∃ t : Fin cfg0.N, t.val = (i 0).val / 512 := ⟨⟨(i 0).val / 512, by omega⟩, rfl⟩
    have hi := (places t).2.2.2.1
    refine ⟨t, flush0_3 t, ?_⟩
    show i ∈ ((View.whole main_v0_0).slice (win0_3.rect t)).set
    rw [View.set_slice_whole, Rect.mem_set_unit]
    intro a
    match a with
    | ⟨0, _⟩ => show win0_3.index t 0 * 512 ≤ (i 0).val ∧ (i 0).val < win0_3.index t 0 * 512 + 512; rw [hi.1]; omega
    | ⟨1, _⟩ => show win0_3.index t 1 * 2048 ≤ (i 1).val ∧ (i 1).val < win0_3.index t 1 * 2048 + 2048; rw [hi.2]; omega

/-- The normalised rows after the run. -/
theorem final4 : (dats m 0 c).arrAt 4 cfg0.N = hn (argX m c) (argG m c) := by
  refine (dats m 0 c).arrAt_eq_of_cover 4 (hn (argX m c) (argG m c)) (fun t _ => ?_) fun i => ?_
  · have hi := (places t).2.2.2.2
    show (cfg0.win 4).cut (grid0.coords t) ((dats m 0 c).after 4 t) = _
    rw [after0_4, (outs _ _ _).2, block_g]
    funext j
    rw [View.read_apply]
    obtain ⟨i, k, rfl⟩ : ∃ (i : Fin 512) (k : Fin 2048), j = ix2 i k := ⟨j 0, j 1, eq_ix2 (n0 := 512) (n1 := 2048) j⟩
    refine Eq.trans (block_hn m c t i k) (congrArg (hn (argX m c) (argG m c)) (funext fun a => Fin.ext ?_))
    match a with
    | ⟨0, _⟩ => show 512 * t.val + i.val = win0_4.index t 0 * 512 + 1 * i.val; rw [hi.1]; omega
    | ⟨1, _⟩ => show k.val = win0_4.index t 1 * 2048 + 1 * k.val; rw [hi.2]; omega
  · have hN : cfg0.N = 4 := N_0
    have hb : (i 0).val < 2048 := (i 0).isLt
    have hb1 : (i 1).val < 2048 := (i 1).isLt
    obtain ⟨t, ht⟩ : ∃ t : Fin cfg0.N, t.val = (i 0).val / 512 := ⟨⟨(i 0).val / 512, by omega⟩, rfl⟩
    have hi := (places t).2.2.2.2
    refine ⟨t, flush0_4 t, ?_⟩
    show i ∈ ((View.whole main_v0_1).slice (win0_4.rect t)).set
    rw [View.set_slice_whole, Rect.mem_set_unit]
    intro a
    match a with
    | ⟨0, _⟩ => show win0_4.index t 0 * 512 ≤ (i 0).val ∧ (i 0).val < win0_4.index t 0 * 512 + 512; rw [hi.1]; omega
    | ⟨1, _⟩ => show win0_4.index t 1 * 2048 ≤ (i 1).val ∧ (i 1).val < win0_4.index t 1 * 2048 + 2048; rw [hi.2]; omega

/-- What the run leaves in the results, and that the arguments stay. -/
theorem values (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = prod (argX m c) (argG m c) (argW m c)
    ∧ r.2.mem ((c.tc : Thread nD τ).loc main_v0_1) = hn (argX m c) (argG m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨((h c).1 3).trans (final3 m c), ((h c).1 4).trans (final4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.AttQIdeal.Ker

namespace Cert.AttQClaim

open Idealize.ShloMosaic Idealize.ShloMosaic.TcCoe Idealize.SL.Sem Idealize.ShloMosaic.ValueIdx Cert.Products
open Cert.AttQRefIdeal Cert.AttQRefIdeal.Gen Cert.AttQRefIdeal.Read
open Cert.AttQIdeal.Ker (argX argG argW prod hn)

section Reference
variable (x : FVec Ideal S2048x2048 .f32) (g : FVec Ideal S1x2048 .f32) (w : FVec Ideal S2048x2048 .bf16)

theorem reference_normed : val_main_v11 (F := Ideal) x g = Rms.normed x g .f32 :=
  Rms.normed_host x g _ (Rms.meanSq_host x reducesTo_S2048x2048_S2048_d1 (by decide) h_S_ bcast_S2048_S2048x1_0 bcast_S_S2048x1)
    bcast_S2048x1_S2048x2048_0_1 bcast_S1x2048_S2048x2048_0_1

theorem reference_hn : val_main_v15 (F := Ideal) x g = hn x g := reference_normed x g

theorem reference_prod : val_main_v14 (F := Ideal) x g w = prod x g w := by
  funext y
  obtain ⟨i, j, rfl⟩ : ∃ (i : Fin 2048) (j : Fin 2048), y = ix2 i j := ⟨y 0, y 1, eq_ix2 (n0 := 2048) (n1 := 2048) y⟩
  refine (val_main_v13_apply x g w (ix2 i j)).trans ?_
  rw [reference_normed]
  show _ = ∑ k : Fin 2048, Rms.normed x g .bf16 (ix2 i k) * w (ix2 k j)
  exact Finset.sum_congr rfl fun k _ => congrArg₂ (· * ·) (congrArg (Rms.normed x g .f32) (ix2_ext i k rfl rfl)) (congrArg w (ix2_ext k j rfl rfl))

end Reference

/-- The kernel's frame. -/
theorem frame_p : Cert.quiescent_AttQ := fun m ρ _ => Cert.AttQ.Gen.frame m ρ
/-- The idealization's frame. -/
theorem frame_pi : Cert.quiescent_AttQIdeal := fun m ρ _ => Cert.AttQIdeal.Gen.frame m ρ
/-- The reference's frame. -/
theorem frame_ri : Cert.quiescent_AttQRefIdeal := fun m ρ _ =>
  (θ_run Cert.AttQRefIdeal.defs _ _).mono (fun r h => ⟨fun c => (h c).2.2, sem_eq_zero_of_no_sems (by decide) r.2⟩)
    (Cert.AttQRefIdeal.Value.run (F := Ideal) m ρ)

/-- The idealization's product and normalised rows are the reference's. -/
theorem algebraic : Cert.algebraic_AttQIdeal_AttQRefIdeal := by
  intro m ρ m' ρ' _ hagree
  refine ⟨fun c => prod (argX m c) (argG m c) (argW m c), fun c => hn (argX m c) (argG m c), Cert.AttQIdeal.Ker.values m ρ, ?_⟩
  refine (θ_run Cert.AttQRefIdeal.defs _ _).mono (fun r h c => ?_) (Cert.AttQRefIdeal.Value.run (F := Ideal) m' ρ')
  obtain ⟨e0, e1, e2⟩ := hagree c
  refine ⟨(h c).1.trans ((val_main_v14_eq ..).trans ?_), (h c).2.1.trans ((val_main_v15_eq ..).trans ?_), (h c).2.2⟩
  · rw [e0, e1, e2]; exact reference_prod _ _ _
  · rw [e0, e1]; exact reference_hn _ _

end Cert.AttQClaim

end
-- ==== Proof.AttK.lean ====
/-
  The keys of the cross-attention: the kernel normalises the 256 rows of the memory at one point, keeps the normalised rows as a
  result, and multiplies them with the weight.
-/
module

public import proofs.«01_k».proof.Defs
public import proofs.«01_k».proof.Proof.RmsFwd
public import proofs.«01_k».proof.Proof.Gen.AttK.Frame
public import proofs.«01_k».proof.Proof.Gen.AttKIdeal.Frame
public import proofs.«01_k».proof.Proof.Gen.AttKRefIdeal.Run
public import proofs.«01_k».proof.Proof.Gen.AttKRefIdeal.Read

@[expose] public section

set_option maxRecDepth 16384

noncomputable section

namespace Cert.AttKIdeal.Ker

open Cert.AttKIdeal Cert.AttKIdeal.Gen Cert.Products
open Idealize.ShloMosaic Idealize.ShloMosaic.TcCoe Idealize.SL.Sem Idealize.ShloMosaic.ValueIdx
open Idealize.ShloMosaic.Pipeline (Dat)

/-! ## What one point computes -/

theorem pay1 (x : FVec Ideal S256x2048 .f32) (g : FVec Ideal S1x2048 .f32) : (k0_pay1 (F := Ideal) x g : FVec Ideal S256x2048 .bf16) = Rms.normed x g .bf16 := by
  unfold k0_pay1
  exact Rms.normed_kernel x g _ _ _ _ _ _

/-- The product of the normalised rows with the weight. -/
theorem pay2 (x : FVec Ideal S256x2048 .f32) (g : FVec Ideal S1x2048 .f32) (w : FVec Ideal S2048x2048 .bf16) (i : Fin 256) (j : Fin 2048) :
    (k0_pay2 (F := Ideal) x g w : FVec Ideal S256x2048 .bf16) (ix2 i j) = ∑ k : Fin 2048, Rms.normed x g .bf16 (ix2 i k) * w (ix2 k j) := by
  unfold k0_pay2
  rw [pay1]
  refine (Ideal.matmul_plain_apply (prec := none) ..).trans ?_
  show Ideal.ofBits .f32 0x00000000#32 + _ = _
  rw [Ideal.ofBits_zero_f32, zero_add]

/-- What a point leaves in its two blocks. -/
theorem outs (x : FVec Ideal S256x2048 .f32) (g : FVec Ideal S1x2048 .f32) (w : FVec Ideal S2048x2048 .bf16) :
    out0_3 (F := Ideal) x g w = k0_pay2 (F := Ideal) x g w ∧ out0_4 (F := Ideal) x g w = Rms.normed x g .bf16 := by
  have hz : (![0, 0] : Fin 2 → ℕ) = fun _ => 0 := by decide
  unfold out0_3 out0_4
  rw [View.canon_unit_zero hz, View.canon_unit_zero hz, View.ld_unit_zero hz, View.ld_unit_zero hz, View.ld_unit_zero hz, pay1]
  exact ⟨rfl, rfl⟩

/-! ## The arrays -/

variable (m : (ℓ : Loc nD τ sig) → Buf (Elt Ideal) ℓ) (c : Dev nD)

/-- The rows, the gain and the weight. -/
abbrev argX : FVec Ideal S256x2048 .f32 := m ((c : Thread nD τ).loc main_arg0)
abbrev argG : FVec Ideal S1x2048 .f32 := m ((c : Thread nD τ).loc main_arg1)
abbrev argW : FVec Ideal S2048x2048 .bf16 := m ((c : Thread nD τ).loc main_arg2)

/-- The two results: the product and the normalised rows. -/
def prod (x : FVec Ideal S256x2048 .f32) (g : FVec Ideal S1x2048 .f32) (w : FVec Ideal S2048x2048 .bf16) : FVec Ideal S256x2048 .bf16 :=
  Rms.timesW (Rms.normed x g .bf16) w .bf16
def hn (x : FVec Ideal S256x2048 .f32) (g : FVec Ideal S1x2048 .f32) : FVec Ideal S256x2048 .bf16 := Rms.normed x g .bf16

/-- Where the windows lie at each point. -/
theorem places : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ win0_4.index t 0 = t.val ∧ win0_4.index t 1 = 0 := by decide +kernel

/-- Row `i` of point `t`'s block, as a row of the whole. -/
abbrev rowOf (t : Fin cfg0.N) (i : Fin 256) : Fin 256 := Rms.tileRow (n := 1) rfl (t.cast N_0) i

theorem block_x (t : Fin cfg0.N) (i : Fin 256) : Rms.row (iblk m c 0 t : FVec Ideal S256x2048 .f32) i = Rms.row (argX m c) (rowOf t i) := by
  have hi := (places t).1
  funext k
  show (iblk m c 0 t : FVec Ideal S256x2048 .f32) (ix2 i k) = _
  unfold iblk
  rw [View.read_apply]
  refine (congrArg (V m c main_arg0) (?_ : _ = ix2 (rowOf t i) k)).trans (congrFun (V_main_arg0 m c) _)
  funext a
  apply Fin.ext
  match a with
  | ⟨0, _⟩ => show win0_0.index t 0 * 256 + 1 * i.val = 256 * t.val + i.val; rw [hi.1]; omega
  | ⟨1, _⟩ => show win0_0.index t 1 * 2048 + 1 * k.val = k.val; rw [hi.2]; omega

theorem block_g (t : Fin cfg0.N) : (iblk m c 1 t : FVec Ideal S1x2048 .f32) = argG m c := by
  have hi := (places t).2.1
  funext y
  unfold iblk
  rw [View.read_apply]
  refine (congrArg (V m c main_arg1) (?_ : _ = y)).trans (congrFun (V_main_arg1 m c) _)
  funext a
  apply Fin.ext
  match a with
  | ⟨0, _⟩ => show win0_1.index t 0 * 1 + 1 * (y 0).val = (y 0).val; rw [hi.1]; omega
  | ⟨1, _⟩ => show win0_1.index t 1 * 2048 + 1 * (y 1).val = (y 1).val; rw [hi.2]; omega

theorem block_w (t : Fin cfg0.N) : (iblk m c 2 t : FVec Ideal S2048x2048 .bf16) = argW m c := by
  have hi := (places t).2.2.1
  funext y
  unfold iblk
  rw [View.read_apply]
  refine (congrArg (V m c main_arg2) (?_ : _ = y)).trans (congrFun (V_main_arg2 m c) _)
  funext a
  apply Fin.ext
  match a with
  | ⟨0, _⟩ => show win0_2.index t 0 * 2048 + 1 * (y 0).val = (y 0).val; rw [hi.1]; omega
  | ⟨1, _⟩ => show win0_2.index t 1 * 2048 + 1 * (y 1).val = (y 1).val; rw [hi.2]; omega

/-- A point's normalised rows are rows of the whole. -/
theorem block_hn (t : Fin cfg0.N) (i : Fin 256) (k : Fin 2048) :
    Rms.normed (iblk m c 0 t : FVec Ideal S256x2048 .f32) (argG m c) .bf16 (ix2 i k) = hn (argX m c) (argG m c) (ix2 (rowOf t i) k) :=
  Rms.normed_row _ _ _ (block_x m c t i) k

/-- The product after the run. -/
theorem final3 : (dats m 0 c).arrAt 3 cfg0.N = prod (argX m c) (argG m c) (argW m c) := by
  refine (dats m 0 c).arrAt_eq_of_cover 3 (prod (argX m c) (argG m c) (argW m c)) (fun t _ => ?_) fun i => ?_
  · have hi := (places t).2.2.2.1
    show (cfg0.win 3).cut (grid0.coords t) ((dats m 0 c).after 3 t) = _
    rw [after0_3, (outs _ _ _).1]
    funext j
    rw [View.read_apply]
    obtain ⟨i, k, rfl⟩ : ∃ (i : Fin 256) (k : Fin 2048), j = ix2 i k := ⟨j 0, j 1, eq_ix2 (n0 := 256) (n1 := 2048) j⟩
    have h : (k0_pay2 (F := Ideal) (iblk m c 0 t) (iblk m c 1 t) (iblk m c 2 t) : FVec Ideal S256x2048 .bf16) (ix2 i k)
        = prod (argX m c) (argG m c) (argW m c) (ix2 (rowOf t i) k) := by
      rw [pay2, block_g, block_w]
      exact Finset.sum_congr rfl fun a _ => congrArg (· * argW m c (ix2 a k)) (block_hn m c t i a)
    refine Eq.trans h (congrArg (prod (argX m c) (argG m c) (argW m c)) (funext fun a => Fin.ext ?_))
    match a with
    | ⟨0, _⟩ => show 256 * t.val + i.val = win0_3.index t 0 * 256 + 1 * i.val; rw [hi.1]; omega
    | ⟨1, _⟩ => show k.val = win0_3.index t 1 * 2048 + 1 * k.val; rw [hi.2]; omega
  · have hN : cfg0.N = 1 := N_0
    have hb : (i 0).val < 256 := (i 0).isLt
    have hb1 : (i 1).val < 2048 := (i 1).isLt
    obtain ⟨t, ht⟩ : ∃ t : Fin cfg0.N, t.val = (i 0).val / 256 := ⟨⟨(i 0).val / 256, by omega⟩, rfl⟩
    have hi := (places t).2.2.2.1
    refine ⟨t, flush0_3 t, ?_⟩
    show i ∈ ((View.whole main_v0_0).slice (win0_3.rect t)).set
    rw [View.set_slice_whole, Rect.mem_set_unit]
    intro a
    match a with
    | ⟨0, _⟩ => show win0_3.index t 0 * 256 ≤ (i 0).val ∧ (i 0).val < win0_3.index t 0 * 256 + 256; rw [hi.1]; omega
    | ⟨1, _⟩ => show win0_3.index t 1 * 2048 ≤ (i 1).val ∧ (i 1).val < win0_3.index t 1 * 2048 + 2048; rw [hi.2]; omega

/-- The normalised rows after the run. -/
theorem final4 : (dats m 0 c).arrAt 4 cfg0.N = hn (argX m c) (argG m c) := by
  refine (dats m 0 c).arrAt_eq_of_cover 4 (hn (argX m c) (argG m c)) (fun t _ => ?_) fun i => ?_
  · have hi := (places t).2.2.2.2
    show (cfg0.win 4).cut (grid0.coords t) ((dats m 0 c).after 4 t) = _
    rw [after0_4, (outs _ _ _).2, block_g]
    funext j
    rw [View.read_apply]
    obtain ⟨i, k, rfl⟩ : ∃ (i : Fin 256) (k : Fin 2048), j = ix2 i k := ⟨j 0, j 1, eq_ix2 (n0 := 256) (n1 := 2048) j⟩
    refine Eq.trans (block_hn m c t i k) (congrArg (hn (argX m c) (argG m c)) (funext fun a => Fin.ext ?_))
    match a with
    | ⟨0, _⟩ => show 256 * t.val + i.val = win0_4.index t 0 * 256 + 1 * i.val; rw [hi.1]; omega
    | ⟨1, _⟩ => show k.val = win0_4.index t 1 * 2048 + 1 * k.val; rw [hi.2]; omega
  · have hN : cfg0.N = 1 := N_0
    have hb : (i 0).val < 256 := (i 0).isLt
    have hb1 : (i 1).val < 2048 := (i 1).isLt
    obtain ⟨t, ht⟩ : ∃ t : Fin cfg0.N, t.val = (i 0).val / 256 := ⟨⟨(i 0).val / 256, by omega⟩, rfl⟩
    have hi := (places t).2.2.2.2
    refine ⟨t, flush0_4 t, ?_⟩
    show i ∈ ((View.whole main_v0_1).slice (win0_4.rect t)).set
    rw [View.set_slice_whole, Rect.mem_set_unit]
    intro a
    match a with
    | ⟨0, _⟩ => show win0_4.index t 0 * 256 ≤ (i 0).val ∧ (i 0).val < win0_4.index t 0 * 256 + 256; rw [hi.1]; omega
    | ⟨1, _⟩ => show win0_4.index t 1 * 2048 ≤ (i 1).val ∧ (i 1).val < win0_4.index t 1 * 2048 + 2048; rw [hi.2]; omega

/-- What the run leaves in the results, and that the arguments stay. -/
theorem values (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = prod (argX m c) (argG m c) (argW m c)
    ∧ r.2.mem ((c.tc : Thread nD τ).loc main_v0_1) = hn (argX m c) (argG m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨((h c).1 3).trans (final3 m c), ((h c).1 4).trans (final4 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.AttKIdeal.Ker

namespace Cert.AttKClaim

open Idealize.ShloMosaic Idealize.ShloMosaic.TcCoe Idealize.SL.Sem Idealize.ShloMosaic.ValueIdx Cert.Products
open Cert.AttKRefIdeal Cert.AttKRefIdeal.Gen Cert.AttKRefIdeal.Read
open Cert.AttKIdeal.Ker (argX argG argW prod hn)

section Reference
variable (x : FVec Ideal S256x2048 .f32) (g : FVec Ideal S1x2048 .f32) (w : FVec Ideal S2048x2048 .bf16)

theorem reference_normed : val_main_v11 (F := Ideal) x g = Rms.normed x g .f32 :=
  Rms.normed_host x g _ (Rms.meanSq_host x reducesTo_S256x2048_S256_d1 (by decide) h_S_ bcast_S256_S256x1_0 bcast_S_S256x1)
    bcast_S256x1_S256x2048_0_1 bcast_S1x2048_S256x2048_0_1

theorem reference_hn : val_main_v15 (F := Ideal) x g = hn x g := reference_normed x g

theorem reference_prod : val_main_v14 (F := Ideal) x g w = prod x g w := by
  funext y
  obtain ⟨i, j, rfl⟩ : ∃ (i : Fin 256) (j : Fin 2048), y = ix2 i j := ⟨y 0, y 1, eq_ix2 (n0 := 256) (n1 := 2048) y⟩
  refine (val_main_v13_apply x g w (ix2 i j)).trans ?_
  rw [reference_normed]
  show _ = ∑ k : Fin 2048, Rms.normed x g .bf16 (ix2 i k) * w (ix2 k j)
  exact Finset.sum_congr rfl fun k _ => congrArg₂ (· * ·) (congrArg (Rms.normed x g .f32) (ix2_ext i k rfl rfl)) (congrArg w (ix2_ext k j rfl rfl))

end Reference

/-- The kernel's frame. -/
theorem frame_p : Cert.quiescent_AttK := fun m ρ _ => Cert.AttK.Gen.frame m ρ
/-- The idealization's frame. -/
theorem frame_pi : Cert.quiescent_AttKIdeal := fun m ρ _ => Cert.AttKIdeal.Gen.frame m ρ
/-- The reference's frame. -/
theorem frame_ri : Cert.quiescent_AttKRefIdeal := fun m ρ _ =>
  (θ_run Cert.AttKRefIdeal.defs _ _).mono (fun r h => ⟨fun c => (h c).2.2, sem_eq_zero_of_no_sems (by decide) r.2⟩)
    (Cert.AttKRefIdeal.Value.run (F := Ideal) m ρ)

/-- The idealization's product and normalised rows are the reference's. -/
theorem algebraic : Cert.algebraic_AttKIdeal_AttKRefIdeal := by
  intro m ρ m' ρ' _ hagree
  refine ⟨fun c => prod (argX m c) (argG m c) (argW m c), fun c => hn (argX m c) (argG m c), Cert.AttKIdeal.Ker.values m ρ, ?_⟩
  refine (θ_run Cert.AttKRefIdeal.defs _ _).mono (fun r h c => ?_) (Cert.AttKRefIdeal.Value.run (F := Ideal) m' ρ')
  obtain ⟨e0, e1, e2⟩ := hagree c
  refine ⟨(h c).1.trans ((val_main_v14_eq ..).trans ?_), (h c).2.1.trans ((val_main_v15_eq ..).trans ?_), (h c).2.2⟩
  · rw [e0, e1, e2]; exact reference_prod _ _ _
  · rw [e0, e1]; exact reference_hn _ _

end Cert.AttKClaim

end
-- ==== Proof.MixOut.lean ====
/-
  The mixer's output product and the residual sum after it: the kernel multiplies a block of 512 rows with the weight, keeps the
  product as a result, and adds its normalised rows to the block of `x0`.
-/
module

public import proofs.«01_k».proof.Defs
public import proofs.«01_k».proof.Proof.RmsFwd
public import proofs.«01_k».proof.Proof.Gen.MixOut.Frame
public import proofs.«01_k».proof.Proof.Gen.MixOutIdeal.Frame
public import proofs.«01_k».proof.Proof.Gen.MixOutRefIdeal.Run
public import proofs.«01_k».proof.Proof.Gen.MixOutRefIdeal.Read

@[expose] public section

set_option maxRecDepth 16384

noncomputable section

namespace Cert.MixOutIdeal.Ker

open Cert.MixOutIdeal Cert.MixOutIdeal.Gen Cert.Products
open Idealize.ShloMosaic Idealize.ShloMosaic.TcCoe Idealize.SL.Sem Idealize.ShloMosaic.ValueIdx
open Idealize.ShloMosaic.Pipeline (Dat)

/-! ## What one point computes -/

/-- The product of a block of rows with the weight. -/
theorem pay1 (y : FVec Ideal S512x2048 .bf16) (w : FVec Ideal S2048x2048 .bf16) : (k0_pay1 (F := Ideal) y w : FVec Ideal S512x2048 .f32) = Rms.timesW y w .f32 := by
  funext z
  obtain ⟨i, j, rfl⟩ : ∃ (i : Fin 512) (j : Fin 2048), z = ix2 i j := ⟨z 0, z 1, eq_ix2 (n0 := 512) (n1 := 2048) z⟩
  unfold k0_pay1
  refine (Ideal.matmul_plain_apply (prec := none) ..).trans ?_
  show Ideal.ofBits .f32 0x00000000#32 + _ = _
  rw [Ideal.ofBits_zero_f32, zero_add]
  rfl

/-- The block of `x0` plus the normalised product. -/
theorem pay2 (y : FVec Ideal S512x2048 .bf16) (w : FVec Ideal S2048x2048 .bf16) (x : FVec Ideal S512x2048 .f32) (g : FVec Ideal S1x2048 .f32) :
    (k0_pay2 (F := Ideal) y w x g : FVec Ideal S512x2048 .f32) = addf x (Rms.normed (Rms.timesW y w .f32) g .f32) := by
  unfold k0_pay2
  rw [pay1]
  exact congrArg (addf x) (Rms.normed_kernel (Rms.timesW y w .f32) g _ _ _ _ _ _)

/-- What a point leaves in its two blocks. -/
theorem outs (y : FVec Ideal S512x2048 .bf16) (w : FVec Ideal S2048x2048 .bf16) (x : FVec Ideal S512x2048 .f32) (g : FVec Ideal S1x2048 .f32) :
    out0_4 (F := Ideal) y w x g = addf x (Rms.normed (Rms.timesW y w .f32) g .f32) ∧ out0_5 (F := Ideal) y w x g = Rms.timesW y w .f32 := by
  have hz : (![0, 0] : Fin 2 → ℕ) = fun _ => 0 := by decide
  unfold out0_4 out0_5
  rw [View.canon_unit_zero hz, View.canon_unit_zero hz, View.ld_unit_zero hz, View.ld_unit_zero hz, View.ld_unit_zero hz, View.ld_unit_zero hz, pay1, pay2]
  exact ⟨rfl, rfl⟩

/-! ## The arrays -/

variable (m : (ℓ : Loc nD τ sig) → Buf (Elt Ideal) ℓ) (c : Dev nD)

/-- The rows, the weight, the residual and the gain. -/
abbrev argY : FVec Ideal S2048x2048 .bf16 := m ((c : Thread nD τ).loc main_arg0)
abbrev argW : FVec Ideal S2048x2048 .bf16 := m ((c : Thread nD τ).loc main_arg1)
abbrev argX : FVec Ideal S2048x2048 .f32 := m ((c : Thread nD τ).loc main_arg2)
abbrev argG : FVec Ideal S1x2048 .f32 := m ((c : Thread nD τ).loc main_arg3)

/-- The two results: the sum and the product. -/
def prod (y w : FVec Ideal S2048x2048 .bf16) : FVec Ideal S2048x2048 .f32 := Rms.timesW y w .f32
def total (y w : FVec Ideal S2048x2048 .bf16) (x : FVec Ideal S2048x2048 .f32) (g : FVec Ideal S1x2048 .f32) : FVec Ideal S2048x2048 .f32 :=
  addf x (Rms.normed (prod y w) g .f32)

/-- Where the windows lie at each point. -/
theorem places : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = 0 ∧ win0_3.index t 1 = 0)
    ∧ (win0_4.index t 0 = t.val ∧ win0_4.index t 1 = 0) ∧ win0_5.index t 0 = t.val ∧ win0_5.index t 1 = 0 := by decide +kernel

/-- Row `i` of point `t`'s block, as a row of the whole. -/
abbrev rowOf (t : Fin cfg0.N) (i : Fin 512) : Fin 2048 := Rms.tileRow (n := 4) rfl (t.cast N_0) i

theorem block_y (t : Fin cfg0.N) (i : Fin 512) (k : Fin 2048) : (iblk m c 0 t : FVec Ideal S512x2048 .bf16) (ix2 i k) = argY m c (ix2 (rowOf t i) k) := by
  have hi := (places t).1
  unfold iblk
  rw [View.read_apply]
  refine (congrArg (V m c main_arg0) (?_ : _ = ix2 (rowOf t i) k)).trans (congrFun (V_main_arg0 m c) _)
  funext a
  apply Fin.ext
  match a with
  | ⟨0, _⟩ => show win0_0.index t 0 * 512 + 1 * i.val = 512 * t.val + i.val; rw [hi.1]; omega
  | ⟨1, _⟩ => show win0_0.index t 1 * 2048 + 1 * k.val = k.val; rw [hi.2]; omega

theorem block_w (t : Fin cfg0.N) : (iblk m c 1 t : FVec Ideal S2048x2048 .bf16) = argW m c := by
  have hi := (places t).2.1
  funext y
  unfold iblk
  rw [View.read_apply]
  refine (congrArg (V m c main_arg1) (?_ : _ = y)).trans (congrFun (V_main_arg1 m c) _)
  funext a
  apply Fin.ext
  match a with
  | ⟨0, _⟩ => show win0_1.index t 0 * 2048 + 1 * (y 0).val = (y 0).val; rw [hi.1]; omega
  | ⟨1, _⟩ => show win0_1.index t 1 * 2048 + 1 * (y 1).val = (y 1).val; rw [hi.2]; omega

theorem block_x (t : Fin cfg0.N) (i : Fin 512) (k : Fin 2048) : (iblk m c 2 t : FVec Ideal S512x2048 .f32) (ix2 i k) = argX m c (ix2 (rowOf t i) k) := by
  have hi := (places t).2.2.1
  unfold iblk
  rw [View.read_apply]
  refine (congrArg (V m c main_arg2) (?_ : _ = ix2 (rowOf t i) k)).trans (congrFun (V_main_arg2 m c) _)
  funext a
  apply Fin.ext
  match a with
  | ⟨0, _⟩ => show win0_2.index t 0 * 512 + 1 * i.val = 512 * t.val + i.val; rw [hi.1]; omega
  | ⟨1, _⟩ => show win0_2.index t 1 * 2048 + 1 * k.val = k.val; rw [hi.2]; omega

theorem block_g (t : Fin cfg0.N) : (iblk m c 3 t : FVec Ideal S1x2048 .f32) = argG m c := by
  have hi := (places t).2.2.2.1
  funext y
  unfold iblk
  rw [View.read_apply]
  refine (congrArg (V m c main_arg3) (?_ : _ = y)).trans (congrFun (V_main_arg3 m c) _)
  funext a
  apply Fin.ext
  match a with
  | ⟨0, _⟩ => show win0_3.index t 0 * 1 + 1 * (y 0).val = (y 0).val; rw [hi.1]; omega
  | ⟨1, _⟩ => show win0_3.index t 1 * 2048 + 1 * (y 1).val = (y 1).val; rw [hi.2]; omega

/-- A point's product is rows of the whole product. -/
theorem block_prod (t : Fin cfg0.N) (i : Fin 512) :
    Rms.row (Rms.timesW (φ₁ := .bf16) (φ₂ := .bf16) (iblk m c 0 t : FVec Ideal S512x2048 .bf16) (argW m c) .f32) i = Rms.row (prod (argY m c) (argW m c)) (rowOf t i) :=
  Rms.timesW_row _ (block_y m c t i)

/-- The sum after the run. -/
theorem final4 : (dats m 0 c).arrAt 4 cfg0.N = total (argY m c) (argW m c) (argX m c) (argG m c) := by
  refine (dats m 0 c).arrAt_eq_of_cover 4 (total (argY m c) (argW m c) (argX m c) (argG m c)) (fun t _ => ?_) fun i => ?_
  · have hi := (places t).2.2.2.2.1
    show (cfg0.win 4).cut (grid0.coords t) ((dats m 0 c).after 4 t) = _
    rw [after0_4, (outs _ _ _ _).1, block_w, block_g]
    funext j
    rw [View.read_apply]
    obtain ⟨i, k, rfl⟩ : ∃ (i : Fin 512) (k : Fin 2048), j = ix2 i k := ⟨j 0, j 1, eq_ix2 (n0 := 512) (n1 := 2048) j⟩
    refine Eq.trans (congrArg₂ (· + ·) (block_x m c t i k) (Rms.normed_row _ _ _ (block_prod m c t i) k)) (congrArg (total (argY m c) (argW m c) (argX m c) (argG m c)) (funext fun a => Fin.ext ?_))
    match a with
    | ⟨0, _⟩ => show 512 * t.val + i.val = win0_4.index t 0 * 512 + 1 * i.val; rw [hi.1]; omega
    | ⟨1, _⟩ => show k.val = win0_4.index t 1 * 2048 + 1 * k.val; rw [hi.2]; omega
  · have hN : cfg0.N = 4 := N_0
    have hb : (i 0).val < 2048 := (i 0).isLt
    have hb1 : (i 1).val < 2048 := (i 1).isLt
    obtain ⟨t, ht⟩ : ∃ t : Fin cfg0.N, t.val = (i 0).val / 512 := ⟨⟨(i 0).val / 512, by omega⟩, rfl⟩
    have hi := (places t).2.2.2.2.1
    refine ⟨t, flush0_4 t, ?_⟩
    show i ∈ ((View.whole main_v0_0).slice (win0_4.rect t)).set
    rw [View.set_slice_whole, Rect.mem_set_unit]
    intro a
    match a with
    | ⟨0, _⟩ => show win0_4.index t 0 * 512 ≤ (i 0).val ∧ (i 0).val < win0_4.index t 0 * 512 + 512; rw [hi.1]; omega
    | ⟨1, _⟩ => show win0_4.index t 1 * 2048 ≤ (i 1).val ∧ (i 1).val < win0_4.index t 1 * 2048 + 2048; rw [hi.2]; omega

/-- The product after the run. -/
theorem final5 : (dats m 0 c).arrAt 5 cfg0.N = prod (argY m c) (argW m c) := by
  refine (dats m 0 c).arrAt_eq_of_cover 5 (prod (argY m c) (argW m c)) (fun t _ => ?_) fun i => ?_
  · have hi := (places t).2.2.2.2.2
    show (cfg0.win 5).cut (grid0.coords t) ((dats m 0 c).after 5 t) = _
    rw [after0_5, (outs _ _ _ _).2, block_w]
    funext j
    rw [View.read_apply]
    obtain ⟨i, k, rfl⟩ : ∃ (i : Fin 512) (k : Fin 2048), j = ix2 i k := ⟨j 0, j 1, eq_ix2 (n0 := 512) (n1 := 2048) j⟩
    refine Eq.trans (congrFun (block_prod m c t i) k) (congrArg (prod (argY m c) (argW m c)) (funext fun a => Fin.ext ?_))
    match a with
    | ⟨0, _⟩ => show 512 * t.val + i.val = win0_5.index t 0 * 512 + 1 * i.val; rw [hi.1]; omega
    | ⟨1, _⟩ => show k.val = win0_5.index t 1 * 2048 + 1 * k.val; rw [hi.2]; omega
  · have hN : cfg0.N = 4 := N_0
    have hb : (i 0).val < 2048 := (i 0).isLt
    have hb1 : (i 1).val < 2048 := (i 1).isLt
    obtain ⟨t, ht⟩ : ∃ t : Fin cfg0.N, t.val = (i 0).val / 512 := ⟨⟨(i 0).val / 512, by omega⟩, rfl⟩
    have hi := (places t).2.2.2.2.2
    refine ⟨t, flush0_5 t, ?_⟩
    show i ∈ ((View.whole main_v0_1).slice (win0_5.rect t)).set
    rw [View.set_slice_whole, Rect.mem_set_unit]
    intro a
    match a with
    | ⟨0, _⟩ => show win0_5.index t 0 * 512 ≤ (i 0).val ∧ (i 0).val < win0_5.index t 0 * 512 + 512; rw [hi.1]; omega
    | ⟨1, _⟩ => show win0_5.index t 1 * 2048 ≤ (i 1).val ∧ (i 1).val < win0_5.index t 1 * 2048 + 2048; rw [hi.2]; omega

/-- What the run leaves in the results, and that the arguments stay. -/
theorem values (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = total (argY m c) (argW m c) (argX m c) (argG m c)
    ∧ r.2.mem ((c.tc : Thread nD τ).loc main_v0_1) = prod (argY m c) (argW m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨((h c).1 4).trans (final4 m c), ((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end Cert.MixOutIdeal.Ker

namespace Cert.MixOutClaim

open Idealize.ShloMosaic Idealize.ShloMosaic.TcCoe Idealize.SL.Sem Idealize.ShloMosaic.ValueIdx Cert.Products
open Cert.MixOutRefIdeal Cert.MixOutRefIdeal.Gen Cert.MixOutRefIdeal.Read
open Cert.MixOutIdeal.Ker (argY argW argX argG prod total)

section Reference
variable (y w : FVec Ideal S2048x2048 .bf16) (x : FVec Ideal S2048x2048 .f32) (g : FVec Ideal S1x2048 .f32)

theorem reference_prod : val_main_v2 (F := Ideal) y w = prod y w := by
  funext z
  obtain ⟨i, j, rfl⟩ : ∃ (i : Fin 2048) (j : Fin 2048), z = ix2 i j := ⟨z 0, z 1, eq_ix2 (n0 := 2048) (n1 := 2048) z⟩
  refine (val_main_v2_apply y w (ix2 i j)).trans ?_
  show _ = ∑ k : Fin 2048, y (ix2 i k) * w (ix2 k j)
  exact Finset.sum_congr rfl fun k _ => congrArg₂ (· * ·) (congrArg y (ix2_ext i k rfl rfl)) (congrArg w (ix2_ext k j rfl rfl))

theorem reference_total : val_main_v15 (F := Ideal) y w x g = total y w x g := by
  refine congrArg (addf x) ((Rms.normed_host (val_main_v2 (F := Ideal) y w) g _
    (Rms.meanSq_host _ reducesTo_S2048x2048_S2048_d1 (by decide) h_S_ bcast_S2048_S2048x1_0 bcast_S_S2048x1)
    bcast_S2048x1_S2048x2048_0_1 bcast_S1x2048_S2048x2048_0_1).trans ?_)
  rw [reference_prod]

end Reference

/-- The kernel's frame. -/
theorem frame_p : Cert.quiescent_MixOut := fun m ρ _ => Cert.MixOut.Gen.frame m ρ
/-- The idealization's frame. -/
theorem frame_pi : Cert.quiescent_MixOutIdeal := fun m ρ _ => Cert.MixOutIdeal.Gen.frame m ρ
/-- The reference's frame. -/
theorem frame_ri : Cert.quiescent_MixOutRefIdeal := fun m ρ _ =>
  (θ_run Cert.MixOutRefIdeal.defs _ _).mono (fun r h => ⟨fun c => (h c).2.2, sem_eq_zero_of_no_sems (by decide) r.2⟩)
    (Cert.MixOutRefIdeal.Value.run (F := Ideal) m ρ)

/-- The idealization's sum and product are the reference's. -/
theorem algebraic : Cert.algebraic_MixOutIdeal_MixOutRefIdeal := by
  intro m ρ m' ρ' _ hagree
  refine ⟨fun c => total (argY m c) (argW m c) (argX m c) (argG m c), fun c => prod (argY m c) (argW m c), Cert.MixOutIdeal.Ker.values m ρ, ?_⟩
  refine (θ_run Cert.MixOutRefIdeal.defs _ _).mono (fun r h c => ?_) (Cert.MixOutRefIdeal.Value.run (F := Ideal) m' ρ')
  obtain ⟨e0, e1, e2, e3⟩ := hagree c
  refine ⟨(h c).1.trans ((val_main_v15_eq ..).trans ?_), (h c).2.1.trans ((val_main_v2_eq ..).trans ?_), (h c).2.2⟩
  · rw [e0, e1, e2, e3]; exact reference_total _ _ _ _
  · rw [e0, e1]; exact reference_prod _ _

end Cert.MixOutClaim

end
-- ==== Proof.AttnFwd.lean ====
/-
  The cross-attention forwards: a point takes 1024 rows of the queries and writes the four heads side by side, each the softmax of
  the row's scores times the values. The softmax is the one the attention's gradient is read through.
-/
module

public import proofs.«01_k».proof.Defs
public import proofs.«01_k».proof.Proof.AttnBody
public import proofs.«01_k».proof.Proof.AttnRef
public import proofs.«01_k».proof.Proof.Gen.AttnFwd.Frame
public import proofs.«01_k».proof.Proof.Gen.AttnFwdIdeal.Frame
public import proofs.«01_k».proof.Proof.Gen.AttnFwdRefIdeal.Run
public import proofs.«01_k».proof.Proof.Gen.AttnFwdRefIdeal.Read

@[expose] public section

set_option maxRecDepth 16384

noncomputable section

namespace Cert.AttnFwdIdeal.Ker

open Cert.AttnFwdIdeal Cert.AttnFwdIdeal.Gen Cert.AttnRow
open Cert.KernelIdeal.Body (part ld_head canon_heads row_ld row_ld')
open Cert.KernelIdeal.Pay (row probs_at)
open Idealize.ShloMosaic Idealize.ShloMosaic.TcCoe Idealize.SL.Sem Idealize.ShloMosaic.ValueIdx
open Idealize.ShloMosaic.Pipeline (Dat)

/-- The values of head `h` averaged with the softmax of row `r`. -/
def attend {n : ℕ} (q : (⟨2, ![n, 2048]⟩ : Shape).Idx → EReal) (k v : (⟨2, ![256, 2048]⟩ : Shape).Idx → EReal) (h : Fin 4) (r : Fin n)
    (d : Fin 512) : EReal :=
  ∑ j, prob scale (heads q h r) (heads k h) j * heads v h j d

/-! ## One head -/

/-- What a head stores, on its own columns. -/
theorem pay_at (q : FVec Ideal S1024x512 .bf16) (k v : FVec Ideal S256x512 .bf16) (r : Fin 1024) (d : Fin 512) :
    (k0_pay2 (F := Ideal) q k v : FVec Ideal S1024x512 .bf16) (ix2 r d) = ∑ j, prob scale (row q r) (row k) j * v (ix2 j d) := by
  show FloatOps.matmul (φ₁ := .bf16) (φ₂ := .bf16) (DotDims.plain 1024 256 512) none (Cert.KernelIdeal.Gen.k0_pay8 (F := Ideal) q k) v _ (ix2 r d) = _
  rw [Ideal.matmul_plain_apply]
  show Ideal.ofBits .f32 0x00000000#32 + _ = _
  rw [Ideal.ofBits_zero_f32, zero_add]
  exact Finset.sum_congr rfl fun j _ => congrArg (· * v (ix2 j d)) (probs_at q k r j)

/-- The same from the whole blocks. -/
theorem head_at (q : FVec Ideal S1024x2048 .bf16) (k v : FVec Ideal S256x2048 .bf16) (h : Fin 4) (o : ℕ) (ho : o = 512 * h.val)
    (inb : ∀ a, (![0, o] : Fin 2 → ℕ) a + (![1024, 512] : Fin 2 → ℕ) a ≤ S1024x2048.size a)
    (inb' : ∀ a, (![0, o] : Fin 2 → ℕ) a + (![256, 512] : Fin 2 → ℕ) a ≤ S256x2048.size a) (r : Fin 1024) (d : Fin 512) :
    (k0_pay2 (F := Ideal) (part (e := .bf16) q o inb) (part (e := .bf16) k o inb') (part (e := .bf16) v o inb') : FVec Ideal S1024x512 .bf16) (ix2 r d)
      = attend q k v h r d := by
  refine (pay_at _ _ _ r d).trans ?_
  rw [row_ld h o ho inb, row_ld' h o ho inb']
  exact Finset.sum_congr rfl fun j _ => congrArg (_ * ·) (ld_head (e := .bf16) v h o ho inb' j d)

/-- What a point leaves in its block. -/
theorem outs (q : FVec Ideal S1024x2048 .bf16) (k v : FVec Ideal S256x2048 .bf16) :
    out0_3 (F := Ideal) q k v = fun y => attend q k v (headOf (y 1)) (y 0) (colOf (y 1)) :=
  canon_heads (e := .bf16) _ _ _ _ _ _ _ _ [] (attend q k v) (head_at q k v 3 1536 rfl _ _) (head_at q k v 2 1024 rfl _ _)
    (head_at q k v 1 512 rfl _ _) (head_at q k v 0 0 rfl _ _)

/-! ## The arrays -/

variable (m : (ℓ : Loc nD τ sig) → Buf (Elt Ideal) ℓ) (c : Dev nD)

/-- The queries, the keys and the values. -/
abbrev argQ : FVec Ideal S2048x2048 .bf16 := m ((c : Thread nD τ).loc main_arg0)
abbrev argK : FVec Ideal S256x2048 .bf16 := m ((c : Thread nD τ).loc main_arg1)
abbrev argV : FVec Ideal S256x2048 .bf16 := m ((c : Thread nD τ).loc main_arg2)

/-- The result: the four heads side by side. -/
def result (q : FVec Ideal S2048x2048 .bf16) (k v : FVec Ideal S256x2048 .bf16) : FVec Ideal S2048x2048 .bf16 :=
  fun y => attend q k v (headOf (y 1)) (y 0) (colOf (y 1))

/-- Where the windows lie at each point. -/
theorem places : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ win0_3.index t 0 = t.val ∧ win0_3.index t 1 = 0 := by decide +kernel

/-- Row `r` of point `t`'s block, as a row of the whole. -/
def rowOf (t : Fin cfg0.N) (r : Fin 1024) : Fin 2048 :=
  ⟨1024 * t.val + r.val, by have := Nat.lt_of_lt_of_eq t.isLt N_0; have := r.isLt; omega⟩

theorem block_q (t : Fin cfg0.N) (h : Fin 4) (r : Fin 1024) :
    heads (iblk m c 0 t : FVec Ideal S1024x2048 .bf16) h r = heads (argQ m c) h (rowOf t r) := by
  have hi := (places t).1
  funext d
  show (iblk m c 0 t : FVec Ideal S1024x2048 .bf16) (ix2 r (col h d)) = _
  unfold iblk
  rw [View.read_apply]
  refine (congrArg (V m c main_arg0) (?_ : _ = ix2 (rowOf t r) (col h d))).trans (congrFun (V_main_arg0 m c) _)
  funext a
  apply Fin.ext
  match a with
  | ⟨0, _⟩ => show win0_0.index t 0 * 1024 + 1 * r.val = 1024 * t.val + r.val; rw [hi.1]; omega
  | ⟨1, _⟩ => show win0_0.index t 1 * 2048 + 1 * (col h d).val = (col h d).val; rw [hi.2]; omega

theorem block_k (t : Fin cfg0.N) : (iblk m c 1 t : FVec Ideal S256x2048 .bf16) = argK m c := by
  have hi := (places t).2.1
  funext y
  unfold iblk
  rw [View.read_apply]
  refine (congrArg (V m c main_arg1) (?_ : _ = y)).trans (congrFun (V_main_arg1 m c) _)
  funext a
  apply Fin.ext
  match a with
  | ⟨0, _⟩ => show win0_1.index t 0 * 256 + 1 * (y 0).val = (y 0).val; rw [hi.1]; omega
  | ⟨1, _⟩ => show win0_1.index t 1 * 2048 + 1 * (y 1).val = (y 1).val; rw [hi.2]; omega

theorem block_v (t : Fin cfg0.N) : (iblk m c 2 t : FVec Ideal S256x2048 .bf16) = argV m c := by
  have hi := (places t).2.2.1
  funext y
  unfold iblk
  rw [View.read_apply]
  refine (congrArg (V m c main_arg2) (?_ : _ = y)).trans (congrFun (V_main_arg2 m c) _)
  funext a
  apply Fin.ext
  match a with
  | ⟨0, _⟩ => show win0_2.index t 0 * 256 + 1 * (y 0).val = (y 0).val; rw [hi.1]; omega
  | ⟨1, _⟩ => show win0_2.index t 1 * 2048 + 1 * (y 1).val = (y 1).val; rw [hi.2]; omega

/-- The result after the run. -/
theorem final3 : (dats m 0 c).arrAt 3 cfg0.N = result (argQ m c) (argK m c) (argV m c) := by
  refine (dats m 0 c).arrAt_eq_of_cover 3 (result (argQ m c) (argK m c) (argV m c)) (fun t _ => ?_) fun i => ?_
  · have hi := (places t).2.2.2
    show (cfg0.win 3).cut (grid0.coords t) ((dats m 0 c).after 3 t) = _
    rw [after0_3, outs, block_k, block_v]
    funext j
    rw [View.read_apply]
    obtain ⟨r, k, rfl⟩ : ∃ (r : Fin 1024) (k : Fin 2048), j = ix2 r k := ⟨j 0, j 1, eq_ix2 (n0 := 1024) (n1 := 2048) j⟩
    have h : attend (iblk m c 0 t : FVec Ideal S1024x2048 .bf16) (argK m c) (argV m c) (headOf k) r (colOf k)
        = result (argQ m c) (argK m c) (argV m c) (ix2 (rowOf t r) k) := by
      unfold attend
      rw [block_q]
      rfl
    refine Eq.trans h (congrArg (result (argQ m c) (argK m c) (argV m c)) (funext fun a => Fin.ext ?_))
    match a with
    | ⟨0, _⟩ => show 1024 * t.val + r.val = win0_3.index t 0 * 1024 + 1 * r.val; rw [hi.1]; omega
    | ⟨1, _⟩ => show k.val = win0_3.index t 1 * 2048 + 1 * k.val; rw [hi.2]; omega
  · have hN : cfg0.N = 2 := N_0
    have hb : (i 0).val < 2048 := (i 0).isLt
    have hb1 : (i 1).val < 2048 := (i 1).isLt
    obtain ⟨t, ht⟩ : ∃ t : Fin cfg0.N, t.val = (i 0).val / 1024 := ⟨⟨(i 0).val / 1024, by omega⟩, rfl⟩
    have hi := (places t).2.2.2
    refine ⟨t, flush0_3 t, ?_⟩
    show i ∈ ((View.whole main_v0).slice (win0_3.rect t)).set
    rw [View.set_slice_whole, Rect.mem_set_unit]
    intro a
    match a with
    | ⟨0, _⟩ => show win0_3.index t 0 * 1024 ≤ (i 0).val ∧ (i 0).val < win0_3.index t 0 * 1024 + 1024; rw [hi.1]; omega
    | ⟨1, _⟩ => show win0_3.index t 1 * 2048 ≤ (i 1).val ∧ (i 1).val < win0_3.index t 1 * 2048 + 2048; rw [hi.2]; omega

/-- What the run leaves in the result, and that the arguments stay. -/
theorem values (ρ : Dev nD → PrngReg) : θ_run (defs (F := Ideal)) (onTc (τ := τ) (main (F := Ideal))) ⟨m, fun _ => 0, ρ⟩ (fun r => ∀ c : Dev nD,
    r.2.mem ((c.tc : Thread nD τ).loc main_v0) = result (argQ m c) (argK m c) (argV m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.AttnFwdIdeal.Ker

namespace Cert.AttnFwdClaim

open Idealize.ShloMosaic Idealize.ShloMosaic.TcCoe Idealize.SL.Sem Idealize.ShloMosaic.ValueIdx Cert.Products Cert.AttnRow
open Cert.AttnFwdRefIdeal Cert.AttnFwdRefIdeal.Gen Cert.AttnFwdRefIdeal.Read
open Cert.AttnFwdIdeal.Ker (argQ argK argV result attend)

section Reference
variable (q : FVec Ideal S2048x2048 .bf16) (k v : FVec Ideal S256x2048 .bf16)

/-- The softmax is the one of the gradient's reference. -/
theorem reference_probs : val_main_v19 (F := Ideal) q k = Cert.ReferenceIdeal.Read.val_main_v33 (F := Ideal) q k := rfl

theorem reference_values : val_main_v5 (F := Ideal) v = Cert.ReferenceIdeal.Read.val_main_v5 (F := Ideal) v := rfl

theorem reference_result : val_main_v23 (F := Ideal) q k v = result q k v := by
  funext y
  obtain ⟨r, c, rfl⟩ : ∃ (r : Fin 2048) (c : Fin 2048), y = ix2 r c := ⟨y 0, y 1, eq_ix2 (n0 := 2048) (n1 := 2048) y⟩
  have e : val_main_v22 (F := Ideal) q k v (ix2 r c) = val_main_v20 (F := Ideal) q k v (ix4 0 (headOf c) (colOf c) r) := by
    rw [val_main_v22_apply, val_main_v21_apply]
    refine congrArg (val_main_v20 (F := Ideal) q k v) (ix4_ext 0 (headOf c) (colOf c) r rfl ?_ ?_ ?_)
    · show (r.val * 2048 + c.val) / 512 % 4 = c.val / 512
      have := c.isLt; omega
    · show (r.val * 2048 + c.val) % 512 = c.val % 512
      omega
    · show (r.val * 2048 + c.val) / 2048 % 2048 = r.val
      have := c.isLt; have := r.isLt; omega
  refine Eq.trans e ((val_main_v20_apply q k v _).trans ?_)
  show _ = ∑ j : Fin 256, prob scale (heads q (headOf c) r) (heads k (headOf c)) j * heads v (headOf c) j (colOf c)
  refine Finset.sum_congr rfl fun j _ => ?_
  rw [mul_comm, reference_probs, reference_values]
  refine congrArg₂ (· * ·) ?_ ?_
  · exact (congrArg (Cert.ReferenceIdeal.Read.val_main_v33 (F := Ideal) q k) (ix4_ext 0 (headOf c) r j rfl rfl rfl rfl)).trans
      (Cert.ReferenceIdeal.RefValue.v33_at q k (headOf c) r j)
  · exact (congrArg (Cert.ReferenceIdeal.Read.val_main_v5 (F := Ideal) v) (ix4_ext 0 j (headOf c) (colOf c) rfl rfl rfl rfl)).trans
      (Cert.ReferenceIdeal.RefValue.v5_at v (headOf c) j (colOf c))

end Reference

/-- The kernel's frame. -/
theorem frame_p : Cert.quiescent_AttnFwd := fun m ρ _ => Cert.AttnFwd.Gen.frame m ρ
/-- The idealization's frame. -/
theorem frame_pi : Cert.quiescent_AttnFwdIdeal := fun m ρ _ => Cert.AttnFwdIdeal.Gen.frame m ρ
/-- The reference's frame. -/
theorem frame_ri : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run (F := Ideal) m ρ)

/-- The idealization's result is the reference's. -/
theorem algebraic : Cert.algebraic_AttnFwdIdeal_AttnFwdRefIdeal := by
  intro m ρ m' ρ' _ hagree
  refine ⟨fun c => result (argQ m c) (argK m c) (argV m c), Cert.AttnFwdIdeal.Ker.values m ρ, ?_⟩
  refine (θ_run Cert.AttnFwdRefIdeal.defs _ _).mono (fun r h c => ?_) (Cert.AttnFwdRefIdeal.Value.run (F := Ideal) m' ρ')
  obtain ⟨e0, e1, e2⟩ := hagree c
  refine ⟨(h c).1.trans ((val_main_v23_eq ..).trans ?_), (h c).2⟩
  rw [e0, e1, e2]; exact reference_result _ _ _

end Cert.AttnFwdClaim

end
-- ==== Proof.UpFwdRun.lean ====
/-
  The run of the feed-forward network's first product. The grid has 24 points. The first eight each take a block of 256 rows:
  the normalised rows go to their output and to their 256 rows of a buffer kept between the points. The other sixteen each
  multiply the whole kept buffer with a block of 512 rows of the weight. Between two points the kept buffer holds the rows of
  the blocks already taken.
-/
module

public import proofs.«01_k».proof.Defs
public import proofs.«01_k».proof.Proof.Gen.UpFwdIdeal.Frame
public import proofs.«01_k».proof.Proof.Gen.UpFwdIdeal.Skeleton
public import Idealize.ShloMosaic.Lib.Pipeline.FrameBody
public import Idealize.ShloMosaic.Lib.Pipeline.TableIdle
public import Idealize.ShloMosaic.Lib.Pipeline.Value
public import Idealize.ShloMosaic.Lib.Claim
public import Idealize.ShloMosaic.Lib.Tactic
public import Idealize.ShloMosaic.Lib.WordCmp
public import Idealize.ShloMosaic.Lib.WritesUnit
public import Idealize.ShloMosaic.Lib.VecWindow
public import Idealize.ShloMosaic.Lib.ValueIdx

@[expose] public section

set_option maxRecDepth 16384

noncomputable section

namespace Cert.UpFwdIdeal.Staged

open Cert.UpFwdIdeal Cert.UpFwdIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points do what -/

theorem rowPoint (t : Fin cfg0.N) (h : t.val < 8) : k0_cond1 (grid0.coords t) = 1#1 ∧ ¬ k0_cond2 (grid0.coords t) = 1#1 :=
  (by decide +kernel : ∀ t : Fin grid0.N, t.val < 8 → k0_cond1 (grid0.coords t) = 1#1 ∧ ¬ k0_cond2 (grid0.coords t) = 1#1) t h

theorem columnPoint (t : Fin cfg0.N) (h : ¬ t.val < 8) : ¬ k0_cond1 (grid0.coords t) = 1#1 ∧ k0_cond2 (grid0.coords t) = 1#1 :=
  (by decide +kernel : ∀ t : Fin grid0.N, ¬ t.val < 8 → ¬ k0_cond1 (grid0.coords t) = 1#1 ∧ k0_cond2 (grid0.coords t) = 1#1) t h

/-- The point's number is its coordinate. -/
theorem coord (t : Fin cfg0.N) : (grid0.coords t 0).val = t.val :=
  (by decide +kernel : ∀ t : Fin grid0.N, (grid0.coords t 0).val = t.val) t

/-! ## The body at one point -/

/-- The whole of each block, as the body reads it. -/
abbrev rRows : Rect S256x2048 := Rect.unit (s := S256x2048) ![0, 0] S256x2048.size inb_S256x2048_S256x2048_0_0
abbrev rGain : Rect S1x2048 := Rect.unit (s := S1x2048) ![0, 0] S1x2048.size inb_S1x2048_S1x2048_0_0
abbrev rKept : Rect S2048x2048 := Rect.unit (s := S2048x2048) ![0, 0] S2048x2048.size inb_S2048x2048_S2048x2048_0_0
abbrev rWeight : Rect S512x2048 := Rect.unit (s := S512x2048) ![0, 0] S512x2048.size inb_S512x2048_S512x2048_0_0

set_option maxHeartbeats 1000000 in
/-- A point taking a block of rows. -/
theorem rows_body (c : Dev nD) (E : Set ℕ) (i : grid0.Coords) (h1 : k0_cond1 i = 1#1) (h2 : ¬ k0_cond2 i = 1#1)
    (a1 : Memref sig .tc .vmem S256x2048 .f32) (w1 : a1.IsWhole) (a2 : Memref sig .tc .vmem S1x2048 .f32) (w2 : a2.IsWhole)
    (a3 : Memref sig .tc .vmem S512x2048 .bf16) (w3 : a3.IsWhole) (a4 : Memref sig .tc .vmem S2048x512 .f32) (w4 : a4.IsWhole)
    (a5 : Memref sig .tc .vmem S256x2048 .bf16) (w5 : a5.IsWhole) (a6 : Memref sig .tc .vmem S2048x2048 .bf16) (w6 : a6.IsWhole)
    (x : Vec F S256x2048 .f32) (g : Vec F S1x2048 .f32) (X : Vec F S2048x2048 .bf16) (K : PUnit → sProp 𝕄) :
    iprop(owns (c : Thread nD τ) a1 fullShare x ∗ owns (c : Thread nD τ) a2 fullShare g
        ∗ (∃ d, owns (c : Thread nD τ) a5 fullShare d) ∗ owns (c : Thread nD τ) a6 fullShare X
        ∗ (iprop(owns (c : Thread nD τ) a1 fullShare x ∗ owns (c : Thread nD τ) a2 fullShare g
            ∗ owns (c : Thread nD τ) a5 fullShare (k0_pay2 x g)
            ∗ (∃ Y : Vec F S2048x2048 .bf16, ⌜(∀ (y : S2048x2048.Idx) (z : S256x2048.Idx), (y 0).val = 256 * (i 0).val + (z 0).val → (y 1).val = (z 1).val →
                  Y y = k0_pay3 x g z) ∧ ∀ y : S2048x2048.Idx, (y 0).val < 256 * (i 0).val → Y y = X y⌝
                ∗ owns (c : Thread nD τ) a6 fullShare Y)) -∗ K ⟨⟩))
      ⊢ wp frame (wpE (defs₀ (F := F)) Variants.none c none) E (cc0_ffn_up i a1 w1 a2 w2 a3 w3 a4 w4 a5 w5 a6 w6) K := by
  have hz : (![0, 0] : Fin 2 → ℕ) = fun _ => 0 := by decide
  simp only [cc0_ffn_up_eq_skeleton]; unfold cc0_ffn_up_skel
  unfold owns
  iintro ⟨⟨%f1, %hf1, H1⟩, ⟨%f2, %hf2, H2⟩, ⟨%d5, %f5, -, H5⟩, ⟨%f6, %hf6, H6⟩, Hk⟩
  subst hf1 hf2 hf6
  sl_exec (disch := first | sl_exact h1 | sl_exact h2)
  sl_step
  iapply Hk
  isplitl [H1]
  · iexists f1; isplitr; · ipureintro; rfl
    iexact H1
  isplitl [H2]
  · iexists f2; isplitr; · ipureintro; rfl
    iexact H2
  isplitl [H5]
  · iexists _; isplitr
    swap; · iexact H5
    ipureintro
    refine (View.read_writes_full _ _ _ _ _).trans ?_
    show k0_pay2 (View.ld (a1.view.read (Elt F) f1) rRows) (View.ld (a2.view.read (Elt F) f2) rGain) = _
    rw [View.ld_unit_zero hz, View.ld_unit_zero hz]
  iexists _
  isplitr
  swap
  · iexists _; isplitr
    swap; · iexact H6
    ipureintro; rfl
  ipureintro
  constructor
  · intro y z h0 h1'
    refine (View.read_writes_cons_rows_of_mem _ _ _ _ _ y z (k0_off1_eq i) h0 h1').trans ?_
    show k0_pay3 (View.ld (a1.view.read (Elt F) f1) rRows) (View.ld (a2.view.read (Elt F) f2) rGain) z = _
    rw [View.ld_unit_zero hz, View.ld_unit_zero hz]
  · intro y h0
    exact View.read_writes_cons_rows_of_not_mem _ _ _ _ _ y (k0_off1_eq i) rfl (.inl h0)

set_option maxHeartbeats 1000000 in
/-- A point taking a block of columns of the product. -/
theorem columns_body (c : Dev nD) (E : Set ℕ) (i : grid0.Coords) (h1 : ¬ k0_cond1 i = 1#1) (h2 : k0_cond2 i = 1#1)
    (a1 : Memref sig .tc .vmem S256x2048 .f32) (w1 : a1.IsWhole) (a2 : Memref sig .tc .vmem S1x2048 .f32) (w2 : a2.IsWhole)
    (a3 : Memref sig .tc .vmem S512x2048 .bf16) (w3 : a3.IsWhole) (a4 : Memref sig .tc .vmem S2048x512 .f32) (w4 : a4.IsWhole)
    (a5 : Memref sig .tc .vmem S256x2048 .bf16) (w5 : a5.IsWhole) (a6 : Memref sig .tc .vmem S2048x2048 .bf16) (w6 : a6.IsWhole)
    (w : Vec F S512x2048 .bf16) (X : Vec F S2048x2048 .bf16) (K : PUnit → sProp 𝕄) :
    iprop(owns (c : Thread nD τ) a3 fullShare w ∗ (∃ d, owns (c : Thread nD τ) a4 fullShare d) ∗ owns (c : Thread nD τ) a6 fullShare X
        ∗ (iprop(owns (c : Thread nD τ) a3 fullShare w ∗ owns (c : Thread nD τ) a4 fullShare (k0_pay4 X w)
            ∗ owns (c : Thread nD τ) a6 fullShare X) -∗ K ⟨⟩))
      ⊢ wp frame (wpE (defs₀ (F := F)) Variants.none c none) E (cc0_ffn_up i a1 w1 a2 w2 a3 w3 a4 w4 a5 w5 a6 w6) K := by
  have hz : (![0, 0] : Fin 2 → ℕ) = fun _ => 0 := by decide
  simp only [cc0_ffn_up_eq_skeleton]; unfold cc0_ffn_up_skel
  unfold owns
  iintro ⟨⟨%f3, %hf3, H3⟩, ⟨%d4, %f4, -, H4⟩, ⟨%f6, %hf6, H6⟩, Hk⟩
  subst hf3 hf6
  sl_exec (disch := first | sl_exact h1 | sl_exact h2)
  sl_step
  iapply Hk
  isplitl [H3]
  · iexists f3; isplitr; · ipureintro; rfl
    iexact H3
  isplitl [H4]
  · iexists _; isplitr
    swap; · iexact H4
    ipureintro
    refine (View.read_writes_full _ _ _ _ _).trans ?_
    show k0_pay4 (View.ld (a6.view.read (Elt F) f6) rKept) (View.ld (a3.view.read (Elt F) f3) rWeight) = _
    rw [View.ld_unit_zero hz, View.ld_unit_zero hz]
  iexists f6; isplitr; · ipureintro; rfl
  iexact H6

/-! ## What the kept buffer and the outputs hold -/

/-- The normalised rows that point `t` puts into the kept buffer. -/
def tile (c : Dev nD) (t : Fin cfg0.N) : Vec F S256x2048 .bf16 := k0_pay3 (iblk m c 0 t) (iblk m c 1 t)

/-- The point that takes row `r`. -/
def taker (r : Fin 2048) : Fin cfg0.N := ⟨r.val / 256, by have := r.isLt; rw [show cfg0.N = 24 from N_0]; omega⟩

/-- The kept buffer once every row is there. -/
def whole (c : Dev nD) : Vec F S2048x2048 .bf16 := fun j =>
  tile m c (taker (j 0)) (ix2 ⟨(j 0).val % 256, Nat.mod_lt _ (by decide)⟩ (j 1))

/-- The rows of the first `n` blocks are there. -/
def Holds (c : Dev nD) (n : ℕ) (X : Vec F S2048x2048 .bf16) : Prop := ∀ j : S2048x2048.Idx, (j 0).val < 256 * n → X j = whole m c j

/-- The last point that takes rows, up to `t`. -/
def rowsAt (t : Fin cfg0.N) : Fin cfg0.N := ⟨min t.val 7, Nat.lt_of_le_of_lt (Nat.min_le_left _ _) t.isLt⟩

theorem rowsAt_of_lt (t : Fin cfg0.N) (h : t.val < 8) : rowsAt t = t := Fin.ext (by show min t.val 7 = t.val; omega)

theorem holds_zero (c : Dev nD) (X : Vec F S2048x2048 .bf16) : Holds m c 0 X := fun j h => absurd h (by omega)

/-- One more block of rows. -/
theorem holds_succ (c : Dev nD) (t : Fin cfg0.N) (n : ℕ) (hn : n = t.val) (X Y : Vec F S2048x2048 .bf16) (hX : Holds m c t.val X)
    (hY : ∀ (y : S2048x2048.Idx) (z : S256x2048.Idx), (y 0).val = 256 * n + (z 0).val → (y 1).val = (z 1).val → Y y = tile m c t z)
    (hK : ∀ y : S2048x2048.Idx, (y 0).val < 256 * n → Y y = X y) : Holds m c (t.val + 1) Y := by
  subst hn
  intro j hj
  by_cases h : (j 0).val < 256 * t.val
  · exact (hK j h).trans (hX j h)
  · have ht : taker (j 0) = t := Fin.ext (by show (j 0).val / 256 = t.val; omega)
    unfold whole
    rw [ht]
    refine hY j _ ?_ rfl
    show (j 0).val = 256 * t.val + (j 0).val % 256
    have : (j 0).val / 256 = t.val := congrArg Fin.val ht
    omega

/-- From the eighth point on, all rows are there. -/
theorem holds_all (c : Dev nD) (n : ℕ) (hn : 8 ≤ n) (X : Vec F S2048x2048 .bf16) (hX : Holds m c n X) : X = whole m c :=
  funext fun j => hX j (by have := (j 0).isLt; have : (j 0).val < 2048 := this; omega)

theorem holds_whole (c : Dev nD) (n : ℕ) : Holds m c n (whole m c) := fun _ _ => rfl

/-- What is known between two points: the kept buffer has the rows taken, the generator's register is left alone. -/
def between (c : Dev nD) (n : ℕ) : sProp 𝕄 :=
  iprop((∃ X : Vec F S2048x2048 .bf16, ⌜Holds m c n X⌝ ∗ owns (c : Thread nD τ) (Memref.whole cc0_scratch0) fullShare X) ∗ ∃ r, prngReg c r)

/-- The arrays, the buffers after each point, and what is known between the points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (whole m c) (iblk m c 2 t)
    | ⟨4, _⟩ => k0_pay2 (iblk m c 0 (rowsAt t)) (iblk m c 1 (rowsAt t))
  Φ t := between m c t.val
  q _ := fullShare
  owed _ := 0

theorem A_eq (c : Dev nD) (w : Fin cfg0.W) : (dats m 0 c).A w = V m c (Pipeline.arrRef spec0 w) := by dsimp only [dats]

theorem after_x (c : Dev nD) (t : Fin cfg0.N) : (dats m 0 c).after 0 t = iblk m c 0 t := by dsimp only [dats]
theorem after_g (c : Dev nD) (t : Fin cfg0.N) : (dats m 0 c).after 1 t = iblk m c 1 t := by dsimp only [dats]
theorem after_w (c : Dev nD) (t : Fin cfg0.N) : (dats m 0 c).after 2 t = iblk m c 2 t := by dsimp only [dats]
theorem after_u (c : Dev nD) (t : Fin cfg0.N) : (dats m 0 c).after 3 t = k0_pay4 (whole m c) (iblk m c 2 t) := by dsimp only [dats]
theorem after_hn (c : Dev nD) (t : Fin cfg0.N) :
    (dats m 0 c).after 4 t = k0_pay2 (iblk m c 0 (rowsAt t)) (iblk m c 1 (rowsAt t)) := by dsimp only [dats]

theorem before_x (c : Dev nD) (t : Fin cfg0.N) (d) : (dats m 0 c).before 0 t d = iblk m c 0 t :=
  before0_0_of m (dats m 0 c) (A_eq m c 0) (after_x m c) t d
theorem before_g (c : Dev nD) (t : Fin cfg0.N) (d) : (dats m 0 c).before 1 t d = iblk m c 1 t :=
  before0_1_of m (dats m 0 c) (A_eq m c 1) (after_g m c) t d
theorem before_w (c : Dev nD) (t : Fin cfg0.N) (d) : (dats m 0 c).before 2 t d = iblk m c 2 t :=
  before0_2_of m (dats m 0 c) (A_eq m c 2) (after_w m c) t d

/-! ## The buffer of the normalised rows after the eighth point -/

/-- A point taking rows writes the normalised rows and leaves the product alone, and the product is not written back yet. -/
theorem row_windows (t : Fin cfg0.N) (h : t.val < 8) :
    idle0 4 (grid0.coords t) = false ∧ idle0 3 (grid0.coords t) = true ∧ win0_3.flush t = false :=
  (by decide +kernel : ∀ t : Fin grid0.N, t.val < 8 →
    idle0 4 (grid0.coords t) = false ∧ idle0 3 (grid0.coords t) = true ∧ win0_3.flush t = false) t h
/-- A point taking columns writes the product and leaves the normalised rows alone, in the buffer they are in. -/
theorem column_windows (t : Fin cfg0.N) (h : ¬ t.val < 8) :
    idle0 4 (grid0.coords t) = true ∧ cfg0.fresh 4 t.val = false ∧ idle0 3 (grid0.coords t) = false :=
  (by decide +kernel : ∀ t : Fin grid0.N, ¬ t.val < 8 →
    idle0 4 (grid0.coords t) = true ∧ cfg0.fresh 4 t.val = false ∧ idle0 3 (grid0.coords t) = false) t h

theorem rowsAt_pred (t : Fin cfg0.N) (h : ¬ t.val < 8) (p : t.val - 1 < cfg0.N) : rowsAt ⟨t.val - 1, p⟩ = rowsAt t :=
  Fin.ext (by show min (t.val - 1) 7 = min t.val 7; omega)

theorem not_lt_of_idle (t : Fin cfg0.N) (h : idle0 4 (grid0.coords t) = true) : ¬ t.val < 8 := fun hlt =>
  Bool.false_ne_true ((row_windows t hlt).1.symm.trans h)

/-- A point that takes no rows finds the last block's normalised rows in their buffer. -/
theorem before_hn (c : Dev nD) (t : Fin cfg0.N) (h : ¬ t.val < 8) (d) : (dats m 0 c).before 4 t d = (dats m 0 c).after 4 t := by
  rw [Dat.before_out_traj _ 4 rfl (fun _ _ => rfl) (fun t _ hi _ => by
    rw [after_hn, after_hn, rowsAt_pred t (not_lt_of_idle t hi)]) t.val t rfl d, (column_windows t h).2.1, if_neg Bool.false_ne_true,
    after_hn, after_hn, rowsAt_pred t h]

/-- A buffer found as it is to be left is left so, whether it is written back or not. -/
theorem leaves_found (c : Dev nD) (w : Fin cfg0.W) (t : Fin cfg0.N) (hi : cfg0.idle w (cfg0.grid.coords t) = true)
    (d) (h : (dats m 0 c).before w t d = (dats m 0 c).after w t) :
    owns (c : Thread nD τ) ((cfg0.win w).stage (cfg0.slots t w)) fullShare ((dats m 0 c).before w t d) ⊢ (dats m 0 c).leavesExact w t := by
  unfold Dat.leavesExact
  rw [hi]
  cases (cfg0.win w).flush t
  · iintro H; iexists d; iexact H
  · rw [h]

/-- A buffer the body writes is left as said. -/
theorem leaves_live (c : Dev nD) (w : Fin cfg0.W) (t : Fin cfg0.N) (hi : cfg0.idle w (cfg0.grid.coords t) = false) :
    owns (c : Thread nD τ) ((cfg0.win w).stage (cfg0.slots t w)) fullShare ((dats m 0 c).after w t) ⊢ (dats m 0 c).leavesExact w t := by
  unfold Dat.leavesExact
  rw [hi]

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t ∗ (dats m 0 c).leavesExact 4 t)

theorem between_before (c : Dev nD) (t : Fin cfg0.N) : (dats m 0 c).Φ t.castSucc = between m c t.val := by
  dsimp only [dats]; exact Dat.Φ_castSucc (fun n _ => between m c n) t
theorem between_after (c : Dev nD) (t : Fin cfg0.N) : (dats m 0 c).Φ t.succ = between m c (t.val + 1) := rfl

theorem sound_rows (c : Dev nD) (t : Fin cfg0.N) (h : t.val < 8) :
    bodyPre m c t ⊢ wp frame (wpE (defs₀ (F := F)) Variants.none c none) Set.univ (bodyAt0 t) (fun _ => bodyPost m c t) := by
  obtain ⟨h1, h2⟩ := rowPoint t h
  obtain ⟨hn, hu, hf⟩ := row_windows t h
  unfold bodyPre bodyPost bodyAt0
  simp only [before_x, before_g, before_w]
  rw [between_before, between_after, show (dats m 0 c).owesAt () t.succ = (dats m 0 c).owesAt () t.castSucc from rfl,
    after_x, after_g, after_w]
  unfold between
  iintro ⟨⟨⟨%X, %hX, HX⟩, Hp⟩, Ho, ⟨%d0, H0⟩, ⟨%d1, H1⟩, ⟨%d2, H2⟩, H3, ⟨%d4, H4⟩⟩
  iapply (rows_body c Set.univ (grid0.coords t) h1 h2 _ _ _ _ _ _ _ _ _ _ _ _ (iblk m c 0 t) (iblk m c 1 t) X _)
  isplitl [H0]; · iexact H0
  isplitl [H1]; · iexact H1
  isplitl [H4]; · iexists _; iexact H4
  isplitl [HX]; · iexact HX
  iintro ⟨H0, H1, H4, ⟨%Y, %hY, HY⟩⟩
  isplitl [HY Hp]
  · isplitl [HY]
    · iexists Y; isplitr
      · ipureintro
        exact holds_succ m c t _ (coord t) X Y hX hY.1 hY.2
      iexact HY
    iexact Hp
  isplitl [Ho]; · iexact Ho
  isplitl [H0]; · iexact H0
  isplitl [H1]; · iexact H1
  isplitl [H2]; · iexact H2
  isplitl [H3]
  · rw [(dats m 0 c).leavesExact_idle 3 t hu hf]; iexact H3
  iapply (leaves_live m c 4 t hn)
  rw [after_hn, rowsAt_of_lt t h]; iexact H4

theorem sound_columns (c : Dev nD) (t : Fin cfg0.N) (h : ¬ t.val < 8) :
    bodyPre m c t ⊢ wp frame (wpE (defs₀ (F := F)) Variants.none c none) Set.univ (bodyAt0 t) (fun _ => bodyPost m c t) := by
  obtain ⟨h1, h2⟩ := columnPoint t h
  obtain ⟨hn, -, hu⟩ := column_windows t h
  unfold bodyPre bodyPost bodyAt0
  simp only [before_x, before_g, before_w]
  rw [between_before, between_after, show (dats m 0 c).owesAt () t.succ = (dats m 0 c).owesAt () t.castSucc from rfl,
    after_x, after_g, after_w]
  unfold between
  iintro ⟨⟨⟨%X, %hX, HX⟩, Hp⟩, Ho, ⟨%d0, H0⟩, ⟨%d1, H1⟩, ⟨%d2, H2⟩, ⟨%d3, H3⟩, ⟨%d4, H4⟩⟩
  obtain rfl := holds_all m c t.val (by omega) X hX
  iapply (columns_body c Set.univ (grid0.coords t) h1 h2 _ _ _ _ _ _ _ _ _ _ _ _ (iblk m c 2 t) (whole m c) _)
  isplitl [H2]; · iexact H2
  isplitl [H3]; · iexists _; iexact H3
  isplitl [HX]; · iexact HX
  iintro ⟨H2, H3, HX⟩
  isplitl [HX Hp]
  · isplitl [HX]
    · iexists whole m c; isplitr
      · ipureintro
        exact holds_whole m c _
      iexact HX
    iexact Hp
  isplitl [Ho]; · iexact Ho
  isplitl [H0]; · iexact H0
  isplitl [H1]; · iexact H1
  isplitl [H2]; · iexact H2
  isplitl [H3]
  · iapply (leaves_live m c 3 t hu)
    rw [after_u]; iexact H3
  iapply (leaves_found m c 4 t hn d4 (before_hn m c t h d4)); iexact H4

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  by_cases h : t.val < 8
  · exact triple_restated (sound_rows m c t h) rfl .rfl fun _ => .rfl
  · exact triple_restated (sound_columns m c t h) rfl .rfl fun _ => .rfl

/-! ## The run -/

/-- Before the first point nothing is known of the kept buffer, -/
theorem between_first (c : Dev nD) : Pipeline.ΦA spec0 c ⊢ (dats m 0 c).Φ 0 := by
  show _ ⊢ between m c 0
  unfold Pipeline.ΦA between
  rw [scopedRest0_eq c]
  iintro ⟨⟨%f, Hf⟩, Hp⟩
  isplitl [Hf]
  · iexists f; isplitr
    · ipureintro; exact holds_zero m c f
    rw [owns_whole]; iexact Hf
  iexact Hp
theorem kept_any (c : Dev nD) (X : Vec F S2048x2048 .bf16) : (owns (c : Thread nD τ) (Memref.whole cc0_scratch0) fullShare X : sProp 𝕄)
    ⊢ iprop(∃ f : Buf (Elt F) ((c : Thread nD τ).loc cc0_scratch0), ((c : Thread nD τ).loc cc0_scratch0) ↦{fullShare} f) := by
  rw [owns_whole]; iintro H; iexists X; iexact H
/-- and after the last nothing is asked of it. -/
theorem between_last (c : Dev nD) : (dats m 0 c).Φ (Fin.last cfg0.N) ⊢ Pipeline.ΦA spec0 c := by
  show between m c _ ⊢ _
  unfold Pipeline.ΦA between
  rw [scopedRest0_eq c]
  iintro ⟨⟨%X, -, HX⟩, Hp⟩
  isplitl [HX]
  · iapply (kept_any c X); iexact HX
  iexact Hp

set_option backward.isDefEq.respectTransparency.types false in
set_option maxHeartbeats 800000 in
theorem run_quiescent : θ_run defs (onTc (τ := τ) (main (F := F))) (s₀ m ρ) (fun r =>
    (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := between_first m) (hout := between_last m)

theorem run_main : θ_run defs (onTc (τ := τ) (main (F := F))) (s₀ m ρ) (Pipeline.FramePost cfgs (dats m) 0 (V m)) :=
  (θ_run defs _ _).mono (fun _ h => h.1) (run_quiescent m ρ)

end Cert.UpFwdIdeal.Staged

end
-- ==== Proof.UpFwd.lean ====
/-
  What the feed-forward network's first product leaves: the normalised rows of `x2`, and their product with the transposed
  weight, one block of 512 columns after the other.
-/
module

public import proofs.«01_k».proof.Defs
public import proofs.«01_k».proof.Proof.RmsFwd
public import proofs.«01_k».proof.Proof.UpFwdRun
public import proofs.«01_k».proof.Proof.Gen.UpFwd.Frame
public import proofs.«01_k».proof.Proof.Gen.UpFwdRefIdeal.Run
public import proofs.«01_k».proof.Proof.Gen.UpFwdRefIdeal.Read

@[expose] public section

set_option maxRecDepth 16384

noncomputable section

namespace Cert.UpFwdIdeal.Ker

open Cert.UpFwdIdeal Cert.UpFwdIdeal.Gen Cert.UpFwdIdeal.Staged Cert.Products
open Idealize.ShloMosaic Idealize.ShloMosaic.TcCoe Idealize.SL.Sem Idealize.ShloMosaic.ValueIdx
open Idealize.ShloMosaic.Pipeline (Dat)

/-! ## What one point computes -/

/-- The normalised rows, as they go to their output and to the kept buffer. -/
theorem pay2 (x : FVec Ideal S256x2048 .f32) (g : FVec Ideal S1x2048 .f32) : (k0_pay2 (F := Ideal) x g : FVec Ideal S256x2048 .bf16) = Rms.normed x g .bf16 := by
  unfold k0_pay2 k0_pay1
  exact Rms.normed_kernel x g _ _ _ _ _ _
theorem pay3 (x : FVec Ideal S256x2048 .f32) (g : FVec Ideal S1x2048 .f32) : (k0_pay3 (F := Ideal) x g : FVec Ideal S256x2048 .bf16) = Rms.normed x g .bf16 :=
  (shapeCast_self _ _).trans (pay2 x g)

/-- The kept rows against a block of the weight's rows. -/
theorem pay4 (X : FVec Ideal S2048x2048 .bf16) (w : FVec Ideal S512x2048 .bf16) (i : Fin 2048) (j : Fin 512) :
    (k0_pay4 (F := Ideal) X w : FVec Ideal S2048x512 .f32) (ix2 i j) = ∑ k : Fin 2048, X (ix2 i k) * w (ix2 j k) := by
  unfold k0_pay4
  refine (Ideal.matmul_transposedRhs_apply (prec := none) ..).trans ?_
  show Ideal.ofBits .f32 0x00000000#32 + _ = _
  rw [Ideal.ofBits_zero_f32, zero_add]

/-! ## The arrays -/

variable (m : (ℓ : Loc nD τ sig) → Buf (Elt Ideal) ℓ) (c : Dev nD)

/-- The rows, the gain and the weight. -/
abbrev argX : FVec Ideal S2048x2048 .f32 := m ((c : Thread nD τ).loc main_arg0)
abbrev argG : FVec Ideal S1x2048 .f32 := m ((c : Thread nD τ).loc main_arg1)
abbrev argW : FVec Ideal S8192x2048 .bf16 := m ((c : Thread nD τ).loc main_arg2)

/-- The two results: the product and the normalised rows. -/
def prod (x : FVec Ideal S2048x2048 .f32) (g : FVec Ideal S1x2048 .f32) (w : FVec Ideal S8192x2048 .bf16) : FVec Ideal S2048x8192 .f32 :=
  Rms.timesWT (Rms.normed x g .bf16) w .f32
def hn (x : FVec Ideal S2048x2048 .f32) (g : FVec Ideal S1x2048 .f32) : FVec Ideal S2048x2048 .bf16 := Rms.normed x g .bf16

/-- Where the windows lie at each point. -/
theorem places : ∀ t : Fin grid0.N, (win0_0.index t 0 = min t.val 7 ∧ win0_0.index t 1 = 0) ∧ (win0_1.index t 0 = 0 ∧ win0_1.index t 1 = 0)
    ∧ (win0_2.index t 0 = t.val - 8 ∧ win0_2.index t 1 = 0) ∧ (win0_3.index t 0 = 0 ∧ win0_3.index t 1 = t.val - 8)
    ∧ win0_4.index t 0 = min t.val 7 ∧ win0_4.index t 1 = 0 := by decide +kernel

/-- When the outputs are written back: a block of columns at each point from the ninth on, a block of rows when the next is taken or at the end. -/
theorem flushes : ∀ t : Fin grid0.N, (win0_3.flush t = true ↔ 8 ≤ t.val) ∧ (t.val < 7 ∨ t.val = 23 → win0_4.flush t = true) := by decide +kernel

/-- The block of rows point `t` works on, the row `i` of it and the column `j` of its block of columns, as those of the whole. -/
def block (t : Fin cfg0.N) : Fin 8 := ⟨min t.val 7, by omega⟩
abbrev rowOf (t : Fin cfg0.N) (i : Fin 256) : Fin 2048 := Rms.tileRow (n := 8) rfl (block t) i
def colOf (t : Fin cfg0.N) (j : Fin 512) : Fin 8192 :=
  ⟨512 * (t.val - 8) + j.val, by have := t.isLt; have h : cfg0.N = 24 := N_0; have := j.isLt; omega⟩

theorem block_rowsAt (t : Fin cfg0.N) : block (rowsAt t) = block t := Fin.ext (by show min (min t.val 7) 7 = min t.val 7; omega)

theorem block_x (t : Fin cfg0.N) (i : Fin 256) : Rms.row (iblk m c 0 t : FVec Ideal S256x2048 .f32) i = Rms.row (argX m c) (rowOf t i) := by
  have hi := (places t).1
  funext k
  show (iblk m c 0 t : FVec Ideal S256x2048 .f32) (ix2 i k) = _
  unfold iblk
  rw [View.read_apply]
  refine (congrArg (V m c main_arg0) (?_ : _ = ix2 (rowOf t i) k)).trans (congrFun (V_main_arg0 m c) _)
  funext a
  apply Fin.ext
  match a with
  | ⟨0, _⟩ => show win0_0.index t 0 * 256 + 1 * i.val = 256 * min t.val 7 + i.val; rw [hi.1]; omega
  | ⟨1, _⟩ => show win0_0.index t 1 * 2048 + 1 * k.val = k.val; rw [hi.2]; omega

theorem block_g (t : Fin cfg0.N) : (iblk m c 1 t : FVec Ideal S1x2048 .f32) = argG m c := by
  have hi := (places t).2.1
  funext y
  unfold iblk
  rw [View.read_apply]
  refine (congrArg (V m c main_arg1) (?_ : _ = y)).trans (congrFun (V_main_arg1 m c) _)
  funext a
  apply Fin.ext
  match a with
  | ⟨0, _⟩ => show win0_1.index t 0 * 1 + 1 * (y 0).val = (y 0).val; rw [hi.1]; omega
  | ⟨1, _⟩ => show win0_1.index t 1 * 2048 + 1 * (y 1).val = (y 1).val; rw [hi.2]; omega

theorem block_w (t : Fin cfg0.N) (j : Fin 512) (k : Fin 2048) :
    (iblk m c 2 t : FVec Ideal S512x2048 .bf16) (ix2 j k) = argW m c (ix2 (colOf t j) k) := by
  have hi := (places t).2.2.1
  unfold iblk
  rw [View.read_apply]
  refine (congrArg (V m c main_arg2) (?_ : _ = ix2 (colOf t j) k)).trans (congrFun (V_main_arg2 m c) _)
  funext a
  apply Fin.ext
  match a with
  | ⟨0, _⟩ => show win0_2.index t 0 * 512 + 1 * j.val = 512 * (t.val - 8) + j.val; rw [hi.1]; omega
  | ⟨1, _⟩ => show win0_2.index t 1 * 2048 + 1 * k.val = k.val; rw [hi.2]; omega

/-- A point's normalised rows are rows of the whole. -/
theorem block_hn (t : Fin cfg0.N) (i : Fin 256) (k : Fin 2048) :
    Rms.normed (iblk m c 0 t : FVec Ideal S256x2048 .f32) (iblk m c 1 t : FVec Ideal S1x2048 .f32) .bf16 (ix2 i k)
      = hn (argX m c) (argG m c) (ix2 (rowOf t i) k) := by
  rw [block_g]
  exact Rms.normed_row _ _ _ (block_x m c t i) k

/-- The kept buffer holds the normalised rows. -/
theorem whole_eq : (whole m c : FVec Ideal S2048x2048 .bf16) = hn (argX m c) (argG m c) := by
  funext y
  obtain ⟨i, k, rfl⟩ : ∃ (i k : Fin 2048), y = ix2 i k := ⟨y 0, y 1, eq_ix2 (n0 := 2048) (n1 := 2048) y⟩
  have hr : rowOf (taker i) ⟨i.val % 256, Nat.mod_lt _ (by decide)⟩ = i := Fin.ext (by
    show 256 * min (i.val / 256) 7 + i.val % 256 = i.val
    have := i.isLt
    omega)
  show (tile m c (taker i) : FVec Ideal S256x2048 .bf16) (ix2 ⟨i.val % 256, _⟩ k) = _
  unfold tile
  rw [pay3]
  refine (block_hn m c (taker i) ⟨i.val % 256, Nat.mod_lt _ (by decide)⟩ k).trans ?_
  rw [hr]

/-- The product after the run. -/
theorem final3 : (dats m 0 c).arrAt 3 cfg0.N = prod (argX m c) (argG m c) (argW m c) := by
  refine (dats m 0 c).arrAt_eq_of_cover 3 (prod (argX m c) (argG m c) (argW m c)) (fun t _ => ?_) fun i => ?_
  · have hi := (places t).2.2.2.1
    show (cfg0.win 3).cut (grid0.coords t) ((dats m 0 c).after 3 t) = _
    rw [after_u]
    funext j
    rw [View.read_apply]
    obtain ⟨i, k, rfl⟩ : ∃ (i : Fin 2048) (k : Fin 512), j = ix2 i k := ⟨j 0, j 1, eq_ix2 (n0 := 2048) (n1 := 512) j⟩
    have h : (k0_pay4 (F := Ideal) (whole m c) (iblk m c 2 t) : FVec Ideal S2048x512 .f32) (ix2 i k)
        = prod (argX m c) (argG m c) (argW m c) (ix2 i (colOf t k)) := by
      rw [pay4, whole_eq]
      exact Finset.sum_congr rfl fun a _ => congrArg (hn (argX m c) (argG m c) (ix2 i a) * ·) (block_w m c t k a)
    refine Eq.trans h (congrArg (prod (argX m c) (argG m c) (argW m c)) (funext fun a => Fin.ext ?_))
    match a with
    | ⟨0, _⟩ => show i.val = win0_3.index t 0 * 2048 + 1 * i.val; rw [hi.1]; omega
    | ⟨1, _⟩ => show 512 * (t.val - 8) + k.val = win0_3.index t 1 * 512 + 1 * k.val; rw [hi.2]; omega
  · have hN : cfg0.N = 24 := N_0
    have hb : (i 0).val < 2048 := (i 0).isLt
    have hb1 : (i 1).val < 8192 := (i 1).isLt
    obtain ⟨t, ht⟩ : ∃ t : Fin cfg0.N, t.val = (i 1).val / 512 + 8 := ⟨⟨(i 1).val / 512 + 8, by omega⟩, rfl⟩
    have hi := (places t).2.2.2.1
    refine ⟨t, (flushes t).1.2 (by omega), ?_⟩
    show i ∈ ((View.whole main_v0_0).slice (win0_3.rect t)).set
    rw [View.set_slice_whole, Rect.mem_set_unit]
    intro a
    match a with
    | ⟨0, _⟩ => show win0_3.index t 0 * 2048 ≤ (i 0).val ∧ (i 0).val < win0_3.index t 0 * 2048 + 2048; rw [hi.1]; omega
    | ⟨1, _⟩ => show win0_3.index t 1 * 512 ≤ (i 1).val ∧ (i 1).val < win0_3.index t 1 * 512 + 512; rw [hi.2]; omega

/-- A point at which block `b` of rows is written back. -/
theorem written (b : ℕ) (hb : b < 8) : ∃ t : Fin cfg0.N, min t.val 7 = b ∧ win0_4.flush t = true := by
  have hN : cfg0.N = 24 := N_0
  by_cases h : b = 7
  · exact ⟨⟨23, by omega⟩, by show min 23 7 = b; omega, (flushes _).2 (.inr rfl)⟩
  · exact ⟨⟨b, by omega⟩, by show min b 7 = b; omega, (flushes _).2 (.inl (by show b < 7; omega))⟩

/-- The normalised rows after the run. -/
theorem final4 : (dats m 0 c).arrAt 4 cfg0.N = hn (argX m c) (argG m c) := by
  refine (dats m 0 c).arrAt_eq_of_cover 4 (hn (argX m c) (argG m c)) (fun t _ => ?_) fun i => ?_
  · have hi := (places t).2.2.2.2
    show (cfg0.win 4).cut (grid0.coords t) ((dats m 0 c).after 4 t) = _
    rw [after_hn, pay2]
    funext j
    rw [View.read_apply]
    obtain ⟨i, k, rfl⟩ : ∃ (i : Fin 256) (k : Fin 2048), j = ix2 i k := ⟨j 0, j 1, eq_ix2 (n0 := 256) (n1 := 2048) j⟩
    have h : Rms.normed (iblk m c 0 (rowsAt t) : FVec Ideal S256x2048 .f32) (iblk m c 1 (rowsAt t) : FVec Ideal S1x2048 .f32) .bf16 (ix2 i k)
        = hn (argX m c) (argG m c) (ix2 (rowOf t i) k) := by
      rw [rowOf, ← block_rowsAt t]
      exact block_hn m c (rowsAt t) i k
    refine Eq.trans h (congrArg (hn (argX m c) (argG m c)) (funext fun a => Fin.ext ?_))
    match a with
    | ⟨0, _⟩ => show 256 * min t.val 7 + i.val = win0_4.index t 0 * 256 + 1 * i.val; rw [hi.1]; omega
    | ⟨1, _⟩ => show k.val = win0_4.index t 1 * 2048 + 1 * k.val; rw [hi.2]; omega
  · have hb : (i 0).val < 2048 := (i 0).isLt
    have hb1 : (i 1).val < 2048 := (i 1).isLt
    obtain ⟨t, ht, hf⟩ := written ((i 0).val / 256) (by omega)
    have hi := (places t).2.2.2.2
    refine ⟨t, hf, ?_⟩
    show i ∈ ((View.whole main_v0_1).slice (win0_4.rect t)).set
    rw [View.set_slice_whole, Rect.mem_set_unit]
    intro a
    match a with
    | ⟨0, _⟩ => show win0_4.index t 0 * 256 ≤ (i 0).val ∧ (i 0).val < win0_4.index t 0 * 256 + 256; rw [hi.1]; omega
    | ⟨1, _⟩ => show win0_4.index t 1 * 2048 ≤ (i 1).val ∧ (i 1).val < win0_4.index t 1 * 2048 + 2048; rw [hi.2]; omega

/-- What the run leaves in the results, and that the arguments stay. -/
theorem values (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = prod (argX m c) (argG m c) (argW m c)
    ∧ r.2.mem ((c.tc : Thread nD τ).loc main_v0_1) = hn (argX m c) (argG m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => ⟨((h.1 c).1 3).trans (final3 m c), ((h.1 c).1 4).trans (final4 m c), h.2 c⟩)
    (θ_run_and (run_main m ρ) (frame_of m ρ (dats m) (A_eq m) (run_main m ρ)))

end Cert.UpFwdIdeal.Ker

namespace Cert.UpFwdClaim

open Idealize.ShloMosaic Idealize.ShloMosaic.TcCoe Idealize.SL.Sem Idealize.ShloMosaic.ValueIdx Cert.Products
open Cert.UpFwdRefIdeal Cert.UpFwdRefIdeal.Gen Cert.UpFwdRefIdeal.Read
open Cert.UpFwdIdeal.Ker (argX argG argW prod hn)

section Reference
variable (x : FVec Ideal S2048x2048 .f32) (g : FVec Ideal S1x2048 .f32) (w : FVec Ideal S8192x2048 .bf16)

theorem reference_normed : val_main_v11 (F := Ideal) x g = Rms.normed x g .f32 :=
  Rms.normed_host x g _ (Rms.meanSq_host x reducesTo_S2048x2048_S2048_d1 (by decide) h_S_ bcast_S2048_S2048x1_0 bcast_S_S2048x1)
    bcast_S2048x1_S2048x2048_0_1 bcast_S1x2048_S2048x2048_0_1

theorem reference_hn : val_main_v15 (F := Ideal) x g = hn x g := reference_normed x g

theorem reference_prod : val_main_v14 (F := Ideal) x g w = prod x g w := by
  funext y
  obtain ⟨i, j, rfl⟩ : ∃ (i : Fin 2048) (j : Fin 8192), y = ix2 i j := ⟨y 0, y 1, eq_ix2 (n0 := 2048) (n1 := 8192) y⟩
  rw [val_main_v14_apply, reference_normed]
  show _ = ∑ k : Fin 2048, Rms.normed x g .bf16 (ix2 i k) * w (ix2 j k)
  refine Finset.sum_congr rfl fun k _ => congrArg₂ (· * ·) (congrArg (Rms.normed x g .f32) (ix2_ext i k rfl rfl)) ?_
  rw [val_main_v13_apply]
  exact congrArg w (ix2_ext j k rfl rfl)

end Reference

/-- The run leaves the arguments as they were and every counter at zero, whatever the numbers are. -/
theorem unchanged {F : FTy → Type} [FloatOps F]
    (m : (ℓ : Loc Cert.UpFwdIdeal.nD Cert.UpFwdIdeal.τ Cert.UpFwdIdeal.sig) → Buf (Elt F) ℓ) (ρ : Dev Cert.UpFwdIdeal.nD → PrngReg) :
    θ_run (Cert.UpFwdIdeal.defs (F := F)) (onTc (τ := Cert.UpFwdIdeal.τ) (Cert.UpFwdIdeal.main (F := F))) ⟨m, fun _ => 0, ρ⟩ (fun r =>
      (∀ c : Dev Cert.UpFwdIdeal.nD,
        r.2.mem ((c.tc : Thread _ _).loc Cert.UpFwdIdeal.main_arg0) = m ((c.tc : Thread _ _).loc Cert.UpFwdIdeal.main_arg0)
        ∧ r.2.mem ((c.tc : Thread _ _).loc Cert.UpFwdIdeal.main_arg1) = m ((c.tc : Thread _ _).loc Cert.UpFwdIdeal.main_arg1)
        ∧ r.2.mem ((c.tc : Thread _ _).loc Cert.UpFwdIdeal.main_arg2) = m ((c.tc : Thread _ _).loc Cert.UpFwdIdeal.main_arg2))
      ∧ r.2.sem = fun _ => 0) :=
  θ_run_and (Cert.UpFwdIdeal.Gen.frame_of m ρ (Cert.UpFwdIdeal.Staged.dats m) (Cert.UpFwdIdeal.Staged.A_eq m) (Cert.UpFwdIdeal.Staged.run_main m ρ))
    ((θ_run Cert.UpFwdIdeal.defs _ _).mono (fun _ h => h.2) (Cert.UpFwdIdeal.Staged.run_quiescent m ρ))

/-- The kernel and its idealization have one table of bodies. -/
theorem same_defs : Cert.UpFwdIdeal.defs (F := Bits) = Cert.UpFwd.defs (F := Bits) := by
  refine congrArg (Pipeline.defs _) (congrArg Defs.onTc (funext fun l => funext fun a => ?_))
  match l, a with
  | 0, (t, s) => rfl

/-- The kernel's frame. -/
theorem frame_p : Cert.quiescent_UpFwd := fun m ρ _ => by
  have h := unchanged (F := Bits) m ρ
  rw [same_defs] at h
  exact h
/-- The idealization's frame. -/
theorem frame_pi : Cert.quiescent_UpFwdIdeal := fun m ρ _ => unchanged (F := Ideal) m ρ
/-- The reference's frame. -/
theorem frame_ri : Cert.quiescent_UpFwdRefIdeal := fun m ρ _ =>
  (θ_run Cert.UpFwdRefIdeal.defs _ _).mono (fun r h => ⟨fun c => (h c).2.2, sem_eq_zero_of_no_sems (by decide) r.2⟩)
    (Cert.UpFwdRefIdeal.Value.run (F := Ideal) m ρ)

/-- The idealization's product and normalised rows are the reference's. -/
theorem algebraic : Cert.algebraic_UpFwdIdeal_UpFwdRefIdeal := by
  intro m ρ m' ρ' _ hagree
  refine ⟨fun c => prod (argX m c) (argG m c) (argW m c), fun c => hn (argX m c) (argG m c), Cert.UpFwdIdeal.Ker.values m ρ, ?_⟩
  refine (θ_run Cert.UpFwdRefIdeal.defs _ _).mono (fun r h c => ?_) (Cert.UpFwdRefIdeal.Value.run (F := Ideal) m' ρ')
  obtain ⟨e0, e1, e2⟩ := hagree c
  refine ⟨(h c).1.trans ((val_main_v14_eq ..).trans ?_), (h c).2.1.trans ((val_main_v15_eq ..).trans ?_), (h c).2.2⟩
  · rw [e0, e1, e2]; exact reference_prod _ _ _
  · rw [e0, e1]; exact reference_hn _ _

end Cert.UpFwdClaim

end
-- ==== Proof.DownFwdRun.lean ====
/-
  The run of the feed-forward network's second product. The grid has four blocks of 512 rows by four blocks of the inner values.
  The first point of a row block sets the block of the product to zero, where it stands in its output's buffer, and starts a
  copy of the block's rows of the residual stream; every point adds its product there; the last point waits for the copy and
  adds the normalised product to the copied rows. Between two points of a row block the copy is under way.
-/
module

public import proofs.«01_k».proof.Defs
public import proofs.«01_k».proof.Proof.Gen.DownFwdIdeal.Frame
public import proofs.«01_k».proof.Proof.Gen.DownFwdIdeal.Skeleton
public import Idealize.ShloMosaic.Lib.Pipeline.FrameBody
public import Idealize.ShloMosaic.Lib.Pipeline.TableIdle
public import Idealize.ShloMosaic.Lib.Pipeline.Value
public import Idealize.ShloMosaic.Lib.Claim
public import Idealize.ShloMosaic.Lib.Tactic
public import Idealize.ShloMosaic.Lib.WordCmp
public import Idealize.ShloMosaic.Lib.WritesUnit
public import Idealize.ShloMosaic.Lib.VecWindow
public import Idealize.ShloMosaic.Lib.ValueIdx

@[expose] public section

set_option maxRecDepth 16384

noncomputable section

namespace Cert.DownFwdIdeal.Streamed

open Cert.DownFwdIdeal Cert.DownFwdIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Which points do what -/

theorem startPoint (t : Fin cfg0.N) (h : t.val % 4 = 0) : k0_cond1 (grid0.coords t) = 1#1 ∧ ¬ k0_cond2 (grid0.coords t) = 1#1 :=
  (by decide +kernel : ∀ t : Fin grid0.N, t.val % 4 = 0 → k0_cond1 (grid0.coords t) = 1#1 ∧ ¬ k0_cond2 (grid0.coords t) = 1#1) t h

theorem laterPoint (t : Fin cfg0.N) (h : ¬ t.val % 4 = 0) : ¬ k0_cond1 (grid0.coords t) = 1#1 :=
  (by decide +kernel : ∀ t : Fin grid0.N, ¬ t.val % 4 = 0 → ¬ k0_cond1 (grid0.coords t) = 1#1) t h

theorem earlyPoint (t : Fin cfg0.N) (h : ¬ t.val % 4 = 3) : ¬ k0_cond2 (grid0.coords t) = 1#1 :=
  (by decide +kernel : ∀ t : Fin grid0.N, ¬ t.val % 4 = 3 → ¬ k0_cond2 (grid0.coords t) = 1#1) t h

theorem endPoint (t : Fin cfg0.N) (h : t.val % 4 = 3) : k0_cond2 (grid0.coords t) = 1#1 :=
  (by decide +kernel : ∀ t : Fin grid0.N, t.val % 4 = 3 → k0_cond2 (grid0.coords t) = 1#1) t h

/-- The sum's buffer is left alone before the last point of a row block, -/
theorem idle_early (t : Fin cfg0.N) (h : ¬ t.val % 4 = 3) : idle0 3 (grid0.coords t) = true ∧ win0_3.flush t = false :=
  (by decide +kernel : ∀ t : Fin grid0.N, ¬ t.val % 4 = 3 → idle0 3 (grid0.coords t) = true ∧ win0_3.flush t = false) t h
/-- and written at it. -/
theorem live_end (t : Fin cfg0.N) (h : t.val % 4 = 3) : idle0 3 (grid0.coords t) = false :=
  (by decide +kernel : ∀ t : Fin grid0.N, t.val % 4 = 3 → idle0 3 (grid0.coords t) = false) t h
/-- The product's buffer is written at every point. -/
theorem live_h (t : Fin cfg0.N) : idle0 4 (grid0.coords t) = false :=
  (by decide +kernel : ∀ t : Fin grid0.N, idle0 4 (grid0.coords t) = false) t
/-- It is the same buffer throughout a row block. -/
theorem same_buffer (t : Fin cfg0.N) (h : ¬ t.val % 4 = 0) : cfg0.fresh 4 t.val = false :=
  (by decide +kernel : ∀ t : Fin grid0.N, ¬ t.val % 4 = 0 → cfg0.fresh 4 t.val = false) t h

/-- The row block of a point. -/
theorem coord (t : Fin cfg0.N) : (grid0.coords t 0).val = t.val / 4 % 4 :=
  (by decide +kernel : ∀ t : Fin grid0.N, (grid0.coords t 0).val = t.val / 4 % 4) t

/-! ## The body at one point -/

abbrev rTile : Rect S512x2048 := Rect.unit (s := S512x2048) ![0, 0] S512x2048.size inb_S512x2048_S512x2048_0_0
abbrev rGain : Rect S1x2048 := Rect.unit (s := S1x2048) ![0, 0] S1x2048.size inb_S1x2048_S1x2048_0_0
abbrev rWeight : Rect S2048x2048 := Rect.unit (s := S2048x2048) ![0, 0] S2048x2048.size inb_S2048x2048_S2048x2048_0_0

/-- The rows that the copy of row block `i` reads. -/
abbrev rowsOf (M : Memref sig .tc .hbm S2048x2048 .f32) (i : grid0.Coords) (h : k0_cond1 i = 1#1) : Memref sig .tc .hbm S512x2048 .f32 :=
  M.slice (Rect.unit (s := S2048x2048) (k0_off1 i) S512x2048.size (k0_off1_inb i h)) (fun _ => rfl)

/-- The copy under way of the rows `M` of an array holding `fs` into the row buffer `N`, which held `fd`. -/
abbrev copying (c : Dev nD) (M : Memref sig .tc .hbm S512x2048 .f32) (fs : Buf (Elt F) (M.view.loc (c : Thread nD τ)))
    (N : Memref sig .tc .vmem S512x2048 .f32) (fd : Buf (Elt F) (N.view.loc (c : Thread nD τ))) : sProp 𝕄 :=
  Transfers.Flight (countersEmb (U := Pipeline.UD sig nD τ)) (c : Thread nD τ) (.dma 9) () 131072
    iprop((N.view.loc (c : Thread nD τ) ↦[N.view.set]{fullShare} N.view.writes (Elt F) fd [⟨Rect.whole S512x2048, ReadAs.same.apply (M.view.read (Elt F) fs)⟩])
      ∗ (M.view.loc (c : Thread nD τ) ↦[M.view.set]{fullShare} fs))

/-- What the body reads of the row buffer once the copy has filled it. -/
theorem read_copied (v : View sig .tc .vmem S512x2048 .f32) (w : Vec F S512x2048 .f32) :
    v.readCov (Val := Elt F) [⟨Rect.whole S512x2048, w⟩] rTile.toLoadRect = w :=
  have key : ∀ (off : Fin 2 → ℕ) (_ : off = fun _ => 0) (inb : ∀ a, off a + S512x2048.size a ≤ S512x2048.size a),
      v.readCov (Val := Elt F) [⟨Rect.whole S512x2048, w⟩] (Rect.unit (s := S512x2048) off S512x2048.size inb).toLoadRect = w := by
    intro off h inb
    subst h
    exact View.readCov_unit_zero v rfl inb w
  key _ (by decide) _

/-- The last point stores the product as it is. -/
theorem pay3 (h : Vec F S512x2048 .f32) : k0_pay3 h = h := shapeCast_self _ _

set_option maxHeartbeats 1000000 in
/-- The first point of a row block. -/
theorem start_body (c : Dev nD) (i : grid0.Coords) (h1 : k0_cond1 i = 1#1) (h2 : ¬ k0_cond2 i = 1#1)
    (a2 : Memref sig .tc .vmem S512x2048 .f32) (w2 : a2.IsWhole) (a3 : Memref sig .tc .vmem S2048x2048 .bf16) (w3 : a3.IsWhole)
    (a4 : Memref sig .tc .hbm S2048x2048 .f32) (w4 : a4.IsWhole) (a5 : Memref sig .tc .vmem S1x2048 .f32) (w5 : a5.IsWhole)
    (a6 : Memref sig .tc .vmem S512x2048 .f32) (w6 : a6.IsWhole) (a7 : Memref sig .tc .vmem S512x2048 .f32) (w7 : a7.IsWhole)
    (a8 : Memref sig .tc .vmem S512x2048 .f32) (w8 : a8.IsWhole)
    (A : Vec F S512x2048 .f32) (B : Vec F S2048x2048 .bf16) (M : Memref sig .tc .hbm S512x2048 .f32)
    (hM : M = rowsOf a4 i h1) (f4 : Buf (Elt F) (M.view.loc (c : Thread nD τ))) (K : PUnit → sProp 𝕄) :
    iprop(owns (c : Thread nD τ) a2 fullShare A ∗ owns (c : Thread nD τ) a3 fullShare B
        ∗ (∃ d, owns (c : Thread nD τ) a7 fullShare d) ∗ (∃ d, owns (c : Thread nD τ) a8 fullShare d)
        ∗ (M.view.loc (c : Thread nD τ) ↦[M.view.set]{fullShare} f4)
        ∗ semVal ((c : Thread nD τ), SemLoc.dma 9) 0
        ∗ (iprop(owns (c : Thread nD τ) a2 fullShare A ∗ owns (c : Thread nD τ) a3 fullShare B
            ∗ owns (c : Thread nD τ) a7 fullShare (k0_pay2 k0_pay1 A B) ∗ (∃ fd, copying c M f4 a8 fd)) -∗ K ⟨⟩))
      ⊢ wp frame (wpE (defs₀ (F := F)) Variants.none c none) Set.univ (cc0_ffn_down i a2 w2 a3 w3 a4 w4 a5 w5 a6 w6 a7 w7 a8 w8 cc0_scratch1) K := by
  have hz : (![0, 0] : Fin 2 → ℕ) = fun _ => 0 := by decide
  subst hM
  rw [cc0_ffn_down_eq_skeleton]; delta cc0_ffn_down_skel owns
  iintro ⟨⟨%f2, %hf2, H2⟩, ⟨%f3, %hf3, H3⟩, ⟨%d7, %f7, -, H7⟩, ⟨%d8, %f8, -, H8⟩, H4, Hs, Hk⟩
  subst hf2 hf3
  sl_exec (disch := first | sl_exact h1 | sl_exact h2)
  sl_step
  iapply Hk
  isplitl [H2]
  · iexists f2; isplitr; · ipureintro; rfl
    iexact H2
  isplitl [H3]
  · iexists f3; isplitr; · ipureintro; rfl
    iexact H3
  isplitl [H7]
  · iexists _; isplitr
    swap; · iexact H7
    ipureintro
    refine (View.read_writes_full _ _ _ _ _).trans ?_
    show k0_pay2 (a7.view.readCov [⟨rTile, k0_pay1 (F := F)⟩] rTile.toLoadRect) (View.ld (a2.view.read (Elt F) f2) rTile)
      (View.ld (a3.view.read (Elt F) f3) rWeight) = _
    rw [View.readCov_unit_zero _ hz, View.ld_unit_zero hz, View.ld_unit_zero hz]
  iexists f8; iexact Hs

set_option maxHeartbeats 1000000 in
/-- A point of a row block that is neither its first nor its last. -/
theorem middle_body (c : Dev nD) (i : grid0.Coords) (h1 : ¬ k0_cond1 i = 1#1) (h2 : ¬ k0_cond2 i = 1#1)
    (a2 : Memref sig .tc .vmem S512x2048 .f32) (w2 : a2.IsWhole) (a3 : Memref sig .tc .vmem S2048x2048 .bf16) (w3 : a3.IsWhole)
    (a4 : Memref sig .tc .hbm S2048x2048 .f32) (w4 : a4.IsWhole) (a5 : Memref sig .tc .vmem S1x2048 .f32) (w5 : a5.IsWhole)
    (a6 : Memref sig .tc .vmem S512x2048 .f32) (w6 : a6.IsWhole) (a7 : Memref sig .tc .vmem S512x2048 .f32) (w7 : a7.IsWhole)
    (a8 : Memref sig .tc .vmem S512x2048 .f32) (w8 : a8.IsWhole)
    (A : Vec F S512x2048 .f32) (B : Vec F S2048x2048 .bf16) (X : Vec F S512x2048 .f32) (K : PUnit → sProp 𝕄) :
    iprop(owns (c : Thread nD τ) a2 fullShare A ∗ owns (c : Thread nD τ) a3 fullShare B ∗ owns (c : Thread nD τ) a7 fullShare X
        ∗ (iprop(owns (c : Thread nD τ) a2 fullShare A ∗ owns (c : Thread nD τ) a3 fullShare B ∗ owns (c : Thread nD τ) a7 fullShare (k0_pay2 X A B)) -∗ K ⟨⟩))
      ⊢ wp frame (wpE (defs₀ (F := F)) Variants.none c none) Set.univ (cc0_ffn_down i a2 w2 a3 w3 a4 w4 a5 w5 a6 w6 a7 w7 a8 w8 cc0_scratch1) K := by
  have hz : (![0, 0] : Fin 2 → ℕ) = fun _ => 0 := by decide
  rw [cc0_ffn_down_eq_skeleton]; delta cc0_ffn_down_skel owns
  iintro ⟨⟨%f2, %hf2, H2⟩, ⟨%f3, %hf3, H3⟩, ⟨%f7, %hf7, H7⟩, Hk⟩
  subst hf2 hf3 hf7
  sl_exec (disch := first | sl_exact h1 | sl_exact h2)
  sl_step
  iapply Hk
  isplitl [H2]
  · iexists f2; isplitr; · ipureintro; rfl
    iexact H2
  isplitl [H3]
  · iexists f3; isplitr; · ipureintro; rfl
    iexact H3
  iexists _; isplitr
  swap; · iexact H7
  ipureintro
  refine (View.read_writes_full _ _ _ _ _).trans ?_
  show k0_pay2 (View.ld (a7.view.read (Elt F) f7) rTile) (View.ld (a2.view.read (Elt F) f2) rTile) (View.ld (a3.view.read (Elt F) f3) rWeight) = _
  rw [View.ld_unit_zero hz, View.ld_unit_zero hz, View.ld_unit_zero hz]

set_option maxHeartbeats 1000000 in
/-- The last point of a row block. -/
theorem end_body (c : Dev nD) (i : grid0.Coords) (h1 : ¬ k0_cond1 i = 1#1) (h2 : k0_cond2 i = 1#1)
    (a2 : Memref sig .tc .vmem S512x2048 .f32) (w2 : a2.IsWhole) (a3 : Memref sig .tc .vmem S2048x2048 .bf16) (w3 : a3.IsWhole)
    (a4 : Memref sig .tc .hbm S2048x2048 .f32) (w4 : a4.IsWhole) (a5 : Memref sig .tc .vmem S1x2048 .f32) (w5 : a5.IsWhole)
    (a6 : Memref sig .tc .vmem S512x2048 .f32) (w6 : a6.IsWhole) (a7 : Memref sig .tc .vmem S512x2048 .f32) (w7 : a7.IsWhole)
    (a8 : Memref sig .tc .vmem S512x2048 .f32) (w8 : a8.IsWhole)
    (A : Vec F S512x2048 .f32) (B : Vec F S2048x2048 .bf16) (g : Vec F S1x2048 .f32) (X : Vec F S512x2048 .f32)
    (M : Memref sig .tc .hbm S512x2048 .f32) (f4 : Buf (Elt F) (M.view.loc (c : Thread nD τ))) (W : Waits sig Unit) (K : PUnit → sProp 𝕄) :
    iprop(owns (c : Thread nD τ) a2 fullShare A ∗ owns (c : Thread nD τ) a3 fullShare B ∗ owns (c : Thread nD τ) a5 fullShare g
        ∗ (∃ d, owns (c : Thread nD τ) a6 fullShare d) ∗ owns (c : Thread nD τ) a7 fullShare X
        ∗ (∃ fd, copying c M f4 a8 fd) ∗ owes (c : Thread nD τ) 0 W
        ∗ (iprop(owns (c : Thread nD τ) a2 fullShare A ∗ owns (c : Thread nD τ) a3 fullShare B ∗ owns (c : Thread nD τ) a5 fullShare g
            ∗ owns (c : Thread nD τ) a6 fullShare (k0_pay4 (k0_pay2 X A B) (M.view.read (Elt F) f4) g)
            ∗ owns (c : Thread nD τ) a7 fullShare (k0_pay2 X A B) ∗ (∃ d, owns (c : Thread nD τ) a8 fullShare d)
            ∗ (M.view.loc (c : Thread nD τ) ↦[M.view.set]{fullShare} f4)
            ∗ semVal ((c : Thread nD τ), SemLoc.dma 9) 0 ∗ (∃ W', owes (c : Thread nD τ) 0 W')) -∗ K ⟨⟩))
      ⊢ wp frame (wpE (defs₀ (F := F)) Variants.none c none) Set.univ (cc0_ffn_down i a2 w2 a3 w3 a4 w4 a5 w5 a6 w6 a7 w7 a8 w8 cc0_scratch1) K := by
  have hz : (![0, 0] : Fin 2 → ℕ) = fun _ => 0 := by decide
  rw [cc0_ffn_down_eq_skeleton]; delta cc0_ffn_down_skel owns
  iintro ⟨⟨%f2, %hf2, H2⟩, ⟨%f3, %hf3, H3⟩, ⟨%f5, %hf5, H5⟩, ⟨%d6, %f6, -, H6⟩, ⟨%f7, %hf7, H7⟩, ⟨%f8, Hs⟩, Ho, Hk⟩
  subst hf2 hf3 hf5 hf7
  sl_exec (disch := first | sl_exact h1 | sl_exact h2)
  sl_step
  iapply Hk
  isplitl [H2]
  · iexists f2; isplitr; · ipureintro; rfl
    iexact H2
  isplitl [H3]
  · iexists f3; isplitr; · ipureintro; rfl
    iexact H3
  isplitl [H5]
  · iexists f5; isplitr; · ipureintro; rfl
    iexact H5
  isplitl [H6]
  · iexists _; isplitr
    swap; · iexact H6
    ipureintro
    refine (View.read_writes_full _ _ _ _ _).trans ?_
    show k0_pay4 (a7.view.readCov [⟨rTile, k0_pay2 (View.ld (a7.view.read (Elt F) f7) rTile) (View.ld (a2.view.read (Elt F) f2) rTile)
        (View.ld (a3.view.read (Elt F) f3) rWeight)⟩] rTile.toLoadRect)
      (a8.view.readCov (Val := Elt F) [⟨Rect.whole S512x2048, M.view.read (Elt F) f4⟩] rTile.toLoadRect) (View.ld (a5.view.read (Elt F) f5) rGain) = _
    rw [View.readCov_unit_zero _ hz, read_copied, View.ld_unit_zero hz, View.ld_unit_zero hz, View.ld_unit_zero hz, View.ld_unit_zero hz]
  isplitl [H7]
  · iexists _; isplitr
    swap; · iexact H7
    ipureintro
    refine (View.read_writes_full _ _ _ _ _).trans ?_
    show k0_pay3 (a7.view.readCov [⟨rTile, k0_pay2 (View.ld (a7.view.read (Elt F) f7) rTile) (View.ld (a2.view.read (Elt F) f2) rTile)
        (View.ld (a3.view.read (Elt F) f3) rWeight)⟩] rTile.toLoadRect) = _
    rw [pay3, View.readCov_unit_zero _ hz, View.ld_unit_zero hz, View.ld_unit_zero hz, View.ld_unit_zero hz]
  isplitl [Hs_dst]
  · iexists _; iexists _; isplitr
    swap; · iexact Hs_dst
    ipureintro; rfl
  isplitl [Hs_src]; · iexact Hs_src
  isplitl [Hs]; · iexact Hs
  iexists _; iexact Ho

/-! ## What the two outputs hold -/

/-- The row block at the `n`-th point. -/
def rowBlock (n : ℕ) : Fin 4 := ⟨n / 4 % 4, Nat.mod_lt _ (by decide)⟩

/-- The `k`-th point of row block `i`. -/
def pointOf (i : Fin 4) (k : ℕ) : Fin cfg0.N := ⟨4 * i.val + k % 4, by have := i.isLt; rw [show cfg0.N = 16 from N_0]; omega⟩

/-- The block of the product after `k` parts of it. -/
def grown (c : Dev nD) (i : Fin 4) : ℕ → Vec F S512x2048 .f32
  | 0 => k0_pay1
  | k + 1 => k0_pay2 (grown c i k) (iblk m c 0 (pointOf i k)) (iblk m c 1 (pointOf i k))

theorem grown_at (c : Dev nD) (t : Fin cfg0.N) :
    grown m c (rowBlock t.val) (t.val % 4 + 1) = k0_pay2 (grown m c (rowBlock t.val) (t.val % 4)) (iblk m c 0 t) (iblk m c 1 t) := by
  have e : pointOf (rowBlock t.val) (t.val % 4) = t := Fin.ext (by
    have : t.val < 16 := Nat.lt_of_lt_of_eq t.isLt N_0
    show 4 * (t.val / 4 % 4) + t.val % 4 % 4 = t.val; omega)
  show k0_pay2 _ (iblk m c 0 (pointOf _ _)) (iblk m c 1 (pointOf _ _)) = _
  rw [e]

/-- The rows of block `i` of an array. -/
def block (M : Memref sig .tc .hbm S2048x2048 .f32) (i : Fin 4) : Memref sig .tc .hbm S512x2048 .f32 :=
  M.slice (Rect.unit (s := S2048x2048) ![512 * i.val, 0] S512x2048.size (by
    intro a; have := i.isLt
    match a with
    | 0 => show 512 * i.val + 512 ≤ 2048; omega
    | 1 => show 0 + 2048 ≤ 2048; omega)) (fun _ => rfl)

theorem block_eq (M : Memref sig .tc .hbm S2048x2048 .f32) (t : Fin cfg0.N) (h : k0_cond1 (grid0.coords t) = 1#1) :
    block M (rowBlock t.val) = rowsOf M (grid0.coords t) h := by
  have key : ∀ (o o' : Fin 2 → ℕ) (_ : o = o') (p p'), M.slice (Rect.unit (s := S2048x2048) o S512x2048.size p) (fun _ => rfl)
      = M.slice (Rect.unit (s := S2048x2048) o' S512x2048.size p') (fun _ => rfl) := by
    intro o o' e p p'; subst e; rfl
  refine key _ _ ?_ _ _
  rw [k0_off1_eq, coord]; rfl

/-- The array whose rows are copied. -/
abbrev x2 : Memref sig .tc .hbm S2048x2048 .f32 := Memref.whole main_arg2

/-- What is held between two row blocks: the row buffer, its cell, the array. -/
def atRest (c : Dev nD) : sProp 𝕄 :=
  iprop((∃ d, owns (c : Thread nD τ) (Memref.whole cc0_scratch0) fullShare d)
    ∗ semVal ((c : Thread nD τ), SemLoc.dma 9) 0 ∗ (x2.view.loc (c : Thread nD τ) ↦{fullShare} V m c main_arg2))

/-- What is held inside row block `i`: the copy under way, the rest of the array. -/
def underWay (c : Dev nD) (i : Fin 4) : sProp 𝕄 :=
  iprop((∃ fd, copying c (block x2 i) (V m c main_arg2) (Memref.whole cc0_scratch0) fd)
    ∗ (x2.view.loc (c : Thread nD τ) ↦[Finset.univ \ (block x2 i).view.set]{fullShare} V m c main_arg2))

def between (c : Dev nD) (n : ℕ) : sProp 𝕄 :=
  iprop((∃ r, prngReg c r) ∗ if n % 4 = 0 then atRest m c else underWay m c (rowBlock n))

theorem between_rest (c : Dev nD) (n : ℕ) (h : n % 4 = 0) : between m c n = iprop((∃ r, prngReg c r) ∗ atRest m c) := by
  unfold between; rw [if_pos h]
theorem between_inside (c : Dev nD) (n : ℕ) (h : ¬ n % 4 = 0) : between m c n = iprop((∃ r, prngReg c r) ∗ underWay m c (rowBlock n)) := by
  unfold between; rw [if_neg h]

/-- A row block's rows of the copied array. -/
def xRows (c : Dev nD) (i : Fin 4) : Vec F S512x2048 .f32 := (block x2 i).view.read (Elt F) (V m c main_arg2)

/-- The arrays, the buffers after each point, and what is known between the points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (grown m c (rowBlock t.val) 4) (xRows m c (rowBlock t.val)) (iblk m c 2 t)
    | ⟨4, _⟩ => grown m c (rowBlock t.val) (t.val % 4 + 1)
  Φ t := between m c t.val
  q _ := fullShare
  owed _ := 0

theorem A_eq (c : Dev nD) (w : Fin cfg0.W) : (dats m 0 c).A w = V m c (Pipeline.arrRef spec0 w) := by dsimp only [dats]

theorem after_u (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_g (c : Dev nD) (t : Fin cfg0.N) : (dats m 0 c).after 2 t = iblk m c 2 t := by dsimp only [dats]
theorem after_x (c : Dev nD) (t : Fin cfg0.N) : (dats m 0 c).after 3 t
    = k0_pay4 (grown m c (rowBlock t.val) 4) (xRows m c (rowBlock t.val)) (iblk m c 2 t) := by dsimp only [dats]
theorem after_h (c : Dev nD) (t : Fin cfg0.N) : (dats m 0 c).after 4 t = grown m c (rowBlock t.val) (t.val % 4 + 1) := by dsimp only [dats]

/-- An input's buffer holds its block at every point. -/
theorem before_u (c : Dev nD) (t : Fin cfg0.N) (d) : (dats m 0 c).before 0 t d = iblk m c 0 t :=
  ((dats m 0 c).before_in_eq_fetched 0 rfl (fun _ => rfl) (fun _ _ _ => rfl) (fun t => (after_u m c t).trans (by
    unfold Dat.blockOf iblk; rw [A_eq])) t d).trans (by unfold Dat.fetched Dat.blockOf iblk; rw [A_eq]; rfl)
theorem before_w (c : Dev nD) (t : Fin cfg0.N) (d) : (dats m 0 c).before 1 t d = iblk m c 1 t :=
  ((dats m 0 c).before_in_eq_fetched 1 rfl (fun _ => rfl) (fun _ _ _ => rfl) (fun t => (after_w m c t).trans (by
    unfold Dat.blockOf iblk; rw [A_eq])) t d).trans (by unfold Dat.fetched Dat.blockOf iblk; rw [A_eq]; rfl)
theorem before_g (c : Dev nD) (t : Fin cfg0.N) (d) : (dats m 0 c).before 2 t d = iblk m c 2 t :=
  ((dats m 0 c).before_in_eq_fetched 2 rfl (fun _ => rfl) (fun _ _ _ => rfl) (fun t => (after_g m c t).trans (by
    unfold Dat.blockOf iblk; rw [A_eq])) t d).trans (by unfold Dat.fetched Dat.blockOf iblk; rw [A_eq]; rfl)

/-- Inside a row block a point finds the parts of the product that the points before it have added. -/
theorem before_h (c : Dev nD) (t : Fin cfg0.N) (h : ¬ t.val % 4 = 0) (d) :
    (dats m 0 c).before 4 t d = grown m c (rowBlock t.val) (t.val % 4) := by
  rw [Dat.before_out_traj _ 4 rfl (fun _ _ => rfl) (fun t _ hi _ => absurd (show idle0 4 (grid0.coords t) = true from hi) (by rw [live_h]; exact Bool.false_ne_true)) t.val t rfl d,
    same_buffer t h, if_neg Bool.false_ne_true, after_h,
    show (t.val - 1) % 4 + 1 = t.val % 4 by omega, show rowBlock (t.val - 1) = rowBlock t.val from Fin.ext (by show (t.val - 1) / 4 % 4 = t.val / 4 % 4; omega)]

/-- A buffer the body writes is left as said. -/
theorem leaves_live (c : Dev nD) (w : Fin cfg0.W) (t : Fin cfg0.N) (hi : cfg0.idle w (cfg0.grid.coords t) = false) :
    owns (c : Thread nD τ) ((cfg0.win w).stage (cfg0.slots t w)) fullShare ((dats m 0 c).after w t) ⊢ (dats m 0 c).leavesExact w t := by
  unfold Dat.leavesExact
  rw [hi]

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (dats m 0 c).leavesExact 3 t ∗ (dats m 0 c).leavesExact 4 t)

theorem between_before (c : Dev nD) (t : Fin cfg0.N) : (dats m 0 c).Φ t.castSucc = between m c t.val := by
  dsimp only [dats]; exact Dat.Φ_castSucc (fun n _ => between m c n) t
theorem between_after (c : Dev nD) (t : Fin cfg0.N) : (dats m 0 c).Φ t.succ = between m c (t.val + 1) := rfl

/-- A row block's rows, taken out of the whole array and put back. -/
theorem rows_apart (c : Dev nD) (i : Fin 4) : (x2.view.loc (c : Thread nD τ) ↦{fullShare} V m c main_arg2 : sProp 𝕄)
    ⊣⊢ iprop(((block x2 i).view.loc (c : Thread nD τ) ↦[(block x2 i).view.set]{fullShare} V m c main_arg2)
      ∗ (x2.view.loc (c : Thread nD τ) ↦[Finset.univ \ (block x2 i).view.set]{fullShare} V m c main_arg2)) :=
  pointsTo_split_subset (Finset.subset_univ _)

theorem sound_start (c : Dev nD) (t : Fin cfg0.N) (h : t.val % 4 = 0) :
    bodyPre m c t ⊢ wp frame (wpE (defs₀ (F := F)) Variants.none c none) Set.univ (bodyAt0 t) (fun _ => bodyPost m c t) := by
  obtain ⟨h1, h2⟩ := startPoint t h
  have hi := idle_early t (by omega)
  have e := (after_h m c t).trans (grown_at m c t)
  rw [h] at e
  unfold bodyPre bodyPost bodyAt0
  simp only [before_u, before_w, before_g]
  rw [between_before, between_after, show (dats m 0 c).owesAt () t.succ = (dats m 0 c).owesAt () t.castSucc from rfl,
    after_u, after_w, after_g, between_rest m c _ h, between_inside m c _ (by omega),
    show rowBlock (t.val + 1) = rowBlock t.val from Fin.ext (by show (t.val + 1) / 4 % 4 = t.val / 4 % 4; omega)]
  unfold atRest underWay
  iintro ⟨⟨Hp, HX, Hs, Hx⟩, Ho, ⟨%d0, H0⟩, ⟨%d1, H1⟩, ⟨%d2, H2⟩, H3, ⟨%d4, H4⟩⟩
  ihave Hx2 := (rows_apart m c (rowBlock t.val)).1 $$ Hx
  icases Hx2 with ⟨Hx, Hxr⟩
  iapply (start_body c (grid0.coords t) h1 h2 _ _ _ _ _ _ _ _ _ _ _ _ _ _ (iblk m c 0 t) (iblk m c 1 t)
    (block x2 (rowBlock t.val)) (block_eq x2 t h1) (V m c main_arg2) _)
  isplitl [H0]; · iexact H0
  isplitl [H1]; · iexact H1
  isplitl [H4]; · iexists _; iexact H4
  isplitl [HX]; · iexact HX
  isplitl [Hx]; · iexact Hx
  isplitl [Hs]; · iexact Hs
  iintro ⟨H0, H1, H4, Hs⟩
  isplitl [Hp Hs Hxr]
  · isplitl [Hp]; · iexact Hp
    isplitl [Hs]; · iexact Hs
    iexact Hxr
  isplitl [Ho]; · iexact Ho
  isplitl [H0]; · iexact H0
  isplitl [H1]; · iexact H1
  isplitl [H2]; · iexact H2
  isplitl [H3]
  · rw [(dats m 0 c).leavesExact_idle 3 t hi.1 hi.2]; iexact H3
  iapply (leaves_live m c 4 t (live_h t))
  rw [e]; iexact H4

theorem sound_middle (c : Dev nD) (t : Fin cfg0.N) (h : ¬ t.val % 4 = 0) (h3 : ¬ t.val % 4 = 3) :
    bodyPre m c t ⊢ wp frame (wpE (defs₀ (F := F)) Variants.none c none) Set.univ (bodyAt0 t) (fun _ => bodyPost m c t) := by
  have hi := idle_early t h3
  unfold bodyPre bodyPost bodyAt0
  simp only [before_u, before_w, before_g, before_h m c t h]
  rw [between_before, between_after, show (dats m 0 c).owesAt () t.succ = (dats m 0 c).owesAt () t.castSucc from rfl,
    after_u, after_w, after_g, between_inside m c _ h, between_inside m c _ (by omega),
    show rowBlock (t.val + 1) = rowBlock t.val from Fin.ext (by show (t.val + 1) / 4 % 4 = t.val / 4 % 4; omega)]
  iintro ⟨HΦ, Ho, ⟨%d0, H0⟩, ⟨%d1, H1⟩, ⟨%d2, H2⟩, H3, ⟨%d4, H4⟩⟩
  iapply (middle_body c (grid0.coords t) (laterPoint t h) (earlyPoint t h3) _ _ _ _ _ _ _ _ _ _ _ _ _ _ (iblk m c 0 t) (iblk m c 1 t)
    (grown m c (rowBlock t.val) (t.val % 4)) _)
  isplitl [H0]; · iexact H0
  isplitl [H1]; · iexact H1
  isplitl [H4]; · iexact H4
  iintro ⟨H0, H1, H4⟩
  isplitl [HΦ]; · iexact HΦ
  isplitl [Ho]; · iexact Ho
  isplitl [H0]; · iexact H0
  isplitl [H1]; · iexact H1
  isplitl [H2]; · iexact H2
  isplitl [H3]
  · rw [(dats m 0 c).leavesExact_idle 3 t hi.1 hi.2]; iexact H3
  iapply (leaves_live m c 4 t (live_h t))
  rw [after_h, grown_at]; iexact H4

theorem sound_end (c : Dev nD) (t : Fin cfg0.N) (h : ¬ t.val % 4 = 0) (h3 : t.val % 4 = 3) :
    bodyPre m c t ⊢ wp frame (wpE (defs₀ (F := F)) Variants.none c none) Set.univ (bodyAt0 t) (fun _ => bodyPost m c t) := by
  have e := grown_at m c t
  rw [h3] at e
  unfold bodyPre bodyPost bodyAt0
  simp only [before_u, before_w, before_g, before_h m c t h]
  rw [between_before, between_after, after_u, after_w, after_g, between_inside m c _ h, between_rest m c _ (by omega), h3]
  unfold Dat.owesAt Pipeline.owesWithin
  rw [show (dats m 0 c).owed t.castSucc = 0 from rfl, show (dats m 0 c).owed t.succ = 0 from rfl]
  unfold underWay atRest
  iintro ⟨⟨Hp, Hs, Hxr⟩, ⟨%W, -, Ho⟩, ⟨%d0, H0⟩, ⟨%d1, H1⟩, ⟨%d2, H2⟩, ⟨%d3, H3⟩, ⟨%d4, H4⟩⟩
  iapply (end_body c (grid0.coords t) (laterPoint t h) (endPoint t h3) _ _ _ _ _ _ _ _ _ _ _ _ _ _ (iblk m c 0 t) (iblk m c 1 t) (iblk m c 2 t)
    (grown m c (rowBlock t.val) 3) (block x2 (rowBlock t.val)) (V m c main_arg2) W _)
  isplitl [H0]; · iexact H0
  isplitl [H1]; · iexact H1
  isplitl [H2]; · iexact H2
  isplitl [H3]; · iexists _; iexact H3
  isplitl [H4]; · iexact H4
  isplitl [Hs]; · iexact Hs
  isplitl [Ho]; · iexact Ho
  iintro ⟨H0, H1, H2, H3, H4, HX, Hx, Hs, ⟨%W', Ho⟩⟩
  isplitl [Hp HX Hs Hx Hxr]
  · isplitl [Hp]; · iexact Hp
    isplitl [HX]; · iexact HX
    isplitl [Hs]; · iexact Hs
    iapply (rows_apart m c (rowBlock t.val)).2
    isplitl [Hx]; · iexact Hx
    iexact Hxr
  isplitl [Ho]
  · iexists W'; isplitr; · ipureintro; exact fun _ _ => Or.inl trivial
    iexact Ho
  isplitl [H0]; · iexact H0
  isplitl [H1]; · iexact H1
  isplitl [H2]; · iexact H2
  isplitl [H3]
  · iapply (leaves_live m c 3 t (live_end t h3))
    rw [after_x, e]; iexact H3
  iapply (leaves_live m c 4 t (live_h t))
  rw [after_h, h3, e]; iexact H4

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  by_cases h : t.val % 4 = 0
  · exact triple_restated (sound_start m c t h) rfl .rfl fun _ => .rfl
  by_cases h3 : t.val % 4 = 3
  · exact triple_restated (sound_end m c t h h3) rfl .rfl fun _ => .rfl
  · exact triple_restated (sound_middle m c t h h3) rfl .rfl fun _ => .rfl

/-! ## The run -/

/-- The cell of the copies, -/
abbrev cells : Fin 1 → SemLoc sig := fun _ => SemLoc.dma 9
theorem cells_own : Pipeline.OwnSemFacts spec0 cells := by decide
/-- and the array they read. -/
def sources : Finset (Ref sig .tc) := {main_arg2}
theorem sources_rest : sources ⊆ Pipeline.restRefs sig spec0 := by decide

theorem cells_eq (c : Dev nD) : (Pipeline.ownSems0 (Ix := Unit) (Name := ℕ) (U := Pipeline.UD sig nD τ) (Lvl := ℕ) (Val := Elt F) (τ := τ) cells c : sProp 𝕄)
    = semVal ((c : Thread nD τ), SemLoc.dma 9) 0 := by
  rw [Pipeline.ownSems0_eq_of_list c cells [0] (by decide) (by decide)]; rfl
theorem sources_eq (c : Dev nD) : (bigSep sources (fun b => ((c : Thread nD τ).loc b) ↦{fullShare} V m c b) : sProp 𝕄)
    = (x2.view.loc (c : Thread nD τ) ↦{fullShare} V m c main_arg2) := by
  rw [BI.bigSep_eq_bigSepL_of_eq [main_arg2] (by decide) (by decide)]; rfl

/-- What the run starts and ends with is what is held between two row blocks. -/
theorem at_rest (c : Dev nD) : (Pipeline.ΦD cells spec0 sources (V m) c : sProp 𝕄) ⊣⊢ iprop((∃ r, prngReg c r) ∗ atRest m c) := by
  rw [Pipeline.ΦD_eq, scopedRest0_eq, cells_eq, sources_eq]
  unfold atRest
  simp only [owns_whole]
  constructor
  · iintro ⟨H0, Hp, Hs, Hx⟩
    isplitl [Hp]; · iexact Hp
    isplitl [H0]; · iexact H0
    isplitl [Hs]; · iexact Hs
    iexact Hx
  · iintro ⟨Hp, H0, Hs, Hx⟩
    isplitl [H0]; · iexact H0
    isplitl [Hp]; · iexact Hp
    isplitl [Hs]; · iexact Hs
    iexact Hx

set_option backward.isDefEq.respectTransparency.types false in
set_option maxHeartbeats 800000 in
theorem run_quiescent : θ_run defs (onTc (τ := τ) (main (F := F))) (s₀ m ρ) (fun r =>
    (Pipeline.FramePost cfgs (dats m) 0 (V m)) r ∧ r.2.sem = fun _ => 0) :=
  Pipeline.θ_run_frame_dma (Q' := _) cfgs (dats m) (0 : Fin 1) launch0 cells defs₀ Variants.none cells_own sources sources_rest m ρ main
    (hbody := fun c => (body_obligation m c).loose) (hshare := fun c => (dats m 0 c).share_full fun _ => rfl)
    (howed := fun _ _ => rfl) (V := V m)
    (hmain := Pipeline.hmain_region cfgs 0 defs₀ Variants.none m main fun c => (main_chain c).trans rfl)
    (hA := A_eq m) (hin := fun c => (at_rest m c).1.trans (by show _ ⊢ between m c 0; rw [between_rest m c 0 rfl]))
    (hout := fun c => (show between m c cfg0.N ⊢ _ by rw [between_rest m c _ (by rw [show cfg0.N = 16 from N_0])]; exact (at_rest m c).2))

theorem run_main : θ_run defs (onTc (τ := τ) (main (F := F))) (s₀ m ρ) (Pipeline.FramePost cfgs (dats m) 0 (V m)) :=
  (θ_run defs _ _).mono (fun _ h => h.1) (run_quiescent m ρ)

end Cert.DownFwdIdeal.Streamed

end
-- ==== Proof.DownFwd.lean ====
/-
  The feed-forward network's second product and the residual sum after it. From `u` and the weight `w` the kernel forms
  `h2 = relu(u)² w`, in four parts that it adds up, keeps it as a result, and adds its normalised rows to the rows of `x2`.
-/
module

public import proofs.«01_k».proof.Defs
public import proofs.«01_k».proof.Proof.RmsFwd
public import proofs.«01_k».proof.Proof.DownFwdRun
public import proofs.«01_k».proof.Proof.Gen.DownFwd.Frame
public import proofs.«01_k».proof.Proof.Gen.DownFwdRefIdeal.Run
public import proofs.«01_k».proof.Proof.Gen.DownFwdRefIdeal.Read

@[expose] public section

set_option maxRecDepth 16384

noncomputable section

namespace Cert.DownFwdIdeal.Streamed

open Cert.DownFwdIdeal Cert.DownFwdIdeal.Gen
open Idealize.ShloMosaic Idealize.ShloMosaic.TcCoe Idealize.SL.Sem

/-! ## What the run leaves unchanged, whatever the numbers are -/

variable {F : FTy → Type} [FloatOps F] (m : (ℓ : Loc nD τ sig) → Buf (Elt F) ℓ)

/-- The arguments stay and every counter ends at zero. -/
theorem unchanged (ρ : Dev nD → PrngReg) : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c =>
    ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).2 main_arg2 (Pipeline.mem_restRefs_of main_arg2 (by decide) (by decide))).trans (V_main_arg2 m c),
      ((h.1 c).1 2).trans (((dats m 0 c).arrAt_in 2 rfl _).trans ((A_eq m c 2).trans (V_main_arg3 m c)))⟩, h.2⟩) (run_quiescent m ρ)

end Cert.DownFwdIdeal.Streamed

namespace Cert.DownFwdIdeal.Ker

open Cert.DownFwdIdeal Cert.DownFwdIdeal.Gen Cert.DownFwdIdeal.Streamed Cert.Products
open Idealize.ShloMosaic Idealize.ShloMosaic.TcCoe Idealize.SL.Sem Idealize.ShloMosaic.ValueIdx
open Idealize.ShloMosaic.Pipeline (Dat)

/-! ## What one point computes -/

/-- The squared relu of a value. -/
def relu2 (u : EReal) : EReal := max u (Ideal.ofBits .f32 0x00000000#32) * max u (Ideal.ofBits .f32 0x00000000#32)

/-- The block of the product starts at zero, -/
theorem pay1 (i : Fin 512) (j : Fin 2048) : (k0_pay1 (F := Ideal) : FVec Ideal S512x2048 .f32) (ix2 i j) = 0 := Ideal.ofBits_zero_f32

/-- and a point adds the product of its blocks. -/
theorem pay2 (h u : FVec Ideal S512x2048 .f32) (w : FVec Ideal S2048x2048 .bf16) (i : Fin 512) (j : Fin 2048) :
    (k0_pay2 (F := Ideal) h u w : FVec Ideal S512x2048 .f32) (ix2 i j) = h (ix2 i j) + ∑ k : Fin 2048, relu2 (u (ix2 i k)) * w (ix2 k j) := by
  unfold k0_pay2
  refine congrArg₂ (· + ·) (congrFun (shapeCast_self _ _) _) ((Ideal.matmul_plain_apply (prec := none) ..).trans ?_)
  show Ideal.ofBits .f32 0x00000000#32 + _ = _
  rw [Ideal.ofBits_zero_f32, zero_add]
  rfl

/-- The last point adds the normalised product to the copied rows. -/
theorem pay4 (h x : FVec Ideal S512x2048 .f32) (g : FVec Ideal S1x2048 .f32) :
    (k0_pay4 (F := Ideal) h x g : FVec Ideal S512x2048 .f32) = addf x (Rms.normed h g .f32) := by
  unfold k0_pay4
  rw [pay3]
  exact congrArg (addf x) (Rms.normed_kernel h g _ _ _ _ _ _)

/-! ## The arrays -/

variable (m : (ℓ : Loc nD τ sig) → Buf (Elt Ideal) ℓ) (c : Dev nD)

/-- The rows `u`, the weight, the residual and the gain. -/
abbrev argU : FVec Ideal S2048x8192 .f32 := m ((c : Thread nD τ).loc main_arg0)
abbrev argW : FVec Ideal S8192x2048 .bf16 := m ((c : Thread nD τ).loc main_arg1)
abbrev argX : FVec Ideal S2048x2048 .f32 := m ((c : Thread nD τ).loc main_arg2)
abbrev argG : FVec Ideal S1x2048 .f32 := m ((c : Thread nD τ).loc main_arg3)

/-- The two results: the sum and the product. -/
def prod (u : FVec Ideal S2048x8192 .f32) (w : FVec Ideal S8192x2048 .bf16) : FVec Ideal S2048x2048 .f32 :=
  fun y => ∑ k : Fin 8192, relu2 (u (ix2 (y 0) k)) * w (ix2 k (y 1))
def total (u : FVec Ideal S2048x8192 .f32) (w : FVec Ideal S8192x2048 .bf16) (x : FVec Ideal S2048x2048 .f32) (g : FVec Ideal S1x2048 .f32) :
    FVec Ideal S2048x2048 .f32 := addf x (Rms.normed (prod u w) g .f32)

/-- Where the windows lie at each point. -/
theorem places : ∀ t : Fin grid0.N, (win0_0.index t 0 = t.val / 4 ∧ win0_0.index t 1 = t.val % 4) ∧ (win0_1.index t 0 = t.val % 4 ∧ win0_1.index t 1 = 0)
    ∧ (win0_2.index t 0 = 0 ∧ win0_2.index t 1 = 0) ∧ (win0_3.index t 0 = t.val / 4 % 4 ∧ win0_3.index t 1 = 0)
    ∧ win0_4.index t 0 = t.val / 4 % 4 ∧ win0_4.index t 1 = 0 := by decide +kernel

/-- Row `r` of row block `i`, as a row of the whole, -/
abbrev rowOf (i : Fin 4) (r : Fin 512) : Fin 2048 := Rms.tileRow (n := 4) rfl i r
/-- and inner value `q` of the `k`-th block of them. -/
abbrev innerOf (k : Fin 4) (q : Fin 2048) : Fin 8192 := Rms.tileRow (n := 4) rfl k q

theorem block_u (i k : Fin 4) (r : Fin 512) (q : Fin 2048) :
    (iblk m c 0 (pointOf i k.val) : FVec Ideal S512x2048 .f32) (ix2 r q) = argU m c (ix2 (rowOf i r) (innerOf k q)) := by
  have hi := (places (pointOf i k.val)).1
  have hk := k.isLt
  unfold iblk
  rw [View.read_apply]
  refine (congrArg (V m c main_arg0) (?_ : _ = ix2 (rowOf i r) (innerOf k q))).trans (congrFun (V_main_arg0 m c) _)
  funext a
  apply Fin.ext
  match a with
  | ⟨0, _⟩ =>
    show win0_0.index (pointOf i k.val) 0 * 512 + 1 * r.val = 512 * i.val + r.val
    rw [hi.1]; show (4 * i.val + k.val % 4) / 4 * 512 + _ = _; omega
  | ⟨1, _⟩ =>
    show win0_0.index (pointOf i k.val) 1 * 2048 + 1 * q.val = 2048 * k.val + q.val
    rw [hi.2]; show (4 * i.val + k.val % 4) % 4 * 2048 + _ = _; omega

theorem block_w (i k : Fin 4) (q j : Fin 2048) :
    (iblk m c 1 (pointOf i k.val) : FVec Ideal S2048x2048 .bf16) (ix2 q j) = argW m c (ix2 (innerOf k q) j) := by
  have hi := (places (pointOf i k.val)).2.1
  have hk := k.isLt
  unfold iblk
  rw [View.read_apply]
  refine (congrArg (V m c main_arg1) (?_ : _ = ix2 (innerOf k q) j)).trans (congrFun (V_main_arg1 m c) _)
  funext a
  apply Fin.ext
  match a with
  | ⟨0, _⟩ =>
    show win0_1.index (pointOf i k.val) 0 * 2048 + 1 * q.val = 2048 * k.val + q.val
    rw [hi.1]; show (4 * i.val + k.val % 4) % 4 * 2048 + _ = _; omega
  | ⟨1, _⟩ => show win0_1.index (pointOf i k.val) 1 * 2048 + 1 * j.val = j.val; rw [hi.2]; omega

theorem block_g (t : Fin cfg0.N) : (iblk m c 2 t : FVec Ideal S1x2048 .f32) = argG m c := by
  have hi := (places t).2.2.1
  funext y
  unfold iblk
  rw [View.read_apply]
  refine (congrArg (V m c main_arg3) (?_ : _ = y)).trans (congrFun (V_main_arg3 m c) _)
  funext a
  apply Fin.ext
  match a with
  | ⟨0, _⟩ => show win0_2.index t 0 * 1 + 1 * (y 0).val = (y 0).val; rw [hi.1]; omega
  | ⟨1, _⟩ => show win0_2.index t 1 * 2048 + 1 * (y 1).val = (y 1).val; rw [hi.2]; omega

/-- The copied rows are rows of their array. -/
theorem copied (i : Fin 4) (r : Fin 512) (k : Fin 2048) : (xRows m c i : FVec Ideal S512x2048 .f32) (ix2 r k) = argX m c (ix2 (rowOf i r) k) := by
  unfold xRows block
  rw [View.read_apply]
  refine congrArg (argX m c) (?_ : _ = ix2 (rowOf i r) k)
  funext a
  apply Fin.ext
  match a with
  | ⟨0, _⟩ => show 512 * i.val + 1 * r.val = 512 * i.val + r.val; omega
  | ⟨1, _⟩ => show 0 + 1 * k.val = k.val; omega

/-- The four parts of a row block add up to its rows of the whole product. -/
theorem grown_prod (i : Fin 4) (r : Fin 512) (j : Fin 2048) :
    (grown m c i 4 : FVec Ideal S512x2048 .f32) (ix2 r j) = prod (argU m c) (argW m c) (ix2 (rowOf i r) j) := by
  have step : ∀ k : Fin 4, (grown m c i (k.val + 1) : FVec Ideal S512x2048 .f32) (ix2 r j) = (grown m c i k.val : FVec Ideal S512x2048 .f32) (ix2 r j)
      + ∑ q : Fin 2048, relu2 (argU m c (ix2 (rowOf i r) (innerOf k q))) * argW m c (ix2 (innerOf k q) j) := fun k => by
    refine (pay2 (grown m c i k.val) (iblk m c 0 (pointOf i k.val)) (iblk m c 1 (pointOf i k.val)) r j).trans ?_
    exact congrArg (_ + ·) (Finset.sum_congr rfl fun q _ => congrArg₂ (· * ·) (congrArg relu2 (block_u m c i k r q)) (block_w m c i k q j))
  have start : (grown m c i 0 : FVec Ideal S512x2048 .f32) (ix2 r j) = 0 := pay1 r j
  have all := Rms.sum_tiles (n := 4) (b := 2048) rfl fun k : Fin 8192 => relu2 (argU m c (ix2 (rowOf i r) k)) * argW m c (ix2 k j)
  rw [Fin.sum_univ_four] at all
  refine (step 3).trans (Eq.trans ?_ all)
  refine congrArg (· + _) ((step 2).trans (congrArg (· + _) ((step 1).trans (congrArg (· + _) ((step 0).trans ?_)))))
  exact (congrArg (· + _) start).trans (zero_add _)

theorem rows (i : Fin 4) (r : Fin 512) : Rms.row (grown m c i 4 : FVec Ideal S512x2048 .f32) r = Rms.row (prod (argU m c) (argW m c)) (rowOf i r) :=
  funext fun k => grown_prod m c i r k

/-- The sum after the run. -/
theorem final3 : (dats m 0 c).arrAt 3 cfg0.N = total (argU m c) (argW m c) (argX m c) (argG m c) := by
  refine (dats m 0 c).arrAt_eq_of_cover 3 (total (argU m c) (argW m c) (argX m c) (argG m c)) (fun t _ => ?_) fun i => ?_
  · have hi := (places t).2.2.2.1
    show (cfg0.win 3).cut (grid0.coords t) ((dats m 0 c).after 3 t) = _
    rw [after_x, pay4, block_g]
    funext j
    rw [View.read_apply]
    obtain ⟨i, k, rfl⟩ : ∃ (i : Fin 512) (k : Fin 2048), j = ix2 i k := ⟨j 0, j 1, eq_ix2 (n0 := 512) (n1 := 2048) j⟩
    refine Eq.trans (congrArg₂ (· + ·) (copied m c _ i k) (Rms.normed_row _ _ _ (rows m c _ i) k)) (congrArg (total (argU m c) (argW m c) (argX m c) (argG m c)) (funext fun a => Fin.ext ?_))
    match a with
    | ⟨0, _⟩ => show 512 * (t.val / 4 % 4) + i.val = win0_3.index t 0 * 512 + 1 * i.val; rw [hi.1]; omega
    | ⟨1, _⟩ => show k.val = win0_3.index t 1 * 2048 + 1 * k.val; rw [hi.2]; omega
  · have hN : cfg0.N = 16 := N_0
    have hb : (i 0).val < 2048 := (i 0).isLt
    have hb1 : (i 1).val < 2048 := (i 1).isLt
    obtain ⟨t, ht⟩ : ∃ t : Fin cfg0.N, t.val = (i 0).val / 512 * 4 + 3 := ⟨⟨(i 0).val / 512 * 4 + 3, by omega⟩, rfl⟩
    have hi := (places t).2.2.2.1
    refine ⟨t, (flush0_3 t).2 (by omega), ?_⟩
    show i ∈ ((View.whole main_v0_0).slice (win0_3.rect t)).set
    rw [View.set_slice_whole, Rect.mem_set_unit]
    intro a
    match a with
    | ⟨0, _⟩ => show win0_3.index t 0 * 512 ≤ (i 0).val ∧ (i 0).val < win0_3.index t 0 * 512 + 512; rw [hi.1]; omega
    | ⟨1, _⟩ => show win0_3.index t 1 * 2048 ≤ (i 1).val ∧ (i 1).val < win0_3.index t 1 * 2048 + 2048; rw [hi.2]; omega

/-- The product after the run. -/
theorem final4 : (dats m 0 c).arrAt 4 cfg0.N = prod (argU m c) (argW m c) := by
  refine (dats m 0 c).arrAt_eq_of_cover 4 (prod (argU m c) (argW m c)) (fun t hf => ?_) fun i => ?_
  · have hi := (places t).2.2.2.2
    have h3 : t.val % 4 = 3 := (flush0_4 t).1 hf
    show (cfg0.win 4).cut (grid0.coords t) ((dats m 0 c).after 4 t) = _
    rw [after_h, h3]
    funext j
    rw [View.read_apply]
    obtain ⟨i, k, rfl⟩ : ∃ (i : Fin 512) (k : Fin 2048), j = ix2 i k := ⟨j 0, j 1, eq_ix2 (n0 := 512) (n1 := 2048) j⟩
    refine Eq.trans (grown_prod m c _ i k) (congrArg (prod (argU m c) (argW m c)) (funext fun a => Fin.ext ?_))
    match a with
    | ⟨0, _⟩ => show 512 * (t.val / 4 % 4) + i.val = win0_4.index t 0 * 512 + 1 * i.val; rw [hi.1]; omega
    | ⟨1, _⟩ => show k.val = win0_4.index t 1 * 2048 + 1 * k.val; rw [hi.2]; omega
  · have hN : cfg0.N = 16 := N_0
    have hb : (i 0).val < 2048 := (i 0).isLt
    have hb1 : (i 1).val < 2048 := (i 1).isLt
    obtain ⟨t, ht⟩ : ∃ t : Fin cfg0.N, t.val = (i 0).val / 512 * 4 + 3 := ⟨⟨(i 0).val / 512 * 4 + 3, by omega⟩, rfl⟩
    have hi := (places t).2.2.2.2
    refine ⟨t, (flush0_4 t).2 (by omega), ?_⟩
    show i ∈ ((View.whole main_v0_1).slice (win0_4.rect t)).set
    rw [View.set_slice_whole, Rect.mem_set_unit]
    intro a
    match a with
    | ⟨0, _⟩ => show win0_4.index t 0 * 512 ≤ (i 0).val ∧ (i 0).val < win0_4.index t 0 * 512 + 512; rw [hi.1]; omega
    | ⟨1, _⟩ => show win0_4.index t 1 * 2048 ≤ (i 1).val ∧ (i 1).val < win0_4.index t 1 * 2048 + 2048; rw [hi.2]; omega

/-- What the run leaves in the results, and that the arguments stay. -/
theorem values (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = total (argU m c) (argW m c) (argX m c) (argG m c)
    ∧ r.2.mem ((c.tc : Thread nD τ).loc main_v0_1) = prod (argU m c) (argW m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨((h.1 c).1 3).trans (final3 m c), ((h.1 c).1 4).trans (final4 m c), h.2.1 c⟩)
    (θ_run_and (run_main m ρ) (unchanged m ρ))

end Cert.DownFwdIdeal.Ker

namespace Cert.DownFwdClaim

open Idealize.ShloMosaic Idealize.ShloMosaic.TcCoe Idealize.SL.Sem Idealize.ShloMosaic.ValueIdx Cert.Products
open Cert.DownFwdRefIdeal Cert.DownFwdRefIdeal.Gen Cert.DownFwdRefIdeal.Read
open Cert.DownFwdIdeal.Ker (argU argW argX argG relu2 prod total)

section Reference
variable (u : FVec Ideal S2048x8192 .f32) (w : FVec Ideal S8192x2048 .bf16) (x : FVec Ideal S2048x2048 .f32) (g : FVec Ideal S1x2048 .f32)

theorem reference_relu2 (i : Fin 2048) (k : Fin 8192) : (val_main_v1 (F := Ideal) u : FVec Ideal S2048x8192 .f32) (ix2 i k) = relu2 (u (ix2 i k)) := by
  have h : (val_main_v0 (F := Ideal) u : FVec Ideal S2048x8192 .f32) (ix2 i k) = max (u (ix2 i k)) (Ideal.ofBits .f32 0x00000000#32) := by
    rw [val_main_v0_apply, val_main_call0_v0_apply, val_main_call0_cst_apply]
    rfl
  exact congrArg₂ (· * ·) h h

theorem reference_prod : val_main_v3 (F := Ideal) u w = prod u w := by
  funext z
  obtain ⟨i, j, rfl⟩ : ∃ (i : Fin 2048) (j : Fin 2048), z = ix2 i j := ⟨z 0, z 1, eq_ix2 (n0 := 2048) (n1 := 2048) z⟩
  refine (val_main_v3_apply u w (ix2 i j)).trans ?_
  show _ = ∑ k : Fin 8192, relu2 (u (ix2 i k)) * w (ix2 k j)
  exact Finset.sum_congr rfl fun k _ => congrArg₂ (· * ·)
    ((congrArg (val_main_v1 (F := Ideal) u) (ix2_ext i k rfl rfl)).trans (reference_relu2 u i k)) (congrArg w (ix2_ext k j rfl rfl))

theorem reference_total : val_main_v16 (F := Ideal) u w x g = total u w x g := by
  refine congrArg (addf x) ((Rms.normed_host (val_main_v3 (F := Ideal) u w) g _
    (Rms.meanSq_host _ reducesTo_S2048x2048_S2048_d1 (by decide) h_S_ bcast_S2048_S2048x1_0 bcast_S_S2048x1)
    bcast_S2048x1_S2048x2048_0_1 bcast_S1x2048_S2048x2048_0_1).trans ?_)
  rw [reference_prod]

end Reference

/-- The kernel and its idealization have one table of bodies. -/
theorem same_defs : Cert.DownFwdIdeal.defs (F := Bits) = Cert.DownFwd.defs (F := Bits) := by
  refine congrArg (Pipeline.defs _) (congrArg Defs.onTc (funext fun l => funext fun a => ?_))
  match l, a with
  | 0, (t, s) => rfl

/-- The kernel's frame. -/
theorem frame_p : Cert.quiescent_DownFwd := fun m ρ _ => by
  have h := Cert.DownFwdIdeal.Streamed.unchanged (F := Bits) m ρ
  rw [same_defs] at h
  exact h
/-- The idealization's frame. -/
theorem frame_pi : Cert.quiescent_DownFwdIdeal := fun m ρ _ => Cert.DownFwdIdeal.Streamed.unchanged (F := Ideal) m ρ
/-- The reference's frame. -/
theorem frame_ri : Cert.quiescent_DownFwdRefIdeal := fun m ρ _ =>
  (θ_run Cert.DownFwdRefIdeal.defs _ _).mono (fun r h => ⟨fun c => (h c).2.2, sem_eq_zero_of_no_sems (by decide) r.2⟩)
    (Cert.DownFwdRefIdeal.Value.run (F := Ideal) m ρ)

/-- The idealization's sum and product are the reference's. -/
theorem algebraic : Cert.algebraic_DownFwdIdeal_DownFwdRefIdeal := by
  intro m ρ m' ρ' _ hagree
  refine ⟨fun c => total (argU m c) (argW m c) (argX m c) (argG m c), fun c => prod (argU m c) (argW m c), Cert.DownFwdIdeal.Ker.values m ρ, ?_⟩
  refine (θ_run Cert.DownFwdRefIdeal.defs _ _).mono (fun r h c => ?_) (Cert.DownFwdRefIdeal.Value.run (F := Ideal) m' ρ')
  obtain ⟨e0, e1, e2, e3⟩ := hagree c
  refine ⟨(h c).1.trans ((val_main_v16_eq ..).trans ?_), (h c).2.1.trans ((val_main_v3_eq ..).trans ?_), (h c).2.2⟩
  · rw [e0, e1, e2, e3]; exact reference_total _ _ _ _
  · rw [e0, e1]; exact reference_prod _ _

end Cert.DownFwdClaim

end
-- ==== Proof.Gmlp.lean ====
/- The spatial gate of the gated perceptron on the ideal numbers: the activation, a row's layer normalisation, the
   lower-triangular mixing of a chunk's rows, and how kernels on `M` rows compute the first two. -/
module

public import proofs.«01_k».proof.Proof.RmsBwd

@[expose] public section

set_option maxRecDepth 16384

noncomputable section

namespace Cert.Gmlp

open Cert.Products Idealize.ShloMosaic Idealize.ShloMosaic.ValueIdx

/-- The activation: a Gaussian error linear unit in its hyperbolic-tangent form. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * x * x)))))

/-- A row's mean. -/
def mean (v : Fin 128 → EReal) : EReal := Ideal.div (∑ d, v d) (Ideal.ofBits .f32 0x43000000#32)

/-- The reciprocal root of a row's variance. -/
def rinv (v : Fin 128 → EReal) : EReal :=
  Ideal.rsqrt (mean (fun d => (v d - mean v) * (v d - mean v)) + Ideal.ofBits .f32 0x3727C5AC#32)

/-- A row normalised to mean zero and variance one, -/
def unit (v : Fin 128 → EReal) (d : Fin 128) : EReal := (v d - mean v) * rinv v
/-- and that times a gain. -/
def norm (v g : Fin 128 → EReal) (d : Fin 128) : EReal := unit v d * g d

/-- The lower triangle: row `t` mixes the rows up to its own. -/
def mask (t s : Fin 128) : EReal := if s.val ≤ t.val then 1 else 0

/-- A feature of a gated row `t`: the row's own activation times the mixed normalised activations of its chunk. -/
def gate (zu : EReal) (zv : Fin 128 → Fin 128 → EReal) (g w : Fin 128 → EReal) (b : EReal) (t d : Fin 128) : EReal :=
  gelu zu * (∑ s, w s * mask t s * norm (fun e => gelu (zv s e)) g d + b)

/-- Equal operands are gated alike. -/
theorem gate_congr {zu zu' : EReal} {zv zv' : Fin 128 → Fin 128 → EReal} {g g' w w' : Fin 128 → EReal} {b b' : EReal} (hu : zu = zu')
    (hv : ∀ s e, zv s e = zv' s e) (hg : ∀ e, g e = g' e) (hw : ∀ s, w s = w' s) (hb : b = b') (t d : Fin 128) :
    gate zu zv g w b t d = gate zu' zv' g' w' b' t d := by
  rw [hu, funext fun s => funext (hv s), funext hg, funext hw, hb]

/-- The mask as the kernels make it, the comparison of the two coordinates as a number, -/
theorem mask_kernel (t s : Fin 128) :
    ((((IntOp.cmpi .sle (BitVec.ofNat 32 s.val) (BitVec.ofNat 32 t.val)).setWidth 32).toInt : ℝ) : EReal) = mask t s := by
  have h : ((IntOp.cmpi .sle (BitVec.ofNat 32 s.val) (BitVec.ofNat 32 t.val)).setWidth 32).toInt = if s.val ≤ t.val then 1 else 0 := by
    revert t s
    decide +kernel
  rw [h]
  unfold mask
  split <;> simp

/-- and as the host does, a choice between one and zero. -/
theorem mask_host (t s : Fin 128) (o z : EReal) (ho : o = 1) (hz : z = 0) :
    Scalar.select (IntOp.cmpi .sge (IntOp.addi (BitVec.ofNat 32 t.val) 0#32) (BitVec.ofNat 32 s.val)) o z = mask t s := by
  have h : IntOp.cmpi .sge (IntOp.addi (BitVec.ofNat 32 t.val) 0#32) (BitVec.ofNat 32 s.val) = if s.val ≤ t.val then 1#1 else 0#1 := by
    revert t s
    decide +kernel
  rw [h, ho, hz]
  unfold mask
  split <;> rfl

/-- Row `t` of chunk `q` of the whole, -/
def rowAt (q : Fin 16) (t : Fin 128) : Fin 2048 := ⟨128 * q.val + t.val, by have := q.isLt; have := t.isLt; omega⟩
/-- and the columns of head `h`: of the gate, -/
def colU (h : Fin 8) (d : Fin 128) : Fin 3584 := ⟨128 * h.val + d.val, by have := h.isLt; have := d.isLt; omega⟩
/-- of the gated, -/
def colV (h : Fin 8) (d : Fin 128) : Fin 3584 := ⟨1024 + (128 * h.val + d.val), by have := h.isLt; have := d.isLt; omega⟩
/-- and of the result. -/
def colH (h : Fin 8) (d : Fin 128) : Fin 1024 := ⟨128 * h.val + d.val, by have := h.isLt; have := d.isLt; omega⟩

theorem exists_row (r : Fin 2048) : ∃ q t, rowAt q t = r :=
  ⟨⟨r.val / 128, by have := r.isLt; omega⟩, ⟨r.val % 128, Nat.mod_lt _ (by decide)⟩, Fin.ext (by show 128 * (r.val / 128) + r.val % 128 = r.val; omega)⟩
theorem exists_col (r : Fin 1024) : ∃ h d, colH h d = r :=
  ⟨⟨r.val / 128, by have := r.isLt; omega⟩, ⟨r.val % 128, Nat.mod_lt _ (by decide)⟩, Fin.ext (by show 128 * (r.val / 128) + r.val % 128 = r.val; omega)⟩

section Whole
variable (z : FVec Ideal ⟨2, ![2048, 3584]⟩ .f32) (g : FVec Ideal ⟨2, ![8, 128]⟩ .f32) (w : FVec Ideal ⟨3, ![8, 128, 128]⟩ .f32)
  (b : FVec Ideal ⟨2, ![8, 128]⟩ .f32)

/-- The gate of the whole: chunk `q`, row `t`, head `h`, feature `d`. -/
def gated (q : Fin 16) (t : Fin 128) (h : Fin 8) (d : Fin 128) : EReal :=
  gate (z (ix2 (rowAt q t) (colU h d))) (fun s e => z (ix2 (rowAt q s) (colV h e))) (fun e => g (ix2 h e)) (fun s => w (ix3 h t s))
    (b (ix2 h t)) t d

/-- The same as an array with at least the result's columns. -/
def out {N : ℕ} (φ : FTy) : FVec Ideal ⟨2, ![2048, N]⟩ φ := fun y =>
  gated z g w b ⟨(y 0).val / 128, by have h : (y 0).val < 2048 := (y 0).isLt; omega⟩ ⟨(y 0).val % 128, Nat.mod_lt _ (by decide)⟩
    ⟨(y 1).val / 128 % 8, Nat.mod_lt _ (by decide)⟩ ⟨(y 1).val % 128, Nat.mod_lt _ (by decide)⟩

theorem out_at {N : ℕ} (φ : FTy) (y : (⟨2, ![2048, N]⟩ : Shape).Idx) (q : Fin 16) (t : Fin 128) (h : Fin 8) (d : Fin 128)
    (h0 : (y 0).val = 128 * q.val + t.val) (h1 : (y 1).val = 128 * h.val + d.val) : out z g w b φ y = gated z g w b q t h d := by
  have := t.isLt
  have := d.isLt
  have := h.isLt
  unfold out
  congr 1 <;> apply Fin.ext
  · show (y 0).val / 128 = q.val; omega
  · show (y 0).val % 128 = t.val; omega
  · show (y 1).val / 128 % 8 = h.val; omega
  · show (y 1).val % 128 = d.val; omega

end Whole

variable {M : ℕ}

/-- A row of the gain repeated down a rectangle. -/
theorem gainRow (g : FVec Ideal ⟨2, ![1, 128]⟩ .f32) (h : Shape.Broadcasts ⟨2, ![1, 128]⟩ ⟨2, ![M, 128]⟩) (i : Fin M)
    (d : Fin 128) : broadcastTo ⟨2, ![M, 128]⟩ g h (ix2 i d) = g (ix2 0 d) :=
  broadcastTo_apply _ h (ix2 i d) (ix2 0 d) fun a => by
    match a with
    | ⟨0, _⟩ => rfl
    | ⟨1, _⟩ => rfl

/-- Rows less their means, as kernels compute them. -/
def centred (y : FVec Ideal ⟨2, ![M, 128]⟩ .f32) (h : Shape.Reduces ⟨2, ![M, 128]⟩ [1] ⟨1, ![M]⟩) (hφ : FKind.Formats .f32)
    (hacc : 0x00000000#32 = FKind.add.neutral .f32 hφ) (hc : Shape.ShapeCasts ⟨1, ![M]⟩ ⟨2, ![M, 1]⟩)
    (hb : Shape.Broadcasts ⟨2, ![M, 1]⟩ ⟨2, ![M, 128]⟩) : FVec Ideal ⟨2, ![M, 128]⟩ .f32 :=
  subf y (broadcastTo ⟨2, ![M, 128]⟩ (divf (shapeCast ⟨2, ![M, 1]⟩ (multiReduction .add [1] ⟨1, ![M]⟩ y 0x00000000#32 h hφ hacc) hc)
    (broadcast ⟨2, ![M, 1]⟩ (Scalar.ofBits (F := Ideal) .f32 0x43000000#32))) hb)

section Kernel
variable (y : FVec Ideal ⟨2, ![M, 128]⟩ .f32) (h : Shape.Reduces ⟨2, ![M, 128]⟩ [1] ⟨1, ![M]⟩) (hφ : FKind.Formats .f32)
  (hacc : 0x00000000#32 = FKind.add.neutral .f32 hφ) (hc : Shape.ShapeCasts ⟨1, ![M]⟩ ⟨2, ![M, 1]⟩)
  (hb : Shape.Broadcasts ⟨2, ![M, 1]⟩ ⟨2, ![M, 128]⟩)

/-- A column of the rows' means. -/
theorem mean_kernel (x : FVec Ideal ⟨2, ![M, 128]⟩ .f32) (i : Fin M) :
    divf (shapeCast ⟨2, ![M, 1]⟩ (multiReduction .add [1] ⟨1, ![M]⟩ x 0x00000000#32 h hφ hacc) hc)
      (broadcast ⟨2, ![M, 1]⟩ (Scalar.ofBits (F := Ideal) .f32 0x43000000#32)) (ix2 i 0) = mean fun d => x (ix2 i d) := by
  refine congrArg (Ideal.div · _) ((shapeCast_apply _ hc (ix2 i 0) (ix1 i) ?_).trans (rowSum x _ h hφ hacc i))
  rw [Shape.rowMajor_val_one, Shape.rowMajor_val_two]
  show i.val = i.val * 1 + 0
  omega

theorem centred_at (i : Fin M) (d : Fin 128) : centred y h hφ hacc hc hb (ix2 i d) = y (ix2 i d) - mean fun e => y (ix2 i e) :=
  congrArg (y (ix2 i d) - ·) ((Rms.column _ hb i d).trans (mean_kernel h hφ hacc hc y i))

/-- The rows' normalisation as kernels compute it, -/
theorem unit_kernel (i : Fin M) (d : Fin 128) :
    mulf (centred y h hφ hacc hc hb) (broadcastTo ⟨2, ![M, 128]⟩ (rsqrt (addf (divf (shapeCast ⟨2, ![M, 1]⟩
        (multiReduction .add [1] ⟨1, ![M]⟩ (mulf (centred y h hφ hacc hc hb) (centred y h hφ hacc hc hb)) 0x00000000#32 h hφ hacc) hc)
        (broadcast ⟨2, ![M, 1]⟩ (Scalar.ofBits (F := Ideal) .f32 0x43000000#32)))
        (broadcast ⟨2, ![M, 1]⟩ (Scalar.ofBits (F := Ideal) .f32 0x3727C5AC#32)))) hb) (ix2 i d) = unit (fun e => y (ix2 i e)) d := by
  refine congrArg₂ (· * ·) (centred_at y h hφ hacc hc hb i d) ?_
  refine (Rms.column _ hb i d).trans (congrArg (fun v => Ideal.rsqrt (v + _)) ((mean_kernel h hφ hacc hc _ i).trans ?_))
  refine congrArg mean (funext fun e => ?_)
  exact congrArg₂ (· * ·) (centred_at y h hφ hacc hc hb i e) (centred_at y h hφ hacc hc hb i e)

/-- and times the gain. -/
theorem norm_kernel (g : FVec Ideal ⟨2, ![1, 128]⟩ .f32) (hg : Shape.Broadcasts ⟨2, ![1, 128]⟩ ⟨2, ![M, 128]⟩) (i : Fin M) (d : Fin 128) :
    mulf (mulf (centred y h hφ hacc hc hb) (broadcastTo ⟨2, ![M, 128]⟩ (rsqrt (addf (divf (shapeCast ⟨2, ![M, 1]⟩
        (multiReduction .add [1] ⟨1, ![M]⟩ (mulf (centred y h hφ hacc hc hb) (centred y h hφ hacc hc hb)) 0x00000000#32 h hφ hacc) hc)
        (broadcast ⟨2, ![M, 1]⟩ (Scalar.ofBits (F := Ideal) .f32 0x43000000#32)))
        (broadcast ⟨2, ![M, 1]⟩ (Scalar.ofBits (F := Ideal) .f32 0x3727C5AC#32)))) hb)) (broadcastTo ⟨2, ![M, 128]⟩ g hg) (ix2 i d)
      = norm (fun e => y (ix2 i e)) (fun e => g (ix2 0 e)) d :=
  congrArg₂ (· * ·) (unit_kernel y h hφ hacc hc hb i d) (gainRow g hg i d)

end Kernel

end Cert.Gmlp

end
-- ==== Proof.GmlpFwd.lean ====
/- The gate's forward call: what a head's tile stores, the block a point leaves, and the array after the run. -/
module

public import proofs.«01_k».proof.Proof.Gen.GmlpFwdIdeal.Frame
public import proofs.«01_k».proof.Proof.Gmlp
public import Idealize.ShloMosaic.Lib.Pipeline.ValueKit
public import Idealize.ShloMosaic.Lib.Pipeline.ValueKit.Partial

@[expose] public section

set_option maxRecDepth 65536

noncomputable section

namespace Cert.GmlpFwdIdeal.Ker

open Cert.GmlpFwdIdeal Cert.GmlpFwdIdeal.Gen Cert.Gmlp Cert.Products
open Idealize.ShloMosaic hiding ix2 ix3 ix4 eq_ix2
open Idealize.ShloMosaic.TcCoe Idealize.SL.Sem Idealize.ShloMosaic.Tactic Idealize.ShloMosaic.ValueIdx

section Stores
variable {F : FTy → Type} [FloatOps F]

/-! The parts of the blocks that belong to a head, and to a chunk of rows, lie inside them. -/

theorem inb_cols : ∀ (h : Fin 8), ∀ a, (![0, 128 * h.val] : Fin 2 → ℕ) a + (![1024, 128] : Fin 2 → ℕ) a ≤ S1024x1024.size a := by decide +kernel
theorem inb_gain : ∀ (h : Fin 8), ∀ a, (![h.val, 0] : Fin 2 → ℕ) a + (![1, 128] : Fin 2 → ℕ) a ≤ S8x128.size a := by decide +kernel
theorem inb_mix : ∀ (h : Fin 8), ∀ a, (![h.val, 0, 0] : Fin 3 → ℕ) a + (![1, 128, 128] : Fin 3 → ℕ) a ≤ S8x128x128.size a := by decide +kernel
theorem inb_bias : ∀ (h : Fin 8), ∀ a, (![0, h.val] : Fin 2 → ℕ) a + (![128, 1] : Fin 2 → ℕ) a ≤ S128x8.size a := by decide +kernel
theorem inb_out : ∀ (h k : Fin 8), ∀ a, (![128 * k.val, 128 * h.val] : Fin 2 → ℕ) a + (![128, 128] : Fin 2 → ℕ) a ≤ S1024x1024.size a := by decide +kernel
theorem slices_at (k : Fin 8) : S1024x128.Slices ![128 * k.val, 0] S128x128 := by
  match k with
  | 0 => exact slices_S1024x128_o0_0_S128x128
  | 1 => exact slices_S1024x128_o128_0_S128x128
  | 2 => exact slices_S1024x128_o256_0_S128x128
  | 3 => exact slices_S1024x128_o384_0_S128x128
  | 4 => exact slices_S1024x128_o512_0_S128x128
  | 5 => exact slices_S1024x128_o640_0_S128x128
  | 6 => exact slices_S1024x128_o768_0_S128x128
  | 7 => exact slices_S1024x128_o896_0_S128x128

/-- Chunk `k` of a head's gated rows. -/
def tileOut (zu zv : Vec F S1024x128 .f32) (g : Vec F S1x128 .f32) (w : Vec F S1x128x128 .f32) (b : Vec F S128x1 .f32) (k : Fin 8) : FVec F S128x128 .bf16 :=
  truncf .bf16 (mulf (extractStridedSlice (s := S1024x128) S128x128 ![128 * k.val, 0] (k0_pay2 zu) (slices_at k))
    (addf (matmul dot_S128x128_S128x128_S128x128_1_0_0_1_n_n none (k0_pay5 k0_pay1 w)
        (extractStridedSlice (s := S1024x128) S128x128 ![128 * k.val, 0] (k0_pay6 g (k0_pay3 zv) (k0_pay4 zv)) (slices_at k)) (constant S128x128 .f32 0x00000000#32))
      (broadcastTo S128x128 (shapeCast S128x1 b shapeCasts_S128x1_S128x1) broadcasts_S128x1_S128x128))) bitsLt_bf16_f32

variable (c : Dev nD) (i : grid0.Coords) (arg1 : Memref sig .tc .vmem S1024x1024 .f32) (harg1 : arg1.IsWhole) (arg2 : Memref sig .tc .vmem S1024x1024 .f32) (harg2 : arg2.IsWhole) (arg3 : Memref sig .tc .vmem S8x128 .f32) (harg3 : arg3.IsWhole) (arg4 : Memref sig .tc .vmem S8x128x128 .f32) (harg4 : arg4.IsWhole) (arg5 : Memref sig .tc .vmem S128x8 .f32) (harg5 : arg5.IsWhole) (arg6 : Memref sig .tc .vmem S1024x1024 .bf16) (harg6 : arg6.IsWhole)
    (x0 : Vec F S1024x1024 .f32) (x1 : Vec F S1024x1024 .f32) (x2 : Vec F S8x128 .f32) (x3 : Vec F S8x128x128 .f32) (x4 : Vec F S128x8 .f32)

/-- The store of chunk `k` of head `h`. -/
def piece (h k : Fin 8) : View.Piece (Elt F) S1024x1024 .bf16 :=
  ⟨Rect.unit (s := S1024x1024) ![128 * k.val, 128 * h.val] ![128, 128] (inb_out h k),
    tileOut (View.readAt (Elt F) arg1.view (Rect.unit (s := S1024x1024) ![0, 128 * h.val] ![1024, 128] (inb_cols h)).toLoadRect (harg1.unread x0))
      (View.readAt (Elt F) arg2.view (Rect.unit (s := S1024x1024) ![0, 128 * h.val] ![1024, 128] (inb_cols h)).toLoadRect (harg2.unread x1))
      (View.readAt (Elt F) arg3.view (Rect.unit (s := S8x128) ![h.val, 0] ![1, 128] (inb_gain h)).toLoadRect (harg3.unread x2))
      (View.readAt (Elt F) arg4.view (Rect.unit (s := S8x128x128) ![h.val, 0, 0] ![1, 128, 128] (inb_mix h)).toLoadRect (harg4.unread x3))
      (View.readAt (Elt F) arg5.view (Rect.unit (s := S128x8) ![0, h.val] ![128, 1] (inb_bias h)).toLoadRect (harg5.unread x4)) k⟩

/-- The latest first. -/
def downTo : List (Fin 8) := [7, 6, 5, 4, 3, 2, 1, 0]

/-- The block is stored head by head and chunk by chunk. -/
theorem pieces : (kernelRun0_A c i arg1 harg1 arg2 harg2 arg3 harg3 arg4 harg4 arg5 harg5 arg6 harg6 x0 x1 x2 x3 x4).1
   = downTo.flatMap fun h => downTo.map fun k => piece arg1 harg1 arg2 harg2 arg3 harg3 arg4 harg4 arg5 harg5 x0 x1 x2 x3 x4 h k := by
  sl_kernel_rfl

end Stores

variable (zu zv : FVec Ideal S1024x128 .f32) (g : FVec Ideal S1x128 .f32) (w : FVec Ideal S1x128x128 .f32) (b : FVec Ideal S128x1 .f32)

/-- Row `i` of chunk `k`. -/
def rowIn (k : Fin 8) (i : Fin 128) : Fin 1024 := ⟨128 * k.val + i.val, by have := k.isLt; have := i.isLt; omega⟩

theorem slice_at {φ : FTy} (x : FVec Ideal S1024x128 φ) (k : Fin 8) (i d : Fin 128) :
    extractStridedSlice (s := S1024x128) S128x128 ![128 * k.val, 0] x (slices_at k) (ix2 i d) = x (ix2 (rowIn k i) d) :=
  extractStridedSlice_apply _ x (slices_at k) (ix2 i d) (ix2 (rowIn k i) d) fun a => by
    match a with
    | ⟨0, _⟩ => rfl
    | ⟨1, _⟩ => show d.val = 0 + d.val; omega

/-- The normalised activations. -/
theorem norm_at (i : Fin 1024) (d : Fin 128) :
    (k0_pay6 (F := Ideal) g (k0_pay3 (F := Ideal) zv) (k0_pay4 (F := Ideal) zv) : FVec Ideal S1024x128 .bf16) (ix2 i d) = norm (fun e => gelu (zv (ix2 i e))) (fun e => g (ix2 0 e)) d :=
  norm_kernel (fun y => gelu (zv y)) reduces_S1024x128_S1024 (.inl rfl) rfl shapeCasts_S1024_S1024x1 broadcasts_S1024x1_S1024x128 g
    broadcasts_S1x128_S1024x128 i d

/-- The masked mixing weights. -/
theorem mix_at (t s : Fin 128) : (k0_pay5 (F := Ideal) (k0_pay1 (F := Ideal)) w : FVec Ideal S128x128 .bf16) (ix2 t s) = w (ix3 0 t s) * mask t s := by
  have hm : (k0_pay1 (F := Ideal) : FVec Ideal S128x128 .f32) (ix2 t s) = mask t s := by
    refine Eq.trans ?_ (mask_kernel t s)
    show ((((IntOp.cmpi .sle (iota .tc S128x128 32 [1] iota_S128x128_d1_w32 (ix2 t s)) (iota .tc S128x128 32 [0] iota_S128x128_d0_w32 (ix2 t s))).setWidth 32).toInt : ℝ) : EReal) = _
    rw [iota_single_apply, iota_single_apply]
  refine congrArg₂ (· * ·) (shapeCast_apply w shapeCasts_S1x128x128_S128x128 (ix2 t s) (ix3 0 t s) ?_) hm
  rw [Shape.rowMajor_val_three, Shape.rowMajor_val_two]
  show (0 * 128 + t.val) * 128 + s.val = t.val * 128 + s.val
  omega

/-- A tile at an index. -/
theorem tile_at (k : Fin 8) (t d : Fin 128) : tileOut (F := Ideal) zu zv g w b k (ix2 t d)
    = gate (zu (ix2 (rowIn k t) d)) (fun s e => zv (ix2 (rowIn k s) e)) (fun e => g (ix2 0 e)) (fun s => w (ix3 0 t s)) (b (ix2 t 0)) t d := by
  refine congrArg₂ (· * ·) (slice_at _ k t d) (congrArg₂ (· + ·) ?_ ?_)
  · refine (Ideal.matmul_plain_apply (φ₁ := .bf16) (φ₂ := .bf16) (prec := none) ..).trans ?_
    show Ideal.ofBits .f32 0x00000000#32 + _ = _
    rw [Ideal.ofBits_zero_f32, zero_add]
    exact Finset.sum_congr rfl fun s _ => congrArg₂ (· * ·) (mix_at w t s) ((slice_at _ k s d).trans (norm_at zv g (rowIn k s) d))
  · refine (Rms.column _ broadcasts_S128x1_S128x128 t d).trans ?_
    rw [shapeCast_self]

/-- Which chunk, or head, a coordinate is in, -/
def partOf (r : Fin 1024) : Fin 8 := ⟨r.val / 128, by have := r.isLt; omega⟩
/-- and its place there. -/
def placeOf (r : Fin 1024) : Fin 128 := ⟨r.val % 128, Nat.mod_lt _ (by decide)⟩

theorem part_rowIn (k : Fin 8) (i : Fin 128) : partOf (rowIn k i) = k := Fin.ext (by show (128 * k.val + i.val) / 128 = k.val; have := i.isLt; omega)
theorem place_rowIn (k : Fin 8) (i : Fin 128) : placeOf (rowIn k i) = i := Fin.ext (by show (128 * k.val + i.val) % 128 = i.val; have := i.isLt; omega)
theorem rowIn_part (r : Fin 1024) : rowIn (partOf r) (placeOf r) = r := Fin.ext (by show 128 * (r.val / 128) + r.val % 128 = r.val; omega)

variable (x0 x1 : FVec Ideal S1024x1024 .f32) (x2 : FVec Ideal S8x128 .f32) (x3 : FVec Ideal S8x128x128 .f32) (x4 : FVec Ideal S128x8 .f32)

/-- A block's gated rows: chunk `k`, row `t`, head `h`, feature `d`. -/
def gatedIn (k : Fin 8) (t : Fin 128) (h : Fin 8) (d : Fin 128) : EReal :=
  gate (x0 (ix2 (rowIn k t) (rowIn h d))) (fun s e => x1 (ix2 (rowIn k s) (rowIn h e))) (fun e => x2 (ix2 h e)) (fun s => x3 (ix3 h t s))
    (x4 (ix2 t h)) t d

section Block
variable (c : Dev nD) (i : grid0.Coords) (arg1 : Memref sig .tc .vmem S1024x1024 .f32) (harg1 : arg1.IsWhole)
    (arg2 : Memref sig .tc .vmem S1024x1024 .f32) (harg2 : arg2.IsWhole) (arg3 : Memref sig .tc .vmem S8x128 .f32) (harg3 : arg3.IsWhole)
    (arg4 : Memref sig .tc .vmem S8x128x128 .f32) (harg4 : arg4.IsWhole) (arg5 : Memref sig .tc .vmem S128x8 .f32) (harg5 : arg5.IsWhole)
    (arg6 : Memref sig .tc .vmem S1024x1024 .bf16) (harg6 : arg6.IsWhole)

/-- A store's tile is the block's part at its place. -/
theorem piece_at (h k : Fin 8) (t d : Fin 128) :
    (piece (F := Ideal) arg1 harg1 arg2 harg2 arg3 harg3 arg4 harg4 arg5 harg5 x0 x1 x2 x3 x4 h k).2 (ix2 t d) = gatedIn x0 x1 x2 x3 x4 k t h d := by
  refine (tile_at _ _ _ _ _ k t d).trans ?_
  simp only [View.readAt_eq_ld, Memref.IsWhole.read_unread]
  unfold gatedIn
  refine gate_congr ?_ (fun s e => ?_) (fun e => ?_) (fun s => ?_) ?_ t d
  · exact View.ld_unit_apply_of (Val := Elt Ideal) (e := .f32) (S := S1024x1024) x0 _ _ _ _ _ fun a => by match a with | ⟨0, _⟩ => show 128 * k.val + t.val = 0 + (128 * k.val + t.val); omega | ⟨1, _⟩ => rfl
  · exact View.ld_unit_apply_of (Val := Elt Ideal) (e := .f32) (S := S1024x1024) x1 _ _ _ _ _ fun a => by match a with | ⟨0, _⟩ => show 128 * k.val + s.val = 0 + (128 * k.val + s.val); omega | ⟨1, _⟩ => rfl
  · exact View.ld_unit_apply_of (Val := Elt Ideal) (e := .f32) (S := S8x128) x2 _ _ _ _ _ fun a => by match a with | ⟨0, _⟩ => rfl | ⟨1, _⟩ => show e.val = 0 + e.val; omega
  · exact View.ld_unit_apply_of (Val := Elt Ideal) (e := .f32) (S := S8x128x128) x3 _ _ _ _ _ fun a => by
      match a with | ⟨0, _⟩ => rfl | ⟨1, _⟩ => show t.val = 0 + t.val; omega | ⟨2, _⟩ => show s.val = 0 + s.val; omega
  · exact View.ld_unit_apply_of (Val := Elt Ideal) (e := .f32) (S := S128x8) x4 _ _ _ _ _ fun a => by match a with | ⟨0, _⟩ => show t.val = 0 + t.val; omega | ⟨1, _⟩ => rfl

/-- The block the stores leave, -/
theorem stored (L : List (View.Piece (Elt Ideal) S1024x1024 .bf16))
    (hL : L = downTo.flatMap fun h => downTo.map fun k => piece (F := Ideal) arg1 harg1 arg2 harg2 arg3 harg3 arg4 harg4 arg5 harg5 x0 x1 x2 x3 x4 h k)
    (hc : ∀ y : S1024x1024.Idx, ∃ p ∈ L, y ∈ p.1.set) (k h : Fin 8) (t d : Fin 128) :
    VO0_5.read (Elt Ideal) (VO0_5.writes (Elt Ideal) VO0_5.junk L) (ix2 (rowIn k t) (rowIn h d)) = gatedIn x0 x1 x2 x3 x4 k t h d := by
  refine (congrFun (View.read_writes_junk_eq_canon _ _) _).trans ?_
  refine (View.canon_apply_of_pieces (fun y : S1024x1024.Idx => gatedIn x0 x1 x2 x3 x4 (partOf (y 0)) (placeOf (y 0)) (partOf (y 1)) (placeOf (y 1)))
    L ?_ _ (hc _)).trans ?_
  · intro p hp x
    rw [hL] at hp
    obtain ⟨h, -, hp⟩ := List.mem_flatMap.mp hp
    obtain ⟨k, -, rfl⟩ := List.mem_map.mp hp
    obtain ⟨t, d, rfl⟩ : ∃ t d : Fin 128, x = ix2 t d := ⟨x 0, x 1, eq_ix2 (n0 := 128) (n1 := 128) x⟩
    have e0 : ((Rect.unit (s := S1024x1024) ![128 * k.val, 128 * h.val] ![128, 128] (inb_out h k)).emb (ix2 t d)) = ix2 (rowIn k t) (rowIn h d) :=
      funext fun a => Fin.ext ((Rect.idx_unit_val _ _ _ _ a).trans (by match a with | ⟨0, _⟩ => rfl | ⟨1, _⟩ => rfl))
    refine Eq.trans ?_ (congrArg (fun y : S1024x1024.Idx => gatedIn x0 x1 x2 x3 x4 (partOf (y 0)) (placeOf (y 0)) (partOf (y 1)) (placeOf (y 1))) e0.symm)
    show _ = gatedIn x0 x1 x2 x3 x4 (partOf (rowIn k t)) (placeOf (rowIn k t)) (partOf (rowIn h d)) (placeOf (rowIn h d))
    rw [part_rowIn, place_rowIn, part_rowIn, place_rowIn]
    exact piece_at x0 x1 x2 x3 x4 arg1 harg1 arg2 harg2 arg3 harg3 arg4 harg4 arg5 harg5 h k t d
  · show gatedIn x0 x1 x2 x3 x4 (partOf (rowIn k t)) (placeOf (rowIn k t)) (partOf (rowIn h d)) (placeOf (rowIn h d)) = _
    rw [part_rowIn, place_rowIn, part_rowIn, place_rowIn]

/-- which is the one a point of the grid leaves. -/
theorem block_out (k h : Fin 8) (t d : Fin 128) :
    out0_A_5 (F := Ideal) c i arg1 harg1 arg2 harg2 arg3 harg3 arg4 harg4 arg5 harg5 arg6 harg6 x0 x1 x2 x3 x4 (ix2 (rowIn k t) (rowIn h d))
      = gatedIn x0 x1 x2 x3 x4 k t h d := by
  unfold out0_A_5
  have hp := pieces (F := Ideal) c i arg1 harg1 arg2 harg2 arg3 harg3 arg4 harg4 arg5 harg5 arg6 harg6 x0 x1 x2 x3 x4
  have hc := cover0_A_5 (F := Ideal) c i arg1 harg1 arg2 harg2 arg3 harg3 arg4 harg4 arg5 harg5 arg6 harg6 x0 x1 x2 x3 x4
  generalize (kernelRun0_A (F := Ideal) c i arg1 harg1 arg2 harg2 arg3 harg3 arg4 harg4 arg5 harg5 arg6 harg6 x0 x1 x2 x3 x4).1 = L at hp hc ⊢
  exact stored x0 x1 x2 x3 x4 arg1 harg1 arg2 harg2 arg3 harg3 arg4 harg4 arg5 harg5 L hp hc k h t d

end Block

/-! ## The arrays -/

variable (m : (ℓ : Loc nD τ sig) → Buf (Elt Ideal) ℓ) (c : Dev nD)

/-- The projection, the normalisation's gain, the mixing weights and their biases. -/
abbrev argZ : FVec Ideal S2048x3584 .f32 := m ((c : Thread nD τ).loc main_arg0)
abbrev argG : FVec Ideal S8x128 .f32 := m ((c : Thread nD τ).loc main_arg1)
abbrev argW : FVec Ideal S8x128x128 .f32 := m ((c : Thread nD τ).loc main_arg2)
abbrev argB : FVec Ideal S8x128 .f32 := m ((c : Thread nD τ).loc main_arg3)

/-- Where the windows lie at each point. -/
theorem places : ∀ t : Fin grid0.N, (win0_0.index t 0 = t.val ∧ win0_0.index t 1 = 0) ∧ (win0_1.index t 0 = t.val ∧ win0_1.index t 1 = 1)
    ∧ (win0_2.index t 0 = 0 ∧ win0_2.index t 1 = 0) ∧ (win0_3.index t 0 = 0 ∧ win0_3.index t 1 = 0 ∧ win0_3.index t 2 = 0)
    ∧ (win0_4.index t 0 = 0 ∧ win0_4.index t 1 = 0) ∧ win0_5.index t 0 = t.val ∧ win0_5.index t 1 = 0 := by decide +kernel

/-- Chunk `k` of point `t`'s block, as a chunk of the whole. -/
def chunkOf (t : Fin cfg0.N) (k : Fin 8) : Fin 16 := ⟨8 * t.val + k.val, by have h : t.val < 2 := Nat.lt_of_lt_of_eq t.isLt N_0; have := k.isLt; omega⟩

theorem block_u (t : Fin cfg0.N) (k : Fin 8) (i : Fin 128) (h : Fin 8) (d : Fin 128) :
    (X0_0 m c t : FVec Ideal S1024x1024 .f32) (ix2 (rowIn k i) (rowIn h d)) = argZ m c (ix2 (rowAt (chunkOf t k) i) (colU h d)) := by
  have hi := (places t).1
  unfold X0_0 Pipeline.Window.fill
  rw [dif_pos (moved0_0 t _)]
  unfold iblk
  rw [View.read_apply]
  refine (congrArg (V m c main_arg0) (?_ : _ = ix2 (rowAt (chunkOf t k) i) (colU h d))).trans (congrFun (V_main_arg0 m c) _)
  funext a
  apply Fin.ext
  match a with
  | ⟨0, _⟩ => show win0_0.index t 0 * 1024 + 1 * (128 * k.val + i.val) = 128 * (8 * t.val + k.val) + i.val; rw [hi.1]; omega
  | ⟨1, _⟩ => show win0_0.index t 1 * 1024 + 1 * (128 * h.val + d.val) = 128 * h.val + d.val; rw [hi.2]; omega

theorem block_v (t : Fin cfg0.N) (k : Fin 8) (i : Fin 128) (h : Fin 8) (d : Fin 128) :
    (X0_1 m c t : FVec Ideal S1024x1024 .f32) (ix2 (rowIn k i) (rowIn h d)) = argZ m c (ix2 (rowAt (chunkOf t k) i) (colV h d)) := by
  have hi := (places t).2.1
  unfold X0_1 Pipeline.Window.fill
  rw [dif_pos (moved0_1 t _)]
  unfold iblk
  rw [View.read_apply]
  refine (congrArg (V m c main_arg0) (?_ : _ = ix2 (rowAt (chunkOf t k) i) (colV h d))).trans (congrFun (V_main_arg0 m c) _)
  funext a
  apply Fin.ext
  match a with
  | ⟨0, _⟩ => show win0_1.index t 0 * 1024 + 1 * (128 * k.val + i.val) = 128 * (8 * t.val + k.val) + i.val; rw [hi.1]; omega
  | ⟨1, _⟩ => show win0_1.index t 1 * 1024 + 1 * (128 * h.val + d.val) = 1024 + (128 * h.val + d.val); rw [hi.2]; omega

theorem block_g (t : Fin cfg0.N) : (iblk m c 2 t : FVec Ideal S8x128 .f32) = argG m c := by
  have hi := (places t).2.2.1
  funext y
  unfold iblk
  rw [View.read_apply]
  refine (congrArg (V m c main_arg1) (?_ : _ = y)).trans (congrFun (V_main_arg1 m c) _)
  funext a
  apply Fin.ext
  match a with
  | ⟨0, _⟩ => show win0_2.index t 0 * 8 + 1 * (y 0).val = (y 0).val; rw [hi.1]; omega
  | ⟨1, _⟩ => show win0_2.index t 1 * 128 + 1 * (y 1).val = (y 1).val; rw [hi.2]; omega

theorem block_w (t : Fin cfg0.N) : (iblk m c 3 t : FVec Ideal S8x128x128 .f32) = argW m c := by
  have hi := (places t).2.2.2.1
  funext y
  unfold iblk
  rw [View.read_apply]
  refine (congrArg (V m c main_arg2) (?_ : _ = y)).trans (congrFun (V_main_arg2 m c) _)
  funext a
  apply Fin.ext
  match a with
  | ⟨0, _⟩ => show win0_3.index t 0 * 8 + 1 * (y 0).val = (y 0).val; rw [hi.1]; omega
  | ⟨1, _⟩ => show win0_3.index t 1 * 128 + 1 * (y 1).val = (y 1).val; rw [hi.2.1]; omega
  | ⟨2, _⟩ => show win0_3.index t 2 * 128 + 1 * (y 2).val = (y 2).val; rw [hi.2.2]; omega

/-- The kernel finds the biases transposed. -/
theorem entry : (V m c main_v0 : FVec Ideal S128x8 .f32) = transpose S128x8 [1, 0] (argB m c) transposes_S8x128_S128x8_1_0 := by
  show StableHlo.after hostOps0 _ _ = _
  after_results_simp

theorem block_b (t : Fin cfg0.N) (i : Fin 128) (h : Fin 8) : (iblk m c 4 t : FVec Ideal S128x8 .f32) (ix2 i h) = argB m c (ix2 h i) := by
  have hi := (places t).2.2.2.2.1
  unfold iblk
  rw [View.read_apply]
  refine (congrArg (V m c main_v0) (?_ : _ = ix2 i h)).trans ((congrFun (entry m c) _).trans ?_)
  · funext a
    apply Fin.ext
    match a with
    | ⟨0, _⟩ => show win0_4.index t 0 * 128 + 1 * i.val = i.val; rw [hi.1]; omega
    | ⟨1, _⟩ => show win0_4.index t 1 * 8 + 1 * h.val = h.val; rw [hi.2]; omega
  · exact transpose_apply _ _ _ (ix2 i h) (ix2 h i) fun a => by match a with | ⟨0, _⟩ => rfl | ⟨1, _⟩ => rfl

/-- The block a point leaves is a part of the whole. -/
theorem point_out (t : Fin cfg0.N) (k h : Fin 8) (i d : Fin 128) :
    (outsAt0 m c t : FVec Ideal S1024x1024 .bf16) (ix2 (rowIn k i) (rowIn h d)) = gated (argZ m c) (argG m c) (argW m c) (argB m c) (chunkOf t k) i h d := by
  refine (block_out _ _ _ _ _ _ _ _ _ _ _ _ _ _ _ _ _ _ _ k h i d).trans ?_
  unfold gatedIn gated
  refine gate_congr (block_u m c t k i h d) (fun s e => block_v m c t k s h e) (fun e => congrFun (block_g m c t) _)
    (fun s => congrFun (block_w m c t) _) (block_b m c t i h) i d

/-- The array after the run: the gate in the first half of its columns. -/
theorem final5 (y : S2048x2048.Idx) (hy : (y 1).val < 1024) :
    (dats m 0 c).arrAt 5 cfg0.N y = out (argZ m c) (argG m c) (argW m c) (argB m c) .bf16 y := by
  refine ((dats m 0 c).arrAt_apply_of_coversWhere 5 (out (argZ m c) (argG m c) (argW m c) (argB m c) .bf16)
    (P := fun j : S2048x2048.Idx => (j 1).val < 1024) (fun β => β 1 = 0) (by decide +kernel) (fun t _ j => ?_) (fun j => ?_) y).trans (if_pos hy)
  · have hi := (places t).2.2.2.2.2
    rw [after0_5]
    obtain ⟨r, s, rfl⟩ : ∃ (r s : Fin 1024), j = ix2 r s := ⟨j 0, j 1, eq_ix2 (n0 := 1024) (n1 := 1024) j⟩
    rw [← rowIn_part r, ← rowIn_part s]
    refine (point_out m c t (partOf r) (partOf s) (placeOf r) (placeOf s)).trans (out_at _ _ _ _ _ _ _ _ _ _ ?_ ?_).symm
    · show win0_5.index t 0 * 1024 + 1 * (128 * (partOf r).val + (placeOf r).val) = 128 * (8 * t.val + (partOf r).val) + (placeOf r).val
      rw [hi.1]; omega
    · show win0_5.index t 1 * 1024 + 1 * (128 * (partOf s).val + (placeOf s).val) = 128 * (partOf s).val + (placeOf s).val
      rw [hi.2]; omega
  · have hj : (j 1).val < 2048 := (j 1).isLt
    show (j 1).val < 1024 ↔ (j 1).val / 1024 = 0
    omega

/-- The host keeps those columns. -/
theorem tail : (Pipeline.afterTail₀ cfgs (dats m) 0 (V0 m) [hostOps1] c main_v2 : FVec Ideal S2048x1024 .bf16)
    = out (argZ m c) (argG m c) (argW m c) (argB m c) .bf16 := by
  have h : (Pipeline.afterTail₀ cfgs (dats m) 0 (V0 m) [hostOps1] c main_v2 : FVec Ideal S2048x1024 .bf16)
      = extractStridedSlice S2048x1024 ![0, 0] ((dats m 0 c).arrAt 5 cfg0.N : FVec Ideal S2048x2048 .bf16) slices_S2048x2048_S2048x1024_0_0 := by
    have hw := Pipeline.withArrays_arr_shared spec0 c (V0 m c) (fun w => (dats m 0 c).arrAt w (cfgs 0).N) (fun w w' hne e => by
      have hs : ∀ w w' : Fin 6, w ≠ w' → Pipeline.arrRef spec0 w = Pipeline.arrRef spec0 w' → w = 0 ∨ w = 1 := by decide
      rcases hs w w' hne e with rfl | rfl
      · exact ((dats m 0 c).arrAt_in 0 rfl _).trans (A_eq m c 0)
      · exact ((dats m 0 c).arrAt_in 1 rfl _).trans (A_eq m c 1)) 5
    show StableHlo.after hostOps1 _ _ = _
    after_results_simp
    exact congrArg (fun x : FVec Ideal S2048x2048 .bf16 => extractStridedSlice S2048x1024 ![0, 0] x slices_S2048x2048_S2048x1024_0_0) hw
  refine h.trans (funext fun y => ?_)
  obtain ⟨r, s, rfl⟩ : ∃ (r : Fin 2048) (s : Fin 1024), y = ix2 r s := ⟨y 0, y 1, eq_ix2 (n0 := 2048) (n1 := 1024) y⟩
  refine (extractStridedSlice_apply _ _ slices_S2048x2048_S2048x1024_0_0 (ix2 r s) (ix2 r ⟨s.val, by have := s.isLt; omega⟩) fun a => ?_).trans
    (final5 m c _ s.isLt)
  match a with
  | ⟨0, _⟩ => show r.val = 0 + r.val; omega
  | ⟨1, _⟩ => show s.val = 0 + s.val; omega

/-- What the run leaves in the result, and that the arguments stay. -/
theorem values (ρ : Dev nD → PrngReg) : θ_run (defs (F := Ideal)) (onTc (τ := τ) (main (F := Ideal))) ⟨m, fun _ => 0, ρ⟩ (fun r => ∀ c : Dev nD,
    r.2.mem ((c.tc : Thread nD τ).loc main_v2) = out (argZ m c) (argG m c) (argW m c) (argB m c) .bf16
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨(h.1 c).2 main_v2 (Pipeline.mem_restRefs_of main_v2 (by decide) (by decide)) |>.trans (tail m c), h.2 c⟩)
    (θ_run_and (run_main m ρ) (unchanged m ρ))

end Cert.GmlpFwdIdeal.Ker

end
-- ==== Proof.GmlpFwdClaim.lean ====
/- The gate's forward call: the reference's values, and the claims. -/
module

public import proofs.«01_k».proof.Proof.GmlpFwd
public import proofs.«01_k».proof.Proof.Gen.GmlpFwd.Frame
public import proofs.«01_k».proof.Proof.Gen.GmlpFwdRefIdeal.Read
public import proofs.«01_k».proof.Defs
public import Idealize.ShloMosaic.Lib.IdealHost

@[expose] public section

set_option maxRecDepth 16384

noncomputable section

namespace Cert.GmlpFwdClaim

open Idealize.ShloMosaic hiding ix2 ix3 ix4 eq_ix2
open Idealize.ShloMosaic.TcCoe Idealize.SL.Sem Idealize.ShloMosaic.ValueIdx Cert.Products Cert.Gmlp
open Cert.GmlpFwdRefIdeal Cert.GmlpFwdRefIdeal.Gen Cert.GmlpFwdRefIdeal.Read
open Cert.GmlpFwdIdeal.Ker (argZ argG argW argB)

section Reference
variable (z : FVec Ideal S2048x3584 .f32) (g : FVec Ideal S8x128 .f32) (w : FVec Ideal S8x128x128 .f32) (b : FVec Ideal S8x128 .f32)

/-- The activated half that is the gate, -/
theorem reference_u (r : Fin 2048) (h : Fin 8) (d : Fin 128) :
    (val_main_v16 (F := Ideal) z : FVec Ideal S2048x8x128 .f32) (ix3 r h d) = gelu (z (ix2 r (colU h d))) := by
  have := h.isLt
  have := d.isLt
  rw [val_main_v16_apply, val_main_v14_apply]
  refine congrArg (fun y => gelu (z y)) (ix2_ext _ _ ?_ ?_)
  · show 0 + ((r.val * 8 + h.val) * 128 + d.val) / 1024 = r.val; omega
  · show 0 + ((r.val * 8 + h.val) * 128 + d.val) % 1024 = 128 * h.val + d.val; omega

/-- and the half that is gated. -/
theorem reference_v (r : Fin 2048) (h : Fin 8) (d : Fin 128) :
    (val_main_v17 (F := Ideal) z : FVec Ideal S2048x8x128 .f32) (ix3 r h d) = gelu (z (ix2 r (colV h d))) := by
  have := h.isLt
  have := d.isLt
  rw [val_main_v17_apply, val_main_v15_apply]
  refine congrArg (fun y => gelu (z y)) (ix2_ext _ _ ?_ ?_)
  · show 0 + ((r.val * 8 + h.val) * 128 + d.val) / 1024 = r.val; omega
  · show 0 + (1024 + ((r.val * 8 + h.val) * 128 + d.val) % 1024) = 1024 + (128 * h.val + d.val); omega

/-- The activations of a row and head. -/
abbrev acts (r : Fin 2048) (h : Fin 8) (e : Fin 128) : EReal := gelu (z (ix2 r (colV h e)))

theorem reference_mean (r : Fin 2048) (h : Fin 8) : (val_main_v21 (F := Ideal) z : FVec Ideal S2048x8x1 .f32) (ix3 r h 0) = mean (acts z r h) := by
  refine congrArg₂ Ideal.div ?_ rfl
  rw [val_main_v19_apply, val_main_v18_apply]
  show Ideal.ofBits .f32 0x00000000#32 + _ = _
  rw [Ideal.ofBits_zero_f32, zero_add]
  refine Finset.sum_congr rfl fun k _ => ?_
  rw [show idx_main_v18 (idx_main_v19 (ix3 r h 0)) k = ix3 r h k from ix3_ext _ _ _ rfl rfl rfl]
  exact reference_v z r h k

theorem reference_centred (r : Fin 2048) (h : Fin 8) (d : Fin 128) :
    (val_main_v30 (F := Ideal) z : FVec Ideal S2048x8x128 .f32) (ix3 r h d) = acts z r h d - mean (acts z r h) := by
  refine congrArg₂ (· - ·) (reference_v z r h d) ?_
  rw [val_main_v29_apply, show idx_main_v29 (ix3 r h d) = ix3 r h 0 from ix3_ext _ _ _ rfl rfl rfl]
  exact reference_mean z r h

theorem reference_rinv (r : Fin 2048) (h : Fin 8) : (val_main_v33 (F := Ideal) z : FVec Ideal S2048x8x1 .f32) (ix3 r h 0) = rinv (acts z r h) := by
  refine congrArg (fun v => Ideal.rsqrt (v + _)) (congrArg₂ Ideal.div ?_ rfl)
  rw [val_main_v26_apply, val_main_v25_apply]
  show Ideal.ofBits .f32 0x00000000#32 + _ = _
  rw [Ideal.ofBits_zero_f32, zero_add]
  refine Finset.sum_congr rfl fun k _ => ?_
  rw [show idx_main_v25 (idx_main_v26 (ix3 r h 0)) k = ix3 r h k from ix3_ext _ _ _ rfl rfl rfl]
  exact congrArg₂ (· * ·) (reference_centred z r h k) (reference_centred z r h k)

/-- The normalised activations, -/
theorem reference_unit (r : Fin 2048) (h : Fin 8) (d : Fin 128) :
    (val_main_v35 (F := Ideal) z : FVec Ideal S2048x8x128 .f32) (ix3 r h d) = unit (acts z r h) d := by
  refine congrArg₂ (· * ·) (reference_centred z r h d) ?_
  rw [val_main_v34_apply, show idx_main_v34 (ix3 r h d) = ix3 r h 0 from ix3_ext _ _ _ rfl rfl rfl]
  exact reference_rinv z r h

/-- and times the gain. -/
theorem reference_norm (r : Fin 2048) (h : Fin 8) (d : Fin 128) : (val_main_v38 (F := Ideal) z g : FVec Ideal S2048x8x128 .f32) (ix3 r h d)
    = norm (acts z r h) (fun e => g (ix2 h e)) d := by
  refine congrArg₂ (· * ·) (reference_unit z r h d) ?_
  rw [val_main_v37_apply, val_main_v36_apply]
  exact congrArg g (ix2_ext _ _ rfl rfl)

/-- By chunks. -/
theorem reference_chunk (q : Fin 16) (s : Fin 128) (h : Fin 8) (d : Fin 128) :
    (val_main_v41 (F := Ideal) z g : FVec Ideal S16x128x8x128 .f32) (ix4 q s h d) = norm (acts z (rowAt q s) h) (fun e => g (ix2 h e)) d := by
  have := d.isLt
  have := h.isLt
  rw [val_main_v41_apply]
  refine Eq.trans (congrArg _ (ix3_ext (rowAt q s) h d ?_ ?_ ?_)) (reference_norm z g (rowAt q s) h d)
  · show (((q.val * 128 + s.val) * 8 + h.val) * 128 + d.val) / 1024 = 128 * q.val + s.val; omega
  · show (((q.val * 128 + s.val) * 8 + h.val) * 128 + d.val) / 128 % 8 = h.val; omega
  · show (((q.val * 128 + s.val) * 8 + h.val) * 128 + d.val) % 128 = d.val; omega

/-- The mask, -/
theorem reference_mask (t s : Fin 128) : (val_main_v42 (F := Ideal) : FVec Ideal S1x128x128 .f32) (ix3 0 t s) = mask t s := by
  rw [val_main_v42_apply]
  exact mask_host t s _ _ Idealize.ShloMosaic.Ideal.ofBits_one_f32 Ideal.ofBits_zero_f32

/-- and the masked mixing weights. -/
theorem reference_mix (h : Fin 8) (t s : Fin 128) : (val_main_v44 (F := Ideal) w : FVec Ideal S8x128x128 .f32) (ix3 h t s) = w (ix3 h t s) * mask t s := by
  refine congrArg (w (ix3 h t s) * ·) ?_
  rw [val_main_v43_apply, show idx_main_v43 (ix3 h t s) = ix3 0 t s from ix3_ext _ _ _ rfl rfl rfl]
  exact reference_mask t s

/-- The mixed rows, biased. -/
theorem reference_mixed (q : Fin 16) (t : Fin 128) (h : Fin 8) (d : Fin 128) :
    (val_main_v50 (F := Ideal) z g w b : FVec Ideal S16x128x8x128 .f32) (ix4 q t h d)
      = ∑ s, w (ix3 h t s) * mask t s * norm (acts z (rowAt q s) h) (fun e => g (ix2 h e)) d + b (ix2 h t) := by
  have := d.isLt
  have := h.isLt
  refine congrArg₂ (· + ·) ?_ ?_
  · rw [val_main_v46_apply, val_main_v45_apply]
    refine Finset.sum_congr rfl fun s _ => ?_
    rw [mul_comm (val_main_v41 (F := Ideal) z g _), show ridx_main_v45 (idx_main_v46 (ix4 q t h d)) s = ix3 h t s from ix3_ext _ _ _ rfl rfl rfl,
      reference_mix]
    exact congrArg (_ * ·) (Eq.trans (congrArg _ (ix4_ext q s h d rfl rfl rfl rfl)) (reference_chunk z g q s h d))
  · rw [val_main_v49_apply, val_main_v48_apply, val_main_v47_apply]
    exact congrArg b (ix2_ext _ _ rfl rfl)

/-- The reference's result is the kernel's. -/
theorem reference_out : (val_main_v54 (F := Ideal) z g w b : FVec Ideal S2048x1024 .bf16) = out z g w b .bf16 := by
  funext y
  obtain ⟨r, c, rfl⟩ : ∃ (r : Fin 2048) (c : Fin 1024), y = ix2 r c := ⟨y 0, y 1, eq_ix2 (n0 := 2048) (n1 := 1024) y⟩
  obtain ⟨q, t, rfl⟩ := exists_row r
  obtain ⟨h, d, rfl⟩ := exists_col c
  have := d.isLt
  have := h.isLt
  have := t.isLt
  refine Eq.trans ?_ (out_at z g w b .bf16 _ q t h d rfl rfl).symm
  show val_main_v53 (F := Ideal) z g w b (ix2 (rowAt q t) (colH h d)) = _
  rw [val_main_v53_apply, show idx_main_v53 (ix2 (rowAt q t) (colH h d)) = ix3 (rowAt q t) h d from ix3_ext _ _ _
    (by show ((128 * q.val + t.val) * 1024 + (128 * h.val + d.val)) / 1024 = 128 * q.val + t.val; omega)
    (by show ((128 * q.val + t.val) * 1024 + (128 * h.val + d.val)) / 128 % 8 = h.val; omega)
    (by show ((128 * q.val + t.val) * 1024 + (128 * h.val + d.val)) % 128 = d.val; omega)]
  refine congrArg₂ (· * ·) (reference_u z (rowAt q t) h d) ?_
  rw [val_main_v51_apply, show idx_main_v51 (ix3 (rowAt q t) h d) = ix4 q t h d from ix4_ext _ _ _ _
    (by show (((128 * q.val + t.val) * 8 + h.val) * 128 + d.val) / 131072 = q.val; omega)
    (by show (((128 * q.val + t.val) * 8 + h.val) * 128 + d.val) / 1024 % 128 = t.val; omega)
    (by show (((128 * q.val + t.val) * 8 + h.val) * 128 + d.val) / 128 % 8 = h.val; omega)
    (by show (((128 * q.val + t.val) * 8 + h.val) * 128 + d.val) % 128 = d.val; omega)]
  exact reference_mixed z g w b q t h d

end Reference

/-- The kernel's frame. -/
theorem frame_p : Cert.quiescent_GmlpFwd := fun m ρ _ => Cert.GmlpFwd.Gen.frame m ρ
/-- The idealization's frame. -/
theorem frame_pi : Cert.quiescent_GmlpFwdIdeal := fun m ρ _ => Cert.GmlpFwdIdeal.Gen.frame m ρ
/-- The reference's frame. -/
theorem frame_ri : Cert.quiescent_GmlpFwdRefIdeal := fun m ρ _ =>
  (θ_run Cert.GmlpFwdRefIdeal.defs _ _).mono (fun r h => ⟨fun c => (h c).2, sem_eq_zero_of_no_sems (by decide) r.2⟩)
    (Cert.GmlpFwdRefIdeal.Value.run (F := Ideal) m ρ)

/-- The idealization's gated rows are the reference's. -/
theorem algebraic : Cert.algebraic_GmlpFwdIdeal_GmlpFwdRefIdeal := by
  intro m ρ m' ρ' _ hagree
  refine ⟨fun c => out (argZ m c) (argG m c) (argW m c) (argB m c) .bf16, Cert.GmlpFwdIdeal.Ker.values m ρ, ?_⟩
  refine (θ_run Cert.GmlpFwdRefIdeal.defs _ _).mono (fun r h c => ?_) (Cert.GmlpFwdRefIdeal.Value.run (F := Ideal) m' ρ')
  obtain ⟨e0, e1, e2, e3⟩ := hagree c
  refine ⟨(h c).1.trans ((val_main_v54_eq ..).trans ?_), (h c).2⟩
  rw [e0, e1, e2, e3]
  exact reference_out _ _ _ _

end Cert.GmlpFwdClaim

end
-- ==== Proof.GmlpBwd.lean ====
/- The gate's backward call: what a head's stores of the mixing weights' and the biases' gradients hold, the blocks a
   point leaves, the arrays after the run, and the host's sums of them. -/
module

public import proofs.«01_k».proof.Proof.Gen.GmlpBwdIdeal.Frame
public import proofs.«01_k».proof.Proof.Gmlp
public import Idealize.ShloMosaic.Lib.Pipeline.ValueKit
public import Idealize.ShloMosaic.Lib.MatmulPlain

@[expose] public section

set_option maxRecDepth 65536

noncomputable section

namespace Cert.GmlpGrad

open Cert.Gmlp Cert.Products
open Idealize.ShloMosaic hiding ix1 ix2 ix3 ix4 eq_ix2 eq_ix3 eq_ix4
open Idealize.ShloMosaic.ValueIdx

/-- The columns of head `h` in an array with the gate's columns first. -/
def colD (h : Fin 8) (d : Fin 128) : Fin 2048 := ⟨128 * h.val + d.val, by have := h.isLt; have := d.isLt; omega⟩

/-- Chunk `k` of block `i`. -/
def chunk (i k : Fin 4) : Fin 16 := ⟨4 * i.val + k.val, by have := i.isLt; have := k.isLt; omega⟩

/-- A sum over the blocks of the sums over their chunks is the sum over all chunks. -/
theorem sum_chunk (f : Fin 16 → EReal) : ∑ i, ∑ k, f (chunk i k) = ∑ q, f q :=
  Rms.sum_tiles (n := 4) (b := 4) (M := 16) rfl f

/-- A sum of masked numbers is the masked sum. -/
theorem sum_mask {n : ℕ} (f : Fin n → EReal) (t s : Fin 128) : ∑ i, f i * mask t s = (∑ i, f i) * mask t s := by
  unfold mask
  split <;> simp

variable (z : FVec Ideal ⟨2, ![2048, 3584]⟩ .f32) (dy : FVec Ideal ⟨2, ![2048, 2048]⟩ .f32) (g : FVec Ideal ⟨2, ![8, 128]⟩ .f32)

/-- The gradient of the mixed rows: chunk `q`, row `t`, head `h`, feature `d`. -/
def dmixed (q : Fin 16) (t : Fin 128) (h : Fin 8) (d : Fin 128) : EReal :=
  dy (ix2 (rowAt q t) (colD h d)) * gelu (z (ix2 (rowAt q t) (colU h d)))

/-- The normalised activations that are mixed. -/
def normed (q : Fin 16) (s : Fin 128) (h : Fin 8) (d : Fin 128) : EReal :=
  norm (fun e => gelu (z (ix2 (rowAt q s) (colV h e)))) (fun e => g (ix2 h e)) d

/-- A chunk's share of the mixing weights' gradient, before the mask. -/
def mixPart (h : Fin 8) (t s : Fin 128) (q : Fin 16) : EReal := ∑ d, dmixed z dy q t h d * normed z g q s h d

/-- A chunk's share of the biases' gradient. -/
def biasPart (h : Fin 8) (t : Fin 128) (q : Fin 16) : EReal := ∑ d, dmixed z dy q t h d

/-- The gradient of a normalised row `s`: the rows that mixed it, each by its weight. -/
def dnormed (w : FVec Ideal ⟨3, ![8, 128, 128]⟩ .f32) (q : Fin 16) (s : Fin 128) (h : Fin 8) (d : Fin 128) : EReal :=
  ∑ t, dmixed z dy q t h d * (w (ix3 h t s) * mask t s)

/-- A chunk's share of the gain's gradient. -/
def gainPart (w : FVec Ideal ⟨3, ![8, 128, 128]⟩ .f32) (h : Fin 8) (d : Fin 128) (q : Fin 16) : EReal :=
  ∑ s, unit (fun e => gelu (z (ix2 (rowAt q s) (colV h e)))) d * dnormed z dy w q s h d

/-- The gain's gradient, -/
def dGain (w : FVec Ideal ⟨3, ![8, 128, 128]⟩ .f32) : FVec Ideal ⟨2, ![8, 128]⟩ .f32 := fun y => ∑ q, gainPart z dy w (y 0) (y 1) q
/-- the mixing weights', -/
def dMix : FVec Ideal ⟨3, ![8, 128, 128]⟩ .f32 := fun y => (∑ q, mixPart z dy g (y 0) (y 1) (y 2) q) * mask (y 1) (y 2)
/-- and the biases'; -/
def dBias : FVec Ideal ⟨2, ![8, 128]⟩ .f32 := fun y => ∑ q, biasPart z dy (y 0) (y 1) q
/-- the first by blocks of four chunks, -/
def gainTiles (w : FVec Ideal ⟨3, ![8, 128, 128]⟩ .f32) : FVec Ideal ⟨3, ![4, 8, 128]⟩ .f32 := fun y => ∑ k, gainPart z dy w (y 1) (y 2) (chunk (y 0) k)
/-- the second, -/
def mixTiles : FVec Ideal ⟨4, ![4, 8, 128, 128]⟩ .f32 := fun y => (∑ k, mixPart z dy g (y 1) (y 2) (y 3) (chunk (y 0) k)) * mask (y 2) (y 3)
/-- and the third, repeated along the lanes. -/
def biasTiles : FVec Ideal ⟨4, ![4, 8, 128, 128]⟩ .f32 := fun y => ∑ k, biasPart z dy (y 1) (y 2) (chunk (y 0) k)

end Cert.GmlpGrad

namespace Cert.GmlpBwdIdeal.Ker

open Cert.GmlpBwdIdeal Cert.GmlpBwdIdeal.Gen Cert.Gmlp Cert.GmlpGrad Cert.Products
open Idealize.ShloMosaic hiding ix1 ix2 ix3 ix4 eq_ix2 eq_ix3 eq_ix4
open Idealize.ShloMosaic.TcCoe Idealize.SL.Sem Idealize.ShloMosaic.Tactic Idealize.ShloMosaic.ValueIdx

section Stores
variable {F : FTy → Type} [FloatOps F]

/-! The parts of the blocks that belong to a head, and to a chunk of rows, lie inside them. -/

theorem inb_cols : ∀ (h : Fin 8), ∀ a, (![0, 128 * h.val] : Fin 2 → ℕ) a + (![512, 128] : Fin 2 → ℕ) a ≤ S512x1024.size a := by decide +kernel
theorem inb_chunk : ∀ (h : Fin 8) (k : Fin 4), ∀ a, (![128 * k.val, 128 * h.val] : Fin 2 → ℕ) a + (![128, 128] : Fin 2 → ℕ) a ≤ S512x1024.size a := by decide +kernel
theorem inb_gain : ∀ (h : Fin 8), ∀ a, (![h.val, 0] : Fin 2 → ℕ) a + (![1, 128] : Fin 2 → ℕ) a ≤ S8x128.size a := by decide +kernel
theorem inb_mix : ∀ (h : Fin 8), ∀ a, (![h.val, 0, 0] : Fin 3 → ℕ) a + (![1, 128, 128] : Fin 3 → ℕ) a ≤ S8x128x128.size a := by decide +kernel
theorem inb_row : ∀ (h : Fin 8), ∀ a, (![0, h.val, 0] : Fin 3 → ℕ) a + (S1x1x128.size) a ≤ S1x8x128.size a := by decide +kernel
theorem inb_grad : ∀ (h : Fin 8), ∀ a, (![0, h.val, 0, 0] : Fin 4 → ℕ) a + (S1x1x128x128.size) a ≤ S1x8x128x128.size a := by decide +kernel
theorem slices_at (k : Fin 4) : S512x128.Slices ![128 * k.val, 0] S128x128 := by
  match k with
  | 0 => exact slices_S512x128_o0_0_S128x128
  | 1 => exact slices_S512x128_o128_0_S128x128
  | 2 => exact slices_S512x128_o256_0_S128x128
  | 3 => exact slices_S512x128_o384_0_S128x128

/-- The gradient of a chunk's mixed rows. -/
def mixed (zu : Vec F S512x128 .f32) (dy : Vec F S128x128 .f32) (k : Fin 4) : FVec F S128x128 .f32 :=
  mulf dy (extractStridedSlice (s := S512x128) S128x128 ![128 * k.val, 0] (k0_pay8 zu) (slices_at k))

/-- A chunk's share of the mixing weights' gradient, -/
def mixTerm (zu zv : Vec F S512x128 .f32) (g : Vec F S1x128 .f32) (dy : Vec F S128x128 .f32) (k : Fin 4) : FVec F S128x128 .f32 :=
  matmul dot_S128x128_S128x128_S128x128_1_1_0_0_n_n none (truncf .bf16 (mixed zu dy k) bitsLt_bf16_f32)
    (extractStridedSlice (s := S512x128) S128x128 ![128 * k.val, 0] (k0_pay22 zv g (k0_pay12 zv) (Scalar.ofBits .f32 0x3F000000#32)) (slices_at k))
    (constant S128x128 .f32 0x00000000#32)

/-- the masked sum of the four, -/
def mixGrad (zu zv : Vec F S512x128 .f32) (g : Vec F S1x128 .f32) (dy : Fin 4 → Vec F S128x128 .f32) : FVec F S1x1x128x128 .f32 :=
  shapeCast S1x1x128x128 (mulf (addf (addf (addf (addf (broadcast S128x128 (Scalar.ofBits .f32 0x00000000#32)) (mixTerm zu zv g (dy 0) 0))
    (mixTerm zu zv g (dy 1) 1)) (mixTerm zu zv g (dy 2) 2)) (mixTerm zu zv g (dy 3) 3)) k0_pay3) shapeCasts_S128x128_S1x1x128x128

/-- a chunk's share of the biases' gradient, -/
def biasTerm (zu : Vec F S512x128 .f32) (dy : Vec F S128x128 .f32) (k : Fin 4) : FVec F S128x1 .f32 :=
  shapeCast S128x1 (multiReduction .add [1] S128 (mixed zu dy k) 0x00000000#32 reduces_S128x128_S128 (.inl rfl) rfl) shapeCasts_S128_S128x1

/-- and the sum of the four, repeated along the lanes. -/
def biasGrad (zu : Vec F S512x128 .f32) (dy : Fin 4 → Vec F S128x128 .f32) : FVec F S1x1x128x128 .f32 :=
  shapeCast S1x1x128x128 (broadcastTo S128x128 (shapeCast S128x1 (addf (addf (addf (addf (broadcast S128x1 (Scalar.ofBits .f32 0x00000000#32))
    (biasTerm zu (dy 0) 0)) (biasTerm zu (dy 1) 1)) (biasTerm zu (dy 2) 2)) (biasTerm zu (dy 3) 3)) shapeCasts_S128x1_S128x1)
    broadcasts_S128x1_S128x128) shapeCasts_S128x128_S1x1x128x128

/-- The gradient of a chunk's normalised rows: their weights, transposed, times the mixed rows' gradient, -/
def normTerm (zu : Vec F S512x128 .f32) (w : Vec F S1x128x128 .f32) (dy : Vec F S128x128 .f32) (k : Fin 4) : FVec F S128x128 .f32 :=
  matmul dot_S128x128_S128x128_S128x128_1_0_0_1_n_n none (k0_pay21 k0_pay3 w) (truncf .bf16 (mixed zu dy k) bitsLt_bf16_f32)
    (constant S128x128 .f32 0x00000000#32)

/-- and the gain's gradient from the four. -/
def gainGrad (zu zv : Vec F S512x128 .f32) (w : Vec F S1x128x128 .f32) (dy : Fin 4 → Vec F S128x128 .f32) : FVec F S1x1x128 .f32 :=
  shapeCast S1x1x128 (shapeCast S1x128 (multiReduction .add [0] S128 (mulf (k0_pay18 zv (k0_pay12 zv) (Scalar.ofBits .f32 0x3F000000#32))
    (concatenate S512x128 0 [⟨S128x128, normTerm zu w (dy 0) 0⟩, ⟨S128x128, normTerm zu w (dy 1) 1⟩, ⟨S128x128, normTerm zu w (dy 2) 2⟩,
      ⟨S128x128, normTerm zu w (dy 3) 3⟩] concatenates_S128x128_S128x128_S128x128_S128x128_S512x128_d0)) 0x00000000#32 reduces_S512x128_S128 (.inl rfl) rfl)
    shapeCasts_S128_S1x128) shapeCasts_S1x128_S1x1x128

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x128 .f32) (harg4 : arg4.IsWhole) (arg5 : Memref sig .tc .vmem S8x128x128 .f32) (harg5 : arg5.IsWhole) (arg6 : Memref sig .tc .vmem S128x8 .f32) (harg6 : arg6.IsWhole) (arg7 : Memref sig .tc .vmem S512x2048 .bf16) (harg7 : arg7.IsWhole) (arg8 : Memref sig .tc .vmem S1x8x128 .f32) (harg8 : arg8.IsWhole) (arg9 : Memref sig .tc .vmem S1x8x128x128 .f32) (harg9 : arg9.IsWhole) (arg10 : Memref sig .tc .vmem S1x8x128x128 .f32) (harg10 : arg10.IsWhole)
    (x0 : Vec F S512x1024 .f32) (x1 : Vec F S512x1024 .f32) (x2 : Vec F S512x1024 .f32) (x3 : Vec F S8x128 .f32) (x4 : Vec F S8x128x128 .f32) (x5 : Vec F S128x8 .f32)

/-- The store of head `h` in the mixing weights' gradient, -/
def mixPiece (h : Fin 8) : View.Piece (Elt F) S1x8x128x128 .f32 :=
  ⟨Rect.unit (s := S1x8x128x128) ![0, h.val, 0, 0] S1x1x128x128.size (inb_grad h),
    mixGrad (View.readAt (Elt F) arg1.view (Rect.unit (s := S512x1024) ![0, 128 * h.val] ![512, 128] (inb_cols h)).toLoadRect (harg1.unread x0))
      (View.readAt (Elt F) arg2.view (Rect.unit (s := S512x1024) ![0, 128 * h.val] ![512, 128] (inb_cols h)).toLoadRect (harg2.unread x1))
      (View.readAt (Elt F) arg4.view (Rect.unit (s := S8x128) ![h.val, 0] ![1, 128] (inb_gain h)).toLoadRect (harg4.unread x3))
      fun k => View.readAt (Elt F) arg3.view (Rect.unit (s := S512x1024) ![128 * k.val, 128 * h.val] ![128, 128] (inb_chunk h k)).toLoadRect (harg3.unread x2)⟩

/-- in the gain's, -/
def gainPiece (h : Fin 8) : View.Piece (Elt F) S1x8x128 .f32 :=
  ⟨Rect.unit (s := S1x8x128) ![0, h.val, 0] S1x1x128.size (inb_row h),
    gainGrad (View.readAt (Elt F) arg1.view (Rect.unit (s := S512x1024) ![0, 128 * h.val] ![512, 128] (inb_cols h)).toLoadRect (harg1.unread x0))
      (View.readAt (Elt F) arg2.view (Rect.unit (s := S512x1024) ![0, 128 * h.val] ![512, 128] (inb_cols h)).toLoadRect (harg2.unread x1))
      (View.readAt (Elt F) arg5.view (Rect.unit (s := S8x128x128) ![h.val, 0, 0] ![1, 128, 128] (inb_mix h)).toLoadRect (harg5.unread x4))
      fun k => View.readAt (Elt F) arg3.view (Rect.unit (s := S512x1024) ![128 * k.val, 128 * h.val] ![128, 128] (inb_chunk h k)).toLoadRect (harg3.unread x2)⟩

/-- and in the biases'. -/
def biasPiece (h : Fin 8) : View.Piece (Elt F) S1x8x128x128 .f32 :=
  ⟨Rect.unit (s := S1x8x128x128) ![0, h.val, 0, 0] S1x1x128x128.size (inb_grad h),
    biasGrad (View.readAt (Elt F) arg1.view (Rect.unit (s := S512x1024) ![0, 128 * h.val] ![512, 128] (inb_cols h)).toLoadRect (harg1.unread x0))
      fun k => View.readAt (Elt F) arg3.view (Rect.unit (s := S512x1024) ![128 * k.val, 128 * h.val] ![128, 128] (inb_chunk h k)).toLoadRect (harg3.unread x2)⟩

/-- The latest first. -/
def downTo : List (Fin 8) := [7, 6, 5, 4, 3, 2, 1, 0]

/-- The blocks are stored head by head. -/
theorem gain_pieces : (kernelRun0_A c i arg1 harg1 arg2 harg2 arg3 harg3 arg4 harg4 arg5 harg5 arg6 harg6 arg7 harg7 arg8 harg8 arg9 harg9 arg10 harg10 x0 x1 x2 x3 x4 x5).2.1
   = downTo.map fun h => gainPiece arg1 harg1 arg2 harg2 arg3 harg3 arg5 harg5 x0 x1 x2 x4 h := by
  sl_kernel_rfl

theorem mix_pieces : (kernelRun0_A c i arg1 harg1 arg2 harg2 arg3 harg3 arg4 harg4 arg5 harg5 arg6 harg6 arg7 harg7 arg8 harg8 arg9 harg9 arg10 harg10 x0 x1 x2 x3 x4 x5).2.2.1
   = downTo.map fun h => mixPiece arg1 harg1 arg2 harg2 arg3 harg3 arg4 harg4 x0 x1 x2 x3 h := by
  sl_kernel_rfl

theorem bias_pieces : (kernelRun0_A c i arg1 harg1 arg2 harg2 arg3 harg3 arg4 harg4 arg5 harg5 arg6 harg6 arg7 harg7 arg8 harg8 arg9 harg9 arg10 harg10 x0 x1 x2 x3 x4 x5).2.2.2.1
   = downTo.map fun h => biasPiece arg1 harg1 arg3 harg3 x0 x2 h := by
  sl_kernel_rfl

end Stores

variable (zu zv : FVec Ideal S512x128 .f32) (g : FVec Ideal S1x128 .f32)

/-- Row `i` of chunk `k`. -/
def rowIn (k : Fin 4) (i : Fin 128) : Fin 512 := ⟨128 * k.val + i.val, by have := k.isLt; have := i.isLt; omega⟩

theorem slice_at {φ : FTy} (x : FVec Ideal S512x128 φ) (k : Fin 4) (i d : Fin 128) :
    extractStridedSlice (s := S512x128) S128x128 ![128 * k.val, 0] x (slices_at k) (ix2 i d) = x (ix2 (rowIn k i) d) :=
  extractStridedSlice_apply _ x (slices_at k) (ix2 i d) (ix2 (rowIn k i) d) fun a => by
    match a with
    | ⟨0, _⟩ => rfl
    | ⟨1, _⟩ => show d.val = 0 + d.val; omega

theorem mixed_at (dy : FVec Ideal S128x128 .f32) (k : Fin 4) (t d : Fin 128) :
    mixed (F := Ideal) zu dy k (ix2 t d) = dy (ix2 t d) * gelu (zu (ix2 (rowIn k t) d)) :=
  congrArg (dy (ix2 t d) * ·) (slice_at _ k t d)

/-- The normalised activations. -/
theorem norm_at (i : Fin 512) (d : Fin 128) :
    (k0_pay22 (F := Ideal) zv g (k0_pay12 (F := Ideal) zv) (Scalar.ofBits (F := Ideal) .f32 0x3F000000#32) : FVec Ideal S512x128 .bf16) (ix2 i d)
      = norm (fun e => gelu (zv (ix2 i e))) (fun e => g (ix2 0 e)) d :=
  norm_kernel (fun y => gelu (zv y)) reduces_S512x128_S512 (.inl rfl) rfl shapeCasts_S512_S512x1 broadcasts_S512x1_S512x128 g
    broadcasts_S1x128_S512x128 i d

theorem mask_at (t s : Fin 128) : (k0_pay3 (F := Ideal) : FVec Ideal S128x128 .f32) (ix2 t s) = mask t s := by
  refine Eq.trans ?_ (mask_kernel t s)
  show ((((IntOp.cmpi .sle (iota .tc S128x128 32 [1] iota_S128x128_d1_w32 (ix2 t s)) (iota .tc S128x128 32 [0] iota_S128x128_d0_w32 (ix2 t s))).setWidth 32).toInt : ℝ) : EReal) = _
  rw [iota_single_apply, iota_single_apply]

theorem mixTerm_at (dy : FVec Ideal S128x128 .f32) (k : Fin 4) (t s : Fin 128) : mixTerm (F := Ideal) zu zv g dy k (ix2 t s)
    = ∑ d, dy (ix2 t d) * gelu (zu (ix2 (rowIn k t) d)) * norm (fun e => gelu (zv (ix2 (rowIn k s) e))) (fun e => g (ix2 0 e)) d := by
  refine (Ideal.matmul_transposedRhs_apply (φ₁ := .bf16) (φ₂ := .bf16) (prec := none) ..).trans ?_
  show Ideal.ofBits .f32 0x00000000#32 + _ = _
  rw [Ideal.ofBits_zero_f32, zero_add]
  exact Finset.sum_congr rfl fun d _ => congrArg₂ (· * ·) (mixed_at zu dy k t d) ((slice_at _ k s d).trans (norm_at zv g (rowIn k s) d))

theorem biasTerm_at (dy : FVec Ideal S128x128 .f32) (k : Fin 4) (t : Fin 128) :
    biasTerm (F := Ideal) zu dy k (ix2 t 0) = ∑ d, dy (ix2 t d) * gelu (zu (ix2 (rowIn k t) d)) := by
  refine ((shapeCast_apply _ shapeCasts_S128_S128x1 (ix2 t 0) (ix1 t) ?_).trans (rowSum _ _ reduces_S128x128_S128 (.inl rfl) rfl t)).trans
    (Finset.sum_congr rfl fun d _ => mixed_at zu dy k t d)
  rw [Shape.rowMajor_val_one, Shape.rowMajor_val_two]
  show t.val = t.val * 1 + 0
  omega

/-- A square's place in the stored block. -/
theorem square_at (x : FVec Ideal S128x128 .f32) (t s : Fin 128) :
    shapeCast S1x1x128x128 x shapeCasts_S128x128_S1x1x128x128 (ix4 0 0 t s) = x (ix2 t s) := by
  refine shapeCast_apply x shapeCasts_S128x128_S1x1x128x128 (ix4 0 0 t s) (ix2 t s) ?_
  rw [Shape.rowMajor_val_four, Shape.rowMajor_val_two]
  show t.val * 128 + s.val = ((0 * 1 + 0) * 128 + t.val) * 128 + s.val
  omega

/-- What a head's stores hold. -/
theorem mixGrad_at (dy : Fin 4 → FVec Ideal S128x128 .f32) (t s : Fin 128) : mixGrad (F := Ideal) zu zv g dy (ix4 0 0 t s)
    = (∑ k, ∑ d, dy k (ix2 t d) * gelu (zu (ix2 (rowIn k t) d)) * norm (fun e => gelu (zv (ix2 (rowIn k s) e))) (fun e => g (ix2 0 e)) d) * mask t s := by
  refine (square_at _ t s).trans (congrArg₂ (· * ·) ?_ (mask_at t s))
  rw [Fin.sum_univ_four]
  simp only [← mixTerm_at]
  show Ideal.ofBits .f32 0x00000000#32 + _ + _ + _ + _ = _
  rw [Ideal.ofBits_zero_f32, zero_add]

theorem biasGrad_at (dy : Fin 4 → FVec Ideal S128x128 .f32) (t s : Fin 128) :
    biasGrad (F := Ideal) zu dy (ix4 0 0 t s) = ∑ k, ∑ d, dy k (ix2 t d) * gelu (zu (ix2 (rowIn k t) d)) := by
  refine (square_at _ t s).trans ((Rms.column _ broadcasts_S128x1_S128x128 t s).trans ?_)
  rw [shapeCast_self, Fin.sum_univ_four]
  simp only [← biasTerm_at]
  show Ideal.ofBits .f32 0x00000000#32 + _ + _ + _ + _ = _
  rw [Ideal.ofBits_zero_f32, zero_add]

/-- The masked mixing weights, transposed. -/
theorem weight_at (w : FVec Ideal S1x128x128 .f32) (s t : Fin 128) :
    (k0_pay21 (F := Ideal) (k0_pay3 (F := Ideal)) w : FVec Ideal S128x128 .bf16) (ix2 s t) = w (ix3 0 t s) * mask t s := by
  refine (transpose_apply _ (k0_pay19 (F := Ideal) (k0_pay3 (F := Ideal)) w) transposes_S128x128_p1_0_S128x128 (ix2 s t) (ix2 t s) fun a => by
    match a with | ⟨0, _⟩ => rfl | ⟨1, _⟩ => rfl).trans ?_
  refine congrArg₂ (· * ·) (shapeCast_apply w shapeCasts_S1x128x128_S128x128 (ix2 t s) (ix3 0 t s) ?_) (mask_at t s)
  rw [Shape.rowMajor_val_three, Shape.rowMajor_val_two]
  show (0 * 128 + t.val) * 128 + s.val = t.val * 128 + s.val
  omega

theorem normTerm_at (w : FVec Ideal S1x128x128 .f32) (dy : FVec Ideal S128x128 .f32) (k : Fin 4) (s d : Fin 128) : normTerm (F := Ideal) zu w dy k (ix2 s d)
    = ∑ t, dy (ix2 t d) * gelu (zu (ix2 (rowIn k t) d)) * (w (ix3 0 t s) * mask t s) := by
  refine (Ideal.matmul_plain_apply (φ₁ := .bf16) (φ₂ := .bf16) (prec := none) ..).trans ?_
  show Ideal.ofBits .f32 0x00000000#32 + _ = _
  rw [Ideal.ofBits_zero_f32, zero_add]
  exact Finset.sum_congr rfl fun t _ => (congrArg₂ (· * ·) (weight_at w s t) (mixed_at zu dy k t d)).trans (mul_comm _ _)

theorem gainGrad_at (w : FVec Ideal S1x128x128 .f32) (dy : Fin 4 → FVec Ideal S128x128 .f32) (d : Fin 128) : gainGrad (F := Ideal) zu zv w dy (ix3 0 0 d)
    = ∑ k, ∑ s, unit (fun e => gelu (zv (ix2 (rowIn k s) e))) d * ∑ t, dy k (ix2 t d) * gelu (zu (ix2 (rowIn k t) d)) * (w (ix3 0 t s) * mask t s) := by
  refine (shapeCast_apply _ shapeCasts_S1x128_S1x1x128 (ix3 0 0 d) (ix2 0 d) (by
    rw [Shape.rowMajor_val_three, Shape.rowMajor_val_two]; rfl)).trans ?_
  refine (shapeCast_apply _ shapeCasts_S128_S1x128 (ix2 0 d) (ix1 d) (by
    rw [Shape.rowMajor_val_one, Shape.rowMajor_val_two]; show d.val = 0 * 128 + d.val; omega)).trans ?_
  refine (Rms.colSum _ _ reduces_S512x128_S128 (.inl rfl) rfl d).trans ?_
  refine (Rms.sum_tiles (n := 4) (b := 128) (M := 512) rfl _).symm.trans ?_
  refine Finset.sum_congr rfl fun k _ => Finset.sum_congr rfl fun s _ => ?_
  show mulf _ _ (ix2 (rowIn k s) d) = _
  refine congrArg₂ (· * ·) ?_ (Eq.trans ?_ (normTerm_at zu w (dy k) k s d))
  · exact unit_kernel (fun y => gelu (zv y)) reduces_S512x128_S512 (.inl rfl) rfl shapeCasts_S512_S512x1 broadcasts_S512x1_S512x128 (rowIn k s) d
  · have := s.isLt
    exact concatenate_ofFn_apply (t := S512x128) (s₁ := S128x128) 0 (fun k : Fin 4 => normTerm (F := Ideal) zu w (dy k) k)
      concatenates_S128x128_S128x128_S128x128_S128x128_S512x128_d0 rfl 128 rfl (ix2 (rowIn k s) d) k
      (by show (128 * k.val + s.val) / 128 = k.val; omega) (ix2 s d) (by show s.val = (128 * k.val + s.val) % 128; omega) fun b hb => by
        match b with
        | ⟨0, _⟩ => exact absurd rfl hb
        | ⟨1, _⟩ => rfl

/-- A block stored head by head. -/
theorem stored (f : Fin 8 → FVec Ideal S1x1x128x128 .f32) (L : List (View.Piece (Elt Ideal) S1x8x128x128 .f32))
    (hL : L = downTo.map fun h => ⟨Rect.unit (s := S1x8x128x128) ![0, h.val, 0, 0] S1x1x128x128.size (inb_grad h), f h⟩)
    (hc : ∀ y : S1x8x128x128.Idx, ∃ p ∈ L, y ∈ p.1.set) (h : Fin 8) (t s : Fin 128) :
    View.canon L (ix4 0 h t s) = f h (ix4 0 0 t s) := by
  refine View.canon_apply_of_pieces (fun y : S1x8x128x128.Idx => f (y 1) (ix4 0 0 (y 2) (y 3))) L ?_ _ (hc _)
  intro p hp x
  rw [hL] at hp
  obtain ⟨h, -, rfl⟩ := List.mem_map.mp hp
  obtain ⟨a, b, t, s, rfl⟩ : ∃ (a b : Fin 1) (t s : Fin 128), x = ix4 a b t s := ⟨x 0, x 1, x 2, x 3, eq_ix4 (n0 := 1) (n1 := 1) (n2 := 128) (n3 := 128) x⟩
  obtain rfl : a = 0 := Subsingleton.elim _ _
  obtain rfl : b = 0 := Subsingleton.elim _ _
  have e0 : ((Rect.unit (s := S1x8x128x128) ![0, h.val, 0, 0] S1x1x128x128.size (inb_grad h)).emb (ix4 0 0 t s)) = ix4 0 h t s :=
    funext fun a => Fin.ext ((Rect.idx_unit_val _ _ _ _ a).trans (by
      match a with
      | ⟨0, _⟩ => rfl
      | ⟨1, _⟩ => rfl
      | ⟨2, _⟩ => show 0 + t.val = t.val; omega
      | ⟨3, _⟩ => show 0 + s.val = s.val; omega))
  exact (congrArg (fun y : S1x8x128x128.Idx => f (y 1) (ix4 0 0 (y 2) (y 3))) e0).symm

theorem rows_stored (f : Fin 8 → FVec Ideal S1x1x128 .f32) (L : List (View.Piece (Elt Ideal) S1x8x128 .f32))
    (hL : L = downTo.map fun h => ⟨Rect.unit (s := S1x8x128) ![0, h.val, 0] S1x1x128.size (inb_row h), f h⟩)
    (hc : ∀ y : S1x8x128.Idx, ∃ p ∈ L, y ∈ p.1.set) (h : Fin 8) (d : Fin 128) :
    View.canon L (ix3 0 h d) = f h (ix3 0 0 d) := by
  refine View.canon_apply_of_pieces (fun y : S1x8x128.Idx => f (y 1) (ix3 0 0 (y 2))) L ?_ _ (hc _)
  intro p hp x
  rw [hL] at hp
  obtain ⟨h, -, rfl⟩ := List.mem_map.mp hp
  obtain ⟨a, b, d, rfl⟩ : ∃ (a b : Fin 1) (d : Fin 128), x = ix3 a b d := ⟨x 0, x 1, x 2, eq_ix3 (n0 := 1) (n1 := 1) (n2 := 128) x⟩
  obtain rfl : a = 0 := Subsingleton.elim _ _
  obtain rfl : b = 0 := Subsingleton.elim _ _
  have e0 : ((Rect.unit (s := S1x8x128) ![0, h.val, 0] S1x1x128.size (inb_row h)).emb (ix3 0 0 d)) = ix3 0 h d :=
    funext fun a => Fin.ext ((Rect.idx_unit_val _ _ _ _ a).trans (by
      match a with
      | ⟨0, _⟩ => rfl
      | ⟨1, _⟩ => rfl
      | ⟨2, _⟩ => show 0 + d.val = d.val; omega))
  exact (congrArg (fun y : S1x8x128.Idx => f (y 1) (ix3 0 0 (y 2))) e0).symm

section Block
variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S8x128 .f32) (harg4 : arg4.IsWhole) (arg5 : Memref sig .tc .vmem S8x128x128 .f32) (harg5 : arg5.IsWhole) (arg6 : Memref sig .tc .vmem S128x8 .f32) (harg6 : arg6.IsWhole) (arg7 : Memref sig .tc .vmem S512x2048 .bf16) (harg7 : arg7.IsWhole) (arg8 : Memref sig .tc .vmem S1x8x128 .f32) (harg8 : arg8.IsWhole) (arg9 : Memref sig .tc .vmem S1x8x128x128 .f32) (harg9 : arg9.IsWhole) (arg10 : Memref sig .tc .vmem S1x8x128x128 .f32) (harg10 : arg10.IsWhole)
    (x0 x1 x2 : FVec Ideal S512x1024 .f32) (x3 : FVec Ideal S8x128 .f32) (x4 : FVec Ideal S8x128x128 .f32) (x5 : FVec Ideal S128x8 .f32)

/-! What the stores read. -/

theorem cols_at (arg : Memref sig .tc .vmem S512x1024 .f32) (harg : arg.IsWhole) (x : FVec Ideal S512x1024 .f32) (h : Fin 8) (r : Fin 512) (d : Fin 128) :
    View.readAt (Elt Ideal) arg.view (Rect.unit (s := S512x1024) ![0, 128 * h.val] ![512, 128] (inb_cols h)).toLoadRect (harg.unread x) (ix2 r d)
      = x (ix2 r (colH h d)) := by
  simp only [View.readAt_eq_ld, Memref.IsWhole.read_unread]
  exact View.ld_unit_apply_of (Val := Elt Ideal) (e := .f32) (S := S512x1024) x _ _ _ _ _ fun a => by match a with | ⟨0, _⟩ => show r.val = 0 + r.val; omega | ⟨1, _⟩ => rfl
theorem chunk_at (h : Fin 8) (k : Fin 4) (t d : Fin 128) :
    View.readAt (Elt Ideal) arg3.view (Rect.unit (s := S512x1024) ![128 * k.val, 128 * h.val] ![128, 128] (inb_chunk h k)).toLoadRect (harg3.unread x2) (ix2 t d)
      = x2 (ix2 (rowIn k t) (colH h d)) := by
  simp only [View.readAt_eq_ld, Memref.IsWhole.read_unread]
  exact View.ld_unit_apply_of (Val := Elt Ideal) (e := .f32) (S := S512x1024) x2 _ _ _ _ _ fun a => by match a with | ⟨0, _⟩ => rfl | ⟨1, _⟩ => rfl
theorem gain_at (h : Fin 8) (d : Fin 128) :
    View.readAt (Elt Ideal) arg4.view (Rect.unit (s := S8x128) ![h.val, 0] ![1, 128] (inb_gain h)).toLoadRect (harg4.unread x3) (ix2 0 d) = x3 (ix2 h d) := by
  simp only [View.readAt_eq_ld, Memref.IsWhole.read_unread]
  exact View.ld_unit_apply_of (Val := Elt Ideal) (e := .f32) (S := S8x128) x3 _ _ _ _ _ fun a => by match a with | ⟨0, _⟩ => rfl | ⟨1, _⟩ => show d.val = 0 + d.val; omega

theorem weights_at (h : Fin 8) (t s : Fin 128) :
    View.readAt (Elt Ideal) arg5.view (Rect.unit (s := S8x128x128) ![h.val, 0, 0] ![1, 128, 128] (inb_mix h)).toLoadRect (harg5.unread x4) (ix3 0 t s) = x4 (ix3 h t s) := by
  simp only [View.readAt_eq_ld, Memref.IsWhole.read_unread]
  exact View.ld_unit_apply_of (Val := Elt Ideal) (e := .f32) (S := S8x128x128) x4 _ _ _ _ _ fun a => by
    match a with | ⟨0, _⟩ => rfl | ⟨1, _⟩ => show t.val = 0 + t.val; omega | ⟨2, _⟩ => show s.val = 0 + s.val; omega

/-- The blocks a point of the grid leaves: of the gain's gradient, -/
theorem gain_out (h : Fin 8) (d : Fin 128) :
    out0_A_7 (F := Ideal) c i arg1 harg1 arg2 harg2 arg3 harg3 arg4 harg4 arg5 harg5 arg6 harg6 arg7 harg7 arg8 harg8 arg9 harg9 arg10 harg10 x0 x1 x2 x3 x4 x5 (ix3 0 h d)
      = ∑ k, ∑ s, unit (fun e => gelu (x1 (ix2 (rowIn k s) (colH h e)))) d
        * ∑ t, x2 (ix2 (rowIn k t) (colH h d)) * gelu (x0 (ix2 (rowIn k t) (colH h d))) * (x4 (ix3 h t s) * mask t s) := by
  unfold out0_A_7
  have hp := gain_pieces (F := Ideal) c i arg1 harg1 arg2 harg2 arg3 harg3 arg4 harg4 arg5 harg5 arg6 harg6 arg7 harg7 arg8 harg8 arg9 harg9 arg10 harg10 x0 x1 x2 x3 x4 x5
  have hc := cover0_A_7 (F := Ideal) c i arg1 harg1 arg2 harg2 arg3 harg3 arg4 harg4 arg5 harg5 arg6 harg6 arg7 harg7 arg8 harg8 arg9 harg9 arg10 harg10 x0 x1 x2 x3 x4 x5
  generalize (kernelRun0_A (F := Ideal) c i arg1 harg1 arg2 harg2 arg3 harg3 arg4 harg4 arg5 harg5 arg6 harg6 arg7 harg7 arg8 harg8 arg9 harg9 arg10 harg10 x0 x1 x2 x3 x4 x5).2.1 = L at hp hc ⊢
  refine (congrFun (View.read_writes_junk_eq_canon _ _) _).trans ((rows_stored _ L hp hc h d).trans ((gainGrad_at _ _ _ _ d).trans ?_))
  simp only [cols_at, chunk_at, weights_at]

/-- of the mixing weights', -/
theorem mix_out (h : Fin 8) (t s : Fin 128) :
    out0_A_8 (F := Ideal) c i arg1 harg1 arg2 harg2 arg3 harg3 arg4 harg4 arg5 harg5 arg6 harg6 arg7 harg7 arg8 harg8 arg9 harg9 arg10 harg10 x0 x1 x2 x3 x4 x5 (ix4 0 h t s)
      = (∑ k, ∑ d, x2 (ix2 (rowIn k t) (colH h d)) * gelu (x0 (ix2 (rowIn k t) (colH h d)))
        * norm (fun e => gelu (x1 (ix2 (rowIn k s) (colH h e)))) (fun e => x3 (ix2 h e)) d) * mask t s := by
  unfold out0_A_8
  have hp := mix_pieces (F := Ideal) c i arg1 harg1 arg2 harg2 arg3 harg3 arg4 harg4 arg5 harg5 arg6 harg6 arg7 harg7 arg8 harg8 arg9 harg9 arg10 harg10 x0 x1 x2 x3 x4 x5
  have hc := cover0_A_8 (F := Ideal) c i arg1 harg1 arg2 harg2 arg3 harg3 arg4 harg4 arg5 harg5 arg6 harg6 arg7 harg7 arg8 harg8 arg9 harg9 arg10 harg10 x0 x1 x2 x3 x4 x5
  generalize (kernelRun0_A (F := Ideal) c i arg1 harg1 arg2 harg2 arg3 harg3 arg4 harg4 arg5 harg5 arg6 harg6 arg7 harg7 arg8 harg8 arg9 harg9 arg10 harg10 x0 x1 x2 x3 x4 x5).2.2.1 = L at hp hc ⊢
  refine (congrFun (View.read_writes_junk_eq_canon _ _) _).trans ((stored _ L hp hc h t s).trans ((mixGrad_at _ _ _ _ t s).trans ?_))
  simp only [cols_at, chunk_at, gain_at]

/-- and of the biases'. -/
theorem bias_out (h : Fin 8) (t s : Fin 128) :
    out0_A_9 (F := Ideal) c i arg1 harg1 arg2 harg2 arg3 harg3 arg4 harg4 arg5 harg5 arg6 harg6 arg7 harg7 arg8 harg8 arg9 harg9 arg10 harg10 x0 x1 x2 x3 x4 x5 (ix4 0 h t s)
      = ∑ k, ∑ d, x2 (ix2 (rowIn k t) (colH h d)) * gelu (x0 (ix2 (rowIn k t) (colH h d))) := by
  unfold out0_A_9
  have hp := bias_pieces (F := Ideal) c i arg1 harg1 arg2 harg2 arg3 harg3 arg4 harg4 arg5 harg5 arg6 harg6 arg7 harg7 arg8 harg8 arg9 harg9 arg10 harg10 x0 x1 x2 x3 x4 x5
  have hc := cover0_A_9 (F := Ideal) c i arg1 harg1 arg2 harg2 arg3 harg3 arg4 harg4 arg5 harg5 arg6 harg6 arg7 harg7 arg8 harg8 arg9 harg9 arg10 harg10 x0 x1 x2 x3 x4 x5
  generalize (kernelRun0_A (F := Ideal) c i arg1 harg1 arg2 harg2 arg3 harg3 arg4 harg4 arg5 harg5 arg6 harg6 arg7 harg7 arg8 harg8 arg9 harg9 arg10 harg10 x0 x1 x2 x3 x4 x5).2.2.2.1 = L at hp hc ⊢
  refine (congrFun (View.read_writes_junk_eq_canon _ _) _).trans ((stored _ L hp hc h t s).trans ((biasGrad_at _ _ t s).trans ?_))
  simp only [cols_at, chunk_at]

end Block

/-! ## The arrays -/

variable (m : (ℓ : Loc nD τ sig) → Buf (Elt Ideal) ℓ) (c : Dev nD)

/-- The projection, the gradient of the rows it goes into, the normalisation's gain and the mixing weights. -/
abbrev argZ : FVec Ideal S2048x3584 .f32 := m ((c : Thread nD τ).loc main_arg0)
abbrev argD : FVec Ideal S2048x2048 .f32 := m ((c : Thread nD τ).loc main_arg1)
abbrev argG : FVec Ideal S8x128 .f32 := m ((c : Thread nD τ).loc main_arg2)
abbrev argW : FVec Ideal S8x128x128 .f32 := m ((c : Thread nD τ).loc main_arg3)

/-- Where the windows lie at each point. -/
theorem places : ∀ t : Fin grid0.N, (win0_0.index t 0 = t.val ∧ win0_0.index t 1 = 0) ∧ (win0_1.index t 0 = t.val ∧ win0_1.index t 1 = 1)
    ∧ (win0_2.index t 0 = t.val ∧ win0_2.index t 1 = 0) ∧ (win0_3.index t 0 = 0 ∧ win0_3.index t 1 = 0)
    ∧ (win0_4.index t 0 = 0 ∧ win0_4.index t 1 = 0 ∧ win0_4.index t 2 = 0)
    ∧ (win0_7.index t 0 = t.val ∧ win0_7.index t 1 = 0 ∧ win0_7.index t 2 = 0)
    ∧ (win0_8.index t 0 = t.val ∧ win0_8.index t 1 = 0 ∧ win0_8.index t 2 = 0 ∧ win0_8.index t 3 = 0)
    ∧ win0_9.index t 0 = t.val ∧ win0_9.index t 1 = 0 ∧ win0_9.index t 2 = 0 ∧ win0_9.index t 3 = 0 := by decide +kernel

/-- Row `i` of chunk `k` in point `t`'s block, as a row of the whole. -/
abbrev rowOf (t : Fin cfg0.N) (k : Fin 4) (i : Fin 128) : Fin 2048 := rowAt (chunk (t.cast N_0) k) i

theorem block_u (t : Fin cfg0.N) (k : Fin 4) (i : Fin 128) (h : Fin 8) (d : Fin 128) :
    (X0_0 m c t : FVec Ideal S512x1024 .f32) (ix2 (rowIn k i) (colH h d)) = argZ m c (ix2 (rowOf t k i) (colU h d)) := by
  have hi := (places t).1
  unfold X0_0 Pipeline.Window.fill
  rw [dif_pos (moved0_0 t _)]
  unfold iblk
  rw [View.read_apply]
  refine (congrArg (V m c main_arg0) (?_ : _ = ix2 (rowOf t k i) (colU h d))).trans (congrFun (V_main_arg0 m c) _)
  funext a
  apply Fin.ext
  match a with
  | ⟨0, _⟩ => show win0_0.index t 0 * 512 + 1 * (128 * k.val + i.val) = 128 * (4 * t.val + k.val) + i.val; rw [hi.1]; omega
  | ⟨1, _⟩ => show win0_0.index t 1 * 1024 + 1 * (128 * h.val + d.val) = 128 * h.val + d.val; rw [hi.2]; omega

theorem block_v (t : Fin cfg0.N) (k : Fin 4) (i : Fin 128) (h : Fin 8) (d : Fin 128) :
    (X0_1 m c t : FVec Ideal S512x1024 .f32) (ix2 (rowIn k i) (colH h d)) = argZ m c (ix2 (rowOf t k i) (colV h d)) := by
  have hi := (places t).2.1
  unfold X0_1 Pipeline.Window.fill
  rw [dif_pos (moved0_1 t _)]
  unfold iblk
  rw [View.read_apply]
  refine (congrArg (V m c main_arg0) (?_ : _ = ix2 (rowOf t k i) (colV h d))).trans (congrFun (V_main_arg0 m c) _)
  funext a
  apply Fin.ext
  match a with
  | ⟨0, _⟩ => show win0_1.index t 0 * 512 + 1 * (128 * k.val + i.val) = 128 * (4 * t.val + k.val) + i.val; rw [hi.1]; omega
  | ⟨1, _⟩ => show win0_1.index t 1 * 1024 + 1 * (128 * h.val + d.val) = 1024 + (128 * h.val + d.val); rw [hi.2]; omega

theorem block_d (t : Fin cfg0.N) (k : Fin 4) (i : Fin 128) (h : Fin 8) (d : Fin 128) :
    (iblk m c 2 t : FVec Ideal S512x1024 .f32) (ix2 (rowIn k i) (colH h d)) = argD m c (ix2 (rowOf t k i) (colD h d)) := by
  have hi := (places t).2.2.1
  unfold iblk
  rw [View.read_apply]
  refine (congrArg (V m c main_arg1) (?_ : _ = ix2 (rowOf t k i) (colD h d))).trans (congrFun (V_main_arg1 m c) _)
  funext a
  apply Fin.ext
  match a with
  | ⟨0, _⟩ => show win0_2.index t 0 * 512 + 1 * (128 * k.val + i.val) = 128 * (4 * t.val + k.val) + i.val; rw [hi.1]; omega
  | ⟨1, _⟩ => show win0_2.index t 1 * 1024 + 1 * (128 * h.val + d.val) = 128 * h.val + d.val; rw [hi.2]; omega

theorem block_g (t : Fin cfg0.N) : (iblk m c 3 t : FVec Ideal S8x128 .f32) = argG m c := by
  have hi := (places t).2.2.2.1
  funext y
  unfold iblk
  rw [View.read_apply]
  refine (congrArg (V m c main_arg2) (?_ : _ = y)).trans (congrFun (V_main_arg2 m c) _)
  funext a
  apply Fin.ext
  match a with
  | ⟨0, _⟩ => show win0_3.index t 0 * 8 + 1 * (y 0).val = (y 0).val; rw [hi.1]; omega
  | ⟨1, _⟩ => show win0_3.index t 1 * 128 + 1 * (y 1).val = (y 1).val; rw [hi.2]; omega

theorem block_w (t : Fin cfg0.N) : (iblk m c 4 t : FVec Ideal S8x128x128 .f32) = argW m c := by
  have hi := (places t).2.2.2.2.1
  funext y
  unfold iblk
  rw [View.read_apply]
  refine (congrArg (V m c main_arg3) (?_ : _ = y)).trans (congrFun (V_main_arg3 m c) _)
  funext a
  apply Fin.ext
  match a with
  | ⟨0, _⟩ => show win0_4.index t 0 * 8 + 1 * (y 0).val = (y 0).val; rw [hi.1]; omega
  | ⟨1, _⟩ => show win0_4.index t 1 * 128 + 1 * (y 1).val = (y 1).val; rw [hi.2.1]; omega
  | ⟨2, _⟩ => show win0_4.index t 2 * 128 + 1 * (y 2).val = (y 2).val; rw [hi.2.2]; omega

/-- The blocks of the gain's gradient after the kernel, -/
theorem final7 : (dats m 0 c).arrAt 7 cfg0.N = gainTiles (argZ m c) (argD m c) (argW m c) := by
  refine (dats m 0 c).arrAt_eq_of_cover 7 (gainTiles (argZ m c) (argD m c) (argW m c)) (fun t _ => ?_) fun i => ?_
  · have hi := (places t).2.2.2.2.2.1
    show (cfg0.win 7).cut (grid0.coords t) ((dats m 0 c).after 7 t) = _
    rw [after0_7]
    funext j
    rw [View.read_apply]
    obtain ⟨a, h, d, rfl⟩ : ∃ (a : Fin 1) (h : Fin 8) (d : Fin 128), j = ix3 a h d := ⟨j 0, j 1, j 2, eq_ix3 (n0 := 1) (n1 := 8) (n2 := 128) j⟩
    obtain rfl : a = 0 := Subsingleton.elim _ _
    have e : ((outsAt0 m c t).2.1 : FVec Ideal S1x8x128 .f32) (ix3 0 h d)
        = gainTiles (argZ m c) (argD m c) (argW m c) (ix3 (t.cast N_0) h d) := by
      unfold outsAt0
      dsimp only
      refine (gain_out _ _ _ _ _ _ _ _ _ _ _ _ _ _ _ _ _ _ _ _ _ _ _ _ _ _ _ _ h d).trans ?_
      simp only [block_u, block_v, block_d, block_w]
      rfl
    refine Eq.trans e (congrArg (gainTiles (argZ m c) (argD m c) (argW m c)) (funext fun a => Fin.ext ?_))
    match a with
    | ⟨0, _⟩ => show t.val = win0_7.index t 0 * 1 + 1 * 0; rw [hi.1]; omega
    | ⟨1, _⟩ => show h.val = win0_7.index t 1 * 8 + 1 * h.val; rw [hi.2.1]; omega
    | ⟨2, _⟩ => show d.val = win0_7.index t 2 * 128 + 1 * d.val; rw [hi.2.2]; omega
  · have hN : cfg0.N = 4 := N_0
    have hb : (i 0).val < 4 := (i 0).isLt
    have hb1 : (i 1).val < 8 := (i 1).isLt
    have hb2 : (i 2).val < 128 := (i 2).isLt
    obtain ⟨t, ht⟩ : ∃ t : Fin cfg0.N, t.val = (i 0).val := ⟨⟨(i 0).val, by omega⟩, rfl⟩
    have hi := (places t).2.2.2.2.2.1
    refine ⟨t, flush0_7 t, ?_⟩
    show i ∈ ((View.whole main_v1_1).slice (win0_7.rect t)).set
    rw [View.set_slice_whole, Rect.mem_set_unit]
    intro a
    match a with
    | ⟨0, _⟩ => show win0_7.index t 0 * 1 ≤ (i 0).val ∧ (i 0).val < win0_7.index t 0 * 1 + 1; rw [hi.1]; omega
    | ⟨1, _⟩ => show win0_7.index t 1 * 8 ≤ (i 1).val ∧ (i 1).val < win0_7.index t 1 * 8 + 8; rw [hi.2.1]; omega
    | ⟨2, _⟩ => show win0_7.index t 2 * 128 ≤ (i 2).val ∧ (i 2).val < win0_7.index t 2 * 128 + 128; rw [hi.2.2]; omega

/-- of the mixing weights', -/
theorem final8 : (dats m 0 c).arrAt 8 cfg0.N = mixTiles (argZ m c) (argD m c) (argG m c) := by
  refine (dats m 0 c).arrAt_eq_of_cover 8 (mixTiles (argZ m c) (argD m c) (argG m c)) (fun t _ => ?_) fun i => ?_
  · have hi := (places t).2.2.2.2.2.2.1
    show (cfg0.win 8).cut (grid0.coords t) ((dats m 0 c).after 8 t) = _
    rw [after0_8]
    funext j
    rw [View.read_apply]
    obtain ⟨a, h, r, s, rfl⟩ : ∃ (a : Fin 1) (h : Fin 8) (r s : Fin 128), j = ix4 a h r s :=
      ⟨j 0, j 1, j 2, j 3, eq_ix4 (n0 := 1) (n1 := 8) (n2 := 128) (n3 := 128) j⟩
    obtain rfl : a = 0 := Subsingleton.elim _ _
    have e : ((outsAt0 m c t).2.2.1 : FVec Ideal S1x8x128x128 .f32) (ix4 0 h r s)
        = mixTiles (argZ m c) (argD m c) (argG m c) (ix4 (t.cast N_0) h r s) := by
      unfold outsAt0
      dsimp only
      refine (mix_out _ _ _ _ _ _ _ _ _ _ _ _ _ _ _ _ _ _ _ _ _ _ _ _ _ _ _ _ h r s).trans ?_
      simp only [block_u, block_v, block_d, block_g]
      rfl
    refine Eq.trans e (congrArg (mixTiles (argZ m c) (argD m c) (argG m c)) (funext fun a => Fin.ext ?_))
    match a with
    | ⟨0, _⟩ => show t.val = win0_8.index t 0 * 1 + 1 * 0; rw [hi.1]; omega
    | ⟨1, _⟩ => show h.val = win0_8.index t 1 * 8 + 1 * h.val; rw [hi.2.1]; omega
    | ⟨2, _⟩ => show r.val = win0_8.index t 2 * 128 + 1 * r.val; rw [hi.2.2.1]; omega
    | ⟨3, _⟩ => show s.val = win0_8.index t 3 * 128 + 1 * s.val; rw [hi.2.2.2]; omega
  · have hN : cfg0.N = 4 := N_0
    have hb : (i 0).val < 4 := (i 0).isLt
    have hb1 : (i 1).val < 8 := (i 1).isLt
    have hb2 : (i 2).val < 128 := (i 2).isLt
    have hb3 : (i 3).val < 128 := (i 3).isLt
    obtain ⟨t, ht⟩ : ∃ t : Fin cfg0.N, t.val = (i 0).val := ⟨⟨(i 0).val, by omega⟩, rfl⟩
    have hi := (places t).2.2.2.2.2.2.1
    refine ⟨t, flush0_8 t, ?_⟩
    show i ∈ ((View.whole main_v1_2).slice (win0_8.rect t)).set
    rw [View.set_slice_whole, Rect.mem_set_unit]
    intro a
    match a with
    | ⟨0, _⟩ => show win0_8.index t 0 * 1 ≤ (i 0).val ∧ (i 0).val < win0_8.index t 0 * 1 + 1; rw [hi.1]; omega
    | ⟨1, _⟩ => show win0_8.index t 1 * 8 ≤ (i 1).val ∧ (i 1).val < win0_8.index t 1 * 8 + 8; rw [hi.2.1]; omega
    | ⟨2, _⟩ => show win0_8.index t 2 * 128 ≤ (i 2).val ∧ (i 2).val < win0_8.index t 2 * 128 + 128; rw [hi.2.2.1]; omega
    | ⟨3, _⟩ => show win0_8.index t 3 * 128 ≤ (i 3).val ∧ (i 3).val < win0_8.index t 3 * 128 + 128; rw [hi.2.2.2]; omega

/-- and of the biases'. -/
theorem final9 : (dats m 0 c).arrAt 9 cfg0.N = biasTiles (argZ m c) (argD m c) := by
  refine (dats m 0 c).arrAt_eq_of_cover 9 (biasTiles (argZ m c) (argD m c)) (fun t _ => ?_) fun i => ?_
  · have hi := (places t).2.2.2.2.2.2.2
    show (cfg0.win 9).cut (grid0.coords t) ((dats m 0 c).after 9 t) = _
    rw [after0_9]
    funext j
    rw [View.read_apply]
    obtain ⟨a, h, r, s, rfl⟩ : ∃ (a : Fin 1) (h : Fin 8) (r s : Fin 128), j = ix4 a h r s :=
      ⟨j 0, j 1, j 2, j 3, eq_ix4 (n0 := 1) (n1 := 8) (n2 := 128) (n3 := 128) j⟩
    obtain rfl : a = 0 := Subsingleton.elim _ _
    have e : ((outsAt0 m c t).2.2.2 : FVec Ideal S1x8x128x128 .f32) (ix4 0 h r s)
        = biasTiles (argZ m c) (argD m c) (ix4 (t.cast N_0) h r s) := by
      unfold outsAt0
      dsimp only
      refine (bias_out _ _ _ _ _ _ _ _ _ _ _ _ _ _ _ _ _ _ _ _ _ _ _ _ _ _ _ _ h r s).trans ?_
      simp only [block_u, block_d]
      rfl
    refine Eq.trans e (congrArg (biasTiles (argZ m c) (argD m c)) (funext fun a => Fin.ext ?_))
    match a with
    | ⟨0, _⟩ => show t.val = win0_9.index t 0 * 1 + 1 * 0; rw [hi.1]; omega
    | ⟨1, _⟩ => show h.val = win0_9.index t 1 * 8 + 1 * h.val; rw [hi.2.1]; omega
    | ⟨2, _⟩ => show r.val = win0_9.index t 2 * 128 + 1 * r.val; rw [hi.2.2.1]; omega
    | ⟨3, _⟩ => show s.val = win0_9.index t 3 * 128 + 1 * s.val; rw [hi.2.2.2]; omega
  · have hN : cfg0.N = 4 := N_0
    have hb : (i 0).val < 4 := (i 0).isLt
    have hb1 : (i 1).val < 8 := (i 1).isLt
    have hb2 : (i 2).val < 128 := (i 2).isLt
    have hb3 : (i 3).val < 128 := (i 3).isLt
    obtain ⟨t, ht⟩ : ∃ t : Fin cfg0.N, t.val = (i 0).val := ⟨⟨(i 0).val, by omega⟩, rfl⟩
    have hi := (places t).2.2.2.2.2.2.2
    refine ⟨t, flush0_9 t, ?_⟩
    show i ∈ ((View.whole main_v1_3).slice (win0_9.rect t)).set
    rw [View.set_slice_whole, Rect.mem_set_unit]
    intro a
    match a with
    | ⟨0, _⟩ => show win0_9.index t 0 * 1 ≤ (i 0).val ∧ (i 0).val < win0_9.index t 0 * 1 + 1; rw [hi.1]; omega
    | ⟨1, _⟩ => show win0_9.index t 1 * 8 ≤ (i 1).val ∧ (i 1).val < win0_9.index t 1 * 8 + 8; rw [hi.2.1]; omega
    | ⟨2, _⟩ => show win0_9.index t 2 * 128 ≤ (i 2).val ∧ (i 2).val < win0_9.index t 2 * 128 + 128; rw [hi.2.2.1]; omega
    | ⟨3, _⟩ => show win0_9.index t 3 * 128 ≤ (i 3).val ∧ (i 3).val < win0_9.index t 3 * 128 + 128; rw [hi.2.2.2]; omega

/-- An array the kernel writes, as the host finds it. -/
theorem left (w : Fin 10) :
    Pipeline.withArrays spec0 c (V0 m c) (fun w => (dats m 0 c).arrAt w (cfgs 0).N) (Pipeline.arrRef spec0 w) = (dats m 0 c).arrAt w cfg0.N :=
  Pipeline.withArrays_arr_shared spec0 c (V0 m c) (fun w => (dats m 0 c).arrAt w (cfgs 0).N) (fun w w' hne e => by
    have hs : ∀ w w' : Fin 10, w ≠ w' → Pipeline.arrRef spec0 w = Pipeline.arrRef spec0 w' → w = 0 ∨ w = 1 := by decide
    rcases hs w w' hne e with rfl | rfl
    · exact ((dats m 0 c).arrAt_in 0 rfl _).trans (A_eq m c 0)
    · exact ((dats m 0 c).arrAt_in 1 rfl _).trans (A_eq m c 1)) w

/-- The host adds the blocks up: to the gain's gradient, -/
theorem tail_gain : (Pipeline.afterTail₀ cfgs (dats m) 0 (V0 m) [hostOps1] c main_v2 : FVec Ideal S8x128 .f32)
    = dGain (argZ m c) (argD m c) (argW m c) := by
  have e : (Pipeline.afterTail₀ cfgs (dats m) 0 (V0 m) [hostOps1] c main_v2 : FVec Ideal S8x128 .f32)
      = Host.reduceAdd (gainTiles (argZ m c) (argD m c) (argW m c)) (constant S_ .f32 0x00000000#32) reducesTo_S4x8x128_S8x128_d0 h_S_ := by
    have hw := left m c 7
    show StableHlo.after hostOps1 _ _ = _
    after_results_simp
    exact congrArg (fun x => Host.reduceAdd (F := Ideal) x (constant S_ .f32 0x00000000#32) reducesTo_S4x8x128_S8x128_d0 h_S_)
      (hw.trans (final7 m c))
  refine e.trans (funext fun y => ?_)
  refine (Ideal.hostReduceAdd_r3_a0 reducesTo_S4x8x128_S8x128_d0 _ (Ideal.ofBits .f32 0x00000000#32) y).trans ?_
  rw [Ideal.ofBits_zero_f32, zero_add]
  exact sum_chunk (gainPart (argZ m c) (argD m c) (argW m c) (y 0) (y 1))

/-- to the mixing weights', -/
theorem tail_mix : (Pipeline.afterTail₀ cfgs (dats m) 0 (V0 m) [hostOps1] c main_v3 : FVec Ideal S8x128x128 .f32)
    = dMix (argZ m c) (argD m c) (argG m c) := by
  have e : (Pipeline.afterTail₀ cfgs (dats m) 0 (V0 m) [hostOps1] c main_v3 : FVec Ideal S8x128x128 .f32)
      = Host.reduceAdd (mixTiles (argZ m c) (argD m c) (argG m c)) (constant S_ .f32 0x00000000#32) reducesTo_S4x8x128x128_S8x128x128_d0 h_S_ := by
    have hw := left m c 8
    show StableHlo.after hostOps1 _ _ = _
    after_results_simp
    exact congrArg (fun x => Host.reduceAdd (F := Ideal) x (constant S_ .f32 0x00000000#32) reducesTo_S4x8x128x128_S8x128x128_d0 h_S_)
      (hw.trans (final8 m c))
  refine e.trans (funext fun y => ?_)
  refine (Ideal.hostReduceAdd_r4_a0 reducesTo_S4x8x128x128_S8x128x128_d0 _ (Ideal.ofBits .f32 0x00000000#32) y).trans ?_
  rw [Ideal.ofBits_zero_f32, zero_add]
  refine (sum_mask (fun i : Fin 4 => ∑ k, mixPart (argZ m c) (argD m c) (argG m c) (y 0) (y 1) (y 2) (chunk i k)) (y 1) (y 2)).trans ?_
  rw [sum_chunk]
  rfl

/-- and, from one of the lanes, to the biases'. -/
theorem tail_bias : (Pipeline.afterTail₀ cfgs (dats m) 0 (V0 m) [hostOps1] c main_v6 : FVec Ideal S8x128 .f32) = dBias (argZ m c) (argD m c) := by
  have e : (Pipeline.afterTail₀ cfgs (dats m) 0 (V0 m) [hostOps1] c main_v6 : FVec Ideal S8x128 .f32)
      = Host.reduceAdd (shapeCast S4x8x128 (extractStridedSlice S4x8x128x1 ![0, 0, 0, 0] (biasTiles (argZ m c) (argD m c))
        slices_S4x8x128x128_S4x8x128x1_0_0_0_0) shapeCasts_S4x8x128x1_S4x8x128) (constant S_ .f32 0x00000000#32) reducesTo_S4x8x128_S8x128_d0 h_S_ := by
    have hw := left m c 9
    show StableHlo.after hostOps1 _ _ = _
    after_results_simp
    refine congrArg (fun x : FVec Ideal S4x8x128 .f32 => Host.reduceAdd (F := Ideal) x (constant S_ .f32 0x00000000#32) reducesTo_S4x8x128_S8x128_d0 h_S_) ?_
    exact congrArg (fun x : FVec Ideal S4x8x128x128 .f32 => shapeCast S4x8x128 (extractStridedSlice S4x8x128x1 ![0, 0, 0, 0] x
      slices_S4x8x128x128_S4x8x128x1_0_0_0_0) shapeCasts_S4x8x128x1_S4x8x128) (hw.trans (final9 m c))
  refine e.trans (funext fun y => ?_)
  refine (Ideal.hostReduceAdd_r3_a0 reducesTo_S4x8x128_S8x128_d0 _ (Ideal.ofBits .f32 0x00000000#32) y).trans ?_
  rw [Ideal.ofBits_zero_f32, zero_add]
  refine Eq.trans (Finset.sum_congr rfl fun i _ => ?_) (sum_chunk (biasPart (argZ m c) (argD m c) (y 0) (y 1)))
  refine (shapeCast_apply _ shapeCasts_S4x8x128x1_S4x8x128 (ix3 i (y 0) (y 1)) (ix4 i (y 0) (y 1) 0) ?_).trans
    (extractStridedSlice_apply _ _ slices_S4x8x128x128_S4x8x128x1_0_0_0_0 (ix4 i (y 0) (y 1) 0) (ix4 i (y 0) (y 1) 0) fun a => ?_)
  · rw [Shape.rowMajor_val_four, Shape.rowMajor_val_three]
    show ((i.val * 8 + (y 0).val) * 128 + (y 1).val) * 1 + 0 = (i.val * 8 + (y 0).val) * 128 + (y 1).val
    omega
  · match a with
    | ⟨0, _⟩ => show i.val = 0 + i.val; omega
    | ⟨1, _⟩ => show (y 0).val = 0 + (y 0).val; omega
    | ⟨2, _⟩ => show (y 1).val = 0 + (y 1).val; omega
    | ⟨3, _⟩ => rfl

/-- What the run leaves in the results, and that the arguments stay. -/
theorem values (ρ : Dev nD → PrngReg) : θ_run (defs (F := Ideal)) (onTc (τ := τ) (main (F := Ideal))) ⟨m, fun _ => 0, ρ⟩ (fun r => ∀ c : Dev nD,
    r.2.mem ((c.tc : Thread nD τ).loc main_v2) = dGain (argZ m c) (argD m c) (argW m c)
    ∧ r.2.mem ((c.tc : Thread nD τ).loc main_v3) = dMix (argZ m c) (argD m c) (argG m c)
    ∧ r.2.mem ((c.tc : Thread nD τ).loc main_v6) = dBias (argZ m c) (argD m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c =>
      ⟨(h.1 c).2 main_v2 (Pipeline.mem_restRefs_of main_v2 (by decide) (by decide)) |>.trans (tail_gain m c),
        (h.1 c).2 main_v3 (Pipeline.mem_restRefs_of main_v3 (by decide) (by decide)) |>.trans (tail_mix m c),
        (h.1 c).2 main_v6 (Pipeline.mem_restRefs_of main_v6 (by decide) (by decide)) |>.trans (tail_bias m c), h.2 c⟩)
    (θ_run_and (run_main m ρ) (unchanged m ρ))

end Cert.GmlpBwdIdeal.Ker

end
-- ==== Proof.GmlpBwdClaim.lean ====
/- The gate's backward call: the reference's values, and the claims. The values the forward reference has too are
   taken from it. -/
module

public import proofs.«01_k».proof.Proof.GmlpBwd
public import proofs.«01_k».proof.Proof.GmlpFwdClaim
public import proofs.«01_k».proof.Proof.Gen.GmlpBwd.Frame
public import proofs.«01_k».proof.Proof.Gen.GmlpBwdRefIdeal.Read
public import proofs.«01_k».proof.Defs

@[expose] public section

set_option maxRecDepth 16384

noncomputable section

namespace Cert.GmlpBwdClaim

open Idealize.ShloMosaic hiding ix1 ix2 ix3 ix4 eq_ix2 eq_ix3 eq_ix4
open Idealize.ShloMosaic.TcCoe Idealize.SL.Sem Idealize.ShloMosaic.ValueIdx Cert.Products Cert.Gmlp Cert.GmlpGrad
open Cert.GmlpBwdRefIdeal Cert.GmlpBwdRefIdeal.Gen Cert.GmlpBwdRefIdeal.Read
open Cert.GmlpBwdIdeal.Ker (argZ argD argG argW)
open Cert.GmlpFwdClaim (reference_u reference_unit reference_chunk reference_mask reference_mix)

/-- The host's sum over the first axis and the last. -/
theorem sum_ends {n0 n1 n2 n3 : ℕ} (hr : Shape.ReducesTo ⟨4, ![n0, n1, n2, n3]⟩ [0, 3] ⟨2, ![n1, n2]⟩)
    (v : (⟨4, ![n0, n1, n2, n3]⟩ : Shape).Idx → EReal) (init : EReal) (t : Fin n1) (h : Fin n2) :
    Ideal.hostReduceAdd hr v init (ix2 t h) = init + ∑ q, ∑ d, v (ix4 q t h d) := by
  refine congrArg (init + ·) ((Finset.sum_filter_eq_sum_of_fiber _ (fun k : Fin n0 × Fin n3 => ix4 k.1 t h k.2)
    (fun _ _ e => Prod.ext (congrFun e 0) (congrFun e 3)) (fun i => ⟨fun e => ⟨(i 0, i 3), ?_⟩, ?_⟩) v).trans ?_)
  · exact (ix4_ext (i 0) t h (i 3) rfl (congrArg Fin.val (congrFun e 0)) (congrArg Fin.val (congrFun e 1)) rfl).symm
  · rintro ⟨k, rfl⟩
    exact ix2_ext _ _ rfl rfl
  · simp only [Fintype.sum_prod_type]

section Reference
variable (z : FVec Ideal S2048x3584 .f32) (dy : FVec Ideal S2048x2048 .f32) (g : FVec Ideal S8x128 .f32) (w : FVec Ideal S8x128x128 .f32)

theorem reference_dy (r : Fin 2048) (h : Fin 8) (d : Fin 128) :
    (val_main_v55 (F := Ideal) dy : FVec Ideal S2048x8x128 .f32) (ix3 r h d) = dy (ix2 r (colD h d)) := by
  have := h.isLt
  have := d.isLt
  rw [val_main_v55_apply, val_main_v54_apply]
  refine congrArg dy (ix2_ext _ _ ?_ ?_)
  · show ((r.val * 8 + h.val) * 128 + d.val) / 1024 = r.val; omega
  · show ((r.val * 8 + h.val) * 128 + d.val) % 1024 = 128 * h.val + d.val; omega

/-- The gradient of the mixed rows, -/
theorem reference_dmixed (q : Fin 16) (t : Fin 128) (h : Fin 8) (d : Fin 128) :
    (val_main_v57 (F := Ideal) z dy : FVec Ideal S16x128x8x128 .f32) (ix4 q t h d) = dmixed z dy q t h d := by
  have := h.isLt
  have := d.isLt
  rw [val_main_v57_apply, show idx_main_v57 (ix4 q t h d) = ix3 (rowAt q t) h d from ix3_ext _ _ _
    (by show (((q.val * 128 + t.val) * 8 + h.val) * 128 + d.val) / 1024 = 128 * q.val + t.val; omega)
    (by show (((q.val * 128 + t.val) * 8 + h.val) * 128 + d.val) / 128 % 8 = h.val; omega)
    (by show (((q.val * 128 + t.val) * 8 + h.val) * 128 + d.val) % 128 = d.val; omega)]
  exact (congrArg₂ (· * ·) (reference_u z (rowAt q t) h d) (reference_dy dy (rowAt q t) h d)).trans (mul_comm _ _)

/-- and with the head first and the row last. -/
theorem reference_turned (q : Fin 16) (t : Fin 128) (h : Fin 8) (d : Fin 128) :
    (val_main_v62 (F := Ideal) z dy : FVec Ideal S8x16x128x128 .f32) (ix4 h q d t) = dmixed z dy q t h d := by
  rw [val_main_v62_apply, show idx_main_v62 (ix4 h q d t) = ix4 q t h d from ix4_ext _ _ _ _ rfl rfl rfl rfl]
  exact reference_dmixed z dy q t h d

/-- The biases' gradient is the kernel's, -/
theorem reference_bias : val_main_v61 (F := Ideal) z dy = dBias z dy := by
  funext y
  obtain ⟨h, t, rfl⟩ : ∃ (h : Fin 8) (t : Fin 128), y = ix2 h t := ⟨y 0, y 1, eq_ix2 (n0 := 8) (n1 := 128) y⟩
  have := h.isLt
  rw [val_main_v61_apply, show idx_main_v61 (ix2 h t) = ix2 t h from ix2_ext _ _ rfl rfl]
  refine (sum_ends reducesTo_S1x128x8x1_S128x8_d0_3 _ (Ideal.ofBits .f32 0x00000000#32) t h).trans ?_
  rw [Ideal.ofBits_zero_f32, zero_add, Fin.sum_univ_one, Fin.sum_univ_one, val_main_v59_apply, show idx_main_v59 (ix4 0 t h 0) = ix2 t h from ix2_ext _ _
    (by show (((0 * 128 + t.val) * 8 + h.val) * 1 + 0) / 8 = t.val; omega)
    (by show (((0 * 128 + t.val) * 8 + h.val) * 1 + 0) % 8 = h.val; omega)]
  refine (sum_ends reducesTo_S16x128x8x128_S128x8_d0_3 _ (Ideal.ofBits .f32 0x00000000#32) t h).trans ?_
  rw [Ideal.ofBits_zero_f32, zero_add]
  exact Finset.sum_congr rfl fun q _ => Finset.sum_congr rfl fun d _ => reference_dmixed z dy q t h d

/-- the mixing weights' too, -/
theorem reference_weights : val_main_v67 (F := Ideal) z dy g = dMix z dy g := by
  funext y
  obtain ⟨h, t, s, rfl⟩ : ∃ (h : Fin 8) (t s : Fin 128), y = ix3 h t s := ⟨y 0, y 1, y 2, eq_ix3 (n0 := 8) (n1 := 128) (n2 := 128) y⟩
  refine congrArg₂ (· * ·) ?_ ?_
  · refine (Ideal.dotGeneral_apply dot_S8x16x128x128_S16x128x8x128_S8x128x128_12_03_3_1_0_2 none _ (val_main_v62 (F := Ideal) z dy)
      (val_main_v41 (F := Ideal) z g) (ix3 h t s)).trans ?_
    refine ((dot_S8x16x128x128_S16x128x8x128_S8x128x128_12_03_3_1_0_2).sum_contr₂ (K₁ := 16) (K₂ := 128) rfl rfl rfl _).trans ?_
    refine Finset.sum_congr rfl fun q _ => Finset.sum_congr rfl fun d _ => congrArg₂ (· * ·) ?_ ?_
    · exact Eq.trans (congrArg _ (ix4_ext h q d t rfl rfl rfl rfl)) (reference_turned z dy q t h d)
    · exact Eq.trans (congrArg _ (ix4_ext q s h d rfl rfl rfl rfl)) (reference_chunk z g q s h d)
  · rw [val_main_v66_apply, show idx_main_v66 (ix3 h t s) = ix3 0 t s from ix3_ext _ _ _ rfl rfl rfl]
    exact reference_mask t s

/-- The gradient of the normalised rows, -/
theorem reference_dnormed (q : Fin 16) (s : Fin 128) (h : Fin 8) (d : Fin 128) :
    (val_main_v68 (F := Ideal) z dy w : FVec Ideal S2048x8x128 .f32) (ix3 (rowAt q s) h d) = dnormed z dy w q s h d := by
  have := h.isLt
  have := d.isLt
  have := s.isLt
  rw [val_main_v68_apply, show idx_main_v68 (ix3 (rowAt q s) h d) = ix4 q s h d from ix4_ext _ _ _ _
    (by show (((128 * q.val + s.val) * 8 + h.val) * 128 + d.val) / 131072 = q.val; omega)
    (by show (((128 * q.val + s.val) * 8 + h.val) * 128 + d.val) / 1024 % 128 = s.val; omega)
    (by show (((128 * q.val + s.val) * 8 + h.val) * 128 + d.val) / 128 % 8 = h.val; omega)
    (by show (((128 * q.val + s.val) * 8 + h.val) * 128 + d.val) % 128 = d.val; omega),
    val_main_v65_apply, show idx_main_v65 (ix4 q s h d) = ix4 h q d s from ix4_ext _ _ _ _ rfl rfl rfl rfl, val_main_v64_apply]
  refine Finset.sum_congr rfl fun t _ => congrArg₂ (· * ·) ?_ ?_
  · rw [show lidx_main_v64 (ix4 h q d s) t = ix4 h q d t from ix4_ext _ _ _ _ rfl rfl rfl rfl]
    exact reference_turned z dy q t h d
  · rw [show ridx_main_v64 (ix4 h q d s) t = ix3 h t s from ix3_ext _ _ _ rfl rfl rfl]
    exact reference_mix w h t s

/-- and the gain's. -/
theorem reference_gain : val_main_v72 (F := Ideal) z dy w = dGain z dy w := by
  funext y
  obtain ⟨h, d, rfl⟩ : ∃ (h : Fin 8) (d : Fin 128), y = ix2 h d := ⟨y 0, y 1, eq_ix2 (n0 := 8) (n1 := 128) y⟩
  have := h.isLt
  have := d.isLt
  rw [val_main_v72_apply, Fin.sum_univ_one, val_main_v71_apply, show idx_main_v71 (idx_main_v72 (ix2 h d) 0) = ix2 h d from ix2_ext _ _
    (by show ((0 * 8 + h.val) * 128 + d.val) / 128 = h.val; omega) (by show ((0 * 8 + h.val) * 128 + d.val) % 128 = d.val; omega), val_main_v70_apply]
  show Ideal.ofBits .f32 0x00000000#32 + (Ideal.ofBits .f32 0x00000000#32 + _) = _
  rw [Ideal.ofBits_zero_f32, zero_add, zero_add]
  refine (Rms.sum_tiles (n := 16) (b := 128) (M := 2048) rfl _).symm.trans ?_
  refine Finset.sum_congr rfl fun q _ => Finset.sum_congr rfl fun s _ => ?_
  rw [show idx_main_v70 (ix2 h d) (Rms.tileRow (n := 16) (b := 128) (M := 2048) rfl q s) = ix3 (rowAt q s) h d from ix3_ext _ _ _ rfl rfl rfl]
  exact congrArg₂ (· * ·) (reference_unit z (rowAt q s) h d) (reference_dnormed z dy w q s h d)

end Reference

/-- The kernel's frame. -/
theorem frame_p : Cert.quiescent_GmlpBwd := fun m ρ _ => Cert.GmlpBwd.Gen.frame m ρ
/-- The idealization's frame. -/
theorem frame_pi : Cert.quiescent_GmlpBwdIdeal := fun m ρ _ => Cert.GmlpBwdIdeal.Gen.frame m ρ
/-- The reference's frame. -/
theorem frame_ri : Cert.quiescent_GmlpBwdRefIdeal := fun m ρ _ =>
  (θ_run Cert.GmlpBwdRefIdeal.defs _ _).mono (fun r h => ⟨fun c => (h c).2.2.2, sem_eq_zero_of_no_sems (by decide) r.2⟩)
    (Cert.GmlpBwdRefIdeal.Value.run (F := Ideal) m ρ)

/-- The idealization's gradients are the reference's. -/
theorem algebraic : Cert.algebraic_GmlpBwdIdeal_GmlpBwdRefIdeal := by
  intro m ρ m' ρ' _ hagree
  refine ⟨fun c => dGain (argZ m c) (argD m c) (argW m c), fun c => dMix (argZ m c) (argD m c) (argG m c), fun c => dBias (argZ m c) (argD m c),
    Cert.GmlpBwdIdeal.Ker.values m ρ, ?_⟩
  refine (θ_run Cert.GmlpBwdRefIdeal.defs _ _).mono (fun r h c => ?_) (Cert.GmlpBwdRefIdeal.Value.run (F := Ideal) m' ρ')
  obtain ⟨e0, e1, e2, e3, -⟩ := hagree c
  refine ⟨(h c).1.trans ((val_main_v72_eq ..).trans ?_), (h c).2.1.trans ((val_main_v67_eq ..).trans ?_),
    (h c).2.2.1.trans ((val_main_v61_eq ..).trans ?_), (h c).2.2.2⟩
  · rw [e0, e1, e3]
    exact reference_gain _ _ _
  · rw [e0, e1, e2]
    exact reference_weights _ _ _
  · rw [e0, e1]
    exact reference_bias _ _

end Cert.GmlpBwdClaim

end
-- ==== Proof.LossHead.lean ====
/-
  The loss and its gradient. The loss is half the sum, over the rows, of the mean of a row's squared errors. A point of the
  kernel's grid takes 1024 rows: it writes their errors divided by the number of columns, and their part of the loss, which
  the host adds up.
-/
module

public import proofs.«01_k».proof.Defs
public import proofs.«01_k».proof.Proof.RmsBwd
public import proofs.«01_k».proof.Proof.Gen.LossHead.Frame
public import proofs.«01_k».proof.Proof.Gen.LossHeadIdeal.Frame
public import proofs.«01_k».proof.Proof.Gen.LossHeadRefIdeal.Run
public import proofs.«01_k».proof.Proof.Gen.LossHeadRefIdeal.Read
public import Idealize.ShloMosaic.Lib.Pointwise.Index

@[expose] public section

set_option maxRecDepth 16384

noncomputable section

namespace Cert.LossHeadIdeal.Ker

open Cert.LossHeadIdeal Cert.LossHeadIdeal.Gen Cert.Products
open Idealize.ShloMosaic hiding ix1 ix2 ix3 eq_ix2
open Idealize.ShloMosaic.TcCoe Idealize.SL.Sem Idealize.ShloMosaic.ValueIdx
open Idealize.ShloMosaic.Pipeline (Dat)

/-- One half, and the reciprocal of the number of columns. -/
def half : EReal := Ideal.ofBits .f32 0x3F000000#32
def share : EReal := Ideal.ofBits .f32 0x3A000000#32

theorem share_eq : share = ((1 / 2048 : ℝ) : EReal) := by
  unfold share; simp [Ideal.ofBits, Ideal.ieee, -EReal.coe_mul]; norm_num

/-- The sum of the squared errors of a row. -/
def rowLoss {M : ℕ} (y t : FVec Ideal ⟨2, ![M, 2048]⟩ .f32) (r : Fin M) : EReal :=
  ∑ k : Fin 2048, (y (ix2 r k) - t (ix2 r k)) * (y (ix2 r k) - t (ix2 r k))

/-- The gradient, a block's part of the loss, the array of these parts as the kernel leaves it, and the loss. -/
def grad {M : ℕ} (y t : FVec Ideal ⟨2, ![M, 2048]⟩ .f32) : FVec Ideal ⟨2, ![M, 2048]⟩ .f32 := fun i => (y i - t i) * share
def part (y t : FVec Ideal S2048x2048 .f32) (b : Fin 2) : EReal :=
  half * (∑ r : Fin 1024, rowLoss y t (Rms.tileRow (n := 2) (M := 2048) rfl b r)) * share
def parts (y t : FVec Ideal S2048x2048 .f32) : FVec Ideal S2x8x128 .f32 := fun i => part y t (i 0)
def loss (y t : FVec Ideal S2048x2048 .f32) : FVec Ideal S_ .f32 := fun _ => ∑ b, part y t b

/-- What a point leaves in its two blocks. -/
theorem out2 (y t : FVec Ideal S1024x2048 .f32) : out0_2 (F := Ideal) y t = grad y t := by
  have hz : (![0, 0] : Fin 2 → ℕ) = fun _ => 0 := by decide
  unfold out0_2
  rw [View.canon_unit_zero hz, View.ld_unit_zero hz, View.ld_unit_zero hz]
  rfl

theorem out3 (y t : FVec Ideal S1024x2048 .f32) (i : S1x8x128.Idx) : out0_3 (F := Ideal) y t i = half * (∑ r, rowLoss y t r) * share := by
  have hz : (![0, 0] : Fin 2 → ℕ) = fun _ => 0 := by decide
  have hz3 : (![0, 0, 0] : Fin 3 → ℕ) = fun _ => 0 := by decide
  unfold out0_3
  rw [View.canon_unit_zero hz3, View.ld_unit_zero hz, View.ld_unit_zero hz]
  refine congrArg (fun s : EReal => half * s * share) ?_
  refine (shapeCast_apply _ shapeCasts_S1_S1x1x1 (ix3 0 0 0) (ix1 0) (by decide)).trans ?_
  refine (Ideal.multiReduction_add_total _ _ reduces_S1x1024x2048_S1 (by decide) _ _ (ix1 0)).trans ?_
  rw [sum_idx3, Fin.sum_univ_one]
  refine Finset.sum_congr rfl fun r _ => Finset.sum_congr rfl fun k _ => ?_
  refine (shapeCast_apply _ shapeCasts_S1024x2048_S1x1024x2048 _ (ix2 r k) ?_).trans rfl
  rw [Shape.rowMajor_val_two, Shape.rowMajor_val_three]
  show r.val * 2048 + k.val = (0 * 1024 + r.val) * 2048 + k.val
  omega

variable (m : (ℓ : Loc nD τ sig) → Buf (Elt Ideal) ℓ) (c : Dev nD)

/-- The output and what it should be. -/
abbrev argY : FVec Ideal S2048x2048 .f32 := m ((c : Thread nD τ).loc main_arg0)
abbrev argT : FVec Ideal S2048x2048 .f32 := m ((c : Thread nD τ).loc main_arg1)

/-- Where the windows lie at each point. -/
theorem places : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ win0_3.index t 0 = t.val ∧ win0_3.index t 1 = 0 ∧ win0_3.index t 2 = 0 := by decide +kernel

/-- A row of the block of 1024 that a point reads, as a row of the whole. -/
abbrev rowAt (t : Fin cfg0.N) (r : Fin 1024) : Fin 2048 := Rms.tileRow (n := 2) (M := 2048) rfl (t.cast N_0) r

theorem block_y (t : Fin cfg0.N) (r : Fin 1024) (k : Fin 2048) : (iblk m c 0 t : FVec Ideal S1024x2048 .f32) (ix2 r k) = argY m c (ix2 (rowAt t r) k) := by
  have hi := (places t).1
  unfold iblk
  rw [View.read_apply]
  refine congrArg (argY m c) (ix2_ext _ _ ?_ ?_)
  · show win0_0.index t 0 * 1024 + 1 * r.val = 1024 * t.val + r.val; rw [hi.1]; omega
  · show win0_0.index t 1 * 2048 + 1 * k.val = k.val; rw [hi.2]; omega

theorem block_t (t : Fin cfg0.N) (r : Fin 1024) (k : Fin 2048) : (iblk m c 1 t : FVec Ideal S1024x2048 .f32) (ix2 r k) = argT m c (ix2 (rowAt t r) k) := by
  have hi := (places t).2.1
  unfold iblk
  rw [View.read_apply]
  refine congrArg (argT m c) (ix2_ext _ _ ?_ ?_)
  · show win0_1.index t 0 * 1024 + 1 * r.val = 1024 * t.val + r.val; rw [hi.1]; omega
  · show win0_1.index t 1 * 2048 + 1 * k.val = k.val; rw [hi.2]; omega

/-- The gradient after the run, -/
theorem final2 : (dats m 0 c).arrAt 2 cfg0.N = grad (argY m c) (argT m c) := by
  refine (dats m 0 c).arrAt_eq_of_cover 2 (grad (argY m c) (argT m c)) (fun t _ => ?_) fun i => ?_
  · have hi := (places t).2.2.1
    show (cfg0.win 2).cut (grid0.coords t) ((dats m 0 c).after 2 t) = _
    rw [after0_2, out2]
    funext j
    rw [View.read_apply]
    obtain ⟨r, k, rfl⟩ : ∃ (r : Fin 1024) (k : Fin 2048), j = ix2 r k := ⟨j 0, j 1, eq_ix2 (n0 := 1024) (n1 := 2048) j⟩
    have h : grad (M := 1024) (iblk m c 0 t) (iblk m c 1 t) (ix2 r k) = grad (argY m c) (argT m c) (ix2 (rowAt t r) k) :=
      congrArg₂ (fun a b : EReal => (a - b) * share) (block_y m c t r k) (block_t m c t r k)
    refine Eq.trans h (congrArg (grad (argY m c) (argT m c)) (ix2_ext _ _ ?_ ?_).symm)
    · show win0_2.index t 0 * 1024 + 1 * r.val = 1024 * t.val + r.val; rw [hi.1]; omega
    · show win0_2.index t 1 * 2048 + 1 * k.val = k.val; rw [hi.2]; omega
  · have hN : cfg0.N = 2 := N_0
    have hb : (i 0).val < 2048 := (i 0).isLt
    have hb1 : (i 1).val < 2048 := (i 1).isLt
    obtain ⟨t, ht⟩ : ∃ t : Fin cfg0.N, t.val = (i 0).val / 1024 := ⟨⟨(i 0).val / 1024, by omega⟩, rfl⟩
    have hi := (places t).2.2.1
    refine ⟨t, flush0_2 t, ?_⟩
    show i ∈ ((View.whole main_v0_0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; rw [hi.1]; omega
    | ⟨1, _⟩ => show win0_2.index t 1 * 2048 ≤ (i 1).val ∧ (i 1).val < win0_2.index t 1 * 2048 + 2048; rw [hi.2]; omega

/-- and the parts of the loss. -/
theorem final3 : (dats m 0 c).arrAt 3 cfg0.N = parts (argY m c) (argT m c) := by
  refine (dats m 0 c).arrAt_eq_of_cover 3 (parts (argY m c) (argT m c)) (fun t _ => ?_) fun i => ?_
  · have hi := (places t).2.2.2
    show (cfg0.win 3).cut (grid0.coords t) ((dats m 0 c).after 3 t) = _
    rw [after0_3]
    funext j
    rw [View.read_apply]
    refine (out3 _ _ j).trans ?_
    have h : ∀ r, rowLoss (M := 1024) (iblk m c 0 t) (iblk m c 1 t) r = rowLoss (argY m c) (argT m c) (rowAt t r) := fun r =>
      Finset.sum_congr rfl fun k _ => congrArg₂ (fun a b : EReal => (a - b) * (a - b)) (block_y m c t r k) (block_t m c t r k)
    simp only [h]
    refine congrArg (part (argY m c) (argT m c)) (Fin.ext ?_ : t.cast N_0 = _)
    have hj : (j 0).val < 1 := (j 0).isLt
    show t.val = win0_3.index t 0 * 1 + 1 * (j 0).val
    rw [hi.1]
    omega
  · have hN : cfg0.N = 2 := N_0
    have hb : (i 0).val < 2 := (i 0).isLt
    have hb1 : (i 1).val < 8 := (i 1).isLt
    have hb2 : (i 2).val < 128 := (i 2).isLt
    obtain ⟨t, ht⟩ : ∃ t : Fin cfg0.N, t.val = (i 0).val := ⟨⟨(i 0).val, by omega⟩, rfl⟩
    have hi := (places t).2.2.2
    refine ⟨t, flush0_3 t, ?_⟩
    show i ∈ ((View.whole main_v0_1).slice (win0_3.rect t)).set
    rw [View.set_slice_whole, Rect.mem_set_unit]
    intro a
    match a with
    | ⟨0, _⟩ => show win0_3.index t 0 * 1 ≤ (i 0).val ∧ (i 0).val < win0_3.index t 0 * 1 + 1; rw [hi.1]; omega
    | ⟨1, _⟩ => show win0_3.index t 1 * 8 ≤ (i 1).val ∧ (i 1).val < win0_3.index t 1 * 8 + 8; rw [hi.2.1]; omega
    | ⟨2, _⟩ => show win0_3.index t 2 * 128 ≤ (i 2).val ∧ (i 2).val < win0_3.index t 2 * 128 + 128; rw [hi.2.2]; omega

/-- The host adds the parts up. -/
theorem tail : (Pipeline.afterTail₀ cfgs (dats m) 0 (V0 m) [hostOps1] c main_v3 : FVec Ideal S_ .f32) = loss (argY m c) (argT m c) := by
  have h : (Pipeline.afterTail₀ cfgs (dats m) 0 (V0 m) [hostOps1] c main_v3 : FVec Ideal S_ .f32)
      = Host.reduceAdd (shapeCast S2 (extractStridedSlice S2x1x1 ![0, 0, 0] (parts (argY m c) (argT m c)) slices_S2x8x128_S2x1x1_0_0_0) shapeCasts_S2x1x1_S2)
        (constant (F := Ideal) S_ .f32 0x00000000#32) reducesTo_S2_S_d0 h_S_ := by
    have hw := Pipeline.withArrays_arr spec0 (by decide) c (V0 m c) (fun w => (dats m 0 c).arrAt w (cfgs 0).N) 3
    show StableHlo.after hostOps1 _ _ = _
    after_results_simp
    refine congrArg (fun x : FVec Ideal S2 .f32 => Host.reduceAdd (F := Ideal) x (constant S_ .f32 0x00000000#32) reducesTo_S2_S_d0 h_S_) ?_
    exact congrArg (fun x : FVec Ideal S2x8x128 .f32 => shapeCast S2 (extractStridedSlice S2x1x1 ![0, 0, 0] x slices_S2x8x128_S2x1x1_0_0_0) shapeCasts_S2x1x1_S2)
      (hw.trans (final3 m c))
  refine h.trans (funext fun i => ?_)
  show Ideal.hostReduceAdd reducesTo_S2_S_d0 _ (Ideal.ofBits .f32 0x00000000#32) i = _
  rw [Ideal.hostReduceAdd_total _ (fun b => b.elim0), Ideal.ofBits_zero_f32, zero_add, sum_idx1]
  refine Finset.sum_congr rfl fun b _ => (shapeCast_apply _ shapeCasts_S2x1x1_S2 _ (ix3 b 0 0) ?_).trans ?_
  · rw [Shape.rowMajor_val_one, Shape.rowMajor_val_three]
    show (b.val * 1 + 0) * 1 + 0 = b.val
    omega
  · refine (extractStridedSlice_apply _ _ slices_S2x8x128_S2x1x1_0_0_0 (ix3 b 0 0) (ix3 b 0 0) fun a => ?_).trans rfl
    match a with
    | ⟨0, _⟩ => show b.val = 0 + b.val; omega
    | ⟨1, _⟩ => rfl
    | ⟨2, _⟩ => rfl

/-- What the run leaves in the results, and that the arguments stay. -/
theorem values (ρ : Dev nD → PrngReg) : θ_run (defs (F := Ideal)) (onTc (τ := τ) (main (F := Ideal))) ⟨m, fun _ => 0, ρ⟩ (fun r => ∀ c : Dev nD,
    r.2.mem ((c.tc : Thread nD τ).loc main_v0_0) = grad (argY m c) (argT m c)
    ∧ r.2.mem ((c.tc : Thread nD τ).loc main_v3) = loss (argY m c) (argT m c)
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨((h c).1 2).trans (final2 m c),
      ((h c).2 main_v3 (Pipeline.mem_restRefs_of main_v3 (by decide) (by decide))).trans (tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.LossHeadIdeal.Ker

namespace Cert.LossHeadClaim

open Idealize.ShloMosaic hiding ix1 ix2 ix3 eq_ix2
open Idealize.ShloMosaic.TcCoe Idealize.SL.Sem Idealize.ShloMosaic.ValueIdx Cert.Products
open Cert.LossHeadRefIdeal Cert.LossHeadRefIdeal.Gen Cert.LossHeadRefIdeal.Read
open Cert.LossHeadIdeal.Ker (argY argT grad loss half share share_eq rowLoss part)

section Reference
variable (y t : FVec Ideal S2048x2048 .f32)

/-- The reference's factor of twice the error is half the share. -/
theorem factor_eq (e : EReal) : Ideal.div (half * Ideal.ofBits .f32 0x3F800000#32) (Ideal.ofBits .f32 0x45000000#32) * (Ideal.ofBits .f32 0x40000000#32 * e)
    = e * share := by
  have h1 : half = ((1 / 2 : ℝ) : EReal) := by unfold half; simp [Ideal.ofBits, Ideal.ieee, -EReal.coe_mul]; norm_num
  have h2 : Ideal.ofBits .f32 0x3F800000#32 = ((1 : ℝ) : EReal) := by simp [Ideal.ofBits, Ideal.ieee, -EReal.coe_mul]; norm_num
  have h3 : Ideal.ofBits .f32 0x40000000#32 = ((2 : ℝ) : EReal) := by simp [Ideal.ofBits, Ideal.ieee, -EReal.coe_mul]; norm_num
  rw [show Ideal.ofBits .f32 0x45000000#32 = _ from Rms.width_eq, Ideal.div_coe (by norm_num), h1, h2, h3, share_eq, ← mul_assoc, ← EReal.coe_mul,
    ← EReal.coe_mul, ← EReal.coe_mul, mul_comm e]
  norm_num

theorem reference_grad : val_main_v14 (F := Ideal) y t = grad y t := by
  funext i
  rw [val_main_v14_apply, val_main_v13_apply, val_main_v12_apply, val_main_v10_apply, val_main_v11_apply, val_main_v3_apply, val_main_v2_apply]
  exact factor_eq (y i - t i)

/-- The mean may be taken row by row or of the blocks' sums. -/
theorem reference_loss : val_main_v8 (F := Ideal) y t = loss y t := by
  funext i
  have hrow : ∀ r : Fin 2048, (val_main_v6 (F := Ideal) y t : FVec Ideal S2048 .f32) (ix1 r) = rowLoss y t r * share := fun r => by
    rw [val_main_v6_apply, val_main_v5_apply, val_main_v4_apply]
    show Ideal.div (Ideal.ofBits .f32 0x00000000#32 + ∑ k : Fin 2048, _) Rms.width = _
    rw [Rms.width_eq, Ideal.div_coe (by norm_num), Ideal.ofBits_zero_f32, zero_add, share_eq]
    refine congrArg (· * ((1 / 2048 : ℝ) : EReal)) (Finset.sum_congr rfl fun k _ => ?_)
    rw [show idx_main_v4 (ix1 r) k = ix2 r k from ix2_ext _ _ rfl rfl]
    rfl
  rw [val_main_v8_apply, val_main_v7_apply, sum_idx1]
  show half * (Ideal.ofBits .f32 0x00000000#32 + ∑ r : Fin 2048, (val_main_v6 (F := Ideal) y t : FVec Ideal S2048 .f32) (ix1 r)) = ∑ b, part y t b
  rw [Ideal.ofBits_zero_f32, zero_add, Finset.sum_congr rfl fun r _ => hrow r, share_eq, Rms.factor _ _ (by norm_num), ← mul_assoc, ← share_eq,
    ← Rms.sum_tiles (n := 2) (b := 1024) rfl]
  unfold part
  have hh : half = ((1 / 2 : ℝ) : EReal) := by unfold half; simp [Ideal.ofBits, Ideal.ieee, -EReal.coe_mul]; norm_num
  rw [share_eq, Rms.factor _ _ (by norm_num), hh]
  simp only [mul_comm ((1 / 2 : ℝ) : EReal)]
  rw [Rms.factor _ _ (by norm_num)]

end Reference

/-- The kernel's frame. -/
theorem frame_p : Cert.quiescent_LossHead := fun m ρ _ => Cert.LossHead.Gen.frame m ρ
/-- The idealization's frame. -/
theorem frame_pi : Cert.quiescent_LossHeadIdeal := fun m ρ _ => Cert.LossHeadIdeal.Gen.frame m ρ
/-- The reference's frame. -/
theorem frame_ri : Cert.quiescent_LossHeadRefIdeal := fun m ρ _ =>
  (θ_run Cert.LossHeadRefIdeal.defs _ _).mono (fun r h => ⟨fun c => (h c).2.2, sem_eq_zero_of_no_sems (by decide) r.2⟩)
    (Cert.LossHeadRefIdeal.Value.run (F := Ideal) m ρ)

/-- The idealization's gradient and loss are the reference's. -/
theorem algebraic : Cert.algebraic_LossHeadIdeal_LossHeadRefIdeal := by
  intro m ρ m' ρ' _ hagree
  refine ⟨fun c => grad (argY m c) (argT m c), fun c => loss (argY m c) (argT m c), Cert.LossHeadIdeal.Ker.values m ρ, ?_⟩
  refine (θ_run Cert.LossHeadRefIdeal.defs _ _).mono (fun r h c => ?_) (Cert.LossHeadRefIdeal.Value.run (F := Ideal) m' ρ')
  obtain ⟨e0, e1⟩ := hagree c
  refine ⟨(h c).1.trans ((val_main_v14_eq ..).trans ?_), (h c).2.1.trans ((val_main_v8_eq ..).trans ?_), (h c).2.2⟩
  · rw [e0, e1]
    exact reference_grad _ _
  · rw [e0, e1]
    exact reference_loss _ _

end Cert.LossHeadClaim

end
-- ==== Proof.Adam.lean ====
/-
  The optimiser's step for the second matrix of the feed-forward block. A layer's gradient is the device's own part and the
  three parts that came in, added up; the running means of the gradient and of its square, and the step they call for, are
  taken entry by entry. A point of the kernel's grid takes 256 rows of a layer.
-/
module

public import proofs.«01_k».proof.Defs
public import proofs.«01_k».proof.Proof.Products
public import proofs.«01_k».proof.Proof.Gen.Adam.Frame
public import proofs.«01_k».proof.Proof.Gen.AdamIdeal.Frame
public import proofs.«01_k».proof.Proof.Gen.AdamRefIdeal.Run
public import proofs.«01_k».proof.Proof.Gen.AdamRefIdeal.Read

@[expose] public section

set_option maxRecDepth 16384

noncomputable section

namespace Cert.AdamIdeal.Ker

open Cert.AdamIdeal Cert.AdamIdeal.Gen Cert.Products
open Idealize.ShloMosaic Idealize.ShloMosaic.TcCoe Idealize.SL.Sem Idealize.ShloMosaic.ValueIdx Idealize.ShloMosaic.Tactic
open Idealize.ShloMosaic.Pipeline (Dat)

/-- The weights of the old values in the two running means. -/
def beta1 : EReal := Ideal.ofBits .f32 0x3F666666#32
def beta2 : EReal := Ideal.ofBits .f32 0x3F7FBE77#32

/-- The new running means, and the step. -/
def mean (m g : EReal) : EReal := beta1 * m + Ideal.ofBits .f32 0x3DCCCCCD#32 * g
def square (v g : EReal) : EReal := beta2 * v + Ideal.ofBits .f32 0x3A83126F#32 * (g * g)
def step (w g m v : EReal) : EReal := Ideal.ofBits .f32 0xBA83126F#32 * (Ideal.div (Ideal.div (mean m g) (Ideal.ofBits .f32 0x3F26BD02#32))
  (Ideal.sqrt (Ideal.div (square v g) (Ideal.ofBits .f32 0x3C231ACC#32)) + Ideal.ofBits .f32 0x322BCC77#32) + Ideal.ofBits .f32 0x3C23D70A#32 * w)

/-- A layer's gradient at an entry: the device's part and the three that came in. -/
def total {D M : ℕ} (p : FVec Ideal ⟨3, ![D + 1, M, 2048]⟩ .bf16) (l : FVec Ideal ⟨3, ![3, M, 2048]⟩ .bf16) (r : Fin M) (k : Fin 2048) : EReal :=
  p (ix3 0 r k) + l (ix3 0 r k) + l (ix3 1 r k) + l (ix3 2 r k)

/-- With the device's place in the list of parts 0, every block lies inside its array. -/
theorem inside :
    (∀ i : grid0.Coords, ∃ h : (∀ a, (cc0_transform_2 i a + 1) * S1x256x2048.size a ≤ S4x1024x2048.size a), EltTy.bits .bf16 = 32
      ∨ (Rect.block (s := S4x1024x2048) S1x256x2048.size (cc0_transform_2 i) h).WholeWords (EltTy.packing .bf16))
    ∧ (∀ i : grid0.Coords, ∃ h : (∀ a, (cc0_transform_4 i a + 1) * S1x256x2048.size a ≤ S4x1024x2048.size a), EltTy.bits .bf16 = 32
      ∨ (Rect.block (s := S4x1024x2048) S1x256x2048.size (cc0_transform_4 i) h).WholeWords (EltTy.packing .bf16)) := by decide +kernel

theorem ok_p (m : (ℓ : Loc Cert.Adam.nD Cert.Adam.τ Cert.Adam.sig) → Buf (Elt Bits) ℓ) : Cert.Adam.Gen.Ok m := inside

variable (m : (ℓ : Loc nD τ sig) → Buf (Elt Ideal) ℓ) (c : Dev nD)

theorem ok : Ok m := inside

/-- Where the windows lie at each point. -/
theorem places : ∀ t : Fin grid0.N, (grid0.coords t 0).val = t.val / 4 ∧ cc0_transform_0 (grid0.coords t) = ![t.val / 4, t.val % 4, 0]
    ∧ (t.val / 4 = 0 → cc0_transform_2 (grid0.coords t) = ![0, t.val % 4, 0]) ∧ (t.val / 4 = 1 → cc0_transform_4 (grid0.coords t) = ![0, t.val % 4, 0]) := by
  decide +kernel

section Point
variable (i : grid0.Coords) (a3 : Memref sig .tc .vmem S1x256x2048 .f32) (k3 : a3.IsWhole) (a4 : Memref sig .tc .vmem S1x256x2048 .bf16) (k4 : a4.IsWhole)
  (a5 : Memref sig .tc .vmem S3x256x2048 .bf16) (k5 : a5.IsWhole) (a6 : Memref sig .tc .vmem S1x256x2048 .bf16) (k6 : a6.IsWhole)
  (a7 : Memref sig .tc .vmem S3x256x2048 .bf16) (k7 : a7.IsWhole) (a8 : Memref sig .tc .vmem S1x256x2048 .f32) (k8 : a8.IsWhole)
  (a9 : Memref sig .tc .vmem S1x256x2048 .f32) (k9 : a9.IsWhole) (a10 : Memref sig .tc .vmem S1x256x2048 .f32) (k10 : a10.IsWhole)
  (a11 : Memref sig .tc .vmem S1x256x2048 .f32) (k11 : a11.IsWhole) (a12 : Memref sig .tc .vmem S1x256x2048 .f32) (k12 : a12.IsWhole)
  (a13 : Memref sig .tc .vmem S1x256x2048 .f32) (k13 : a13.IsWhole)
  (w : FVec Ideal S1x256x2048 .f32) (p0 : FVec Ideal S1x256x2048 .bf16) (l0 : FVec Ideal S3x256x2048 .bf16) (p1 : FVec Ideal S1x256x2048 .bf16)
  (l1 : FVec Ideal S3x256x2048 .bf16) (mu nu : FVec Ideal S1x256x2048 .f32) (xt : TbBuf0 (F := Ideal) c tbM0_0)

/-- A block of one layer as a matrix, and back. -/
theorem flat {e : EltTy} (x : Vec Ideal S1x256x2048 e) (r : Fin 256) (k : Fin 2048) :
    shapeCast S256x2048 x shapeCasts_S1x256x2048_S256x2048 (ix2 r k) = x (ix3 0 r k) :=
  shapeCast_apply _ _ _ (ix3 0 r k) (by
    rw [Shape.rowMajor_val_two, Shape.rowMajor_val_three]
    show (0 * 256 + r.val) * 2048 + k.val = r.val * 2048 + k.val
    omega)

theorem lift (x : FVec Ideal S256x2048 .f32) (r : Fin 256) (k : Fin 2048) :
    shapeCast S1x256x2048 x shapeCasts_S256x2048_S1x256x2048 (ix3 0 r k) = x (ix2 r k) :=
  shapeCast_apply _ _ _ (ix2 r k) (by
    rw [Shape.rowMajor_val_two, Shape.rowMajor_val_three]
    show r.val * 2048 + k.val = (0 * 256 + r.val) * 2048 + k.val
    omega)

/-- The gradient of the point's rows. -/
abbrev got : FVec Ideal S256x2048 .f32 :=
  k0_pay3 i p0 (View.ld (Val := Elt Ideal) (e' := .bf16) l0 (Rect.unit (s := S3x256x2048) ![0, 0, 0] S1x256x2048.size inb_S3x256x2048_S1x256x2048_0_0_0))
    (View.ld (Val := Elt Ideal) (e' := .bf16) l0 (Rect.unit (s := S3x256x2048) ![1, 0, 0] S1x256x2048.size inb_S3x256x2048_S1x256x2048_1_0_0))
    (View.ld (Val := Elt Ideal) (e' := .bf16) l0 (Rect.unit (s := S3x256x2048) ![2, 0, 0] S1x256x2048.size inb_S3x256x2048_S1x256x2048_2_0_0)) p1
    (View.ld (Val := Elt Ideal) (e' := .bf16) l1 (Rect.unit (s := S3x256x2048) ![0, 0, 0] S1x256x2048.size inb_S3x256x2048_S1x256x2048_0_0_0))
    (View.ld (Val := Elt Ideal) (e' := .bf16) l1 (Rect.unit (s := S3x256x2048) ![1, 0, 0] S1x256x2048.size inb_S3x256x2048_S1x256x2048_1_0_0))
    (View.ld (Val := Elt Ideal) (e' := .bf16) l1 (Rect.unit (s := S3x256x2048) ![2, 0, 0] S1x256x2048.size inb_S3x256x2048_S1x256x2048_2_0_0))

theorem part_apply (l : FVec Ideal S3x256x2048 .bf16) (r : Fin 256) (k : Fin 2048) (b : Fin 3)
    (inb : ∀ a, (![b.val, 0, 0] : Fin 3 → ℕ) a + S1x256x2048.size a ≤ S3x256x2048.size a) :
    shapeCast S256x2048 (View.ld (Val := Elt Ideal) (e' := .bf16) l (Rect.unit (s := S3x256x2048) ![b.val, 0, 0] S1x256x2048.size inb) : FVec Ideal S1x256x2048 .bf16) shapeCasts_S1x256x2048_S256x2048 (ix2 r k)
      = l (ix3 b r k) := by
  refine (flat (e := .bf16) _ r k).trans (congrArg l (ix3_ext _ _ _ ?_ ?_ ?_))
  · show b.val + 1 * 0 = b.val; omega
  · show 0 + 1 * r.val = r.val; omega
  · show 0 + 1 * k.val = k.val; omega

theorem got_apply (r : Fin 256) (k : Fin 2048) :
    got i p0 l0 p1 l1 (ix2 r k) = if (i 0).val = 0 then total (D := 0) p0 l0 r k else total (D := 0) p1 l1 r k := by
  have h0 : ∀ p l, (total (D := 0) p l r k : EReal) = shapeCast S256x2048 p shapeCasts_S1x256x2048_S256x2048 (ix2 r k)
      + shapeCast S256x2048 (View.ld (Val := Elt Ideal) (e' := .bf16) l (Rect.unit (s := S3x256x2048) ![0, 0, 0] S1x256x2048.size inb_S3x256x2048_S1x256x2048_0_0_0) : FVec Ideal S1x256x2048 .bf16) shapeCasts_S1x256x2048_S256x2048 (ix2 r k)
      + shapeCast S256x2048 (View.ld (Val := Elt Ideal) (e' := .bf16) l (Rect.unit (s := S3x256x2048) ![1, 0, 0] S1x256x2048.size inb_S3x256x2048_S1x256x2048_1_0_0) : FVec Ideal S1x256x2048 .bf16) shapeCasts_S1x256x2048_S256x2048 (ix2 r k)
      + shapeCast S256x2048 (View.ld (Val := Elt Ideal) (e' := .bf16) l (Rect.unit (s := S3x256x2048) ![2, 0, 0] S1x256x2048.size inb_S3x256x2048_S1x256x2048_2_0_0) : FVec Ideal S1x256x2048 .bf16) shapeCasts_S1x256x2048_S256x2048 (ix2 r k) := fun p l =>
    (congrArg₂ (· + ·) (congrArg₂ (· + ·) (congrArg₂ (· + ·) (flat (e := .bf16) p r k) (part_apply l r k 0 _)) (part_apply l r k 1 _)) (part_apply l r k 2 _)).symm
  rw [h0, h0]
  have hi : (i 0).val = 0 ∨ (i 0).val = 1 := by have : (i 0).val < 2 := (i 0).isLt; omega
  unfold got k0_pay3
  dsimp only
  rcases hi with hi | hi <;> rw [hi] <;> rfl

/-- What a point leaves in its four blocks. -/
theorem outs (r : Fin 256) (k : Fin 2048) :
    out0_A_7 (F := Ideal) c i a3 k3 a4 k4 a5 k5 a6 k6 a7 k7 a8 k8 a9 k9 a10 k10 a11 k11 a12 k12 a13 k13 w p0 l0 p1 l1 mu nu xt (ix3 0 r k)
      = got i p0 l0 p1 l1 (ix2 r k)
    ∧ out0_A_8 (F := Ideal) c i a3 k3 a4 k4 a5 k5 a6 k6 a7 k7 a8 k8 a9 k9 a10 k10 a11 k11 a12 k12 a13 k13 w p0 l0 p1 l1 mu nu xt (ix3 0 r k)
      = step (w (ix3 0 r k)) (got i p0 l0 p1 l1 (ix2 r k)) (mu (ix3 0 r k)) (nu (ix3 0 r k))
    ∧ out0_A_9 (F := Ideal) c i a3 k3 a4 k4 a5 k5 a6 k6 a7 k7 a8 k8 a9 k9 a10 k10 a11 k11 a12 k12 a13 k13 w p0 l0 p1 l1 mu nu xt (ix3 0 r k)
      = mean (mu (ix3 0 r k)) (got i p0 l0 p1 l1 (ix2 r k))
    ∧ out0_A_10 (F := Ideal) c i a3 k3 a4 k4 a5 k5 a6 k6 a7 k7 a8 k8 a9 k9 a10 k10 a11 k11 a12 k12 a13 k13 w p0 l0 p1 l1 mu nu xt (ix3 0 r k)
      = square (nu (ix3 0 r k)) (got i p0 l0 p1 l1 (ix2 r k)) := by
  have hz : (![0, 0, 0] : Fin 3 → ℕ) = fun _ => 0 := by decide
  have hm : k0_pay5 (F := Ideal) (got i p0 l0 p1 l1) mu (ix2 r k) = mean (mu (ix3 0 r k)) (got i p0 l0 p1 l1 (ix2 r k)) :=
    congrArg (fun a : EReal => beta1 * a + _) (flat (e := .f32) mu r k)
  have hv : k0_pay6 (F := Ideal) (got i p0 l0 p1 l1) nu (ix2 r k) = square (nu (ix3 0 r k)) (got i p0 l0 p1 l1 (ix2 r k)) :=
    congrArg (fun a : EReal => beta2 * a + _) (flat (e := .f32) nu r k)
  refine ⟨?_, ?_, ?_, ?_⟩
  · unfold out0_A_7
    rw [View.read_writes_eq_canon _ _ _ (fun y => cover0_A_7 (y := y) ..)]
    unfold kernelRun0_A
    dsimp only
    sl_unfold_words
    simp only [View.readAt_eq_ld, k3.read_unread, k4.read_unread, k5.read_unread, k6.read_unread, k7.read_unread, k8.read_unread, k9.read_unread]
    rw [View.canon_unit_zero hz]
    repeat rw [View.ld_unit_zero (S := S1x256x2048) hz]
    exact lift _ r k
  · unfold out0_A_8
    rw [View.read_writes_eq_canon _ _ _ (fun y => cover0_A_8 (y := y) ..)]
    unfold kernelRun0_A
    dsimp only
    sl_unfold_words
    simp only [View.readAt_eq_ld, k3.read_unread, k4.read_unread, k5.read_unread, k6.read_unread, k7.read_unread, k8.read_unread, k9.read_unread]
    rw [View.canon_unit_zero hz]
    repeat rw [View.ld_unit_zero (S := S1x256x2048) hz]
    unfold k0_pay7
    refine (lift _ r k).trans ?_
    unfold step
    rw [← hm, ← hv, ← flat (e := .f32) w r k]
    rfl
  · unfold out0_A_9
    rw [View.read_writes_eq_canon _ _ _ (fun y => cover0_A_9 (y := y) ..)]
    unfold kernelRun0_A
    dsimp only
    sl_unfold_words
    simp only [View.readAt_eq_ld, k3.read_unread, k4.read_unread, k5.read_unread, k6.read_unread, k7.read_unread, k8.read_unread, k9.read_unread]
    rw [View.canon_unit_zero hz]
    repeat rw [View.ld_unit_zero (S := S1x256x2048) hz]
    exact (lift _ r k).trans hm
  · unfold out0_A_10
    rw [View.read_writes_eq_canon _ _ _ (fun y => cover0_A_10 (y := y) ..)]
    unfold kernelRun0_A
    dsimp only
    sl_unfold_words
    simp only [View.readAt_eq_ld, k3.read_unread, k4.read_unread, k5.read_unread, k6.read_unread, k7.read_unread, k8.read_unread, k9.read_unread]
    rw [View.canon_unit_zero hz]
    repeat rw [View.ld_unit_zero (S := S1x256x2048) hz]
    exact (lift _ r k).trans hv

end Point

/-- The weights, the parts of the two layers' gradients, and the running means. -/
abbrev argW : FVec Ideal S2x1024x2048 .f32 := m ((c : Thread nD τ).loc main_arg0)
abbrev argP0 : FVec Ideal S4x1024x2048 .bf16 := m ((c : Thread nD τ).loc main_arg1)
abbrev argL0 : FVec Ideal S3x1024x2048 .bf16 := m ((c : Thread nD τ).loc main_arg2)
abbrev argP1 : FVec Ideal S4x1024x2048 .bf16 := m ((c : Thread nD τ).loc main_arg3)
abbrev argL1 : FVec Ideal S3x1024x2048 .bf16 := m ((c : Thread nD τ).loc main_arg4)
abbrev argM : FVec Ideal S2x1024x2048 .f32 := m ((c : Thread nD τ).loc main_arg5)
abbrev argV : FVec Ideal S2x1024x2048 .f32 := m ((c : Thread nD τ).loc main_arg6)

/-- The gradient of the two layers, the step and the new means. -/
def gradOf (p0 : FVec Ideal S4x1024x2048 .bf16) (l0 : FVec Ideal S3x1024x2048 .bf16) (p1 : FVec Ideal S4x1024x2048 .bf16) (l1 : FVec Ideal S3x1024x2048 .bf16) :
    FVec Ideal S2x1024x2048 .f32 := fun i => if (i 0).val = 0 then total (D := 3) (M := 1024) p0 l0 (i 1) (i 2) else total (D := 3) (M := 1024) p1 l1 (i 1) (i 2)
def stepOf (w g mu nu : FVec Ideal S2x1024x2048 .f32) : FVec Ideal S2x1024x2048 .f32 := fun i => step (w i) (g i) (mu i) (nu i)
def meanOf (g mu : FVec Ideal S2x1024x2048 .f32) : FVec Ideal S2x1024x2048 .f32 := fun i => mean (mu i) (g i)
def squareOf (g nu : FVec Ideal S2x1024x2048 .f32) : FVec Ideal S2x1024x2048 .f32 := fun i => square (nu i) (g i)
abbrev argG : FVec Ideal S2x1024x2048 .f32 := gradOf (argP0 m c) (argL0 m c) (argP1 m c) (argL1 m c)

/-- The layer of a point, and a row of its block as a row of the layer. -/
theorem point_lt (t : Fin grid0.N) : t.val < 8 := by have h := t.isLt; have hN : grid0.N = 8 := N_0; omega
abbrev layer (t : Fin grid0.N) : Fin 2 := ⟨t.val / 4, by have := point_lt t; omega⟩
abbrev rowAt (t : Fin grid0.N) (r : Fin 256) : Fin 1024 := ⟨256 * (t.val % 4) + r.val, by omega⟩

section Blocks
variable (t : Fin grid0.N) (r : Fin 256) (k : Fin 2048)

/-- An entry of a point's block as an entry of the whole: of a window with both layers, and of the parts of one layer while they are used. -/
theorem spot : cc0_transform_0 (grid0.coords t) 0 * 1 + 1 * 0 = t.val / 4 ∧ cc0_transform_0 (grid0.coords t) 1 * 256 + 1 * r.val = 256 * (t.val % 4) + r.val
    ∧ cc0_transform_0 (grid0.coords t) 2 * 2048 + 1 * k.val = k.val := by
  rw [(places t).2.1]
  refine ⟨?_, ?_, ?_⟩
  · show t.val / 4 * 1 + 1 * 0 = _; omega
  · show t.val % 4 * 256 + 1 * r.val = _; omega
  · show 0 * 2048 + 1 * k.val = _; omega

theorem spot_0 (ht : t.val / 4 = 0) : (∀ n b, cc0_transform_2 (grid0.coords t) 0 * n + 1 * b = b) ∧ cc0_transform_2 (grid0.coords t) 1 * 256 + 1 * r.val = 256 * (t.val % 4) + r.val
    ∧ cc0_transform_2 (grid0.coords t) 2 * 2048 + 1 * k.val = k.val := by
  rw [(places t).2.2.1 ht]
  refine ⟨fun n b => ?_, ?_, ?_⟩
  · show 0 * n + 1 * b = b; omega
  · show t.val % 4 * 256 + 1 * r.val = _; omega
  · show 0 * 2048 + 1 * k.val = _; omega

theorem spot_1 (ht : t.val / 4 = 1) : (∀ n b, cc0_transform_4 (grid0.coords t) 0 * n + 1 * b = b) ∧ cc0_transform_4 (grid0.coords t) 1 * 256 + 1 * r.val = 256 * (t.val % 4) + r.val
    ∧ cc0_transform_4 (grid0.coords t) 2 * 2048 + 1 * k.val = k.val := by
  rw [(places t).2.2.2 ht]
  refine ⟨fun n b => ?_, ?_, ?_⟩
  · show 0 * n + 1 * b = b; omega
  · show t.val % 4 * 256 + 1 * r.val = _; omega
  · show 0 * 2048 + 1 * k.val = _; omega

theorem block_w : (iblk m (ok m) c 0 t : FVec Ideal S1x256x2048 .f32) (ix3 0 r k) = argW m c (ix3 (layer t) (rowAt t r) k) :=
  (View.read_apply ..).trans ((congrFun (V_main_arg0 m c) _).trans (congrArg (argW m c) (ix3_ext _ _ _ (spot t r k).1 (spot t r k).2.1 (spot t r k).2.2)))

theorem block_m : (iblk m (ok m) c 5 t : FVec Ideal S1x256x2048 .f32) (ix3 0 r k) = argM m c (ix3 (layer t) (rowAt t r) k) :=
  (View.read_apply ..).trans ((congrFun (V_main_arg5 m c) _).trans (congrArg (argM m c) (ix3_ext _ _ _ (spot t r k).1 (spot t r k).2.1 (spot t r k).2.2)))

theorem block_v : (iblk m (ok m) c 6 t : FVec Ideal S1x256x2048 .f32) (ix3 0 r k) = argV m c (ix3 (layer t) (rowAt t r) k) :=
  (View.read_apply ..).trans ((congrFun (V_main_arg6 m c) _).trans (congrArg (argV m c) (ix3_ext _ _ _ (spot t r k).1 (spot t r k).2.1 (spot t r k).2.2)))

theorem block_p0 (ht : t.val / 4 = 0) : (iblk m (ok m) c 1 t : FVec Ideal S1x256x2048 .bf16) (ix3 0 r k) = argP0 m c (ix3 0 (rowAt t r) k) := by
  have hs := spot_0 t r k ht
  exact (View.read_apply ..).trans ((congrFun (V_main_arg1 m c) _).trans (congrArg (argP0 m c) (ix3_ext _ _ _ (hs.1 1 0) hs.2.1 hs.2.2)))

theorem block_l0 (ht : t.val / 4 = 0) (b : Fin 3) : (iblk m (ok m) c 2 t : FVec Ideal S3x256x2048 .bf16) (ix3 b r k) = argL0 m c (ix3 b (rowAt t r) k) := by
  have hs := spot_0 t r k ht
  exact (View.read_apply ..).trans ((congrFun (V_main_arg2 m c) _).trans (congrArg (argL0 m c) (ix3_ext _ _ _ (hs.1 3 b.val) hs.2.1 hs.2.2)))

theorem block_p1 (ht : t.val / 4 = 1) : (iblk m (ok m) c 3 t : FVec Ideal S1x256x2048 .bf16) (ix3 0 r k) = argP1 m c (ix3 0 (rowAt t r) k) := by
  have hs := spot_1 t r k ht
  exact (View.read_apply ..).trans ((congrFun (V_main_arg3 m c) _).trans (congrArg (argP1 m c) (ix3_ext _ _ _ (hs.1 1 0) hs.2.1 hs.2.2)))

theorem block_l1 (ht : t.val / 4 = 1) (b : Fin 3) : (iblk m (ok m) c 4 t : FVec Ideal S3x256x2048 .bf16) (ix3 b r k) = argL1 m c (ix3 b (rowAt t r) k) := by
  have hs := spot_1 t r k ht
  exact (View.read_apply ..).trans ((congrFun (V_main_arg4 m c) _).trans (congrArg (argL1 m c) (ix3_ext _ _ _ (hs.1 3 b.val) hs.2.1 hs.2.2)))

/-- The gradient of a point's rows. -/
theorem grad_at : got (grid0.coords t) (iblk m (ok m) c 1 t) (iblk m (ok m) c 2 t) (iblk m (ok m) c 3 t) (iblk m (ok m) c 4 t) (ix2 r k)
    = argG m c (ix3 (layer t) (rowAt t r) k) := by
  refine (got_apply _ _ _ _ _ r k).trans ?_
  rw [(places t).1]
  have ht : t.val / 4 = 0 ∨ t.val / 4 = 1 := by have := point_lt t; omega
  show _ = if t.val / 4 = 0 then total (D := 3) (argP0 m c) (argL0 m c) (rowAt t r) k else total (D := 3) (argP1 m c) (argL1 m c) (rowAt t r) k
  rcases ht with ht | ht
  · rw [if_pos ht, if_pos ht]
    exact congrArg₂ (· + ·) (congrArg₂ (· + ·) (congrArg₂ (· + ·) (block_p0 m c t r k ht) (block_l0 m c t r k ht 0)) (block_l0 m c t r k ht 1)) (block_l0 m c t r k ht 2)
  · rw [if_neg (by omega), if_neg (by omega)]
    exact congrArg₂ (· + ·) (congrArg₂ (· + ·) (congrArg₂ (· + ·) (block_p1 m c t r k ht) (block_l1 m c t r k ht 0)) (block_l1 m c t r k ht 1)) (block_l1 m c t r k ht 2)

/-- The four results of a point. -/
theorem point : (outsAt0 m (ok m) c t).1 (ix3 0 r k) = argG m c (ix3 (layer t) (rowAt t r) k)
    ∧ (outsAt0 m (ok m) c t).2.1 (ix3 0 r k) = stepOf (argW m c) (argG m c) (argM m c) (argV m c) (ix3 (layer t) (rowAt t r) k)
    ∧ (outsAt0 m (ok m) c t).2.2.1 (ix3 0 r k) = meanOf (argG m c) (argM m c) (ix3 (layer t) (rowAt t r) k)
    ∧ (outsAt0 m (ok m) c t).2.2.2 (ix3 0 r k) = squareOf (argG m c) (argV m c) (ix3 (layer t) (rowAt t r) k) := by
  unfold outsAt0
  dsimp only
  refine ⟨(outs ..).1.trans (grad_at m c t r k), (outs ..).2.1.trans ?_, (outs ..).2.2.1.trans ?_, (outs ..).2.2.2.trans ?_⟩
  · refine (congrArg (fun g : EReal => step _ g _ _) (grad_at m c t r k)).trans ?_
    exact (congrArg (fun a : EReal => step a _ _ _) (block_w m c t r k)).trans (congrArg₂ (fun a b : EReal => step _ _ a b) (block_m m c t r k) (block_v m c t r k))
  · exact congrArg₂ mean (block_m m c t r k) (grad_at m c t r k)
  · exact congrArg₂ square (block_v m c t r k) (grad_at m c t r k)

end Blocks

/-- Every entry lies in the block of some point. -/
theorem covered (i : S2x1024x2048.Idx) : ∃ t : Fin grid0.N, ∀ a : Fin 3, cc0_transform_0 (grid0.coords t) a * S1x256x2048.size a ≤ (i a).val
    ∧ (i a).val < cc0_transform_0 (grid0.coords t) a * S1x256x2048.size a + S1x256x2048.size a := by
  have h0 : (i 0).val < 2 := (i 0).isLt
  have h1 : (i 1).val < 1024 := (i 1).isLt
  have h2 : (i 2).val < 2048 := (i 2).isLt
  obtain ⟨t, ht⟩ : ∃ t : Fin grid0.N, t.val = 4 * (i 0).val + (i 1).val / 256 := ⟨⟨_, by rw [N_0]; omega⟩, rfl⟩
  refine ⟨t, fun a => ?_⟩
  rw [(places t).2.1]
  match a with
  | ⟨0, _⟩ => show t.val / 4 * 1 ≤ (i 0).val ∧ (i 0).val < t.val / 4 * 1 + 1; omega
  | ⟨1, _⟩ => show t.val % 4 * 256 ≤ (i 1).val ∧ (i 1).val < t.val % 4 * 256 + 256; omega
  | ⟨2, _⟩ => show 0 * 2048 ≤ (i 2).val ∧ (i 2).val < 0 * 2048 + 2048; omega

/-- Two blocks are the same if they are entry by entry. -/
theorem whole_of_point (x y : FVec Ideal S1x256x2048 .f32) (h : ∀ (r : Fin 256) (k : Fin 2048), x (ix3 0 r k) = y (ix3 0 r k)) : x = y := by
  funext j
  have hj : (j 0).val < 1 := (j 0).isLt
  have e : j = ix3 0 (j 1) (j 2) := ix3_ext _ _ _ (by show (j 0).val = 0; omega) rfl rfl
  exact (congrArg x e).trans ((h _ _).trans (congrArg y e.symm))

/-- The results after the run. -/
theorem final7 : (dats m (ok m) 0 c).arrAt 7 (cfgM m (ok m)).N = argG m c := by
  refine (dats m (ok m) 0 c).arrAt_eq_of_cover 7 (argG m c) (fun t _ => ?_) fun i => ?_
  · show ((cfgM m (ok m)).win 7).cut (grid0.coords t) ((dats m (ok m) 0 c).after 7 t) = _
    rw [after0_7]
    refine whole_of_point _ _ fun r k => (point m c t r k).1.trans (Eq.symm ((View.read_apply ..).trans ?_))
    exact congrArg (argG m c) (ix3_ext _ _ _ (spot t r k).1 (spot t r k).2.1 (spot t r k).2.2)
  · obtain ⟨t, ht⟩ := covered i
    exact ⟨t, flush0_7 (adm m (ok m)) t, (congrArg (i ∈ ·) (View.set_slice_whole _ _)).mpr (Rect.mem_set_unit.mpr ht)⟩

theorem final8 : (dats m (ok m) 0 c).arrAt 8 (cfgM m (ok m)).N = stepOf (argW m c) (argG m c) (argM m c) (argV m c) := by
  refine (dats m (ok m) 0 c).arrAt_eq_of_cover 8 (stepOf (argW m c) (argG m c) (argM m c) (argV m c)) (fun t _ => ?_) fun i => ?_
  · show ((cfgM m (ok m)).win 8).cut (grid0.coords t) ((dats m (ok m) 0 c).after 8 t) = _
    rw [after0_8]
    refine whole_of_point _ _ fun r k => (point m c t r k).2.1.trans (Eq.symm ((View.read_apply ..).trans ?_))
    exact congrArg (stepOf (argW m c) (argG m c) (argM m c) (argV m c)) (ix3_ext _ _ _ (spot t r k).1 (spot t r k).2.1 (spot t r k).2.2)
  · obtain ⟨t, ht⟩ := covered i
    exact ⟨t, flush0_8 (adm m (ok m)) t, (congrArg (i ∈ ·) (View.set_slice_whole _ _)).mpr (Rect.mem_set_unit.mpr ht)⟩

theorem final9 : (dats m (ok m) 0 c).arrAt 9 (cfgM m (ok m)).N = meanOf (argG m c) (argM m c) := by
  refine (dats m (ok m) 0 c).arrAt_eq_of_cover 9 (meanOf (argG m c) (argM m c)) (fun t _ => ?_) fun i => ?_
  · show ((cfgM m (ok m)).win 9).cut (grid0.coords t) ((dats m (ok m) 0 c).after 9 t) = _
    rw [after0_9]
    refine whole_of_point _ _ fun r k => (point m c t r k).2.2.1.trans (Eq.symm ((View.read_apply ..).trans ?_))
    exact congrArg (meanOf (argG m c) (argM m c)) (ix3_ext _ _ _ (spot t r k).1 (spot t r k).2.1 (spot t r k).2.2)
  · obtain ⟨t, ht⟩ := covered i
    exact ⟨t, flush0_9 (adm m (ok m)) t, (congrArg (i ∈ ·) (View.set_slice_whole _ _)).mpr (Rect.mem_set_unit.mpr ht)⟩

theorem final10 : (dats m (ok m) 0 c).arrAt 10 (cfgM m (ok m)).N = squareOf (argG m c) (argV m c) := by
  refine (dats m (ok m) 0 c).arrAt_eq_of_cover 10 (squareOf (argG m c) (argV m c)) (fun t _ => ?_) fun i => ?_
  · show ((cfgM m (ok m)).win 10).cut (grid0.coords t) ((dats m (ok m) 0 c).after 10 t) = _
    rw [after0_10]
    refine whole_of_point _ _ fun r k => (point m c t r k).2.2.2.trans (Eq.symm ((View.read_apply ..).trans ?_))
    exact congrArg (squareOf (argG m c) (argV m c)) (ix3_ext _ _ _ (spot t r k).1 (spot t r k).2.1 (spot t r k).2.2)
  · obtain ⟨t, ht⟩ := covered i
    exact ⟨t, flush0_10 (adm m (ok m)) t, (congrArg (i ∈ ·) (View.set_slice_whole _ _)).mpr (Rect.mem_set_unit.mpr ht)⟩

/-- What the run leaves in the results. -/
theorem values (ρ : Dev nD → PrngReg) : θ_run (defs (F := Ideal)) (onTc (τ := τ) (main (F := Ideal))) ⟨m, fun _ => 0, ρ⟩ (fun r => ∀ c : Dev nD,
    r.2.mem ((c.tc : Thread nD τ).loc main_v1_0) = argG m c
    ∧ r.2.mem ((c.tc : Thread nD τ).loc main_v1_1) = stepOf (argW m c) (argG m c) (argM m c) (argV m c)
    ∧ r.2.mem ((c.tc : Thread nD τ).loc main_v1_2) = meanOf (argG m c) (argM m c)
    ∧ r.2.mem ((c.tc : Thread nD τ).loc main_v1_3) = squareOf (argG m c) (argV m c)) :=
  (θ_run defs _ _).mono (fun r h c => ⟨((h c).1 7).trans (final7 m c), ((h c).1 8).trans (final8 m c), ((h c).1 9).trans (final9 m c),
    ((h c).1 10).trans (final10 m c)⟩) (run_main m ρ (ok m))

end Cert.AdamIdeal.Ker

namespace Cert.AdamClaim

open Idealize.ShloMosaic
open Idealize.ShloMosaic.TcCoe Idealize.SL.Sem Idealize.ShloMosaic.ValueIdx Cert.Products
open Cert.AdamRefIdeal Cert.AdamRefIdeal.Gen Cert.AdamRefIdeal.Read
open Cert.AdamIdeal.Ker (argW argP0 argL0 argP1 argL1 argM argV argG gradOf stepOf meanOf squareOf total)

section Reference
variable (w : FVec Ideal S2x1024x2048 .f32) (p0 : FVec Ideal S4x1024x2048 .bf16) (l0 : FVec Ideal S3x1024x2048 .bf16)
  (p1 : FVec Ideal S4x1024x2048 .bf16) (l1 : FVec Ideal S3x1024x2048 .bf16) (mu nu : FVec Ideal S2x1024x2048 .f32)

/-- A layer's gradient, added up in the reference's order. -/
theorem layer_grad (r : Fin 1024) (k : Fin 2048) : (val_main_v5 (F := Ideal) p0 l0 : FVec Ideal S1024x2048 .f32) (ix2 r k) = total (D := 3) (M := 1024) p0 l0 r k := by
  rw [val_main_v5_apply, val_main_v2_apply, val_main_v1_apply, val_main_v0_apply, val_main_v4_apply, Fin.sum_univ_three]
  have e : idx_main_v0 (idx_main_v1 (ix2 r k)) = ix3 0 r k := ix3_ext _ _ _ rfl
    (by show (r.val * 2048 + k.val) / 2048 % 1024 = r.val; omega) (by show (r.val * 2048 + k.val) % 2048 = k.val; omega)
  have h : ∀ b : Fin 3, idx_main_v4 (ix2 r k) b = ix3 b r k := fun b => ix3_ext _ _ _ rfl rfl rfl
  rw [e, h, h, h]
  show p0 (ix3 0 r k) + (Ideal.ofBits .f32 0x00000000#32 + (l0 (ix3 0 r k) + l0 (ix3 1 r k) + l0 (ix3 2 r k))) = total (D := 3) (M := 1024) p0 l0 r k
  rw [Ideal.ofBits_zero_f32, zero_add, ← add_assoc, ← add_assoc]
  rfl

theorem reference_grad : val_main_v14 (F := Ideal) p0 l0 p1 l1 = gradOf p0 l0 p1 l1 := by
  funext i
  have h0 : (i 0).val < 2 := (i 0).isLt
  unfold val_main_v14 gradOf
  by_cases h : (i 0).val = 0
  · rw [if_pos h]
    refine (concatenate_pair_apply_left (s₁ := S1x1024x2048) (s₂ := S1x1024x2048) 0 _ _ _ i rfl (ix3 0 (i 1) (i 2)) fun b => ?_).trans ?_
    · match b with
      | ⟨0, _⟩ => exact h.symm
      | ⟨1, _⟩ => rfl
      | ⟨2, _⟩ => rfl
    · rw [val_main_v12_apply, show idx_main_v12 (ix3 0 (i 1) (i 2)) = ix2 (i 1) (i 2) from ix2_ext _ _ rfl rfl]
      exact layer_grad p0 l0 _ _
  · rw [if_neg h]
    refine (concatenate_pair_apply_right (s₁ := S1x1024x2048) (s₂ := S1x1024x2048) 0 _ _ _ i rfl rfl (ix3 0 (i 1) (i 2)) (fun b hb => ?_) ?_).trans ?_
    · match b with
      | ⟨0, _⟩ => exact absurd rfl hb
      | ⟨1, _⟩ => rfl
      | ⟨2, _⟩ => rfl
    · show 0 + 1 = (i 0).val
      omega
    · rw [val_main_v13_apply, show idx_main_v13 (ix3 0 (i 1) (i 2)) = ix2 (i 1) (i 2) from ix2_ext _ _ rfl rfl]
      exact layer_grad p1 l1 _ _

theorem reference_mean : val_main_v19 (F := Ideal) p0 l0 p1 l1 mu = meanOf (gradOf p0 l0 p1 l1) mu := by
  rw [← reference_grad]
  rfl

theorem reference_square : val_main_v25 (F := Ideal) p0 l0 p1 l1 nu = squareOf (gradOf p0 l0 p1 l1) nu := by
  rw [← reference_grad]
  rfl

theorem reference_step : val_main_v38 (F := Ideal) w p0 l0 p1 l1 mu nu = stepOf w (gradOf p0 l0 p1 l1) mu nu := by
  rw [← reference_grad]
  rfl

end Reference

/-- The kernel's frame. -/
theorem frame_p : Cert.quiescent_Adam := fun m ρ _ => Cert.Adam.Gen.frame m ρ (Cert.AdamIdeal.Ker.ok_p m)
/-- The idealization's frame. -/
theorem frame_pi : Cert.quiescent_AdamIdeal := fun m ρ _ => Cert.AdamIdeal.Gen.frame m ρ (Cert.AdamIdeal.Ker.ok m)
/-- The reference's frame. -/
theorem frame_ri : Cert.quiescent_AdamRefIdeal := fun m ρ _ =>
  (θ_run Cert.AdamRefIdeal.defs _ _).mono (fun r h => ⟨fun c => (h c).2.2.2.2, sem_eq_zero_of_no_sems (by decide) r.2⟩)
    (Cert.AdamRefIdeal.Value.run (F := Ideal) m ρ)

/-- The idealization's gradient, step and running means are the reference's. -/
theorem algebraic : Cert.algebraic_AdamIdeal_AdamRefIdeal := by
  intro m ρ m' ρ' _ hagree
  refine ⟨fun c => argG m c, fun c => stepOf (argW m c) (argG m c) (argM m c) (argV m c), fun c => meanOf (argG m c) (argM m c),
    fun c => squareOf (argG m c) (argV m c), ?_, ?_⟩
  · exact (θ_run Cert.AdamIdeal.defs _ _).mono (fun r h c => ⟨(h.1 c).1, (h.1 c).2.1, (h.1 c).2.2.1, (h.1 c).2.2.2, h.2 c⟩)
      (θ_run_and (Cert.AdamIdeal.Ker.values m ρ) (Cert.AdamIdeal.Gen.unchanged m ρ (Cert.AdamIdeal.Ker.ok m)))
  refine (θ_run Cert.AdamRefIdeal.defs _ _).mono (fun r h c => ?_) (Cert.AdamRefIdeal.Value.run (F := Ideal) m' ρ')
  obtain ⟨e0, e1, e2, e3, e4, e5, e6⟩ := hagree c
  refine ⟨(h c).1.trans ((val_main_v14_eq ..).trans ?_), (h c).2.1.trans ((val_main_v38_eq m' c).trans ?_),
    (h c).2.2.1.trans ((val_main_v19_eq ..).trans ?_), (h c).2.2.2.1.trans ((val_main_v25_eq ..).trans ?_), (h c).2.2.2.2⟩
  · rw [e1, e2, e3, e4]
    exact reference_grad _ _ _ _
  · rw [e0, e1, e2, e3, e4, e5, e6]
    exact reference_step _ _ _ _ _ _ _
  · rw [e1, e2, e3, e4, e5]
    exact reference_mean _ _ _ _ _
  · rw [e1, e2, e3, e4, e6]
    exact reference_square _ _ _ _ _

end Cert.AdamClaim

end
-- ==== Proof.lean ====
/-
  The proof of `Cert.Claim`: the frames of the kernel, its idealization and the reference, and that the idealization
  and the reference compute the same gradients. Each call's claims are proved in a module of their own.
-/
module

public import proofs.«01_k».proof.Defs
public import proofs.«01_k».proof.Proof.AttnClaim
public import proofs.«01_k».proof.Proof.DownDw
public import proofs.«01_k».proof.Proof.UpDw
public import proofs.«01_k».proof.Proof.AttDw
public import proofs.«01_k».proof.Proof.MemDw
public import proofs.«01_k».proof.Proof.MixInDw
public import proofs.«01_k».proof.Proof.AttOBwd
public import proofs.«01_k».proof.Proof.MixOutBwd
public import proofs.«01_k».proof.Proof.AttQBwd
public import proofs.«01_k».proof.Proof.MixInBwd
public import proofs.«01_k».proof.Proof.AttKvBwd
public import proofs.«01_k».proof.Proof.DownBwd
public import proofs.«01_k».proof.Proof.UpBwd
public import proofs.«01_k».proof.Proof.MixIn
public import proofs.«01_k».proof.Proof.AttQ
public import proofs.«01_k».proof.Proof.AttK
public import proofs.«01_k».proof.Proof.MixOut
public import proofs.«01_k».proof.Proof.AttnFwd
public import proofs.«01_k».proof.Proof.UpFwd
public import proofs.«01_k».proof.Proof.DownFwd
public import proofs.«01_k».proof.Proof.GmlpFwdClaim
public import proofs.«01_k».proof.Proof.GmlpBwdClaim
public import proofs.«01_k».proof.Proof.LossHead
public import proofs.«01_k».proof.Proof.Adam
public import Idealize.ShloMosaic.Adequacy
public import Idealize.ShloMosaic.Init

@[expose] public section

noncomputable section

namespace Cert.Proof

theorem claim : Cert.Claim :=
  ⟨Kernel.Gen.facts, KernelIdeal.Gen.facts, ReferenceIdeal.Gen.facts, DownDw.Gen.facts,
    DownDwIdeal.Gen.facts, DownDwRefIdeal.Gen.facts, UpDw.Gen.facts, UpDwIdeal.Gen.facts,
    UpDwRefIdeal.Gen.facts, AttDw.Gen.facts, AttDwIdeal.Gen.facts, AttDwRefIdeal.Gen.facts,
    MemDw.Gen.facts, MemDwIdeal.Gen.facts, MemDwRefIdeal.Gen.facts, MixInDw.Gen.facts,
    MixInDwIdeal.Gen.facts, MixInDwRefIdeal.Gen.facts, AttOBwd.Gen.facts, AttOBwdIdeal.Gen.facts,
    AttOBwdRefIdeal.Gen.facts, MixOutBwd.Gen.facts, MixOutBwdIdeal.Gen.facts,
    MixOutBwdRefIdeal.Gen.facts, AttQBwd.Gen.facts, AttQBwdIdeal.Gen.facts,
    AttQBwdRefIdeal.Gen.facts, MixInBwd.Gen.facts, MixInBwdIdeal.Gen.facts,
    MixInBwdRefIdeal.Gen.facts, AttKvBwd.Gen.facts, AttKvBwdIdeal.Gen.facts,
    AttKvBwdRefIdeal.Gen.facts, DownBwd.Gen.facts, DownBwdIdeal.Gen.facts,
    DownBwdRefIdeal.Gen.facts, UpBwd.Gen.facts, UpBwdIdeal.Gen.facts, UpBwdRefIdeal.Gen.facts,
    MixIn.Gen.facts, MixInIdeal.Gen.facts, MixInRefIdeal.Gen.facts, AttQ.Gen.facts,
    AttQIdeal.Gen.facts, AttQRefIdeal.Gen.facts, AttK.Gen.facts, AttKIdeal.Gen.facts,
    AttKRefIdeal.Gen.facts, MixOut.Gen.facts, MixOutIdeal.Gen.facts, MixOutRefIdeal.Gen.facts,
    AttnFwd.Gen.facts, AttnFwdIdeal.Gen.facts, AttnFwdRefIdeal.Gen.facts, UpFwd.Gen.facts,
    UpFwdIdeal.Gen.facts, UpFwdRefIdeal.Gen.facts, DownFwd.Gen.facts, DownFwdIdeal.Gen.facts,
    DownFwdRefIdeal.Gen.facts, GmlpFwd.Gen.facts, GmlpFwdIdeal.Gen.facts,
    GmlpFwdRefIdeal.Gen.facts, GmlpBwd.Gen.facts, GmlpBwdIdeal.Gen.facts,
    GmlpBwdRefIdeal.Gen.facts, LossHead.Gen.facts, LossHeadIdeal.Gen.facts,
    LossHeadRefIdeal.Gen.facts, Adam.Gen.facts, AdamIdeal.Gen.facts, AdamRefIdeal.Gen.facts,
    AttnClaim.preFacts, AttnClaim.frame_p, AttnClaim.frame_pi, AttnClaim.frame_pi_pre,
    AttnClaim.frame_ri, AttnClaim.frame_ri_pre, DownDwClaim.frame_p, DownDwClaim.frame_pi,
    DownDwClaim.frame_ri, UpDwClaim.frame_p, UpDwClaim.frame_pi, UpDwClaim.frame_ri,
    AttDwClaim.frame_p, AttDwClaim.frame_pi, AttDwClaim.frame_ri, MemDwClaim.frame_p,
    MemDwClaim.frame_pi, MemDwClaim.frame_ri, MixInDwClaim.frame_p, MixInDwClaim.frame_pi,
    MixInDwClaim.frame_ri, AttOBwdClaim.frame_p, AttOBwdClaim.frame_pi, AttOBwdClaim.frame_ri,
    MixOutBwdClaim.frame_p, MixOutBwdClaim.frame_pi, MixOutBwdClaim.frame_ri,
    AttQBwdClaim.frame_p, AttQBwdClaim.frame_pi, AttQBwdClaim.frame_ri, MixInBwdClaim.frame_p,
    MixInBwdClaim.frame_pi, MixInBwdClaim.frame_ri, AttKvBwdClaim.frame_p,
    AttKvBwdClaim.frame_pi, AttKvBwdClaim.frame_ri, DownBwdClaim.frame_p, DownBwdClaim.frame_pi,
    DownBwdClaim.frame_ri, UpBwdClaim.frame_p, UpBwdClaim.frame_pi, UpBwdClaim.frame_ri,
    MixInClaim.frame_p, MixInClaim.frame_pi, MixInClaim.frame_ri, AttQClaim.frame_p,
    AttQClaim.frame_pi, AttQClaim.frame_ri, AttKClaim.frame_p, AttKClaim.frame_pi,
    AttKClaim.frame_ri, MixOutClaim.frame_p, MixOutClaim.frame_pi, MixOutClaim.frame_ri,
    AttnFwdClaim.frame_p, AttnFwdClaim.frame_pi, AttnFwdClaim.frame_ri, UpFwdClaim.frame_p,
    UpFwdClaim.frame_pi, UpFwdClaim.frame_ri, DownFwdClaim.frame_p, DownFwdClaim.frame_pi,
    DownFwdClaim.frame_ri, GmlpFwdClaim.frame_p, GmlpFwdClaim.frame_pi, GmlpFwdClaim.frame_ri,
    GmlpBwdClaim.frame_p, GmlpBwdClaim.frame_pi, GmlpBwdClaim.frame_ri, LossHeadClaim.frame_p,
    LossHeadClaim.frame_pi, LossHeadClaim.frame_ri, AdamClaim.frame_p, AdamClaim.frame_pi,
    AdamClaim.frame_ri, trivial, AttnClaim.algebraic, trivial, DownDwClaim.algebraic, trivial,
    UpDwClaim.algebraic, trivial, AttDwClaim.algebraic, trivial, MemDwClaim.algebraic, trivial,
    MixInDwClaim.algebraic, trivial, AttOBwdClaim.algebraic, trivial, MixOutBwdClaim.algebraic,
    trivial, AttQBwdClaim.algebraic, trivial, MixInBwdClaim.algebraic, trivial,
    AttKvBwdClaim.algebraic, trivial, DownBwdClaim.algebraic, trivial, UpBwdClaim.algebraic, trivial,
    MixInClaim.algebraic, trivial, AttQClaim.algebraic, trivial, AttKClaim.algebraic, trivial,
    MixOutClaim.algebraic, trivial, AttnFwdClaim.algebraic, trivial, UpFwdClaim.algebraic, trivial,
    DownFwdClaim.algebraic, trivial, GmlpFwdClaim.algebraic, trivial, GmlpBwdClaim.algebraic, trivial,
    LossHeadClaim.algebraic, trivial, AdamClaim.algebraic⟩

end Cert.Proof

end
